-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Kernel10Ideal_finite_in [hPre_finite_in : Cert.Pre_finite_in.Facts] (m : (ℓ : Loc Cert.Kernel10Ideal.nD Cert.Kernel10Ideal.τ Cert.Kernel10Ideal.sig) → Buf (Elt Ideal) ℓ) : Prop :=
  ∀ c : Dev Cert.Kernel10Ideal.nD,
    (Cert.Pre_finite_in.fn (F := Ideal) (m ((c.tc : Thread Cert.Kernel10Ideal.nD Cert.Kernel10Ideal.τ).loc Cert.Kernel10Ideal.main_arg0)) (m ((c.tc : Thread Cert.Kernel10Ideal.nD Cert.Kernel10Ideal.τ).loc Cert.Kernel10Ideal.main_arg1)) (m ((c.tc : Thread Cert.Kernel10Ideal.nD Cert.Kernel10Ideal.τ).loc Cert.Kernel10Ideal.main_arg2)) (m ((c.tc : Thread Cert.Kernel10Ideal.nD Cert.Kernel10Ideal.τ).loc Cert.Kernel10Ideal.main_arg3)) (m ((c.tc : Thread Cert.Kernel10Ideal.nD Cert.Kernel10Ideal.τ).loc Cert.Kernel10Ideal.main_arg4)) (m ((c.tc : Thread Cert.Kernel10Ideal.nD Cert.Kernel10Ideal.τ).loc Cert.Kernel10Ideal.main_arg5))).1 = (fun _ => 1#1)
    ∧ (Cert.Pre_finite_in.fn (F := Ideal) (m ((c.tc : Thread Cert.Kernel10Ideal.nD Cert.Kernel10Ideal.τ).loc Cert.Kernel10Ideal.main_arg0)) (m ((c.tc : Thread Cert.Kernel10Ideal.nD Cert.Kernel10Ideal.τ).loc Cert.Kernel10Ideal.main_arg1)) (m ((c.tc : Thread Cert.Kernel10Ideal.nD Cert.Kernel10Ideal.τ).loc Cert.Kernel10Ideal.main_arg2)) (m ((c.tc : Thread Cert.Kernel10Ideal.nD Cert.Kernel10Ideal.τ).loc Cert.Kernel10Ideal.main_arg3)) (m ((c.tc : Thread Cert.Kernel10Ideal.nD Cert.Kernel10Ideal.τ).loc Cert.Kernel10Ideal.main_arg4)) (m ((c.tc : Thread Cert.Kernel10Ideal.nD Cert.Kernel10Ideal.τ).loc Cert.Kernel10Ideal.main_arg5))).2.1 = (fun _ => 1#1)
    ∧ (Cert.Pre_finite_in.fn (F := Ideal) (m ((c.tc : Thread Cert.Kernel10Ideal.nD Cert.Kernel10Ideal.τ).loc Cert.Kernel10Ideal.main_arg0)) (m ((c.tc : Thread Cert.Kernel10Ideal.nD Cert.Kernel10Ideal.τ).loc Cert.Kernel10Ideal.main_arg1)) (m ((c.tc : Thread Cert.Kernel10Ideal.nD Cert.Kernel10Ideal.τ).loc Cert.Kernel10Ideal.main_arg2)) (m ((c.tc : Thread Cert.Kernel10Ideal.nD Cert.Kernel10Ideal.τ).loc Cert.Kernel10Ideal.main_arg3)) (m ((c.tc : Thread Cert.Kernel10Ideal.nD Cert.Kernel10Ideal.τ).loc Cert.Kernel10Ideal.main_arg4)) (m ((c.tc : Thread Cert.Kernel10Ideal.nD Cert.Kernel10Ideal.τ).loc Cert.Kernel10Ideal.main_arg5))).2.2.1 = (fun _ => 1#1)
    ∧ (Cert.Pre_finite_in.fn (F := Ideal) (m ((c.tc : Thread Cert.Kernel10Ideal.nD Cert.Kernel10Ideal.τ).loc Cert.Kernel10Ideal.main_arg0)) (m ((c.tc : Thread Cert.Kernel10Ideal.nD Cert.Kernel10Ideal.τ).loc Cert.Kernel10Ideal.main_arg1)) (m ((c.tc : Thread Cert.Kernel10Ideal.nD Cert.Kernel10Ideal.τ).loc Cert.Kernel10Ideal.main_arg2)) (m ((c.tc : Thread Cert.Kernel10Ideal.nD Cert.Kernel10Ideal.τ).loc Cert.Kernel10Ideal.main_arg3)) (m ((c.tc : Thread Cert.Kernel10Ideal.nD Cert.Kernel10Ideal.τ).loc Cert.Kernel10Ideal.main_arg4)) (m ((c.tc : Thread Cert.Kernel10Ideal.nD Cert.Kernel10Ideal.τ).loc Cert.Kernel10Ideal.main_arg5))).2.2.2.1 = (fun _ => 1#1)
    ∧ (Cert.Pre_finite_in.fn (F := Ideal) (m ((c.tc : Thread Cert.Kernel10Ideal.nD Cert.Kernel10Ideal.τ).loc Cert.Kernel10Ideal.main_arg0)) (m ((c.tc : Thread Cert.Kernel10Ideal.nD Cert.Kernel10Ideal.τ).loc Cert.Kernel10Ideal.main_arg1)) (m ((c.tc : Thread Cert.Kernel10Ideal.nD Cert.Kernel10Ideal.τ).loc Cert.Kernel10Ideal.main_arg2)) (m ((c.tc : Thread Cert.Kernel10Ideal.nD Cert.Kernel10Ideal.τ).loc Cert.Kernel10Ideal.main_arg3)) (m ((c.tc : Thread Cert.Kernel10Ideal.nD Cert.Kernel10Ideal.τ).loc Cert.Kernel10Ideal.main_arg4)) (m ((c.tc : Thread Cert.Kernel10Ideal.nD Cert.Kernel10Ideal.τ).loc Cert.Kernel10Ideal.main_arg5))).2.2.2.2.1 = (fun _ => 1#1)
    ∧ (Cert.Pre_finite_in.fn (F := Ideal) (m ((c.tc : Thread Cert.Kernel10Ideal.nD Cert.Kernel10Ideal.τ).loc Cert.Kernel10Ideal.main_arg0)) (m ((c.tc : Thread Cert.Kernel10Ideal.nD Cert.Kernel10Ideal.τ).loc Cert.Kernel10Ideal.main_arg1)) (m ((c.tc : Thread Cert.Kernel10Ideal.nD Cert.Kernel10Ideal.τ).loc Cert.Kernel10Ideal.main_arg2)) (m ((c.tc : Thread Cert.Kernel10Ideal.nD Cert.Kernel10Ideal.τ).loc Cert.Kernel10Ideal.main_arg3)) (m ((c.tc : Thread Cert.Kernel10Ideal.nD Cert.Kernel10Ideal.τ).loc Cert.Kernel10Ideal.main_arg4)) (m ((c.tc : Thread Cert.Kernel10Ideal.nD Cert.Kernel10Ideal.τ).loc Cert.Kernel10Ideal.main_arg5))).2.2.2.2.2 = (fun _ => 1#1)

def Pre_Reference10Ideal (m : (ℓ : Loc Cert.Reference10Ideal.nD Cert.Reference10Ideal.τ Cert.Reference10Ideal.sig) → Buf (Elt Ideal) ℓ) : Prop :=
  True

def Pre_Reference10Ideal_finite_in [hPre_finite_in : Cert.Pre_finite_in.Facts] (m : (ℓ : Loc Cert.Reference10Ideal.nD Cert.Reference10Ideal.τ Cert.Reference10Ideal.sig) → Buf (Elt Ideal) ℓ) : Prop :=
  ∀ c : Dev Cert.Reference10Ideal.nD,
    (Cert.Pre_finite_in.fn (F := Ideal) (m ((c.tc : Thread Cert.Reference10Ideal.nD Cert.Reference10Ideal.τ).loc Cert.Reference10Ideal.main_arg0)) (m ((c.tc : Thread Cert.Reference10Ideal.nD Cert.Reference10Ideal.τ).loc Cert.Reference10Ideal.main_arg1)) (m ((c.tc : Thread Cert.Reference10Ideal.nD Cert.Reference10Ideal.τ).loc Cert.Reference10Ideal.main_arg2)) (m ((c.tc : Thread Cert.Reference10Ideal.nD Cert.Reference10Ideal.τ).loc Cert.Reference10Ideal.main_arg3)) (m ((c.tc : Thread Cert.Reference10Ideal.nD Cert.Reference10Ideal.τ).loc Cert.Reference10Ideal.main_arg4)) (m ((c.tc : Thread Cert.Reference10Ideal.nD Cert.Reference10Ideal.τ).loc Cert.Reference10Ideal.main_arg5))).1 = (fun _ => 1#1)
    ∧ (Cert.Pre_finite_in.fn (F := Ideal) (m ((c.tc : Thread Cert.Reference10Ideal.nD Cert.Reference10Ideal.τ).loc Cert.Reference10Ideal.main_arg0)) (m ((c.tc : Thread Cert.Reference10Ideal.nD Cert.Reference10Ideal.τ).loc Cert.Reference10Ideal.main_arg1)) (m ((c.tc : Thread Cert.Reference10Ideal.nD Cert.Reference10Ideal.τ).loc Cert.Reference10Ideal.main_arg2)) (m ((c.tc : Thread Cert.Reference10Ideal.nD Cert.Reference10Ideal.τ).loc Cert.Reference10Ideal.main_arg3)) (m ((c.tc : Thread Cert.Reference10Ideal.nD Cert.Reference10Ideal.τ).loc Cert.Reference10Ideal.main_arg4)) (m ((c.tc : Thread Cert.Reference10Ideal.nD Cert.Reference10Ideal.τ).loc Cert.Reference10Ideal.main_arg5))).2.1 = (fun _ => 1#1)
    ∧ (Cert.Pre_finite_in.fn (F := Ideal) (m ((c.tc : Thread Cert.Reference10Ideal.nD Cert.Reference10Ideal.τ).loc Cert.Reference10Ideal.main_arg0)) (m ((c.tc : Thread Cert.Reference10Ideal.nD Cert.Reference10Ideal.τ).loc Cert.Reference10Ideal.main_arg1)) (m ((c.tc : Thread Cert.Reference10Ideal.nD Cert.Reference10Ideal.τ).loc Cert.Reference10Ideal.main_arg2)) (m ((c.tc : Thread Cert.Reference10Ideal.nD Cert.Reference10Ideal.τ).loc Cert.Reference10Ideal.main_arg3)) (m ((c.tc : Thread Cert.Reference10Ideal.nD Cert.Reference10Ideal.τ).loc Cert.Reference10Ideal.main_arg4)) (m ((c.tc : Thread Cert.Reference10Ideal.nD Cert.Reference10Ideal.τ).loc Cert.Reference10Ideal.main_arg5))).2.2.1 = (fun _ => 1#1)
    ∧ (Cert.Pre_finite_in.fn (F := Ideal) (m ((c.tc : Thread Cert.Reference10Ideal.nD Cert.Reference10Ideal.τ).loc Cert.Reference10Ideal.main_arg0)) (m ((c.tc : Thread Cert.Reference10Ideal.nD Cert.Reference10Ideal.τ).loc Cert.Reference10Ideal.main_arg1)) (m ((c.tc : Thread Cert.Reference10Ideal.nD Cert.Reference10Ideal.τ).loc Cert.Reference10Ideal.main_arg2)) (m ((c.tc : Thread Cert.Reference10Ideal.nD Cert.Reference10Ideal.τ).loc Cert.Reference10Ideal.main_arg3)) (m ((c.tc : Thread Cert.Reference10Ideal.nD Cert.Reference10Ideal.τ).loc Cert.Reference10Ideal.main_arg4)) (m ((c.tc : Thread Cert.Reference10Ideal.nD Cert.Reference10Ideal.τ).loc Cert.Reference10Ideal.main_arg5))).2.2.2.1 = (fun _ => 1#1)
    ∧ (Cert.Pre_finite_in.fn (F := Ideal) (m ((c.tc : Thread Cert.Reference10Ideal.nD Cert.Reference10Ideal.τ).loc Cert.Reference10Ideal.main_arg0)) (m ((c.tc : Thread Cert.Reference10Ideal.nD Cert.Reference10Ideal.τ).loc Cert.Reference10Ideal.main_arg1)) (m ((c.tc : Thread Cert.Reference10Ideal.nD Cert.Reference10Ideal.τ).loc Cert.Reference10Ideal.main_arg2)) (m ((c.tc : Thread Cert.Reference10Ideal.nD Cert.Reference10Ideal.τ).loc Cert.Reference10Ideal.main_arg3)) (m ((c.tc : Thread Cert.Reference10Ideal.nD Cert.Reference10Ideal.τ).loc Cert.Reference10Ideal.main_arg4)) (m ((c.tc : Thread Cert.Reference10Ideal.nD Cert.Reference10Ideal.τ).loc Cert.Reference10Ideal.main_arg5))).2.2.2.2.1 = (fun _ => 1#1)
    ∧ (Cert.Pre_finite_in.fn (F := Ideal) (m ((c.tc : Thread Cert.Reference10Ideal.nD Cert.Reference10Ideal.τ).loc Cert.Reference10Ideal.main_arg0)) (m ((c.tc : Thread Cert.Reference10Ideal.nD Cert.Reference10Ideal.τ).loc Cert.Reference10Ideal.main_arg1)) (m ((c.tc : Thread Cert.Reference10Ideal.nD Cert.Reference10Ideal.τ).loc Cert.Reference10Ideal.main_arg2)) (m ((c.tc : Thread Cert.Reference10Ideal.nD Cert.Reference10Ideal.τ).loc Cert.Reference10Ideal.main_arg3)) (m ((c.tc : Thread Cert.Reference10Ideal.nD Cert.Reference10Ideal.τ).loc Cert.Reference10Ideal.main_arg4)) (m ((c.tc : Thread Cert.Reference10Ideal.nD Cert.Reference10Ideal.τ).loc Cert.Reference10Ideal.main_arg5))).2.2.2.2.2 = (fun _ => 1#1)

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Kernel11Ideal_finite_loss [hPre_finite_loss : Cert.Pre_finite_loss.Facts] (m : (ℓ : Loc Cert.Kernel11Ideal.nD Cert.Kernel11Ideal.τ Cert.Kernel11Ideal.sig) → Buf (Elt Ideal) ℓ) : Prop :=
  ∀ c : Dev Cert.Kernel11Ideal.nD,
    (Cert.Pre_finite_loss.fn (F := Ideal) (m ((c.tc : Thread Cert.Kernel11Ideal.nD Cert.Kernel11Ideal.τ).loc Cert.Kernel11Ideal.main_arg0)) (m ((c.tc : Thread Cert.Kernel11Ideal.nD Cert.Kernel11Ideal.τ).loc Cert.Kernel11Ideal.main_arg1)) (m ((c.tc : Thread Cert.Kernel11Ideal.nD Cert.Kernel11Ideal.τ).loc Cert.Kernel11Ideal.main_arg2)) (m ((c.tc : Thread Cert.Kernel11Ideal.nD Cert.Kernel11Ideal.τ).loc Cert.Kernel11Ideal.main_arg3))).1 = (fun _ => 1#1)
    ∧ (Cert.Pre_finite_loss.fn (F := Ideal) (m ((c.tc : Thread Cert.Kernel11Ideal.nD Cert.Kernel11Ideal.τ).loc Cert.Kernel11Ideal.main_arg0)) (m ((c.tc : Thread Cert.Kernel11Ideal.nD Cert.Kernel11Ideal.τ).loc Cert.Kernel11Ideal.main_arg1)) (m ((c.tc : Thread Cert.Kernel11Ideal.nD Cert.Kernel11Ideal.τ).loc Cert.Kernel11Ideal.main_arg2)) (m ((c.tc : Thread Cert.Kernel11Ideal.nD Cert.Kernel11Ideal.τ).loc Cert.Kernel11Ideal.main_arg3))).2.1 = (fun _ => 1#1)
    ∧ (Cert.Pre_finite_loss.fn (F := Ideal) (m ((c.tc : Thread Cert.Kernel11Ideal.nD Cert.Kernel11Ideal.τ).loc Cert.Kernel11Ideal.main_arg0)) (m ((c.tc : Thread Cert.Kernel11Ideal.nD Cert.Kernel11Ideal.τ).loc Cert.Kernel11Ideal.main_arg1)) (m ((c.tc : Thread Cert.Kernel11Ideal.nD Cert.Kernel11Ideal.τ).loc Cert.Kernel11Ideal.main_arg2)) (m ((c.tc : Thread Cert.Kernel11Ideal.nD Cert.Kernel11Ideal.τ).loc Cert.Kernel11Ideal.main_arg3))).2.2.1 = (fun _ => 1#1)
    ∧ (Cert.Pre_finite_loss.fn (F := Ideal) (m ((c.tc : Thread Cert.Kernel11Ideal.nD Cert.Kernel11Ideal.τ).loc Cert.Kernel11Ideal.main_arg0)) (m ((c.tc : Thread Cert.Kernel11Ideal.nD Cert.Kernel11Ideal.τ).loc Cert.Kernel11Ideal.main_arg1)) (m ((c.tc : Thread Cert.Kernel11Ideal.nD Cert.Kernel11Ideal.τ).loc Cert.Kernel11Ideal.main_arg2)) (m ((c.tc : Thread Cert.Kernel11Ideal.nD Cert.Kernel11Ideal.τ).loc Cert.Kernel11Ideal.main_arg3))).2.2.2 = (fun _ => 1#1)

def Pre_Reference11Ideal (m : (ℓ : Loc Cert.Reference11Ideal.nD Cert.Reference11Ideal.τ Cert.Reference11Ideal.sig) → Buf (Elt Ideal) ℓ) : Prop :=
  True

def Pre_Reference11Ideal_finite_loss [hPre_finite_loss : Cert.Pre_finite_loss.Facts] (m : (ℓ : Loc Cert.Reference11Ideal.nD Cert.Reference11Ideal.τ Cert.Reference11Ideal.sig) → Buf (Elt Ideal) ℓ) : Prop :=
  ∀ c : Dev Cert.Reference11Ideal.nD,
    (Cert.Pre_finite_loss.fn (F := Ideal) (m ((c.tc : Thread Cert.Reference11Ideal.nD Cert.Reference11Ideal.τ).loc Cert.Reference11Ideal.main_arg0)) (m ((c.tc : Thread Cert.Reference11Ideal.nD Cert.Reference11Ideal.τ).loc Cert.Reference11Ideal.main_arg1)) (m ((c.tc : Thread Cert.Reference11Ideal.nD Cert.Reference11Ideal.τ).loc Cert.Reference11Ideal.main_arg2)) (m ((c.tc : Thread Cert.Reference11Ideal.nD Cert.Reference11Ideal.τ).loc Cert.Reference11Ideal.main_arg3))).1 = (fun _ => 1#1)
    ∧ (Cert.Pre_finite_loss.fn (F := Ideal) (m ((c.tc : Thread Cert.Reference11Ideal.nD Cert.Reference11Ideal.τ).loc Cert.Reference11Ideal.main_arg0)) (m ((c.tc : Thread Cert.Reference11Ideal.nD Cert.Reference11Ideal.τ).loc Cert.Reference11Ideal.main_arg1)) (m ((c.tc : Thread Cert.Reference11Ideal.nD Cert.Reference11Ideal.τ).loc Cert.Reference11Ideal.main_arg2)) (m ((c.tc : Thread Cert.Reference11Ideal.nD Cert.Reference11Ideal.τ).loc Cert.Reference11Ideal.main_arg3))).2.1 = (fun _ => 1#1)
    ∧ (Cert.Pre_finite_loss.fn (F := Ideal) (m ((c.tc : Thread Cert.Reference11Ideal.nD Cert.Reference11Ideal.τ).loc Cert.Reference11Ideal.main_arg0)) (m ((c.tc : Thread Cert.Reference11Ideal.nD Cert.Reference11Ideal.τ).loc Cert.Reference11Ideal.main_arg1)) (m ((c.tc : Thread Cert.Reference11Ideal.nD Cert.Reference11Ideal.τ).loc Cert.Reference11Ideal.main_arg2)) (m ((c.tc : Thread Cert.Reference11Ideal.nD Cert.Reference11Ideal.τ).loc Cert.Reference11Ideal.main_arg3))).2.2.1 = (fun _ => 1#1)
    ∧ (Cert.Pre_finite_loss.fn (F := Ideal) (m ((c.tc : Thread Cert.Reference11Ideal.nD Cert.Reference11Ideal.τ).loc Cert.Reference11Ideal.main_arg0)) (m ((c.tc : Thread Cert.Reference11Ideal.nD Cert.Reference11Ideal.τ).loc Cert.Reference11Ideal.main_arg1)) (m ((c.tc : Thread Cert.Reference11Ideal.nD Cert.Reference11Ideal.τ).loc Cert.Reference11Ideal.main_arg2)) (m ((c.tc : Thread Cert.Reference11Ideal.nD Cert.Reference11Ideal.τ).loc Cert.Reference11Ideal.main_arg3))).2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3)
      ∧ r.2.mem ((c.tc : Thread Cert.Kernel9.nD Cert.Kernel9.τ).loc Cert.Kernel9.main_arg4) = m ((c.tc : Thread Cert.Kernel9.nD Cert.Kernel9.τ).loc Cert.Kernel9.main_arg4))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3)
      ∧ r.2.mem ((c.tc : Thread Cert.Kernel10.nD Cert.Kernel10.τ).loc Cert.Kernel10.main_arg4) = m ((c.tc : Thread Cert.Kernel10.nD Cert.Kernel10.τ).loc Cert.Kernel10.main_arg4)
      ∧ r.2.mem ((c.tc : Thread Cert.Kernel10.nD Cert.Kernel10.τ).loc Cert.Kernel10.main_arg5) = m ((c.tc : Thread Cert.Kernel10.nD Cert.Kernel10.τ).loc Cert.Kernel10.main_arg5))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
      ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
      ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5))
      ∧ r.2.sem = fun _ => 0)

def quiescent_Kernel10Ideal_pre_finite_in [hKernel10Ideal : Cert.Kernel10Ideal.Facts] [hPre_finite_in : Cert.Pre_finite_in.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal_finite_in m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
      ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
      ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3)
      ∧ r.2.mem ((c.tc : Thread Cert.Reference10Ideal.nD Cert.Reference10Ideal.τ).loc Cert.Reference10Ideal.main_arg4) = m ((c.tc : Thread Cert.Reference10Ideal.nD Cert.Reference10Ideal.τ).loc Cert.Reference10Ideal.main_arg4)
      ∧ r.2.mem ((c.tc : Thread Cert.Reference10Ideal.nD Cert.Reference10Ideal.τ).loc Cert.Reference10Ideal.main_arg5) = m ((c.tc : Thread Cert.Reference10Ideal.nD Cert.Reference10Ideal.τ).loc Cert.Reference10Ideal.main_arg5))
      ∧ r.2.sem = fun _ => 0)

def quiescent_Reference10Ideal_pre_finite_in [hReference10Ideal : Cert.Reference10Ideal.Facts] [hPre_finite_in : Cert.Pre_finite_in.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal_finite_in m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3)
      ∧ r.2.mem ((c.tc : Thread Cert.Reference10Ideal.nD Cert.Reference10Ideal.τ).loc Cert.Reference10Ideal.main_arg4) = m ((c.tc : Thread Cert.Reference10Ideal.nD Cert.Reference10Ideal.τ).loc Cert.Reference10Ideal.main_arg4)
      ∧ r.2.mem ((c.tc : Thread Cert.Reference10Ideal.nD Cert.Reference10Ideal.τ).loc Cert.Reference10Ideal.main_arg5) = m ((c.tc : Thread Cert.Reference10Ideal.nD Cert.Reference10Ideal.τ).loc Cert.Reference10Ideal.main_arg5))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ r.2.sem = fun _ => 0)

def quiescent_Kernel11Ideal_pre_finite_loss [hKernel11Ideal : Cert.Kernel11Ideal.Facts] [hPre_finite_loss : Cert.Pre_finite_loss.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal_finite_loss m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3))
      ∧ r.2.sem = fun _ => 0)

def quiescent_Reference11Ideal_pre_finite_loss [hReference11Ideal : Cert.Reference11Ideal.Facts] [hPre_finite_loss : Cert.Pre_finite_loss.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal_finite_loss m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v178_0)) (v1 : (c : Dev Cert.KernelIdeal.nD) → Buf (Elt Ideal) ((c.tc : Thread Cert.KernelIdeal.nD Cert.KernelIdeal.τ).loc Cert.KernelIdeal.main_v178_1)) (v2 : (c : Dev Cert.KernelIdeal.nD) → Buf (Elt Ideal) ((c.tc : Thread Cert.KernelIdeal.nD Cert.KernelIdeal.τ).loc Cert.KernelIdeal.main_v178_2)) (v3 : (c : Dev Cert.KernelIdeal.nD) → Buf (Elt Ideal) ((c.tc : Thread Cert.KernelIdeal.nD Cert.KernelIdeal.τ).loc Cert.KernelIdeal.main_v178_3)) (v4 : (c : Dev Cert.KernelIdeal.nD) → Buf (Elt Ideal) ((c.tc : Thread Cert.KernelIdeal.nD Cert.KernelIdeal.τ).loc Cert.KernelIdeal.main_v178_4)) (v5 : (c : Dev Cert.KernelIdeal.nD) → Buf (Elt Ideal) ((c.tc : Thread Cert.KernelIdeal.nD Cert.KernelIdeal.τ).loc Cert.KernelIdeal.main_v178_5)) (v6 : (c : Dev Cert.KernelIdeal.nD) → Buf (Elt Ideal) ((c.tc : Thread Cert.KernelIdeal.nD Cert.KernelIdeal.τ).loc Cert.KernelIdeal.main_v178_6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v178_0) = v0 c
          ∧ r.2.mem ((c.tc : Thread Cert.KernelIdeal.nD Cert.KernelIdeal.τ).loc Cert.KernelIdeal.main_v178_1) = v1 c
          ∧ r.2.mem ((c.tc : Thread Cert.KernelIdeal.nD Cert.KernelIdeal.τ).loc Cert.KernelIdeal.main_v178_2) = v2 c
          ∧ r.2.mem ((c.tc : Thread Cert.KernelIdeal.nD Cert.KernelIdeal.τ).loc Cert.KernelIdeal.main_v178_3) = v3 c
          ∧ r.2.mem ((c.tc : Thread Cert.KernelIdeal.nD Cert.KernelIdeal.τ).loc Cert.KernelIdeal.main_v178_4) = v4 c
          ∧ r.2.mem ((c.tc : Thread Cert.KernelIdeal.nD Cert.KernelIdeal.τ).loc Cert.KernelIdeal.main_v178_5) = v5 c
          ∧ r.2.mem ((c.tc : Thread Cert.KernelIdeal.nD Cert.KernelIdeal.τ).loc Cert.KernelIdeal.main_v178_6) = v6 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v532) = v0 c
          ∧ r.2.mem ((c.tc : Thread Cert.ReferenceIdeal.nD Cert.ReferenceIdeal.τ).loc Cert.ReferenceIdeal.main_v534) = v1 c
          ∧ r.2.mem ((c.tc : Thread Cert.ReferenceIdeal.nD Cert.ReferenceIdeal.τ).loc Cert.ReferenceIdeal.main_v535) = v2 c
          ∧ r.2.mem ((c.tc : Thread Cert.ReferenceIdeal.nD Cert.ReferenceIdeal.τ).loc Cert.ReferenceIdeal.main_v536) = v3 c
          ∧ r.2.mem ((c.tc : Thread Cert.ReferenceIdeal.nD Cert.ReferenceIdeal.τ).loc Cert.ReferenceIdeal.main_v537) = v4 c
          ∧ r.2.mem ((c.tc : Thread Cert.ReferenceIdeal.nD Cert.ReferenceIdeal.τ).loc Cert.ReferenceIdeal.main_v538) = v5 c
          ∧ r.2.mem ((c.tc : Thread Cert.ReferenceIdeal.nD Cert.ReferenceIdeal.τ).loc Cert.ReferenceIdeal.main_v210) = v6 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v9) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v9) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v6) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v5) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)) →
    ∃ (v0 : (c : Dev Cert.Kernel6Ideal.nD) → Buf (Elt Ideal) ((c.tc : Thread Cert.Kernel6Ideal.nD Cert.Kernel6Ideal.τ).loc Cert.Kernel6Ideal.main_v3)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v3) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v26) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)) →
    ∃ (v0 : (c : Dev Cert.Kernel7Ideal.nD) → Buf (Elt Ideal) ((c.tc : Thread Cert.Kernel7Ideal.nD Cert.Kernel7Ideal.τ).loc Cert.Kernel7Ideal.main_v3)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v3) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v28) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v1)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v1) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v2) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)
      ∧ m' ((c.tc : Thread Cert.Reference9Ideal.nD Cert.Reference9Ideal.τ).loc Cert.Reference9Ideal.main_arg4) = m ((c.tc : Thread Cert.Kernel9Ideal.nD Cert.Kernel9Ideal.τ).loc Cert.Kernel9Ideal.main_arg4)) →
    ∃ (v0 : (c : Dev Cert.Kernel9Ideal.nD) → Buf (Elt Ideal) ((c.tc : Thread Cert.Kernel9Ideal.nD Cert.Kernel9Ideal.τ).loc Cert.Kernel9Ideal.main_v13_0)) (v1 : (c : Dev Cert.Kernel9Ideal.nD) → Buf (Elt Ideal) ((c.tc : Thread Cert.Kernel9Ideal.nD Cert.Kernel9Ideal.τ).loc Cert.Kernel9Ideal.main_v13_1)) (v2 : (c : Dev Cert.Kernel9Ideal.nD) → Buf (Elt Ideal) ((c.tc : Thread Cert.Kernel9Ideal.nD Cert.Kernel9Ideal.τ).loc Cert.Kernel9Ideal.main_v13_2)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v13_0) = v0 c
          ∧ r.2.mem ((c.tc : Thread Cert.Kernel9Ideal.nD Cert.Kernel9Ideal.τ).loc Cert.Kernel9Ideal.main_v13_1) = v1 c
          ∧ r.2.mem ((c.tc : Thread Cert.Kernel9Ideal.nD Cert.Kernel9Ideal.τ).loc Cert.Kernel9Ideal.main_v13_2) = v2 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
          ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v37) = v0 c
          ∧ r.2.mem ((c.tc : Thread Cert.Reference9Ideal.nD Cert.Reference9Ideal.τ).loc Cert.Reference9Ideal.main_v41) = v1 c
          ∧ r.2.mem ((c.tc : Thread Cert.Reference9Ideal.nD Cert.Reference9Ideal.τ).loc Cert.Reference9Ideal.main_v45) = v2 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3)
          ∧ r.2.mem ((c.tc : Thread Cert.Reference9Ideal.nD Cert.Reference9Ideal.τ).loc Cert.Reference9Ideal.main_arg4) = m' ((c.tc : Thread Cert.Reference9Ideal.nD Cert.Reference9Ideal.τ).loc Cert.Reference9Ideal.main_arg4))

def preserves_Kernel10_Kernel10Ideal : Prop :=
  True

def algebraic_Kernel10Ideal_Reference10Ideal_pre_finite_in [hKernel10Ideal : Cert.Kernel10Ideal.Facts] [hReference10Ideal : Cert.Reference10Ideal.Facts] [hPre_finite_in : Cert.Pre_finite_in.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal_finite_in m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)
      ∧ m' ((c.tc : Thread Cert.Reference10Ideal.nD Cert.Reference10Ideal.τ).loc Cert.Reference10Ideal.main_arg4) = m ((c.tc : Thread Cert.Kernel10Ideal.nD Cert.Kernel10Ideal.τ).loc Cert.Kernel10Ideal.main_arg4)
      ∧ m' ((c.tc : Thread Cert.Reference10Ideal.nD Cert.Reference10Ideal.τ).loc Cert.Reference10Ideal.main_arg5) = m ((c.tc : Thread Cert.Kernel10Ideal.nD Cert.Kernel10Ideal.τ).loc Cert.Kernel10Ideal.main_arg5)) →
    ∃ (v0 : (c : Dev Cert.Kernel10Ideal.nD) → Buf (Elt Ideal) ((c.tc : Thread Cert.Kernel10Ideal.nD Cert.Kernel10Ideal.τ).loc Cert.Kernel10Ideal.main_v3_0)) (v1 : (c : Dev Cert.Kernel10Ideal.nD) → Buf (Elt Ideal) ((c.tc : Thread Cert.Kernel10Ideal.nD Cert.Kernel10Ideal.τ).loc Cert.Kernel10Ideal.main_v3_1)) (v2 : (c : Dev Cert.Kernel10Ideal.nD) → Buf (Elt Ideal) ((c.tc : Thread Cert.Kernel10Ideal.nD Cert.Kernel10Ideal.τ).loc Cert.Kernel10Ideal.main_v3_2)) (v3 : (c : Dev Cert.Kernel10Ideal.nD) → Buf (Elt Ideal) ((c.tc : Thread Cert.Kernel10Ideal.nD Cert.Kernel10Ideal.τ).loc Cert.Kernel10Ideal.main_v3_3)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v3_0) = v0 c
          ∧ r.2.mem ((c.tc : Thread Cert.Kernel10Ideal.nD Cert.Kernel10Ideal.τ).loc Cert.Kernel10Ideal.main_v3_1) = v1 c
          ∧ r.2.mem ((c.tc : Thread Cert.Kernel10Ideal.nD Cert.Kernel10Ideal.τ).loc Cert.Kernel10Ideal.main_v3_2) = v2 c
          ∧ r.2.mem ((c.tc : Thread Cert.Kernel10Ideal.nD Cert.Kernel10Ideal.τ).loc Cert.Kernel10Ideal.main_v3_3) = v3 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
          ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
          ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v69) = v0 c
          ∧ r.2.mem ((c.tc : Thread Cert.Reference10Ideal.nD Cert.Reference10Ideal.τ).loc Cert.Reference10Ideal.main_v94) = v1 c
          ∧ r.2.mem ((c.tc : Thread Cert.Reference10Ideal.nD Cert.Reference10Ideal.τ).loc Cert.Reference10Ideal.main_v95) = v2 c
          ∧ r.2.mem ((c.tc : Thread Cert.Reference10Ideal.nD Cert.Reference10Ideal.τ).loc Cert.Reference10Ideal.main_v96) = v3 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3)
          ∧ r.2.mem ((c.tc : Thread Cert.Reference10Ideal.nD Cert.Reference10Ideal.τ).loc Cert.Reference10Ideal.main_arg4) = m' ((c.tc : Thread Cert.Reference10Ideal.nD Cert.Reference10Ideal.τ).loc Cert.Reference10Ideal.main_arg4)
          ∧ r.2.mem ((c.tc : Thread Cert.Reference10Ideal.nD Cert.Reference10Ideal.τ).loc Cert.Reference10Ideal.main_arg5) = m' ((c.tc : Thread Cert.Reference10Ideal.nD Cert.Reference10Ideal.τ).loc Cert.Reference10Ideal.main_arg5))

def preserves_Kernel11_Kernel11Ideal : Prop :=
  True

def algebraic_Kernel11Ideal_Reference11Ideal_pre_finite_loss [hKernel11Ideal : Cert.Kernel11Ideal.Facts] [hReference11Ideal : Cert.Reference11Ideal.Facts] [hPre_finite_loss : Cert.Pre_finite_loss.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal_finite_loss m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)) →
    ∃ (v0 : (c : Dev Cert.Kernel11Ideal.nD) → Buf (Elt Ideal) ((c.tc : Thread Cert.Kernel11Ideal.nD Cert.Kernel11Ideal.τ).loc Cert.Kernel11Ideal.main_v4_0)) (v1 : (c : Dev Cert.Kernel11Ideal.nD) → Buf (Elt Ideal) ((c.tc : Thread Cert.Kernel11Ideal.nD Cert.Kernel11Ideal.τ).loc Cert.Kernel11Ideal.main_v4_1)) (v2 : (c : Dev Cert.Kernel11Ideal.nD) → Buf (Elt Ideal) ((c.tc : Thread Cert.Kernel11Ideal.nD Cert.Kernel11Ideal.τ).loc Cert.Kernel11Ideal.main_v4_2)) (v3 : (c : Dev Cert.Kernel11Ideal.nD) → Buf (Elt Ideal) ((c.tc : Thread Cert.Kernel11Ideal.nD Cert.Kernel11Ideal.τ).loc Cert.Kernel11Ideal.main_v4_3)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v4_0) = v0 c
          ∧ r.2.mem ((c.tc : Thread Cert.Kernel11Ideal.nD Cert.Kernel11Ideal.τ).loc Cert.Kernel11Ideal.main_v4_1) = v1 c
          ∧ r.2.mem ((c.tc : Thread Cert.Kernel11Ideal.nD Cert.Kernel11Ideal.τ).loc Cert.Kernel11Ideal.main_v4_2) = v2 c
          ∧ r.2.mem ((c.tc : Thread Cert.Kernel11Ideal.nD Cert.Kernel11Ideal.τ).loc Cert.Kernel11Ideal.main_v4_3) = v3 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v78) = v0 c
          ∧ r.2.mem ((c.tc : Thread Cert.Reference11Ideal.nD Cert.Reference11Ideal.τ).loc Cert.Reference11Ideal.main_v79) = v1 c
          ∧ r.2.mem ((c.tc : Thread Cert.Reference11Ideal.nD Cert.Reference11Ideal.τ).loc Cert.Reference11Ideal.main_v80) = v2 c
          ∧ r.2.mem ((c.tc : Thread Cert.Reference11Ideal.nD Cert.Reference11Ideal.τ).loc Cert.Reference11Ideal.main_v109) = v3 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hPre_finite : Cert.Pre_finite.Facts) (hPre_finite_in : Cert.Pre_finite_in.Facts) (hPre_finite_loss : Cert.Pre_finite_loss.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Kernel10Ideal_pre_finite_in (hKernel10Ideal := hKernel10Ideal) (hPre_finite_in := hPre_finite_in)
    ∧ quiescent_Reference10Ideal (hReference10Ideal := hReference10Ideal)
    ∧ quiescent_Reference10Ideal_pre_finite_in (hReference10Ideal := hReference10Ideal) (hPre_finite_in := hPre_finite_in)
    ∧ quiescent_Kernel11 (hKernel11 := hKernel11)
    ∧ quiescent_Kernel11Ideal (hKernel11Ideal := hKernel11Ideal)
    ∧ quiescent_Kernel11Ideal_pre_finite_loss (hKernel11Ideal := hKernel11Ideal) (hPre_finite_loss := hPre_finite_loss)
    ∧ quiescent_Reference11Ideal (hReference11Ideal := hReference11Ideal)
    ∧ quiescent_Reference11Ideal_pre_finite_loss (hReference11Ideal := hReference11Ideal) (hPre_finite_loss := hPre_finite_loss)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal_pre_finite_in (hKernel10Ideal := hKernel10Ideal) (hReference10Ideal := hReference10Ideal) (hPre_finite_in := hPre_finite_in)
    ∧ preserves_Kernel11_Kernel11Ideal
    ∧ algebraic_Kernel11Ideal_Reference11Ideal_pre_finite_loss (hKernel11Ideal := hKernel11Ideal) (hReference11Ideal := hReference11Ideal) (hPre_finite_loss := hPre_finite_loss)
-- ==== Pre_finite.lean ====
abbrev S1x8208x2816 : Shape := ⟨3, ![1, 8208, 2816]⟩
abbrev S1x8208x1024 : Shape := ⟨3, ![1, 8208, 1024]⟩
abbrev S31x256 : Shape := ⟨2, ![31, 256]⟩
abbrev S256 : Shape := ⟨1, ![256]⟩
abbrev S256x256 : Shape := ⟨2, ![256, 256]⟩
abbrev S_ : Shape := ⟨0, ![]⟩

class Facts : Prop where
  bcast_S_S1x8208x2816 : S_.BroadcastsInDim S1x8208x2816 (![] : Fin 0 → Fin S1x8208x2816.rank)
  bcast_S_S1x8208x1024 : S_.BroadcastsInDim S1x8208x1024 (![] : Fin 0 → Fin S1x8208x1024.rank)
  bcast_S_S31x256 : S_.BroadcastsInDim S31x256 (![] : Fin 0 → Fin S31x256.rank)
  bcast_S_S256 : S_.BroadcastsInDim S256 (![] : Fin 0 → Fin S256.rank)
  bcast_S_S256x256 : S_.BroadcastsInDim S256x256 (![] : Fin 0 → Fin S256x256.rank)

variable [Facts]

def fn_part1 {F : FTy → Type} [FloatOps F] (main_arg6 : FVec F S256x256 .f32) (main_v2 : IVec S1x8208x2816 1) (main_v5 : IVec S1x8208x1024 1) (main_v8 : IVec S31x256 1) (main_v11 : IVec S256 1) (main_v14 : IVec S256 1) (main_v17 : IVec S256 1) : IVec S1x8208x2816 1 × IVec S1x8208x1024 1 × IVec S31x256 1 × IVec S256 1 × IVec S256 1 × IVec S256 1 × IVec S256x256 1 :=
  let main_v18 : FVec F S256x256 .f32 := Host.absf main_arg6
  let main_cst_5 : FVec F S_ .f32 := constant S_ .f32 0x7F800000#32
  let main_v19 : FVec F S256x256 .f32 := broadcastInDim S256x256 ![] bcast_S_S256x256 main_cst_5
  let main_v20 : IVec S256x256 1 := cmpf .olt main_v18 main_v19
  (main_v2, main_v5, main_v8, main_v11, main_v14, main_v17, main_v20)

def fn {F : FTy → Type} [FloatOps F] (main_arg0 : FVec F S1x8208x2816 .f32) (main_arg1 : FVec F S1x8208x1024 .f32) (main_arg2 : FVec F S31x256 .f32) (main_arg3 : FVec F S256 .f32) (main_arg4 : FVec F S256 .f32) (main_arg5 : FVec F S256 .f32) (main_arg6 : FVec F S256x256 .f32) : IVec S1x8208x2816 1 × IVec S1x8208x1024 1 × IVec S31x256 1 × IVec S256 1 × IVec S256 1 × IVec S256 1 × IVec S256x256 1 :=
  let main_v0 : FVec F S1x8208x2816 .f32 := Host.absf main_arg0
  let main_cst : FVec F S_ .f32 := constant S_ .f32 0x7F800000#32
  let main_v1 : FVec F S1x8208x2816 .f32 := broadcastInDim S1x8208x2816 ![] bcast_S_S1x8208x2816 main_cst
  let main_v2 : IVec S1x8208x2816 1 := cmpf .olt main_v0 main_v1
  let main_v3 : FVec F S1x8208x1024 .f32 := Host.absf main_arg1
  let main_cst_0 : FVec F S_ .f32 := constant S_ .f32 0x7F800000#32
  let main_v4 : FVec F S1x8208x1024 .f32 := broadcastInDim S1x8208x1024 ![] bcast_S_S1x8208x1024 main_cst_0
  let main_v5 : IVec S1x8208x1024 1 := cmpf .olt main_v3 main_v4
  let main_v6 : FVec F S31x256 .f32 := Host.absf main_arg2
  let main_cst_1 : FVec F S_ .f32 := constant S_ .f32 0x7F800000#32
  let main_v7 : FVec F S31x256 .f32 := broadcastInDim S31x256 ![] bcast_S_S31x256 main_cst_1
  let main_v8 : IVec S31x256 1 := cmpf .olt main_v6 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_v12 : FVec F S256 .f32 := Host.absf main_arg4
  let main_cst_3 : FVec F S_ .f32 := constant S_ .f32 0x7F800000#32
  let main_v13 : FVec F S256 .f32 := broadcastInDim S256 ![] bcast_S_S256 main_cst_3
  let main_v14 : IVec S256 1 := cmpf .olt main_v12 main_v13
  let main_v15 : FVec F S256 .f32 := Host.absf main_arg5
  let main_cst_4 : FVec F S_ .f32 := constant S_ .f32 0x7F800000#32
  let main_v16 : FVec F S256 .f32 := broadcastInDim S256 ![] bcast_S_S256 main_cst_4
  let main_v17 : IVec S256 1 := cmpf .olt main_v15 main_v16
  fn_part1 (F := F) main_arg6 main_v2 main_v5 main_v8 main_v11 main_v14 main_v17
-- ==== Pre_finite_in.lean ====
abbrev S8448x1024 : Shape := ⟨2, ![8448, 1024]⟩
abbrev S8448x2816 : Shape := ⟨2, ![8448, 2816]⟩
abbrev S1024 : Shape := ⟨1, ![1024]⟩
abbrev S1024x2816 : Shape := ⟨2, ![1024, 2816]⟩
abbrev S_ : Shape := ⟨0, ![]⟩

class Facts : Prop where
  bcast_S_S8448x1024 : S_.BroadcastsInDim S8448x1024 (![] : Fin 0 → Fin S8448x1024.rank)
  bitsLt_bf16_f32 : FTy.bits .bf16 < FTy.bits .f32
  bcast_S_S8448x2816 : S_.BroadcastsInDim S8448x2816 (![] : Fin 0 → Fin S8448x2816.rank)
  bcast_S_S1024 : S_.BroadcastsInDim S1024 (![] : Fin 0 → Fin S1024.rank)
  bcast_S_S1024x2816 : S_.BroadcastsInDim S1024x2816 (![] : Fin 0 → Fin S1024x2816.rank)

variable [Facts]

def fn_part1 {F : FTy → Type} [FloatOps F] (main_v2 : IVec S8448x1024 1) (main_v5 : IVec S8448x1024 1) (main_v9 : IVec S8448x2816 1) (main_v12 : IVec S1024 1) (main_v15 : IVec S1024 1) (main_v16 : FVec F S1024x2816 .f32) (main_v17 : FVec F S1024x2816 .f32) : IVec S8448x1024 1 × IVec S8448x1024 1 × IVec S8448x2816 1 × IVec S1024 1 × IVec S1024 1 × IVec S1024x2816 1 :=
  let main_v18 : IVec S1024x2816 1 := cmpf .olt main_v16 main_v17
  (main_v2, main_v5, main_v9, main_v12, main_v15, main_v18)

def fn {F : FTy → Type} [FloatOps F] (main_arg0 : FVec F S8448x1024 .f32) (main_arg1 : FVec F S8448x1024 .f32) (main_arg2 : FVec F S8448x2816 .bf16) (main_arg3 : FVec F S1024 .f32) (main_arg4 : FVec F S1024 .f32) (main_arg5 : FVec F S1024x2816 .f32) : IVec S8448x1024 1 × IVec S8448x1024 1 × IVec S8448x2816 1 × IVec S1024 1 × IVec S1024 1 × IVec S1024x2816 1 :=
  let main_v0 : FVec F S8448x1024 .f32 := Host.absf main_arg0
  let main_cst : FVec F S_ .f32 := constant S_ .f32 0x7F800000#32
  let main_v1 : FVec F S8448x1024 .f32 := broadcastInDim S8448x1024 ![] bcast_S_S8448x1024 main_cst
  let main_v2 : IVec S8448x1024 1 := cmpf .olt main_v0 main_v1
  let main_v3 : FVec F S8448x1024 .f32 := Host.absf main_arg1
  let main_cst_0 : FVec F S_ .f32 := constant S_ .f32 0x7F800000#32
  let main_v4 : FVec F S8448x1024 .f32 := broadcastInDim S8448x1024 ![] bcast_S_S8448x1024 main_cst_0
  let main_v5 : IVec S8448x1024 1 := cmpf .olt main_v3 main_v4
  let main_v6 : FVec F S8448x2816 .f32 := (extf .f32 · bitsLt_bf16_f32) main_arg2
  let main_v7 : FVec F S8448x2816 .f32 := Host.absf main_v6
  let main_cst_1 : FVec F S_ .f32 := constant S_ .f32 0x7F800000#32
  let main_v8 : FVec F S8448x2816 .f32 := broadcastInDim S8448x2816 ![] bcast_S_S8448x2816 main_cst_1
  let main_v9 : IVec S8448x2816 1 := cmpf .olt main_v7 main_v8
  let main_v10 : FVec F S1024 .f32 := Host.absf main_arg3
  let main_cst_2 : FVec F S_ .f32 := constant S_ .f32 0x7F800000#32
  let main_v11 : FVec F S1024 .f32 := broadcastInDim S1024 ![] bcast_S_S1024 main_cst_2
  let main_v12 : IVec S1024 1 := cmpf .olt main_v10 main_v11
  let main_v13 : FVec F S1024 .f32 := Host.absf main_arg4
  let main_cst_3 : FVec F S_ .f32 := constant S_ .f32 0x7F800000#32
  let main_v14 : FVec F S1024 .f32 := broadcastInDim S1024 ![] bcast_S_S1024 main_cst_3
  let main_v15 : IVec S1024 1 := cmpf .olt main_v13 main_v14
  let main_v16 : FVec F S1024x2816 .f32 := Host.absf main_arg5
  let main_cst_4 : FVec F S_ .f32 := constant S_ .f32 0x7F800000#32
  let main_v17 : FVec F S1024x2816 .f32 := broadcastInDim S1024x2816 ![] bcast_S_S1024x2816 main_cst_4
  fn_part1 (F := F) main_v2 main_v5 main_v9 main_v12 main_v15 main_v16 main_v17
-- ==== Pre_finite_loss.lean ====
abbrev S8448x1024 : Shape := ⟨2, ![8448, 1024]⟩
abbrev S8192x1024 : Shape := ⟨2, ![8192, 1024]⟩
abbrev S1024 : Shape := ⟨1, ![1024]⟩
abbrev S_ : Shape := ⟨0, ![]⟩

class Facts : Prop where
  bcast_S_S8448x1024 : S_.BroadcastsInDim S8448x1024 (![] : Fin 0 → Fin S8448x1024.rank)
  bcast_S_S8192x1024 : S_.BroadcastsInDim S8192x1024 (![] : Fin 0 → Fin S8192x1024.rank)
  bcast_S_S1024 : S_.BroadcastsInDim S1024 (![] : Fin 0 → Fin S1024.rank)

variable [Facts]

def fn {F : FTy → Type} [FloatOps F] (main_arg0 : FVec F S8448x1024 .f32) (main_arg1 : FVec F S8192x1024 .f32) (main_arg2 : FVec F S1024 .f32) (main_arg3 : FVec F S1024 .f32) : IVec S8448x1024 1 × IVec S8192x1024 1 × IVec S1024 1 × IVec S1024 1 :=
  let main_v0 : FVec F S8448x1024 .f32 := Host.absf main_arg0
  let main_cst : FVec F S_ .f32 := constant S_ .f32 0x7F800000#32
  let main_v1 : FVec F S8448x1024 .f32 := broadcastInDim S8448x1024 ![] bcast_S_S8448x1024 main_cst
  let main_v2 : IVec S8448x1024 1 := cmpf .olt main_v0 main_v1
  let main_v3 : FVec F S8192x1024 .f32 := Host.absf main_arg1
  let main_cst_0 : FVec F S_ .f32 := constant S_ .f32 0x7F800000#32
  let main_v4 : FVec F S8192x1024 .f32 := broadcastInDim S8192x1024 ![] bcast_S_S8192x1024 main_cst_0
  let main_v5 : IVec S8192x1024 1 := cmpf .olt main_v3 main_v4
  let main_v6 : FVec F S1024 .f32 := Host.absf main_arg2
  let main_cst_1 : FVec F S_ .f32 := constant S_ .f32 0x7F800000#32
  let main_v7 : FVec F S1024 .f32 := broadcastInDim S1024 ![] bcast_S_S1024 main_cst_1
  let main_v8 : IVec S1024 1 := cmpf .olt main_v6 main_v7
  let main_v9 : FVec F S1024 .f32 := Host.absf main_arg3
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  (main_v2, main_v5, main_v8, main_v11)
-- ==== Kernel.lean ====
abbrev S1x8208x2816 : Shape := ⟨3, ![1, 8208, 2816]⟩
abbrev S1x8208x1024 : Shape := ⟨3, ![1, 8208, 1024]⟩
abbrev S31x256 : Shape := ⟨2, ![31, 256]⟩
abbrev S256 : Shape := ⟨1, ![256]⟩
abbrev S256x256 : Shape := ⟨2, ![256, 256]⟩
abbrev S8208x2816 : Shape := ⟨2, ![8208, 2816]⟩
abbrev S_ : Shape := ⟨0, ![]⟩
abbrev S8448x2816 : Shape := ⟨2, ![8448, 2816]⟩
abbrev S8208x1024 : Shape := ⟨2, ![8208, 1024]⟩
abbrev S8448x1024 : Shape := ⟨2, ![8448, 1024]⟩
abbrev S8448x256 : Shape := ⟨2, ![8448, 256]⟩
abbrev S30x256 : Shape := ⟨2, ![30, 256]⟩
abbrev S8478x256 : Shape := ⟨2, ![8478, 256]⟩
abbrev S1x256 : Shape := ⟨2, ![1, 256]⟩
abbrev S32x256 : Shape := ⟨2, ![32, 256]⟩
abbrev S768x256 : Shape := ⟨2, ![768, 256]⟩
abbrev S800x256 : Shape := ⟨2, ![800, 256]⟩
abbrev S768 : Shape := ⟨1, ![768]⟩
abbrev S768x1 : Shape := ⟨2, ![768, 1]⟩

abbrev nBuf : Space → Nat
  | .hbm => 202
  | .vmem => 27
  | .smem => 0
  | _ => 0

abbrev hbmTy0_0 (i : Nat) : BufTy := match i % 128 with
  | 0 => ⟨S1x8208x2816, .f32⟩
  | 1 => ⟨S1x8208x1024, .f32⟩
  | 2 => ⟨S31x256, .f32⟩
  | 3 => ⟨S256, .f32⟩
  | 4 => ⟨S256, .f32⟩
  | 5 => ⟨S256, .f32⟩
  | 6 => ⟨S256x256, .f32⟩
  | 7 => ⟨S8208x2816, .f32⟩
  | 8 => ⟨S_, .i32⟩
  | 9 => ⟨S_, .f32⟩
  | 10 => ⟨S8448x2816, .f32⟩
  | 11 => ⟨S8208x1024, .f32⟩
  | 12 => ⟨S_, .i32⟩
  | 13 => ⟨S_, .f32⟩
  | 14 => ⟨S8448x1024, .f32⟩
  | 15 => ⟨S8448x256, .f32⟩
  | 16 => ⟨S8448x256, .f32⟩
  | 17 => ⟨S8448x256, .f32⟩
  | 18 => ⟨S8448x256, .f32⟩
  | 19 => ⟨S_, .f32⟩
  | 20 => ⟨S8448x256, .f32⟩
  | 21 => ⟨S8448x256, .f32⟩
  | 22 => ⟨S_, .f32⟩
  | 23 => ⟨S8448x256, .f32⟩
  | 24 => ⟨S8448x256, .f32⟩
  | 25 => ⟨S8448x256, .f32⟩
  | 26 => ⟨S_, .f32⟩
  | 27 => ⟨S30x256, .f32⟩
  | 28 => ⟨S8478x256, .f32⟩
  | 29 => ⟨S8448x256, .f32⟩
  | 30 => ⟨S1x256, .f32⟩
  | 31 => ⟨S8448x256, .f32⟩
  | 32 => ⟨S8448x256, .f32⟩
  | 33 => ⟨S_, .f32⟩
  | 34 => ⟨S8448x256, .f32⟩
  | 35 => ⟨S8448x256, .f32⟩
  | 36 => ⟨S8448x256, .f32⟩
  | 37 => ⟨S1x256, .f32⟩
  | 38 => ⟨S8448x256, .f32⟩
  | 39 => ⟨S8448x256, .f32⟩
  | 40 => ⟨S8448x256, .f32⟩
  | 41 => ⟨S8448x256, .f32⟩
  | 42 => ⟨S1x256, .f32⟩
  | 43 => ⟨S8448x256, .f32⟩
  | 44 => ⟨S8448x256, .f32⟩
  | 45 => ⟨S8448x256, .f32⟩
  | 46 => ⟨S8448x256, .f32⟩
  | 47 => ⟨S1x256, .f32⟩
  | 48 => ⟨S8448x256, .f32⟩
  | 49 => ⟨S8448x256, .f32⟩
  | 50 => ⟨S8448x256, .f32⟩
  | 51 => ⟨S8448x256, .f32⟩
  | 52 => ⟨S1x256, .f32⟩
  | 53 => ⟨S8448x256, .f32⟩
  | 54 => ⟨S8448x256, .f32⟩
  | 55 => ⟨S8448x256, .f32⟩
  | 56 => ⟨S8448x256, .f32⟩
  | 57 => ⟨S1x256, .f32⟩
  | 58 => ⟨S8448x256, .f32⟩
  | 59 => ⟨S8448x256, .f32⟩
  | 60 => ⟨S8448x256, .f32⟩
  | 61 => ⟨S8448x256, .f32⟩
  | 62 => ⟨S1x256, .f32⟩
  | 63 => ⟨S8448x256, .f32⟩
  | 64 => ⟨S8448x256, .f32⟩
  | 65 => ⟨S8448x256, .f32⟩
  | 66 => ⟨S8448x256, .f32⟩
  | 67 => ⟨S1x256, .f32⟩
  | 68 => ⟨S8448x256, .f32⟩
  | 69 => ⟨S8448x256, .f32⟩
  | 70 => ⟨S8448x256, .f32⟩
  | 71 => ⟨S8448x256, .f32⟩
  | 72 => ⟨S1x256, .f32⟩
  | 73 => ⟨S8448x256, .f32⟩
  | 74 => ⟨S8448x256, .f32⟩
  | 75 => ⟨S8448x256, .f32⟩
  | 76 => ⟨S8448x256, .f32⟩
  | 77 => ⟨S1x256, .f32⟩
  | 78 => ⟨S8448x256, .f32⟩
  | 79 => ⟨S8448x256, .f32⟩
  | 80 => ⟨S8448x256, .f32⟩
  | 81 => ⟨S8448x256, .f32⟩
  | 82 => ⟨S1x256, .f32⟩
  | 83 => ⟨S8448x256, .f32⟩
  | 84 => ⟨S8448x256, .f32⟩
  | 85 => ⟨S8448x256, .f32⟩
  | 86 => ⟨S8448x256, .f32⟩
  | 87 => ⟨S1x256, .f32⟩
  | 88 => ⟨S8448x256, .f32⟩
  | 89 => ⟨S8448x256, .f32⟩
  | 90 => ⟨S8448x256, .f32⟩
  | 91 => ⟨S8448x256, .f32⟩
  | 92 => ⟨S1x256, .f32⟩
  | 93 => ⟨S8448x256, .f32⟩
  | 94 => ⟨S8448x256, .f32⟩
  | 95 => ⟨S8448x256, .f32⟩
  | 96 => ⟨S8448x256, .f32⟩
  | 97 => ⟨S1x256, .f32⟩
  | 98 => ⟨S8448x256, .f32⟩
  | 99 => ⟨S8448x256, .f32⟩
  | 100 => ⟨S8448x256, .f32⟩
  | 101 => ⟨S8448x256, .f32⟩
  | 102 => ⟨S1x256, .f32⟩
  | 103 => ⟨S8448x256, .f32⟩
  | 104 => ⟨S8448x256, .f32⟩
  | 105 => ⟨S8448x256, .f32⟩
  | 106 => ⟨S8448x256, .f32⟩
  | 107 => ⟨S1x256, .f32⟩
  | 108 => ⟨S8448x256, .f32⟩
  | 109 => ⟨S8448x256, .f32⟩
  | 110 => ⟨S8448x256, .f32⟩
  | 111 => ⟨S8448x256, .f32⟩
  | 112 => ⟨S1x256, .f32⟩
  | 113 => ⟨S8448x256, .f32⟩
  | 114 => ⟨S8448x256, .f32⟩
  | 115 => ⟨S8448x256, .f32⟩
  | 116 => ⟨S8448x256, .f32⟩
  | 117 => ⟨S1x256, .f32⟩
  | 118 => ⟨S8448x256, .f32⟩
  | 119 => ⟨S8448x256, .f32⟩
  | 120 => ⟨S8448x256, .f32⟩
  | 121 => ⟨S8448x256, .f32⟩
  | 122 => ⟨S1x256, .f32⟩
  | 123 => ⟨S8448x256, .f32⟩
  | 124 => ⟨S8448x256, .f32⟩
  | 125 => ⟨S8448x256, .f32⟩
  | 126 => ⟨S8448x256, .f32⟩
  | 127 => ⟨S1x256, .f32⟩
  | _ => ⟨S1x8208x2816, .f32⟩

abbrev hbmTy0_1 (i : Nat) : BufTy := match i % 128 with
  | 0 => ⟨S8448x256, .f32⟩
  | 1 => ⟨S8448x256, .f32⟩
  | 2 => ⟨S8448x256, .f32⟩
  | 3 => ⟨S8448x256, .f32⟩
  | 4 => ⟨S1x256, .f32⟩
  | 5 => ⟨S8448x256, .f32⟩
  | 6 => ⟨S8448x256, .f32⟩
  | 7 => ⟨S8448x256, .f32⟩
  | 8 => ⟨S8448x256, .f32⟩
  | 9 => ⟨S1x256, .f32⟩
  | 10 => ⟨S8448x256, .f32⟩
  | 11 => ⟨S8448x256, .f32⟩
  | 12 => ⟨S8448x256, .f32⟩
  | 13 => ⟨S8448x256, .f32⟩
  | 14 => ⟨S1x256, .f32⟩
  | 15 => ⟨S8448x256, .f32⟩
  | 16 => ⟨S8448x256, .f32⟩
  | 17 => ⟨S8448x256, .f32⟩
  | 18 => ⟨S8448x256, .f32⟩
  | 19 => ⟨S1x256, .f32⟩
  | 20 => ⟨S8448x256, .f32⟩
  | 21 => ⟨S8448x256, .f32⟩
  | 22 => ⟨S8448x256, .f32⟩
  | 23 => ⟨S8448x256, .f32⟩
  | 24 => ⟨S1x256, .f32⟩
  | 25 => ⟨S8448x256, .f32⟩
  | 26 => ⟨S8448x256, .f32⟩
  | 27 => ⟨S8448x256, .f32⟩
  | 28 => ⟨S8448x256, .f32⟩
  | 29 => ⟨S1x256, .f32⟩
  | 30 => ⟨S8448x256, .f32⟩
  | 31 => ⟨S8448x256, .f32⟩
  | 32 => ⟨S8448x256, .f32⟩
  | 33 => ⟨S8448x256, .f32⟩
  | 34 => ⟨S1x256, .f32⟩
  | 35 => ⟨S8448x256, .f32⟩
  | 36 => ⟨S8448x256, .f32⟩
  | 37 => ⟨S8448x256, .f32⟩
  | 38 => ⟨S8448x256, .f32⟩
  | 39 => ⟨S1x256, .f32⟩
  | 40 => ⟨S8448x256, .f32⟩
  | 41 => ⟨S8448x256, .f32⟩
  | 42 => ⟨S8448x256, .f32⟩
  | 43 => ⟨S8448x256, .f32⟩
  | 44 => ⟨S1x256, .f32⟩
  | 45 => ⟨S8448x256, .f32⟩
  | 46 => ⟨S8448x256, .f32⟩
  | 47 => ⟨S8448x256, .f32⟩
  | 48 => ⟨S8448x256, .f32⟩
  | 49 => ⟨S1x256, .f32⟩
  | 50 => ⟨S8448x256, .f32⟩
  | 51 => ⟨S8448x256, .f32⟩
  | 52 => ⟨S8448x256, .f32⟩
  | 53 => ⟨S8448x256, .f32⟩
  | 54 => ⟨S1x256, .f32⟩
  | 55 => ⟨S8448x256, .f32⟩
  | 56 => ⟨S8448x256, .f32⟩
  | 57 => ⟨S8448x256, .f32⟩
  | 58 => ⟨S1x256, .f32⟩
  | 59 => ⟨S8448x256, .f32⟩
  | 60 => ⟨S8448x256, .f32⟩
  | 61 => ⟨S_, .i32⟩
  | 62 => ⟨S_, .f32⟩
  | 63 => ⟨S32x256, .f32⟩
  | 64 => ⟨S1x256, .f32⟩
  | 65 => ⟨S1x256, .f32⟩
  | 66 => ⟨S256x256, .bf16⟩
  | 67 => ⟨S8448x256, .bf16⟩
  | 68 => ⟨S8448x256, .bf16⟩
  | 69 => ⟨S32x256, .f32⟩
  | 70 => ⟨S1x256, .f32⟩
  | 71 => ⟨S1x256, .f32⟩
  | 72 => ⟨S1x256, .f32⟩
  | 73 => ⟨S256x256, .f32⟩
  | _ => ⟨S1x8208x2816, .f32⟩

abbrev hbmTy (i : Nat) : BufTy := match i / 128 with
  | 0 => hbmTy0_0 i
  | 1 => hbmTy0_1 i
  | _ => ⟨S1x8208x2816, .f32⟩

abbrev bufTy : (tb : Table) → Fin (tcTables nBuf tb) → BufTy
  | .hbm, ⟨i, _⟩ => hbmTy i
  | .local _ .vmem, ⟨0, _⟩ => ⟨S768x256, .f32⟩
  | .local _ .vmem, ⟨1, _⟩ => ⟨S768x256, .f32⟩
  | .local _ .vmem, ⟨2, _⟩ => ⟨S768x256, .f32⟩
  | .local _ .vmem, ⟨3, _⟩ => ⟨S768x256, .f32⟩
  | .local _ .vmem, ⟨4, _⟩ => ⟨S32x256, .f32⟩
  | .local _ .vmem, ⟨5, _⟩ => ⟨S32x256, .f32⟩
  | .local _ .vmem, ⟨6, _⟩ => ⟨S32x256, .f32⟩
  | .local _ .vmem, ⟨7, _⟩ => ⟨S32x256, .f32⟩
  | .local _ .vmem, ⟨8, _⟩ => ⟨S768x256, .f32⟩
  | .local _ .vmem, ⟨9, _⟩ => ⟨S768x256, .f32⟩
  | .local _ .vmem, ⟨10, _⟩ => ⟨S768x256, .f32⟩
  | .local _ .vmem, ⟨11, _⟩ => ⟨S768x256, .f32⟩
  | .local _ .vmem, ⟨12, _⟩ => ⟨S32x256, .f32⟩
  | .local _ .vmem, ⟨13, _⟩ => ⟨S1x256, .f32⟩
  | .local _ .vmem, ⟨14, _⟩ => ⟨S1x256, .f32⟩
  | .local _ .vmem, ⟨15, _⟩ => ⟨S256x256, .bf16⟩
  | .local _ .vmem, ⟨16, _⟩ => ⟨S768x256, .bf16⟩
  | .local _ .vmem, ⟨17, _⟩ => ⟨S768x256, .bf16⟩
  | .local _ .vmem, ⟨18, _⟩ => ⟨S768x256, .bf16⟩
  | .local _ .vmem, ⟨19, _⟩ => ⟨S768x256, .bf16⟩
  | .local _ .vmem, ⟨20, _⟩ => ⟨S32x256, .f32⟩
  | .local _ .vmem, ⟨21, _⟩ => ⟨S1x256, .f32⟩
  | .local _ .vmem, ⟨22, _⟩ => ⟨S1x256, .f32⟩
  | .local _ .vmem, ⟨23, _⟩ => ⟨S1x256, .f32⟩
  | .local _ .vmem, ⟨24, _⟩ => ⟨S256x256, .f32⟩
  | .local _ .vmem, ⟨25, _⟩ => ⟨S800x256, .f32⟩
  | .local _ .vmem, ⟨26, _⟩ => ⟨S800x256, .f32⟩
  | _, _ => ⟨S1x8208x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_call0_v0 : Ref sig .tc := ⟨.hbm, 9, rfl⟩
abbrev main_v1 : Ref sig .tc := ⟨.hbm, 10, rfl⟩
abbrev main_v2 : Ref sig .tc := ⟨.hbm, 11, rfl⟩
abbrev main_c_0 : Ref sig .tc := ⟨.hbm, 12, rfl⟩
abbrev main_call1_v0 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst : Ref sig .tc := ⟨.hbm, 19, rfl⟩
abbrev main_v8 : Ref sig .tc := ⟨.hbm, 20, rfl⟩
abbrev main_v9 : Ref sig .tc := ⟨.hbm, 21, rfl⟩
abbrev main_cst_1 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_cst_2 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_cst_3 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_v71 : Ref sig .tc := ⟨.hbm, 86, rfl⟩
abbrev main_v72 : Ref sig .tc := ⟨.hbm, 87, rfl⟩
abbrev main_v73 : Ref sig .tc := ⟨.hbm, 88, rfl⟩
abbrev main_v74 : Ref sig .tc := ⟨.hbm, 89, rfl⟩
abbrev main_v75 : Ref sig .tc := ⟨.hbm, 90, rfl⟩
abbrev main_v76 : Ref sig .tc := ⟨.hbm, 91, rfl⟩
abbrev main_v77 : Ref sig .tc := ⟨.hbm, 92, rfl⟩
abbrev main_v78 : Ref sig .tc := ⟨.hbm, 93, rfl⟩
abbrev main_v79 : Ref sig .tc := ⟨.hbm, 94, rfl⟩
abbrev main_v80 : Ref sig .tc := ⟨.hbm, 95, rfl⟩
abbrev main_v81 : Ref sig .tc := ⟨.hbm, 96, rfl⟩
abbrev main_v82 : Ref sig .tc := ⟨.hbm, 97, rfl⟩
abbrev main_v83 : Ref sig .tc := ⟨.hbm, 98, rfl⟩
abbrev main_v84 : Ref sig .tc := ⟨.hbm, 99, rfl⟩
abbrev main_v85 : Ref sig .tc := ⟨.hbm, 100, rfl⟩
abbrev main_v86 : Ref sig .tc := ⟨.hbm, 101, rfl⟩
abbrev main_v87 : Ref sig .tc := ⟨.hbm, 102, rfl⟩
abbrev main_v88 : Ref sig .tc := ⟨.hbm, 103, rfl⟩
abbrev main_v89 : Ref sig .tc := ⟨.hbm, 104, rfl⟩
abbrev main_v90 : Ref sig .tc := ⟨.hbm, 105, rfl⟩
abbrev main_v91 : Ref sig .tc := ⟨.hbm, 106, rfl⟩
abbrev main_v92 : Ref sig .tc := ⟨.hbm, 107, rfl⟩
abbrev main_v93 : Ref sig .tc := ⟨.hbm, 108, rfl⟩
abbrev main_v94 : Ref sig .tc := ⟨.hbm, 109, rfl⟩
abbrev main_v95 : Ref sig .tc := ⟨.hbm, 110, rfl⟩
abbrev main_v96 : Ref sig .tc := ⟨.hbm, 111, rfl⟩
abbrev main_v97 : Ref sig .tc := ⟨.hbm, 112, rfl⟩
abbrev main_v98 : Ref sig .tc := ⟨.hbm, 113, rfl⟩
abbrev main_v99 : Ref sig .tc := ⟨.hbm, 114, rfl⟩
abbrev main_v100 : Ref sig .tc := ⟨.hbm, 115, rfl⟩
abbrev main_v101 : Ref sig .tc := ⟨.hbm, 116, rfl⟩
abbrev main_v102 : Ref sig .tc := ⟨.hbm, 117, rfl⟩
abbrev main_v103 : Ref sig .tc := ⟨.hbm, 118, rfl⟩
abbrev main_v104 : Ref sig .tc := ⟨.hbm, 119, rfl⟩
abbrev main_v105 : Ref sig .tc := ⟨.hbm, 120, rfl⟩
abbrev main_v106 : Ref sig .tc := ⟨.hbm, 121, rfl⟩
abbrev main_v107 : Ref sig .tc := ⟨.hbm, 122, rfl⟩
abbrev main_v108 : Ref sig .tc := ⟨.hbm, 123, rfl⟩
abbrev main_v109 : Ref sig .tc := ⟨.hbm, 124, rfl⟩
abbrev main_v110 : Ref sig .tc := ⟨.hbm, 125, rfl⟩
abbrev main_v111 : Ref sig .tc := ⟨.hbm, 126, rfl⟩
abbrev main_v112 : Ref sig .tc := ⟨.hbm, 127, rfl⟩
abbrev main_v113 : Ref sig .tc := ⟨.hbm, 128, rfl⟩
abbrev main_v114 : Ref sig .tc := ⟨.hbm, 129, rfl⟩
abbrev main_v115 : Ref sig .tc := ⟨.hbm, 130, rfl⟩
abbrev main_v116 : Ref sig .tc := ⟨.hbm, 131, rfl⟩
abbrev main_v117 : Ref sig .tc := ⟨.hbm, 132, rfl⟩
abbrev main_v118 : Ref sig .tc := ⟨.hbm, 133, rfl⟩
abbrev main_v119 : Ref sig .tc := ⟨.hbm, 134, rfl⟩
abbrev main_v120 : Ref sig .tc := ⟨.hbm, 135, rfl⟩
abbrev main_v121 : Ref sig .tc := ⟨.hbm, 136, rfl⟩
abbrev main_v122 : Ref sig .tc := ⟨.hbm, 137, rfl⟩
abbrev main_v123 : Ref sig .tc := ⟨.hbm, 138, rfl⟩
abbrev main_v124 : Ref sig .tc := ⟨.hbm, 139, rfl⟩
abbrev main_v125 : Ref sig .tc := ⟨.hbm, 140, rfl⟩
abbrev main_v126 : Ref sig .tc := ⟨.hbm, 141, rfl⟩
abbrev main_v127 : Ref sig .tc := ⟨.hbm, 142, rfl⟩
abbrev main_v128 : Ref sig .tc := ⟨.hbm, 143, rfl⟩
abbrev main_v129 : Ref sig .tc := ⟨.hbm, 144, rfl⟩
abbrev main_v130 : Ref sig .tc := ⟨.hbm, 145, rfl⟩
abbrev main_v131 : Ref sig .tc := ⟨.hbm, 146, rfl⟩
abbrev main_v132 : Ref sig .tc := ⟨.hbm, 147, rfl⟩
abbrev main_v133 : Ref sig .tc := ⟨.hbm, 148, rfl⟩
abbrev main_v134 : Ref sig .tc := ⟨.hbm, 149, rfl⟩
abbrev main_v135 : Ref sig .tc := ⟨.hbm, 150, rfl⟩
abbrev main_v136 : Ref sig .tc := ⟨.hbm, 151, rfl⟩
abbrev main_v137 : Ref sig .tc := ⟨.hbm, 152, rfl⟩
abbrev main_v138 : Ref sig .tc := ⟨.hbm, 153, rfl⟩
abbrev main_v139 : Ref sig .tc := ⟨.hbm, 154, rfl⟩
abbrev main_v140 : Ref sig .tc := ⟨.hbm, 155, rfl⟩
abbrev main_v141 : Ref sig .tc := ⟨.hbm, 156, rfl⟩
abbrev main_v142 : Ref sig .tc := ⟨.hbm, 157, rfl⟩
abbrev main_v143 : Ref sig .tc := ⟨.hbm, 158, rfl⟩
abbrev main_v144 : Ref sig .tc := ⟨.hbm, 159, rfl⟩
abbrev main_v145 : Ref sig .tc := ⟨.hbm, 160, rfl⟩
abbrev main_v146 : Ref sig .tc := ⟨.hbm, 161, rfl⟩
abbrev main_v147 : Ref sig .tc := ⟨.hbm, 162, rfl⟩
abbrev main_v148 : Ref sig .tc := ⟨.hbm, 163, rfl⟩
abbrev main_v149 : Ref sig .tc := ⟨.hbm, 164, rfl⟩
abbrev main_v150 : Ref sig .tc := ⟨.hbm, 165, rfl⟩
abbrev main_v151 : Ref sig .tc := ⟨.hbm, 166, rfl⟩
abbrev main_v152 : Ref sig .tc := ⟨.hbm, 167, rfl⟩
abbrev main_v153 : Ref sig .tc := ⟨.hbm, 168, rfl⟩
abbrev main_v154 : Ref sig .tc := ⟨.hbm, 169, rfl⟩
abbrev main_v155 : Ref sig .tc := ⟨.hbm, 170, rfl⟩
abbrev main_v156 : Ref sig .tc := ⟨.hbm, 171, rfl⟩
abbrev main_v157 : Ref sig .tc := ⟨.hbm, 172, rfl⟩
abbrev main_v158 : Ref sig .tc := ⟨.hbm, 173, rfl⟩
abbrev main_v159 : Ref sig .tc := ⟨.hbm, 174, rfl⟩
abbrev main_v160 : Ref sig .tc := ⟨.hbm, 175, rfl⟩
abbrev main_v161 : Ref sig .tc := ⟨.hbm, 176, rfl⟩
abbrev main_v162 : Ref sig .tc := ⟨.hbm, 177, rfl⟩
abbrev main_v163 : Ref sig .tc := ⟨.hbm, 178, rfl⟩
abbrev main_v164 : Ref sig .tc := ⟨.hbm, 179, rfl⟩
abbrev main_v165 : Ref sig .tc := ⟨.hbm, 180, rfl⟩
abbrev main_v166 : Ref sig .tc := ⟨.hbm, 181, rfl⟩
abbrev main_v167 : Ref sig .tc := ⟨.hbm, 182, rfl⟩
abbrev main_v168 : Ref sig .tc := ⟨.hbm, 183, rfl⟩
abbrev main_v169 : Ref sig .tc := ⟨.hbm, 184, rfl⟩
abbrev main_v170 : Ref sig .tc := ⟨.hbm, 185, rfl⟩
abbrev main_v171 : Ref sig .tc := ⟨.hbm, 186, rfl⟩
abbrev main_v172 : Ref sig .tc := ⟨.hbm, 187, rfl⟩
abbrev main_v173 : Ref sig .tc := ⟨.hbm, 188, rfl⟩
abbrev main_c_4 : Ref sig .tc := ⟨.hbm, 189, rfl⟩
abbrev main_call2_v0 : Ref sig .tc := ⟨.hbm, 190, rfl⟩
abbrev main_v174 : Ref sig .tc := ⟨.hbm, 191, rfl⟩
abbrev main_v175 : Ref sig .tc := ⟨.hbm, 192, rfl⟩
abbrev main_v176 : Ref sig .tc := ⟨.hbm, 193, rfl⟩
abbrev main_v177 : Ref sig .tc := ⟨.hbm, 194, rfl⟩
abbrev main_v178_0 : Ref sig .tc := ⟨.hbm, 195, rfl⟩
abbrev main_v178_1 : Ref sig .tc := ⟨.hbm, 196, rfl⟩
abbrev main_v178_2 : Ref sig .tc := ⟨.hbm, 197, rfl⟩
abbrev main_v178_3 : Ref sig .tc := ⟨.hbm, 198, rfl⟩
abbrev main_v178_4 : Ref sig .tc := ⟨.hbm, 199, rfl⟩
abbrev main_v178_5 : Ref sig .tc := ⟨.hbm, 200, rfl⟩
abbrev main_v178_6 : Ref sig .tc := ⟨.hbm, 201, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg13_0 : Ref sig .tc := ⟨.vmem, 21, rfl⟩
abbrev cc0_stg14_0 : Ref sig .tc := ⟨.vmem, 22, rfl⟩
abbrev cc0_stg15_0 : Ref sig .tc := ⟨.vmem, 23, rfl⟩
abbrev cc0_stg16_0 : Ref sig .tc := ⟨.vmem, 24, rfl⟩
abbrev cc0_scratch0 : Ref sig .tc := ⟨.vmem, 25, rfl⟩
abbrev cc0_scratch1 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem13_0 : DmaSem sig := 21
abbrev cc0_sem14_0 : DmaSem sig := 22
abbrev cc0_sem15_0 : DmaSem sig := 23
abbrev cc0_sem16_0 : DmaSem sig := 24

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c10_i32 : BitVec 32 := 10#32
  let v0 : BitVec 32 := Scalar.subi c10_i32 arg0
  let c1_i32 : BitVec 32 := 1#32
  let c0_i32 : BitVec 32 := 0#32
  ![v0.toNat, c1_i32.toNat]

def cc0_transform_1 (i : grid0.Coords) : Fin 2 → Nat :=
  let arg0 : BitVec 32 := BitVec.ofNat 32 (i 0).val
  let c10_i32 : BitVec 32 := 10#32
  let v0 : BitVec 32 := Scalar.subi c10_i32 arg0
  let c2_i32 : BitVec 32 := 2#32
  let c0_i32 : BitVec 32 := 0#32
  ![v0.toNat, c2_i32.toNat]

def cc0_transform_2 (i : grid0.Coords) : Fin 2 → Nat :=
  let arg0 : BitVec 32 := BitVec.ofNat 32 (i 0).val
  let c10_i32 : BitVec 32 := 10#32
  let v0 : BitVec 32 := Scalar.subi c10_i32 arg0
  let c24_i32 : BitVec 32 := 24#32
  let v1 : BitVec 32 := Scalar.muli v0 c24_i32
  let c1_i32 : BitVec 32 := 1#32
  let v2 : BitVec 32 := Scalar.subi v1 c1_i32
  let c0_i32 : BitVec 32 := 0#32
  let v3 : BitVec 32 := Scalar.maxsi v2 c0_i32
  let c1_i32_0 : BitVec 32 := 1#32
  let c0_i32_1 : BitVec 32 := 0#32
  ![v3.toNat, c1_i32_0.toNat]

def cc0_transform_3 (i : grid0.Coords) : Fin 2 → Nat :=
  let arg0 : BitVec 32 := BitVec.ofNat 32 (i 0).val
  let c10_i32 : BitVec 32 := 10#32
  let v0 : BitVec 32 := Scalar.subi c10_i32 arg0
  let c24_i32 : BitVec 32 := 24#32
  let v1 : BitVec 32 := Scalar.muli v0 c24_i32
  let c1_i32 : BitVec 32 := 1#32
  let v2 : BitVec 32 := Scalar.subi v1 c1_i32
  let c0_i32 : BitVec 32 := 0#32
  let v3 : BitVec 32 := Scalar.maxsi v2 c0_i32
  let c2_i32 : BitVec 32 := 2#32
  let c0_i32_0 : BitVec 32 := 0#32
  ![v3.toNat, c2_i32.toNat]

def cc0_transform_4 (i : grid0.Coords) : Fin 2 → Nat :=
  let arg0 : BitVec 32 := BitVec.ofNat 32 (i 0).val
  let c10_i32 : BitVec 32 := 10#32
  let v0 : BitVec 32 := Scalar.subi c10_i32 arg0
  let c1_i32 : BitVec 32 := 1#32
  let c0_i32 : BitVec 32 := 0#32
  ![v0.toNat, c1_i32.toNat]

def cc0_transform_5 (i : grid0.Coords) : Fin 2 → Nat :=
  let arg0 : BitVec 32 := BitVec.ofNat 32 (i 0).val
  let c10_i32 : BitVec 32 := 10#32
  let v0 : BitVec 32 := Scalar.subi c10_i32 arg0
  let c0_i32 : BitVec 32 := 0#32
  let c0_i32_0 : BitVec 32 := 0#32
  ![v0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c10_i32 : BitVec 32 := 10#32
  let v0 : BitVec 32 := Scalar.subi c10_i32 arg0
  let c0_i32 : BitVec 32 := 0#32
  let c0_i32_0 : BitVec 32 := 0#32
  ![v0.toNat, c0_i32.toNat]

def cc0_transform_11 (i : grid0.Coords) : Fin 2 → Nat :=
  let arg0 : BitVec 32 := BitVec.ofNat 32 (i 0).val
  let c10_i32 : BitVec 32 := 10#32
  let v0 : BitVec 32 := Scalar.subi c10_i32 arg0
  let c0_i32 : BitVec 32 := 0#32
  let c0_i32_0 : BitVec 32 := 0#32
  ![v0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S768x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S768x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S32x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S32x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S768x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S768x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S32x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S256x256 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S768x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S768x256 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S32x256 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x256 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x256 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x256 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S256x256 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]
-- ==== ReferenceIdeal.lean ====
abbrev S1x8208x2816 : Shape := ⟨3, ![1, 8208, 2816]⟩
abbrev S1x8208x1024 : Shape := ⟨3, ![1, 8208, 1024]⟩
abbrev S31x256 : Shape := ⟨2, ![31, 256]⟩
abbrev S256 : Shape := ⟨1, ![256]⟩
abbrev S256x256 : Shape := ⟨2, ![256, 256]⟩
abbrev S1x8208x256 : Shape := ⟨3, ![1, 8208, 256]⟩
abbrev S8208x256 : Shape := ⟨2, ![8208, 256]⟩
abbrev S_ : Shape := ⟨0, ![]⟩
abbrev S30x256 : Shape := ⟨2, ![30, 256]⟩
abbrev S8238x256 : Shape := ⟨2, ![8238, 256]⟩
abbrev S1x256 : Shape := ⟨2, ![1, 256]⟩
abbrev S8208 : Shape := ⟨1, ![8208]⟩
abbrev S8208x1 : Shape := ⟨2, ![8208, 1]⟩
abbrev S8448x256 : Shape := ⟨2, ![8448, 256]⟩
abbrev S32x256 : Shape := ⟨2, ![32, 256]⟩

abbrev nBuf : Space → Nat
  | .hbm => 686
  | .vmem => 0
  | .smem => 0
  | _ => 0

abbrev hbmTy0_0 (i : Nat) : BufTy := match i % 128 with
  | 0 => ⟨S1x8208x2816, .f32⟩
  | 1 => ⟨S1x8208x1024, .f32⟩
  | 2 => ⟨S31x256, .f32⟩
  | 3 => ⟨S256, .f32⟩
  | 4 => ⟨S256, .f32⟩
  | 5 => ⟨S256, .f32⟩
  | 6 => ⟨S256x256, .f32⟩
  | 7 => ⟨S1x8208x256, .f32⟩
  | 8 => ⟨S8208x256, .f32⟩
  | 9 => ⟨S1x8208x256, .f32⟩
  | 10 => ⟨S8208x256, .f32⟩
  | 11 => ⟨S8208x256, .f32⟩
  | 12 => ⟨S8208x256, .f32⟩
  | 13 => ⟨S_, .f32⟩
  | 14 => ⟨S8208x256, .f32⟩
  | 15 => ⟨S8208x256, .f32⟩
  | 16 => ⟨S_, .f32⟩
  | 17 => ⟨S8208x256, .f32⟩
  | 18 => ⟨S8208x256, .f32⟩
  | 19 => ⟨S_, .f32⟩
  | 20 => ⟨S8208x256, .f32⟩
  | 21 => ⟨S8208x256, .f32⟩
  | 22 => ⟨S8208x256, .f32⟩
  | 23 => ⟨S8208x256, .f32⟩
  | 24 => ⟨S_, .f32⟩
  | 25 => ⟨S30x256, .f32⟩
  | 26 => ⟨S8238x256, .f32⟩
  | 27 => ⟨S_, .f32⟩
  | 28 => ⟨S30x256, .f32⟩
  | 29 => ⟨S8208x256, .f32⟩
  | 30 => ⟨S1x256, .f32⟩
  | 31 => ⟨S8208x256, .f32⟩
  | 32 => ⟨S8208x256, .f32⟩
  | 33 => ⟨S_, .f32⟩
  | 34 => ⟨S8208x256, .f32⟩
  | 35 => ⟨S8208x256, .f32⟩
  | 36 => ⟨S8208x256, .f32⟩
  | 37 => ⟨S1x256, .f32⟩
  | 38 => ⟨S8208x256, .f32⟩
  | 39 => ⟨S8208x256, .f32⟩
  | 40 => ⟨S8208x256, .f32⟩
  | 41 => ⟨S8208x256, .f32⟩
  | 42 => ⟨S1x256, .f32⟩
  | 43 => ⟨S8208x256, .f32⟩
  | 44 => ⟨S8208x256, .f32⟩
  | 45 => ⟨S8208x256, .f32⟩
  | 46 => ⟨S8208x256, .f32⟩
  | 47 => ⟨S1x256, .f32⟩
  | 48 => ⟨S8208x256, .f32⟩
  | 49 => ⟨S8208x256, .f32⟩
  | 50 => ⟨S8208x256, .f32⟩
  | 51 => ⟨S8208x256, .f32⟩
  | 52 => ⟨S1x256, .f32⟩
  | 53 => ⟨S8208x256, .f32⟩
  | 54 => ⟨S8208x256, .f32⟩
  | 55 => ⟨S8208x256, .f32⟩
  | 56 => ⟨S8208x256, .f32⟩
  | 57 => ⟨S1x256, .f32⟩
  | 58 => ⟨S8208x256, .f32⟩
  | 59 => ⟨S8208x256, .f32⟩
  | 60 => ⟨S8208x256, .f32⟩
  | 61 => ⟨S8208x256, .f32⟩
  | 62 => ⟨S1x256, .f32⟩
  | 63 => ⟨S8208x256, .f32⟩
  | 64 => ⟨S8208x256, .f32⟩
  | 65 => ⟨S8208x256, .f32⟩
  | 66 => ⟨S8208x256, .f32⟩
  | 67 => ⟨S1x256, .f32⟩
  | 68 => ⟨S8208x256, .f32⟩
  | 69 => ⟨S8208x256, .f32⟩
  | 70 => ⟨S8208x256, .f32⟩
  | 71 => ⟨S8208x256, .f32⟩
  | 72 => ⟨S1x256, .f32⟩
  | 73 => ⟨S8208x256, .f32⟩
  | 74 => ⟨S8208x256, .f32⟩
  | 75 => ⟨S8208x256, .f32⟩
  | 76 => ⟨S8208x256, .f32⟩
  | 77 => ⟨S1x256, .f32⟩
  | 78 => ⟨S8208x256, .f32⟩
  | 79 => ⟨S8208x256, .f32⟩
  | 80 => ⟨S8208x256, .f32⟩
  | 81 => ⟨S8208x256, .f32⟩
  | 82 => ⟨S1x256, .f32⟩
  | 83 => ⟨S8208x256, .f32⟩
  | 84 => ⟨S8208x256, .f32⟩
  | 85 => ⟨S8208x256, .f32⟩
  | 86 => ⟨S8208x256, .f32⟩
  | 87 => ⟨S1x256, .f32⟩
  | 88 => ⟨S8208x256, .f32⟩
  | 89 => ⟨S8208x256, .f32⟩
  | 90 => ⟨S8208x256, .f32⟩
  | 91 => ⟨S8208x256, .f32⟩
  | 92 => ⟨S1x256, .f32⟩
  | 93 => ⟨S8208x256, .f32⟩
  | 94 => ⟨S8208x256, .f32⟩
  | 95 => ⟨S8208x256, .f32⟩
  | 96 => ⟨S8208x256, .f32⟩
  | 97 => ⟨S1x256, .f32⟩
  | 98 => ⟨S8208x256, .f32⟩
  | 99 => ⟨S8208x256, .f32⟩
  | 100 => ⟨S8208x256, .f32⟩
  | 101 => ⟨S8208x256, .f32⟩
  | 102 => ⟨S1x256, .f32⟩
  | 103 => ⟨S8208x256, .f32⟩
  | 104 => ⟨S8208x256, .f32⟩
  | 105 => ⟨S8208x256, .f32⟩
  | 106 => ⟨S8208x256, .f32⟩
  | 107 => ⟨S1x256, .f32⟩
  | 108 => ⟨S8208x256, .f32⟩
  | 109 => ⟨S8208x256, .f32⟩
  | 110 => ⟨S8208x256, .f32⟩
  | 111 => ⟨S8208x256, .f32⟩
  | 112 => ⟨S1x256, .f32⟩
  | 113 => ⟨S8208x256, .f32⟩
  | 114 => ⟨S8208x256, .f32⟩
  | 115 => ⟨S8208x256, .f32⟩
  | 116 => ⟨S8208x256, .f32⟩
  | 117 => ⟨S1x256, .f32⟩
  | 118 => ⟨S8208x256, .f32⟩
  | 119 => ⟨S8208x256, .f32⟩
  | 120 => ⟨S8208x256, .f32⟩
  | 121 => ⟨S8208x256, .f32⟩
  | 122 => ⟨S1x256, .f32⟩
  | 123 => ⟨S8208x256, .f32⟩
  | 124 => ⟨S8208x256, .f32⟩
  | 125 => ⟨S8208x256, .f32⟩
  | 126 => ⟨S8208x256, .f32⟩
  | 127 => ⟨S1x256, .f32⟩
  | _ => ⟨S1x8208x2816, .f32⟩

abbrev hbmTy0_1 (i : Nat) : BufTy := match i % 128 with
  | 0 => ⟨S8208x256, .f32⟩
  | 1 => ⟨S8208x256, .f32⟩
  | 2 => ⟨S8208x256, .f32⟩
  | 3 => ⟨S8208x256, .f32⟩
  | 4 => ⟨S1x256, .f32⟩
  | 5 => ⟨S8208x256, .f32⟩
  | 6 => ⟨S8208x256, .f32⟩
  | 7 => ⟨S8208x256, .f32⟩
  | 8 => ⟨S8208x256, .f32⟩
  | 9 => ⟨S1x256, .f32⟩
  | 10 => ⟨S8208x256, .f32⟩
  | 11 => ⟨S8208x256, .f32⟩
  | 12 => ⟨S8208x256, .f32⟩
  | 13 => ⟨S8208x256, .f32⟩
  | 14 => ⟨S1x256, .f32⟩
  | 15 => ⟨S8208x256, .f32⟩
  | 16 => ⟨S8208x256, .f32⟩
  | 17 => ⟨S8208x256, .f32⟩
  | 18 => ⟨S8208x256, .f32⟩
  | 19 => ⟨S1x256, .f32⟩
  | 20 => ⟨S8208x256, .f32⟩
  | 21 => ⟨S8208x256, .f32⟩
  | 22 => ⟨S8208x256, .f32⟩
  | 23 => ⟨S8208x256, .f32⟩
  | 24 => ⟨S1x256, .f32⟩
  | 25 => ⟨S8208x256, .f32⟩
  | 26 => ⟨S8208x256, .f32⟩
  | 27 => ⟨S8208x256, .f32⟩
  | 28 => ⟨S8208x256, .f32⟩
  | 29 => ⟨S1x256, .f32⟩
  | 30 => ⟨S8208x256, .f32⟩
  | 31 => ⟨S8208x256, .f32⟩
  | 32 => ⟨S8208x256, .f32⟩
  | 33 => ⟨S8208x256, .f32⟩
  | 34 => ⟨S1x256, .f32⟩
  | 35 => ⟨S8208x256, .f32⟩
  | 36 => ⟨S8208x256, .f32⟩
  | 37 => ⟨S8208x256, .f32⟩
  | 38 => ⟨S8208x256, .f32⟩
  | 39 => ⟨S1x256, .f32⟩
  | 40 => ⟨S8208x256, .f32⟩
  | 41 => ⟨S8208x256, .f32⟩
  | 42 => ⟨S8208x256, .f32⟩
  | 43 => ⟨S8208x256, .f32⟩
  | 44 => ⟨S1x256, .f32⟩
  | 45 => ⟨S8208x256, .f32⟩
  | 46 => ⟨S8208x256, .f32⟩
  | 47 => ⟨S8208x256, .f32⟩
  | 48 => ⟨S8208x256, .f32⟩
  | 49 => ⟨S1x256, .f32⟩
  | 50 => ⟨S8208x256, .f32⟩
  | 51 => ⟨S8208x256, .f32⟩
  | 52 => ⟨S8208x256, .f32⟩
  | 53 => ⟨S8208x256, .f32⟩
  | 54 => ⟨S1x256, .f32⟩
  | 55 => ⟨S8208x256, .f32⟩
  | 56 => ⟨S8208x256, .f32⟩
  | 57 => ⟨S8208x256, .f32⟩
  | 58 => ⟨S1x256, .f32⟩
  | 59 => ⟨S8208x256, .f32⟩
  | 60 => ⟨S8208x256, .f32⟩
  | 61 => ⟨S_, .f32⟩
  | 62 => ⟨S8208, .f32⟩
  | 63 => ⟨S8208x1, .f32⟩
  | 64 => ⟨S_, .f32⟩
  | 65 => ⟨S8208x1, .f32⟩
  | 66 => ⟨S8208x1, .f32⟩
  | 67 => ⟨S8208x256, .f32⟩
  | 68 => ⟨S8208x256, .f32⟩
  | 69 => ⟨S8208x256, .f32⟩
  | 70 => ⟨S_, .f32⟩
  | 71 => ⟨S8208x256, .f32⟩
  | 72 => ⟨S8208x256, .f32⟩
  | 73 => ⟨S_, .f32⟩
  | 74 => ⟨S8208, .f32⟩
  | 75 => ⟨S8208x1, .f32⟩
  | 76 => ⟨S_, .f32⟩
  | 77 => ⟨S8208x1, .f32⟩
  | 78 => ⟨S8208x1, .f32⟩
  | 79 => ⟨S8208x256, .f32⟩
  | 80 => ⟨S8208x256, .f32⟩
  | 81 => ⟨S_, .f32⟩
  | 82 => ⟨S8208x1, .f32⟩
  | 83 => ⟨S8208x1, .f32⟩
  | 84 => ⟨S8208x1, .f32⟩
  | 85 => ⟨S8208x1, .f32⟩
  | 86 => ⟨S_, .f32⟩
  | 87 => ⟨S8208x1, .f32⟩
  | 88 => ⟨S8208x1, .f32⟩
  | 89 => ⟨S8208x256, .f32⟩
  | 90 => ⟨S8208x256, .f32⟩
  | 91 => ⟨S1x256, .f32⟩
  | 92 => ⟨S8208x256, .f32⟩
  | 93 => ⟨S8208x256, .f32⟩
  | 94 => ⟨S1x256, .f32⟩
  | 95 => ⟨S8208x256, .f32⟩
  | 96 => ⟨S8208x256, .f32⟩
  | 97 => ⟨S8208x256, .f32⟩
  | 98 => ⟨S8208x256, .f32⟩
  | 99 => ⟨S_, .f32⟩
  | 100 => ⟨S8208x256, .f32⟩
  | 101 => ⟨S8208x256, .f32⟩
  | 102 => ⟨S_, .f32⟩
  | 103 => ⟨S8208x256, .f32⟩
  | 104 => ⟨S8208x256, .f32⟩
  | 105 => ⟨S_, .f32⟩
  | 106 => ⟨S8208x256, .f32⟩
  | 107 => ⟨S8208x256, .f32⟩
  | 108 => ⟨S8208x256, .f32⟩
  | 109 => ⟨S8208x256, .f32⟩
  | 110 => ⟨S8208x256, .f32⟩
  | 111 => ⟨S1x8208x256, .f32⟩
  | 112 => ⟨S8208x256, .f32⟩
  | 113 => ⟨S256x256, .f32⟩
  | 114 => ⟨S256x256, .f32⟩
  | 115 => ⟨S8208x256, .f32⟩
  | 116 => ⟨S8208x256, .f32⟩
  | 117 => ⟨S8208x256, .f32⟩
  | 118 => ⟨S8208x256, .f32⟩
  | 119 => ⟨S8208x256, .f32⟩
  | 120 => ⟨S_, .f32⟩
  | 121 => ⟨S256, .f32⟩
  | 122 => ⟨S1x256, .f32⟩
  | 123 => ⟨S_, .f32⟩
  | 124 => ⟨S256, .f32⟩
  | 125 => ⟨S8208x256, .f32⟩
  | 126 => ⟨S_, .f32⟩
  | 127 => ⟨S256, .f32⟩
  | _ => ⟨S1x8208x2816, .f32⟩

abbrev hbmTy0_2 (i : Nat) : BufTy := match i % 128 with
  | 0 => ⟨S1x256, .f32⟩
  | 1 => ⟨S8208x256, .f32⟩
  | 2 => ⟨S8208x256, .f32⟩
  | 3 => ⟨S_, .f32⟩
  | 4 => ⟨S256, .f32⟩
  | 5 => ⟨S8208x256, .f32⟩
  | 6 => ⟨S_, .f32⟩
  | 7 => ⟨S8208, .f32⟩
  | 8 => ⟨S8208x1, .f32⟩
  | 9 => ⟨S8208x256, .f32⟩
  | 10 => ⟨S8208x256, .f32⟩
  | 11 => ⟨S8208x1, .f32⟩
  | 12 => ⟨S8208x256, .f32⟩
  | 13 => ⟨S_, .f32⟩
  | 14 => ⟨S8208, .f32⟩
  | 15 => ⟨S8208x1, .f32⟩
  | 16 => ⟨S_, .f32⟩
  | 17 => ⟨S8208x1, .f32⟩
  | 18 => ⟨S8208x1, .f32⟩
  | 19 => ⟨S_, .f32⟩
  | 20 => ⟨S8208, .f32⟩
  | 21 => ⟨S8208x256, .f32⟩
  | 22 => ⟨S8208x256, .f32⟩
  | 23 => ⟨S8208x256, .f32⟩
  | 24 => ⟨S_, .f32⟩
  | 25 => ⟨S8208, .f32⟩
  | 26 => ⟨S8208x1, .f32⟩
  | 27 => ⟨S8208x256, .f32⟩
  | 28 => ⟨S8208x1, .f32⟩
  | 29 => ⟨S_, .f32⟩
  | 30 => ⟨S8208x1, .f32⟩
  | 31 => ⟨S8208x1, .f32⟩
  | 32 => ⟨S_, .f32⟩
  | 33 => ⟨S8208, .f32⟩
  | 34 => ⟨S8208x256, .f32⟩
  | 35 => ⟨S8208x256, .f32⟩
  | 36 => ⟨S_, .f32⟩
  | 37 => ⟨S256, .f32⟩
  | 38 => ⟨S1x256, .f32⟩
  | 39 => ⟨S_, .f32⟩
  | 40 => ⟨S256, .f32⟩
  | 41 => ⟨S8208x256, .f32⟩
  | 42 => ⟨S_, .f32⟩
  | 43 => ⟨S256, .f32⟩
  | 44 => ⟨S1x256, .f32⟩
  | 45 => ⟨S8208x256, .f32⟩
  | 46 => ⟨S8208x256, .f32⟩
  | 47 => ⟨S_, .f32⟩
  | 48 => ⟨S31x256, .f32⟩
  | 49 => ⟨S_, .f32⟩
  | 50 => ⟨S8238x256, .f32⟩
  | 51 => ⟨S8208x256, .f32⟩
  | 52 => ⟨S_, .f32⟩
  | 53 => ⟨S256, .f32⟩
  | 54 => ⟨S1x256, .f32⟩
  | 55 => ⟨S8208x256, .f32⟩
  | 56 => ⟨S8208x256, .f32⟩
  | 57 => ⟨S_, .f32⟩
  | 58 => ⟨S31x256, .f32⟩
  | 59 => ⟨S31x256, .f32⟩
  | 60 => ⟨S_, .f32⟩
  | 61 => ⟨S8238x256, .f32⟩
  | 62 => ⟨S8238x256, .f32⟩
  | 63 => ⟨S8208x256, .f32⟩
  | 64 => ⟨S_, .f32⟩
  | 65 => ⟨S256, .f32⟩
  | 66 => ⟨S1x256, .f32⟩
  | 67 => ⟨S8208x256, .f32⟩
  | 68 => ⟨S8208x256, .f32⟩
  | 69 => ⟨S_, .f32⟩
  | 70 => ⟨S31x256, .f32⟩
  | 71 => ⟨S31x256, .f32⟩
  | 72 => ⟨S_, .f32⟩
  | 73 => ⟨S8238x256, .f32⟩
  | 74 => ⟨S8238x256, .f32⟩
  | 75 => ⟨S8208x256, .f32⟩
  | 76 => ⟨S_, .f32⟩
  | 77 => ⟨S256, .f32⟩
  | 78 => ⟨S1x256, .f32⟩
  | 79 => ⟨S8208x256, .f32⟩
  | 80 => ⟨S8208x256, .f32⟩
  | 81 => ⟨S_, .f32⟩
  | 82 => ⟨S31x256, .f32⟩
  | 83 => ⟨S31x256, .f32⟩
  | 84 => ⟨S_, .f32⟩
  | 85 => ⟨S8238x256, .f32⟩
  | 86 => ⟨S8238x256, .f32⟩
  | 87 => ⟨S8208x256, .f32⟩
  | 88 => ⟨S_, .f32⟩
  | 89 => ⟨S256, .f32⟩
  | 90 => ⟨S1x256, .f32⟩
  | 91 => ⟨S8208x256, .f32⟩
  | 92 => ⟨S8208x256, .f32⟩
  | 93 => ⟨S_, .f32⟩
  | 94 => ⟨S31x256, .f32⟩
  | 95 => ⟨S31x256, .f32⟩
  | 96 => ⟨S_, .f32⟩
  | 97 => ⟨S8238x256, .f32⟩
  | 98 => ⟨S8238x256, .f32⟩
  | 99 => ⟨S8208x256, .f32⟩
  | 100 => ⟨S_, .f32⟩
  | 101 => ⟨S256, .f32⟩
  | 102 => ⟨S1x256, .f32⟩
  | 103 => ⟨S8208x256, .f32⟩
  | 104 => ⟨S8208x256, .f32⟩
  | 105 => ⟨S_, .f32⟩
  | 106 => ⟨S31x256, .f32⟩
  | 107 => ⟨S31x256, .f32⟩
  | 108 => ⟨S_, .f32⟩
  | 109 => ⟨S8238x256, .f32⟩
  | 110 => ⟨S8238x256, .f32⟩
  | 111 => ⟨S8208x256, .f32⟩
  | 112 => ⟨S_, .f32⟩
  | 113 => ⟨S256, .f32⟩
  | 114 => ⟨S1x256, .f32⟩
  | 115 => ⟨S8208x256, .f32⟩
  | 116 => ⟨S8208x256, .f32⟩
  | 117 => ⟨S_, .f32⟩
  | 118 => ⟨S31x256, .f32⟩
  | 119 => ⟨S31x256, .f32⟩
  | 120 => ⟨S_, .f32⟩
  | 121 => ⟨S8238x256, .f32⟩
  | 122 => ⟨S8238x256, .f32⟩
  | 123 => ⟨S8208x256, .f32⟩
  | 124 => ⟨S_, .f32⟩
  | 125 => ⟨S256, .f32⟩
  | 126 => ⟨S1x256, .f32⟩
  | 127 => ⟨S8208x256, .f32⟩
  | _ => ⟨S1x8208x2816, .f32⟩

abbrev hbmTy0_3 (i : Nat) : BufTy := match i % 128 with
  | 0 => ⟨S8208x256, .f32⟩
  | 1 => ⟨S_, .f32⟩
  | 2 => ⟨S31x256, .f32⟩
  | 3 => ⟨S31x256, .f32⟩
  | 4 => ⟨S_, .f32⟩
  | 5 => ⟨S8238x256, .f32⟩
  | 6 => ⟨S8238x256, .f32⟩
  | 7 => ⟨S8208x256, .f32⟩
  | 8 => ⟨S_, .f32⟩
  | 9 => ⟨S256, .f32⟩
  | 10 => ⟨S1x256, .f32⟩
  | 11 => ⟨S8208x256, .f32⟩
  | 12 => ⟨S8208x256, .f32⟩
  | 13 => ⟨S_, .f32⟩
  | 14 => ⟨S31x256, .f32⟩
  | 15 => ⟨S31x256, .f32⟩
  | 16 => ⟨S_, .f32⟩
  | 17 => ⟨S8238x256, .f32⟩
  | 18 => ⟨S8238x256, .f32⟩
  | 19 => ⟨S8208x256, .f32⟩
  | 20 => ⟨S_, .f32⟩
  | 21 => ⟨S256, .f32⟩
  | 22 => ⟨S1x256, .f32⟩
  | 23 => ⟨S8208x256, .f32⟩
  | 24 => ⟨S8208x256, .f32⟩
  | 25 => ⟨S_, .f32⟩
  | 26 => ⟨S31x256, .f32⟩
  | 27 => ⟨S31x256, .f32⟩
  | 28 => ⟨S_, .f32⟩
  | 29 => ⟨S8238x256, .f32⟩
  | 30 => ⟨S8238x256, .f32⟩
  | 31 => ⟨S8208x256, .f32⟩
  | 32 => ⟨S_, .f32⟩
  | 33 => ⟨S256, .f32⟩
  | 34 => ⟨S1x256, .f32⟩
  | 35 => ⟨S8208x256, .f32⟩
  | 36 => ⟨S8208x256, .f32⟩
  | 37 => ⟨S_, .f32⟩
  | 38 => ⟨S31x256, .f32⟩
  | 39 => ⟨S31x256, .f32⟩
  | 40 => ⟨S_, .f32⟩
  | 41 => ⟨S8238x256, .f32⟩
  | 42 => ⟨S8238x256, .f32⟩
  | 43 => ⟨S8208x256, .f32⟩
  | 44 => ⟨S_, .f32⟩
  | 45 => ⟨S256, .f32⟩
  | 46 => ⟨S1x256, .f32⟩
  | 47 => ⟨S8208x256, .f32⟩
  | 48 => ⟨S8208x256, .f32⟩
  | 49 => ⟨S_, .f32⟩
  | 50 => ⟨S31x256, .f32⟩
  | 51 => ⟨S31x256, .f32⟩
  | 52 => ⟨S_, .f32⟩
  | 53 => ⟨S8238x256, .f32⟩
  | 54 => ⟨S8238x256, .f32⟩
  | 55 => ⟨S8208x256, .f32⟩
  | 56 => ⟨S_, .f32⟩
  | 57 => ⟨S256, .f32⟩
  | 58 => ⟨S1x256, .f32⟩
  | 59 => ⟨S8208x256, .f32⟩
  | 60 => ⟨S8208x256, .f32⟩
  | 61 => ⟨S_, .f32⟩
  | 62 => ⟨S31x256, .f32⟩
  | 63 => ⟨S31x256, .f32⟩
  | 64 => ⟨S_, .f32⟩
  | 65 => ⟨S8238x256, .f32⟩
  | 66 => ⟨S8238x256, .f32⟩
  | 67 => ⟨S8208x256, .f32⟩
  | 68 => ⟨S_, .f32⟩
  | 69 => ⟨S256, .f32⟩
  | 70 => ⟨S1x256, .f32⟩
  | 71 => ⟨S8208x256, .f32⟩
  | 72 => ⟨S8208x256, .f32⟩
  | 73 => ⟨S_, .f32⟩
  | 74 => ⟨S31x256, .f32⟩
  | 75 => ⟨S31x256, .f32⟩
  | 76 => ⟨S_, .f32⟩
  | 77 => ⟨S8238x256, .f32⟩
  | 78 => ⟨S8238x256, .f32⟩
  | 79 => ⟨S8208x256, .f32⟩
  | 80 => ⟨S_, .f32⟩
  | 81 => ⟨S256, .f32⟩
  | 82 => ⟨S1x256, .f32⟩
  | 83 => ⟨S8208x256, .f32⟩
  | 84 => ⟨S8208x256, .f32⟩
  | 85 => ⟨S_, .f32⟩
  | 86 => ⟨S31x256, .f32⟩
  | 87 => ⟨S31x256, .f32⟩
  | 88 => ⟨S_, .f32⟩
  | 89 => ⟨S8238x256, .f32⟩
  | 90 => ⟨S8238x256, .f32⟩
  | 91 => ⟨S8208x256, .f32⟩
  | 92 => ⟨S_, .f32⟩
  | 93 => ⟨S256, .f32⟩
  | 94 => ⟨S1x256, .f32⟩
  | 95 => ⟨S8208x256, .f32⟩
  | 96 => ⟨S8208x256, .f32⟩
  | 97 => ⟨S_, .f32⟩
  | 98 => ⟨S31x256, .f32⟩
  | 99 => ⟨S31x256, .f32⟩
  | 100 => ⟨S_, .f32⟩
  | 101 => ⟨S8238x256, .f32⟩
  | 102 => ⟨S8238x256, .f32⟩
  | 103 => ⟨S8208x256, .f32⟩
  | 104 => ⟨S_, .f32⟩
  | 105 => ⟨S256, .f32⟩
  | 106 => ⟨S1x256, .f32⟩
  | 107 => ⟨S8208x256, .f32⟩
  | 108 => ⟨S8208x256, .f32⟩
  | 109 => ⟨S_, .f32⟩
  | 110 => ⟨S31x256, .f32⟩
  | 111 => ⟨S31x256, .f32⟩
  | 112 => ⟨S_, .f32⟩
  | 113 => ⟨S8238x256, .f32⟩
  | 114 => ⟨S8238x256, .f32⟩
  | 115 => ⟨S8208x256, .f32⟩
  | 116 => ⟨S_, .f32⟩
  | 117 => ⟨S256, .f32⟩
  | 118 => ⟨S1x256, .f32⟩
  | 119 => ⟨S8208x256, .f32⟩
  | 120 => ⟨S8208x256, .f32⟩
  | 121 => ⟨S_, .f32⟩
  | 122 => ⟨S31x256, .f32⟩
  | 123 => ⟨S31x256, .f32⟩
  | 124 => ⟨S_, .f32⟩
  | 125 => ⟨S8238x256, .f32⟩
  | 126 => ⟨S8238x256, .f32⟩
  | 127 => ⟨S8208x256, .f32⟩
  | _ => ⟨S1x8208x2816, .f32⟩

abbrev hbmTy0_4 (i : Nat) : BufTy := match i % 128 with
  | 0 => ⟨S_, .f32⟩
  | 1 => ⟨S256, .f32⟩
  | 2 => ⟨S1x256, .f32⟩
  | 3 => ⟨S8208x256, .f32⟩
  | 4 => ⟨S8208x256, .f32⟩
  | 5 => ⟨S_, .f32⟩
  | 6 => ⟨S31x256, .f32⟩
  | 7 => ⟨S31x256, .f32⟩
  | 8 => ⟨S_, .f32⟩
  | 9 => ⟨S8238x256, .f32⟩
  | 10 => ⟨S8238x256, .f32⟩
  | 11 => ⟨S8208x256, .f32⟩
  | 12 => ⟨S_, .f32⟩
  | 13 => ⟨S256, .f32⟩
  | 14 => ⟨S1x256, .f32⟩
  | 15 => ⟨S8208x256, .f32⟩
  | 16 => ⟨S8208x256, .f32⟩
  | 17 => ⟨S_, .f32⟩
  | 18 => ⟨S31x256, .f32⟩
  | 19 => ⟨S31x256, .f32⟩
  | 20 => ⟨S_, .f32⟩
  | 21 => ⟨S8238x256, .f32⟩
  | 22 => ⟨S8238x256, .f32⟩
  | 23 => ⟨S8208x256, .f32⟩
  | 24 => ⟨S_, .f32⟩
  | 25 => ⟨S256, .f32⟩
  | 26 => ⟨S1x256, .f32⟩
  | 27 => ⟨S8208x256, .f32⟩
  | 28 => ⟨S8208x256, .f32⟩
  | 29 => ⟨S_, .f32⟩
  | 30 => ⟨S31x256, .f32⟩
  | 31 => ⟨S31x256, .f32⟩
  | 32 => ⟨S_, .f32⟩
  | 33 => ⟨S8238x256, .f32⟩
  | 34 => ⟨S8238x256, .f32⟩
  | 35 => ⟨S8208x256, .f32⟩
  | 36 => ⟨S_, .f32⟩
  | 37 => ⟨S256, .f32⟩
  | 38 => ⟨S1x256, .f32⟩
  | 39 => ⟨S8208x256, .f32⟩
  | 40 => ⟨S8208x256, .f32⟩
  | 41 => ⟨S_, .f32⟩
  | 42 => ⟨S31x256, .f32⟩
  | 43 => ⟨S31x256, .f32⟩
  | 44 => ⟨S_, .f32⟩
  | 45 => ⟨S8238x256, .f32⟩
  | 46 => ⟨S8238x256, .f32⟩
  | 47 => ⟨S8208x256, .f32⟩
  | 48 => ⟨S_, .f32⟩
  | 49 => ⟨S256, .f32⟩
  | 50 => ⟨S1x256, .f32⟩
  | 51 => ⟨S8208x256, .f32⟩
  | 52 => ⟨S8208x256, .f32⟩
  | 53 => ⟨S_, .f32⟩
  | 54 => ⟨S31x256, .f32⟩
  | 55 => ⟨S31x256, .f32⟩
  | 56 => ⟨S_, .f32⟩
  | 57 => ⟨S8238x256, .f32⟩
  | 58 => ⟨S8238x256, .f32⟩
  | 59 => ⟨S8208x256, .f32⟩
  | 60 => ⟨S_, .f32⟩
  | 61 => ⟨S256, .f32⟩
  | 62 => ⟨S1x256, .f32⟩
  | 63 => ⟨S8208x256, .f32⟩
  | 64 => ⟨S8208x256, .f32⟩
  | 65 => ⟨S_, .f32⟩
  | 66 => ⟨S31x256, .f32⟩
  | 67 => ⟨S31x256, .f32⟩
  | 68 => ⟨S_, .f32⟩
  | 69 => ⟨S8238x256, .f32⟩
  | 70 => ⟨S8238x256, .f32⟩
  | 71 => ⟨S8208x256, .f32⟩
  | 72 => ⟨S_, .f32⟩
  | 73 => ⟨S256, .f32⟩
  | 74 => ⟨S1x256, .f32⟩
  | 75 => ⟨S8208x256, .f32⟩
  | 76 => ⟨S8208x256, .f32⟩
  | 77 => ⟨S_, .f32⟩
  | 78 => ⟨S31x256, .f32⟩
  | 79 => ⟨S31x256, .f32⟩
  | 80 => ⟨S_, .f32⟩
  | 81 => ⟨S8238x256, .f32⟩
  | 82 => ⟨S8238x256, .f32⟩
  | 83 => ⟨S8208x256, .f32⟩
  | 84 => ⟨S_, .f32⟩
  | 85 => ⟨S256, .f32⟩
  | 86 => ⟨S1x256, .f32⟩
  | 87 => ⟨S8208x256, .f32⟩
  | 88 => ⟨S8208x256, .f32⟩
  | 89 => ⟨S_, .f32⟩
  | 90 => ⟨S31x256, .f32⟩
  | 91 => ⟨S31x256, .f32⟩
  | 92 => ⟨S_, .f32⟩
  | 93 => ⟨S8238x256, .f32⟩
  | 94 => ⟨S8238x256, .f32⟩
  | 95 => ⟨S8208x256, .f32⟩
  | 96 => ⟨S_, .f32⟩
  | 97 => ⟨S256, .f32⟩
  | 98 => ⟨S1x256, .f32⟩
  | 99 => ⟨S8208x256, .f32⟩
  | 100 => ⟨S8208x256, .f32⟩
  | 101 => ⟨S_, .f32⟩
  | 102 => ⟨S31x256, .f32⟩
  | 103 => ⟨S31x256, .f32⟩
  | 104 => ⟨S_, .f32⟩
  | 105 => ⟨S8238x256, .f32⟩
  | 106 => ⟨S8238x256, .f32⟩
  | 107 => ⟨S8208x256, .f32⟩
  | 108 => ⟨S_, .f32⟩
  | 109 => ⟨S256, .f32⟩
  | 110 => ⟨S1x256, .f32⟩
  | 111 => ⟨S8208x256, .f32⟩
  | 112 => ⟨S8208x256, .f32⟩
  | 113 => ⟨S_, .f32⟩
  | 114 => ⟨S31x256, .f32⟩
  | 115 => ⟨S31x256, .f32⟩
  | 116 => ⟨S_, .f32⟩
  | 117 => ⟨S8238x256, .f32⟩
  | 118 => ⟨S8238x256, .f32⟩
  | 119 => ⟨S8208x256, .f32⟩
  | 120 => ⟨S_, .f32⟩
  | 121 => ⟨S256, .f32⟩
  | 122 => ⟨S1x256, .f32⟩
  | 123 => ⟨S8208x256, .f32⟩
  | 124 => ⟨S8208x256, .f32⟩
  | 125 => ⟨S_, .f32⟩
  | 126 => ⟨S31x256, .f32⟩
  | 127 => ⟨S31x256, .f32⟩
  | _ => ⟨S1x8208x2816, .f32⟩

abbrev hbmTy0_5 (i : Nat) : BufTy := match i % 128 with
  | 0 => ⟨S_, .f32⟩
  | 1 => ⟨S8238x256, .f32⟩
  | 2 => ⟨S8238x256, .f32⟩
  | 3 => ⟨S8208x256, .f32⟩
  | 4 => ⟨S_, .f32⟩
  | 5 => ⟨S256, .f32⟩
  | 6 => ⟨S1x256, .f32⟩
  | 7 => ⟨S8208x256, .f32⟩
  | 8 => ⟨S8208x256, .f32⟩
  | 9 => ⟨S_, .f32⟩
  | 10 => ⟨S31x256, .f32⟩
  | 11 => ⟨S31x256, .f32⟩
  | 12 => ⟨S_, .f32⟩
  | 13 => ⟨S8238x256, .f32⟩
  | 14 => ⟨S8238x256, .f32⟩
  | 15 => ⟨S8208x256, .f32⟩
  | 16 => ⟨S_, .f32⟩
  | 17 => ⟨S256, .f32⟩
  | 18 => ⟨S1x256, .f32⟩
  | 19 => ⟨S8208x256, .f32⟩
  | 20 => ⟨S8208x256, .f32⟩
  | 21 => ⟨S_, .f32⟩
  | 22 => ⟨S31x256, .f32⟩
  | 23 => ⟨S31x256, .f32⟩
  | 24 => ⟨S_, .f32⟩
  | 25 => ⟨S8238x256, .f32⟩
  | 26 => ⟨S8238x256, .f32⟩
  | 27 => ⟨S30x256, .f32⟩
  | 28 => ⟨S8208x256, .f32⟩
  | 29 => ⟨S8208x256, .f32⟩
  | 30 => ⟨S8208x256, .f32⟩
  | 31 => ⟨S8208x256, .f32⟩
  | 32 => ⟨S_, .i32⟩
  | 33 => ⟨S_, .f32⟩
  | 34 => ⟨S8448x256, .f32⟩
  | 35 => ⟨S8448x256, .bf16⟩
  | 36 => ⟨S_, .i32⟩
  | 37 => ⟨S_, .f32⟩
  | 38 => ⟨S8448x256, .f32⟩
  | 39 => ⟨S8448x256, .bf16⟩
  | 40 => ⟨S_, .i32⟩
  | 41 => ⟨S_, .f32⟩
  | 42 => ⟨S32x256, .f32⟩
  | 43 => ⟨S1x256, .f32⟩
  | 44 => ⟨S1x256, .f32⟩
  | 45 => ⟨S1x256, .f32⟩
  | _ => ⟨S1x8208x2816, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | _ => ⟨S1x8208x2816, .f32⟩

abbrev bufTy : (tb : Table) → Fin (tcTables nBuf tb) → BufTy
  | .hbm, ⟨i, _⟩ => hbmTy i
  | _, _ => ⟨S1x8208x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_v14 : Ref sig .tc := ⟨.hbm, 25, rfl⟩
abbrev main_v15 : Ref sig .tc := ⟨.hbm, 26, rfl⟩
abbrev main_cst_3 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_4 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_v65 : Ref sig .tc := ⟨.hbm, 78, rfl⟩
abbrev main_v66 : Ref sig .tc := ⟨.hbm, 79, rfl⟩
abbrev main_v67 : Ref sig .tc := ⟨.hbm, 80, rfl⟩
abbrev main_v68 : Ref sig .tc := ⟨.hbm, 81, rfl⟩
abbrev main_v69 : Ref sig .tc := ⟨.hbm, 82, rfl⟩
abbrev main_v70 : Ref sig .tc := ⟨.hbm, 83, rfl⟩
abbrev main_v71 : Ref sig .tc := ⟨.hbm, 84, rfl⟩
abbrev main_v72 : Ref sig .tc := ⟨.hbm, 85, rfl⟩
abbrev main_v73 : Ref sig .tc := ⟨.hbm, 86, rfl⟩
abbrev main_v74 : Ref sig .tc := ⟨.hbm, 87, rfl⟩
abbrev main_v75 : Ref sig .tc := ⟨.hbm, 88, rfl⟩
abbrev main_v76 : Ref sig .tc := ⟨.hbm, 89, rfl⟩
abbrev main_v77 : Ref sig .tc := ⟨.hbm, 90, rfl⟩
abbrev main_v78 : Ref sig .tc := ⟨.hbm, 91, rfl⟩
abbrev main_v79 : Ref sig .tc := ⟨.hbm, 92, rfl⟩
abbrev main_v80 : Ref sig .tc := ⟨.hbm, 93, rfl⟩
abbrev main_v81 : Ref sig .tc := ⟨.hbm, 94, rfl⟩
abbrev main_v82 : Ref sig .tc := ⟨.hbm, 95, rfl⟩
abbrev main_v83 : Ref sig .tc := ⟨.hbm, 96, rfl⟩
abbrev main_v84 : Ref sig .tc := ⟨.hbm, 97, rfl⟩
abbrev main_v85 : Ref sig .tc := ⟨.hbm, 98, rfl⟩
abbrev main_v86 : Ref sig .tc := ⟨.hbm, 99, rfl⟩
abbrev main_v87 : Ref sig .tc := ⟨.hbm, 100, rfl⟩
abbrev main_v88 : Ref sig .tc := ⟨.hbm, 101, rfl⟩
abbrev main_v89 : Ref sig .tc := ⟨.hbm, 102, rfl⟩
abbrev main_v90 : Ref sig .tc := ⟨.hbm, 103, rfl⟩
abbrev main_v91 : Ref sig .tc := ⟨.hbm, 104, rfl⟩
abbrev main_v92 : Ref sig .tc := ⟨.hbm, 105, rfl⟩
abbrev main_v93 : Ref sig .tc := ⟨.hbm, 106, rfl⟩
abbrev main_v94 : Ref sig .tc := ⟨.hbm, 107, rfl⟩
abbrev main_v95 : Ref sig .tc := ⟨.hbm, 108, rfl⟩
abbrev main_v96 : Ref sig .tc := ⟨.hbm, 109, rfl⟩
abbrev main_v97 : Ref sig .tc := ⟨.hbm, 110, rfl⟩
abbrev main_v98 : Ref sig .tc := ⟨.hbm, 111, rfl⟩
abbrev main_v99 : Ref sig .tc := ⟨.hbm, 112, rfl⟩
abbrev main_v100 : Ref sig .tc := ⟨.hbm, 113, rfl⟩
abbrev main_v101 : Ref sig .tc := ⟨.hbm, 114, rfl⟩
abbrev main_v102 : Ref sig .tc := ⟨.hbm, 115, rfl⟩
abbrev main_v103 : Ref sig .tc := ⟨.hbm, 116, rfl⟩
abbrev main_v104 : Ref sig .tc := ⟨.hbm, 117, rfl⟩
abbrev main_v105 : Ref sig .tc := ⟨.hbm, 118, rfl⟩
abbrev main_v106 : Ref sig .tc := ⟨.hbm, 119, rfl⟩
abbrev main_v107 : Ref sig .tc := ⟨.hbm, 120, rfl⟩
abbrev main_v108 : Ref sig .tc := ⟨.hbm, 121, rfl⟩
abbrev main_v109 : Ref sig .tc := ⟨.hbm, 122, rfl⟩
abbrev main_v110 : Ref sig .tc := ⟨.hbm, 123, rfl⟩
abbrev main_v111 : Ref sig .tc := ⟨.hbm, 124, rfl⟩
abbrev main_v112 : Ref sig .tc := ⟨.hbm, 125, rfl⟩
abbrev main_v113 : Ref sig .tc := ⟨.hbm, 126, rfl⟩
abbrev main_v114 : Ref sig .tc := ⟨.hbm, 127, rfl⟩
abbrev main_v115 : Ref sig .tc := ⟨.hbm, 128, rfl⟩
abbrev main_v116 : Ref sig .tc := ⟨.hbm, 129, rfl⟩
abbrev main_v117 : Ref sig .tc := ⟨.hbm, 130, rfl⟩
abbrev main_v118 : Ref sig .tc := ⟨.hbm, 131, rfl⟩
abbrev main_v119 : Ref sig .tc := ⟨.hbm, 132, rfl⟩
abbrev main_v120 : Ref sig .tc := ⟨.hbm, 133, rfl⟩
abbrev main_v121 : Ref sig .tc := ⟨.hbm, 134, rfl⟩
abbrev main_v122 : Ref sig .tc := ⟨.hbm, 135, rfl⟩
abbrev main_v123 : Ref sig .tc := ⟨.hbm, 136, rfl⟩
abbrev main_v124 : Ref sig .tc := ⟨.hbm, 137, rfl⟩
abbrev main_v125 : Ref sig .tc := ⟨.hbm, 138, rfl⟩
abbrev main_v126 : Ref sig .tc := ⟨.hbm, 139, rfl⟩
abbrev main_v127 : Ref sig .tc := ⟨.hbm, 140, rfl⟩
abbrev main_v128 : Ref sig .tc := ⟨.hbm, 141, rfl⟩
abbrev main_v129 : Ref sig .tc := ⟨.hbm, 142, rfl⟩
abbrev main_v130 : Ref sig .tc := ⟨.hbm, 143, rfl⟩
abbrev main_v131 : Ref sig .tc := ⟨.hbm, 144, rfl⟩
abbrev main_v132 : Ref sig .tc := ⟨.hbm, 145, rfl⟩
abbrev main_v133 : Ref sig .tc := ⟨.hbm, 146, rfl⟩
abbrev main_v134 : Ref sig .tc := ⟨.hbm, 147, rfl⟩
abbrev main_v135 : Ref sig .tc := ⟨.hbm, 148, rfl⟩
abbrev main_v136 : Ref sig .tc := ⟨.hbm, 149, rfl⟩
abbrev main_v137 : Ref sig .tc := ⟨.hbm, 150, rfl⟩
abbrev main_v138 : Ref sig .tc := ⟨.hbm, 151, rfl⟩
abbrev main_v139 : Ref sig .tc := ⟨.hbm, 152, rfl⟩
abbrev main_v140 : Ref sig .tc := ⟨.hbm, 153, rfl⟩
abbrev main_v141 : Ref sig .tc := ⟨.hbm, 154, rfl⟩
abbrev main_v142 : Ref sig .tc := ⟨.hbm, 155, rfl⟩
abbrev main_v143 : Ref sig .tc := ⟨.hbm, 156, rfl⟩
abbrev main_v144 : Ref sig .tc := ⟨.hbm, 157, rfl⟩
abbrev main_v145 : Ref sig .tc := ⟨.hbm, 158, rfl⟩
abbrev main_v146 : Ref sig .tc := ⟨.hbm, 159, rfl⟩
abbrev main_v147 : Ref sig .tc := ⟨.hbm, 160, rfl⟩
abbrev main_v148 : Ref sig .tc := ⟨.hbm, 161, rfl⟩
abbrev main_v149 : Ref sig .tc := ⟨.hbm, 162, rfl⟩
abbrev main_v150 : Ref sig .tc := ⟨.hbm, 163, rfl⟩
abbrev main_v151 : Ref sig .tc := ⟨.hbm, 164, rfl⟩
abbrev main_v152 : Ref sig .tc := ⟨.hbm, 165, rfl⟩
abbrev main_v153 : Ref sig .tc := ⟨.hbm, 166, rfl⟩
abbrev main_v154 : Ref sig .tc := ⟨.hbm, 167, rfl⟩
abbrev main_v155 : Ref sig .tc := ⟨.hbm, 168, rfl⟩
abbrev main_v156 : Ref sig .tc := ⟨.hbm, 169, rfl⟩
abbrev main_v157 : Ref sig .tc := ⟨.hbm, 170, rfl⟩
abbrev main_v158 : Ref sig .tc := ⟨.hbm, 171, rfl⟩
abbrev main_v159 : Ref sig .tc := ⟨.hbm, 172, rfl⟩
abbrev main_v160 : Ref sig .tc := ⟨.hbm, 173, rfl⟩
abbrev main_v161 : Ref sig .tc := ⟨.hbm, 174, rfl⟩
abbrev main_v162 : Ref sig .tc := ⟨.hbm, 175, rfl⟩
abbrev main_v163 : Ref sig .tc := ⟨.hbm, 176, rfl⟩
abbrev main_v164 : Ref sig .tc := ⟨.hbm, 177, rfl⟩
abbrev main_v165 : Ref sig .tc := ⟨.hbm, 178, rfl⟩
abbrev main_v166 : Ref sig .tc := ⟨.hbm, 179, rfl⟩
abbrev main_v167 : Ref sig .tc := ⟨.hbm, 180, rfl⟩
abbrev main_v168 : Ref sig .tc := ⟨.hbm, 181, rfl⟩
abbrev main_v169 : Ref sig .tc := ⟨.hbm, 182, rfl⟩
abbrev main_v170 : Ref sig .tc := ⟨.hbm, 183, rfl⟩
abbrev main_v171 : Ref sig .tc := ⟨.hbm, 184, rfl⟩
abbrev main_v172 : Ref sig .tc := ⟨.hbm, 185, rfl⟩
abbrev main_v173 : Ref sig .tc := ⟨.hbm, 186, rfl⟩
abbrev main_v174 : Ref sig .tc := ⟨.hbm, 187, rfl⟩
abbrev main_v175 : Ref sig .tc := ⟨.hbm, 188, rfl⟩
abbrev main_cst_5 : Ref sig .tc := ⟨.hbm, 189, rfl⟩
abbrev main_v176 : Ref sig .tc := ⟨.hbm, 190, rfl⟩
abbrev main_v177 : Ref sig .tc := ⟨.hbm, 191, rfl⟩
abbrev main_cst_6 : Ref sig .tc := ⟨.hbm, 192, rfl⟩
abbrev main_v178 : Ref sig .tc := ⟨.hbm, 193, rfl⟩
abbrev main_v179 : Ref sig .tc := ⟨.hbm, 194, rfl⟩
abbrev main_v180 : Ref sig .tc := ⟨.hbm, 195, rfl⟩
abbrev main_v181 : Ref sig .tc := ⟨.hbm, 196, rfl⟩
abbrev main_v182 : Ref sig .tc := ⟨.hbm, 197, rfl⟩
abbrev main_cst_7 : Ref sig .tc := ⟨.hbm, 198, rfl⟩
abbrev main_v183 : Ref sig .tc := ⟨.hbm, 199, rfl⟩
abbrev main_v184 : Ref sig .tc := ⟨.hbm, 200, rfl⟩
abbrev main_cst_8 : Ref sig .tc := ⟨.hbm, 201, rfl⟩
abbrev main_v185 : Ref sig .tc := ⟨.hbm, 202, rfl⟩
abbrev main_v186 : Ref sig .tc := ⟨.hbm, 203, rfl⟩
abbrev main_cst_9 : Ref sig .tc := ⟨.hbm, 204, rfl⟩
abbrev main_v187 : Ref sig .tc := ⟨.hbm, 205, rfl⟩
abbrev main_v188 : Ref sig .tc := ⟨.hbm, 206, rfl⟩
abbrev main_v189 : Ref sig .tc := ⟨.hbm, 207, rfl⟩
abbrev main_v190 : Ref sig .tc := ⟨.hbm, 208, rfl⟩
abbrev main_cst_10 : Ref sig .tc := ⟨.hbm, 209, rfl⟩
abbrev main_v191 : Ref sig .tc := ⟨.hbm, 210, rfl⟩
abbrev main_v192 : Ref sig .tc := ⟨.hbm, 211, rfl⟩
abbrev main_v193 : Ref sig .tc := ⟨.hbm, 212, rfl⟩
abbrev main_v194 : Ref sig .tc := ⟨.hbm, 213, rfl⟩
abbrev main_cst_11 : Ref sig .tc := ⟨.hbm, 214, rfl⟩
abbrev main_v195 : Ref sig .tc := ⟨.hbm, 215, rfl⟩
abbrev main_v196 : Ref sig .tc := ⟨.hbm, 216, rfl⟩
abbrev main_v197 : Ref sig .tc := ⟨.hbm, 217, rfl⟩
abbrev main_v198 : Ref sig .tc := ⟨.hbm, 218, rfl⟩
abbrev main_v199 : Ref sig .tc := ⟨.hbm, 219, rfl⟩
abbrev main_v200 : Ref sig .tc := ⟨.hbm, 220, rfl⟩
abbrev main_v201 : Ref sig .tc := ⟨.hbm, 221, rfl⟩
abbrev main_v202 : Ref sig .tc := ⟨.hbm, 222, rfl⟩
abbrev main_v203 : Ref sig .tc := ⟨.hbm, 223, rfl⟩
abbrev main_v204 : Ref sig .tc := ⟨.hbm, 224, rfl⟩
abbrev main_call0_v0 : Ref sig .tc := ⟨.hbm, 225, rfl⟩
abbrev main_call0_v1 : Ref sig .tc := ⟨.hbm, 226, rfl⟩
abbrev main_call0_cst : Ref sig .tc := ⟨.hbm, 227, rfl⟩
abbrev main_call0_v2 : Ref sig .tc := ⟨.hbm, 228, rfl⟩
abbrev main_call0_v3 : Ref sig .tc := ⟨.hbm, 229, rfl⟩
abbrev main_call0_cst_0 : Ref sig .tc := ⟨.hbm, 230, rfl⟩
abbrev main_call0_v4 : Ref sig .tc := ⟨.hbm, 231, rfl⟩
abbrev main_v205_2 : Ref sig .tc := ⟨.hbm, 232, rfl⟩
abbrev main_call0_cst_1 : Ref sig .tc := ⟨.hbm, 233, rfl⟩
abbrev main_call0_v6 : Ref sig .tc := ⟨.hbm, 234, rfl⟩
abbrev main_call0_v7 : Ref sig .tc := ⟨.hbm, 235, rfl⟩
abbrev main_v205_1 : Ref sig .tc := ⟨.hbm, 236, rfl⟩
abbrev main_v205_0 : Ref sig .tc := ⟨.hbm, 237, rfl⟩
abbrev main_v206 : Ref sig .tc := ⟨.hbm, 238, rfl⟩
abbrev main_v207 : Ref sig .tc := ⟨.hbm, 239, rfl⟩
abbrev main_v208 : Ref sig .tc := ⟨.hbm, 240, rfl⟩
abbrev main_v209 : Ref sig .tc := ⟨.hbm, 241, rfl⟩
abbrev main_v210 : Ref sig .tc := ⟨.hbm, 242, rfl⟩
abbrev main_v211 : Ref sig .tc := ⟨.hbm, 243, rfl⟩
abbrev main_call1_v0 : Ref sig .tc := ⟨.hbm, 244, rfl⟩
abbrev main_call1_v1 : Ref sig .tc := ⟨.hbm, 245, rfl⟩
abbrev main_call1_v2 : Ref sig .tc := ⟨.hbm, 246, rfl⟩
abbrev main_v212 : Ref sig .tc := ⟨.hbm, 247, rfl⟩
abbrev main_cst_12 : Ref sig .tc := ⟨.hbm, 248, rfl⟩
abbrev main_v213 : Ref sig .tc := ⟨.hbm, 249, rfl⟩
abbrev main_v214 : Ref sig .tc := ⟨.hbm, 250, rfl⟩
abbrev main_cst_13 : Ref sig .tc := ⟨.hbm, 251, rfl⟩
abbrev main_v215 : Ref sig .tc := ⟨.hbm, 252, rfl⟩
abbrev main_v216 : Ref sig .tc := ⟨.hbm, 253, rfl⟩
abbrev main_cst_14 : Ref sig .tc := ⟨.hbm, 254, rfl⟩
abbrev main_v217 : Ref sig .tc := ⟨.hbm, 255, rfl⟩
abbrev main_v218 : Ref sig .tc := ⟨.hbm, 256, rfl⟩
abbrev main_v219 : Ref sig .tc := ⟨.hbm, 257, rfl⟩
abbrev main_v220 : Ref sig .tc := ⟨.hbm, 258, rfl⟩
abbrev main_cst_15 : Ref sig .tc := ⟨.hbm, 259, rfl⟩
abbrev main_v221 : Ref sig .tc := ⟨.hbm, 260, rfl⟩
abbrev main_v222 : Ref sig .tc := ⟨.hbm, 261, rfl⟩
abbrev main_cst_16 : Ref sig .tc := ⟨.hbm, 262, rfl⟩
abbrev main_v223 : Ref sig .tc := ⟨.hbm, 263, rfl⟩
abbrev main_v224 : Ref sig .tc := ⟨.hbm, 264, rfl⟩
abbrev main_v225 : Ref sig .tc := ⟨.hbm, 265, rfl⟩
abbrev main_v226 : Ref sig .tc := ⟨.hbm, 266, rfl⟩
abbrev main_v227 : Ref sig .tc := ⟨.hbm, 267, rfl⟩
abbrev main_v228 : Ref sig .tc := ⟨.hbm, 268, rfl⟩
abbrev main_cst_17 : Ref sig .tc := ⟨.hbm, 269, rfl⟩
abbrev main_v229 : Ref sig .tc := ⟨.hbm, 270, rfl⟩
abbrev main_v230 : Ref sig .tc := ⟨.hbm, 271, rfl⟩
abbrev main_cst_18 : Ref sig .tc := ⟨.hbm, 272, rfl⟩
abbrev main_v231 : Ref sig .tc := ⟨.hbm, 273, rfl⟩
abbrev main_v232 : Ref sig .tc := ⟨.hbm, 274, rfl⟩
abbrev main_cst_19 : Ref sig .tc := ⟨.hbm, 275, rfl⟩
abbrev main_v233 : Ref sig .tc := ⟨.hbm, 276, rfl⟩
abbrev main_v234 : Ref sig .tc := ⟨.hbm, 277, rfl⟩
abbrev main_v235 : Ref sig .tc := ⟨.hbm, 278, rfl⟩
abbrev main_v236 : Ref sig .tc := ⟨.hbm, 279, rfl⟩
abbrev main_cst_20 : Ref sig .tc := ⟨.hbm, 280, rfl⟩
abbrev main_v237 : Ref sig .tc := ⟨.hbm, 281, rfl⟩
abbrev main_v238 : Ref sig .tc := ⟨.hbm, 282, rfl⟩
abbrev main_v239 : Ref sig .tc := ⟨.hbm, 283, rfl⟩
abbrev main_v240 : Ref sig .tc := ⟨.hbm, 284, rfl⟩
abbrev main_cst_21 : Ref sig .tc := ⟨.hbm, 285, rfl⟩
abbrev main_v241 : Ref sig .tc := ⟨.hbm, 286, rfl⟩
abbrev main_v242 : Ref sig .tc := ⟨.hbm, 287, rfl⟩
abbrev main_cst_22 : Ref sig .tc := ⟨.hbm, 288, rfl⟩
abbrev main_v243 : Ref sig .tc := ⟨.hbm, 289, rfl⟩
abbrev main_v244 : Ref sig .tc := ⟨.hbm, 290, rfl⟩
abbrev main_v245 : Ref sig .tc := ⟨.hbm, 291, rfl⟩
abbrev main_cst_23 : Ref sig .tc := ⟨.hbm, 292, rfl⟩
abbrev main_v246 : Ref sig .tc := ⟨.hbm, 293, rfl⟩
abbrev main_v247 : Ref sig .tc := ⟨.hbm, 294, rfl⟩
abbrev main_cst_24 : Ref sig .tc := ⟨.hbm, 295, rfl⟩
abbrev main_v248 : Ref sig .tc := ⟨.hbm, 296, rfl⟩
abbrev main_v249 : Ref sig .tc := ⟨.hbm, 297, rfl⟩
abbrev main_cst_25 : Ref sig .tc := ⟨.hbm, 298, rfl⟩
abbrev main_v250 : Ref sig .tc := ⟨.hbm, 299, rfl⟩
abbrev main_v251 : Ref sig .tc := ⟨.hbm, 300, rfl⟩
abbrev main_v252 : Ref sig .tc := ⟨.hbm, 301, rfl⟩
abbrev main_v253 : Ref sig .tc := ⟨.hbm, 302, rfl⟩
abbrev main_cst_26 : Ref sig .tc := ⟨.hbm, 303, rfl⟩
abbrev main_v254 : Ref sig .tc := ⟨.hbm, 304, rfl⟩
abbrev main_cst_27 : Ref sig .tc := ⟨.hbm, 305, rfl⟩
abbrev main_v255 : Ref sig .tc := ⟨.hbm, 306, rfl⟩
abbrev main_v256 : Ref sig .tc := ⟨.hbm, 307, rfl⟩
abbrev main_cst_28 : Ref sig .tc := ⟨.hbm, 308, rfl⟩
abbrev main_v257 : Ref sig .tc := ⟨.hbm, 309, rfl⟩
abbrev main_v258 : Ref sig .tc := ⟨.hbm, 310, rfl⟩
abbrev main_v259 : Ref sig .tc := ⟨.hbm, 311, rfl⟩
abbrev main_v260 : Ref sig .tc := ⟨.hbm, 312, rfl⟩
abbrev main_cst_29 : Ref sig .tc := ⟨.hbm, 313, rfl⟩
abbrev main_v261 : Ref sig .tc := ⟨.hbm, 314, rfl⟩
abbrev main_v262 : Ref sig .tc := ⟨.hbm, 315, rfl⟩
abbrev main_cst_30 : Ref sig .tc := ⟨.hbm, 316, rfl⟩
abbrev main_v263 : Ref sig .tc := ⟨.hbm, 317, rfl⟩
abbrev main_v264 : Ref sig .tc := ⟨.hbm, 318, rfl⟩
abbrev main_v265 : Ref sig .tc := ⟨.hbm, 319, rfl⟩
abbrev main_cst_31 : Ref sig .tc := ⟨.hbm, 320, rfl⟩
abbrev main_v266 : Ref sig .tc := ⟨.hbm, 321, rfl⟩
abbrev main_v267 : Ref sig .tc := ⟨.hbm, 322, rfl⟩
abbrev main_v268 : Ref sig .tc := ⟨.hbm, 323, rfl⟩
abbrev main_v269 : Ref sig .tc := ⟨.hbm, 324, rfl⟩
abbrev main_cst_32 : Ref sig .tc := ⟨.hbm, 325, rfl⟩
abbrev main_v270 : Ref sig .tc := ⟨.hbm, 326, rfl⟩
abbrev main_v271 : Ref sig .tc := ⟨.hbm, 327, rfl⟩
abbrev main_cst_33 : Ref sig .tc := ⟨.hbm, 328, rfl⟩
abbrev main_v272 : Ref sig .tc := ⟨.hbm, 329, rfl⟩
abbrev main_v273 : Ref sig .tc := ⟨.hbm, 330, rfl⟩
abbrev main_v274 : Ref sig .tc := ⟨.hbm, 331, rfl⟩
abbrev main_cst_34 : Ref sig .tc := ⟨.hbm, 332, rfl⟩
abbrev main_v275 : Ref sig .tc := ⟨.hbm, 333, rfl⟩
abbrev main_v276 : Ref sig .tc := ⟨.hbm, 334, rfl⟩
abbrev main_v277 : Ref sig .tc := ⟨.hbm, 335, rfl⟩
abbrev main_v278 : Ref sig .tc := ⟨.hbm, 336, rfl⟩
abbrev main_cst_35 : Ref sig .tc := ⟨.hbm, 337, rfl⟩
abbrev main_v279 : Ref sig .tc := ⟨.hbm, 338, rfl⟩
abbrev main_v280 : Ref sig .tc := ⟨.hbm, 339, rfl⟩
abbrev main_cst_36 : Ref sig .tc := ⟨.hbm, 340, rfl⟩
abbrev main_v281 : Ref sig .tc := ⟨.hbm, 341, rfl⟩
abbrev main_v282 : Ref sig .tc := ⟨.hbm, 342, rfl⟩
abbrev main_v283 : Ref sig .tc := ⟨.hbm, 343, rfl⟩
abbrev main_cst_37 : Ref sig .tc := ⟨.hbm, 344, rfl⟩
abbrev main_v284 : Ref sig .tc := ⟨.hbm, 345, rfl⟩
abbrev main_v285 : Ref sig .tc := ⟨.hbm, 346, rfl⟩
abbrev main_v286 : Ref sig .tc := ⟨.hbm, 347, rfl⟩
abbrev main_v287 : Ref sig .tc := ⟨.hbm, 348, rfl⟩
abbrev main_cst_38 : Ref sig .tc := ⟨.hbm, 349, rfl⟩
abbrev main_v288 : Ref sig .tc := ⟨.hbm, 350, rfl⟩
abbrev main_v289 : Ref sig .tc := ⟨.hbm, 351, rfl⟩
abbrev main_cst_39 : Ref sig .tc := ⟨.hbm, 352, rfl⟩
abbrev main_v290 : Ref sig .tc := ⟨.hbm, 353, rfl⟩
abbrev main_v291 : Ref sig .tc := ⟨.hbm, 354, rfl⟩
abbrev main_v292 : Ref sig .tc := ⟨.hbm, 355, rfl⟩
abbrev main_cst_40 : Ref sig .tc := ⟨.hbm, 356, rfl⟩
abbrev main_v293 : Ref sig .tc := ⟨.hbm, 357, rfl⟩
abbrev main_v294 : Ref sig .tc := ⟨.hbm, 358, rfl⟩
abbrev main_v295 : Ref sig .tc := ⟨.hbm, 359, rfl⟩
abbrev main_v296 : Ref sig .tc := ⟨.hbm, 360, rfl⟩
abbrev main_cst_41 : Ref sig .tc := ⟨.hbm, 361, rfl⟩
abbrev main_v297 : Ref sig .tc := ⟨.hbm, 362, rfl⟩
abbrev main_v298 : Ref sig .tc := ⟨.hbm, 363, rfl⟩
abbrev main_cst_42 : Ref sig .tc := ⟨.hbm, 364, rfl⟩
abbrev main_v299 : Ref sig .tc := ⟨.hbm, 365, rfl⟩
abbrev main_v300 : Ref sig .tc := ⟨.hbm, 366, rfl⟩
abbrev main_v301 : Ref sig .tc := ⟨.hbm, 367, rfl⟩
abbrev main_cst_43 : Ref sig .tc := ⟨.hbm, 368, rfl⟩
abbrev main_v302 : Ref sig .tc := ⟨.hbm, 369, rfl⟩
abbrev main_v303 : Ref sig .tc := ⟨.hbm, 370, rfl⟩
abbrev main_v304 : Ref sig .tc := ⟨.hbm, 371, rfl⟩
abbrev main_v305 : Ref sig .tc := ⟨.hbm, 372, rfl⟩
abbrev main_cst_44 : Ref sig .tc := ⟨.hbm, 373, rfl⟩
abbrev main_v306 : Ref sig .tc := ⟨.hbm, 374, rfl⟩
abbrev main_v307 : Ref sig .tc := ⟨.hbm, 375, rfl⟩
abbrev main_cst_45 : Ref sig .tc := ⟨.hbm, 376, rfl⟩
abbrev main_v308 : Ref sig .tc := ⟨.hbm, 377, rfl⟩
abbrev main_v309 : Ref sig .tc := ⟨.hbm, 378, rfl⟩
abbrev main_v310 : Ref sig .tc := ⟨.hbm, 379, rfl⟩
abbrev main_cst_46 : Ref sig .tc := ⟨.hbm, 380, rfl⟩
abbrev main_v311 : Ref sig .tc := ⟨.hbm, 381, rfl⟩
abbrev main_v312 : Ref sig .tc := ⟨.hbm, 382, rfl⟩
abbrev main_v313 : Ref sig .tc := ⟨.hbm, 383, rfl⟩
abbrev main_v314 : Ref sig .tc := ⟨.hbm, 384, rfl⟩
abbrev main_cst_47 : Ref sig .tc := ⟨.hbm, 385, rfl⟩
abbrev main_v315 : Ref sig .tc := ⟨.hbm, 386, rfl⟩
abbrev main_v316 : Ref sig .tc := ⟨.hbm, 387, rfl⟩
abbrev main_cst_48 : Ref sig .tc := ⟨.hbm, 388, rfl⟩
abbrev main_v317 : Ref sig .tc := ⟨.hbm, 389, rfl⟩
abbrev main_v318 : Ref sig .tc := ⟨.hbm, 390, rfl⟩
abbrev main_v319 : Ref sig .tc := ⟨.hbm, 391, rfl⟩
abbrev main_cst_49 : Ref sig .tc := ⟨.hbm, 392, rfl⟩
abbrev main_v320 : Ref sig .tc := ⟨.hbm, 393, rfl⟩
abbrev main_v321 : Ref sig .tc := ⟨.hbm, 394, rfl⟩
abbrev main_v322 : Ref sig .tc := ⟨.hbm, 395, rfl⟩
abbrev main_v323 : Ref sig .tc := ⟨.hbm, 396, rfl⟩
abbrev main_cst_50 : Ref sig .tc := ⟨.hbm, 397, rfl⟩
abbrev main_v324 : Ref sig .tc := ⟨.hbm, 398, rfl⟩
abbrev main_v325 : Ref sig .tc := ⟨.hbm, 399, rfl⟩
abbrev main_cst_51 : Ref sig .tc := ⟨.hbm, 400, rfl⟩
abbrev main_v326 : Ref sig .tc := ⟨.hbm, 401, rfl⟩
abbrev main_v327 : Ref sig .tc := ⟨.hbm, 402, rfl⟩
abbrev main_v328 : Ref sig .tc := ⟨.hbm, 403, rfl⟩
abbrev main_cst_52 : Ref sig .tc := ⟨.hbm, 404, rfl⟩
abbrev main_v329 : Ref sig .tc := ⟨.hbm, 405, rfl⟩
abbrev main_v330 : Ref sig .tc := ⟨.hbm, 406, rfl⟩
abbrev main_v331 : Ref sig .tc := ⟨.hbm, 407, rfl⟩
abbrev main_v332 : Ref sig .tc := ⟨.hbm, 408, rfl⟩
abbrev main_cst_53 : Ref sig .tc := ⟨.hbm, 409, rfl⟩
abbrev main_v333 : Ref sig .tc := ⟨.hbm, 410, rfl⟩
abbrev main_v334 : Ref sig .tc := ⟨.hbm, 411, rfl⟩
abbrev main_cst_54 : Ref sig .tc := ⟨.hbm, 412, rfl⟩
abbrev main_v335 : Ref sig .tc := ⟨.hbm, 413, rfl⟩
abbrev main_v336 : Ref sig .tc := ⟨.hbm, 414, rfl⟩
abbrev main_v337 : Ref sig .tc := ⟨.hbm, 415, rfl⟩
abbrev main_cst_55 : Ref sig .tc := ⟨.hbm, 416, rfl⟩
abbrev main_v338 : Ref sig .tc := ⟨.hbm, 417, rfl⟩
abbrev main_v339 : Ref sig .tc := ⟨.hbm, 418, rfl⟩
abbrev main_v340 : Ref sig .tc := ⟨.hbm, 419, rfl⟩
abbrev main_v341 : Ref sig .tc := ⟨.hbm, 420, rfl⟩
abbrev main_cst_56 : Ref sig .tc := ⟨.hbm, 421, rfl⟩
abbrev main_v342 : Ref sig .tc := ⟨.hbm, 422, rfl⟩
abbrev main_v343 : Ref sig .tc := ⟨.hbm, 423, rfl⟩
abbrev main_cst_57 : Ref sig .tc := ⟨.hbm, 424, rfl⟩
abbrev main_v344 : Ref sig .tc := ⟨.hbm, 425, rfl⟩
abbrev main_v345 : Ref sig .tc := ⟨.hbm, 426, rfl⟩
abbrev main_v346 : Ref sig .tc := ⟨.hbm, 427, rfl⟩
abbrev main_cst_58 : Ref sig .tc := ⟨.hbm, 428, rfl⟩
abbrev main_v347 : Ref sig .tc := ⟨.hbm, 429, rfl⟩
abbrev main_v348 : Ref sig .tc := ⟨.hbm, 430, rfl⟩
abbrev main_v349 : Ref sig .tc := ⟨.hbm, 431, rfl⟩
abbrev main_v350 : Ref sig .tc := ⟨.hbm, 432, rfl⟩
abbrev main_cst_59 : Ref sig .tc := ⟨.hbm, 433, rfl⟩
abbrev main_v351 : Ref sig .tc := ⟨.hbm, 434, rfl⟩
abbrev main_v352 : Ref sig .tc := ⟨.hbm, 435, rfl⟩
abbrev main_cst_60 : Ref sig .tc := ⟨.hbm, 436, rfl⟩
abbrev main_v353 : Ref sig .tc := ⟨.hbm, 437, rfl⟩
abbrev main_v354 : Ref sig .tc := ⟨.hbm, 438, rfl⟩
abbrev main_v355 : Ref sig .tc := ⟨.hbm, 439, rfl⟩
abbrev main_cst_61 : Ref sig .tc := ⟨.hbm, 440, rfl⟩
abbrev main_v356 : Ref sig .tc := ⟨.hbm, 441, rfl⟩
abbrev main_v357 : Ref sig .tc := ⟨.hbm, 442, rfl⟩
abbrev main_v358 : Ref sig .tc := ⟨.hbm, 443, rfl⟩
abbrev main_v359 : Ref sig .tc := ⟨.hbm, 444, rfl⟩
abbrev main_cst_62 : Ref sig .tc := ⟨.hbm, 445, rfl⟩
abbrev main_v360 : Ref sig .tc := ⟨.hbm, 446, rfl⟩
abbrev main_v361 : Ref sig .tc := ⟨.hbm, 447, rfl⟩
abbrev main_cst_63 : Ref sig .tc := ⟨.hbm, 448, rfl⟩
abbrev main_v362 : Ref sig .tc := ⟨.hbm, 449, rfl⟩
abbrev main_v363 : Ref sig .tc := ⟨.hbm, 450, rfl⟩
abbrev main_v364 : Ref sig .tc := ⟨.hbm, 451, rfl⟩
abbrev main_cst_64 : Ref sig .tc := ⟨.hbm, 452, rfl⟩
abbrev main_v365 : Ref sig .tc := ⟨.hbm, 453, rfl⟩
abbrev main_v366 : Ref sig .tc := ⟨.hbm, 454, rfl⟩
abbrev main_v367 : Ref sig .tc := ⟨.hbm, 455, rfl⟩
abbrev main_v368 : Ref sig .tc := ⟨.hbm, 456, rfl⟩
abbrev main_cst_65 : Ref sig .tc := ⟨.hbm, 457, rfl⟩
abbrev main_v369 : Ref sig .tc := ⟨.hbm, 458, rfl⟩
abbrev main_v370 : Ref sig .tc := ⟨.hbm, 459, rfl⟩
abbrev main_cst_66 : Ref sig .tc := ⟨.hbm, 460, rfl⟩
abbrev main_v371 : Ref sig .tc := ⟨.hbm, 461, rfl⟩
abbrev main_v372 : Ref sig .tc := ⟨.hbm, 462, rfl⟩
abbrev main_v373 : Ref sig .tc := ⟨.hbm, 463, rfl⟩
abbrev main_cst_67 : Ref sig .tc := ⟨.hbm, 464, rfl⟩
abbrev main_v374 : Ref sig .tc := ⟨.hbm, 465, rfl⟩
abbrev main_v375 : Ref sig .tc := ⟨.hbm, 466, rfl⟩
abbrev main_v376 : Ref sig .tc := ⟨.hbm, 467, rfl⟩
abbrev main_v377 : Ref sig .tc := ⟨.hbm, 468, rfl⟩
abbrev main_cst_68 : Ref sig .tc := ⟨.hbm, 469, rfl⟩
abbrev main_v378 : Ref sig .tc := ⟨.hbm, 470, rfl⟩
abbrev main_v379 : Ref sig .tc := ⟨.hbm, 471, rfl⟩
abbrev main_cst_69 : Ref sig .tc := ⟨.hbm, 472, rfl⟩
abbrev main_v380 : Ref sig .tc := ⟨.hbm, 473, rfl⟩
abbrev main_v381 : Ref sig .tc := ⟨.hbm, 474, rfl⟩
abbrev main_v382 : Ref sig .tc := ⟨.hbm, 475, rfl⟩
abbrev main_cst_70 : Ref sig .tc := ⟨.hbm, 476, rfl⟩
abbrev main_v383 : Ref sig .tc := ⟨.hbm, 477, rfl⟩
abbrev main_v384 : Ref sig .tc := ⟨.hbm, 478, rfl⟩
abbrev main_v385 : Ref sig .tc := ⟨.hbm, 479, rfl⟩
abbrev main_v386 : Ref sig .tc := ⟨.hbm, 480, rfl⟩
abbrev main_cst_71 : Ref sig .tc := ⟨.hbm, 481, rfl⟩
abbrev main_v387 : Ref sig .tc := ⟨.hbm, 482, rfl⟩
abbrev main_v388 : Ref sig .tc := ⟨.hbm, 483, rfl⟩
abbrev main_cst_72 : Ref sig .tc := ⟨.hbm, 484, rfl⟩
abbrev main_v389 : Ref sig .tc := ⟨.hbm, 485, rfl⟩
abbrev main_v390 : Ref sig .tc := ⟨.hbm, 486, rfl⟩
abbrev main_v391 : Ref sig .tc := ⟨.hbm, 487, rfl⟩
abbrev main_cst_73 : Ref sig .tc := ⟨.hbm, 488, rfl⟩
abbrev main_v392 : Ref sig .tc := ⟨.hbm, 489, rfl⟩
abbrev main_v393 : Ref sig .tc := ⟨.hbm, 490, rfl⟩
abbrev main_v394 : Ref sig .tc := ⟨.hbm, 491, rfl⟩
abbrev main_v395 : Ref sig .tc := ⟨.hbm, 492, rfl⟩
abbrev main_cst_74 : Ref sig .tc := ⟨.hbm, 493, rfl⟩
abbrev main_v396 : Ref sig .tc := ⟨.hbm, 494, rfl⟩
abbrev main_v397 : Ref sig .tc := ⟨.hbm, 495, rfl⟩
abbrev main_cst_75 : Ref sig .tc := ⟨.hbm, 496, rfl⟩
abbrev main_v398 : Ref sig .tc := ⟨.hbm, 497, rfl⟩
abbrev main_v399 : Ref sig .tc := ⟨.hbm, 498, rfl⟩
abbrev main_v400 : Ref sig .tc := ⟨.hbm, 499, rfl⟩
abbrev main_cst_76 : Ref sig .tc := ⟨.hbm, 500, rfl⟩
abbrev main_v401 : Ref sig .tc := ⟨.hbm, 501, rfl⟩
abbrev main_v402 : Ref sig .tc := ⟨.hbm, 502, rfl⟩
abbrev main_v403 : Ref sig .tc := ⟨.hbm, 503, rfl⟩
abbrev main_v404 : Ref sig .tc := ⟨.hbm, 504, rfl⟩
abbrev main_cst_77 : Ref sig .tc := ⟨.hbm, 505, rfl⟩
abbrev main_v405 : Ref sig .tc := ⟨.hbm, 506, rfl⟩
abbrev main_v406 : Ref sig .tc := ⟨.hbm, 507, rfl⟩
abbrev main_cst_78 : Ref sig .tc := ⟨.hbm, 508, rfl⟩
abbrev main_v407 : Ref sig .tc := ⟨.hbm, 509, rfl⟩
abbrev main_v408 : Ref sig .tc := ⟨.hbm, 510, rfl⟩
abbrev main_v409 : Ref sig .tc := ⟨.hbm, 511, rfl⟩
abbrev main_cst_79 : Ref sig .tc := ⟨.hbm, 512, rfl⟩
abbrev main_v410 : Ref sig .tc := ⟨.hbm, 513, rfl⟩
abbrev main_v411 : Ref sig .tc := ⟨.hbm, 514, rfl⟩
abbrev main_v412 : Ref sig .tc := ⟨.hbm, 515, rfl⟩
abbrev main_v413 : Ref sig .tc := ⟨.hbm, 516, rfl⟩
abbrev main_cst_80 : Ref sig .tc := ⟨.hbm, 517, rfl⟩
abbrev main_v414 : Ref sig .tc := ⟨.hbm, 518, rfl⟩
abbrev main_v415 : Ref sig .tc := ⟨.hbm, 519, rfl⟩
abbrev main_cst_81 : Ref sig .tc := ⟨.hbm, 520, rfl⟩
abbrev main_v416 : Ref sig .tc := ⟨.hbm, 521, rfl⟩
abbrev main_v417 : Ref sig .tc := ⟨.hbm, 522, rfl⟩
abbrev main_v418 : Ref sig .tc := ⟨.hbm, 523, rfl⟩
abbrev main_cst_82 : Ref sig .tc := ⟨.hbm, 524, rfl⟩
abbrev main_v419 : Ref sig .tc := ⟨.hbm, 525, rfl⟩
abbrev main_v420 : Ref sig .tc := ⟨.hbm, 526, rfl⟩
abbrev main_v421 : Ref sig .tc := ⟨.hbm, 527, rfl⟩
abbrev main_v422 : Ref sig .tc := ⟨.hbm, 528, rfl⟩
abbrev main_cst_83 : Ref sig .tc := ⟨.hbm, 529, rfl⟩
abbrev main_v423 : Ref sig .tc := ⟨.hbm, 530, rfl⟩
abbrev main_v424 : Ref sig .tc := ⟨.hbm, 531, rfl⟩
abbrev main_cst_84 : Ref sig .tc := ⟨.hbm, 532, rfl⟩
abbrev main_v425 : Ref sig .tc := ⟨.hbm, 533, rfl⟩
abbrev main_v426 : Ref sig .tc := ⟨.hbm, 534, rfl⟩
abbrev main_v427 : Ref sig .tc := ⟨.hbm, 535, rfl⟩
abbrev main_cst_85 : Ref sig .tc := ⟨.hbm, 536, rfl⟩
abbrev main_v428 : Ref sig .tc := ⟨.hbm, 537, rfl⟩
abbrev main_v429 : Ref sig .tc := ⟨.hbm, 538, rfl⟩
abbrev main_v430 : Ref sig .tc := ⟨.hbm, 539, rfl⟩
abbrev main_v431 : Ref sig .tc := ⟨.hbm, 540, rfl⟩
abbrev main_cst_86 : Ref sig .tc := ⟨.hbm, 541, rfl⟩
abbrev main_v432 : Ref sig .tc := ⟨.hbm, 542, rfl⟩
abbrev main_v433 : Ref sig .tc := ⟨.hbm, 543, rfl⟩
abbrev main_cst_87 : Ref sig .tc := ⟨.hbm, 544, rfl⟩
abbrev main_v434 : Ref sig .tc := ⟨.hbm, 545, rfl⟩
abbrev main_v435 : Ref sig .tc := ⟨.hbm, 546, rfl⟩
abbrev main_v436 : Ref sig .tc := ⟨.hbm, 547, rfl⟩
abbrev main_cst_88 : Ref sig .tc := ⟨.hbm, 548, rfl⟩
abbrev main_v437 : Ref sig .tc := ⟨.hbm, 549, rfl⟩
abbrev main_v438 : Ref sig .tc := ⟨.hbm, 550, rfl⟩
abbrev main_v439 : Ref sig .tc := ⟨.hbm, 551, rfl⟩
abbrev main_v440 : Ref sig .tc := ⟨.hbm, 552, rfl⟩
abbrev main_cst_89 : Ref sig .tc := ⟨.hbm, 553, rfl⟩
abbrev main_v441 : Ref sig .tc := ⟨.hbm, 554, rfl⟩
abbrev main_v442 : Ref sig .tc := ⟨.hbm, 555, rfl⟩
abbrev main_cst_90 : Ref sig .tc := ⟨.hbm, 556, rfl⟩
abbrev main_v443 : Ref sig .tc := ⟨.hbm, 557, rfl⟩
abbrev main_v444 : Ref sig .tc := ⟨.hbm, 558, rfl⟩
abbrev main_v445 : Ref sig .tc := ⟨.hbm, 559, rfl⟩
abbrev main_cst_91 : Ref sig .tc := ⟨.hbm, 560, rfl⟩
abbrev main_v446 : Ref sig .tc := ⟨.hbm, 561, rfl⟩
abbrev main_v447 : Ref sig .tc := ⟨.hbm, 562, rfl⟩
abbrev main_v448 : Ref sig .tc := ⟨.hbm, 563, rfl⟩
abbrev main_v449 : Ref sig .tc := ⟨.hbm, 564, rfl⟩
abbrev main_cst_92 : Ref sig .tc := ⟨.hbm, 565, rfl⟩
abbrev main_v450 : Ref sig .tc := ⟨.hbm, 566, rfl⟩
abbrev main_v451 : Ref sig .tc := ⟨.hbm, 567, rfl⟩
abbrev main_cst_93 : Ref sig .tc := ⟨.hbm, 568, rfl⟩
abbrev main_v452 : Ref sig .tc := ⟨.hbm, 569, rfl⟩
abbrev main_v453 : Ref sig .tc := ⟨.hbm, 570, rfl⟩
abbrev main_v454 : Ref sig .tc := ⟨.hbm, 571, rfl⟩
abbrev main_cst_94 : Ref sig .tc := ⟨.hbm, 572, rfl⟩
abbrev main_v455 : Ref sig .tc := ⟨.hbm, 573, rfl⟩
abbrev main_v456 : Ref sig .tc := ⟨.hbm, 574, rfl⟩
abbrev main_v457 : Ref sig .tc := ⟨.hbm, 575, rfl⟩
abbrev main_v458 : Ref sig .tc := ⟨.hbm, 576, rfl⟩
abbrev main_cst_95 : Ref sig .tc := ⟨.hbm, 577, rfl⟩
abbrev main_v459 : Ref sig .tc := ⟨.hbm, 578, rfl⟩
abbrev main_v460 : Ref sig .tc := ⟨.hbm, 579, rfl⟩
abbrev main_cst_96 : Ref sig .tc := ⟨.hbm, 580, rfl⟩
abbrev main_v461 : Ref sig .tc := ⟨.hbm, 581, rfl⟩
abbrev main_v462 : Ref sig .tc := ⟨.hbm, 582, rfl⟩
abbrev main_v463 : Ref sig .tc := ⟨.hbm, 583, rfl⟩
abbrev main_cst_97 : Ref sig .tc := ⟨.hbm, 584, rfl⟩
abbrev main_v464 : Ref sig .tc := ⟨.hbm, 585, rfl⟩
abbrev main_v465 : Ref sig .tc := ⟨.hbm, 586, rfl⟩
abbrev main_v466 : Ref sig .tc := ⟨.hbm, 587, rfl⟩
abbrev main_v467 : Ref sig .tc := ⟨.hbm, 588, rfl⟩
abbrev main_cst_98 : Ref sig .tc := ⟨.hbm, 589, rfl⟩
abbrev main_v468 : Ref sig .tc := ⟨.hbm, 590, rfl⟩
abbrev main_v469 : Ref sig .tc := ⟨.hbm, 591, rfl⟩
abbrev main_cst_99 : Ref sig .tc := ⟨.hbm, 592, rfl⟩
abbrev main_v470 : Ref sig .tc := ⟨.hbm, 593, rfl⟩
abbrev main_v471 : Ref sig .tc := ⟨.hbm, 594, rfl⟩
abbrev main_v472 : Ref sig .tc := ⟨.hbm, 595, rfl⟩
abbrev main_cst_100 : Ref sig .tc := ⟨.hbm, 596, rfl⟩
abbrev main_v473 : Ref sig .tc := ⟨.hbm, 597, rfl⟩
abbrev main_v474 : Ref sig .tc := ⟨.hbm, 598, rfl⟩
abbrev main_v475 : Ref sig .tc := ⟨.hbm, 599, rfl⟩
abbrev main_v476 : Ref sig .tc := ⟨.hbm, 600, rfl⟩
abbrev main_cst_101 : Ref sig .tc := ⟨.hbm, 601, rfl⟩
abbrev main_v477 : Ref sig .tc := ⟨.hbm, 602, rfl⟩
abbrev main_v478 : Ref sig .tc := ⟨.hbm, 603, rfl⟩
abbrev main_cst_102 : Ref sig .tc := ⟨.hbm, 604, rfl⟩
abbrev main_v479 : Ref sig .tc := ⟨.hbm, 605, rfl⟩
abbrev main_v480 : Ref sig .tc := ⟨.hbm, 606, rfl⟩
abbrev main_v481 : Ref sig .tc := ⟨.hbm, 607, rfl⟩
abbrev main_cst_103 : Ref sig .tc := ⟨.hbm, 608, rfl⟩
abbrev main_v482 : Ref sig .tc := ⟨.hbm, 609, rfl⟩
abbrev main_v483 : Ref sig .tc := ⟨.hbm, 610, rfl⟩
abbrev main_v484 : Ref sig .tc := ⟨.hbm, 611, rfl⟩
abbrev main_v485 : Ref sig .tc := ⟨.hbm, 612, rfl⟩
abbrev main_cst_104 : Ref sig .tc := ⟨.hbm, 613, rfl⟩
abbrev main_v486 : Ref sig .tc := ⟨.hbm, 614, rfl⟩
abbrev main_v487 : Ref sig .tc := ⟨.hbm, 615, rfl⟩
abbrev main_cst_105 : Ref sig .tc := ⟨.hbm, 616, rfl⟩
abbrev main_v488 : Ref sig .tc := ⟨.hbm, 617, rfl⟩
abbrev main_v489 : Ref sig .tc := ⟨.hbm, 618, rfl⟩
abbrev main_v490 : Ref sig .tc := ⟨.hbm, 619, rfl⟩
abbrev main_cst_106 : Ref sig .tc := ⟨.hbm, 620, rfl⟩
abbrev main_v491 : Ref sig .tc := ⟨.hbm, 621, rfl⟩
abbrev main_v492 : Ref sig .tc := ⟨.hbm, 622, rfl⟩
abbrev main_v493 : Ref sig .tc := ⟨.hbm, 623, rfl⟩
abbrev main_v494 : Ref sig .tc := ⟨.hbm, 624, rfl⟩
abbrev main_cst_107 : Ref sig .tc := ⟨.hbm, 625, rfl⟩
abbrev main_v495 : Ref sig .tc := ⟨.hbm, 626, rfl⟩
abbrev main_v496 : Ref sig .tc := ⟨.hbm, 627, rfl⟩
abbrev main_cst_108 : Ref sig .tc := ⟨.hbm, 628, rfl⟩
abbrev main_v497 : Ref sig .tc := ⟨.hbm, 629, rfl⟩
abbrev main_v498 : Ref sig .tc := ⟨.hbm, 630, rfl⟩
abbrev main_v499 : Ref sig .tc := ⟨.hbm, 631, rfl⟩
abbrev main_cst_109 : Ref sig .tc := ⟨.hbm, 632, rfl⟩
abbrev main_v500 : Ref sig .tc := ⟨.hbm, 633, rfl⟩
abbrev main_v501 : Ref sig .tc := ⟨.hbm, 634, rfl⟩
abbrev main_v502 : Ref sig .tc := ⟨.hbm, 635, rfl⟩
abbrev main_v503 : Ref sig .tc := ⟨.hbm, 636, rfl⟩
abbrev main_cst_110 : Ref sig .tc := ⟨.hbm, 637, rfl⟩
abbrev main_v504 : Ref sig .tc := ⟨.hbm, 638, rfl⟩
abbrev main_v505 : Ref sig .tc := ⟨.hbm, 639, rfl⟩
abbrev main_cst_111 : Ref sig .tc := ⟨.hbm, 640, rfl⟩
abbrev main_v506 : Ref sig .tc := ⟨.hbm, 641, rfl⟩
abbrev main_v507 : Ref sig .tc := ⟨.hbm, 642, rfl⟩
abbrev main_v508 : Ref sig .tc := ⟨.hbm, 643, rfl⟩
abbrev main_cst_112 : Ref sig .tc := ⟨.hbm, 644, rfl⟩
abbrev main_v509 : Ref sig .tc := ⟨.hbm, 645, rfl⟩
abbrev main_v510 : Ref sig .tc := ⟨.hbm, 646, rfl⟩
abbrev main_v511 : Ref sig .tc := ⟨.hbm, 647, rfl⟩
abbrev main_v512 : Ref sig .tc := ⟨.hbm, 648, rfl⟩
abbrev main_cst_113 : Ref sig .tc := ⟨.hbm, 649, rfl⟩
abbrev main_v513 : Ref sig .tc := ⟨.hbm, 650, rfl⟩
abbrev main_v514 : Ref sig .tc := ⟨.hbm, 651, rfl⟩
abbrev main_cst_114 : Ref sig .tc := ⟨.hbm, 652, rfl⟩
abbrev main_v515 : Ref sig .tc := ⟨.hbm, 653, rfl⟩
abbrev main_v516 : Ref sig .tc := ⟨.hbm, 654, rfl⟩
abbrev main_v517 : Ref sig .tc := ⟨.hbm, 655, rfl⟩
abbrev main_cst_115 : Ref sig .tc := ⟨.hbm, 656, rfl⟩
abbrev main_v518 : Ref sig .tc := ⟨.hbm, 657, rfl⟩
abbrev main_v519 : Ref sig .tc := ⟨.hbm, 658, rfl⟩
abbrev main_v520 : Ref sig .tc := ⟨.hbm, 659, rfl⟩
abbrev main_v521 : Ref sig .tc := ⟨.hbm, 660, rfl⟩
abbrev main_cst_116 : Ref sig .tc := ⟨.hbm, 661, rfl⟩
abbrev main_v522 : Ref sig .tc := ⟨.hbm, 662, rfl⟩
abbrev main_v523 : Ref sig .tc := ⟨.hbm, 663, rfl⟩
abbrev main_cst_117 : Ref sig .tc := ⟨.hbm, 664, rfl⟩
abbrev main_v524 : Ref sig .tc := ⟨.hbm, 665, rfl⟩
abbrev main_v525 : Ref sig .tc := ⟨.hbm, 666, rfl⟩
abbrev main_v526 : Ref sig .tc := ⟨.hbm, 667, rfl⟩
abbrev main_v527 : Ref sig .tc := ⟨.hbm, 668, rfl⟩
abbrev main_v528 : Ref sig .tc := ⟨.hbm, 669, rfl⟩
abbrev main_v529 : Ref sig .tc := ⟨.hbm, 670, rfl⟩
abbrev main_v530 : Ref sig .tc := ⟨.hbm, 671, rfl⟩
abbrev main_c : Ref sig .tc := ⟨.hbm, 672, rfl⟩
abbrev main_call2_v0 : Ref sig .tc := ⟨.hbm, 673, rfl⟩
abbrev main_v531 : Ref sig .tc := ⟨.hbm, 674, rfl⟩
abbrev main_v532 : Ref sig .tc := ⟨.hbm, 675, rfl⟩
abbrev main_c_118 : Ref sig .tc := ⟨.hbm, 676, rfl⟩
abbrev main_call3_v0 : Ref sig .tc := ⟨.hbm, 677, rfl⟩
abbrev main_v533 : Ref sig .tc := ⟨.hbm, 678, rfl⟩
abbrev main_v534 : Ref sig .tc := ⟨.hbm, 679, rfl⟩
abbrev main_c_119 : Ref sig .tc := ⟨.hbm, 680, rfl⟩
abbrev main_call4_v0 : Ref sig .tc := ⟨.hbm, 681, rfl⟩
abbrev main_v535 : Ref sig .tc := ⟨.hbm, 682, rfl⟩
abbrev main_v536 : Ref sig .tc := ⟨.hbm, 683, rfl⟩
abbrev main_v537 : Ref sig .tc := ⟨.hbm, 684, rfl⟩
abbrev main_v538 : Ref sig .tc := ⟨.hbm, 685, rfl⟩

abbrev nD : Nat := 1
abbrev τ : Topo := Topo.v7x

variable {F : FTy → Type} [FloatOps F]
-- ==== Kernel2.lean ====
abbrev S8448x1024 : Shape := ⟨2, ![8448, 1024]⟩
abbrev S8448x6144 : Shape := ⟨2, ![8448, 6144]⟩
abbrev S8x1024x768 : Shape := ⟨3, ![8, 1024, 768]⟩
abbrev S1408x1024 : Shape := ⟨2, ![1408, 1024]⟩
abbrev S1408x768 : Shape := ⟨2, ![1408, 768]⟩
abbrev S1x1024x768 : Shape := ⟨3, ![1, 1024, 768]⟩
abbrev S1024x768 : Shape := ⟨2, ![1024, 768]⟩

abbrev nBuf : Space → Nat
  | .hbm => 3
  | .vmem => 7
  | .smem => 0
  | _ => 0

abbrev bufTy : (tb : Table) → Fin (tcTables nBuf tb) → BufTy
  | .hbm, ⟨0, _⟩ => ⟨S8448x1024, .bf16⟩
  | .hbm, ⟨1, _⟩ => ⟨S8448x6144, .bf16⟩
  | .hbm, ⟨2, _⟩ => ⟨S8x1024x768, .bf16⟩
  | .local _ .vmem, ⟨0, _⟩ => ⟨S1408x1024, .bf16⟩
  | .local _ .vmem, ⟨1, _⟩ => ⟨S1408x1024, .bf16⟩
  | .local _ .vmem, ⟨2, _⟩ => ⟨S1408x768, .bf16⟩
  | .local _ .vmem, ⟨3, _⟩ => ⟨S1408x768, .bf16⟩
  | .local _ .vmem, ⟨4, _⟩ => ⟨S1x1024x768, .bf16⟩
  | .local _ .vmem, ⟨5, _⟩ => ⟨S1x1024x768, .bf16⟩
  | .local _ .vmem, ⟨6, _⟩ => ⟨S1024x768, .f32⟩
  | _, _ => ⟨S8448x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 8, 6], ![false, false, false]⟩

def k0_cond2 (i : grid0.Coords) : BitVec 1 :=
  let arg2 : BitVec 32 := BitVec.ofNat 32 (i 2).val
  let c5_i32 : BitVec 32 := 5#32
  let v11 : BitVec 1 := Scalar.cmpi .eq arg2 c5_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg1 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c4_i32 : BitVec 32 := 4#32
  let v10 : BitVec 32 := Scalar.muli v9 c4_i32
  let c2_i32_3 : BitVec 32 := 2#32
  let v11 : BitVec 32 := Scalar.divsi arg1 c2_i32_3
  let c0_i32_4 : BitVec 32 := 0#32
  let v12 : BitVec 1 := Scalar.cmpi .sgt arg1 c0_i32_4
  let v13 : BitVec 32 := Scalar.extui v12
  let c0_i32_5 : BitVec 32 := 0#32
  let v14 : BitVec 1 := Scalar.cmpi .slt arg1 c0_i32_5
  let v15 : BitVec 32 := Scalar.extui v14
  let v16 : BitVec 32 := Scalar.subi v13 v15
  let c0_i32_6 : BitVec 32 := 0#32
  let v17 : BitVec 1 := Scalar.cmpi .sgt c2_i32_3 c0_i32_6
  let v18 : BitVec 32 := Scalar.extui v17
  let c0_i32_7 : BitVec 32 := 0#32
  let v19 : BitVec 1 := Scalar.cmpi .slt c2_i32_3 c0_i32_7
  let v20 : BitVec 32 := Scalar.extui v19
  let v21 : BitVec 32 := Scalar.subi v18 v20
  let v22 : BitVec 1 := Scalar.cmpi .ne v16 v21
  let v23 : BitVec 32 := Scalar.remsi arg1 c2_i32_3
  let c0_i32_8 : BitVec 32 := 0#32
  let v24 : BitVec 1 := Scalar.cmpi .ne v23 c0_i32_8
  let v25 : BitVec 1 := Scalar.andi v22 v24
  let c1_i32_9 : BitVec 32 := 1#32
  let v26 : BitVec 32 := Scalar.subi v11 c1_i32_9
  let v27 : BitVec 32 := Scalar.select v25 v26 v11
  let v28 : BitVec 32 := Scalar.addi v10 v27
  let c0_i32_10 : BitVec 32 := 0#32
  let c0_i32_11 : BitVec 32 := 0#32
  ![v28.toNat, arg0.toNat, c0_i32_10.toNat]

abbrev stage0_0 : Fin 2 → Memref sig .tc .vmem S1408x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference2Ideal.lean ====
abbrev S8448x1024 : Shape := ⟨2, ![8448, 1024]⟩
abbrev S8448x6144 : Shape := ⟨2, ![8448, 6144]⟩
abbrev S_ : Shape := ⟨0, ![]⟩
abbrev S1024x6144 : Shape := ⟨2, ![1024, 6144]⟩
abbrev S6144x1024 : Shape := ⟨2, ![6144, 1024]⟩
abbrev S1024x4x2x768 : Shape := ⟨4, ![1024, 4, 2, 768]⟩
abbrev S2x4x1024x768 : Shape := ⟨4, ![2, 4, 1024, 768]⟩
abbrev S8x1024x768 : Shape := ⟨3, ![8, 1024, 768]⟩

abbrev nBuf : Space → Nat
  | .hbm => 13
  | .vmem => 0
  | .smem => 0
  | _ => 0

abbrev bufTy : (tb : Table) → Fin (tcTables nBuf tb) → BufTy
  | .hbm, ⟨0, _⟩ => ⟨S8448x1024, .bf16⟩
  | .hbm, ⟨1, _⟩ => ⟨S8448x6144, .bf16⟩
  | .hbm, ⟨2, _⟩ => ⟨S_, .f32⟩
  | .hbm, ⟨3, _⟩ => ⟨S1024x6144, .f32⟩
  | .hbm, ⟨4, _⟩ => ⟨S8448x1024, .f32⟩
  | .hbm, ⟨5, _⟩ => ⟨S8448x6144, .f32⟩
  | .hbm, ⟨6, _⟩ => ⟨S8448x6144, .f32⟩
  | .hbm, ⟨7, _⟩ => ⟨S6144x1024, .f32⟩
  | .hbm, ⟨8, _⟩ => ⟨S1024x6144, .f32⟩
  | .hbm, ⟨9, _⟩ => ⟨S1024x4x2x768, .f32⟩
  | .hbm, ⟨10, _⟩ => ⟨S2x4x1024x768, .f32⟩
  | .hbm, ⟨11, _⟩ => ⟨S8x1024x768, .f32⟩
  | .hbm, ⟨12, _⟩ => ⟨S8x1024x768, .bf16⟩
  | _, _ => ⟨S8448x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩

abbrev nD : Nat := 1
abbrev τ : Topo := Topo.v7x

variable {F : FTy → Type} [FloatOps F]
-- ==== Kernel3.lean ====
abbrev S8448x3072 : Shape := ⟨2, ![8448, 3072]⟩
abbrev S8448x1024 : Shape := ⟨2, ![8448, 1024]⟩
abbrev S3072x1024 : Shape := ⟨2, ![3072, 1024]⟩
abbrev S1408x1536 : Shape := ⟨2, ![1408, 1536]⟩
abbrev S1408x1024 : Shape := ⟨2, ![1408, 1024]⟩
abbrev S1536x1024 : Shape := ⟨2, ![1536, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8448x3072, .bf16⟩
  | .hbm, ⟨1, _⟩ => ⟨S8448x1024, .f32⟩
  | .hbm, ⟨2, _⟩ => ⟨S3072x1024, .bf16⟩
  | .local _ .vmem, ⟨0, _⟩ => ⟨S1408x1536, .bf16⟩
  | .local _ .vmem, ⟨1, _⟩ => ⟨S1408x1536, .bf16⟩
  | .local _ .vmem, ⟨2, _⟩ => ⟨S1408x1024, .f32⟩
  | .local _ .vmem, ⟨3, _⟩ => ⟨S1408x1024, .f32⟩
  | .local _ .vmem, ⟨4, _⟩ => ⟨S1536x1024, .bf16⟩
  | .local _ .vmem, ⟨5, _⟩ => ⟨S1536x1024, .bf16⟩
  | .local _ .vmem, ⟨6, _⟩ => ⟨S1536x1024, .f32⟩
  | _, _ => ⟨S8448x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 6], ![false, false, false]⟩

def k0_cond2 (i : grid0.Coords) : BitVec 1 :=
  let arg2 : BitVec 32 := BitVec.ofNat 32 (i 2).val
  let c5_i32 : BitVec 32 := 5#32
  let v12 : BitVec 1 := Scalar.cmpi .eq arg2 c5_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1408x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1536x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S8448x3072 : Shape := ⟨2, ![8448, 3072]⟩
abbrev S8448x1024 : Shape := ⟨2, ![8448, 1024]⟩
abbrev S_ : Shape := ⟨0, ![]⟩
abbrev S3072x1024 : Shape := ⟨2, ![3072, 1024]⟩
abbrev S1024x3072 : Shape := ⟨2, ![1024, 3072]⟩

abbrev nBuf : Space → Nat
  | .hbm => 15
  | .vmem => 0
  | .smem => 0
  | _ => 0

abbrev bufTy : (tb : Table) → Fin (tcTables nBuf tb) → BufTy
  | .hbm, ⟨0, _⟩ => ⟨S8448x3072, .bf16⟩
  | .hbm, ⟨1, _⟩ => ⟨S8448x1024, .f32⟩
  | .hbm, ⟨2, _⟩ => ⟨S_, .f32⟩
  | .hbm, ⟨3, _⟩ => ⟨S3072x1024, .f32⟩
  | .hbm, ⟨4, _⟩ => ⟨S8448x3072, .f32⟩
  | .hbm, ⟨5, _⟩ => ⟨S8448x1024, .f32⟩
  | .hbm, ⟨6, _⟩ => ⟨S_, .f32⟩
  | .hbm, ⟨7, _⟩ => ⟨S8448x1024, .f32⟩
  | .hbm, ⟨8, _⟩ => ⟨S8448x1024, .f32⟩
  | .hbm, ⟨9, _⟩ => ⟨S_, .f32⟩
  | .hbm, ⟨10, _⟩ => ⟨S8448x1024, .f32⟩
  | .hbm, ⟨11, _⟩ => ⟨S8448x1024, .f32⟩
  | .hbm, ⟨12, _⟩ => ⟨S1024x3072, .f32⟩
  | .hbm, ⟨13, _⟩ => ⟨S3072x1024, .f32⟩
  | .hbm, ⟨14, _⟩ => ⟨S3072x1024, .bf16⟩
  | _, _ => ⟨S8448x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩

abbrev nD : Nat := 1
abbrev τ : Topo := Topo.v7x

variable {F : FTy → Type} [FloatOps F]
-- ==== Kernel4.lean ====
abbrev S8448x1024 : Shape := ⟨2, ![8448, 1024]⟩
abbrev S8448x2816 : Shape := ⟨2, ![8448, 2816]⟩
abbrev S1024x2816 : Shape := ⟨2, ![1024, 2816]⟩
abbrev S1408x1024 : Shape := ⟨2, ![1408, 1024]⟩
abbrev S1408x1408 : Shape := ⟨2, ![1408, 1408]⟩
abbrev S1024x1408 : Shape := ⟨2, ![1024, 1408]⟩

abbrev nBuf : Space → Nat
  | .hbm => 3
  | .vmem => 7
  | .smem => 0
  | _ => 0

abbrev bufTy : (tb : Table) → Fin (tcTables nBuf tb) → BufTy
  | .hbm, ⟨0, _⟩ => ⟨S8448x1024, .bf16⟩
  | .hbm, ⟨1, _⟩ => ⟨S8448x2816, .bf16⟩
  | .hbm, ⟨2, _⟩ => ⟨S1024x2816, .bf16⟩
  | .local _ .vmem, ⟨0, _⟩ => ⟨S1408x1024, .bf16⟩
  | .local _ .vmem, ⟨1, _⟩ => ⟨S1408x1024, .bf16⟩
  | .local _ .vmem, ⟨2, _⟩ => ⟨S1408x1408, .bf16⟩
  | .local _ .vmem, ⟨3, _⟩ => ⟨S1408x1408, .bf16⟩
  | .local _ .vmem, ⟨4, _⟩ => ⟨S1024x1408, .bf16⟩
  | .local _ .vmem, ⟨5, _⟩ => ⟨S1024x1408, .bf16⟩
  | .local _ .vmem, ⟨6, _⟩ => ⟨S1024x1408, .f32⟩
  | _, _ => ⟨S8448x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 6], ![false, false, false]⟩

def k0_cond2 (i : grid0.Coords) : BitVec 1 :=
  let arg2 : BitVec 32 := BitVec.ofNat 32 (i 2).val
  let c5_i32 : BitVec 32 := 5#32
  let v11 : BitVec 1 := Scalar.cmpi .eq arg2 c5_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1408x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S8448x1024 : Shape := ⟨2, ![8448, 1024]⟩
abbrev S8448x2816 : Shape := ⟨2, ![8448, 2816]⟩
abbrev S_ : Shape := ⟨0, ![]⟩
abbrev S1024x2816 : Shape := ⟨2, ![1024, 2816]⟩
abbrev S2816x1024 : Shape := ⟨2, ![2816, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8448x1024, .bf16⟩
  | .hbm, ⟨1, _⟩ => ⟨S8448x2816, .bf16⟩
  | .hbm, ⟨2, _⟩ => ⟨S_, .f32⟩
  | .hbm, ⟨3, _⟩ => ⟨S1024x2816, .f32⟩
  | .hbm, ⟨4, _⟩ => ⟨S8448x1024, .f32⟩
  | .hbm, ⟨5, _⟩ => ⟨S8448x2816, .f32⟩
  | .hbm, ⟨6, _⟩ => ⟨S8448x2816, .f32⟩
  | .hbm, ⟨7, _⟩ => ⟨S2816x1024, .f32⟩
  | .hbm, ⟨8, _⟩ => ⟨S1024x2816, .f32⟩
  | .hbm, ⟨9, _⟩ => ⟨S1024x2816, .bf16⟩
  | _, _ => ⟨S8448x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel5.lean ====
abbrev S8448x1024 : Shape := ⟨2, ![8448, 1024]⟩
abbrev S1024x1024 : Shape := ⟨2, ![1024, 1024]⟩
abbrev S1408x1024 : Shape := ⟨2, ![1408, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8448x1024, .bf16⟩
  | .hbm, ⟨1, _⟩ => ⟨S8448x1024, .f32⟩
  | .hbm, ⟨2, _⟩ => ⟨S1024x1024, .bf16⟩
  | .local _ .vmem, ⟨0, _⟩ => ⟨S1408x1024, .bf16⟩
  | .local _ .vmem, ⟨1, _⟩ => ⟨S1408x1024, .bf16⟩
  | .local _ .vmem, ⟨2, _⟩ => ⟨S1408x1024, .f32⟩
  | .local _ .vmem, ⟨3, _⟩ => ⟨S1408x1024, .f32⟩
  | .local _ .vmem, ⟨4, _⟩ => ⟨S1024x1024, .bf16⟩
  | .local _ .vmem, ⟨5, _⟩ => ⟨S1024x1024, .f32⟩
  | _, _ => ⟨S8448x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 6], ![false, false, false]⟩

def k0_cond2 (i : grid0.Coords) : BitVec 1 :=
  let arg2 : BitVec 32 := BitVec.ofNat 32 (i 2).val
  let c5_i32 : BitVec 32 := 5#32
  let v12 : BitVec 1 := Scalar.cmpi .eq arg2 c5_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1408x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference5Ideal.lean ====
abbrev S8448x1024 : Shape := ⟨2, ![8448, 1024]⟩
abbrev S_ : Shape := ⟨0, ![]⟩
abbrev S1024x1024 : Shape := ⟨2, ![1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8448x1024, .bf16⟩
  | .hbm, ⟨1, _⟩ => ⟨S8448x1024, .f32⟩
  | .hbm, ⟨2, _⟩ => ⟨S_, .f32⟩
  | .hbm, ⟨3, _⟩ => ⟨S1024x1024, .f32⟩
  | .hbm, ⟨4, _⟩ => ⟨S8448x1024, .f32⟩
  | .hbm, ⟨5, _⟩ => ⟨S8448x1024, .f32⟩
  | .hbm, ⟨6, _⟩ => ⟨S1024x1024, .f32⟩
  | .hbm, ⟨7, _⟩ => ⟨S1024x1024, .f32⟩
  | .hbm, ⟨8, _⟩ => ⟨S1024x1024, .bf16⟩
  | _, _ => ⟨S8448x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel6.lean ====
abbrev S8448x1024 : Shape := ⟨2, ![8448, 1024]⟩
abbrev S1024 : Shape := ⟨1, ![1024]⟩
abbrev S1024x2816 : Shape := ⟨2, ![1024, 2816]⟩
abbrev S1x1024 : Shape := ⟨2, ![1, 1024]⟩
abbrev S8448x2816 : Shape := ⟨2, ![8448, 2816]⟩
abbrev S768x1024 : Shape := ⟨2, ![768, 1024]⟩
abbrev S768x2816 : Shape := ⟨2, ![768, 2816]⟩
abbrev S768 : Shape := ⟨1, ![768]⟩
abbrev S768x1 : Shape := ⟨2, ![768, 1]⟩

abbrev nBuf : Space → Nat
  | .hbm => 8
  | .vmem => 7
  | .smem => 0
  | _ => 0

abbrev bufTy : (tb : Table) → Fin (tcTables nBuf tb) → BufTy
  | .hbm, ⟨0, _⟩ => ⟨S8448x1024, .f32⟩
  | .hbm, ⟨1, _⟩ => ⟨S1024, .f32⟩
  | .hbm, ⟨2, _⟩ => ⟨S1024, .f32⟩
  | .hbm, ⟨3, _⟩ => ⟨S1024x2816, .f32⟩
  | .hbm, ⟨4, _⟩ => ⟨S1x1024, .f32⟩
  | .hbm, ⟨5, _⟩ => ⟨S1x1024, .f32⟩
  | .hbm, ⟨6, _⟩ => ⟨S1024x2816, .bf16⟩
  | .hbm, ⟨7, _⟩ => ⟨S8448x2816, .f32⟩
  | .local _ .vmem, ⟨0, _⟩ => ⟨S768x1024, .f32⟩
  | .local _ .vmem, ⟨1, _⟩ => ⟨S768x1024, .f32⟩
  | .local _ .vmem, ⟨2, _⟩ => ⟨S1x1024, .f32⟩
  | .local _ .vmem, ⟨3, _⟩ => ⟨S1x1024, .f32⟩
  | .local _ .vmem, ⟨4, _⟩ => ⟨S1024x2816, .bf16⟩
  | .local _ .vmem, ⟨5, _⟩ => ⟨S768x2816, .f32⟩
  | .local _ .vmem, ⟨6, _⟩ => ⟨S768x2816, .f32⟩
  | _, _ => ⟨S8448x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S768x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S768x2816 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference6Ideal.lean ====
abbrev S8448x1024 : Shape := ⟨2, ![8448, 1024]⟩
abbrev S1024 : Shape := ⟨1, ![1024]⟩
abbrev S1024x2816 : Shape := ⟨2, ![1024, 2816]⟩
abbrev S_ : Shape := ⟨0, ![]⟩
abbrev S8448 : Shape := ⟨1, ![8448]⟩
abbrev S8448x1 : Shape := ⟨2, ![8448, 1]⟩
abbrev S1x1024 : Shape := ⟨2, ![1, 1024]⟩
abbrev S8448x2816 : Shape := ⟨2, ![8448, 2816]⟩
abbrev S8208x2816 : Shape := ⟨2, ![8208, 2816]⟩

abbrev nBuf : Space → Nat
  | .hbm => 38
  | .vmem => 0
  | .smem => 0
  | _ => 0

abbrev bufTy : (tb : Table) → Fin (tcTables nBuf tb) → BufTy
  | .hbm, ⟨0, _⟩ => ⟨S8448x1024, .f32⟩
  | .hbm, ⟨1, _⟩ => ⟨S1024, .f32⟩
  | .hbm, ⟨2, _⟩ => ⟨S1024, .f32⟩
  | .hbm, ⟨3, _⟩ => ⟨S1024x2816, .f32⟩
  | .hbm, ⟨4, _⟩ => ⟨S_, .f32⟩
  | .hbm, ⟨5, _⟩ => ⟨S8448, .f32⟩
  | .hbm, ⟨6, _⟩ => ⟨S8448x1, .f32⟩
  | .hbm, ⟨7, _⟩ => ⟨S_, .f32⟩
  | .hbm, ⟨8, _⟩ => ⟨S8448x1, .f32⟩
  | .hbm, ⟨9, _⟩ => ⟨S8448x1, .f32⟩
  | .hbm, ⟨10, _⟩ => ⟨S8448x1024, .f32⟩
  | .hbm, ⟨11, _⟩ => ⟨S8448x1024, .f32⟩
  | .hbm, ⟨12, _⟩ => ⟨S8448x1024, .f32⟩
  | .hbm, ⟨13, _⟩ => ⟨S_, .f32⟩
  | .hbm, ⟨14, _⟩ => ⟨S8448, .f32⟩
  | .hbm, ⟨15, _⟩ => ⟨S8448x1, .f32⟩
  | .hbm, ⟨16, _⟩ => ⟨S_, .f32⟩
  | .hbm, ⟨17, _⟩ => ⟨S8448x1, .f32⟩
  | .hbm, ⟨18, _⟩ => ⟨S8448x1, .f32⟩
  | .hbm, ⟨19, _⟩ => ⟨S8448x1024, .f32⟩
  | .hbm, ⟨20, _⟩ => ⟨S8448x1024, .f32⟩
  | .hbm, ⟨21, _⟩ => ⟨S_, .f32⟩
  | .hbm, ⟨22, _⟩ => ⟨S8448x1, .f32⟩
  | .hbm, ⟨23, _⟩ => ⟨S8448x1, .f32⟩
  | .hbm, ⟨24, _⟩ => ⟨S8448x1, .f32⟩
  | .hbm, ⟨25, _⟩ => ⟨S8448x1024, .f32⟩
  | .hbm, ⟨26, _⟩ => ⟨S8448x1024, .f32⟩
  | .hbm, ⟨27, _⟩ => ⟨S1x1024, .f32⟩
  | .hbm, ⟨28, _⟩ => ⟨S8448x1024, .f32⟩
  | .hbm, ⟨29, _⟩ => ⟨S8448x1024, .f32⟩
  | .hbm, ⟨30, _⟩ => ⟨S1x1024, .f32⟩
  | .hbm, ⟨31, _⟩ => ⟨S8448x1024, .f32⟩
  | .hbm, ⟨32, _⟩ => ⟨S8448x1024, .f32⟩
  | .hbm, ⟨33, _⟩ => ⟨S8448x2816, .f32⟩
  | .hbm, ⟨34, _⟩ => ⟨S8208x2816, .f32⟩
  | .hbm, ⟨35, _⟩ => ⟨S_, .i32⟩
  | .hbm, ⟨36, _⟩ => ⟨S_, .f32⟩
  | .hbm, ⟨37, _⟩ => ⟨S8448x2816, .f32⟩
  | _, _ => ⟨S8448x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_3 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_c : Ref sig .tc := ⟨.hbm, 35, rfl⟩
abbrev main_call0_v0 : Ref sig .tc := ⟨.hbm, 36, rfl⟩
abbrev main_v26 : Ref sig .tc := ⟨.hbm, 37, rfl⟩

abbrev nD : Nat := 1
abbrev τ : Topo := Topo.v7x

variable {F : FTy → Type} [FloatOps F]
-- ==== Kernel7.lean ====
abbrev S8448x1024 : Shape := ⟨2, ![8448, 1024]⟩
abbrev S1024 : Shape := ⟨1, ![1024]⟩
abbrev S1024x1024 : Shape := ⟨2, ![1024, 1024]⟩
abbrev S1x1024 : Shape := ⟨2, ![1, 1024]⟩
abbrev S768x1024 : Shape := ⟨2, ![768, 1024]⟩
abbrev S768 : Shape := ⟨1, ![768]⟩
abbrev S768x1 : Shape := ⟨2, ![768, 1]⟩

abbrev nBuf : Space → Nat
  | .hbm => 9
  | .vmem => 9
  | .smem => 0
  | _ => 0

abbrev bufTy : (tb : Table) → Fin (tcTables nBuf tb) → BufTy
  | .hbm, ⟨0, _⟩ => ⟨S8448x1024, .f32⟩
  | .hbm, ⟨1, _⟩ => ⟨S1024, .f32⟩
  | .hbm, ⟨2, _⟩ => ⟨S1024, .f32⟩
  | .hbm, ⟨3, _⟩ => ⟨S8448x1024, .bf16⟩
  | .hbm, ⟨4, _⟩ => ⟨S1024x1024, .f32⟩
  | .hbm, ⟨5, _⟩ => ⟨S1x1024, .f32⟩
  | .hbm, ⟨6, _⟩ => ⟨S1x1024, .f32⟩
  | .hbm, ⟨7, _⟩ => ⟨S1024x1024, .bf16⟩
  | .hbm, ⟨8, _⟩ => ⟨S8448x1024, .f32⟩
  | .local _ .vmem, ⟨0, _⟩ => ⟨S768x1024, .f32⟩
  | .local _ .vmem, ⟨1, _⟩ => ⟨S768x1024, .f32⟩
  | .local _ .vmem, ⟨2, _⟩ => ⟨S1x1024, .f32⟩
  | .local _ .vmem, ⟨3, _⟩ => ⟨S1x1024, .f32⟩
  | .local _ .vmem, ⟨4, _⟩ => ⟨S768x1024, .bf16⟩
  | .local _ .vmem, ⟨5, _⟩ => ⟨S768x1024, .bf16⟩
  | .local _ .vmem, ⟨6, _⟩ => ⟨S1024x1024, .bf16⟩
  | .local _ .vmem, ⟨7, _⟩ => ⟨S768x1024, .f32⟩
  | .local _ .vmem, ⟨8, _⟩ => ⟨S768x1024, .f32⟩
  | _, _ => ⟨S8448x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S768x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S768x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S768x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference7Ideal.lean ====
abbrev S8448x1024 : Shape := ⟨2, ![8448, 1024]⟩
abbrev S1024 : Shape := ⟨1, ![1024]⟩
abbrev S1024x1024 : Shape := ⟨2, ![1024, 1024]⟩
abbrev S_ : Shape := ⟨0, ![]⟩
abbrev S8448 : Shape := ⟨1, ![8448]⟩
abbrev S8448x1 : Shape := ⟨2, ![8448, 1]⟩
abbrev S1x1024 : Shape := ⟨2, ![1, 1024]⟩

abbrev nBuf : Space → Nat
  | .hbm => 40
  | .vmem => 0
  | .smem => 0
  | _ => 0

abbrev bufTy : (tb : Table) → Fin (tcTables nBuf tb) → BufTy
  | .hbm, ⟨0, _⟩ => ⟨S8448x1024, .f32⟩
  | .hbm, ⟨1, _⟩ => ⟨S1024, .f32⟩
  | .hbm, ⟨2, _⟩ => ⟨S1024, .f32⟩
  | .hbm, ⟨3, _⟩ => ⟨S8448x1024, .bf16⟩
  | .hbm, ⟨4, _⟩ => ⟨S1024x1024, .f32⟩
  | .hbm, ⟨5, _⟩ => ⟨S_, .f32⟩
  | .hbm, ⟨6, _⟩ => ⟨S8448, .f32⟩
  | .hbm, ⟨7, _⟩ => ⟨S8448x1, .f32⟩
  | .hbm, ⟨8, _⟩ => ⟨S_, .f32⟩
  | .hbm, ⟨9, _⟩ => ⟨S8448x1, .f32⟩
  | .hbm, ⟨10, _⟩ => ⟨S8448x1, .f32⟩
  | .hbm, ⟨11, _⟩ => ⟨S8448x1024, .f32⟩
  | .hbm, ⟨12, _⟩ => ⟨S8448x1024, .f32⟩
  | .hbm, ⟨13, _⟩ => ⟨S8448x1024, .f32⟩
  | .hbm, ⟨14, _⟩ => ⟨S_, .f32⟩
  | .hbm, ⟨15, _⟩ => ⟨S8448, .f32⟩
  | .hbm, ⟨16, _⟩ => ⟨S8448x1, .f32⟩
  | .hbm, ⟨17, _⟩ => ⟨S_, .f32⟩
  | .hbm, ⟨18, _⟩ => ⟨S8448x1, .f32⟩
  | .hbm, ⟨19, _⟩ => ⟨S8448x1, .f32⟩
  | .hbm, ⟨20, _⟩ => ⟨S8448x1024, .f32⟩
  | .hbm, ⟨21, _⟩ => ⟨S8448x1024, .f32⟩
  | .hbm, ⟨22, _⟩ => ⟨S_, .f32⟩
  | .hbm, ⟨23, _⟩ => ⟨S8448x1, .f32⟩
  | .hbm, ⟨24, _⟩ => ⟨S8448x1, .f32⟩
  | .hbm, ⟨25, _⟩ => ⟨S8448x1, .f32⟩
  | .hbm, ⟨26, _⟩ => ⟨S8448x1024, .f32⟩
  | .hbm, ⟨27, _⟩ => ⟨S8448x1024, .f32⟩
  | .hbm, ⟨28, _⟩ => ⟨S1x1024, .f32⟩
  | .hbm, ⟨29, _⟩ => ⟨S8448x1024, .f32⟩
  | .hbm, ⟨30, _⟩ => ⟨S8448x1024, .f32⟩
  | .hbm, ⟨31, _⟩ => ⟨S1x1024, .f32⟩
  | .hbm, ⟨32, _⟩ => ⟨S8448x1024, .f32⟩
  | .hbm, ⟨33, _⟩ => ⟨S8448x1024, .f32⟩
  | .hbm, ⟨34, _⟩ => ⟨S_, .f32⟩
  | .hbm, ⟨35, _⟩ => ⟨S8448x1024, .f32⟩
  | .hbm, ⟨36, _⟩ => ⟨S8448x1024, .f32⟩
  | .hbm, ⟨37, _⟩ => ⟨S8448x1024, .f32⟩
  | .hbm, ⟨38, _⟩ => ⟨S8448x1024, .f32⟩
  | .hbm, ⟨39, _⟩ => ⟨S8448x1024, .f32⟩
  | _, _ => ⟨S8448x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_3 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_4 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩

abbrev nD : Nat := 1
abbrev τ : Topo := Topo.v7x

variable {F : FTy → Type} [FloatOps F]
-- ==== Kernel8.lean ====
abbrev S8448x1024 : Shape := ⟨2, ![8448, 1024]⟩
abbrev S1024x1024 : Shape := ⟨2, ![1024, 1024]⟩
abbrev S768x1024 : Shape := ⟨2, ![768, 1024]⟩

abbrev nBuf : Space → Nat
  | .hbm => 4
  | .vmem => 5
  | .smem => 0
  | _ => 0

abbrev bufTy : (tb : Table) → Fin (tcTables nBuf tb) → BufTy
  | .hbm, ⟨0, _⟩ => ⟨S8448x1024, .f32⟩
  | .hbm, ⟨1, _⟩ => ⟨S1024x1024, .f32⟩
  | .hbm, ⟨2, _⟩ => ⟨S1024x1024, .bf16⟩
  | .hbm, ⟨3, _⟩ => ⟨S8448x1024, .f32⟩
  | .local _ .vmem, ⟨0, _⟩ => ⟨S768x1024, .f32⟩
  | .local _ .vmem, ⟨1, _⟩ => ⟨S768x1024, .f32⟩
  | .local _ .vmem, ⟨2, _⟩ => ⟨S1024x1024, .bf16⟩
  | .local _ .vmem, ⟨3, _⟩ => ⟨S768x1024, .f32⟩
  | .local _ .vmem, ⟨4, _⟩ => ⟨S768x1024, .f32⟩
  | _, _ => ⟨S8448x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S768x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S768x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference8Ideal.lean ====
abbrev S8448x1024 : Shape := ⟨2, ![8448, 1024]⟩
abbrev S1024x1024 : Shape := ⟨2, ![1024, 1024]⟩
abbrev S_ : Shape := ⟨0, ![]⟩

abbrev nBuf : Space → Nat
  | .hbm => 6
  | .vmem => 0
  | .smem => 0
  | _ => 0

abbrev bufTy : (tb : Table) → Fin (tcTables nBuf tb) → BufTy
  | .hbm, ⟨0, _⟩ => ⟨S8448x1024, .f32⟩
  | .hbm, ⟨1, _⟩ => ⟨S1024x1024, .f32⟩
  | .hbm, ⟨2, _⟩ => ⟨S_, .f32⟩
  | .hbm, ⟨3, _⟩ => ⟨S8448x1024, .f32⟩
  | .hbm, ⟨4, _⟩ => ⟨S8448x1024, .f32⟩
  | .hbm, ⟨5, _⟩ => ⟨S8448x1024, .f32⟩
  | _, _ => ⟨S8448x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel9.lean ====
abbrev S8448x1024 : Shape := ⟨2, ![8448, 1024]⟩
abbrev S1024 : Shape := ⟨1, ![1024]⟩
abbrev S1024x5504 : Shape := ⟨2, ![1024, 5504]⟩
abbrev S2752x1024 : Shape := ⟨2, ![2752, 1024]⟩
abbrev S1024x8x688 : Shape := ⟨3, ![1024, 8, 688]⟩
abbrev S8x1024x688 : Shape := ⟨3, ![8, 1024, 688]⟩
abbrev S_ : Shape := ⟨0, ![]⟩
abbrev S8x1024x40 : Shape := ⟨3, ![8, 1024, 40]⟩
abbrev S8x1024x344 : Shape := ⟨3, ![8, 1024, 344]⟩
abbrev S8x1024x768 : Shape := ⟨3, ![8, 1024, 768]⟩
abbrev S8x344x1024 : Shape := ⟨3, ![8, 344, 1024]⟩
abbrev S8x384x1024 : Shape := ⟨3, ![8, 384, 1024]⟩
abbrev S1x1024 : Shape := ⟨2, ![1, 1024]⟩
abbrev S4x768x1024 : Shape := ⟨3, ![4, 768, 1024]⟩
abbrev S8448x3072 : Shape := ⟨2, ![8448, 3072]⟩
abbrev S768x1024 : Shape := ⟨2, ![768, 1024]⟩
abbrev S1x1024x768 : Shape := ⟨3, ![1, 1024, 768]⟩
abbrev S1x768x1024 : Shape := ⟨3, ![1, 768, 1024]⟩
abbrev S768x768 : Shape := ⟨2, ![768, 768]⟩
abbrev S768 : Shape := ⟨1, ![768]⟩
abbrev S768x1 : Shape := ⟨2, ![768, 1]⟩
abbrev S1024x768 : Shape := ⟨2, ![1024, 768]⟩

abbrev nBuf : Space → Nat
  | .hbm => 24
  | .vmem => 18
  | .smem => 0
  | _ => 0

abbrev bufTy : (tb : Table) → Fin (tcTables nBuf tb) → BufTy
  | .hbm, ⟨0, _⟩ => ⟨S8448x1024, .f32⟩
  | .hbm, ⟨1, _⟩ => ⟨S1024, .f32⟩
  | .hbm, ⟨2, _⟩ => ⟨S1024, .f32⟩
  | .hbm, ⟨3, _⟩ => ⟨S1024x5504, .f32⟩
  | .hbm, ⟨4, _⟩ => ⟨S2752x1024, .f32⟩
  | .hbm, ⟨5, _⟩ => ⟨S1024x8x688, .f32⟩
  | .hbm, ⟨6, _⟩ => ⟨S8x1024x688, .f32⟩
  | .hbm, ⟨7, _⟩ => ⟨S_, .f32⟩
  | .hbm, ⟨8, _⟩ => ⟨S8x1024x40, .f32⟩
  | .hbm, ⟨9, _⟩ => ⟨S8x1024x344, .f32⟩
  | .hbm, ⟨10, _⟩ => ⟨S8x1024x344, .f32⟩
  | .hbm, ⟨11, _⟩ => ⟨S8x1024x768, .f32⟩
  | .hbm, ⟨12, _⟩ => ⟨S8x1024x768, .bf16⟩
  | .hbm, ⟨13, _⟩ => ⟨S8x344x1024, .f32⟩
  | .hbm, ⟨14, _⟩ => ⟨S_, .i32⟩
  | .hbm, ⟨15, _⟩ => ⟨S_, .f32⟩
  | .hbm, ⟨16, _⟩ => ⟨S8x384x1024, .f32⟩
  | .hbm, ⟨17, _⟩ => ⟨S8x384x1024, .bf16⟩
  | .hbm, ⟨18, _⟩ => ⟨S1x1024, .f32⟩
  | .hbm, ⟨19, _⟩ => ⟨S1x1024, .f32⟩
  | .hbm, ⟨20, _⟩ => ⟨S4x768x1024, .bf16⟩
  | .hbm, ⟨21, _⟩ => ⟨S8448x1024, .f32⟩
  | .hbm, ⟨22, _⟩ => ⟨S8448x3072, .bf16⟩
  | .hbm, ⟨23, _⟩ => ⟨S8448x3072, .bf16⟩
  | .local _ .vmem, ⟨0, _⟩ => ⟨S768x1024, .f32⟩
  | .local _ .vmem, ⟨1, _⟩ => ⟨S768x1024, .f32⟩
  | .local _ .vmem, ⟨2, _⟩ => ⟨S1x1024, .f32⟩
  | .local _ .vmem, ⟨3, _⟩ => ⟨S1x1024, .f32⟩
  | .local _ .vmem, ⟨4, _⟩ => ⟨S1x1024x768, .bf16⟩
  | .local _ .vmem, ⟨5, _⟩ => ⟨S1x1024x768, .bf16⟩
  | .local _ .vmem, ⟨6, _⟩ => ⟨S1x1024x768, .bf16⟩
  | .local _ .vmem, ⟨7, _⟩ => ⟨S1x1024x768, .bf16⟩
  | .local _ .vmem, ⟨8, _⟩ => ⟨S1x768x1024, .bf16⟩
  | .local _ .vmem, ⟨9, _⟩ => ⟨S1x768x1024, .bf16⟩
  | .local _ .vmem, ⟨10, _⟩ => ⟨S768x1024, .f32⟩
  | .local _ .vmem, ⟨11, _⟩ => ⟨S768x1024, .f32⟩
  | .local _ .vmem, ⟨12, _⟩ => ⟨S768x768, .bf16⟩
  | .local _ .vmem, ⟨13, _⟩ => ⟨S768x768, .bf16⟩
  | .local _ .vmem, ⟨14, _⟩ => ⟨S768x768, .bf16⟩
  | .local _ .vmem, ⟨15, _⟩ => ⟨S768x768, .bf16⟩
  | .local _ .vmem, ⟨16, _⟩ => ⟨S768x1024, .bf16⟩
  | .local _ .vmem, ⟨17, _⟩ => ⟨S768x1024, .f32⟩
  | _, _ => ⟨S8448x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_c : Ref sig .tc := ⟨.hbm, 14, rfl⟩
abbrev main_call0_v0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13_0 : Ref sig .tc := ⟨.hbm, 21, rfl⟩
abbrev main_v13_1 : Ref sig .tc := ⟨.hbm, 22, rfl⟩
abbrev main_v13_2 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_scratch0 : Ref sig .tc := ⟨.vmem, 16, rfl⟩
abbrev cc0_scratch1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨2, ![11, 4], ![false, false]⟩

def k0_cond2 (i : grid0.Coords) : BitVec 1 :=
  let arg1 : BitVec 32 := BitVec.ofNat 32 (i 1).val
  let c3_i32 : BitVec 32 := 3#32
  let v32 : BitVec 1 := Scalar.cmpi .eq arg1 c3_i32
  let v33 : BitVec 32 := Scalar.extui v32
  let c0_i32_24 : BitVec 32 := 0#32
  let v34 : BitVec 1 := Scalar.cmpi .ne v33 c0_i32_24
  v34

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  let c0_i32_0 : BitVec 32 := 0#32
  let c0_i32_1 : BitVec 32 := 0#32
  ![v0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S768x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x1024x768 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x1024x768 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x768x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S768x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S768x768 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S768x768 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference9Ideal.lean ====
abbrev S8448x1024 : Shape := ⟨2, ![8448, 1024]⟩
abbrev S1024 : Shape := ⟨1, ![1024]⟩
abbrev S1024x5504 : Shape := ⟨2, ![1024, 5504]⟩
abbrev S2752x1024 : Shape := ⟨2, ![2752, 1024]⟩
abbrev S_ : Shape := ⟨0, ![]⟩
abbrev S8448 : Shape := ⟨1, ![8448]⟩
abbrev S8448x1 : Shape := ⟨2, ![8448, 1]⟩
abbrev S1x1024 : Shape := ⟨2, ![1, 1024]⟩
abbrev S8448x5504 : Shape := ⟨2, ![8448, 5504]⟩
abbrev S8448x2752 : Shape := ⟨2, ![8448, 2752]⟩
abbrev S8448x8x344 : Shape := ⟨3, ![8448, 8, 344]⟩
abbrev S8448x8x384 : Shape := ⟨3, ![8448, 8, 384]⟩
abbrev S8448x3072 : Shape := ⟨2, ![8448, 3072]⟩

abbrev nBuf : Space → Nat
  | .hbm => 70
  | .vmem => 0
  | .smem => 0
  | _ => 0

abbrev bufTy : (tb : Table) → Fin (tcTables nBuf tb) → BufTy
  | .hbm, ⟨0, _⟩ => ⟨S8448x1024, .f32⟩
  | .hbm, ⟨1, _⟩ => ⟨S1024, .f32⟩
  | .hbm, ⟨2, _⟩ => ⟨S1024, .f32⟩
  | .hbm, ⟨3, _⟩ => ⟨S1024x5504, .f32⟩
  | .hbm, ⟨4, _⟩ => ⟨S2752x1024, .f32⟩
  | .hbm, ⟨5, _⟩ => ⟨S_, .f32⟩
  | .hbm, ⟨6, _⟩ => ⟨S8448, .f32⟩
  | .hbm, ⟨7, _⟩ => ⟨S8448x1, .f32⟩
  | .hbm, ⟨8, _⟩ => ⟨S_, .f32⟩
  | .hbm, ⟨9, _⟩ => ⟨S8448x1, .f32⟩
  | .hbm, ⟨10, _⟩ => ⟨S8448x1, .f32⟩
  | .hbm, ⟨11, _⟩ => ⟨S8448x1024, .f32⟩
  | .hbm, ⟨12, _⟩ => ⟨S8448x1024, .f32⟩
  | .hbm, ⟨13, _⟩ => ⟨S8448x1024, .f32⟩
  | .hbm, ⟨14, _⟩ => ⟨S_, .f32⟩
  | .hbm, ⟨15, _⟩ => ⟨S8448, .f32⟩
  | .hbm, ⟨16, _⟩ => ⟨S8448x1, .f32⟩
  | .hbm, ⟨17, _⟩ => ⟨S_, .f32⟩
  | .hbm, ⟨18, _⟩ => ⟨S8448x1, .f32⟩
  | .hbm, ⟨19, _⟩ => ⟨S8448x1, .f32⟩
  | .hbm, ⟨20, _⟩ => ⟨S8448x1024, .f32⟩
  | .hbm, ⟨21, _⟩ => ⟨S8448x1024, .f32⟩
  | .hbm, ⟨22, _⟩ => ⟨S_, .f32⟩
  | .hbm, ⟨23, _⟩ => ⟨S8448x1, .f32⟩
  | .hbm, ⟨24, _⟩ => ⟨S8448x1, .f32⟩
  | .hbm, ⟨25, _⟩ => ⟨S8448x1, .f32⟩
  | .hbm, ⟨26, _⟩ => ⟨S8448x1024, .f32⟩
  | .hbm, ⟨27, _⟩ => ⟨S8448x1024, .f32⟩
  | .hbm, ⟨28, _⟩ => ⟨S1x1024, .f32⟩
  | .hbm, ⟨29, _⟩ => ⟨S8448x1024, .f32⟩
  | .hbm, ⟨30, _⟩ => ⟨S8448x1024, .f32⟩
  | .hbm, ⟨31, _⟩ => ⟨S1x1024, .f32⟩
  | .hbm, ⟨32, _⟩ => ⟨S8448x1024, .f32⟩
  | .hbm, ⟨33, _⟩ => ⟨S8448x1024, .f32⟩
  | .hbm, ⟨34, _⟩ => ⟨S8448x5504, .f32⟩
  | .hbm, ⟨35, _⟩ => ⟨S8448x2752, .f32⟩
  | .hbm, ⟨36, _⟩ => ⟨S8448x2752, .f32⟩
  | .hbm, ⟨37, _⟩ => ⟨S_, .f32⟩
  | .hbm, ⟨38, _⟩ => ⟨S8448x1024, .f32⟩
  | .hbm, ⟨39, _⟩ => ⟨S8448x1024, .f32⟩
  | .hbm, ⟨40, _⟩ => ⟨S8448x5504, .f32⟩
  | .hbm, ⟨41, _⟩ => ⟨S8448x2752, .f32⟩
  | .hbm, ⟨42, _⟩ => ⟨S8448x2752, .f32⟩
  | .hbm, ⟨43, _⟩ => ⟨S8448x2752, .f32⟩
  | .hbm, ⟨44, _⟩ => ⟨S8448x2752, .f32⟩
  | .hbm, ⟨45, _⟩ => ⟨S_, .f32⟩
  | .hbm, ⟨46, _⟩ => ⟨S8448x2752, .f32⟩
  | .hbm, ⟨47, _⟩ => ⟨S8448x2752, .f32⟩
  | .hbm, ⟨48, _⟩ => ⟨S_, .f32⟩
  | .hbm, ⟨49, _⟩ => ⟨S8448x2752, .f32⟩
  | .hbm, ⟨50, _⟩ => ⟨S8448x2752, .f32⟩
  | .hbm, ⟨51, _⟩ => ⟨S8448x2752, .f32⟩
  | .hbm, ⟨52, _⟩ => ⟨S8448x2752, .f32⟩
  | .hbm, ⟨53, _⟩ => ⟨S8448x1024, .f32⟩
  | .hbm, ⟨54, _⟩ => ⟨S_, .f32⟩
  | .hbm, ⟨55, _⟩ => ⟨S8448x1024, .f32⟩
  | .hbm, ⟨56, _⟩ => ⟨S8448x1024, .f32⟩
  | .hbm, ⟨57, _⟩ => ⟨S8448x1024, .f32⟩
  | .hbm, ⟨58, _⟩ => ⟨S8448x8x344, .f32⟩
  | .hbm, ⟨59, _⟩ => ⟨S_, .i32⟩
  | .hbm, ⟨60, _⟩ => ⟨S_, .f32⟩
  | .hbm, ⟨61, _⟩ => ⟨S8448x8x384, .f32⟩
  | .hbm, ⟨62, _⟩ => ⟨S8448x3072, .f32⟩
  | .hbm, ⟨63, _⟩ => ⟨S8448x3072, .bf16⟩
  | .hbm, ⟨64, _⟩ => ⟨S8448x8x344, .f32⟩
  | .hbm, ⟨65, _⟩ => ⟨S_, .i32⟩
  | .hbm, ⟨66, _⟩ => ⟨S_, .f32⟩
  | .hbm, ⟨67, _⟩ => ⟨S8448x8x384, .f32⟩
  | .hbm, ⟨68, _⟩ => ⟨S8448x3072, .f32⟩
  | .hbm, ⟨69, _⟩ => ⟨S8448x3072, .bf16⟩
  | _, _ => ⟨S8448x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_3 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_4 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_call0_v0 : Ref sig .tc := ⟨.hbm, 43, rfl⟩
abbrev main_call0_v1 : Ref sig .tc := ⟨.hbm, 44, rfl⟩
abbrev main_call0_cst : Ref sig .tc := ⟨.hbm, 45, rfl⟩
abbrev main_call0_v2 : Ref sig .tc := ⟨.hbm, 46, rfl⟩
abbrev main_call0_v3 : Ref sig .tc := ⟨.hbm, 47, rfl⟩
abbrev main_call0_cst_0 : Ref sig .tc := ⟨.hbm, 48, rfl⟩
abbrev main_call0_v4 : Ref sig .tc := ⟨.hbm, 49, rfl⟩
abbrev main_call0_v5 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_cst_5 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_c : Ref sig .tc := ⟨.hbm, 59, rfl⟩
abbrev main_call1_v0 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_c_6 : Ref sig .tc := ⟨.hbm, 65, rfl⟩
abbrev main_call2_v0 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩

abbrev nD : Nat := 1
abbrev τ : Topo := Topo.v7x

variable {F : FTy → Type} [FloatOps F]
-- ==== Kernel10.lean ====
abbrev S8448x1024 : Shape := ⟨2, ![8448, 1024]⟩
abbrev S8448x2816 : Shape := ⟨2, ![8448, 2816]⟩
abbrev S1024 : Shape := ⟨1, ![1024]⟩
abbrev S1024x2816 : Shape := ⟨2, ![1024, 2816]⟩
abbrev S1x1024 : Shape := ⟨2, ![1, 1024]⟩
abbrev S768x1024 : Shape := ⟨2, ![768, 1024]⟩
abbrev S768x2816 : Shape := ⟨2, ![768, 2816]⟩
abbrev S384x2816 : Shape := ⟨2, ![384, 2816]⟩
abbrev S384x1024 : Shape := ⟨2, ![384, 1024]⟩
abbrev S384 : Shape := ⟨1, ![384]⟩
abbrev S384x1 : Shape := ⟨2, ![384, 1]⟩

abbrev nBuf : Space → Nat
  | .hbm => 13
  | .vmem => 15
  | .smem => 0
  | _ => 0

abbrev bufTy : (tb : Table) → Fin (tcTables nBuf tb) → BufTy
  | .hbm, ⟨0, _⟩ => ⟨S8448x1024, .f32⟩
  | .hbm, ⟨1, _⟩ => ⟨S8448x1024, .f32⟩
  | .hbm, ⟨2, _⟩ => ⟨S8448x2816, .bf16⟩
  | .hbm, ⟨3, _⟩ => ⟨S1024, .f32⟩
  | .hbm, ⟨4, _⟩ => ⟨S1024, .f32⟩
  | .hbm, ⟨5, _⟩ => ⟨S1024x2816, .f32⟩
  | .hbm, ⟨6, _⟩ => ⟨S1x1024, .f32⟩
  | .hbm, ⟨7, _⟩ => ⟨S1x1024, .f32⟩
  | .hbm, ⟨8, _⟩ => ⟨S1024x2816, .bf16⟩
  | .hbm, ⟨9, _⟩ => ⟨S8448x1024, .f32⟩
  | .hbm, ⟨10, _⟩ => ⟨S8448x1024, .bf16⟩
  | .hbm, ⟨11, _⟩ => ⟨S1x1024, .f32⟩
  | .hbm, ⟨12, _⟩ => ⟨S1x1024, .f32⟩
  | .local _ .vmem, ⟨0, _⟩ => ⟨S768x1024, .f32⟩
  | .local _ .vmem, ⟨1, _⟩ => ⟨S768x1024, .f32⟩
  | .local _ .vmem, ⟨2, _⟩ => ⟨S768x1024, .f32⟩
  | .local _ .vmem, ⟨3, _⟩ => ⟨S768x1024, .f32⟩
  | .local _ .vmem, ⟨4, _⟩ => ⟨S768x2816, .bf16⟩
  | .local _ .vmem, ⟨5, _⟩ => ⟨S768x2816, .bf16⟩
  | .local _ .vmem, ⟨6, _⟩ => ⟨S1x1024, .f32⟩
  | .local _ .vmem, ⟨7, _⟩ => ⟨S1x1024, .f32⟩
  | .local _ .vmem, ⟨8, _⟩ => ⟨S1024x2816, .bf16⟩
  | .local _ .vmem, ⟨9, _⟩ => ⟨S768x1024, .f32⟩
  | .local _ .vmem, ⟨10, _⟩ => ⟨S768x1024, .f32⟩
  | .local _ .vmem, ⟨11, _⟩ => ⟨S768x1024, .bf16⟩
  | .local _ .vmem, ⟨12, _⟩ => ⟨S768x1024, .bf16⟩
  | .local _ .vmem, ⟨13, _⟩ => ⟨S1x1024, .f32⟩
  | .local _ .vmem, ⟨14, _⟩ => ⟨S1x1024, .f32⟩
  | _, _ => ⟨S8448x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev main_v3_2 : Ref sig .tc := ⟨.hbm, 11, rfl⟩
abbrev main_v3_3 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg9_0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem9_0 : DmaSem sig := 14

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S768x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S768x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S768x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x2816 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S768x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S768x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== Reference10Ideal.lean ====
abbrev S8448x1024 : Shape := ⟨2, ![8448, 1024]⟩
abbrev S8448x2816 : Shape := ⟨2, ![8448, 2816]⟩
abbrev S1024 : Shape := ⟨1, ![1024]⟩
abbrev S1024x2816 : Shape := ⟨2, ![1024, 2816]⟩
abbrev S_ : Shape := ⟨0, ![]⟩
abbrev S8448 : Shape := ⟨1, ![8448]⟩
abbrev S8448x1 : Shape := ⟨2, ![8448, 1]⟩
abbrev S1x1024 : Shape := ⟨2, ![1, 1024]⟩

abbrev nBuf : Space → Nat
  | .hbm => 128
  | .vmem => 0
  | .smem => 0
  | _ => 0

abbrev bufTy : (tb : Table) → Fin (tcTables nBuf tb) → BufTy
  | .hbm, ⟨0, _⟩ => ⟨S8448x1024, .f32⟩
  | .hbm, ⟨1, _⟩ => ⟨S8448x1024, .f32⟩
  | .hbm, ⟨2, _⟩ => ⟨S8448x2816, .bf16⟩
  | .hbm, ⟨3, _⟩ => ⟨S1024, .f32⟩
  | .hbm, ⟨4, _⟩ => ⟨S1024, .f32⟩
  | .hbm, ⟨5, _⟩ => ⟨S1024x2816, .f32⟩
  | .hbm, ⟨6, _⟩ => ⟨S_, .f32⟩
  | .hbm, ⟨7, _⟩ => ⟨S8448, .f32⟩
  | .hbm, ⟨8, _⟩ => ⟨S8448x1, .f32⟩
  | .hbm, ⟨9, _⟩ => ⟨S_, .f32⟩
  | .hbm, ⟨10, _⟩ => ⟨S8448x1, .f32⟩
  | .hbm, ⟨11, _⟩ => ⟨S8448x1, .f32⟩
  | .hbm, ⟨12, _⟩ => ⟨S8448x1024, .f32⟩
  | .hbm, ⟨13, _⟩ => ⟨S8448x1024, .f32⟩
  | .hbm, ⟨14, _⟩ => ⟨S8448x1024, .f32⟩
  | .hbm, ⟨15, _⟩ => ⟨S_, .f32⟩
  | .hbm, ⟨16, _⟩ => ⟨S8448x1024, .f32⟩
  | .hbm, ⟨17, _⟩ => ⟨S8448x1024, .f32⟩
  | .hbm, ⟨18, _⟩ => ⟨S_, .f32⟩
  | .hbm, ⟨19, _⟩ => ⟨S8448, .f32⟩
  | .hbm, ⟨20, _⟩ => ⟨S8448x1, .f32⟩
  | .hbm, ⟨21, _⟩ => ⟨S_, .f32⟩
  | .hbm, ⟨22, _⟩ => ⟨S8448x1, .f32⟩
  | .hbm, ⟨23, _⟩ => ⟨S8448x1, .f32⟩
  | .hbm, ⟨24, _⟩ => ⟨S8448x1024, .f32⟩
  | .hbm, ⟨25, _⟩ => ⟨S8448x1024, .f32⟩
  | .hbm, ⟨26, _⟩ => ⟨S_, .f32⟩
  | .hbm, ⟨27, _⟩ => ⟨S8448x1, .f32⟩
  | .hbm, ⟨28, _⟩ => ⟨S8448x1, .f32⟩
  | .hbm, ⟨29, _⟩ => ⟨S8448x1, .f32⟩
  | .hbm, ⟨30, _⟩ => ⟨S8448x1, .f32⟩
  | .hbm, ⟨31, _⟩ => ⟨S_, .f32⟩
  | .hbm, ⟨32, _⟩ => ⟨S8448x1, .f32⟩
  | .hbm, ⟨33, _⟩ => ⟨S8448x1, .f32⟩
  | .hbm, ⟨34, _⟩ => ⟨S8448x1024, .f32⟩
  | .hbm, ⟨35, _⟩ => ⟨S8448x1024, .f32⟩
  | .hbm, ⟨36, _⟩ => ⟨S1x1024, .f32⟩
  | .hbm, ⟨37, _⟩ => ⟨S8448x1024, .f32⟩
  | .hbm, ⟨38, _⟩ => ⟨S8448x1024, .f32⟩
  | .hbm, ⟨39, _⟩ => ⟨S1x1024, .f32⟩
  | .hbm, ⟨40, _⟩ => ⟨S8448x1024, .f32⟩
  | .hbm, ⟨41, _⟩ => ⟨S8448x1024, .f32⟩
  | .hbm, ⟨42, _⟩ => ⟨S_, .f32⟩
  | .hbm, ⟨43, _⟩ => ⟨S8448x1024, .f32⟩
  | .hbm, ⟨44, _⟩ => ⟨S8448x1024, .f32⟩
  | .hbm, ⟨45, _⟩ => ⟨S8448x2816, .f32⟩
  | .hbm, ⟨46, _⟩ => ⟨S8448x2816, .f32⟩
  | .hbm, ⟨47, _⟩ => ⟨S8448x1024, .f32⟩
  | .hbm, ⟨48, _⟩ => ⟨S_, .f32⟩
  | .hbm, ⟨49, _⟩ => ⟨S8448x1024, .f32⟩
  | .hbm, ⟨50, _⟩ => ⟨S8448x1024, .f32⟩
  | .hbm, ⟨51, _⟩ => ⟨S8448x1024, .f32⟩
  | .hbm, ⟨52, _⟩ => ⟨S_, .f32⟩
  | .hbm, ⟨53, _⟩ => ⟨S1024, .f32⟩
  | .hbm, ⟨54, _⟩ => ⟨S1x1024, .f32⟩
  | .hbm, ⟨55, _⟩ => ⟨S_, .f32⟩
  | .hbm, ⟨56, _⟩ => ⟨S1024, .f32⟩
  | .hbm, ⟨57, _⟩ => ⟨S8448x1024, .f32⟩
  | .hbm, ⟨58, _⟩ => ⟨S_, .f32⟩
  | .hbm, ⟨59, _⟩ => ⟨S1024, .f32⟩
  | .hbm, ⟨60, _⟩ => ⟨S1x1024, .f32⟩
  | .hbm, ⟨61, _⟩ => ⟨S8448x1024, .f32⟩
  | .hbm, ⟨62, _⟩ => ⟨S8448x1024, .f32⟩
  | .hbm, ⟨63, _⟩ => ⟨S_, .f32⟩
  | .hbm, ⟨64, _⟩ => ⟨S1024, .f32⟩
  | .hbm, ⟨65, _⟩ => ⟨S8448x1024, .f32⟩
  | .hbm, ⟨66, _⟩ => ⟨S_, .f32⟩
  | .hbm, ⟨67, _⟩ => ⟨S8448, .f32⟩
  | .hbm, ⟨68, _⟩ => ⟨S8448x1, .f32⟩
  | .hbm, ⟨69, _⟩ => ⟨S8448x1024, .f32⟩
  | .hbm, ⟨70, _⟩ => ⟨S8448x1024, .f32⟩
  | .hbm, ⟨71, _⟩ => ⟨S8448x1, .f32⟩
  | .hbm, ⟨72, _⟩ => ⟨S8448x1024, .f32⟩
  | .hbm, ⟨73, _⟩ => ⟨S_, .f32⟩
  | .hbm, ⟨74, _⟩ => ⟨S8448, .f32⟩
  | .hbm, ⟨75, _⟩ => ⟨S8448x1, .f32⟩
  | .hbm, ⟨76, _⟩ => ⟨S_, .f32⟩
  | .hbm, ⟨77, _⟩ => ⟨S8448x1, .f32⟩
  | .hbm, ⟨78, _⟩ => ⟨S8448x1, .f32⟩
  | .hbm, ⟨79, _⟩ => ⟨S_, .f32⟩
  | .hbm, ⟨80, _⟩ => ⟨S8448, .f32⟩
  | .hbm, ⟨81, _⟩ => ⟨S8448x1024, .f32⟩
  | .hbm, ⟨82, _⟩ => ⟨S8448x1024, .f32⟩
  | .hbm, ⟨83, _⟩ => ⟨S8448x1024, .f32⟩
  | .hbm, ⟨84, _⟩ => ⟨S_, .f32⟩
  | .hbm, ⟨85, _⟩ => ⟨S8448, .f32⟩
  | .hbm, ⟨86, _⟩ => ⟨S8448x1, .f32⟩
  | .hbm, ⟨87, _⟩ => ⟨S8448x1024, .f32⟩
  | .hbm, ⟨88, _⟩ => ⟨S8448x1, .f32⟩
  | .hbm, ⟨89, _⟩ => ⟨S_, .f32⟩
  | .hbm, ⟨90, _⟩ => ⟨S8448x1, .f32⟩
  | .hbm, ⟨91, _⟩ => ⟨S8448x1, .f32⟩
  | .hbm, ⟨92, _⟩ => ⟨S_, .f32⟩
  | .hbm, ⟨93, _⟩ => ⟨S8448, .f32⟩
  | .hbm, ⟨94, _⟩ => ⟨S8448x1024, .f32⟩
  | .hbm, ⟨95, _⟩ => ⟨S8448x1024, .f32⟩
  | .hbm, ⟨96, _⟩ => ⟨S_, .f32⟩
  | .hbm, ⟨97, _⟩ => ⟨S8448, .f32⟩
  | .hbm, ⟨98, _⟩ => ⟨S8448x1, .f32⟩
  | .hbm, ⟨99, _⟩ => ⟨S_, .f32⟩
  | .hbm, ⟨100, _⟩ => ⟨S8448x1, .f32⟩
  | .hbm, ⟨101, _⟩ => ⟨S8448x1, .f32⟩
  | .hbm, ⟨102, _⟩ => ⟨S8448x1024, .f32⟩
  | .hbm, ⟨103, _⟩ => ⟨S8448x1024, .f32⟩
  | .hbm, ⟨104, _⟩ => ⟨S8448x1024, .f32⟩
  | .hbm, ⟨105, _⟩ => ⟨S_, .f32⟩
  | .hbm, ⟨106, _⟩ => ⟨S8448, .f32⟩
  | .hbm, ⟨107, _⟩ => ⟨S8448x1, .f32⟩
  | .hbm, ⟨108, _⟩ => ⟨S_, .f32⟩
  | .hbm, ⟨109, _⟩ => ⟨S8448x1, .f32⟩
  | .hbm, ⟨110, _⟩ => ⟨S8448x1, .f32⟩
  | .hbm, ⟨111, _⟩ => ⟨S8448x1024, .f32⟩
  | .hbm, ⟨112, _⟩ => ⟨S8448x1024, .f32⟩
  | .hbm, ⟨113, _⟩ => ⟨S_, .f32⟩
  | .hbm, ⟨114, _⟩ => ⟨S8448x1, .f32⟩
  | .hbm, ⟨115, _⟩ => ⟨S8448x1, .f32⟩
  | .hbm, ⟨116, _⟩ => ⟨S8448x1, .f32⟩
  | .hbm, ⟨117, _⟩ => ⟨S8448x1024, .f32⟩
  | .hbm, ⟨118, _⟩ => ⟨S8448x1024, .f32⟩
  | .hbm, ⟨119, _⟩ => ⟨S1x1024, .f32⟩
  | .hbm, ⟨120, _⟩ => ⟨S8448x1024, .f32⟩
  | .hbm, ⟨121, _⟩ => ⟨S8448x1024, .f32⟩
  | .hbm, ⟨122, _⟩ => ⟨S1x1024, .f32⟩
  | .hbm, ⟨123, _⟩ => ⟨S8448x1024, .f32⟩
  | .hbm, ⟨124, _⟩ => ⟨S8448x1024, .f32⟩
  | .hbm, ⟨125, _⟩ => ⟨S8448x1024, .bf16⟩
  | .hbm, ⟨126, _⟩ => ⟨S1x1024, .f32⟩
  | .hbm, ⟨127, _⟩ => ⟨S1x1024, .f32⟩
  | _, _ => ⟨S8448x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_cst_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_cst_3 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_4 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_5 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_cst_6 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_cst_7 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_cst_8 : Ref sig .tc := ⟨.hbm, 52, rfl⟩
abbrev main_v37 : Ref sig .tc := ⟨.hbm, 53, rfl⟩
abbrev main_v38 : Ref sig .tc := ⟨.hbm, 54, rfl⟩
abbrev main_cst_9 : Ref sig .tc := ⟨.hbm, 55, rfl⟩
abbrev main_v39 : Ref sig .tc := ⟨.hbm, 56, rfl⟩
abbrev main_v40 : Ref sig .tc := ⟨.hbm, 57, rfl⟩
abbrev main_cst_10 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_cst_11 : Ref sig .tc := ⟨.hbm, 63, rfl⟩
abbrev main_v45 : Ref sig .tc := ⟨.hbm, 64, rfl⟩
abbrev main_v46 : Ref sig .tc := ⟨.hbm, 65, rfl⟩
abbrev main_cst_12 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_cst_13 : Ref sig .tc := ⟨.hbm, 73, rfl⟩
abbrev main_v53 : Ref sig .tc := ⟨.hbm, 74, rfl⟩
abbrev main_v54 : Ref sig .tc := ⟨.hbm, 75, rfl⟩
abbrev main_cst_14 : Ref sig .tc := ⟨.hbm, 76, rfl⟩
abbrev main_v55 : Ref sig .tc := ⟨.hbm, 77, rfl⟩
abbrev main_v56 : Ref sig .tc := ⟨.hbm, 78, rfl⟩
abbrev main_cst_15 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_cst_16 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_cst_17 : Ref sig .tc := ⟨.hbm, 89, rfl⟩
abbrev main_v65 : Ref sig .tc := ⟨.hbm, 90, rfl⟩
abbrev main_v66 : Ref sig .tc := ⟨.hbm, 91, rfl⟩
abbrev main_cst_18 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_cst_19 : Ref sig .tc := ⟨.hbm, 96, rfl⟩
abbrev main_v70 : Ref sig .tc := ⟨.hbm, 97, rfl⟩
abbrev main_v71 : Ref sig .tc := ⟨.hbm, 98, rfl⟩
abbrev main_cst_20 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_cst_21 : Ref sig .tc := ⟨.hbm, 105, rfl⟩
abbrev main_v77 : Ref sig .tc := ⟨.hbm, 106, rfl⟩
abbrev main_v78 : Ref sig .tc := ⟨.hbm, 107, rfl⟩
abbrev main_cst_22 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_cst_23 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev main_v94 : Ref sig .tc := ⟨.hbm, 125, rfl⟩
abbrev main_v95 : Ref sig .tc := ⟨.hbm, 126, rfl⟩
abbrev main_v96 : Ref sig .tc := ⟨.hbm, 127, rfl⟩

abbrev nD : Nat := 1
abbrev τ : Topo := Topo.v7x

variable {F : FTy → Type} [FloatOps F]
-- ==== Kernel11.lean ====
abbrev S8448x1024 : Shape := ⟨2, ![8448, 1024]⟩
abbrev S8192x1024 : Shape := ⟨2, ![8192, 1024]⟩
abbrev S1024 : Shape := ⟨1, ![1024]⟩
abbrev S_ : Shape := ⟨0, ![]⟩
abbrev S256x1024 : Shape := ⟨2, ![256, 1024]⟩
abbrev S1x1024 : Shape := ⟨2, ![1, 1024]⟩
abbrev S768x1024 : Shape := ⟨2, ![768, 1024]⟩
abbrev S768 : Shape := ⟨1, ![768]⟩
abbrev S768x1 : Shape := ⟨2, ![768, 1]⟩

abbrev nBuf : Space → Nat
  | .hbm => 13
  | .vmem => 11
  | .smem => 0
  | _ => 0

abbrev bufTy : (tb : Table) → Fin (tcTables nBuf tb) → BufTy
  | .hbm, ⟨0, _⟩ => ⟨S8448x1024, .f32⟩
  | .hbm, ⟨1, _⟩ => ⟨S8192x1024, .f32⟩
  | .hbm, ⟨2, _⟩ => ⟨S1024, .f32⟩
  | .hbm, ⟨3, _⟩ => ⟨S1024, .f32⟩
  | .hbm, ⟨4, _⟩ => ⟨S_, .f32⟩
  | .hbm, ⟨5, _⟩ => ⟨S256x1024, .f32⟩
  | .hbm, ⟨6, _⟩ => ⟨S8448x1024, .f32⟩
  | .hbm, ⟨7, _⟩ => ⟨S1x1024, .f32⟩
  | .hbm, ⟨8, _⟩ => ⟨S1x1024, .f32⟩
  | .hbm, ⟨9, _⟩ => ⟨S8448x1024, .f32⟩
  | .hbm, ⟨10, _⟩ => ⟨S1x1024, .f32⟩
  | .hbm, ⟨11, _⟩ => ⟨S1x1024, .f32⟩
  | .hbm, ⟨12, _⟩ => ⟨S1x1024, .f32⟩
  | .local _ .vmem, ⟨0, _⟩ => ⟨S768x1024, .f32⟩
  | .local _ .vmem, ⟨1, _⟩ => ⟨S768x1024, .f32⟩
  | .local _ .vmem, ⟨2, _⟩ => ⟨S768x1024, .f32⟩
  | .local _ .vmem, ⟨3, _⟩ => ⟨S768x1024, .f32⟩
  | .local _ .vmem, ⟨4, _⟩ => ⟨S1x1024, .f32⟩
  | .local _ .vmem, ⟨5, _⟩ => ⟨S1x1024, .f32⟩
  | .local _ .vmem, ⟨6, _⟩ => ⟨S768x1024, .f32⟩
  | .local _ .vmem, ⟨7, _⟩ => ⟨S768x1024, .f32⟩
  | .local _ .vmem, ⟨8, _⟩ => ⟨S1x1024, .f32⟩
  | .local _ .vmem, ⟨9, _⟩ => ⟨S1x1024, .f32⟩
  | .local _ .vmem, ⟨10, _⟩ => ⟨S1x1024, .f32⟩
  | _, _ => ⟨S8448x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev main_v4_2 : Ref sig .tc := ⟨.hbm, 11, rfl⟩
abbrev main_v4_3 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem7_0 : DmaSem sig := 10

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S768x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S768x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S768x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== Reference11Ideal.lean ====
abbrev S8448x1024 : Shape := ⟨2, ![8448, 1024]⟩
abbrev S8192x1024 : Shape := ⟨2, ![8192, 1024]⟩
abbrev S1024 : Shape := ⟨1, ![1024]⟩
abbrev S_ : Shape := ⟨0, ![]⟩
abbrev S8448 : Shape := ⟨1, ![8448]⟩
abbrev S8448x1 : Shape := ⟨2, ![8448, 1]⟩
abbrev S1x1024 : Shape := ⟨2, ![1, 1024]⟩
abbrev S8192 : Shape := ⟨1, ![8192]⟩

abbrev nBuf : Space → Nat
  | .hbm => 147
  | .vmem => 0
  | .smem => 0
  | _ => 0

abbrev hbmTy0_0 (i : Nat) : BufTy := match i % 128 with
  | 0 => ⟨S8448x1024, .f32⟩
  | 1 => ⟨S8192x1024, .f32⟩
  | 2 => ⟨S1024, .f32⟩
  | 3 => ⟨S1024, .f32⟩
  | 4 => ⟨S_, .f32⟩
  | 5 => ⟨S8448, .f32⟩
  | 6 => ⟨S8448x1, .f32⟩
  | 7 => ⟨S_, .f32⟩
  | 8 => ⟨S8448x1, .f32⟩
  | 9 => ⟨S8448x1, .f32⟩
  | 10 => ⟨S8448x1024, .f32⟩
  | 11 => ⟨S8448x1024, .f32⟩
  | 12 => ⟨S8448x1024, .f32⟩
  | 13 => ⟨S_, .f32⟩
  | 14 => ⟨S8448x1024, .f32⟩
  | 15 => ⟨S8448x1024, .f32⟩
  | 16 => ⟨S_, .f32⟩
  | 17 => ⟨S8448, .f32⟩
  | 18 => ⟨S8448x1, .f32⟩
  | 19 => ⟨S_, .f32⟩
  | 20 => ⟨S8448x1, .f32⟩
  | 21 => ⟨S8448x1, .f32⟩
  | 22 => ⟨S8448x1024, .f32⟩
  | 23 => ⟨S8448x1024, .f32⟩
  | 24 => ⟨S_, .f32⟩
  | 25 => ⟨S8448x1, .f32⟩
  | 26 => ⟨S8448x1, .f32⟩
  | 27 => ⟨S8448x1, .f32⟩
  | 28 => ⟨S8448x1, .f32⟩
  | 29 => ⟨S_, .f32⟩
  | 30 => ⟨S8448x1, .f32⟩
  | 31 => ⟨S8448x1, .f32⟩
  | 32 => ⟨S8448x1024, .f32⟩
  | 33 => ⟨S8448x1024, .f32⟩
  | 34 => ⟨S1x1024, .f32⟩
  | 35 => ⟨S8448x1024, .f32⟩
  | 36 => ⟨S8448x1024, .f32⟩
  | 37 => ⟨S1x1024, .f32⟩
  | 38 => ⟨S8448x1024, .f32⟩
  | 39 => ⟨S8448x1024, .f32⟩
  | 40 => ⟨S8192x1024, .f32⟩
  | 41 => ⟨S8192x1024, .f32⟩
  | 42 => ⟨S8192x1024, .f32⟩
  | 43 => ⟨S_, .f32⟩
  | 44 => ⟨S8192x1024, .f32⟩
  | 45 => ⟨S8192x1024, .f32⟩
  | 46 => ⟨S_, .f32⟩
  | 47 => ⟨S8192, .f32⟩
  | 48 => ⟨S_, .f32⟩
  | 49 => ⟨S8192, .f32⟩
  | 50 => ⟨S8192, .f32⟩
  | 51 => ⟨S_, .f32⟩
  | 52 => ⟨S_, .f32⟩
  | 53 => ⟨S_, .f32⟩
  | 54 => ⟨S_, .f32⟩
  | 55 => ⟨S_, .f32⟩
  | 56 => ⟨S_, .f32⟩
  | 57 => ⟨S_, .f32⟩
  | 58 => ⟨S8192, .f32⟩
  | 59 => ⟨S_, .f32⟩
  | 60 => ⟨S8192, .f32⟩
  | 61 => ⟨S8192, .f32⟩
  | 62 => ⟨S8192x1024, .f32⟩
  | 63 => ⟨S8192x1024, .f32⟩
  | 64 => ⟨S_, .f32⟩
  | 65 => ⟨S8448x1024, .f32⟩
  | 66 => ⟨S_, .f32⟩
  | 67 => ⟨S1024, .f32⟩
  | 68 => ⟨S1x1024, .f32⟩
  | 69 => ⟨S_, .f32⟩
  | 70 => ⟨S1024, .f32⟩
  | 71 => ⟨S8448x1024, .f32⟩
  | 72 => ⟨S_, .f32⟩
  | 73 => ⟨S1024, .f32⟩
  | 74 => ⟨S1x1024, .f32⟩
  | 75 => ⟨S8448x1024, .f32⟩
  | 76 => ⟨S8448x1024, .f32⟩
  | 77 => ⟨S_, .f32⟩
  | 78 => ⟨S1024, .f32⟩
  | 79 => ⟨S8448x1024, .f32⟩
  | 80 => ⟨S_, .f32⟩
  | 81 => ⟨S8448, .f32⟩
  | 82 => ⟨S8448x1, .f32⟩
  | 83 => ⟨S8448x1024, .f32⟩
  | 84 => ⟨S8448x1024, .f32⟩
  | 85 => ⟨S8448x1, .f32⟩
  | 86 => ⟨S8448x1024, .f32⟩
  | 87 => ⟨S_, .f32⟩
  | 88 => ⟨S8448, .f32⟩
  | 89 => ⟨S8448x1, .f32⟩
  | 90 => ⟨S_, .f32⟩
  | 91 => ⟨S8448x1, .f32⟩
  | 92 => ⟨S8448x1, .f32⟩
  | 93 => ⟨S_, .f32⟩
  | 94 => ⟨S8448, .f32⟩
  | 95 => ⟨S8448x1024, .f32⟩
  | 96 => ⟨S8448x1024, .f32⟩
  | 97 => ⟨S8448x1024, .f32⟩
  | 98 => ⟨S_, .f32⟩
  | 99 => ⟨S8448, .f32⟩
  | 100 => ⟨S8448x1, .f32⟩
  | 101 => ⟨S8448x1024, .f32⟩
  | 102 => ⟨S8448x1, .f32⟩
  | 103 => ⟨S_, .f32⟩
  | 104 => ⟨S8448x1, .f32⟩
  | 105 => ⟨S8448x1, .f32⟩
  | 106 => ⟨S_, .f32⟩
  | 107 => ⟨S8448, .f32⟩
  | 108 => ⟨S8448x1024, .f32⟩
  | 109 => ⟨S8448x1024, .f32⟩
  | 110 => ⟨S1x1024, .f32⟩
  | 111 => ⟨S1x1024, .f32⟩
  | 112 => ⟨S_, .f32⟩
  | 113 => ⟨S8448, .f32⟩
  | 114 => ⟨S8448x1, .f32⟩
  | 115 => ⟨S_, .f32⟩
  | 116 => ⟨S8448x1, .f32⟩
  | 117 => ⟨S8448x1, .f32⟩
  | 118 => ⟨S8448x1024, .f32⟩
  | 119 => ⟨S8448x1024, .f32⟩
  | 120 => ⟨S8448x1024, .f32⟩
  | 121 => ⟨S_, .f32⟩
  | 122 => ⟨S8448, .f32⟩
  | 123 => ⟨S8448x1, .f32⟩
  | 124 => ⟨S_, .f32⟩
  | 125 => ⟨S8448x1, .f32⟩
  | 126 => ⟨S8448x1, .f32⟩
  | 127 => ⟨S8448x1024, .f32⟩
  | _ => ⟨S8448x1024, .f32⟩

abbrev hbmTy0_1 (i : Nat) : BufTy := match i % 128 with
  | 0 => ⟨S8448x1024, .f32⟩
  | 1 => ⟨S_, .f32⟩
  | 2 => ⟨S8448x1, .f32⟩
  | 3 => ⟨S8448x1, .f32⟩
  | 4 => ⟨S8448x1, .f32⟩
  | 5 => ⟨S8448x1024, .f32⟩
  | 6 => ⟨S8448x1024, .f32⟩
  | 7 => ⟨S1x1024, .f32⟩
  | 8 => ⟨S8448x1024, .f32⟩
  | 9 => ⟨S8448x1024, .f32⟩
  | 10 => ⟨S1x1024, .f32⟩
  | 11 => ⟨S8448x1024, .f32⟩
  | 12 => ⟨S8448x1024, .f32⟩
  | 13 => ⟨S8192x1024, .f32⟩
  | 14 => ⟨S8192x1024, .f32⟩
  | 15 => ⟨S8192x1024, .f32⟩
  | 16 => ⟨S_, .f32⟩
  | 17 => ⟨S1024, .f32⟩
  | 18 => ⟨S1x1024, .f32⟩
  | _ => ⟨S8448x1024, .f32⟩

abbrev hbmTy (i : Nat) : BufTy := match i / 128 with
  | 0 => hbmTy0_0 i
  | 1 => hbmTy0_1 i
  | _ => ⟨S8448x1024, .f32⟩

abbrev bufTy : (tb : Table) → Fin (tcTables nBuf tb) → BufTy
  | .hbm, ⟨i, _⟩ => hbmTy i
  | _, _ => ⟨S8448x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_4 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_5 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_cst_6 : Ref sig .tc := ⟨.hbm, 43, rfl⟩
abbrev main_v32 : Ref sig .tc := ⟨.hbm, 44, rfl⟩
abbrev main_v33 : Ref sig .tc := ⟨.hbm, 45, rfl⟩
abbrev main_cst_7 : Ref sig .tc := ⟨.hbm, 46, rfl⟩
abbrev main_v34 : Ref sig .tc := ⟨.hbm, 47, rfl⟩
abbrev main_cst_8 : Ref sig .tc := ⟨.hbm, 48, rfl⟩
abbrev main_v35 : Ref sig .tc := ⟨.hbm, 49, rfl⟩
abbrev main_v36 : Ref sig .tc := ⟨.hbm, 50, rfl⟩
abbrev main_cst_9 : Ref sig .tc := ⟨.hbm, 51, rfl⟩
abbrev main_v37 : Ref sig .tc := ⟨.hbm, 52, rfl⟩
abbrev main_cst_10 : Ref sig .tc := ⟨.hbm, 53, rfl⟩
abbrev main_v38 : Ref sig .tc := ⟨.hbm, 54, rfl⟩
abbrev main_cst_11 : Ref sig .tc := ⟨.hbm, 55, rfl⟩
abbrev main_cst_12 : Ref sig .tc := ⟨.hbm, 56, rfl⟩
abbrev main_v39 : Ref sig .tc := ⟨.hbm, 57, rfl⟩
abbrev main_v40 : Ref sig .tc := ⟨.hbm, 58, rfl⟩
abbrev main_cst_13 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_cst_14 : Ref sig .tc := ⟨.hbm, 64, rfl⟩
abbrev main_v45 : Ref sig .tc := ⟨.hbm, 65, rfl⟩
abbrev main_cst_15 : Ref sig .tc := ⟨.hbm, 66, rfl⟩
abbrev main_v46 : Ref sig .tc := ⟨.hbm, 67, rfl⟩
abbrev main_v47 : Ref sig .tc := ⟨.hbm, 68, rfl⟩
abbrev main_cst_16 : Ref sig .tc := ⟨.hbm, 69, rfl⟩
abbrev main_v48 : Ref sig .tc := ⟨.hbm, 70, rfl⟩
abbrev main_v49 : Ref sig .tc := ⟨.hbm, 71, rfl⟩
abbrev main_cst_17 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_cst_18 : Ref sig .tc := ⟨.hbm, 77, rfl⟩
abbrev main_v54 : Ref sig .tc := ⟨.hbm, 78, rfl⟩
abbrev main_v55 : Ref sig .tc := ⟨.hbm, 79, rfl⟩
abbrev main_cst_19 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_cst_20 : Ref sig .tc := ⟨.hbm, 87, rfl⟩
abbrev main_v62 : Ref sig .tc := ⟨.hbm, 88, rfl⟩
abbrev main_v63 : Ref sig .tc := ⟨.hbm, 89, rfl⟩
abbrev main_cst_21 : Ref sig .tc := ⟨.hbm, 90, rfl⟩
abbrev main_v64 : Ref sig .tc := ⟨.hbm, 91, rfl⟩
abbrev main_v65 : Ref sig .tc := ⟨.hbm, 92, rfl⟩
abbrev main_cst_22 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_cst_23 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_cst_24 : Ref sig .tc := ⟨.hbm, 103, rfl⟩
abbrev main_v74 : Ref sig .tc := ⟨.hbm, 104, rfl⟩
abbrev main_v75 : Ref sig .tc := ⟨.hbm, 105, rfl⟩
abbrev main_cst_25 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_cst_26 : Ref sig .tc := ⟨.hbm, 112, rfl⟩
abbrev main_v81 : Ref sig .tc := ⟨.hbm, 113, rfl⟩
abbrev main_v82 : Ref sig .tc := ⟨.hbm, 114, rfl⟩
abbrev main_cst_27 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_cst_28 : Ref sig .tc := ⟨.hbm, 121, rfl⟩
abbrev main_v88 : Ref sig .tc := ⟨.hbm, 122, rfl⟩
abbrev main_v89 : Ref sig .tc := ⟨.hbm, 123, rfl⟩
abbrev main_cst_29 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_cst_30 : Ref sig .tc := ⟨.hbm, 129, rfl⟩
abbrev main_v94 : Ref sig .tc := ⟨.hbm, 130, rfl⟩
abbrev main_v95 : Ref sig .tc := ⟨.hbm, 131, rfl⟩
abbrev main_v96 : Ref sig .tc := ⟨.hbm, 132, rfl⟩
abbrev main_v97 : Ref sig .tc := ⟨.hbm, 133, rfl⟩
abbrev main_v98 : Ref sig .tc := ⟨.hbm, 134, rfl⟩
abbrev main_v99 : Ref sig .tc := ⟨.hbm, 135, rfl⟩
abbrev main_v100 : Ref sig .tc := ⟨.hbm, 136, rfl⟩
abbrev main_v101 : Ref sig .tc := ⟨.hbm, 137, rfl⟩
abbrev main_v102 : Ref sig .tc := ⟨.hbm, 138, rfl⟩
abbrev main_v103 : Ref sig .tc := ⟨.hbm, 139, rfl⟩
abbrev main_v104 : Ref sig .tc := ⟨.hbm, 140, rfl⟩
abbrev main_v105 : Ref sig .tc := ⟨.hbm, 141, rfl⟩
abbrev main_v106 : Ref sig .tc := ⟨.hbm, 142, rfl⟩
abbrev main_v107 : Ref sig .tc := ⟨.hbm, 143, rfl⟩
abbrev main_cst_31 : Ref sig .tc := ⟨.hbm, 144, rfl⟩
abbrev main_v108 : Ref sig .tc := ⟨.hbm, 145, rfl⟩
abbrev main_v109 : Ref sig .tc := ⟨.hbm, 146, rfl⟩

abbrev nD : Nat := 1
abbrev τ : Topo := Topo.v7x

variable {F : FTy → Type} [FloatOps F]
-- ==== Proof.Mm2.lean ====
/- The weight gradient of the first product of the feed-forward network, slot by slot: the kernel's array after its last point, and the reference's. -/
module

public import proofs.«01_k».proof.Proof.Gen.Kernel2Ideal.Value
public import proofs.«01_k».proof.Proof.Gen.Reference2Ideal.Run
public import Idealize.ShloMosaic.Lib.Pipeline.ValueKit

@[expose] public section

set_option maxRecDepth 16384

noncomputable section

namespace Cert.Kernel2Ideal.Product

open Cert.Kernel2Ideal Cert.Kernel2Ideal.Gen Idealize.ShloMosaic Idealize.ShloMosaic.TcCoe Idealize.SL.Sem
open Idealize.ShloMosaic.Pipeline (Dat)

variable (m : (ℓ : Loc nD τ sig) → Buf (Elt Ideal) ℓ)

/-- The reference's term over two arrays. -/
abbrev REF (X : FVec Ideal S8448x1024 .bf16) (D : FVec Ideal S8448x6144 .bf16) : FVec Ideal S8x1024x768 .bf16 :=
  truncf .bf16 (shapeCast Cert.Reference2Ideal.S8x1024x768 (transpose Cert.Reference2Ideal.S2x4x1024x768 [2, 1, 0, 3] (shapeCast Cert.Reference2Ideal.S1024x4x2x768 (transpose Cert.Reference2Ideal.S1024x6144 [1, 0]
    (Host.dotGeneral Cert.Reference2Ideal.dot_S8448x6144_S8448x1024_S6144x1024_0_0_1_1_n_n none (extf .f32 D Cert.Reference2Ideal.Gen.bitsLt_bf16_f32) (extf .f32 X Cert.Reference2Ideal.Gen.bitsLt_bf16_f32))
    Cert.Reference2Ideal.Gen.transposes_S6144x1024_S1024x6144_1_0) Cert.Reference2Ideal.Gen.shapeCasts_S1024x6144_S1024x4x2x768) Cert.Reference2Ideal.Gen.transposes_S1024x4x2x768_S2x4x1024x768_2_1_0_3)
    Cert.Reference2Ideal.Gen.shapeCasts_S2x4x1024x768_S8x1024x768) Cert.Reference2Ideal.Gen.bitsLt_bf16_f32

theorem hzero (j) : k0_pay1 (F := Ideal) j = 0 := by pointwise [k0_pay1]

theorem hpay (acc x0 x1 j) : k0_pay2 (F := Ideal) acc x0 x1 j = acc j + ∑ k : Fin 1408, x0 (ix2 k (j 0)) * x1 (ix2 k (j 1)) := by
  pointwise [k0_pay2]

theorem hout (acc j) : k0_pay3 (F := Ideal) acc j = acc (ix2 (j 1) (j 2)) := by pointwise [k0_pay3]

/-- The column of the cotangent that a slot's column is: the slots are the four quarters of either half, the cotangent has a quarter's two halves side by side. -/
def col (j : S8x1024x768.Idx) : Fin 6144 := ⟨(j 0 : ℕ) % 4 * 1536 + (j 0 : ℕ) / 4 * 768 + (j 2 : ℕ), by
  have h0 : (j 0 : ℕ) < 8 := (j 0).isLt
  have h2 : (j 2 : ℕ) < 768 := (j 2).isLt
  omega⟩

theorem href (X D j) : REF X D j = ∑ l : Fin 8448, X (ix2 l (j 1)) * D (ix2 l (col j)) := by
  pointwise [REF]
  exact Finset.sum_congr rfl fun x _ => mul_comm _ _

theorem idx : ∀ t : Fin cfg0.N, win0_0.index t = ![t.val % 6, 0] ∧ win0_1.index t = ![t.val % 6, t.val / 6] ∧ win0_2.index t = ![t.val / 6 % 2 * 4 + t.val / 12, 0, 0] :=
  (by decide +kernel : ∀ t : Fin grid0.N, _)

theorem out_eq (c : Dev nD) (t : Fin cfg0.N) (h : t.val % 6 = 5) : (outsAt0 m c t.val t.isLt).1 = k0_pay3 (outsAt0 m c t.val t.isLt).2 := by
  rw [outsAt0_C m c t (by omega) h]; frame_out

/-- The accumulator at a point that writes back: the sums of the run's six blocks. -/
theorem acc_eq (c : Dev nD) (t : Fin cfg0.N) (hr : t.val % 6 = 5) (j) : (outsAt0 m c t.val t.isLt).2 j
    = ∑ s : Fin 6, ∑ k : Fin 1408, (show FVec Ideal S1408x1024 .bf16 from iblk m c 0 ⟨6 * (t.val / 6) + s.val, Pipeline.run_point_lt_of_flush t hr s⟩) (ix2 k (j 0))
        * (show FVec Ideal S1408x768 .bf16 from iblk m c 1 ⟨6 * (t.val / 6) + s.val, Pipeline.run_point_lt_of_flush t hr s⟩) (ix2 k (j 1)) := by
  rw [Pipeline.eq_sum_fin_of_reset_step_apply_of_flush (fun n h => (outsAt0 m c n h).2) 6 (fun _ => 0) _
    (fun t h j => by rw [outsAt0_A m c t h (by omega)]; frame_out; rw [hpay, hzero])
    (fun t h j => by
      by_cases h5 : t.val % 6 = 5
      · rw [outsAt0_C m c t h h5]; frame_out; rw [hpay]
        exact congrArg₂ (· + ·) (congrFun (Memref.IsWhole.read_unread (Val := Elt Ideal) _ _) j) rfl
      · rw [outsAt0_B m c t h h5]; frame_out; rw [hpay]
        exact congrArg₂ (· + ·) (congrFun (Memref.IsWhole.read_unread (Val := Elt Ideal) _ _) j) rfl) t hr j, zero_add]

theorem final (c : Dev nD) : (dats m 0 c).arrAt 2 (cfgs 0).N
    = REF (m ((c : Thread nD τ).loc main_arg0)) (m ((c : Thread nD τ).loc main_arg1)) := by
  refine (dats m 0 c).arrAt_eq_of_covers 2 _ (by decide +kernel) fun t hf y => ?_
  blk_simp
  have hr := (flush0_2 t).mp hf
  rw [after0_2, out_eq m c t hr, hout, acc_eq m c t hr, href]
  refine Fin.sum_mul_add_congr fun s k hl => ?_
  have ht : t.val < 48 := lt_of_lt_of_eq t.isLt N_0
  blk_point [iblk, V, col, idx t, idx ⟨_, Pipeline.run_point_lt_of_flush t hr s⟩]
  have e : (6 * (t.val / 6) + s.val) / 6 = t.val / 6 := by omega
  have e' : t.val / 12 = t.val / 6 / 2 := by omega
  have hJ : t.val / 6 < 8 := by omega
  rw [e, e']
  generalize t.val / 6 = J at hJ
  interval_cases J <;> rfl

end Cert.Kernel2Ideal.Product

end
-- ==== Proof.Real.lean ====
/- Arrays of extended reals all of whose entries are real numbers, and the operations of a program on them.
   `M2 x f` says that the matrix `x` holds the real number `f i j` at (i, j); each lemma below says what an operation
   does to the function `f`. -/
module

public import Idealize.ShloMosaic.Lib.Pipeline.ValueKit
public import Idealize.ShloMosaic.Lib.Pointwise

@[expose] public section

set_option maxRecDepth 16384

noncomputable section

open Idealize.ShloMosaic

namespace Cert.Calc

/-- A matrix's shape. -/
abbrev T2 (n m : ℕ) : Shape := ⟨2, ![n, m]⟩
/-- A vector's shape. -/
abbrev T1 (n : ℕ) : Shape := ⟨1, ![n]⟩
/-- A scalar's shape. -/
abbrev T0 : Shape := ⟨0, ![]⟩

/-- A scalar holds `r`. -/
def M0 (x : T0.Idx → EReal) (r : ℝ) : Prop := ∀ i, x i = (r : EReal)
/-- A vector holds `f`. -/
def M1 {n : ℕ} (x : (T1 n).Idx → EReal) (f : ℕ → ℝ) : Prop := ∀ i, x i = ((f (i 0).val : ℝ) : EReal)
/-- A matrix holds `f`. -/
def M2 {n m : ℕ} (x : (T2 n m).Idx → EReal) (f : ℕ → ℕ → ℝ) : Prop := ∀ i, x i = ((f (i 0).val (i 1).val : ℝ) : EReal)
/-- A matrix under a unit axis holds `f`. -/
def M3 {n m : ℕ} (x : (⟨3, ![1, n, m]⟩ : Shape).Idx → EReal) (f : ℕ → ℕ → ℝ) : Prop :=
  ∀ i, x i = ((f (i 1).val (i 2).val : ℝ) : EReal)

theorem coe_sum {ι : Type} (s : Finset ι) (f : ι → ℝ) : (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

theorem sum_fin_coe {n : ℕ} (F : Fin n → EReal) (f : ℕ → ℝ) (h : ∀ k : Fin n, F k = ((f k.val : ℝ) : EReal)) :
    ∑ k : Fin n, F k = ((∑ k ∈ Finset.range n, f k : ℝ) : EReal) := by
  rw [Finset.sum_congr rfl fun k _ => h k, coe_sum, Finset.sum_range]

theorem div_coe (x y : ℝ) (hy : y ≠ 0) : Ideal.div (x : EReal) (y : EReal) = ((x / y : ℝ) : EReal) := by
  unfold Ideal.div
  rw [if_neg (EReal.coe_ne_zero.2 hy), ← EReal.coe_inv, ← EReal.coe_mul, div_eq_mul_inv]

theorem rsqrt_coe (x : ℝ) (hx : 0 < x) : Ideal.rsqrt (x : EReal) = (((Real.sqrt x)⁻¹ : ℝ) : EReal) := by
  rw [Ideal.rsqrt_coe, if_neg (not_lt.2 hx.le), if_neg hx.ne']

section M2
variable {n m k : ℕ} {φ ψ : FTy}

theorem M2.at {x : (T2 n m).Idx → EReal} {f : ℕ → ℕ → ℝ} (h : M2 x f) (i : (T2 n m).Idx) :
    x i = ((f (i 0).val (i 1).val : ℝ) : EReal) := h i

theorem M2.congr {x : (T2 n m).Idx → EReal} {f g : ℕ → ℕ → ℝ} (h : M2 x f) (e : ∀ i j, i < n → j < m → f i j = g i j) : M2 x g :=
  fun i => by rw [h i, e _ _ (i 0).isLt (i 1).isLt]

theorem M2.ext {x y : (T2 n m).Idx → EReal} {f : ℕ → ℕ → ℝ} (h : M2 x f) (h' : M2 y f) : x = y :=
  funext fun i => (h i).trans (h' i).symm

theorem M2.addf {x y : FVec Ideal (T2 n m) φ} {f g : ℕ → ℕ → ℝ} (h : M2 x f) (h' : M2 y g) : M2 (addf x y) fun i j => f i j + g i j :=
  fun i => by
    show x i + y i = _
    rw [h i, h' i, ← EReal.coe_add]

theorem M2.subf {x y : FVec Ideal (T2 n m) φ} {f g : ℕ → ℕ → ℝ} (h : M2 x f) (h' : M2 y g) : M2 (subf x y) fun i j => f i j - g i j :=
  fun i => by
    show x i - y i = _
    rw [h i, h' i, ← EReal.coe_sub]

theorem M2.mulf {x y : FVec Ideal (T2 n m) φ} {f g : ℕ → ℕ → ℝ} (h : M2 x f) (h' : M2 y g) : M2 (mulf x y) fun i j => f i j * g i j :=
  fun i => by
    show x i * y i = _
    rw [h i, h' i, ← EReal.coe_mul]

theorem M2.hnegf {x : FVec Ideal (T2 n m) φ} {f : ℕ → ℕ → ℝ} (h : M2 x f) : M2 (Host.negf x) fun i j => -f i j :=
  fun i => by
    show -x i = _
    rw [h i, ← EReal.coe_neg]

theorem M2.hexp {x : FVec Ideal (T2 n m) φ} {f : ℕ → ℕ → ℝ} (h : M2 x f) : M2 (Host.exp x) fun i j => Real.exp (f i j) :=
  fun i => by
    show Ideal.exp (x i) = _
    rw [h i, Ideal.exp_coe]

theorem M2.tanh {x : FVec Ideal (T2 n m) φ} {f : ℕ → ℕ → ℝ} (h : M2 x f) : M2 (tanh x) fun i j => Real.tanh (f i j) :=
  fun i => by
    show Ideal.tanh (x i) = _
    rw [h i, Ideal.tanh_coe]

theorem M2.hdivf {x y : FVec Ideal (T2 n m) φ} {f g : ℕ → ℕ → ℝ} (h : M2 x f) (h' : M2 y g) (hg : ∀ i j, g i j ≠ 0) :
    M2 (Host.divf x y) fun i j => f i j / g i j :=
  fun i => by
    show Ideal.div (x i) (y i) = _
    rw [h i, h' i, div_coe _ _ (hg _ _)]

theorem M2.divf {x y : FVec Ideal (T2 n m) φ} {f g : ℕ → ℕ → ℝ} (h : M2 x f) (h' : M2 y g) (hg : ∀ i j, g i j ≠ 0) :
    M2 (divf x y) fun i j => f i j / g i j :=
  fun i => by
    show Ideal.div (x i) (y i) = _
    rw [h i, h' i, div_coe _ _ (hg _ _)]

theorem M2.hrsqrt {x : FVec Ideal (T2 n m) φ} {f : ℕ → ℕ → ℝ} (h : M2 x f) (hf : ∀ i j, 0 < f i j) :
    M2 (Host.rsqrt x) fun i j => (Real.sqrt (f i j))⁻¹ :=
  fun i => by
    show Ideal.rsqrt (x i) = _
    rw [h i, rsqrt_coe _ (hf _ _)]

theorem M2.rsqrt {x : FVec Ideal (T2 n m) φ} {f : ℕ → ℕ → ℝ} (h : M2 x f) (hf : ∀ i j, 0 < f i j) :
    M2 (rsqrt x) fun i j => (Real.sqrt (f i j))⁻¹ :=
  fun i => by
    show Ideal.rsqrt (x i) = _
    rw [h i, rsqrt_coe _ (hf _ _)]

theorem M2.truncf {x : FVec Ideal (T2 n m) φ} {f : ℕ → ℕ → ℝ} (h : M2 x f) (hb : ψ.bits < φ.bits) : M2 (truncf ψ x hb) f :=
  fun i => h i

theorem M2.extf {x : FVec Ideal (T2 n m) φ} {f : ℕ → ℕ → ℝ} (h : M2 x f) (hb : φ.bits < ψ.bits) : M2 (extf ψ x hb) f :=
  fun i => h i

/-- A scalar spread over a matrix (host). -/
theorem M2.splat {x : T0.Idx → EReal} {r : ℝ} (h : M0 x r) (hb : T0.BroadcastsInDim (T2 n m) ![]) :
    M2 (broadcastInDim (T2 n m) ![] hb x) fun _ _ => r :=
  fun i => h _

theorem M1.splat {x : T0.Idx → EReal} {r : ℝ} (h : M0 x r) (hb : T0.BroadcastsInDim (T1 n) ![]) :
    M1 (broadcastInDim (T1 n) ![] hb x) fun _ => r :=
  fun i => h _

/-- A scalar spread over a matrix (in a body). -/
theorem M2.bcst {x : EReal} {r : ℝ} (h : x = (r : EReal)) : M2 (broadcast (T2 n m) x) fun _ _ => r :=
  fun i => h

theorem M2.const {φ : FTy} {b : BitVec φ.bits} {r : ℝ} (h : Ideal.ofBits φ b = (r : EReal)) :
    M2 (constant (F := Ideal) (T2 n m) φ b) fun _ _ => r :=
  fun i => h

theorem M0.const {φ : FTy} {b : BitVec φ.bits} {r : ℝ} (h : Ideal.ofBits φ b = (r : EReal)) :
    M0 (constant (F := Ideal) T0 φ b) r :=
  fun i => h

/-- A vector as a row. -/
theorem M1.row {x : (T1 m).Idx → EReal} {f : ℕ → ℝ} (h : M1 x f) (hb : (T1 m).BroadcastsInDim (T2 n m) ![1]) (hm : m ≠ 1) :
    M2 (broadcastInDim (T2 n m) ![1] hb x) fun _ j => f j :=
  fun i => by
    rw [broadcastInDim_apply ![1] hb x i (ix1 (i 1)) (fun a => by fin_cases a; simpa using fun h => absurd h hm)]
    exact h _

/-- A vector as a column. -/
theorem M1.col {x : (T1 n).Idx → EReal} {f : ℕ → ℝ} (h : M1 x f) (hb : (T1 n).BroadcastsInDim (T2 n m) ![0]) (hn : n ≠ 1) :
    M2 (broadcastInDim (T2 n m) ![0] hb x) fun i _ => f i :=
  fun i => by
    rw [broadcastInDim_apply ![0] hb x i (ix1 (i 0)) (fun a => by fin_cases a; simpa using fun h => absurd h hn)]
    exact h _

/-- A row spread down a matrix (host). -/
theorem M2.down {x : (T2 1 m).Idx → EReal} {f : ℕ → ℕ → ℝ} (h : M2 x f) (hb : (T2 1 m).BroadcastsInDim (T2 n m) ![0, 1]) (hm : m ≠ 1) :
    M2 (broadcastInDim (T2 n m) ![0, 1] hb x) fun _ j => f 0 j :=
  fun i => by
    rw [broadcastInDim_apply ![0, 1] hb x i (ix2 0 (i 1)) (fun a => by
      fin_cases a
      · simp
      · simpa using fun h => absurd h hm)]
    exact h _

/-- A column spread across a matrix (host). -/
theorem M2.across {x : (T2 n 1).Idx → EReal} {f : ℕ → ℕ → ℝ} (h : M2 x f) (hb : (T2 n 1).BroadcastsInDim (T2 n m) ![0, 1]) (hn : n ≠ 1) :
    M2 (broadcastInDim (T2 n m) ![0, 1] hb x) fun i _ => f i 0 :=
  fun i => by
    rw [broadcastInDim_apply ![0, 1] hb x i (ix2 (i 0) 0) (fun a => by
      fin_cases a
      · exact (if_neg hn).symm
      · simp)]
    exact h _

/-- A row spread down a matrix (in a body). -/
theorem M2.bdown {x : (T2 1 m).Idx → EReal} {f : ℕ → ℕ → ℝ} (h : M2 x f) (hb : (T2 1 m).Broadcasts (T2 n m)) (hm : m ≠ 1) :
    M2 (broadcastTo (T2 n m) x hb) fun _ j => f 0 j :=
  fun i => by
    rw [broadcastTo_apply x hb i (ix2 0 (i 1)) (fun a => by
      fin_cases a
      · simp
      · simpa using fun h => absurd h hm)]
    exact h _

/-- A column spread across a matrix (in a body). -/
theorem M2.bacross {x : (T2 n 1).Idx → EReal} {f : ℕ → ℕ → ℝ} (h : M2 x f) (hb : (T2 n 1).Broadcasts (T2 n m)) (hn : n ≠ 1) :
    M2 (broadcastTo (T2 n m) x hb) fun i _ => f i 0 :=
  fun i => by
    rw [broadcastTo_apply x hb i (ix2 (i 0) 0) (fun a => by
      fin_cases a
      · exact (if_neg hn).symm
      · simp)]
    exact h _

/-- A block cut out at (a, b). -/
theorem M2.slice {x : (T2 n m).Idx → EReal} {f : ℕ → ℕ → ℝ} (h : M2 x f) {n' m' : ℕ} (a b : ℕ) (hs : (T2 n m).Slices ![a, b] (T2 n' m')) :
    M2 (extractStridedSlice (T2 n' m') ![a, b] x hs) fun i j => f (a + i) (b + j) :=
  fun i => h _

theorem M3.slice {x : (⟨3, ![1, n, m]⟩ : Shape).Idx → EReal} {f : ℕ → ℕ → ℝ} (h : M3 x f) {n' m' : ℕ} (a b : ℕ)
    (hs : (⟨3, ![1, n, m]⟩ : Shape).Slices ![0, a, b] ⟨3, ![1, n', m']⟩) :
    M3 (extractStridedSlice ⟨3, ![1, n', m']⟩ ![0, a, b] x hs) fun i j => f (a + i) (b + j) :=
  fun i => h _

/-- The unit axis dropped. -/
theorem M3.drop {x : (⟨3, ![1, n, m]⟩ : Shape).Idx → EReal} {f : ℕ → ℕ → ℝ} (h : M3 x f) (hc : (⟨3, ![1, n, m]⟩ : Shape).ShapeCasts (T2 n m)) :
    M2 (shapeCast (T2 n m) x hc) f :=
  fun i => by
    rw [shapeCast_dropUnit_apply ![n, m] x hc i]
    exact h _

theorem M2.cast {x : (T2 n m).Idx → EReal} {f : ℕ → ℕ → ℝ} (h : M2 x f) (hc : (T2 n m).ShapeCasts (T2 n m)) :
    M2 (shapeCast (T2 n m) x hc) f :=
  fun i => by
    rw [shapeCast_apply x hc i i rfl]
    exact h _

/-- A vector reshaped to a row. -/
theorem M1.toRow {x : (T1 m).Idx → EReal} {f : ℕ → ℝ} (h : M1 x f) (hc : (T1 m).ShapeCasts (T2 1 m)) :
    M2 (shapeCast (T2 1 m) x hc) fun _ j => f j :=
  fun i => by
    rw [shapeCast_addUnit_apply ![m] x hc i]
    exact h _

/-- A vector reshaped to a column. -/
theorem M1.toCol {x : (T1 n).Idx → EReal} {f : ℕ → ℝ} (h : M1 x f) (hc : (T1 n).ShapeCasts (T2 n 1)) :
    M2 (shapeCast (T2 n 1) x hc) fun i _ => f i :=
  fun i => by
    rw [shapeCast_apply x hc i (ix1 (i 0)) (by
      have h1 : (i 1).val = 0 := by
        have h2 : (i 1).val < 1 := (i 1).isLt
        omega
      simp [Shape.rowMajor_val_one, Shape.rowMajor_val_two, h1])]
    exact h _

theorem M2.transpose {x : (T2 n m).Idx → EReal} {f : ℕ → ℕ → ℝ} (h : M2 x f) (ht : (T2 n m).Transposes [1, 0] (T2 m n)) :
    M2 (transpose (T2 m n) [1, 0] x ht) fun i j => f j i :=
  fun i => by
    rw [transpose_apply [1, 0] x ht i (ix2 (i 1) (i 0)) (fun b => by fin_cases b <;> rfl)]
    exact h _

/-- Two matrices one above the other. -/
theorem M2.concat {n₁ n₂ : ℕ} {x : (T2 n₁ m).Idx → EReal} {y : (T2 n₂ m).Idx → EReal} {f g : ℕ → ℕ → ℝ} (h : M2 x f) (h' : M2 y g)
    (hc : Shape.Concatenates [T2 n₁ m, T2 n₂ m] (T2 n m) 0) :
    M2 (concatenate (T2 n m) 0 [⟨T2 n₁ m, x⟩, ⟨T2 n₂ m, y⟩] hc) fun i j => if i < n₁ then f i j else g (i - n₁) j :=
  fun i => by
    rw [concatenate_pair_apply]
    by_cases hi : (i 0).val < n₁
    · refine (dif_pos hi).trans ((h _).trans ?_)
      simp only [if_pos hi]
      rfl
    · refine (dif_neg hi).trans ((h' _).trans ?_)
      simp only [if_neg hi]
      rfl

/-- Rows and columns padded with a scalar, before and behind. -/
theorem M2.pad {n' m' lo hi lo' hi' : ℕ} {x : (T2 n m).Idx → EReal} {f : ℕ → ℕ → ℝ} (h : M2 x f) {v : T0.Idx → EReal} {r : ℝ} (hv : M0 v r)
    (hp : (T2 n m).Pads ![lo, lo'] ![hi, hi'] ![0, 0] (T2 n' m')) (hu : 0 < T0.numel) :
    M2 (pad (T2 n' m') ![lo, lo'] ![hi, hi'] ![0, 0] x v hp hu)
      fun i j => if (lo ≤ i ∧ i - lo < n) ∧ (lo' ≤ j ∧ j - lo' < m) then f (i - lo) (j - lo') else r :=
  fun i => by
    rw [pad_apply]
    by_cases hc : (lo ≤ (i 0).val ∧ (i 0).val - lo < n) ∧ (lo' ≤ (i 1).val ∧ (i 1).val - lo' < m)
    · rw [dif_pos (by
        intro a
        fin_cases a
        · exact ⟨hc.1.1, Nat.mod_one _, by simpa using hc.1.2⟩
        · exact ⟨hc.2.1, Nat.mod_one _, by simpa using hc.2.2⟩)]
      refine (h _).trans ?_
      simp only [if_pos hc]
      simp [Shape.Idx.norm]
    · rw [dif_neg (by
        intro hh
        apply hc
        have h0 := hh 0
        have h1 := hh 1
        simp at h0 h1
        exact ⟨⟨h0.1, h0.2.2⟩, ⟨h1.1, h1.2.2⟩⟩)]
      refine (hv _).trans ?_
      simp only [if_neg hc]

/-- Rows summed (host). -/
theorem M2.hsum1 {x : FVec Ideal (T2 n m) φ} {f : ℕ → ℕ → ℝ} (h : M2 x f) {v : FVec Ideal T0 φ} (hv : M0 v 0)
    (hr : (T2 n m).ReducesTo [1] (T1 n)) (hr' : (T2 n m).Reduces [1] (T1 n)) (hu : 0 < T0.numel) :
    M1 (Host.reduceAdd x v hr hu) fun i => ∑ j ∈ Finset.range m, f i j :=
  fun i => by
    show Ideal.hostReduceAdd hr x (v _) i = _
    rw [Ideal.hostReduceAdd_single hr hr', hv, EReal.coe_zero, zero_add]
    exact sum_fin_coe _ (fun k => f (i 0).val k) fun k => h _

/-- Columns summed (host). -/
theorem M2.hsum0 {x : FVec Ideal (T2 n m) φ} {f : ℕ → ℕ → ℝ} (h : M2 x f) {v : FVec Ideal T0 φ} (hv : M0 v 0)
    (hr : (T2 n m).ReducesTo [0] (T1 m)) (hr' : (T2 n m).Reduces [0] (T1 m)) (hu : 0 < T0.numel) :
    M1 (Host.reduceAdd x v hr hu) fun j => ∑ i ∈ Finset.range n, f i j :=
  fun i => by
    show Ideal.hostReduceAdd hr x (v _) i = _
    rw [Ideal.hostReduceAdd_single hr hr', hv, EReal.coe_zero, zero_add]
    exact sum_fin_coe _ (fun k => f k (i 0).val) fun k => h _

/-- Rows summed (in a body). -/
theorem M2.sum1 {x : FVec Ideal (T2 n m) φ} {f : ℕ → ℕ → ℝ} (h : M2 x f) {acc : BitVec φ.bits}
    (hr : (T2 n m).Reduces [1] (T1 n)) (hφ : FKind.Formats φ) (hacc : acc = FKind.add.neutral φ hφ) :
    M1 (multiReduction .add [1] (T1 n) x acc hr hφ hacc) fun i => ∑ j ∈ Finset.range m, f i j :=
  fun i => by
    rw [Ideal.multiReduction_add_single x acc hr hφ hacc]
    exact sum_fin_coe _ (fun k => f (i 0).val k) fun k => h _

/-- Columns summed (in a body). -/
theorem M2.sum0 {x : FVec Ideal (T2 n m) φ} {f : ℕ → ℕ → ℝ} (h : M2 x f) {acc : BitVec φ.bits}
    (hr : (T2 n m).Reduces [0] (T1 m)) (hφ : FKind.Formats φ) (hacc : acc = FKind.add.neutral φ hφ) :
    M1 (multiReduction .add [0] (T1 m) x acc hr hφ hacc) fun j => ∑ i ∈ Finset.range n, f i j :=
  fun i => by
    rw [Ideal.multiReduction_add_single x acc hr hφ hacc]
    exact sum_fin_coe _ (fun k => f k (i 0).val) fun k => h _

end M2

section Dot
variable {n m k : ℕ} {φ ψ : FTy}

/-- A contraction over one axis, from what the two operands hold at its indices. -/
theorem dot_coe {sl sr so : Shape} (d : DotDims sl sr so) {a : Fin sl.rank} (hc : d.lhsContracting = [a]) (hK : sl.size a = k)
    (lhs : sl.Idx → EReal) (rhs : sr.Idx → EReal) (j : so.Idx) (f g : ℕ → ℝ)
    (hl : ∀ t : Fin k, lhs (d.lhsIdx j (d.contrIdx₁ hc hK t)) = ((f t.val : ℝ) : EReal))
    (hr : ∀ t : Fin k, rhs (d.rhsIdx j (d.contrIdx₁ hc hK t)) = ((g t.val : ℝ) : EReal)) :
    ∑ t : d.contr.Idx, lhs (d.lhsIdx j t) * rhs (d.rhsIdx j t) = ((∑ t ∈ Finset.range k, f t * g t : ℝ) : EReal) := by
  rw [d.sum_contr₁ hc hK]
  exact sum_fin_coe _ (fun t => f t * g t) fun t => by rw [hl, hr, ← EReal.coe_mul]

/-- Rows times columns. -/
theorem M2.dotNN {x : FVec Ideal (T2 n k) φ} {y : FVec Ideal (T2 k m) ψ} {f g : ℕ → ℕ → ℝ} (h : M2 x f) (h' : M2 y g)
    (d : DotDims (T2 n k) (T2 k m) (T2 n m)) (hc : d.lhsContracting = [1])
    (hl : ∀ j t, (d.lhsIdx j (d.contrIdx₁ hc rfl t) 0).val = (j 0).val ∧ (d.lhsIdx j (d.contrIdx₁ hc rfl t) 1).val = t.val)
    (hr : ∀ j t, (d.rhsIdx j (d.contrIdx₁ hc rfl t) 0).val = t.val ∧ (d.rhsIdx j (d.contrIdx₁ hc rfl t) 1).val = (j 1).val) :
    ∀ j, ∑ t : d.contr.Idx, x (d.lhsIdx j t) * y (d.rhsIdx j t)
      = ((∑ t ∈ Finset.range k, f (j 0).val t * g t (j 1).val : ℝ) : EReal) :=
  fun j => dot_coe d hc rfl x y j (fun t => f (j 0).val t) (fun t => g t (j 1).val)
    (fun t => by rw [h, (hl j t).1, (hl j t).2]) (fun t => by rw [h', (hr j t).1, (hr j t).2])

/-- Rows times rows. -/
theorem M2.dotNT {x : FVec Ideal (T2 n k) φ} {y : FVec Ideal (T2 m k) ψ} {f g : ℕ → ℕ → ℝ} (h : M2 x f) (h' : M2 y g)
    (d : DotDims (T2 n k) (T2 m k) (T2 n m)) (hc : d.lhsContracting = [1])
    (hl : ∀ j t, (d.lhsIdx j (d.contrIdx₁ hc rfl t) 0).val = (j 0).val ∧ (d.lhsIdx j (d.contrIdx₁ hc rfl t) 1).val = t.val)
    (hr : ∀ j t, (d.rhsIdx j (d.contrIdx₁ hc rfl t) 0).val = (j 1).val ∧ (d.rhsIdx j (d.contrIdx₁ hc rfl t) 1).val = t.val) :
    ∀ j, ∑ t : d.contr.Idx, x (d.lhsIdx j t) * y (d.rhsIdx j t)
      = ((∑ t ∈ Finset.range k, f (j 0).val t * g (j 1).val t : ℝ) : EReal) :=
  fun j => dot_coe d hc rfl x y j (fun t => f (j 0).val t) (fun t => g (j 1).val t)
    (fun t => by rw [h, (hl j t).1, (hl j t).2]) (fun t => by rw [h', (hr j t).1, (hr j t).2])

/-- Columns times columns. -/
theorem M2.dotTN {x : FVec Ideal (T2 k n) φ} {y : FVec Ideal (T2 k m) ψ} {f g : ℕ → ℕ → ℝ} (h : M2 x f) (h' : M2 y g)
    (d : DotDims (T2 k n) (T2 k m) (T2 n m)) (hc : d.lhsContracting = [0])
    (hl : ∀ j t, (d.lhsIdx j (d.contrIdx₁ hc rfl t) 0).val = t.val ∧ (d.lhsIdx j (d.contrIdx₁ hc rfl t) 1).val = (j 0).val)
    (hr : ∀ j t, (d.rhsIdx j (d.contrIdx₁ hc rfl t) 0).val = t.val ∧ (d.rhsIdx j (d.contrIdx₁ hc rfl t) 1).val = (j 1).val) :
    ∀ j, ∑ t : d.contr.Idx, x (d.lhsIdx j t) * y (d.rhsIdx j t)
      = ((∑ t ∈ Finset.range k, f t (j 0).val * g t (j 1).val : ℝ) : EReal) :=
  fun j => dot_coe d hc rfl x y j (fun t => f t (j 0).val) (fun t => g t (j 1).val)
    (fun t => by rw [h, (hl j t).1, (hl j t).2]) (fun t => by rw [h', (hr j t).1, (hr j t).2])

/-- A host product holds what its contraction sums to. -/
theorem M2.host {sl sr : Shape} {x : FVec Ideal sl φ} {y : FVec Ideal sr ψ} {d : DotDims sl sr (T2 n m)} {prec : Option ContractPrecision}
    {f : ℕ → ℕ → ℝ}
    (h : ∀ j, ∑ t : d.contr.Idx, x (d.lhsIdx j t) * y (d.rhsIdx j t) = ((f (j 0).val (j 1).val : ℝ) : EReal)) :
    M2 (Host.dotGeneral d prec x y) f :=
  fun j => by
    simp only [Host.dotGeneral]
    rw [Ideal.dotGeneral_apply]
    exact h j

/-- A body's product into zeros likewise. -/
theorem M2.body {sl sr : Shape} {x : FVec Ideal sl φ} {y : FVec Ideal sr ψ} {d : DotDims sl sr (T2 n m)} {prec : Option ContractPrecision}
    {f : ℕ → ℕ → ℝ}
    (h : ∀ j, ∑ t : d.contr.Idx, x (d.lhsIdx j t) * y (d.rhsIdx j t) = ((f (j 0).val (j 1).val : ℝ) : EReal)) :
    M2 (matmul d prec x y (constant (T2 n m) .f32 0x00000000#32)) f :=
  fun j => by
    simp only [matmul]
    rw [Ideal.matmul_constant_zero_apply]
    exact h j

end Dot

/-- A single-precision word with a normal exponent field. -/
theorem bits_normal (b : BitVec 32) (neg : Bool) (ex fr : ℕ) (hn : (b.extractLsb' 31 1 == 1#1) = neg)
    (he : (b.extractLsb' 23 8).toNat = ex) (hf : (b.extractLsb' 0 23).toNat = fr) (h0 : ex ≠ 0) (h1 : ex ≠ 255) :
    Ideal.ofBits .f32 b
      = (((if neg then -1 else 1 : ℝ) * (2 ^ 23 + fr : ℕ) * (2 : ℝ) ^ ((ex : ℤ) - 127 - 23) : ℝ) : EReal) := by
  simp only [Ideal.ofBits, Ideal.ieee]
  rw [hn, he, hf, if_neg (by simpa using h1), if_neg h0]
  norm_num

theorem bits_zero : Ideal.ofBits .f32 0x00000000#32 = ((0 : ℝ) : EReal) := by simp [Ideal.ofBits, Ideal.ieee]
theorem bits_one : Ideal.ofBits .f32 0x3F800000#32 = ((1 : ℝ) : EReal) := by
  rw [bits_normal _ false 127 0 (by decide) (by decide) (by decide) (by decide) (by decide)]
  norm_num
theorem bits_half : Ideal.ofBits .f32 0x3F000000#32 = ((1 / 2 : ℝ) : EReal) := by
  rw [bits_normal _ false 126 0 (by decide) (by decide) (by decide) (by decide) (by decide)]
  norm_num
theorem bits_neg_half : Ideal.ofBits .f32 0xBF000000#32 = ((-1 / 2 : ℝ) : EReal) := by
  rw [bits_normal _ true 126 0 (by decide) (by decide) (by decide) (by decide) (by decide)]
  norm_num
theorem bits_two : Ideal.ofBits .f32 0x40000000#32 = ((2 : ℝ) : EReal) := by
  rw [bits_normal _ false 128 0 (by decide) (by decide) (by decide) (by decide) (by decide)]
  norm_num
theorem bits_256 : Ideal.ofBits .f32 0x43800000#32 = ((256 : ℝ) : EReal) := by
  rw [bits_normal _ false 135 0 (by decide) (by decide) (by decide) (by decide) (by decide)]
  norm_num
/-- The number that the word of 1e-5 is. -/
def eps : ℝ := (8388608 + 2606508 : ℕ) * (2 : ℝ) ^ ((110 : ℤ) - 127 - 23)
theorem bits_eps : Ideal.ofBits .f32 0x3727C5AC#32 = (eps : EReal) := by
  rw [bits_normal _ false 110 2606508 (by decide) (by decide) (by decide) (by decide) (by decide)]
  unfold eps
  norm_num
theorem eps_pos : 0 < eps := by unfold eps; positivity

theorem M1.congr {n : ℕ} {x : (T1 n).Idx → EReal} {f g : ℕ → ℝ} (h : M1 x f) (e : ∀ i, i < n → f i = g i) : M1 x g :=
  fun i => (h i).trans (congrArg _ (e _ (i 0).isLt))

theorem M0.sitofp : M0 (sitofp (F := Ideal) .f32 (constantI T0 32 0#32)) 0 := fun i => by
  show (((0#32 : BitVec 32).toInt : ℝ) : EReal) = _
  simp

end Cert.Calc
-- ==== Proof.Mm3.lean ====
/- The weight gradient of the second product of the feed-forward network: the kernel's array after its last point, and the reference's. -/
module

public import proofs.«01_k».proof.Proof.Gen.Kernel3Ideal.Value
public import proofs.«01_k».proof.Proof.Gen.Reference3Ideal.Run
public import proofs.«01_k».proof.Proof.Real
public import Idealize.ShloMosaic.Lib.Pipeline.ValueKit

@[expose] public section

set_option maxRecDepth 16384

noncomputable section

namespace Cert.Kernel3Ideal.Product

open Cert.Kernel3Ideal Cert.Kernel3Ideal.Gen Idealize.ShloMosaic Idealize.ShloMosaic.TcCoe Idealize.SL.Sem
open Idealize.ShloMosaic.Pipeline (Dat)

variable (m : (ℓ : Loc nD τ sig) → Buf (Elt Ideal) ℓ)

/-- The reference's term over two arrays. -/
abbrev REF (X : FVec Ideal S8448x3072 .bf16) (D : FVec Ideal S8448x1024 .f32) : FVec Ideal S3072x1024 .bf16 :=
  truncf .bf16 (transpose Cert.Reference3Ideal.S3072x1024 [1, 0] (Host.dotGeneral Cert.Reference3Ideal.dot_S8448x1024_S8448x3072_S1024x3072_0_0_1_1_n_n none (mulf (broadcastInDim Cert.Reference3Ideal.S8448x1024 ![] Cert.Reference3Ideal.Gen.bcast_S_S8448x1024 (constant Cert.Reference3Ideal.S_ .f32 0x3F000000#32)) D)
    (extf .f32 X Cert.Reference3Ideal.Gen.bitsLt_bf16_f32)) Cert.Reference3Ideal.Gen.transposes_S1024x3072_S3072x1024_1_0) Cert.Reference3Ideal.Gen.bitsLt_bf16_f32

theorem hzero (j) : k0_pay1 (F := Ideal) j = 0 := by pointwise [k0_pay1]

theorem hpay (acc x0 x1 j) : k0_pay2 (F := Ideal) acc x0 x1 j = acc j + ∑ k : Fin 1408, x0 (ix2 k (j 0)) * x1 (ix2 k (j 1)) := by
  pointwise [k0_pay2]

/-- A finite nonnegative factor comes out of a sum. -/
theorem mul_sum_of_nonneg {ι : Type} (s : Finset ι) (f : ι → EReal) {a : EReal} (h : 0 ≤ a) (ht : a ≠ ⊤) :
    ∑ i ∈ s, a * f i = a * ∑ i ∈ s, f i := by
  classical
  induction s using Finset.induction_on with
  | empty => simp
  | insert i s hi ih => rw [Finset.sum_insert hi, Finset.sum_insert hi, ih, EReal.left_distrib_of_nonneg_of_ne_top h ht]

theorem half_eq : (Ideal.ofBits .f32 0x3F000000#32 : EReal) = ((1 / 2 : ℝ) : EReal) := by
  exact Cert.Calc.bits_half

theorem hout (acc j) : k0_pay3 (F := Ideal) acc j = Ideal.ofBits .f32 0x3F000000#32 * acc j := by
  pointwise [k0_pay3]
  exact mul_comm _ _

theorem href (X D j) : REF X D j = Ideal.ofBits .f32 0x3F000000#32 * ∑ l : Fin 8448, X (ix2 l (j 0)) * D (ix2 l (j 1)) := by
  pointwise [REF]
  refine Eq.trans ?_ (mul_sum_of_nonneg Finset.univ (fun l : Fin 8448 => X (ix2 l (j 0)) * D (ix2 l (j 1))) ?_ ?_)
  · exact Finset.sum_congr rfl fun x _ => by rw [mul_assoc, mul_comm (D _)]
  · rw [half_eq]; exact EReal.coe_nonneg.mpr (by norm_num)
  · rw [half_eq]; exact EReal.coe_ne_top _

theorem idx : ∀ t : Fin cfg0.N, win0_0.index t = ![t.val % 6, t.val / 6] ∧ win0_1.index t = ![t.val % 6, 0] ∧ win0_2.index t = ![t.val / 6, 0] :=
  (by decide +kernel : ∀ t : Fin grid0.N, _)

theorem out_eq (c : Dev nD) (t : Fin cfg0.N) (h : t.val % 6 = 5) : (outsAt0 m c t.val t.isLt).1 = k0_pay3 (outsAt0 m c t.val t.isLt).2 := by
  rw [outsAt0_C m c t (by omega) h]; frame_out

/-- The accumulator at a point that writes back: the sums of the run's six blocks. -/
theorem acc_eq (c : Dev nD) (t : Fin cfg0.N) (hr : t.val % 6 = 5) (j) : (outsAt0 m c t.val t.isLt).2 j
    = ∑ s : Fin 6, ∑ k : Fin 1408, (show FVec Ideal S1408x1536 .bf16 from iblk m c 0 ⟨6 * (t.val / 6) + s.val, Pipeline.run_point_lt_of_flush t hr s⟩) (ix2 k (j 0))
        * (show FVec Ideal S1408x1024 .f32 from iblk m c 1 ⟨6 * (t.val / 6) + s.val, Pipeline.run_point_lt_of_flush t hr s⟩) (ix2 k (j 1)) := by
  rw [Pipeline.eq_sum_fin_of_reset_step_apply_of_flush (fun n h => (outsAt0 m c n h).2) 6 (fun _ => 0) _
    (fun t h j => by rw [outsAt0_A m c t h (by omega)]; frame_out; rw [hpay, hzero])
    (fun t h j => by
      by_cases h5 : t.val % 6 = 5
      · rw [outsAt0_C m c t h h5]; frame_out; rw [hpay]
        exact congrArg₂ (· + ·) (congrFun (Memref.IsWhole.read_unread (Val := Elt Ideal) _ _) j) rfl
      · rw [outsAt0_B m c t h h5]; frame_out; rw [hpay]
        exact congrArg₂ (· + ·) (congrFun (Memref.IsWhole.read_unread (Val := Elt Ideal) _ _) j) rfl) t hr j, zero_add]

theorem final (c : Dev nD) : (dats m 0 c).arrAt 2 (cfgs 0).N
    = REF (m ((c : Thread nD τ).loc main_arg0)) (m ((c : Thread nD τ).loc main_arg1)) := by
  refine (dats m 0 c).arrAt_eq_of_covers 2 _ (by decide +kernel) fun t hf y => ?_
  blk_simp
  have hr := (flush0_2 t).mp hf
  rw [after0_2, out_eq m c t hr, hout, acc_eq m c t hr, href]
  refine congrArg (Ideal.ofBits .f32 0x3F000000#32 * ·) ?_
  refine Fin.sum_mul_add_congr fun s k hl => ?_
  blk_point [iblk, V, idx t, idx ⟨_, Pipeline.run_point_lt_of_flush t hr s⟩]

end Cert.Kernel3Ideal.Product

end
-- ==== Proof.Mm4.lean ====
/- The weight gradient of the mixers' input product: the kernel's array after its last point, and the reference's. -/
module

public import proofs.«01_k».proof.Proof.Gen.Kernel4Ideal.Value
public import proofs.«01_k».proof.Proof.Gen.Reference4Ideal.Run
public import Idealize.ShloMosaic.Lib.Pipeline.ValueKit

@[expose] public section

set_option maxRecDepth 16384

noncomputable section

namespace Cert.Kernel4Ideal.Product

open Cert.Kernel4Ideal Cert.Kernel4Ideal.Gen Idealize.ShloMosaic Idealize.ShloMosaic.TcCoe Idealize.SL.Sem
open Idealize.ShloMosaic.Pipeline (Dat)

variable (m : (ℓ : Loc nD τ sig) → Buf (Elt Ideal) ℓ)

/-- The reference's term over two arrays. -/
abbrev REF (X : FVec Ideal S8448x1024 .bf16) (D : FVec Ideal S8448x2816 .bf16) : FVec Ideal S1024x2816 .bf16 :=
  truncf .bf16 (transpose Cert.Reference4Ideal.S1024x2816 [1, 0] (Host.dotGeneral Cert.Reference4Ideal.dot_S8448x2816_S8448x1024_S2816x1024_0_0_1_1_n_n none (extf .f32 D Cert.Reference4Ideal.Gen.bitsLt_bf16_f32)
    (extf .f32 X Cert.Reference4Ideal.Gen.bitsLt_bf16_f32)) Cert.Reference4Ideal.Gen.transposes_S2816x1024_S1024x2816_1_0) Cert.Reference4Ideal.Gen.bitsLt_bf16_f32

theorem hzero (j) : k0_pay1 (F := Ideal) j = 0 := by pointwise [k0_pay1]

theorem hpay (acc x0 x1 j) : k0_pay2 (F := Ideal) acc x0 x1 j = acc j + ∑ k : Fin 1408, x0 (ix2 k (j 0)) * x1 (ix2 k (j 1)) := by
  pointwise [k0_pay2]

theorem hout (acc j) : k0_pay3 (F := Ideal) acc j = acc j := by pointwise [k0_pay3]

theorem href (X D j) : REF X D j = ∑ l : Fin 8448, X (ix2 l (j 0)) * D (ix2 l (j 1)) := by
  pointwise [REF]
  exact Finset.sum_congr rfl fun x _ => mul_comm _ _

theorem idx : ∀ t : Fin cfg0.N, win0_0.index t = ![t.val % 6, 0] ∧ win0_1.index t = ![t.val % 6, t.val / 6] ∧ win0_2.index t = ![0, t.val / 6] :=
  (by decide +kernel : ∀ t : Fin grid0.N, _)

theorem out_eq (c : Dev nD) (t : Fin cfg0.N) (h : t.val % 6 = 5) : (outsAt0 m c t.val t.isLt).1 = k0_pay3 (outsAt0 m c t.val t.isLt).2 := by
  rw [outsAt0_C m c t (by omega) h]; frame_out

/-- The accumulator at a point that writes back: the sums of the run's six blocks. -/
theorem acc_eq (c : Dev nD) (t : Fin cfg0.N) (hr : t.val % 6 = 5) (j) : (outsAt0 m c t.val t.isLt).2 j
    = ∑ s : Fin 6, ∑ k : Fin 1408, (show FVec Ideal S1408x1024 .bf16 from iblk m c 0 ⟨6 * (t.val / 6) + s.val, Pipeline.run_point_lt_of_flush t hr s⟩) (ix2 k (j 0))
        * (show FVec Ideal S1408x1408 .bf16 from iblk m c 1 ⟨6 * (t.val / 6) + s.val, Pipeline.run_point_lt_of_flush t hr s⟩) (ix2 k (j 1)) := by
  rw [Pipeline.eq_sum_fin_of_reset_step_apply_of_flush (fun n h => (outsAt0 m c n h).2) 6 (fun _ => 0) _
    (fun t h j => by rw [outsAt0_A m c t h (by omega)]; frame_out; rw [hpay, hzero])
    (fun t h j => by
      by_cases h5 : t.val % 6 = 5
      · rw [outsAt0_C m c t h h5]; frame_out; rw [hpay]
        exact congrArg₂ (· + ·) (congrFun (Memref.IsWhole.read_unread (Val := Elt Ideal) _ _) j) rfl
      · rw [outsAt0_B m c t h h5]; frame_out; rw [hpay]
        exact congrArg₂ (· + ·) (congrFun (Memref.IsWhole.read_unread (Val := Elt Ideal) _ _) j) rfl) t hr j, zero_add]

theorem final (c : Dev nD) : (dats m 0 c).arrAt 2 (cfgs 0).N
    = REF (m ((c : Thread nD τ).loc main_arg0)) (m ((c : Thread nD τ).loc main_arg1)) := by
  refine (dats m 0 c).arrAt_eq_of_covers 2 _ (by decide +kernel) fun t hf y => ?_
  blk_simp
  have hr := (flush0_2 t).mp hf
  rw [after0_2, out_eq m c t hr, hout, acc_eq m c t hr, href]
  refine Fin.sum_mul_add_congr fun s k hl => ?_
  blk_point [iblk, V, idx t, idx ⟨_, Pipeline.run_point_lt_of_flush t hr s⟩]

end Cert.Kernel4Ideal.Product

end
-- ==== Proof.Mm5.lean ====
/- The weight gradient of the mixers' output product: the kernel's array after its last point, and the reference's. -/
module

public import proofs.«01_k».proof.Proof.Gen.Kernel5Ideal.Value
public import proofs.«01_k».proof.Proof.Gen.Reference5Ideal.Run
public import Idealize.ShloMosaic.Lib.Pipeline.ValueKit

@[expose] public section

set_option maxRecDepth 16384

noncomputable section

namespace Cert.Kernel5Ideal.Product

open Cert.Kernel5Ideal Cert.Kernel5Ideal.Gen Idealize.ShloMosaic Idealize.ShloMosaic.TcCoe Idealize.SL.Sem
open Idealize.ShloMosaic.Pipeline (Dat)

variable (m : (ℓ : Loc nD τ sig) → Buf (Elt Ideal) ℓ)

/-- The reference's term over two arrays. -/
abbrev REF (X : FVec Ideal S8448x1024 .bf16) (D : FVec Ideal S8448x1024 .f32) : FVec Ideal S1024x1024 .bf16 :=
  truncf .bf16 (transpose Cert.Reference5Ideal.S1024x1024 [1, 0] (Host.dotGeneral Cert.Reference5Ideal.dot_S8448x1024_S8448x1024_S1024x1024_0_0_1_1_n_n none D
    (extf .f32 X Cert.Reference5Ideal.Gen.bitsLt_bf16_f32)) Cert.Reference5Ideal.Gen.transposes_S1024x1024_S1024x1024_1_0) Cert.Reference5Ideal.Gen.bitsLt_bf16_f32

theorem hzero (j) : k0_pay1 (F := Ideal) j = 0 := by pointwise [k0_pay1]

theorem hpay (acc x0 x1 j) : k0_pay2 (F := Ideal) acc x0 x1 j = acc j + ∑ k : Fin 1408, x0 (ix2 k (j 0)) * x1 (ix2 k (j 1)) := by
  pointwise [k0_pay2]

theorem hout (acc j) : k0_pay3 (F := Ideal) acc j = acc j := by pointwise [k0_pay3]

theorem href (X D j) : REF X D j = ∑ l : Fin 8448, X (ix2 l (j 0)) * D (ix2 l (j 1)) := by
  pointwise [REF]
  exact Finset.sum_congr rfl fun x _ => mul_comm _ _

theorem idx : ∀ t : Fin cfg0.N, win0_0.index t = ![t.val % 6, 0] ∧ win0_1.index t = ![t.val % 6, 0] ∧ win0_2.index t = ![0, 0] :=
  (by decide +kernel : ∀ t : Fin grid0.N, _)

theorem out_eq (c : Dev nD) (t : Fin cfg0.N) (h : t.val % 6 = 5) : (outsAt0 m c t.val t.isLt).1 = k0_pay3 (outsAt0 m c t.val t.isLt).2 := by
  rw [outsAt0_C m c t (by omega) h]; frame_out

/-- The accumulator at a point that writes back: the sums of the run's six blocks. -/
theorem acc_eq (c : Dev nD) (t : Fin cfg0.N) (hr : t.val % 6 = 5) (j) : (outsAt0 m c t.val t.isLt).2 j
    = ∑ s : Fin 6, ∑ k : Fin 1408, (show FVec Ideal S1408x1024 .bf16 from iblk m c 0 ⟨6 * (t.val / 6) + s.val, Pipeline.run_point_lt_of_flush t hr s⟩) (ix2 k (j 0))
        * (show FVec Ideal S1408x1024 .f32 from iblk m c 1 ⟨6 * (t.val / 6) + s.val, Pipeline.run_point_lt_of_flush t hr s⟩) (ix2 k (j 1)) := by
  rw [Pipeline.eq_sum_fin_of_reset_step_apply_of_flush (fun n h => (outsAt0 m c n h).2) 6 (fun _ => 0) _
    (fun t h j => by rw [outsAt0_A m c t h (by omega)]; frame_out; rw [hpay, hzero])
    (fun t h j => by
      by_cases h5 : t.val % 6 = 5
      · rw [outsAt0_C m c t h h5]; frame_out; rw [hpay]
        exact congrArg₂ (· + ·) (congrFun (Memref.IsWhole.read_unread (Val := Elt Ideal) _ _) j) rfl
      · rw [outsAt0_B m c t h h5]; frame_out; rw [hpay]
        exact congrArg₂ (· + ·) (congrFun (Memref.IsWhole.read_unread (Val := Elt Ideal) _ _) j) rfl) t hr j, zero_add]

theorem final (c : Dev nD) : (dats m 0 c).arrAt 2 (cfgs 0).N
    = REF (m ((c : Thread nD τ).loc main_arg0)) (m ((c : Thread nD τ).loc main_arg1)) := by
  refine (dats m 0 c).arrAt_eq_of_covers 2 _ (by decide +kernel) fun t hf y => ?_
  blk_simp
  have hr := (flush0_2 t).mp hf
  rw [after0_2, out_eq m c t hr, hout, acc_eq m c t hr, href]
  refine Fin.sum_mul_add_congr fun s k hl => ?_
  blk_point [iblk, V, idx t, idx ⟨_, Pipeline.run_point_lt_of_flush t hr s⟩]

end Cert.Kernel5Ideal.Product

end
-- ==== Proof.Dense.lean ====
/- The scalar formulas of the dense layers: a row's layer norm, and the logistic function by the hyperbolic tangent. -/
module

public import Idealize.ShloMosaic.Lib.Pipeline.ValueKit
public import Idealize.ShloMosaic.Lib.Pointwise

@[expose] public section

set_option maxRecDepth 16384

noncomputable section

open Idealize.ShloMosaic

namespace Cert.Dense

/-- Entry `k` of the layer norm of a row `x` with gain `g` and bias `b`. -/
def lnv (x g b : Fin 1024 → EReal) (k : Fin 1024) : EReal :=
  (x k - Ideal.div (∑ l, x l) (Ideal.ofBits .f32 0x44800000#32))
    * Ideal.rsqrt (Ideal.div (∑ l, (x l - Ideal.div (∑ q, x q) (Ideal.ofBits .f32 0x44800000#32)) * (x l - Ideal.div (∑ q, x q) (Ideal.ofBits .f32 0x44800000#32)))
        (Ideal.ofBits .f32 0x44800000#32) + Ideal.ofBits .f32 0x3727C5AC#32) * g k + b k

theorem lnv_congr {x g b x' g' b' : Fin 1024 → EReal} {k k' : Fin 1024} (hx : ∀ l, x l = x' l) (hg : ∀ l, g l = g' l) (hb : ∀ l, b l = b' l) (hk : k = k') :
    lnv x g b k = lnv x' g' b' k' := by
  rw [funext hx, funext hg, funext hb, hk]

/-- The logistic function of a real number is half the hyperbolic tangent of half of it, and a half. -/
theorem sigmoid_real (r : ℝ) : (1 / 2) * Real.tanh ((1 / 2) * r) + 1 / 2 = 1 / (1 + Real.exp (-r)) := by
  have h : r = (1 / 2) * r + (1 / 2) * r := by ring
  have e : Real.exp (-r) = Real.exp (-((1 / 2) * r)) * Real.exp (-((1 / 2) * r)) := by
    rw [← Real.exp_add]; congr 1; ring
  rw [e, Real.tanh_eq_sinh_div_cosh, Real.sinh_eq, Real.cosh_eq]
  generalize (1 / 2) * r = y
  have p : Real.exp y * Real.exp (-y) = 1 := by rw [← Real.exp_add]; simp
  have hp := Real.exp_pos y
  have hq := Real.exp_pos (-y)
  have hq' : Real.exp (-y) = 1 / Real.exp y := by field_simp; linarith
  rw [hq']
  field_simp
  ring

/-- The same on all extended reals. -/
theorem sigmoid_eq (h x : EReal) (hh : h = ((1 / 2 : ℝ) : EReal)) :
    h * Ideal.tanh (h * x) + h = Ideal.logistic x := by
  subst hh
  have hpos : (0 : ℝ) < 1 / 2 := by norm_num
  induction x with
  | bot =>
    rw [EReal.coe_mul_bot_of_pos hpos]
    show ((1 / 2 : ℝ) : EReal) * (-1) + ((1 / 2 : ℝ) : EReal) = Ideal.div 1 (1 + ⊤)
    have : (1 : EReal) + ⊤ = ⊤ := rfl
    rw [this, Ideal.div, if_neg (by simp), EReal.inv_top, mul_zero, mul_neg, mul_one, ← EReal.coe_neg, ← EReal.coe_add]
    norm_num
  | top =>
    rw [EReal.coe_mul_top_of_pos hpos]
    show ((1 / 2 : ℝ) : EReal) * 1 + ((1 / 2 : ℝ) : EReal) = Ideal.div 1 (1 + 0)
    rw [add_zero, Ideal.div, if_neg one_ne_zero, mul_one, one_mul, ← EReal.coe_add, ← EReal.coe_one, ← EReal.coe_inv]
    norm_num
  | coe r =>
    rw [← EReal.coe_mul, Ideal.tanh_coe, ← EReal.coe_mul, ← EReal.coe_add, sigmoid_real]
    have hp := Real.exp_pos (-r)
    unfold Ideal.logistic
    rw [← EReal.coe_neg]
    show _ = Ideal.div 1 (1 + ((Real.exp (-r) : ℝ) : EReal))
    rw [← EReal.coe_one, ← EReal.coe_add]
    unfold Ideal.div
    rw [if_neg (EReal.coe_ne_zero.2 (by positivity)), ← EReal.coe_inv, ← EReal.coe_mul, div_eq_mul_inv]

/-- A sum over eight groups of 384 lanes, of which the last 40 hold zero, is the sum over the eight groups' 344 entries. -/
theorem sum_pad (f : Fin 3072 → EReal) (g : Fin 2752 → EReal)
    (h1 : ∀ (p : Fin 8) (o : Fin 344), f ⟨p.val * 384 + o.val, by omega⟩ = g ⟨p.val * 344 + o.val, by omega⟩)
    (h2 : ∀ (p : Fin 8) (o : Fin 40), f ⟨p.val * 384 + (344 + o.val), by omega⟩ = 0) :
    ∑ n : Fin 3072, f n = ∑ l : Fin 2752, g l := by
  rw [Fin.sum_univ_tiles 8 384 rfl f, Fin.sum_univ_tiles 8 344 rfl g]
  refine Finset.sum_congr rfl fun p _ => ?_
  rw [show (∑ t : Fin 384, f ⟨p.val * 384 + t.val, by omega⟩) = ∑ t : Fin (344 + 40), f ⟨p.val * 384 + t.val, by omega⟩ from rfl, Fin.sum_univ_add]
  rw [show (∑ o : Fin 40, f ⟨p.val * 384 + (Fin.natAdd 344 o).val, by have := (Fin.natAdd 344 o).isLt; omega⟩) = 0 from Finset.sum_eq_zero fun o _ => h2 p o, add_zero]
  exact Finset.sum_congr rfl fun o _ => h1 p o

/-- A hidden unit's value: the gate's logistic product times the other half, of one row and two columns. -/
def swv (h w w' : Fin 1024 → EReal) : EReal :=
  (∑ k, h k * w k) * Ideal.logistic (∑ k, h k * w k) * ∑ k, h k * w' k

theorem sge_small (n : ℕ) (hn : n < 10000) : BitVec.ofBool ((240#32).sle (BitVec.ofNat 32 n)) = 1#1 ↔ 240 ≤ n := by
  have h1 : (BitVec.ofNat 32 n).toInt = n := by
    have e : (BitVec.ofNat 32 n).toNat = n := by rw [BitVec.toNat_ofNat]; exact Nat.mod_eq_of_lt (by omega)
    rw [BitVec.toInt_eq_toNat_of_lt (by rw [e]; omega), e]
  have h2 : (240#32).toInt = 240 := by decide
  rw [BitVec.sle, h1, h2]
  by_cases h : 240 ≤ n
  · have : (240 : ℤ) ≤ n := by exact_mod_cast h
    simp [h, this]
  · have : ¬ (240 : ℤ) ≤ n := by exact_mod_cast h
    simp [h, this]

/-- A row's number as a word, compared with 240. -/
theorem mask (a b : ℕ) (ha : a < 11) (hb : b < 768) :
    Scalar.cmpi .sge (IntOp.addi (BitVec.ofNat 32 b) (Scalar.muli (BitVec.ofNat 32 a) 768#32)) 240#32 = 1#1 ↔ 240 ≤ a * 768 + b := by
  show BitVec.ofBool ((240#32).sle (BitVec.ofNat 32 b + BitVec.ofNat 32 a * 768#32)) = 1#1 ↔ _
  rw [show (768#32) = BitVec.ofNat 32 768 from rfl, ← BitVec.ofNat_mul, ← BitVec.ofNat_add, sge_small _ (by omega), Nat.add_comm]

theorem if_sum_congr {p q : ℕ} {a b a' b' : Fin 1024 → EReal} (h : p = q) (ha : ∀ k, a k = a' k) (hb : ∀ k, b k = b' k) :
    (if 240 ≤ p then ∑ k, a k * b k else 0) = if 240 ≤ q then ∑ k, a' k * b' k else 0 := by
  rw [h, funext ha, funext hb]

end Cert.Dense

end
-- ==== Proof.Ref6.lean ====
/- The reference's input projection, at an index. -/
module

public import proofs.«01_k».proof.Proof.Gen.Reference6Ideal.Run
public import proofs.«01_k».proof.Proof.Dense

@[expose] public section

set_option maxRecDepth 16384

noncomputable section

namespace Cert.Reference6Ideal.Term

open Cert.Reference6Ideal Cert.Reference6Ideal.Gen Cert.Dense Idealize.ShloMosaic Idealize.ShloMosaic.TcCoe Idealize.SL.Sem

/-- The reference's term over its arrays. -/
def REF (X : FVec Ideal S8448x1024 .f32) (G : FVec Ideal S1024 .f32) (B : FVec Ideal S1024 .f32) (W : FVec Ideal S1024x2816 .f32) : FVec Ideal S8448x2816 .f32 :=
  pad S8448x2816 ![240, 0] ![0, 0] ![0, 0] (extractStridedSlice S8208x2816 ![240, 0] (Host.dotGeneral dot_S8448x1024_S1024x2816_S8448x2816_1_0_0_1_n_n none (addf (mulf (mulf (subf X (broadcastInDim S8448x1024 ![0, 1] bcast_S8448x1_S8448x1024_0_1 (Host.divf (broadcastInDim S8448x1 ![0] bcast_S8448_S8448x1_0 (Host.reduceAdd X (constant S_ .f32 0x00000000#32) reducesTo_S8448x1024_S8448_d1 h_S_)) (broadcastInDim S8448x1 ![] bcast_S_S8448x1 (constant S_ .f32 0x44800000#32))))) (broadcastInDim S8448x1024 ![0, 1] bcast_S8448x1_S8448x1024_0_1 (Host.rsqrt (addf (Host.divf (broadcastInDim S8448x1 ![0] bcast_S8448_S8448x1_0 (Host.reduceAdd (mulf (subf X (broadcastInDim S8448x1024 ![0, 1] bcast_S8448x1_S8448x1024_0_1 (Host.divf (broadcastInDim S8448x1 ![0] bcast_S8448_S8448x1_0 (Host.reduceAdd X (constant S_ .f32 0x00000000#32) reducesTo_S8448x1024_S8448_d1 h_S_)) (broadcastInDim S8448x1 ![] bcast_S_S8448x1 (constant S_ .f32 0x44800000#32))))) (subf X (broadcastInDim S8448x1024 ![0, 1] bcast_S8448x1_S8448x1024_0_1 (Host.divf (broadcastInDim S8448x1 ![0] bcast_S8448_S8448x1_0 (Host.reduceAdd X (constant S_ .f32 0x00000000#32) reducesTo_S8448x1024_S8448_d1 h_S_)) (broadcastInDim S8448x1 ![] bcast_S_S8448x1 (constant S_ .f32 0x44800000#32)))))) (constant S_ .f32 0x00000000#32) reducesTo_S8448x1024_S8448_d1 h_S_)) (broadcastInDim S8448x1 ![] bcast_S_S8448x1 (constant S_ .f32 0x44800000#32))) (broadcastInDim S8448x1 ![] bcast_S_S8448x1 (constant S_ .f32 0x3727C5AC#32)))))) (broadcastInDim S8448x1024 ![0, 1] bcast_S1x1024_S8448x1024_0_1 (broadcastInDim S1x1024 ![1] bcast_S1024_S1x1024_1 G))) (broadcastInDim S8448x1024 ![0, 1] bcast_S1x1024_S8448x1024_0_1 (broadcastInDim S1x1024 ![1] bcast_S1024_S1x1024_1 B))) W) slices_S8448x2816_S8208x2816_240_0) (sitofp .f32 (constantI S_ 32 0#32)) pads_S8208x2816_S8448x2816_24000_000 h_S_

theorem padrow (z : EReal) (a : EReal) (r : Fin 8448) (f : 240 ≤ (r : ℕ) ∧ (r : ℕ) - 240 < 8208 → EReal) (hz : z = 0) (h : ∀ h, f h = a) :
    (if h : 240 ≤ (r : ℕ) ∧ (r : ℕ) - 240 < 8208 then f h else z) = if 240 ≤ (r : ℕ) then a else 0 := by
  by_cases h' : 240 ≤ (r : ℕ)
  · rw [dif_pos ⟨h', by omega⟩, if_pos h', h]
  · rw [dif_neg (by omega), if_neg h', hz]

/-- The reference at an index: nothing on the 240 rows in front. -/
theorem href (X G B W j) : REF X G B W j = if 240 ≤ (j 0 : ℕ) then
    ∑ k : Fin 1024, lnv (fun k => X (ix2 (j 0) k)) (fun k => G (ix1 k)) (fun k => B (ix1 k)) k * W (ix2 k (j 1)) else 0 := by
  pointwise [REF, lnv]
  refine padrow _ _ (j 0) _ ?_ fun h => ?_
  · show (((0#32 : BitVec 32).toInt : ℝ) : EReal) = 0
    simp
  · have e : (⟨240 + ((j 0 : ℕ) - 240), by have hj : (j 0 : ℕ) < 8448 := (j 0).isLt; omega⟩ : Fin 8448) = j 0 := Fin.ext (by show 240 + ((j 0 : ℕ) - 240) = (j 0 : ℕ); omega)
    exact congrArg (fun r : Fin 8448 => ∑ k : Fin 1024, lnv (fun k => X (ix2 r k)) (fun k => G (ix1 k)) (fun k => B (ix1 k)) k * W (ix2 k (j 1))) e

end Cert.Reference6Ideal.Term

end
-- ==== Proof.Dense6.lean ====
/- The input projection: the array after the last point is the reference. -/
module

public import proofs.«01_k».proof.Proof.Gen.Kernel6Ideal.Value
public import proofs.«01_k».proof.Proof.Ref6

@[expose] public section

set_option maxRecDepth 16384

noncomputable section

namespace Cert.Kernel6Ideal.Dense

open Cert.Kernel6Ideal Cert.Kernel6Ideal.Gen Cert.Dense Idealize.ShloMosaic Idealize.ShloMosaic.TcCoe Idealize.SL.Sem
open Idealize.ShloMosaic.Pipeline (Dat)
open Cert.Reference6Ideal.Term (REF href)

variable (m : (ℓ : Loc nD τ sig) → Buf (Elt Ideal) ℓ)

/-- What a point stores, at an index: nothing on the 240 rows in front. -/
theorem hpay (i : grid0.Coords) (x g b w j) : k0_pay1 (F := Ideal) i x g b w j = if 240 ≤ (i 0 : ℕ) * 768 + (j 0 : ℕ) then
    ∑ k : Fin 1024, lnv (fun k => x (ix2 (j 0) k)) (fun k => g (ix2 0 k)) (fun k => b (ix2 0 k)) k * w (ix2 k (j 1)) else 0 := by
  pointwise [k0_pay1, lnv]
  exact if_congr (mask (i 0 : ℕ) (j 0 : ℕ) (i 0).isLt (j 0).isLt) rfl rfl

theorem idx : ∀ t : Fin cfg0.N, win0_0.index t = ![t.val, 0] ∧ win0_1.index t = ![0, 0] ∧ win0_2.index t = ![0, 0] ∧ win0_3.index t = ![0, 0] ∧ win0_4.index t = ![t.val, 0] :=
  (by decide +kernel : ∀ t : Fin grid0.N, _)

theorem coord : ∀ t : Fin cfg0.N, (grid0.coords t 0 : ℕ) = t.val :=
  (by decide +kernel : ∀ t : Fin grid0.N, _)

/-- The array after the last point. -/
theorem final (c : Dev nD) : (dats m 0 c).arrAt 4 (cfgs 0).N = REF (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  blk_simp
  rw [after0_4]; frame_out
  rw [hpay, href]
  refine if_sum_congr (by blk_simp [idx t, coord t]) (fun k => lnv_congr (fun l => ?_) (fun l => ?_) (fun l => ?_) rfl) (fun k => ?_)
  · blk_point [iblk, V, idx t]
  · blk_point [iblk, V, idx t]
  · blk_point [iblk, V, idx t]
  · blk_point [iblk, V, idx t]

end Cert.Kernel6Ideal.Dense

end
-- ==== Proof.Ref7.lean ====
/- The reference's output projection, at an index. -/
module

public import proofs.«01_k».proof.Proof.Gen.Reference7Ideal.Run
public import proofs.«01_k».proof.Proof.Dense

@[expose] public section

set_option maxRecDepth 16384

noncomputable section

namespace Cert.Reference7Ideal.Term

open Cert.Reference7Ideal Cert.Reference7Ideal.Gen Cert.Dense Idealize.ShloMosaic Idealize.ShloMosaic.TcCoe Idealize.SL.Sem

/-- The reference's term over its arrays. -/
def REF (X : FVec Ideal S8448x1024 .f32) (G : FVec Ideal S1024 .f32) (B : FVec Ideal S1024 .f32) (C : FVec Ideal S8448x1024 .bf16) (W : FVec Ideal S1024x1024 .f32) : FVec Ideal S8448x1024 .f32 :=
  addf (mulf (broadcastInDim S8448x1024 ![] bcast_S_S8448x1024 (constant S_ .f32 0x3FB504F3#32)) (addf (mulf (mulf (subf X (broadcastInDim S8448x1024 ![0, 1] bcast_S8448x1_S8448x1024_0_1 (Host.divf (broadcastInDim S8448x1 ![0] bcast_S8448_S8448x1_0 (Host.reduceAdd X (constant S_ .f32 0x00000000#32) reducesTo_S8448x1024_S8448_d1 h_S_)) (broadcastInDim S8448x1 ![] bcast_S_S8448x1 (constant S_ .f32 0x44800000#32))))) (broadcastInDim S8448x1024 ![0, 1] bcast_S8448x1_S8448x1024_0_1 (Host.rsqrt (addf (Host.divf (broadcastInDim S8448x1 ![0] bcast_S8448_S8448x1_0 (Host.reduceAdd (mulf (subf X (broadcastInDim S8448x1024 ![0, 1] bcast_S8448x1_S8448x1024_0_1 (Host.divf (broadcastInDim S8448x1 ![0] bcast_S8448_S8448x1_0 (Host.reduceAdd X (constant S_ .f32 0x00000000#32) reducesTo_S8448x1024_S8448_d1 h_S_)) (broadcastInDim S8448x1 ![] bcast_S_S8448x1 (constant S_ .f32 0x44800000#32))))) (subf X (broadcastInDim S8448x1024 ![0, 1] bcast_S8448x1_S8448x1024_0_1 (Host.divf (broadcastInDim S8448x1 ![0] bcast_S8448_S8448x1_0 (Host.reduceAdd X (constant S_ .f32 0x00000000#32) reducesTo_S8448x1024_S8448_d1 h_S_)) (broadcastInDim S8448x1 ![] bcast_S_S8448x1 (constant S_ .f32 0x44800000#32)))))) (constant S_ .f32 0x00000000#32) reducesTo_S8448x1024_S8448_d1 h_S_)) (broadcastInDim S8448x1 ![] bcast_S_S8448x1 (constant S_ .f32 0x44800000#32))) (broadcastInDim S8448x1 ![] bcast_S_S8448x1 (constant S_ .f32 0x3727C5AC#32)))))) (broadcastInDim S8448x1024 ![0, 1] bcast_S1x1024_S8448x1024_0_1 (broadcastInDim S1x1024 ![1] bcast_S1024_S1x1024_1 G))) (broadcastInDim S8448x1024 ![0, 1] bcast_S1x1024_S8448x1024_0_1 (broadcastInDim S1x1024 ![1] bcast_S1024_S1x1024_1 B)))) (Host.dotGeneral dot_S8448x1024_S1024x1024_S8448x1024_1_0_0_1_n_n none (extf .f32 C bitsLt_bf16_f32) W)

/-- The reference at an index. -/
theorem href (X G B C W j) : REF X G B C W j = Ideal.ofBits .f32 0x3FB504F3#32 * lnv (fun k => X (ix2 (j 0) k)) (fun k => G (ix1 k)) (fun k => B (ix1 k)) (j 1)
    + ∑ k : Fin 1024, C (ix2 (j 0) k) * W (ix2 k (j 1)) := by
  pointwise [REF, lnv]

end Cert.Reference7Ideal.Term

end
-- ==== Proof.Dense7.lean ====
/- The output projection: the array after the last point is the reference. -/
module

public import proofs.«01_k».proof.Proof.Gen.Kernel7Ideal.Value
public import proofs.«01_k».proof.Proof.Ref7

@[expose] public section

set_option maxRecDepth 16384

noncomputable section

namespace Cert.Kernel7Ideal.Dense

open Cert.Kernel7Ideal Cert.Kernel7Ideal.Gen Cert.Dense Idealize.ShloMosaic Idealize.ShloMosaic.TcCoe Idealize.SL.Sem
open Idealize.ShloMosaic.Pipeline (Dat)
open Cert.Reference7Ideal.Term (REF href)

variable (m : (ℓ : Loc nD τ sig) → Buf (Elt Ideal) ℓ)

/-- What a point stores, at an index. -/
theorem hpay (x g b c w j) : k0_pay1 (F := Ideal) x g b c w j = Ideal.ofBits .f32 0x3FB504F3#32 * lnv (fun k => x (ix2 (j 0) k)) (fun k => g (ix2 0 k)) (fun k => b (ix2 0 k)) (j 1)
    + ∑ k : Fin 1024, c (ix2 (j 0) k) * w (ix2 k (j 1)) := by
  pointwise [k0_pay1, lnv]

theorem idx : ∀ t : Fin cfg0.N, win0_0.index t = ![t.val, 0] ∧ win0_1.index t = ![0, 0] ∧ win0_2.index t = ![0, 0] ∧ win0_3.index t = ![t.val, 0] ∧ win0_4.index t = ![0, 0] ∧ win0_5.index t = ![t.val, 0] :=
  (by decide +kernel : ∀ t : Fin grid0.N, _)

/-- The array after the last point. -/
theorem final (c : Dev nD) : (dats m 0 c).arrAt 5 (cfgs 0).N = REF (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 5 _ (by decide +kernel) fun t hf y => ?_
  blk_simp
  rw [after0_5]; frame_out
  rw [hpay, href]
  refine Ideal.add_congr (Ideal.mul_congr rfl (lnv_congr (fun l => ?_) (fun l => ?_) (fun l => ?_) ?_)) ?_
  · blk_point [iblk, V, idx t]
  · blk_point [iblk, V, idx t]
  · blk_point [iblk, V, idx t]
  · exact Fin.ext (by blk_simp [idx t])
  · blk_point [iblk, V, idx t]

end Cert.Kernel7Ideal.Dense

end
-- ==== Proof.Ref8.lean ====
/- The reference's product with the output projection's transposed weight, at an index. -/
module

public import proofs.«01_k».proof.Proof.Gen.Reference8Ideal.Run
public import proofs.«01_k».proof.Proof.Dense

@[expose] public section

set_option maxRecDepth 16384

noncomputable section

namespace Cert.Reference8Ideal.Term

open Cert.Reference8Ideal Cert.Reference8Ideal.Gen Cert.Dense Idealize.ShloMosaic Idealize.ShloMosaic.TcCoe Idealize.SL.Sem

/-- The reference's term over its arrays. -/
def REF (D : FVec Ideal S8448x1024 .f32) (W : FVec Ideal S1024x1024 .f32) : FVec Ideal S8448x1024 .f32 :=
  Host.dotGeneral dot_S8448x1024_S1024x1024_S8448x1024_1_1_0_0_n_n none D W

/-- The reference at an index. -/
theorem href (D W j) : REF D W j = ∑ k : Fin 1024, D (ix2 (j 0) k) * W (ix2 (j 1) k) := by
  pointwise [REF]

end Cert.Reference8Ideal.Term

end
-- ==== Proof.Dense8.lean ====
/- The product with the transposed output weight: the array after the last point is the reference. -/
module

public import proofs.«01_k».proof.Proof.Gen.Kernel8Ideal.Value
public import proofs.«01_k».proof.Proof.Ref8

@[expose] public section

set_option maxRecDepth 16384

noncomputable section

namespace Cert.Kernel8Ideal.Dense

open Cert.Kernel8Ideal Cert.Kernel8Ideal.Gen Cert.Dense Idealize.ShloMosaic Idealize.ShloMosaic.TcCoe Idealize.SL.Sem
open Idealize.ShloMosaic.Pipeline (Dat)
open Cert.Reference8Ideal.Term (REF href)

variable (m : (ℓ : Loc nD τ sig) → Buf (Elt Ideal) ℓ)

/-- What a point stores, at an index. -/
theorem hpay (d w j) : k0_pay1 (F := Ideal) d w j = ∑ k : Fin 1024, d (ix2 (j 0) k) * w (ix2 (j 1) k) := by
  pointwise [k0_pay1]

theorem idx : ∀ t : Fin cfg0.N, win0_0.index t = ![t.val, 0] ∧ win0_1.index t = ![0, 0] ∧ win0_2.index t = ![t.val, 0] :=
  (by decide +kernel : ∀ t : Fin grid0.N, _)

/-- The array after the last point. -/
theorem final (c : Dev nD) : (dats m 0 c).arrAt 2 (cfgs 0).N = REF (m ((c : Thread nD τ).loc main_arg0)) (m ((c : Thread nD τ).loc main_arg1)) := by
  refine (dats m 0 c).arrAt_eq_of_covers 2 _ (by decide +kernel) fun t hf y => ?_
  blk_simp
  rw [after0_2]; frame_out
  rw [hpay, href]
  blk_point [iblk, V, idx t]

end Cert.Kernel8Ideal.Dense

end
-- ==== Proof.Ref9.lean ====
/- The reference's feed-forward network, at an index. -/
module

public import proofs.«01_k».proof.Proof.Gen.Reference9Ideal.Run
public import proofs.«01_k».proof.Proof.Dense
public import proofs.«01_k».proof.Proof.Real

@[expose] public section

set_option maxRecDepth 16384

noncomputable section

namespace Cert.Reference9Ideal.Term

open Cert.Reference9Ideal Cert.Reference9Ideal.Gen Cert.Dense Idealize.ShloMosaic Idealize.ShloMosaic.TcCoe Idealize.SL.Sem

/-- The reference's term over its arrays. -/
def REF0 (X : FVec Ideal S8448x1024 .f32) (G : FVec Ideal S1024 .f32) (B : FVec Ideal S1024 .f32) (W : FVec Ideal S1024x5504 .f32) (U : FVec Ideal S2752x1024 .f32) : FVec Ideal S8448x1024 .f32 :=
  addf (mulf (broadcastInDim S8448x1024 ![] bcast_S_S8448x1024 (constant S_ .f32 0x3FB504F3#32)) (addf (mulf (mulf (subf X (broadcastInDim S8448x1024 ![0, 1] bcast_S8448x1_S8448x1024_0_1 (Host.divf (broadcastInDim S8448x1 ![0] bcast_S8448_S8448x1_0 (Host.reduceAdd X (constant S_ .f32 0x00000000#32) reducesTo_S8448x1024_S8448_d1 h_S_)) (broadcastInDim S8448x1 ![] bcast_S_S8448x1 (constant S_ .f32 0x44800000#32))))) (broadcastInDim S8448x1024 ![0, 1] bcast_S8448x1_S8448x1024_0_1 (Host.rsqrt (addf (Host.divf (broadcastInDim S8448x1 ![0] bcast_S8448_S8448x1_0 (Host.reduceAdd (mulf (subf X (broadcastInDim S8448x1024 ![0, 1] bcast_S8448x1_S8448x1024_0_1 (Host.divf (broadcastInDim S8448x1 ![0] bcast_S8448_S8448x1_0 (Host.reduceAdd X (constant S_ .f32 0x00000000#32) reducesTo_S8448x1024_S8448_d1 h_S_)) (broadcastInDim S8448x1 ![] bcast_S_S8448x1 (constant S_ .f32 0x44800000#32))))) (subf X (broadcastInDim S8448x1024 ![0, 1] bcast_S8448x1_S8448x1024_0_1 (Host.divf (broadcastInDim S8448x1 ![0] bcast_S8448_S8448x1_0 (Host.reduceAdd X (constant S_ .f32 0x00000000#32) reducesTo_S8448x1024_S8448_d1 h_S_)) (broadcastInDim S8448x1 ![] bcast_S_S8448x1 (constant S_ .f32 0x44800000#32)))))) (constant S_ .f32 0x00000000#32) reducesTo_S8448x1024_S8448_d1 h_S_)) (broadcastInDim S8448x1 ![] bcast_S_S8448x1 (constant S_ .f32 0x44800000#32))) (broadcastInDim S8448x1 ![] bcast_S_S8448x1 (constant S_ .f32 0x3727C5AC#32)))))) (broadcastInDim S8448x1024 ![0, 1] bcast_S1x1024_S8448x1024_0_1 (broadcastInDim S1x1024 ![1] bcast_S1024_S1x1024_1 G))) (broadcastInDim S8448x1024 ![0, 1] bcast_S1x1024_S8448x1024_0_1 (broadcastInDim S1x1024 ![1] bcast_S1024_S1x1024_1 B)))) (mulf (broadcastInDim S8448x1024 ![] bcast_S_S8448x1024 (constant S_ .f32 0x3F000000#32)) (Host.dotGeneral dot_S8448x2752_S2752x1024_S8448x1024_1_0_0_1_n_n none (mulf (mulf (extractStridedSlice S8448x2752 ![0, 0] (Host.dotGeneral dot_S8448x1024_S1024x5504_S8448x5504_1_0_0_1_n_n none (addf (mulf (mulf (subf X (broadcastInDim S8448x1024 ![0, 1] bcast_S8448x1_S8448x1024_0_1 (Host.divf (broadcastInDim S8448x1 ![0] bcast_S8448_S8448x1_0 (Host.reduceAdd X (constant S_ .f32 0x00000000#32) reducesTo_S8448x1024_S8448_d1 h_S_)) (broadcastInDim S8448x1 ![] bcast_S_S8448x1 (constant S_ .f32 0x44800000#32))))) (broadcastInDim S8448x1024 ![0, 1] bcast_S8448x1_S8448x1024_0_1 (Host.rsqrt (addf (Host.divf (broadcastInDim S8448x1 ![0] bcast_S8448_S8448x1_0 (Host.reduceAdd (mulf (subf X (broadcastInDim S8448x1024 ![0, 1] bcast_S8448x1_S8448x1024_0_1 (Host.divf (broadcastInDim S8448x1 ![0] bcast_S8448_S8448x1_0 (Host.reduceAdd X (constant S_ .f32 0x00000000#32) reducesTo_S8448x1024_S8448_d1 h_S_)) (broadcastInDim S8448x1 ![] bcast_S_S8448x1 (constant S_ .f32 0x44800000#32))))) (subf X (broadcastInDim S8448x1024 ![0, 1] bcast_S8448x1_S8448x1024_0_1 (Host.divf (broadcastInDim S8448x1 ![0] bcast_S8448_S8448x1_0 (Host.reduceAdd X (constant S_ .f32 0x00000000#32) reducesTo_S8448x1024_S8448_d1 h_S_)) (broadcastInDim S8448x1 ![] bcast_S_S8448x1 (constant S_ .f32 0x44800000#32)))))) (constant S_ .f32 0x00000000#32) reducesTo_S8448x1024_S8448_d1 h_S_)) (broadcastInDim S8448x1 ![] bcast_S_S8448x1 (constant S_ .f32 0x44800000#32))) (broadcastInDim S8448x1 ![] bcast_S_S8448x1 (constant S_ .f32 0x3727C5AC#32)))))) (broadcastInDim S8448x1024 ![0, 1] bcast_S1x1024_S8448x1024_0_1 (broadcastInDim S1x1024 ![1] bcast_S1024_S1x1024_1 G))) (broadcastInDim S8448x1024 ![0, 1] bcast_S1x1024_S8448x1024_0_1 (broadcastInDim S1x1024 ![1] bcast_S1024_S1x1024_1 B))) W) slices_S8448x5504_S8448x2752_0_0) (Host.divf (broadcastInDim S8448x2752 ![] bcast_S_S8448x2752 (constant S_ .f32 0x3F800000#32)) (addf (broadcastInDim S8448x2752 ![] bcast_S_S8448x2752 (constant S_ .f32 0x3F800000#32)) (Host.exp (Host.negf (extractStridedSlice S8448x2752 ![0, 0] (Host.dotGeneral dot_S8448x1024_S1024x5504_S8448x5504_1_0_0_1_n_n none (addf (mulf (mulf (subf X (broadcastInDim S8448x1024 ![0, 1] bcast_S8448x1_S8448x1024_0_1 (Host.divf (broadcastInDim S8448x1 ![0] bcast_S8448_S8448x1_0 (Host.reduceAdd X (constant S_ .f32 0x00000000#32) reducesTo_S8448x1024_S8448_d1 h_S_)) (broadcastInDim S8448x1 ![] bcast_S_S8448x1 (constant S_ .f32 0x44800000#32))))) (broadcastInDim S8448x1024 ![0, 1] bcast_S8448x1_S8448x1024_0_1 (Host.rsqrt (addf (Host.divf (broadcastInDim S8448x1 ![0] bcast_S8448_S8448x1_0 (Host.reduceAdd (mulf (subf X (broadcastInDim S8448x1024 ![0, 1] bcast_S8448x1_S8448x1024_0_1 (Host.divf (broadcastInDim S8448x1 ![0] bcast_S8448_S8448x1_0 (Host.reduceAdd X (constant S_ .f32 0x00000000#32) reducesTo_S8448x1024_S8448_d1 h_S_)) (broadcastInDim S8448x1 ![] bcast_S_S8448x1 (constant S_ .f32 0x44800000#32))))) (subf X (broadcastInDim S8448x1024 ![0, 1] bcast_S8448x1_S8448x1024_0_1 (Host.divf (broadcastInDim S8448x1 ![0] bcast_S8448_S8448x1_0 (Host.reduceAdd X (constant S_ .f32 0x00000000#32) reducesTo_S8448x1024_S8448_d1 h_S_)) (broadcastInDim S8448x1 ![] bcast_S_S8448x1 (constant S_ .f32 0x44800000#32)))))) (constant S_ .f32 0x00000000#32) reducesTo_S8448x1024_S8448_d1 h_S_)) (broadcastInDim S8448x1 ![] bcast_S_S8448x1 (constant S_ .f32 0x44800000#32))) (broadcastInDim S8448x1 ![] bcast_S_S8448x1 (constant S_ .f32 0x3727C5AC#32)))))) (broadcastInDim S8448x1024 ![0, 1] bcast_S1x1024_S8448x1024_0_1 (broadcastInDim S1x1024 ![1] bcast_S1024_S1x1024_1 G))) (broadcastInDim S8448x1024 ![0, 1] bcast_S1x1024_S8448x1024_0_1 (broadcastInDim S1x1024 ![1] bcast_S1024_S1x1024_1 B))) W) slices_S8448x5504_S8448x2752_0_0)))))) (extractStridedSlice S8448x2752 ![0, 2752] (Host.dotGeneral dot_S8448x1024_S1024x5504_S8448x5504_1_0_0_1_n_n none (addf (mulf (mulf (subf X (broadcastInDim S8448x1024 ![0, 1] bcast_S8448x1_S8448x1024_0_1 (Host.divf (broadcastInDim S8448x1 ![0] bcast_S8448_S8448x1_0 (Host.reduceAdd X (constant S_ .f32 0x00000000#32) reducesTo_S8448x1024_S8448_d1 h_S_)) (broadcastInDim S8448x1 ![] bcast_S_S8448x1 (constant S_ .f32 0x44800000#32))))) (broadcastInDim S8448x1024 ![0, 1] bcast_S8448x1_S8448x1024_0_1 (Host.rsqrt (addf (Host.divf (broadcastInDim S8448x1 ![0] bcast_S8448_S8448x1_0 (Host.reduceAdd (mulf (subf X (broadcastInDim S8448x1024 ![0, 1] bcast_S8448x1_S8448x1024_0_1 (Host.divf (broadcastInDim S8448x1 ![0] bcast_S8448_S8448x1_0 (Host.reduceAdd X (constant S_ .f32 0x00000000#32) reducesTo_S8448x1024_S8448_d1 h_S_)) (broadcastInDim S8448x1 ![] bcast_S_S8448x1 (constant S_ .f32 0x44800000#32))))) (subf X (broadcastInDim S8448x1024 ![0, 1] bcast_S8448x1_S8448x1024_0_1 (Host.divf (broadcastInDim S8448x1 ![0] bcast_S8448_S8448x1_0 (Host.reduceAdd X (constant S_ .f32 0x00000000#32) reducesTo_S8448x1024_S8448_d1 h_S_)) (broadcastInDim S8448x1 ![] bcast_S_S8448x1 (constant S_ .f32 0x44800000#32)))))) (constant S_ .f32 0x00000000#32) reducesTo_S8448x1024_S8448_d1 h_S_)) (broadcastInDim S8448x1 ![] bcast_S_S8448x1 (constant S_ .f32 0x44800000#32))) (broadcastInDim S8448x1 ![] bcast_S_S8448x1 (constant S_ .f32 0x3727C5AC#32)))))) (broadcastInDim S8448x1024 ![0, 1] bcast_S1x1024_S8448x1024_0_1 (broadcastInDim S1x1024 ![1] bcast_S1024_S1x1024_1 G))) (broadcastInDim S8448x1024 ![0, 1] bcast_S1x1024_S8448x1024_0_1 (broadcastInDim S1x1024 ![1] bcast_S1024_S1x1024_1 B))) W) slices_S8448x5504_S8448x2752_0_2752)) U))

/-- The reference's term over its arrays. -/
def REF1 (X : FVec Ideal S8448x1024 .f32) (G : FVec Ideal S1024 .f32) (B : FVec Ideal S1024 .f32) (W : FVec Ideal S1024x5504 .f32) (U : FVec Ideal S2752x1024 .f32) : FVec Ideal S8448x3072 .bf16 :=
  truncf .bf16 (shapeCast _ (pad S8448x8x384 ![0, 0, 0] ![0, 0, 40] ![0, 0, 0] (shapeCast _ (extractStridedSlice S8448x2752 ![0, 0] (Host.dotGeneral dot_S8448x1024_S1024x5504_S8448x5504_1_0_0_1_n_n none (addf (mulf (mulf (subf X (broadcastInDim S8448x1024 ![0, 1] bcast_S8448x1_S8448x1024_0_1 (Host.divf (broadcastInDim S8448x1 ![0] bcast_S8448_S8448x1_0 (Host.reduceAdd X (constant S_ .f32 0x00000000#32) reducesTo_S8448x1024_S8448_d1 h_S_)) (broadcastInDim S8448x1 ![] bcast_S_S8448x1 (constant S_ .f32 0x44800000#32))))) (broadcastInDim S8448x1024 ![0, 1] bcast_S8448x1_S8448x1024_0_1 (Host.rsqrt (addf (Host.divf (broadcastInDim S8448x1 ![0] bcast_S8448_S8448x1_0 (Host.reduceAdd (mulf (subf X (broadcastInDim S8448x1024 ![0, 1] bcast_S8448x1_S8448x1024_0_1 (Host.divf (broadcastInDim S8448x1 ![0] bcast_S8448_S8448x1_0 (Host.reduceAdd X (constant S_ .f32 0x00000000#32) reducesTo_S8448x1024_S8448_d1 h_S_)) (broadcastInDim S8448x1 ![] bcast_S_S8448x1 (constant S_ .f32 0x44800000#32))))) (subf X (broadcastInDim S8448x1024 ![0, 1] bcast_S8448x1_S8448x1024_0_1 (Host.divf (broadcastInDim S8448x1 ![0] bcast_S8448_S8448x1_0 (Host.reduceAdd X (constant S_ .f32 0x00000000#32) reducesTo_S8448x1024_S8448_d1 h_S_)) (broadcastInDim S8448x1 ![] bcast_S_S8448x1 (constant S_ .f32 0x44800000#32)))))) (constant S_ .f32 0x00000000#32) reducesTo_S8448x1024_S8448_d1 h_S_)) (broadcastInDim S8448x1 ![] bcast_S_S8448x1 (constant S_ .f32 0x44800000#32))) (broadcastInDim S8448x1 ![] bcast_S_S8448x1 (constant S_ .f32 0x3727C5AC#32)))))) (broadcastInDim S8448x1024 ![0, 1] bcast_S1x1024_S8448x1024_0_1 (broadcastInDim S1x1024 ![1] bcast_S1024_S1x1024_1 G))) (broadcastInDim S8448x1024 ![0, 1] bcast_S1x1024_S8448x1024_0_1 (broadcastInDim S1x1024 ![1] bcast_S1024_S1x1024_1 B))) W) slices_S8448x5504_S8448x2752_0_0) shapeCasts_S8448x2752_S8448x8x344) (sitofp .f32 (constantI S_ 32 0#32)) pads_S8448x8x344_S8448x8x384_000_000_0400 h_S_) shapeCasts_S8448x8x384_S8448x3072) bitsLt_bf16_f32

/-- The reference's term over its arrays. -/
def REF2 (X : FVec Ideal S8448x1024 .f32) (G : FVec Ideal S1024 .f32) (B : FVec Ideal S1024 .f32) (W : FVec Ideal S1024x5504 .f32) (U : FVec Ideal S2752x1024 .f32) : FVec Ideal S8448x3072 .bf16 :=
  truncf .bf16 (shapeCast _ (pad S8448x8x384 ![0, 0, 0] ![0, 0, 40] ![0, 0, 0] (shapeCast _ (extractStridedSlice S8448x2752 ![0, 2752] (Host.dotGeneral dot_S8448x1024_S1024x5504_S8448x5504_1_0_0_1_n_n none (addf (mulf (mulf (subf X (broadcastInDim S8448x1024 ![0, 1] bcast_S8448x1_S8448x1024_0_1 (Host.divf (broadcastInDim S8448x1 ![0] bcast_S8448_S8448x1_0 (Host.reduceAdd X (constant S_ .f32 0x00000000#32) reducesTo_S8448x1024_S8448_d1 h_S_)) (broadcastInDim S8448x1 ![] bcast_S_S8448x1 (constant S_ .f32 0x44800000#32))))) (broadcastInDim S8448x1024 ![0, 1] bcast_S8448x1_S8448x1024_0_1 (Host.rsqrt (addf (Host.divf (broadcastInDim S8448x1 ![0] bcast_S8448_S8448x1_0 (Host.reduceAdd (mulf (subf X (broadcastInDim S8448x1024 ![0, 1] bcast_S8448x1_S8448x1024_0_1 (Host.divf (broadcastInDim S8448x1 ![0] bcast_S8448_S8448x1_0 (Host.reduceAdd X (constant S_ .f32 0x00000000#32) reducesTo_S8448x1024_S8448_d1 h_S_)) (broadcastInDim S8448x1 ![] bcast_S_S8448x1 (constant S_ .f32 0x44800000#32))))) (subf X (broadcastInDim S8448x1024 ![0, 1] bcast_S8448x1_S8448x1024_0_1 (Host.divf (broadcastInDim S8448x1 ![0] bcast_S8448_S8448x1_0 (Host.reduceAdd X (constant S_ .f32 0x00000000#32) reducesTo_S8448x1024_S8448_d1 h_S_)) (broadcastInDim S8448x1 ![] bcast_S_S8448x1 (constant S_ .f32 0x44800000#32)))))) (constant S_ .f32 0x00000000#32) reducesTo_S8448x1024_S8448_d1 h_S_)) (broadcastInDim S8448x1 ![] bcast_S_S8448x1 (constant S_ .f32 0x44800000#32))) (broadcastInDim S8448x1 ![] bcast_S_S8448x1 (constant S_ .f32 0x3727C5AC#32)))))) (broadcastInDim S8448x1024 ![0, 1] bcast_S1x1024_S8448x1024_0_1 (broadcastInDim S1x1024 ![1] bcast_S1024_S1x1024_1 G))) (broadcastInDim S8448x1024 ![0, 1] bcast_S1x1024_S8448x1024_0_1 (broadcastInDim S1x1024 ![1] bcast_S1024_S1x1024_1 B))) W) slices_S8448x5504_S8448x2752_0_2752) shapeCasts_S8448x2752_S8448x8x344) (sitofp .f32 (constantI S_ 32 0#32)) pads_S8448x8x344_S8448x8x384_000_000_0400 h_S_) shapeCasts_S8448x8x384_S8448x3072) bitsLt_bf16_f32

theorem fill {a b : ℕ} {z : EReal} {f : a < 8 ∧ b < 344 → EReal} {g : b < 344 → EReal} (ha : a < 8) (hz : z = 0) (hfg : ∀ h1 h2, f h1 = g h2) :
    (if h : a < 8 ∧ b < 344 then f h else z) = if h : b < 344 then g h else 0 := by
  by_cases h : b < 344
  · rw [dif_pos ⟨ha, h⟩, dif_pos h, hfg]
  · rw [dif_neg (fun h' => h h'.2), dif_neg h, hz]

/-- The reference's residual at an index. -/
theorem href0 (X G B W U j) : REF0 X G B W U j = Ideal.ofBits .f32 0x3FB504F3#32 * lnv (fun k => X (ix2 (j 0) k)) (fun k => G (ix1 k)) (fun k => B (ix1 k)) (j 1)
    + Ideal.ofBits .f32 0x3F000000#32 * ∑ l : Fin 2752, swv (lnv (fun k => X (ix2 (j 0) k)) (fun k => G (ix1 k)) (fun k => B (ix1 k)))
      (fun k => W (ix2 k ⟨l.val, by omega⟩)) (fun k => W (ix2 k ⟨2752 + l.val, by omega⟩)) * U (ix2 l (j 1)) := by
  pointwise [REF0, lnv, swv]
  simp only [Cert.Calc.bits_one, Ideal.logistic]

/-- The reference's first products at an index: nothing on the lanes that fill up. -/
theorem href1 (X G B W U j) : REF1 X G B W U j = if h : (j 1 : ℕ) % 384 < 344 then
    ∑ k : Fin 1024, lnv (fun k => X (ix2 (j 0) k)) (fun k => G (ix1 k)) (fun k => B (ix1 k)) k
      * W (ix2 k ⟨(j 1 : ℕ) / 384 * 344 + (j 1 : ℕ) % 384, by have hj : (j 1 : ℕ) < 3072 := (j 1).isLt; omega⟩) else 0 := by
  pointwise [REF1, lnv]
  have hj : (j 1 : ℕ) < 3072 := (j 1).isLt
  exact fill (by omega) (by show (((0#32 : BitVec 32).toInt : ℝ) : EReal) = 0; simp) fun _ _ => rfl

/-- The reference's second products at an index: nothing on the lanes that fill up. -/
theorem href2 (X G B W U j) : REF2 X G B W U j = if h : (j 1 : ℕ) % 384 < 344 then
    ∑ k : Fin 1024, lnv (fun k => X (ix2 (j 0) k)) (fun k => G (ix1 k)) (fun k => B (ix1 k)) k
      * W (ix2 k ⟨2752 + ((j 1 : ℕ) / 384 * 344 + (j 1 : ℕ) % 384), by have hj : (j 1 : ℕ) < 3072 := (j 1).isLt; omega⟩) else 0 := by
  pointwise [REF2, lnv]
  have hj : (j 1 : ℕ) < 3072 := (j 1).isLt
  exact fill (by omega) (by show (((0#32 : BitVec 32).toInt : ℝ) : EReal) = 0; simp) fun _ _ => rfl

end Cert.Reference9Ideal.Term

end
-- ==== Proof.Host9.lean ====
/- The arrays the host hands to the feed-forward call: the weights in eight slots whose halves are padded from 344 to 384. -/
module

public import proofs.«01_k».proof.Proof.Gen.Kernel9Ideal.Value
public import proofs.«01_k».proof.Proof.Dense
public import Idealize.ShloMosaic.Lib.StableHlo.RunRead

@[expose] public section

set_option maxRecDepth 16384

noncomputable section

namespace Cert.Kernel9Ideal.Ffn

open Cert.Kernel9Ideal Cert.Kernel9Ideal.Gen Cert.Dense Idealize.ShloMosaic Idealize.ShloMosaic.StableHlo Idealize.ShloMosaic.TcCoe Idealize.SL.Sem
open Idealize.ShloMosaic.Pipeline (Dat)

variable (m : (ℓ : Loc nD τ sig) → Buf (Elt Ideal) ℓ)

/-- The row of gains. -/
theorem gain_at (c : Dev nD) (k : Fin 1024) : (show FVec Ideal S1x1024 .f32 from V m c main_v10) (ix2 0 k)
    = (show FVec Ideal S1024 .f32 from m ((c : Thread nD τ).loc main_arg1)) (ix1 k) := by
  unfold V
  after_reads_simp
  pointwise

/-- The row of biases. -/
theorem bias_at (c : Dev nD) (k : Fin 1024) : (show FVec Ideal S1x1024 .f32 from V m c main_v11) (ix2 0 k)
    = (show FVec Ideal S1024 .f32 from m ((c : Thread nD τ).loc main_arg2)) (ix1 k) := by
  unfold V
  after_reads_simp
  pointwise

theorem v3_at (c : Dev nD) (s : Fin 8) (k : Fin 1024) (o : Fin 344) :
    (show FVec Ideal S8x1024x344 .f32 from StableHlo.upto [hostOps0, hostOps0_1, hostOps0_2].flatten (fun b => m (c, b)) 6 (Proc.devRef .tc main_v3)) (ix3 s k o) = (show FVec Ideal S1024x5504 .f32 from m ((c : Thread nD τ).loc main_arg3)) (ix2 k ⟨s.val * 688 + o.val, by omega⟩) := by
  after_reads_simp
  pointwise

theorem v4_at (c : Dev nD) (s : Fin 8) (k : Fin 1024) (o : Fin 344) :
    (show FVec Ideal S8x1024x344 .f32 from StableHlo.upto [hostOps0, hostOps0_1, hostOps0_2].flatten (fun b => m (c, b)) 6 (Proc.devRef .tc main_v4)) (ix3 s k o) = (show FVec Ideal S1024x5504 .f32 from m ((c : Thread nD τ).loc main_arg3)) (ix2 k ⟨s.val * 688 + (344 + o.val), by omega⟩) := by
  after_reads_simp
  pointwise

theorem v2_at (c : Dev nD) (s : Fin 8) (k : Fin 1024) (o : Fin 40) :
    (show FVec Ideal S8x1024x40 .f32 from StableHlo.upto [hostOps0, hostOps0_1, hostOps0_2].flatten (fun b => m (c, b)) 6 (Proc.devRef .tc main_v2)) (ix3 s k o) = 0 := by
  after_reads_simp
  pointwise

theorem concat_at (A : FVec Ideal S8x1024x344 .f32) (Z : FVec Ideal S8x1024x40 .f32) (B : FVec Ideal S8x1024x344 .f32) (Z' : FVec Ideal S8x1024x40 .f32)
    (hc : Shape.Concatenates [S8x1024x344, S8x1024x40, S8x1024x344, S8x1024x40] S8x1024x768 2) (hb) (s : Fin 8) (k : Fin 1024) (q : Fin 768) :
    truncf (F := Ideal) .bf16 (concatenate S8x1024x768 2 [⟨S8x1024x344, A⟩, ⟨S8x1024x40, Z⟩, ⟨S8x1024x344, B⟩, ⟨S8x1024x40, Z'⟩] hc) hb (ix3 s k q)
      = if h : q.val < 344 then A (ix3 s k ⟨q.val, h⟩) else if h' : q.val - 344 < 40 then Z (ix3 s k ⟨q.val - 344, h'⟩)
        else if h'' : q.val - 344 - 40 < 344 then B (ix3 s k ⟨q.val - 344 - 40, h''⟩) else Z' (ix3 s k ⟨q.val - 344 - 40 - 344, by omega⟩) := by
  pointwise

/-- A slot's column of the first weight that is not padding. -/
theorem w13_real (c : Dev nD) (s : Fin 8) (k : Fin 1024) (e : Fin 2) (o : Fin 344) :
    (show FVec Ideal S8x1024x768 .bf16 from V m c main_v6) (ix3 s k ⟨e.val * 384 + o.val, by omega⟩)
    = (show FVec Ideal S1024x5504 .f32 from m ((c : Thread nD τ).loc main_arg3)) (ix2 k ⟨s.val * 688 + (e.val * 344 + o.val), by omega⟩) := by
  unfold V
  after_reads_simp
  refine (concat_at _ _ _ _ concatenates_S8x1024x344_S8x1024x40_S8x1024x344_S8x1024x40_S8x1024x768_d2 bitsLt_bf16_f32 s k _).trans ?_
  have ho := o.isLt
  fin_cases e
  · refine (dif_pos (show 0 * 384 + o.val < 344 by omega)).trans ?_
    refine (v3_at m c s k _).trans (congrArg (show FVec Ideal S1024x5504 .f32 from m ((c : Thread nD τ).loc main_arg3)) ?_)
    exact congrArg (ix2 k) (Fin.ext (by show s.val * 688 + (0 * 384 + o.val) = s.val * 688 + (0 * 344 + o.val); omega))
  · refine (dif_neg (show ¬ 1 * 384 + o.val < 344 by omega)).trans ((dif_neg (show ¬ 1 * 384 + o.val - 344 < 40 by omega)).trans ((dif_pos (show 1 * 384 + o.val - 344 - 40 < 344 by omega)).trans ?_))
    refine (v4_at m c s k _).trans (congrArg (show FVec Ideal S1024x5504 .f32 from m ((c : Thread nD τ).loc main_arg3)) ?_)
    exact congrArg (ix2 k) (Fin.ext (by show s.val * 688 + (344 + (1 * 384 + o.val - 344 - 40)) = s.val * 688 + (1 * 344 + o.val); omega))

/-- A slot's column of padding. -/
theorem w13_pad (c : Dev nD) (s : Fin 8) (k : Fin 1024) (e : Fin 2) (o : Fin 40) :
    (show FVec Ideal S8x1024x768 .bf16 from V m c main_v6) (ix3 s k ⟨e.val * 384 + (344 + o.val), by omega⟩) = 0 := by
  unfold V
  after_reads_simp
  refine (concat_at _ _ _ _ concatenates_S8x1024x344_S8x1024x40_S8x1024x344_S8x1024x40_S8x1024x768_d2 bitsLt_bf16_f32 s k _).trans ?_
  have ho := o.isLt
  fin_cases e
  · exact (dif_neg (show ¬ 0 * 384 + (344 + o.val) < 344 by omega)).trans ((dif_pos (show 0 * 384 + (344 + o.val) - 344 < 40 by omega)).trans (v2_at m c s k _))
  · exact (dif_neg (show ¬ 1 * 384 + (344 + o.val) < 344 by omega)).trans ((dif_neg (show ¬ 1 * 384 + (344 + o.val) - 344 < 40 by omega)).trans
      ((dif_neg (show ¬ 1 * 384 + (344 + o.val) - 344 - 40 < 344 by omega)).trans (v2_at m c s k _)))

theorem slot_rows (W : FVec Ideal S2752x1024 .f32) (z : FVec Ideal S_ .f32) (h1 h2 h3 h4 h5) (f : Fin 4) (q : Fin 768) (j : Fin 1024) :
    shapeCast S4x768x1024 (truncf (F := Ideal) .bf16 (pad S8x384x1024 ![0, 0, 0] ![0, 40, 0] ![0, 0, 0] (shapeCast S8x344x1024 W h1) z h2 h3) h4) h5 (ix3 f q j)
      = if h : q.val % 384 < 344 then W (ix2 ⟨(f.val * 2 + q.val / 384) * 344 + q.val % 384, by omega⟩ j) else z (Shape.Idx.first h3) := by
  pointwise
  by_cases h : q.val % 384 < 344
  · rw [dif_pos ⟨by omega, h⟩, dif_pos h]
  · rw [dif_neg (fun h' => h h'.2), dif_neg h]

/-- A row of the second weight that is not padding. -/
theorem w2_real (c : Dev nD) (f : Fin 4) (e : Fin 2) (o : Fin 344) (j : Fin 1024) :
    (show FVec Ideal S4x768x1024 .bf16 from V m c main_v12) (ix3 f ⟨e.val * 384 + o.val, by omega⟩ j)
    = (show FVec Ideal S2752x1024 .f32 from m ((c : Thread nD τ).loc main_arg4)) (ix2 ⟨(f.val * 2 + e.val) * 344 + o.val, by omega⟩ j) := by
  unfold V
  after_reads_simp
  refine (slot_rows (show FVec Ideal S2752x1024 .f32 from m ((c : Thread nD τ).loc main_arg4)) _ shapeCasts_S2752x1024_S8x344x1024 pads_S8x344x1024_S8x384x1024_000_0400_000 h_S_ bitsLt_bf16_f32 shapeCasts_S8x384x1024_S4x768x1024 f _ j).trans ?_
  have ho := o.isLt
  have he := e.isLt
  refine (dif_pos (show (e.val * 384 + o.val) % 384 < 344 by omega)).trans (congrArg (show FVec Ideal S2752x1024 .f32 from m ((c : Thread nD τ).loc main_arg4)) ?_)
  exact congrArg (fun r => ix2 r j) (Fin.ext (by show (f.val * 2 + (e.val * 384 + o.val) / 384) * 344 + (e.val * 384 + o.val) % 384 = (f.val * 2 + e.val) * 344 + o.val; omega))

/-- A row of padding. -/
theorem w2_pad (c : Dev nD) (f : Fin 4) (e : Fin 2) (o : Fin 40) (j : Fin 1024) :
    (show FVec Ideal S4x768x1024 .bf16 from V m c main_v12) (ix3 f ⟨e.val * 384 + (344 + o.val), by omega⟩ j) = 0 := by
  unfold V
  after_reads_simp
  refine (slot_rows (show FVec Ideal S2752x1024 .f32 from m ((c : Thread nD τ).loc main_arg4)) _ shapeCasts_S2752x1024_S8x344x1024 pads_S8x344x1024_S8x384x1024_000_0400_000 h_S_ bitsLt_bf16_f32 shapeCasts_S8x384x1024_S4x768x1024 f _ j).trans ?_
  have ho := o.isLt
  refine (dif_neg (show ¬ (e.val * 384 + (344 + o.val)) % 384 < 344 by omega)).trans ?_
  show (((0#32 : BitVec 32).toInt : ℝ) : EReal) = 0
  simp

end Cert.Kernel9Ideal.Ffn

end
-- ==== Proof.Ffn9.lean ====
/- The feed-forward call: a block's normalised rows stay over its four slots, the slots' products add up, and the three arrays after the last point are the reference's. -/
module

public import proofs.«01_k».proof.Proof.Gen.Kernel9Ideal.Value
public import proofs.«01_k».proof.Proof.Ref9
public import proofs.«01_k».proof.Proof.Host9

@[expose] public section

set_option maxRecDepth 16384

noncomputable section

namespace Cert.Kernel9Ideal.Ffn

open Cert.Kernel9Ideal Cert.Kernel9Ideal.Gen Cert.Dense Idealize.ShloMosaic Idealize.ShloMosaic.TcCoe Idealize.SL.Sem
open Idealize.ShloMosaic.Pipeline (Dat)
open Cert.Reference9Ideal.Term (REF0 REF1 REF2 href0 href1 href2)

variable (m : (ℓ : Loc nD τ sig) → Buf (Elt Ideal) ℓ)

theorem hpay1 (v j) : k0_pay1 (F := Ideal) v j = v j := by pointwise [k0_pay1]

/-- What the last slot's point stores, at an index. -/
theorem hpay2 (x g b acc j) : k0_pay2 (F := Ideal) x g b acc j
    = Ideal.ofBits .f32 0x3FB504F3#32 * lnv (fun k => x (ix2 (j 0) k)) (fun k => g (ix2 0 k)) (fun k => b (ix2 0 k)) (j 1) + Ideal.ofBits .f32 0x3F000000#32 * acc j := by
  pointwise [k0_pay2, lnv]

/-- The normalised rows, at an index. -/
theorem hpay3 (x g b j) : k0_pay3 (F := Ideal) x g b j = lnv (fun k => x (ix2 (j 0) k)) (fun k => g (ix2 0 k)) (fun k => b (ix2 0 k)) (j 1) := by
  pointwise [k0_pay3, lnv]

theorem hpay4 (j) : k0_pay4 (F := Ideal) j = 0 := by pointwise [k0_pay4]

theorem hpay7 (h w j) : k0_pay7 (F := Ideal) h w j = ∑ k : Fin 1024, h (ix2 (j 0) k) * w (ix3 0 k (j 1)) := by pointwise [k0_pay7, k0_pay5]

theorem hpay8 (h w j) : k0_pay8 (F := Ideal) h w j = ∑ k : Fin 1024, h (ix2 (j 0) k) * w (ix3 0 k (j 1)) := by pointwise [k0_pay8, k0_pay6]

/-- A slot's sum added to the sum so far, at an index. -/
theorem hpay9 (h w w' acc u j) : k0_pay9 (F := Ideal) h w w' acc u j
    = acc j + ∑ q : Fin 768, swv (fun k => h (ix2 (j 0) k)) (fun k => w (ix3 0 k q)) (fun k => w' (ix3 0 k q)) * u (ix3 0 q (j 1)) := by
  pointwise [k0_pay9, k0_pay5, k0_pay6]
  simp only [sigmoid_eq _ _ Cert.Calc.bits_half, swv]

theorem idx : ∀ t : Fin cfg0.N, win0_0.index t = ![t.val / 4, 0] ∧ win0_1.index t = ![0, 0] ∧ win0_2.index t = ![0, 0] ∧ win0_3.index t = ![t.val % 4, 0, 0]
    ∧ win0_4.index t = ![4 + t.val % 4, 0, 0] ∧ win0_5.index t = ![t.val % 4, 0, 0] ∧ win0_6.index t = ![t.val / 4, 0] ∧ win0_7.index t = ![t.val / 4, t.val % 4]
    ∧ win0_8.index t = ![t.val / 4, t.val % 4] :=
  (by decide +kernel : ∀ t : Fin grid0.N, _)

/-- A block's row in the whole array. -/
def row (n : ℕ) (hn : n < cfg0.N) (r : Fin 768) : Fin 8448 := ⟨n / 4 * 768 + r.val, by
  have : n < 44 := lt_of_lt_of_eq hn N_0
  omega⟩

/-- A normalised row. -/
def hrow (c : Dev nD) (r : Fin 8448) : Fin 1024 → EReal :=
  lnv (fun k => (show FVec Ideal S8448x1024 .f32 from m ((c : Thread nD τ).loc main_arg0)) (ix2 r k)) (fun k => (show FVec Ideal S1024 .f32 from m ((c : Thread nD τ).loc main_arg1)) (ix1 k)) (fun k => (show FVec Ideal S1024 .f32 from m ((c : Thread nD τ).loc main_arg2)) (ix1 k))

theorem b0_at (c : Dev nD) (t : Fin cfg0.N) (r : Fin 768) (k : Fin 1024) : (show FVec Ideal S768x1024 .f32 from iblk m c 0 t) (ix2 r k)
    = (show FVec Ideal S8448x1024 .f32 from m ((c : Thread nD τ).loc main_arg0)) (ix2 (row t.val t.isLt r) k) := by
  blk_point [iblk, V, row, idx t]

theorem b1_at (c : Dev nD) (t : Fin cfg0.N) (k : Fin 1024) : (show FVec Ideal S1x1024 .f32 from iblk m c 1 t) (ix2 0 k)
    = (show FVec Ideal S1024 .f32 from m ((c : Thread nD τ).loc main_arg1)) (ix1 k) := by
  refine Eq.trans ?_ (gain_at m c k)
  blk_point [iblk, idx t]

theorem b2_at (c : Dev nD) (t : Fin cfg0.N) (k : Fin 1024) : (show FVec Ideal S1x1024 .f32 from iblk m c 2 t) (ix2 0 k)
    = (show FVec Ideal S1024 .f32 from m ((c : Thread nD τ).loc main_arg2)) (ix1 k) := by
  refine Eq.trans ?_ (bias_at m c k)
  blk_point [iblk, idx t]

theorem b3_at (c : Dev nD) (t : Fin cfg0.N) (k : Fin 1024) (q : Fin 768) : (show FVec Ideal S1x1024x768 .bf16 from iblk m c 3 t) (ix3 0 k q)
    = (show FVec Ideal S8x1024x768 .bf16 from V m c main_v6) (ix3 ⟨t.val % 4, by omega⟩ k q) := by
  blk_point [iblk, idx t]

theorem b4_at (c : Dev nD) (t : Fin cfg0.N) (k : Fin 1024) (q : Fin 768) : (show FVec Ideal S1x1024x768 .bf16 from iblk m c 4 t) (ix3 0 k q)
    = (show FVec Ideal S8x1024x768 .bf16 from V m c main_v6) (ix3 ⟨4 + t.val % 4, by omega⟩ k q) := by
  blk_point [iblk, idx t]

theorem b5_at (c : Dev nD) (t : Fin cfg0.N) (q : Fin 768) (j : Fin 1024) : (show FVec Ideal S1x768x1024 .bf16 from iblk m c 5 t) (ix3 0 q j)
    = (show FVec Ideal S4x768x1024 .bf16 from V m c main_v12) (ix3 ⟨t.val % 4, by omega⟩ q j) := by
  blk_point [iblk, idx t]

/-- The block's normalised rows at a point that makes them. -/
theorem rows_at (c : Dev nD) (t : Fin cfg0.N) (j : S768x1024.Idx) :
    k0_pay3 (F := Ideal) (iblk m c 0 t) (iblk m c 1 t) (iblk m c 2 t) j = hrow m c (row t.val t.isLt (j 0)) (j 1) :=
  (hpay3 _ _ _ j).trans (lnv_congr (fun l => b0_at m c t (j 0) l) (fun l => b1_at m c t l) (fun l => b2_at m c t l) rfl)

end Cert.Kernel9Ideal.Ffn

end
-- ==== Proof.FfnSum9.lean ====
/- The feed-forward call: the sum over a block's four slots, and what its points store. -/
module

public import proofs.«01_k».proof.Proof.Ffn9

@[expose] public section

set_option maxRecDepth 16384

noncomputable section

namespace Cert.Kernel9Ideal.Ffn

open Cert.Kernel9Ideal Cert.Kernel9Ideal.Gen Cert.Dense Idealize.ShloMosaic Idealize.ShloMosaic.TcCoe Idealize.SL.Sem
open Idealize.ShloMosaic.Pipeline (Dat)
open Cert.Reference9Ideal.Term (REF0 REF1 REF2 href0 href1 href2)

variable (m : (ℓ : Loc nD τ sig) → Buf (Elt Ideal) ℓ)

theorem hb_A (c : Dev nD) (t : Fin cfg0.N) (h : t.val % 4 = 0) : (outsAt0 m c t.val t.isLt).2.2.2.1
    = k0_pay3 (F := Ideal) (iblk m c 0 t) (iblk m c 1 t) (iblk m c 2 t) := by
  rw [outsAt0_A m c t h (by omega)]; frame_out

theorem hb_BC (c : Dev nD) (t : Fin cfg0.N) (h : ¬ t.val % 4 = 0) : (outsAt0 m c t.val t.isLt).2.2.2.1
    = (outsAt0 m c (t.val - 1) (Nat.lt_of_le_of_lt (Nat.sub_le _ _) t.isLt)).2.2.2.1 := by
  by_cases h3 : t.val % 4 = 3
  · rw [outsAt0_C m c t h h3]; dsimp only [sout0_C_0]
  · rw [outsAt0_B m c t h h3]; dsimp only [sout0_B_0]

/-- The rows that the scratch holds at a point. -/
theorem hb_at (c : Dev nD) : ∀ (n : ℕ) (h : n < cfg0.N) (j : S768x1024.Idx), (outsAt0 m c n h).2.2.2.1 j = hrow m c (row n h (j 0)) (j 1) := by
  intro n
  induction n with
  | zero =>
    intro h j
    exact (congrFun (hb_A m c ⟨0, h⟩ rfl) j).trans (rows_at m c ⟨0, h⟩ j)
  | succ n ih =>
    intro h j
    by_cases h0 : (n + 1) % 4 = 0
    · exact (congrFun (hb_A m c ⟨n + 1, h⟩ h0) j).trans (rows_at m c ⟨n + 1, h⟩ j)
    · have e : row (n + 1) h (j 0) = row n (by omega) (j 0) := Fin.ext (by show (n + 1) / 4 * 768 + _ = n / 4 * 768 + _; rw [show (n + 1) / 4 = n / 4 by omega])
      exact (congrFun (hb_BC m c ⟨n + 1, h⟩ h0) j).trans ((ih (by omega) j).trans (congrArg (fun r => hrow m c r (j 1)) e.symm))

/-- A slot's part of the second product, at an index. -/
def part (c : Dev nD) (n : ℕ) (hn : n < cfg0.N) (j : S768x1024.Idx) : EReal :=
  ∑ q : Fin 768, swv (hrow m c (row n hn (j 0))) (fun k => (show FVec Ideal S8x1024x768 .bf16 from V m c main_v6) (ix3 ⟨n % 4, by omega⟩ k q))
    (fun k => (show FVec Ideal S8x1024x768 .bf16 from V m c main_v6) (ix3 ⟨4 + n % 4, by omega⟩ k q))
    * (show FVec Ideal S4x768x1024 .bf16 from V m c main_v12) (ix3 ⟨n % 4, by omega⟩ q (j 1))

theorem swv_congr {h w w' h' v v' : Fin 1024 → EReal} (e : ∀ k, h k = h' k) (e1 : ∀ k, w k = v k) (e2 : ∀ k, w' k = v' k) : swv h w w' = swv h' v v' := by
  rw [funext e, funext e1, funext e2]

/-- A point's addition to the sum so far. -/
theorem step (c : Dev nD) (t : Fin cfg0.N) (h : FVec Ideal S768x1024 .bf16) (acc : FVec Ideal S768x1024 .f32) (j : S768x1024.Idx) (hh : ∀ i : S768x1024.Idx, h i = hrow m c (row t.val t.isLt (i 0)) (i 1)) :
    k0_pay9 (F := Ideal) h (iblk m c 3 t) (iblk m c 4 t) acc (iblk m c 5 t) j = acc j + part m c t.val t.isLt j :=
  (hpay9 _ _ _ _ _ j).trans (congrArg (acc j + ·) (Finset.sum_congr rfl fun q _ =>
    Ideal.mul_congr (swv_congr (fun k => hh (ix2 (j 0) k)) (fun k => b3_at m c t k q) (fun k => b4_at m c t k q)) (b5_at m c t q (j 1))))

theorem acc_A (c : Dev nD) (t : Fin cfg0.N) (h : t.val % 4 = 0) (j : S768x1024.Idx) : (outsAt0 m c t.val t.isLt).2.2.2.2 j = 0 + part m c t.val t.isLt j := by
  rw [outsAt0_A m c t h (by omega)]; frame_out
  exact (hpay1 _ j).trans ((step m c t _ _ j (rows_at m c t)).trans (congrArg (· + _) (hpay4 j)))

theorem acc_BC (c : Dev nD) (t : Fin cfg0.N) (h : ¬ t.val % 4 = 0) (j : S768x1024.Idx) : (outsAt0 m c t.val t.isLt).2.2.2.2 j
    = (outsAt0 m c (t.val - 1) (Nat.lt_of_le_of_lt (Nat.sub_le _ _) t.isLt)).2.2.2.2 j + part m c t.val t.isLt j := by
  have hb : ∀ i : S768x1024.Idx, (outsAt0 m c (t.val - 1) (Nat.lt_of_le_of_lt (Nat.sub_le _ _) t.isLt)).2.2.2.1 i = hrow m c (row t.val t.isLt (i 0)) (i 1) := fun i => by
    rw [hb_at]
    refine congrArg (fun r => hrow m c r (i 1)) (Fin.ext ?_)
    show (t.val - 1) / 4 * 768 + _ = t.val / 4 * 768 + _
    rw [show (t.val - 1) / 4 = t.val / 4 by omega]
  by_cases h3 : t.val % 4 = 3
  · rw [outsAt0_C m c t h h3]; frame_out
    exact (hpay1 _ j).trans ((step m c t _ _ j (fun i => (congrFun (Memref.IsWhole.read_unread (Val := Elt Ideal) _ _) i).trans (hb i))).trans (congrArg (· + _) (congrFun (Memref.IsWhole.read_unread (Val := Elt Ideal) _ _) j)))
  · rw [outsAt0_B m c t h h3]; frame_out
    exact (hpay1 _ j).trans ((step m c t _ _ j (fun i => (congrFun (Memref.IsWhole.read_unread (Val := Elt Ideal) _ _) i).trans (hb i))).trans (congrArg (· + _) (congrFun (Memref.IsWhole.read_unread (Val := Elt Ideal) _ _) j)))

theorem out_eq (c : Dev nD) (t : Fin cfg0.N) (h : t.val % 4 = 3) : (outsAt0 m c t.val t.isLt).1
    = k0_pay2 (F := Ideal) (iblk m c 0 t) (iblk m c 1 t) (iblk m c 2 t) (outsAt0 m c t.val t.isLt).2.2.2.2 := by
  rw [outsAt0_C m c t (by omega) h]; frame_out

/-- What a point stores of the first products. -/
theorem a_at (c : Dev nD) (t : Fin cfg0.N) (j : S768x768.Idx) : (outsAt0 m c t.val t.isLt).2.1 j
    = ∑ k : Fin 1024, hrow m c (row t.val t.isLt (j 0)) k * (show FVec Ideal S8x1024x768 .bf16 from V m c main_v6) (ix3 ⟨t.val % 4, by omega⟩ k (j 1)) := by
  have hh : (outsAt0 m c t.val t.isLt).2.1 = k0_pay7 (F := Ideal) (outsAt0 m c t.val t.isLt).2.2.2.1 (iblk m c 3 t) := by
    by_cases h : t.val % 4 = 0
    · rw [outsAt0_A m c t h (by omega)]; frame_out
    · rw [hb_BC m c t h]
      by_cases h3 : t.val % 4 = 3
      · rw [outsAt0_C m c t h h3]; frame_out
        exact congrArg (fun v => k0_pay7 (F := Ideal) v (iblk m c 3 t)) (Memref.IsWhole.read_unread (Val := Elt Ideal) _ _)
      · rw [outsAt0_B m c t h h3]; frame_out
        exact congrArg (fun v => k0_pay7 (F := Ideal) v (iblk m c 3 t)) (Memref.IsWhole.read_unread (Val := Elt Ideal) _ _)
  rw [hh]
  exact (hpay7 _ _ j).trans (Finset.sum_congr rfl fun k _ => Ideal.mul_congr (hb_at m c t.val t.isLt (ix2 (j 0) k)) (b3_at m c t k (j 1)))

/-- What a point stores of the second products. -/
theorem u_at (c : Dev nD) (t : Fin cfg0.N) (j : S768x768.Idx) : (outsAt0 m c t.val t.isLt).2.2.1 j
    = ∑ k : Fin 1024, hrow m c (row t.val t.isLt (j 0)) k * (show FVec Ideal S8x1024x768 .bf16 from V m c main_v6) (ix3 ⟨4 + t.val % 4, by omega⟩ k (j 1)) := by
  have hh : (outsAt0 m c t.val t.isLt).2.2.1 = k0_pay8 (F := Ideal) (outsAt0 m c t.val t.isLt).2.2.2.1 (iblk m c 4 t) := by
    by_cases h : t.val % 4 = 0
    · rw [outsAt0_A m c t h (by omega)]; frame_out
    · rw [hb_BC m c t h]
      by_cases h3 : t.val % 4 = 3
      · rw [outsAt0_C m c t h h3]; frame_out
        exact congrArg (fun v => k0_pay8 (F := Ideal) v (iblk m c 4 t)) (Memref.IsWhole.read_unread (Val := Elt Ideal) _ _)
      · rw [outsAt0_B m c t h h3]; frame_out
        exact congrArg (fun v => k0_pay8 (F := Ideal) v (iblk m c 4 t)) (Memref.IsWhole.read_unread (Val := Elt Ideal) _ _)
  rw [hh]
  exact (hpay8 _ _ j).trans (Finset.sum_congr rfl fun k _ => Ideal.mul_congr (hb_at m c t.val t.isLt (ix2 (j 0) k)) (b4_at m c t k (j 1)))

/-- The sum of a block's four slots. -/
theorem acc_eq (c : Dev nD) (t : Fin cfg0.N) (hr : t.val % 4 = 3) (j) : (outsAt0 m c t.val t.isLt).2.2.2.2 j
    = ∑ s : Fin 4, part m c (4 * (t.val / 4) + s.val) (Pipeline.run_point_lt_of_flush t hr s) j := by
  rw [Pipeline.eq_sum_fin_of_reset_step_apply_of_flush (fun n h => (outsAt0 m c n h).2.2.2.2) 4 (fun _ => 0) (fun t j => part m c t.val t.isLt j)
    (fun t h j => acc_A m c t h j) (fun t h j => acc_BC m c t h j) t hr j, zero_add]

end Cert.Kernel9Ideal.Ffn

end
-- ==== Proof.FfnEnd9.lean ====
/- The feed-forward call: the padded lanes leave the sums, and the three arrays after the last point are the reference's. -/
module

public import proofs.«01_k».proof.Proof.FfnSum9

@[expose] public section

set_option maxRecDepth 16384

noncomputable section

namespace Cert.Kernel9Ideal.Ffn

open Cert.Kernel9Ideal Cert.Kernel9Ideal.Gen Cert.Dense Idealize.ShloMosaic Idealize.ShloMosaic.TcCoe Idealize.SL.Sem
open Idealize.ShloMosaic.Pipeline (Dat)
open Cert.Reference9Ideal.Term (REF0 REF1 REF2 href0 href1 href2)

variable (m : (ℓ : Loc nD τ sig) → Buf (Elt Ideal) ℓ)

/-- A slot's column of the first or the second product: nothing on the columns of padding. -/
theorem lane (c : Dev nD) (r : Fin 8448) (s : Fin 8) (q : Fin 768) : ∑ k : Fin 1024, hrow m c r k * (show FVec Ideal S8x1024x768 .bf16 from V m c main_v6) (ix3 s k q)
    = if h : q.val % 384 < 344 then ∑ k : Fin 1024, hrow m c r k * (show FVec Ideal S1024x5504 .f32 from m ((c : Thread nD τ).loc main_arg3)) (ix2 k ⟨s.val * 688 + (q.val / 384 * 344 + q.val % 384), by omega⟩) else 0 := by
  have hq := q.isLt
  by_cases h : q.val % 384 < 344
  · rw [dif_pos h]
    refine Finset.sum_congr rfl fun k _ => Ideal.mul_congr rfl ?_
    refine Eq.trans (congrArg (fun l => (show FVec Ideal S8x1024x768 .bf16 from V m c main_v6) (ix3 s k l)) (Fin.ext ?_)) (w13_real m c s k ⟨q.val / 384, by omega⟩ ⟨q.val % 384, h⟩)
    show q.val = q.val / 384 * 384 + q.val % 384
    omega
  · rw [dif_neg h]
    refine Finset.sum_eq_zero fun k _ => ?_
    refine Eq.trans (congrArg (fun l => hrow m c r k * (show FVec Ideal S8x1024x768 .bf16 from V m c main_v6) (ix3 s k l)) (Fin.ext ?_)) ((congrArg (hrow m c r k * ·) (w13_pad m c s k ⟨q.val / 384, by omega⟩ ⟨q.val % 384 - 344, by omega⟩)).trans (mul_zero _))
    show q.val = q.val / 384 * 384 + (344 + (q.val % 384 - 344))
    omega

/-- One hidden column's part of the second product, the columns of padding among them. -/
def col (c : Dev nD) (r : Fin 8448) (j : Fin 1024) (n : Fin 3072) : EReal :=
  swv (hrow m c r) (fun k => (show FVec Ideal S8x1024x768 .bf16 from V m c main_v6) (ix3 ⟨n.val / 768, by omega⟩ k ⟨n.val % 768, by omega⟩))
    (fun k => (show FVec Ideal S8x1024x768 .bf16 from V m c main_v6) (ix3 ⟨4 + n.val / 768, by omega⟩ k ⟨n.val % 768, by omega⟩))
    * (show FVec Ideal S4x768x1024 .bf16 from V m c main_v12) (ix3 ⟨n.val / 768, by omega⟩ ⟨n.val % 768, by omega⟩ j)

/-- The four slots' parts are the hidden columns that are not padding. -/
theorem cols (c : Dev nD) (r : Fin 8448) (j : Fin 1024) : ∑ n : Fin 3072, col m c r j n
    = ∑ l : Fin 2752, swv (hrow m c r) (fun k => (show FVec Ideal S1024x5504 .f32 from m ((c : Thread nD τ).loc main_arg3)) (ix2 k ⟨l.val, by omega⟩)) (fun k => (show FVec Ideal S1024x5504 .f32 from m ((c : Thread nD τ).loc main_arg3)) (ix2 k ⟨2752 + l.val, by omega⟩))
      * (show FVec Ideal S2752x1024 .f32 from m ((c : Thread nD τ).loc main_arg4)) (ix2 l j) := by
  refine sum_pad _ _ (fun p o => ?_) (fun p o => ?_)
  · have hp := p.isLt
    have ho := o.isLt
    refine Ideal.mul_congr (swv_congr (fun _ => rfl) (fun k => ?_) (fun k => ?_)) ?_
    · refine (congrArg₂ (fun s q => (show FVec Ideal S8x1024x768 .bf16 from V m c main_v6) (ix3 s k q)) (Fin.ext ?_) (Fin.ext ?_)).trans ((w13_real m c ⟨p.val / 2, by omega⟩ k ⟨p.val % 2, by omega⟩ o).trans (congrArg (fun l => (show FVec Ideal S1024x5504 .f32 from m ((c : Thread nD τ).loc main_arg3)) (ix2 k l)) (Fin.ext ?_)))
      · show (p.val * 384 + o.val) / 768 = p.val / 2; omega
      · show (p.val * 384 + o.val) % 768 = p.val % 2 * 384 + o.val; omega
      · show p.val / 2 * 688 + (p.val % 2 * 344 + o.val) = p.val * 344 + o.val; omega
    · refine (congrArg₂ (fun s q => (show FVec Ideal S8x1024x768 .bf16 from V m c main_v6) (ix3 s k q)) (Fin.ext ?_) (Fin.ext ?_)).trans ((w13_real m c ⟨4 + p.val / 2, by omega⟩ k ⟨p.val % 2, by omega⟩ o).trans (congrArg (fun l => (show FVec Ideal S1024x5504 .f32 from m ((c : Thread nD τ).loc main_arg3)) (ix2 k l)) (Fin.ext ?_)))
      · show 4 + (p.val * 384 + o.val) / 768 = 4 + p.val / 2; omega
      · show (p.val * 384 + o.val) % 768 = p.val % 2 * 384 + o.val; omega
      · show (4 + p.val / 2) * 688 + (p.val % 2 * 344 + o.val) = 2752 + (p.val * 344 + o.val); omega
    · refine (congrArg₂ (fun s q => (show FVec Ideal S4x768x1024 .bf16 from V m c main_v12) (ix3 s q j)) (Fin.ext ?_) (Fin.ext ?_)).trans ((w2_real m c ⟨p.val / 2, by omega⟩ ⟨p.val % 2, by omega⟩ o j).trans (congrArg (fun l => (show FVec Ideal S2752x1024 .f32 from m ((c : Thread nD τ).loc main_arg4)) (ix2 l j)) (Fin.ext ?_)))
      · show (p.val * 384 + o.val) / 768 = p.val / 2; omega
      · show (p.val * 384 + o.val) % 768 = p.val % 2 * 384 + o.val; omega
      · show (p.val / 2 * 2 + p.val % 2) * 344 + o.val = p.val * 344 + o.val; omega
  · have hp := p.isLt
    have ho := o.isLt
    refine (congrArg (swv _ _ _ * ·) ?_).trans (mul_zero _)
    refine (congrArg₂ (fun s q => (show FVec Ideal S4x768x1024 .bf16 from V m c main_v12) (ix3 s q j)) (Fin.ext ?_) (Fin.ext ?_)).trans (w2_pad m c ⟨p.val / 2, by omega⟩ ⟨p.val % 2, by omega⟩ o j)
    · show (p.val * 384 + (344 + o.val)) / 768 = p.val / 2; omega
    · show (p.val * 384 + (344 + o.val)) % 768 = p.val % 2 * 384 + (344 + o.val); omega

/-- A block's four slots together. -/
theorem parts (c : Dev nD) (t : Fin cfg0.N) (hr : t.val % 4 = 3) (j : S768x1024.Idx) :
    ∑ s : Fin 4, part m c (4 * (t.val / 4) + s.val) (Pipeline.run_point_lt_of_flush t hr s) j = ∑ n : Fin 3072, col m c (row t.val t.isLt (j 0)) (j 1) n := by
  rw [Fin.sum_univ_tiles 4 768 rfl (col m c (row t.val t.isLt (j 0)) (j 1))]
  refine Finset.sum_congr rfl fun s _ => Finset.sum_congr rfl fun q _ => ?_
  have hs := s.isLt
  have hq := q.isLt
  have er : row (4 * (t.val / 4) + s.val) (Pipeline.run_point_lt_of_flush t hr s) (j 0) = row t.val t.isLt (j 0) := Fin.ext (by
    show (4 * (t.val / 4) + s.val) / 4 * 768 + _ = t.val / 4 * 768 + _
    rw [show (4 * (t.val / 4) + s.val) / 4 = t.val / 4 by omega])
  refine Ideal.mul_congr (swv_congr (fun k => congrArg (fun r => hrow m c r k) er) (fun k => ?_) (fun k => ?_)) ?_
  · refine congrArg₂ (fun s q => (show FVec Ideal S8x1024x768 .bf16 from V m c main_v6) (ix3 s k q)) (Fin.ext ?_) (Fin.ext ?_)
    · show (4 * (t.val / 4) + s.val) % 4 = (s.val * 768 + q.val) / 768; omega
    · show q.val = (s.val * 768 + q.val) % 768; omega
  · refine congrArg₂ (fun s q => (show FVec Ideal S8x1024x768 .bf16 from V m c main_v6) (ix3 s k q)) (Fin.ext ?_) (Fin.ext ?_)
    · show 4 + (4 * (t.val / 4) + s.val) % 4 = 4 + (s.val * 768 + q.val) / 768; omega
    · show q.val = (s.val * 768 + q.val) % 768; omega
  · refine congrArg₂ (fun s q => (show FVec Ideal S4x768x1024 .bf16 from V m c main_v12) (ix3 s q (j 1))) (Fin.ext ?_) (Fin.ext ?_)
    · show (4 * (t.val / 4) + s.val) % 4 = (s.val * 768 + q.val) / 768; omega
    · show q.val = (s.val * 768 + q.val) % 768; omega

/-- The residual after the last point. -/
theorem final0 (c : Dev nD) : (dats m 0 c).arrAt 6 (cfgs 0).N = REF0 (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 6 _ (by decide +kernel) fun t hf y => ?_
  blk_simp
  have hr := (flush0_6 t).mp hf
  rw [after0_6, out_eq m c t hr, hpay2, acc_eq m c t hr, (parts m c t hr y).trans (cols m c (row t.val t.isLt (y 0)) (y 1)), href0]
  have e0 : ((win0_6.blk t).view.emb y) 0 = row t.val t.isLt (y 0) := Fin.ext (by blk_simp [idx t, row])
  have e1 : ((win0_6.blk t).view.emb y) 1 = y 1 := Fin.ext (by blk_simp [idx t])
  refine Ideal.add_congr (Ideal.mul_congr rfl (lnv_congr (fun l => ?_) (fun l => b1_at m c t l) (fun l => b2_at m c t l) e1.symm)) (Ideal.mul_congr rfl (Finset.sum_congr rfl fun l _ => ?_))
  · exact (b0_at m c t (y 0) l).trans (congrArg (fun r => (show FVec Ideal S8448x1024 .f32 from m ((c : Thread nD τ).loc main_arg0)) (ix2 r l)) e0.symm)
  · exact Ideal.mul_congr (swv_congr (fun k => congrArg (fun r => hrow m c r k) e0.symm) (fun _ => rfl) (fun _ => rfl)) (congrArg (fun q => (show FVec Ideal S2752x1024 .f32 from m ((c : Thread nD τ).loc main_arg4)) (ix2 l q)) e1.symm)

/-- A column of the first products, and the lane of the reference that it is. -/
theorem lane_REF1 (c : Dev nD) (r : Fin 8448) (s : Fin 4) (q : Fin 768) (j : Cert.Reference9Ideal.S8448x3072.Idx) (e0 : j 0 = r) (e1 : (j 1 : ℕ) = s.val * 768 + q.val) :
    ∑ k : Fin 1024, hrow m c r k * (show FVec Ideal S8x1024x768 .bf16 from V m c main_v6) (ix3 ⟨s.val, by omega⟩ k q) = REF1 (m ((c : Thread nD τ).loc main_arg0)) (m ((c : Thread nD τ).loc main_arg1)) (m ((c : Thread nD τ).loc main_arg2)) (m ((c : Thread nD τ).loc main_arg3)) (m ((c : Thread nD τ).loc main_arg4)) j := by
  rw [lane m c r, href1]
  have hq := q.isLt
  have hs := s.isLt
  by_cases h : q.val % 384 < 344
  · have h' : (j 1 : ℕ) % 384 < 344 := by rw [e1]; omega
    rw [dif_pos h, dif_pos h']
    refine Finset.sum_congr rfl fun k _ => Ideal.mul_congr (congrArg (fun r => hrow m c r k) e0.symm) (congrArg (fun l => (show FVec Ideal S1024x5504 .f32 from m ((c : Thread nD τ).loc main_arg3)) (ix2 k l)) (Fin.ext ?_))
    show (s.val) * 688 + (q.val / 384 * 344 + q.val % 384) = ((j 1 : ℕ) / 384 * 344 + (j 1 : ℕ) % 384)
    rw [e1]
    omega
  · have h' : ¬ (j 1 : ℕ) % 384 < 344 := by rw [e1]; omega
    rw [dif_neg h, dif_neg h']

/-- A column of the second products, and the lane of the reference that it is. -/
theorem lane_REF2 (c : Dev nD) (r : Fin 8448) (s : Fin 4) (q : Fin 768) (j : Cert.Reference9Ideal.S8448x3072.Idx) (e0 : j 0 = r) (e1 : (j 1 : ℕ) = s.val * 768 + q.val) :
    ∑ k : Fin 1024, hrow m c r k * (show FVec Ideal S8x1024x768 .bf16 from V m c main_v6) (ix3 ⟨4 + s.val, by omega⟩ k q) = REF2 (m ((c : Thread nD τ).loc main_arg0)) (m ((c : Thread nD τ).loc main_arg1)) (m ((c : Thread nD τ).loc main_arg2)) (m ((c : Thread nD τ).loc main_arg3)) (m ((c : Thread nD τ).loc main_arg4)) j := by
  rw [lane m c r, href2]
  have hq := q.isLt
  have hs := s.isLt
  by_cases h : q.val % 384 < 344
  · have h' : (j 1 : ℕ) % 384 < 344 := by rw [e1]; omega
    rw [dif_pos h, dif_pos h']
    refine Finset.sum_congr rfl fun k _ => Ideal.mul_congr (congrArg (fun r => hrow m c r k) e0.symm) (congrArg (fun l => (show FVec Ideal S1024x5504 .f32 from m ((c : Thread nD τ).loc main_arg3)) (ix2 k l)) (Fin.ext ?_))
    show (4 + s.val) * 688 + (q.val / 384 * 344 + q.val % 384) = 2752 + ((j 1 : ℕ) / 384 * 344 + (j 1 : ℕ) % 384)
    rw [e1]
    omega
  · have h' : ¬ (j 1 : ℕ) % 384 < 344 := by rw [e1]; omega
    rw [dif_neg h, dif_neg h']

/-- The first products after the last point. -/
theorem final1 (c : Dev nD) : (dats m 0 c).arrAt 7 (cfgs 0).N = REF1 (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 7 _ (by decide +kernel) fun t hf y => ?_
  blk_simp
  rw [after0_7, a_at]
  exact lane_REF1 m c _ ⟨t.val % 4, by omega⟩ (y 1) _ (Fin.ext (by blk_simp [idx t, row])) (by blk_simp [idx t])

/-- The second products after the last point. -/
theorem final2 (c : Dev nD) : (dats m 0 c).arrAt 8 (cfgs 0).N = REF2 (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 8 _ (by decide +kernel) fun t hf y => ?_
  blk_simp
  rw [after0_8, u_at]
  exact lane_REF2 m c _ ⟨t.val % 4, by omega⟩ (y 1) _ (Fin.ext (by blk_simp [idx t, row])) (by blk_simp [idx t])

end Cert.Kernel9Ideal.Ffn

end
-- ==== Proof.Ln10.lean ====
/- The backward of the layer normalisation in front of the mixers, over the real numbers: rows of 1024 channels. -/
module

public import proofs.«01_k».proof.Proof.Real

@[expose] public section

noncomputable section

namespace Cert.Spec10

open Idealize.ShloMosaic Cert.Calc Finset

theorem bits_1024 : Ideal.ofBits .f32 0x44800000#32 = ((1024 : ℝ) : EReal) := by
  rw [bits_normal _ false 137 0 (by decide) (by decide) (by decide) (by decide) (by decide)]
  norm_num

/-- The factor of the residual, the square root of two as the program rounds it. -/
def al : ℝ := (8388608 + 3474675 : ℕ) * (2 : ℝ) ^ ((127 : ℤ) - 127 - 23)

theorem bits_al : Ideal.ofBits .f32 0x3FB504F3#32 = (al : EReal) := by
  rw [bits_normal _ false 127 3474675 (by decide) (by decide) (by decide) (by decide) (by decide)]
  unfold al
  norm_num

/-! ## Layer normalisation of a row -/

/-- The mean of a row. -/
def mean (y : ℕ → ℝ) : ℝ := (∑ j ∈ range 1024, y j) / 1024
/-- The row less its mean. -/
def xc (y : ℕ → ℝ) (j : ℕ) : ℝ := y j - mean y
/-- The variance of a row, the small number added. -/
def vr (y : ℕ → ℝ) : ℝ := (∑ j ∈ range 1024, xc y j * xc y j) / 1024 + eps
/-- One over the deviation. -/
def rs (y : ℕ → ℝ) : ℝ := (Real.sqrt (vr y))⁻¹
/-- The normalised row. -/
def xh (y : ℕ → ℝ) (j : ℕ) : ℝ := xc y j * rs y
/-- The gradient at a row from the gradient `h` at its normalised row. -/
def lnb (y h : ℕ → ℝ) (j : ℕ) : ℝ := rs y * (h j - mean h - xh y j * mean fun j => h j * xh y j)

theorem vr_pos (y : ℕ → ℝ) : 0 < vr y := by
  have := eps_pos
  have : 0 ≤ ∑ j ∈ range 1024, xc y j * xc y j := Finset.sum_nonneg fun j _ => mul_self_nonneg _
  unfold vr
  positivity

theorem rs_sq (y : ℕ → ℝ) : rs y * rs y = (vr y)⁻¹ := by
  unfold rs
  rw [← mul_inv, Real.mul_self_sqrt (vr_pos y).le]

theorem sum_xc (y : ℕ → ℝ) : ∑ j ∈ range 1024, xc y j = 0 := by
  unfold xc mean
  rw [Finset.sum_sub_distrib, Finset.sum_const, Finset.card_range, nsmul_eq_mul]
  push_cast
  ring

/-- The factor of the gradient through the variance, as reverse differentiation takes it. -/
def qv (y h : ℕ → ℝ) : ℝ := (∑ j ∈ range 1024, xc y j * h j) * (-1 / 2 * (rs y / vr y)) / 1024

/-- The gradient as reverse differentiation takes it, summand by summand. -/
theorem lnb_eq (y h : ℕ → ℝ) (j : ℕ) :
    h j * rs y + qv y h * (2 * xc y j)
      + ((∑ j ∈ range 1024, -(h j * rs y)) + ∑ j ∈ range 1024, -(qv y h * (2 * xc y j))) / 1024 = lnb y h j := by
  have e1 : ∑ j ∈ range 1024, -(h j * rs y) = -((∑ j ∈ range 1024, h j) * rs y) := by
    rw [Finset.sum_neg_distrib, Finset.sum_mul]
  have e2 : ∑ j ∈ range 1024, -(qv y h * (2 * xc y j)) = 0 := by
    have : ∀ j, -(qv y h * (2 * xc y j)) = (-2 * qv y h) * xc y j := fun j => by ring
    simp only [this]
    rw [← Finset.mul_sum, sum_xc, mul_zero]
  have e3 : ∑ j ∈ range 1024, h j * xh y j = (∑ j ∈ range 1024, xc y j * h j) * rs y := by
    rw [Finset.sum_mul]
    exact Finset.sum_congr rfl fun j _ => by unfold xh; ring
  rw [e1, e2]
  unfold lnb mean
  rw [e3]
  unfold qv xh
  rw [div_eq_mul_inv (rs y) (vr y), ← rs_sq]
  ring

/-! ## The results -/

section Res
variable (dr r dz : ℕ → ℕ → ℝ) (g b : ℕ → ℝ) (w : ℕ → ℕ → ℝ)

/-- The gradient at the normalised row under its scale and shift. -/
def dh (i j : ℕ) : ℝ := al * dr i j + ∑ k ∈ range 2816, dz i k * w j k
/-- The gradient at the normalised row. -/
def dg (i j : ℕ) : ℝ := dh dr dz w i j * g j
def o0 (i j : ℕ) : ℝ := lnb (r i) (dg dr dz g w i) j
def o1 (i j : ℕ) : ℝ := xh (r i) j * g j + b j
def o2 (j : ℕ) : ℝ := ∑ i ∈ range 8448, dh dr dz w i j * xh (r i) j
def o3 (j : ℕ) : ℝ := ∑ i ∈ range 8448, dh dr dz w i j

end Res

end Cert.Spec10
-- ==== Proof.Pay10.lean ====
/- What the stored values of the body are, as numbers, from the numbers of what they are made of. -/
module

public import proofs.«01_k».proof.Proof.Ln10
public import proofs.«01_k».proof.Proof.Gen.Kernel10Ideal.Skeleton

@[expose] public section

set_option maxRecDepth 16384

noncomputable section

namespace Cert.Kernel10Ideal.Gen

open Idealize.ShloMosaic Cert.Calc Cert.Spec10 Finset

/-- A row sum over 1024. -/
theorem mean_of {x : FVec Ideal S384x1024 .f32} {f : ℕ → ℕ → ℝ} (h : M2 x f) : M2 (divf (F := Ideal) (φ := .f32)
    (shapeCast S384x1 (multiReduction (F := Ideal) .add [1] S384 x 0x00000000#32 reduces_S384x1024_S384 (.inl rfl) rfl) shapeCasts_S384_S384x1)
    (broadcast S384x1 (Scalar.ofBits (F := Ideal) .f32 0x44800000#32))) (fun i _ => mean (f i)) :=
  M2.congr (M2.divf (φ := .f32) (M1.toCol (M2.sum1 (φ := .f32) h _ _ _) _) (M2.bcst bits_1024) (fun _ _ => by norm_num)) fun _ _ _ _ => rfl

/-- A column sum. -/
theorem colsum_of {x : FVec Ideal S384x1024 .f32} {f : ℕ → ℕ → ℝ} (h : M2 x f) : M2 (
    shapeCast S1x1024 (multiReduction (F := Ideal) .add [0] S1024 x 0x00000000#32 reduces_S384x1024_S1024 (.inl rfl) rfl) shapeCasts_S1024_S1x1024)
    (fun _ j => ∑ i ∈ range 384, f i j) :=
  M1.toRow (M2.sum0 (φ := .f32) h _ _ _) _

theorem over {x : FVec Ideal S384x1 .f32} {f : ℕ → ℝ} (h : M2 x fun i _ => f i) : M2 (broadcastTo S384x1024 x broadcasts_S384x1_S384x1024) (fun i _ => f i) :=
  M2.bacross h _ (by decide)

theorem under {x : FVec Ideal S1x1024 .f32} {f : ℕ → ℝ} (h : M2 x fun _ j => f j) : M2 (broadcastTo S384x1024 (shapeCast S1x1024 x shapeCasts_S1x1024_S1x1024) broadcasts_S1x1024_S384x1024) (fun _ j => f j) :=
  M2.bdown (M2.cast h _) _ (by decide)

variable {f d : ℕ → ℕ → ℝ} {g b a : ℕ → ℝ}

theorem p6 {v7 : Vec Ideal S384x2816 .bf16} {v8 : Vec Ideal S1024x2816 .bf16} {z w : ℕ → ℕ → ℝ} (h7 : M2 v7 z) (h8 : M2 v8 w) :
    M2 (k0_pay6 (F := Ideal) v7 v8) (fun i j => ∑ k ∈ range 2816, z i k * w j k) :=
  M2.body (M2.dotNT (φ := .bf16) (ψ := .bf16) h7 (M2.cast h8 _) _ rfl (fun _ _ => ⟨rfl, rfl⟩) (fun _ _ => ⟨rfl, rfl⟩))

theorem p7 {v : Vec Ideal S1x1024 .f32} (h : M2 v f) : M2 (k0_pay7 (F := Ideal) v) f := M2.cast h _
theorem p8 {v : Vec Ideal S1x1024 .f32} (h : M2 v f) : M2 (k0_pay8 (F := Ideal) v) f := M2.cast h _
theorem p4 : M2 (k0_pay4 (F := Ideal)) (fun _ _ => 0) := M2.bcst bits_zero
theorem p5 : M2 (k0_pay5 (F := Ideal)) (fun _ _ => 0) := M2.bcst bits_zero

theorem p19 {v10 : FVec Ideal S384x1024 .f32} {v74 : Vec Ideal S384x1024 .f32} (h10 : M2 v10 d) (h74 : M2 v74 f) :
    M2 (k0_pay19 (F := Ideal) v10 v74) (fun i j => al * f i j + d i j) :=
  M2.addf (φ := .f32) (M2.mulf (φ := .f32) (M2.bcst bits_al) h74) h10

theorem p9 {v7 : Vec Ideal S384x2816 .bf16} {v8 : Vec Ideal S1024x2816 .bf16} {v15 : Vec Ideal S384x1024 .f32} {z w : ℕ → ℕ → ℝ}
    (h7 : M2 v7 z) (h8 : M2 v8 w) (h15 : M2 v15 f) :
    M2 (k0_pay9 (F := Ideal) v7 v8 v15) (fun i j => al * f i j + ∑ k ∈ range 2816, z i k * w j k) := p19 (p6 h7 h8) h15

theorem p10 {v : Vec Ideal S384x1024 .f32} (h : M2 v f) : M2 (k0_pay10 (F := Ideal) v) (fun i j => xc (f i) j) :=
  M2.subf (φ := .f32) h (over (mean_of h))

theorem p11 {v : Vec Ideal S384x1024 .f32} (h : M2 v f) : M2 (k0_pay11 (F := Ideal) v) (fun i _ => mean fun j => xc (f i) j * xc (f i) j) :=
  mean_of (M2.mulf (φ := .f32) (p10 h) (p10 h))

theorem p12 : M2 (k0_pay12 (F := Ideal)) (fun _ _ => eps) := M2.bcst bits_eps

theorem p13 {v30 v31 : FVec Ideal S384x1 .f32} (h : M2 v30 fun i _ => mean fun j => xc (f i) j * xc (f i) j) (h' : M2 v31 fun _ _ => eps) :
    M2 (k0_pay13 (F := Ideal) v30 v31) (fun i _ => rs (f i)) :=
  M2.rsqrt (φ := .f32) (f := fun i _ => vr (f i)) (M2.addf (φ := .f32) h h') fun i _ => vr_pos (f i)

section First
variable {v25 : FVec Ideal S384x1024 .f32} {v30 v31 : FVec Ideal S384x1 .f32} (h25 : M2 v25 fun i j => xc (f i) j)
  (h30 : M2 v30 fun i _ => mean fun j => xc (f i) j * xc (f i) j) (h31 : M2 v31 fun _ _ => eps)
include h25 h30 h31

theorem p14 : M2 (k0_pay14 (F := Ideal) v25 v30 v31) (fun i j => xh (f i) j) := M2.mulf (φ := .f32) h25 (over (p13 h30 h31))

theorem p15 {v36 v40 : Vec Ideal S1x1024 .f32} (hg : M2 v36 fun _ j => g j) (hb : M2 v40 fun _ j => b j) :
    M2 (k0_pay15 (F := Ideal) v25 v30 v31 v36 v40) (fun i j => xh (f i) j * g j + b j) :=
  M2.truncf (φ := .f32) (M2.addf (φ := .f32) (M2.mulf (φ := .f32) (p14 h25 h30 h31) (under hg)) (under hb)) _

theorem p16 {v18 : FVec Ideal S384x1024 .f32} {v46 : Vec Ideal S1x1024 .f32} (hd : M2 v18 d) (hg : M2 v46 fun _ j => g j) :
    M2 (k0_pay16 (F := Ideal) v18 v25 v30 v31 v46) (fun i j => lnb (f i) (fun j => d i j * g j) j) := by
  have h49 := M2.mulf (φ := .f32) hd (under hg)
  exact M2.mulf (φ := .f32) (over (p13 h30 h31)) (M2.subf (φ := .f32) (M2.subf (φ := .f32) h49 (over (mean_of h49)))
    (M2.mulf (φ := .f32) (p14 h25 h30 h31) (over (mean_of (M2.mulf (φ := .f32) h49 (p14 h25 h30 h31))))))

theorem p17 {v12 : FVec Ideal S1x1024 .f32} {v18 : FVec Ideal S384x1024 .f32} (h : M2 v12 fun _ j => a j) (hd : M2 v18 d) :
    M2 (k0_pay17 (F := Ideal) v12 v18 v25 v30 v31) (fun _ j => a j + ∑ i ∈ range 384, d i j * xh (f i) j) :=
  M2.addf (φ := .f32) h (colsum_of (M2.mulf (φ := .f32) hd (p14 h25 h30 h31)))

end First

theorem p18 {v14 : FVec Ideal S1x1024 .f32} {v18 : FVec Ideal S384x1024 .f32} (h : M2 v14 fun _ j => a j) (hd : M2 v18 d) :
    M2 (k0_pay18 (F := Ideal) v14 v18) (fun _ j => a j + ∑ i ∈ range 384, d i j) := M2.addf (φ := .f32) h (colsum_of hd)

theorem p20 {v : Vec Ideal S384x1024 .f32} (h : M2 v f) : M2 (k0_pay20 (F := Ideal) v) (fun i j => xc (f i) j) := p10 h

theorem p21 {v : Vec Ideal S384x1024 .f32} (h : M2 v f) : M2 (k0_pay21 (F := Ideal) v) (fun i _ => rs (f i)) := p13 (p11 h) p12

theorem p22 {v : Vec Ideal S384x1024 .f32} (h : M2 v f) : M2 (k0_pay22 (F := Ideal) v) (fun i j => xh (f i) j) := M2.mulf (φ := .f32) (p20 h) (over (p21 h))

theorem p23 {v : Vec Ideal S384x1024 .f32} {v36 v40 : Vec Ideal S1x1024 .f32} (h : M2 v f) (hg : M2 v36 fun _ j => g j) (hb : M2 v40 fun _ j => b j) :
    M2 (k0_pay23 (F := Ideal) v v36 v40) (fun i j => xh (f i) j * g j + b j) :=
  M2.truncf (φ := .f32) (M2.addf (φ := .f32) (M2.mulf (φ := .f32) (p22 h) (under hg)) (under hb)) _

theorem p24 {v10 : FVec Ideal S384x1024 .f32} {v74 : Vec Ideal S384x1024 .f32} {v : Vec Ideal S1x1024 .f32}
    (h : M2 (k0_pay19 (F := Ideal) v10 v74) d) (hg : M2 v fun _ j => g j) : M2 (k0_pay24 (F := Ideal) v10 v74 v) (fun i j => d i j * g j) :=
  M2.mulf (φ := .f32) h (under hg)

theorem p25 {v10 : FVec Ideal S384x1024 .f32} {v74 : Vec Ideal S384x1024 .f32} {v : Vec Ideal S1x1024 .f32}
    (h : M2 (k0_pay19 (F := Ideal) v10 v74) d) (hg : M2 v fun _ j => g j) : M2 (k0_pay25 (F := Ideal) v10 v74 v) (fun i _ => mean fun j => d i j * g j) :=
  mean_of (p24 h hg)

theorem p1 {v92 v112 : FVec Ideal S384x1 .f32} {v94 v108 : FVec Ideal S384x1024 .f32} {k : ℕ → ℕ → ℝ} (h92 : M2 v92 fun i _ => rs (f i))
    (h94 : M2 v94 fun i j => xh (f i) j) (h108 : M2 v108 k) (h112 : M2 v112 fun i _ => mean (k i)) :
    M2 (k0_pay1 (F := Ideal) v92 v94 v108 v112) (fun i j => lnb (f i) (k i) j) :=
  M2.mulf (φ := .f32) (over h92) (M2.subf (φ := .f32) (M2.subf (φ := .f32) h108 (over h112))
    (M2.mulf (φ := .f32) h94 (over (mean_of (M2.mulf (φ := .f32) h108 h94)))))

theorem p2 {v70 : FVec Ideal S1x1024 .f32} {v77 v94 : FVec Ideal S384x1024 .f32} (h : M2 v70 fun _ j => a j) (hd : M2 v77 d) (hx : M2 v94 fun i j => xh (f i) j) :
    M2 (k0_pay2 (F := Ideal) v70 v77 v94) (fun _ j => a j + ∑ i ∈ range 384, d i j * xh (f i) j) :=
  M2.addf (φ := .f32) h (colsum_of (M2.mulf (φ := .f32) hd hx))

theorem p3 {v73 : FVec Ideal S1x1024 .f32} {v77 : FVec Ideal S384x1024 .f32} (h : M2 v73 fun _ j => a j) (hd : M2 v77 d) :
    M2 (k0_pay3 (F := Ideal) v73 v77) (fun _ j => a j + ∑ i ∈ range 384, d i j) := M2.addf (φ := .f32) h (colsum_of hd)

end Cert.Kernel10Ideal.Gen
-- ==== Proof.Ref10.lean ====
/- The reference's four results of the call in front of the mixers, one operation at a time, as the numbers of the gradient they are. -/
module

public import proofs.«01_k».proof.Proof.Ln10
public import proofs.«01_k».proof.Proof.Gen.Reference10Ideal.Run

@[expose] public section

set_option maxRecDepth 16384

noncomputable section

namespace Cert.Reference10Ideal.Term

open Cert.Reference10Ideal Cert.Reference10Ideal.Gen Idealize.ShloMosaic Idealize.ShloMosaic.TcCoe Idealize.SL.Sem Cert.Calc Cert.Spec10 Finset

/-- The six arguments. -/
structure In where
  a0 : FVec Ideal S8448x1024 .f32
  a1 : FVec Ideal S8448x1024 .f32
  a2 : FVec Ideal S8448x2816 .bf16
  a3 : FVec Ideal S1024 .f32
  a4 : FVec Ideal S1024 .f32
  a5 : FVec Ideal S1024x2816 .f32

/-- The arguments' numbers. -/
structure Nums where
  dr : ℕ → ℕ → ℝ
  r : ℕ → ℕ → ℝ
  dz : ℕ → ℕ → ℝ
  g : ℕ → ℝ
  b : ℕ → ℝ
  w : ℕ → ℕ → ℝ

structure Holds (A : Nums) (X : In) : Prop where
  h0 : M2 X.a0 A.dr
  h1 : M2 X.a1 A.r
  h2 : M2 X.a2 A.dz
  h3 : M1 X.a3 A.g
  h4 : M1 X.a4 A.b
  h5 : M2 X.a5 A.w

def cst (b : BitVec 32) : FVec Ideal S_ .f32 := constant S_ .f32 b
def one (x : FVec Ideal S8448x1024 .f32) : FVec Ideal S8448 .f32 := Host.reduceAdd x (cst 0x00000000#32) reducesTo_S8448x1024_S8448_d1 h_S_
def unit (x : FVec Ideal S8448x1 .f32) : FVec Ideal S8448x1024 .f32 :=
  broadcastInDim S8448x1024 ![0] bcast_S8448_S8448x1024_0 (Host.reduceAdd x (cst 0x00000000#32) reducesTo_S8448x1_S8448_d1 h_S_)
def sum0 (x : FVec Ideal S8448x1024 .f32) : FVec Ideal S1x1024 .f32 :=
  shapeCast S1x1024 (Host.reduceAdd x (cst 0x00000000#32) reducesTo_S8448x1024_S1024_d0 h_S_) shapeCasts_S1024_S1x1024
def sum00 (x : FVec Ideal S8448x1024 .f32) : FVec Ideal S1x1024 .f32 :=
  shapeCast S1x1024 (Host.reduceAdd (sum0 x) (cst 0x00000000#32) reducesTo_S1x1024_S1024_d0 h_S_) shapeCasts_S1024_S1x1024
def colw (x : FVec Ideal S8448 .f32) : FVec Ideal S8448x1 .f32 := broadcastInDim S8448x1 ![0] bcast_S8448_S8448x1_0 x
def colc (x : FVec Ideal S8448 .f32) : FVec Ideal S8448x1 .f32 := shapeCast S8448x1 x shapeCasts_S8448_S8448x1
def sp1 (b : BitVec 32) : FVec Ideal S8448x1 .f32 := broadcastInDim S8448x1 ![] bcast_S_S8448x1 (cst b)
def sp (b : BitVec 32) : FVec Ideal S8448x1024 .f32 := broadcastInDim S8448x1024 ![] bcast_S_S8448x1024 (cst b)
def over (x : FVec Ideal S8448x1 .f32) : FVec Ideal S8448x1024 .f32 := broadcastInDim S8448x1024 ![0, 1] bcast_S8448x1_S8448x1024_0_1 x
def under (x : FVec Ideal S1024 .f32) : FVec Ideal S8448x1024 .f32 :=
  broadcastInDim S8448x1024 ![0, 1] bcast_S1x1024_S8448x1024_0_1 (broadcastInDim S1x1024 ![1] bcast_S1024_S1x1024_1 x)

variable (X : In)

def t3 : FVec Ideal S8448x1 .f32 := Host.divf (colw (one X.a1)) (sp1 0x44800000#32)
def t5 : FVec Ideal S8448x1024 .f32 := subf X.a1 (over (t3 X))
def t8 : FVec Ideal S8448x1024 .f32 := mulf (sp 0x40000000#32) (t5 X)
def t16 : FVec Ideal S8448x1 .f32 := addf (Host.divf (colw (one (mulf (t5 X) (t5 X)))) (sp1 0x44800000#32)) (sp1 0x3727C5AC#32)
def t17 : FVec Ideal S8448x1 .f32 := Host.rsqrt (t16 X)
def t20 : FVec Ideal S8448x1 .f32 := mulf (sp1 0xBF000000#32) (Host.divf (t17 X) (t16 X))
def t22 : FVec Ideal S8448x1024 .f32 := mulf (t5 X) (over (t17 X))
def t36 : FVec Ideal S8448x1024 .f32 := addf (Host.dotGeneral dot_S8448x2816_S1024x2816_S8448x1024_1_1_0_0_n_n none (extf .f32 X.a2 bitsLt_bf16_f32) X.a5) (mulf (sp 0x3FB504F3#32) X.a0)
def t44 : FVec Ideal S8448x1024 .f32 := mulf (t36 X) (under X.a3)
def t50 : FVec Ideal S8448x1024 .f32 := mulf (t44 X) (over (t17 X))
def t56 : FVec Ideal S8448x1 .f32 := Host.divf (mulf (colc (one (mulf (t5 X) (t44 X)))) (t20 X)) (sp1 0x44800000#32)
def t59 : FVec Ideal S8448x1024 .f32 := mulf (unit (t56 X)) (t8 X)
def t66 : FVec Ideal S8448x1 .f32 := Host.divf (addf (colc (one (Host.negf (t50 X)))) (colc (one (Host.negf (t59 X))))) (sp1 0x44800000#32)
def R0 : FVec Ideal S8448x1024 .f32 := addf (addf (t50 X) (t59 X)) (unit (t66 X))
def R1 : FVec Ideal S8448x1024 .bf16 := truncf .bf16 (addf (mulf (t22 X) (under X.a3)) (under X.a4)) bitsLt_bf16_f32
def R2 : FVec Ideal S1x1024 .f32 := sum00 (mulf (t22 X) (t36 X))
def R3 : FVec Ideal S1x1024 .f32 := sum00 (t36 X)

theorem h_cst {b : BitVec 32} {r : ℝ} (h : Ideal.ofBits .f32 b = (r : EReal)) : M0 (cst b) r := M0.const h

section Parts
variable {f : ℕ → ℕ → ℝ}
theorem h_one {x : FVec Ideal S8448x1024 .f32} (h : M2 x f) : M1 (one x) (fun i => ∑ j ∈ range 1024, f i j) := M2.hsum1 (φ := .f32) h (h_cst bits_zero) _ (by decide) _
theorem h_unit {x : FVec Ideal S8448x1 .f32} (h : M2 x f) : M2 (unit x) (fun i _ => f i 0) :=
  M2.congr (M1.col (M2.hsum1 (φ := .f32) h (h_cst bits_zero) _ (by decide) _) _ (by decide)) fun i j _ _ => by simp
theorem h_sum0 {x : FVec Ideal S8448x1024 .f32} (h : M2 x f) : M2 (sum0 x) (fun _ j => ∑ i ∈ range 8448, f i j) := M1.toRow (M2.hsum0 (φ := .f32) h (h_cst bits_zero) _ (by decide) _) _
theorem h_sum00 {x : FVec Ideal S8448x1024 .f32} (h : M2 x f) : M2 (sum00 x) (fun _ j => ∑ i ∈ range 8448, f i j) :=
  M2.congr (M1.toRow (M2.hsum0 (φ := .f32) (h_sum0 h) (h_cst bits_zero) _ (by decide) _) _) fun i j _ _ => by simp
theorem h_colw {x : FVec Ideal S8448 .f32} {f : ℕ → ℝ} (h : M1 x f) : M2 (colw x) (fun i _ => f i) := M1.col h _ (by decide)
theorem h_colc {x : FVec Ideal S8448 .f32} {f : ℕ → ℝ} (h : M1 x f) : M2 (colc x) (fun i _ => f i) := M1.toCol h _
theorem h_sp1 {b : BitVec 32} {r : ℝ} (h : Ideal.ofBits .f32 b = (r : EReal)) : M2 (sp1 b) (fun _ _ => r) := M2.splat (h_cst h) _
theorem h_sp {b : BitVec 32} {r : ℝ} (h : Ideal.ofBits .f32 b = (r : EReal)) : M2 (sp b) (fun _ _ => r) := M2.splat (h_cst h) _
theorem h_over {x : FVec Ideal S8448x1 .f32} {f : ℕ → ℝ} (h : M2 x fun i _ => f i) : M2 (over x) (fun i _ => f i) := M2.across h _ (by decide)
theorem h_under {x : FVec Ideal S1024 .f32} {f : ℕ → ℝ} (h : M1 x f) : M2 (under x) (fun _ j => f j) := M2.down (M1.row h _ (by decide)) _ (by decide)
end Parts

variable {X} {A : Nums} (H : Holds A X)
include H

theorem s3 : M2 (t3 X) (fun i _ => mean (A.r i)) := M2.congr (M2.hdivf (φ := .f32) (h_colw (h_one H.h1)) (h_sp1 bits_1024) fun _ _ => by norm_num) fun _ _ _ _ => rfl
theorem s5 : M2 (t5 X) (fun i j => xc (A.r i) j) := M2.subf (φ := .f32) H.h1 (h_over (s3 H))
theorem s8 : M2 (t8 X) (fun i j => 2 * xc (A.r i) j) := M2.mulf (φ := .f32) (h_sp bits_two) (s5 H)
theorem s16 : M2 (t16 X) (fun i _ => vr (A.r i)) := M2.congr (M2.addf (φ := .f32) (M2.hdivf (φ := .f32) (h_colw (h_one (M2.mulf (φ := .f32) (s5 H) (s5 H)))) (h_sp1 bits_1024) fun _ _ => by norm_num) (h_sp1 bits_eps)) fun _ _ _ _ => rfl
theorem s17 : M2 (t17 X) (fun i _ => rs (A.r i)) := M2.hrsqrt (φ := .f32) (s16 H) fun _ _ => vr_pos _
theorem s20 : M2 (t20 X) (fun i _ => -1 / 2 * (rs (A.r i) / vr (A.r i))) := M2.mulf (φ := .f32) (h_sp1 bits_neg_half) (M2.hdivf (φ := .f32) (s17 H) (s16 H) fun _ _ => (vr_pos _).ne')
theorem s22 : M2 (t22 X) (fun i j => xh (A.r i) j) := M2.mulf (φ := .f32) (s5 H) (h_over (s17 H))
theorem s36 : M2 (t36 X) (fun i j => dh A.dr A.dz A.w i j) :=
  M2.congr (M2.addf (φ := .f32) (M2.host (M2.dotNT (φ := .f32) (ψ := .f32) (M2.extf (φ := .bf16) H.h2 _) H.h5 _ rfl (fun _ _ => ⟨rfl, rfl⟩) (fun _ _ => ⟨rfl, rfl⟩)))
    (M2.mulf (φ := .f32) (h_sp bits_al) H.h0)) fun i j _ _ => add_comm _ _
theorem s44 : M2 (t44 X) (fun i j => dg A.dr A.dz A.g A.w i j) := M2.mulf (φ := .f32) (s36 H) (h_under H.h3)
theorem s50 : M2 (t50 X) (fun i j => dg A.dr A.dz A.g A.w i j * rs (A.r i)) := M2.mulf (φ := .f32) (s44 H) (h_over (s17 H))
theorem s56 : M2 (t56 X) (fun i _ => qv (A.r i) (dg A.dr A.dz A.g A.w i)) :=
  M2.congr (M2.hdivf (φ := .f32) (M2.mulf (φ := .f32) (h_colc (h_one (M2.mulf (φ := .f32) (s5 H) (s44 H)))) (s20 H)) (h_sp1 bits_1024) fun _ _ => by norm_num) fun _ _ _ _ => rfl
theorem s59 : M2 (t59 X) (fun i j => qv (A.r i) (dg A.dr A.dz A.g A.w i) * (2 * xc (A.r i) j)) := M2.mulf (φ := .f32) (h_unit (s56 H)) (s8 H)
theorem s66 : M2 (t66 X) (fun i _ => ((∑ j ∈ range 1024, -(dg A.dr A.dz A.g A.w i j * rs (A.r i))) + ∑ j ∈ range 1024, -(qv (A.r i) (dg A.dr A.dz A.g A.w i) * (2 * xc (A.r i) j))) / 1024) :=
  M2.hdivf (φ := .f32) (M2.addf (φ := .f32) (h_colc (h_one (M2.hnegf (φ := .f32) (s50 H)))) (h_colc (h_one (M2.hnegf (φ := .f32) (s59 H))))) (h_sp1 bits_1024) fun _ _ => by norm_num
theorem sR0 : M2 (R0 X) (fun i j => o0 A.dr A.r A.dz A.g A.w i j) :=
  M2.congr (M2.addf (φ := .f32) (M2.addf (φ := .f32) (s50 H) (s59 H)) (h_unit (s66 H))) fun i j _ _ => lnb_eq (A.r i) (dg A.dr A.dz A.g A.w i) j
theorem sR1 : M2 (R1 X) (fun i j => o1 A.r A.g A.b i j) :=
  M2.truncf (φ := .f32) (M2.addf (φ := .f32) (M2.mulf (φ := .f32) (s22 H) (h_under H.h3)) (h_under H.h4)) _
theorem sR2 : M2 (R2 X) (fun _ j => o2 A.dr A.r A.dz A.w j) :=
  M2.congr (h_sum00 (M2.mulf (φ := .f32) (s22 H) (s36 H))) fun i j _ _ => Finset.sum_congr rfl fun _ _ => mul_comm _ _
theorem sR3 : M2 (R3 X) (fun _ j => o3 A.dr A.dz A.w j) := h_sum00 (s36 H)

omit H
variable (m : (ℓ : Loc nD τ sig) → Buf (Elt Ideal) ℓ)

/-- The arguments in memory. -/
def inp (c : Dev nD) : In := ⟨m ((c.tc : Thread nD τ).loc main_arg0), m ((c.tc : Thread nD τ).loc main_arg1), m ((c.tc : Thread nD τ).loc main_arg2),
  m ((c.tc : Thread nD τ).loc main_arg3), m ((c.tc : Thread nD τ).loc main_arg4), m ((c.tc : Thread nD τ).loc main_arg5)⟩

theorem run (ρ : Dev nD → PrngReg) :
    θ_run defs (onTc (τ := τ) (main (F := Ideal))) ⟨m, fun _ => 0, ρ⟩ fun r => ∀ c : Dev nD,
      r.2.mem ((c.tc : Thread nD τ).loc main_v69) = R0 (inp m c) ∧ r.2.mem ((c.tc : Thread nD τ).loc main_v94) = R1 (inp m c)
      ∧ r.2.mem ((c.tc : Thread nD τ).loc main_v95) = R2 (inp m c) ∧ r.2.mem ((c.tc : Thread nD τ).loc main_v96) = R3 (inp m c)
      ∧ r.2.mem ((c.tc : Thread nD τ).loc main_arg0) = m ((c.tc : Thread nD τ).loc main_arg0) ∧ r.2.mem ((c.tc : Thread nD τ).loc main_arg1) = m ((c.tc : Thread nD τ).loc main_arg1)
      ∧ r.2.mem ((c.tc : Thread nD τ).loc main_arg2) = m ((c.tc : Thread nD τ).loc main_arg2) ∧ r.2.mem ((c.tc : Thread nD τ).loc main_arg3) = m ((c.tc : Thread nD τ).loc main_arg3)
      ∧ r.2.mem ((c.tc : Thread nD τ).loc main_arg4) = m ((c.tc : Thread nD τ).loc main_arg4) ∧ r.2.mem ((c.tc : Thread nD τ).loc main_arg5) = m ((c.tc : Thread nD τ).loc main_arg5) :=
  (θ_run defs _ _).mono (fun _ h c => ⟨(h c).1.trans (by unfold Value.res_main_v69; rfl), (h c).2.1.trans (by rfl), (h c).2.2.1.trans (by rfl), (h c).2.2.2.1.trans (by rfl), (h c).2.2.2.2⟩)
    (Value.run m ρ)

end Cert.Reference10Ideal.Term
-- ==== Proof.In10.lean ====
/- The call in front of the mixers: the numbers of a point's blocks, what a point stores, the sums over the points, and the four arrays after the last one. -/
module

public import proofs.«01_k».proof.Proof.Gen.Kernel10Ideal.Value
public import proofs.«01_k».proof.Proof.Pay10
public import proofs.«01_k».proof.Proof.Ref10
public import Idealize.ShloMosaic.Lib.StableHlo.RunRead

@[expose] public section

set_option maxRecDepth 16384

noncomputable section

namespace Cert.Kernel10Ideal.Ln

open Cert.Kernel10Ideal Cert.Kernel10Ideal.Gen Idealize.ShloMosaic Idealize.ShloMosaic.StableHlo Idealize.ShloMosaic.TcCoe Idealize.SL.Sem
open Idealize.ShloMosaic.Pipeline (Dat)
open Cert.Calc Cert.Spec10 Finset
open Cert.Reference10Ideal.Term (In Nums Holds)

/-- A load of some of a block's rows. -/
theorem ld32 {n m n' : ℕ} {x : Vec Ideal (T2 n m) .f32} {f : ℕ → ℕ → ℝ} (h : M2 x f) (a : ℕ) (inb) :
    M2 (n := n') (m := m) (View.ld (Val := Elt Ideal) (e' := .f32) x (Rect.unit (s := T2 n m) ![a, 0] ![n', m] inb)) (fun i j => f (a + i) j) := fun i => by
  refine (h _).trans ?_
  congr 2
  · show a + 1 * (i 0).val = _; rw [one_mul]
  · show 0 + 1 * (i 1).val = _; rw [one_mul, zero_add]

theorem ld16 {n m n' : ℕ} {x : Vec Ideal (T2 n m) .bf16} {f : ℕ → ℕ → ℝ} (h : M2 x f) (a : ℕ) (inb) :
    M2 (n := n') (m := m) (View.ld (Val := Elt Ideal) (e' := .bf16) x (Rect.unit (s := T2 n m) ![a, 0] ![n', m] inb)) (fun i j => f (a + i) j) := fun i => by
  refine (h _).trans ?_
  congr 2
  · show a + 1 * (i 0).val = _; rw [one_mul]
  · show 0 + 1 * (i 1).val = _; rw [one_mul, zero_add]

/-- Every place of a block lies in one of the two parts. -/
theorem two {φ : EltTy} (inb inb') (p q : Vec Ideal S384x1024 φ) (y : S768x1024.Idx) :
    ∃ P ∈ ([⟨Rect.unit (s := S768x1024) ![384, 0] ![384, 1024] inb, p⟩, ⟨Rect.unit (s := S768x1024) ![0, 0] ![384, 1024] inb', q⟩] : List (View.Piece (Elt Ideal) S768x1024 φ)), y ∈ P.1.set := by
  have h0 : (y 0).val < 768 := (y 0).isLt
  have h1 : (y 1).val < 1024 := (y 1).isLt
  by_cases h : 384 ≤ (y 0).val
  · refine ⟨_, List.mem_cons_self, (Rect.mem_set_unit (inb := inb)).2 fun a => ?_⟩
    match a with
    | 0 => exact ⟨h, h0⟩
    | 1 => exact ⟨Nat.zero_le _, by show _ < 0 + 1024; omega⟩
  · refine ⟨_, List.mem_cons_of_mem _ List.mem_cons_self, (Rect.mem_set_unit (inb := inb')).2 fun a => ?_⟩
    match a with
    | 0 => exact ⟨Nat.zero_le _, by show _ < 0 + 384; omega⟩
    | 1 => exact ⟨Nat.zero_le _, by show _ < 0 + 1024; omega⟩

/-- The two parts of a block, each stored in its place. -/
theorem st32 {f : ℕ → ℕ → ℝ} {p q : Vec Ideal S384x1024 .f32} (inb inb') (hp : M2 p fun i j => f (384 + i) j) (hq : M2 q fun i j => f (0 + i) j) :
    M2 (n := 768) (m := 1024) (View.canon (Val := Elt Ideal) (s := S768x1024) (e := .f32) [⟨Rect.unit (s := S768x1024) ![384, 0] ![384, 1024] inb, p⟩, ⟨Rect.unit (s := S768x1024) ![0, 0] ![384, 1024] inb', q⟩]) f := fun y => by
  refine View.canon_eq_of_allAt _ y _ (two inb inb' p q y) ?_
  refine View.allAt_cons_unit _ _ _ _ _ (fun x hx => (hp x).trans ?_) (View.allAt_cons_unit _ _ _ _ _ (fun x hx => (hq x).trans ?_) (View.allAt_nil _ _))
  · have h0 : (y 0).val = 384 + (x 0).val := hx 0
    have h1 : (y 1).val = 0 + (x 1).val := hx 1
    rw [h0, h1, zero_add]
  · have h0 : (y 0).val = 0 + (x 0).val := hx 0
    have h1 : (y 1).val = 0 + (x 1).val := hx 1
    rw [h0, h1, zero_add (x 1).val]

theorem st16 {f : ℕ → ℕ → ℝ} {p q : Vec Ideal S384x1024 .bf16} (inb inb') (hp : M2 p fun i j => f (384 + i) j) (hq : M2 q fun i j => f (0 + i) j) :
    M2 (n := 768) (m := 1024) (View.canon (Val := Elt Ideal) (s := S768x1024) (e := .bf16) [⟨Rect.unit (s := S768x1024) ![384, 0] ![384, 1024] inb, p⟩, ⟨Rect.unit (s := S768x1024) ![0, 0] ![384, 1024] inb', q⟩]) f := fun y => by
  refine View.canon_eq_of_allAt _ y _ (two inb inb' p q y) ?_
  refine View.allAt_cons_unit _ _ _ _ _ (fun x hx => (hp x).trans ?_) (View.allAt_cons_unit _ _ _ _ _ (fun x hx => (hq x).trans ?_) (View.allAt_nil _ _))
  · have h0 : (y 0).val = 384 + (x 0).val := hx 0
    have h1 : (y 1).val = 0 + (x 1).val := hx 1
    rw [h0, h1, zero_add]
  · have h0 : (y 0).val = 0 + (x 0).val := hx 0
    have h1 : (y 1).val = 0 + (x 1).val := hx 1
    rw [h0, h1, zero_add (x 1).val]

theorem idx : ∀ t : Fin cfg0.N, win0_0.index t = ![t.val, 0] ∧ win0_1.index t = ![t.val, 0] ∧ win0_2.index t = ![t.val, 0] ∧ win0_3.index t = ![0, 0]
    ∧ win0_4.index t = ![0, 0] ∧ win0_5.index t = ![0, 0] ∧ win0_6.index t = ![t.val, 0] ∧ win0_7.index t = ![t.val, 0]
    ∧ win0_8.index t = ![0, 0] ∧ win0_9.index t = ![0, 0] ∧ t.val ≤ 10 :=
  (by decide +kernel : ∀ t : Fin grid0.N, _)

variable {m : (ℓ : Loc nD τ sig) → Buf (Elt Ideal) ℓ} {c : Dev nD}

variable (m c) in
/-- The arguments in memory. -/
def inp : In := ⟨m ((c : Thread nD τ).loc main_arg0), m ((c : Thread nD τ).loc main_arg1), m ((c : Thread nD τ).loc main_arg2),
  m ((c : Thread nD τ).loc main_arg3), m ((c : Thread nD τ).loc main_arg4), m ((c : Thread nD τ).loc main_arg5)⟩

variable {A : Nums} (H : Holds A (inp m c))
include H

theorem hv0 : M2 (n := 1) (m := 1024) (V m c main_v0) (fun _ j => A.g j) := by
  unfold V
  after_reads_simp
  exact M1.toRow H.h3 _

theorem hv1 : M2 (n := 1) (m := 1024) (V m c main_v1) (fun _ j => A.b j) := by
  unfold V
  after_reads_simp
  exact M1.toRow H.h4 _

theorem hv2 : M2 (n := 1024) (m := 2816) (V m c main_v2) A.w := by
  unfold V
  after_reads_simp
  exact M2.truncf (φ := .f32) H.h5 _

theorem b0 (t : Fin cfg0.N) : M2 (n := 768) (m := 1024) (iblk m c 0 t) (fun i j => A.dr (t.val * 768 + i) j) := fun i => by
  refine (H.h0 (((cfg0.win 0).blk t).view.emb i)).trans ?_
  blk_simp [idx t]

theorem b1 (t : Fin cfg0.N) : M2 (n := 768) (m := 1024) (iblk m c 1 t) (fun i j => A.r (t.val * 768 + i) j) := fun i => by
  refine (H.h1 (((cfg0.win 1).blk t).view.emb i)).trans ?_
  blk_simp [idx t]

theorem b2 (t : Fin cfg0.N) : M2 (n := 768) (m := 2816) (iblk m c 2 t) (fun i j => A.dz (t.val * 768 + i) j) := fun i => by
  refine (H.h2 (((cfg0.win 2).blk t).view.emb i)).trans ?_
  blk_simp [idx t]

theorem b3 (t : Fin cfg0.N) : M2 (n := 1) (m := 1024) (iblk m c 3 t) (fun _ j => A.g j) := fun i => by
  refine (hv0 H (((cfg0.win 3).blk t).view.emb i)).trans ?_
  blk_simp [idx t]

theorem b4 (t : Fin cfg0.N) : M2 (n := 1) (m := 1024) (iblk m c 4 t) (fun _ j => A.b j) := fun i => by
  refine (hv1 H (((cfg0.win 4).blk t).view.emb i)).trans ?_
  blk_simp [idx t]

theorem b5 (t : Fin cfg0.N) : M2 (n := 1024) (m := 2816) (iblk m c 5 t) A.w := fun i => by
  refine (hv2 H (((cfg0.win 5).blk t).view.emb i)).trans ?_
  blk_simp [idx t]

/-- The gradient under the scale and shift, of the first and of the second part's rows. -/
theorem d0 (t : Fin cfg0.N) : M2 (n := 384) (m := 1024) (k0_pay9 (F := Ideal) (View.ld (iblk m c 2 t) (Rect.unit ![0, 0] ![384, 2816] inb_S768x2816_S384x2816_0_0)) (iblk m c 5 t)
    (View.ld (iblk m c 0 t) (Rect.unit ![0, 0] ![384, 1024] inb_S768x1024_S384x1024_0_0))) (fun i j => dh A.dr A.dz A.w (t.val * 768 + (0 + i)) j) :=
  p9 (ld16 (b2 H t) 0 _) (b5 H t) (ld32 (b0 H t) 0 _)

theorem d1 (t : Fin cfg0.N) : M2 (n := 384) (m := 1024) (k0_pay19 (F := Ideal) (k0_pay6 (View.ld (iblk m c 2 t) (Rect.unit ![384, 0] ![384, 2816] inb_S768x2816_S384x2816_384_0)) (iblk m c 5 t))
    (View.ld (iblk m c 0 t) (Rect.unit ![384, 0] ![384, 1024] inb_S768x1024_S384x1024_384_0))) (fun i j => dh A.dr A.dz A.w (t.val * 768 + (384 + i)) j) :=
  p19 (p6 (ld16 (b2 H t) 384 _) (b5 H t)) (ld32 (b0 H t) 384 _)

theorem r0 (t : Fin cfg0.N) : M2 (n := 384) (m := 1024) (View.ld (iblk m c 1 t) (Rect.unit ![0, 0] ![384, 1024] inb_S768x1024_S384x1024_0_0)) (fun i => A.r (t.val * 768 + (0 + i))) := ld32 (b1 H t) 0 _
theorem r1 (t : Fin cfg0.N) : M2 (n := 384) (m := 1024) (View.ld (iblk m c 1 t) (Rect.unit ![384, 0] ![384, 1024] inb_S768x1024_S384x1024_384_0)) (fun i => A.r (t.val * 768 + (384 + i))) := ld32 (b1 H t) 384 _

theorem out6 (t : Fin cfg0.N) : M2 (n := 768) (m := 1024) (outsAt0 m c t.val t.isLt).1 (fun i j => o0 A.dr A.r A.dz A.g A.w (t.val * 768 + i) j) := by
  by_cases h : t.val % 11 = 0
  · rw [outsAt0_A m c t h]; frame_out
    exact st32 _ _ (p1 (p21 (r1 H t)) (p22 (r1 H t)) (p24 (d1 H t) (b3 H t)) (p25 (d1 H t) (b3 H t)))
      (p16 (p10 (r0 H t)) (p11 (r0 H t)) p12 (d0 H t) (b3 H t))
  · rw [outsAt0_B m c t h]; frame_out
    exact st32 _ _ (p1 (p21 (r1 H t)) (p22 (r1 H t)) (p24 (d1 H t) (b3 H t)) (p25 (d1 H t) (b3 H t)))
      (p16 (p10 (r0 H t)) (p11 (r0 H t)) p12 (d0 H t) (b3 H t))

theorem out7 (t : Fin cfg0.N) : M2 (n := 768) (m := 1024) (outsAt0 m c t.val t.isLt).2.1 (fun i j => o1 A.r A.g A.b (t.val * 768 + i) j) := by
  by_cases h : t.val % 11 = 0
  · rw [outsAt0_A m c t h]; frame_out
    exact st16 _ _ (p23 (r1 H t) (b3 H t) (b4 H t)) (p15 (p10 (r0 H t)) (p11 (r0 H t)) p12 (b3 H t) (b4 H t))
  · rw [outsAt0_B m c t h]; frame_out
    exact st16 _ _ (p23 (r1 H t) (b3 H t) (b4 H t)) (p15 (p10 (r0 H t)) (p11 (r0 H t)) p12 (b3 H t) (b4 H t))

omit H in
/-- One block more of a sum over the rows. -/
theorem more (f : ℕ → ℝ) (p : ℕ) : (∑ i ∈ range (p * 768), f i) + (∑ i ∈ range 384, f (p * 768 + (0 + i))) + (∑ i ∈ range 384, f (p * 768 + (384 + i)))
    = ∑ i ∈ range ((p + 1) * 768), f i := by
  rw [show (p + 1) * 768 = p * 768 + 384 + 384 by ring, sum_range_add, sum_range_add]
  simp only [zero_add, add_assoc]

/-- The sums after a point: over the rows of the blocks so far. -/
theorem sums (n : ℕ) (hn : n < cfg0.N) : M2 (n := 1) (m := 1024) (outsAt0 m c n hn).2.2.1 (fun _ j => ∑ i ∈ range ((n + 1) * 768), dh A.dr A.dz A.w i j * xh (A.r i) j)
    ∧ M2 (n := 1) (m := 1024) (outsAt0 m c n hn).2.2.2 (fun _ j => ∑ i ∈ range ((n + 1) * 768), dh A.dr A.dz A.w i j) := by
  induction n with
  | zero =>
    constructor
    · rw [outsAt0_A m c ⟨0, hn⟩ rfl]; frame_out
      exact M2.congr (p2 (p17 (p10 (r0 H ⟨0, hn⟩)) (p11 (r0 H ⟨0, hn⟩)) p12 (p7 p4) (d0 H ⟨0, hn⟩)) (d1 H ⟨0, hn⟩) (p22 (r1 H ⟨0, hn⟩)))
        fun _ j _ _ => (congrArg (· + _ + _) (by simp)).trans (more (fun i => dh A.dr A.dz A.w i j * xh (A.r i) j) 0)
    · rw [outsAt0_A m c ⟨0, hn⟩ rfl]; frame_out
      exact M2.congr (p3 (p18 (p8 p5) (d0 H ⟨0, hn⟩)) (d1 H ⟨0, hn⟩))
        fun _ j _ _ => (congrArg (· + _ + _) (by simp)).trans (more (fun i => dh A.dr A.dz A.w i j) 0)
  | succ n ih =>
    have hN : n + 1 < 11 := lt_of_lt_of_eq hn N_0
    have h : ¬ (n + 1) % 11 = 0 := by omega
    obtain ⟨i0, i1⟩ := ih (Nat.lt_of_succ_lt hn)
    constructor
    · rw [outsAt0_B m c ⟨n + 1, hn⟩ h]; frame_out
      exact M2.congr (p2 (p17 (p10 (r0 H ⟨n + 1, hn⟩)) (p11 (r0 H ⟨n + 1, hn⟩)) p12 (p7 i0) (d0 H ⟨n + 1, hn⟩)) (d1 H ⟨n + 1, hn⟩) (p22 (r1 H ⟨n + 1, hn⟩)))
        fun _ j _ _ => more (fun i => dh A.dr A.dz A.w i j * xh (A.r i) j) (n + 1)
    · rw [outsAt0_B m c ⟨n + 1, hn⟩ h]; frame_out
      exact M2.congr (p3 (p18 (p8 i1) (d0 H ⟨n + 1, hn⟩)) (d1 H ⟨n + 1, hn⟩))
        fun _ j _ _ => more (fun i => dh A.dr A.dz A.w i j) (n + 1)

theorem f6 : M2 (n := 8448) (m := 1024) ((dats m 0 c).arrAt 6 cfg0.N) (o0 A.dr A.r A.dz A.g A.w) := fun i => by
  have e : (dats m 0 c).arrAt 6 cfg0.N = fun i : (T2 8448 1024).Idx => ((o0 A.dr A.r A.dz A.g A.w (i 0).val (i 1).val : ℝ) : EReal) := by
    refine (dats m 0 c).arrAt_eq_of_covers 6 _ (by decide +kernel) fun t hf y => ?_
    blk_simp
    rw [after0_6]
    refine (out6 H t _).trans ?_
    blk_simp [idx t]
  exact congrFun e i

theorem f7 : M2 (n := 8448) (m := 1024) ((dats m 0 c).arrAt 7 cfg0.N) (o1 A.r A.g A.b) := fun i => by
  have e : (dats m 0 c).arrAt 7 cfg0.N = fun i : (T2 8448 1024).Idx => ((o1 A.r A.g A.b (i 0).val (i 1).val : ℝ) : EReal) := by
    refine (dats m 0 c).arrAt_eq_of_covers 7 _ (by decide +kernel) fun t hf y => ?_
    blk_simp
    rw [after0_7]
    refine (out7 H t _).trans ?_
    blk_simp [idx t]
  exact congrFun e i

theorem f8 : M2 (n := 1) (m := 1024) ((dats m 0 c).arrAt 8 cfg0.N) (fun _ j => o2 A.dr A.r A.dz A.w j) := fun i => by
  have e : (dats m 0 c).arrAt 8 cfg0.N = fun i : (T2 1 1024).Idx => ((o2 A.dr A.r A.dz A.w (i 1).val : ℝ) : EReal) := by
    refine (dats m 0 c).arrAt_eq_of_covers 8 _ (by decide +kernel) fun t hf y => ?_
    have hl := (flush0_8 t).1 hf
    have hc := (idx t).2.2.2.2.2.2.2.2.2.2
    blk_simp
    rw [after0_8]
    refine ((sums H t.val t.isLt).1 _).trans ?_
    rw [show (t.val + 1) * 768 = 8448 by omega]
    blk_simp [idx t, o2]
  exact congrFun e i

theorem f9 : M2 (n := 1) (m := 1024) ((dats m 0 c).arrAt 9 cfg0.N) (fun _ j => o3 A.dr A.dz A.w j) := fun i => by
  have e : (dats m 0 c).arrAt 9 cfg0.N = fun i : (T2 1 1024).Idx => ((o3 A.dr A.dz A.w (i 1).val : ℝ) : EReal) := by
    refine (dats m 0 c).arrAt_eq_of_covers 9 _ (by decide +kernel) fun t hf y => ?_
    have hl := (flush0_9 t).1 hf
    have hc := (idx t).2.2.2.2.2.2.2.2.2.2
    blk_simp
    rw [after0_9]
    refine ((sums H t.val t.isLt).2 _).trans ?_
    rw [show (t.val + 1) * 768 = 8448 by omega]
    blk_simp [idx t, o3]
  exact congrFun e i

end Cert.Kernel10Ideal.Ln

end
-- ==== Proof.Spec.lean ====
/- The convolution branch of the token mixing and its gradient, over the real numbers. Rows are numbered from zero, a
   row is a function of its 256 channels, and rows outside an array are rows of zeros. -/
module

public import proofs.«01_k».proof.Proof.Real

@[expose] public section

noncomputable section

namespace Cert.Spec

open Cert.Calc Finset

/-- The logistic function. -/
def sg (x : ℝ) : ℝ := 1 / (1 + Real.exp (-x))

theorem one_add_exp_pos (x : ℝ) : 0 < 1 + Real.exp (-x) := by positivity

theorem sg_tanh (x : ℝ) : 1 / 2 * Real.tanh (1 / 2 * x) + 1 / 2 = sg x := by
  have e : Real.exp (-x) = Real.exp (-(1 / 2 * x)) * Real.exp (-(1 / 2 * x)) := by rw [← Real.exp_add]; ring_nf
  have i : Real.exp (1 / 2 * x) * Real.exp (-(1 / 2 * x)) = 1 := by rw [← Real.exp_add]; simp
  have p : 0 < Real.exp (1 / 2 * x) := Real.exp_pos _
  have q : 0 < Real.exp (-(1 / 2 * x)) := Real.exp_pos _
  unfold sg
  rw [Real.tanh_eq_sinh_div_cosh, Real.sinh_eq, Real.cosh_eq, e]
  generalize Real.exp (1 / 2 * x) = P at *
  generalize Real.exp (-(1 / 2 * x)) = Q at *
  have h1 : P + Q ≠ 0 := by positivity
  have h2 : 1 + Q * Q ≠ 0 := by positivity
  field_simp
  ring_nf
  have : P * Q ^ 2 = Q := by calc
    P * Q ^ 2 = (P * Q) * Q := by ring
    _ = Q := by rw [i, one_mul]
  nlinarith [this]

/-! ## Layer normalisation of a row -/

/-- The mean of a row. -/
def mean (y : ℕ → ℝ) : ℝ := (∑ j ∈ range 256, y j) / 256
/-- The row less its mean. -/
def xc (y : ℕ → ℝ) (j : ℕ) : ℝ := y j - mean y
/-- The variance of a row, the small number added. -/
def vr (y : ℕ → ℝ) : ℝ := (∑ j ∈ range 256, xc y j * xc y j) / 256 + eps
/-- One over the deviation. -/
def rs (y : ℕ → ℝ) : ℝ := (Real.sqrt (vr y))⁻¹
/-- The normalised row. -/
def xh (y : ℕ → ℝ) (j : ℕ) : ℝ := xc y j * rs y
/-- The gradient at a row from the gradient `h` at its normalised row. -/
def lnb (y h : ℕ → ℝ) (j : ℕ) : ℝ := rs y * (h j - mean h - xh y j * mean fun j => h j * xh y j)

theorem vr_pos (y : ℕ → ℝ) : 0 < vr y := by
  have := eps_pos
  have : 0 ≤ ∑ j ∈ range 256, xc y j * xc y j := Finset.sum_nonneg fun j _ => mul_self_nonneg _
  unfold vr
  positivity

theorem rs_sq (y : ℕ → ℝ) : rs y * rs y = (vr y)⁻¹ := by
  unfold rs
  rw [← mul_inv, Real.mul_self_sqrt (vr_pos y).le]

theorem sum_xc (y : ℕ → ℝ) : ∑ j ∈ range 256, xc y j = 0 := by
  unfold xc mean
  rw [Finset.sum_sub_distrib, Finset.sum_const, Finset.card_range, nsmul_eq_mul]
  push_cast
  ring

/-- The factor of the gradient through the variance, as reverse differentiation takes it. -/
def qv (y h : ℕ → ℝ) : ℝ := (∑ j ∈ range 256, xc y j * h j) * (-1 / 2 * (rs y / vr y)) / 256

/-- The gradient as reverse differentiation takes it, summand by summand. -/
theorem lnb_eq (y h : ℕ → ℝ) (j : ℕ) :
    h j * rs y + qv y h * (2 * xc y j)
      + ((∑ j ∈ range 256, -(h j * rs y)) + ∑ j ∈ range 256, -(qv y h * (2 * xc y j))) / 256 = lnb y h j := by
  have e1 : ∑ j ∈ range 256, -(h j * rs y) = -((∑ j ∈ range 256, h j) * rs y) := by
    rw [Finset.sum_neg_distrib, Finset.sum_mul]
  have e2 : ∑ j ∈ range 256, -(qv y h * (2 * xc y j)) = 0 := by
    have : ∀ j, -(qv y h * (2 * xc y j)) = (-2 * qv y h) * xc y j := fun j => by ring
    simp only [this]
    rw [← Finset.mul_sum, sum_xc, mul_zero]
  have e3 : ∑ j ∈ range 256, h j * xh y j = (∑ j ∈ range 256, xc y j * h j) * rs y := by
    rw [Finset.sum_mul]
    exact Finset.sum_congr rfl fun j _ => by unfold xh; ring
  rw [e1, e2]
  unfold lnb mean
  rw [e3]
  unfold qv xh
  rw [div_eq_mul_inv (rs y) (vr y), ← rs_sq]
  ring

/-! ## The branch -/

section Branch
variable (a gt w : ℕ → ℕ → ℝ) (bd g b : ℕ → ℝ) (pw d : ℕ → ℕ → ℝ)

/-- The gated channel. -/
def u (i j : ℕ) : ℝ := a i j * sg (gt i j)
/-- The same thirty rows further down. -/
def up (i j : ℕ) : ℝ := if i < 30 then 0 else u a gt (i - 30) j
/-- The convolution. -/
def y (i j : ℕ) : ℝ := (∑ k ∈ range 31, up a gt (k + i) j * w k j) + bd j

/-- The normalised row under its scale and shift. -/
def nn (r : ℕ → ℝ) (j : ℕ) : ℝ := xh r j * g j + b j
def sn (r : ℕ → ℝ) (j : ℕ) : ℝ := sg (nn g b r j)
def act (r : ℕ → ℝ) (j : ℕ) : ℝ := nn g b r j * sn g b r j
/-- The gradient at the activation. -/
def dac (e : ℕ → ℝ) (j : ℕ) : ℝ := ∑ t ∈ range 256, e t * pw j t
/-- The gradient at the normalised row under its scale and shift. -/
def dn (r e : ℕ → ℝ) (j : ℕ) : ℝ := dac pw e j * (sn g b r j * (1 + nn g b r j * (1 - sn g b r j)))
/-- The gradient at the convolution's row. -/
def dy (r e : ℕ → ℝ) (j : ℕ) : ℝ := lnb r (fun j => dn g b pw r e j * g j) j

theorem dac_zero (e : ℕ → ℝ) (h : ∀ t, t < 256 → e t = 0) (j : ℕ) : dac pw e j = 0 :=
  Finset.sum_eq_zero fun t ht => by rw [h t (Finset.mem_range.1 ht), zero_mul]

theorem dn_zero (r e : ℕ → ℝ) (h : ∀ t, t < 256 → e t = 0) (j : ℕ) : dn g b pw r e j = 0 := by
  unfold dn
  rw [dac_zero pw e h, zero_mul]

theorem dy_zero (r e : ℕ → ℝ) (h : ∀ t, t < 256 → e t = 0) (j : ℕ) : dy g b pw r e j = 0 := by
  unfold dy lnb mean
  simp [dn_zero g b pw r e h]

end Branch

end Cert.Spec
-- ==== Proof.Goal.lean ====
/- The arguments of the convolution branch's backward pass as numbers, and what its seven results are. -/
module

public import proofs.«01_k».proof.Proof.Spec

@[expose] public section

noncomputable section

namespace Cert.Spec

open Cert.Calc Finset

/-- The arguments' numbers: the projected rows, the cotangent, the taps and their offset, the scale and the shift of the
    normalisation, the pointwise weight. -/
structure Args where
  z : ℕ → ℕ → ℝ
  ct : ℕ → ℕ → ℝ
  w : ℕ → ℕ → ℝ
  bd : ℕ → ℝ
  g : ℕ → ℝ
  b : ℕ → ℝ
  pw : ℕ → ℕ → ℝ

/-- The argument arrays hold these numbers. -/
structure Holds (A : Args) (x0 : (⟨3, ![1, 8208, 2816]⟩ : Idealize.ShloMosaic.Shape).Idx → EReal)
    (x1 : (⟨3, ![1, 8208, 1024]⟩ : Idealize.ShloMosaic.Shape).Idx → EReal) (x2 : (T2 31 256).Idx → EReal)
    (x3 x4 x5 : (T1 256).Idx → EReal) (x6 : (T2 256 256).Idx → EReal) : Prop where
  h0 : M3 x0 A.z
  h1 : M3 x1 A.ct
  h2 : M2 x2 A.w
  h3 : M1 x3 A.bd
  h4 : M1 x4 A.g
  h5 : M1 x5 A.b
  h6 : M2 x6 A.pw

namespace Args
variable (A : Args)

/-- The value half of the gated unit. -/
def a (i j : ℕ) : ℝ := A.z i (256 + j)
/-- Its gate. -/
def gt (i j : ℕ) : ℝ := A.z i (512 + j)
/-- The cotangent of the branch. -/
def d (i j : ℕ) : ℝ := A.ct i (256 + j)
/-- The gated rows, thirty rows further down. -/
def up (i j : ℕ) : ℝ := Spec.up A.a A.gt i j
/-- The convolution's rows. -/
def y (i j : ℕ) : ℝ := Spec.y A.a A.gt A.w A.bd i j
def act (i j : ℕ) : ℝ := Spec.act A.g A.b (A.y i) j
/-- The gradient at the normalised rows. -/
def dn (i j : ℕ) : ℝ := Spec.dn A.g A.b A.pw (A.y i) (A.d i) j
/-- The gradient at the convolution's rows, zero behind the last. -/
def D (i j : ℕ) : ℝ := if i < 8208 then Spec.dy A.g A.b A.pw (A.y i) (A.d i) j else 0
/-- What one tap hands back, thirty rows further down. -/
def pt (k i j : ℕ) : ℝ := if k ≤ i then A.D (i - k) j * A.w k j else 0
/-- The gradient at the gated rows. -/
def dU (i j : ℕ) : ℝ := ∑ k ∈ range 31, A.pt k (30 + i) j
/-- The gradient at a tap. -/
def dwv (k j : ℕ) : ℝ := ∑ i ∈ range 8208, A.up (k + i) j * A.D i j

/-- The seven results. -/
def r0 (i j : ℕ) : ℝ := if 240 ≤ i then A.dU (i - 240) j * sg (A.gt (i - 240) j) else 0
def r1 (i j : ℕ) : ℝ :=
  if 240 ≤ i then A.dU (i - 240) j * A.a (i - 240) j * sg (A.gt (i - 240) j) * (1 - sg (A.gt (i - 240) j)) else 0
def r2 (i j : ℕ) : ℝ := if i < 31 then A.dwv i j else 0
def r3 (j : ℕ) : ℝ := ∑ i ∈ range 8208, A.D i j
def r4 (j : ℕ) : ℝ := ∑ i ∈ range 8208, A.dn i j * xh (A.y i) j
def r5 (j : ℕ) : ℝ := ∑ i ∈ range 8208, A.dn i j
def r6 (i j : ℕ) : ℝ := ∑ r ∈ range 8208, A.act r i * A.d r j

theorem pad_pt (k i j : ℕ) (hj : j < 256) :
    (if (k ≤ i ∧ i - k < 8208) ∧ (0 ≤ j ∧ j - 0 < 256) then A.D (i - k) (j - 0) * A.w k (j - 0) else 0) = A.pt k i j := by
  unfold pt
  by_cases h : k ≤ i
  · by_cases h' : i - k < 8208
    · simp [h, h', hj]
    · have : A.D (i - k) j = 0 := if_neg h'
      simp [h', this]
  · simp [h]

theorem pad_dw (k i j : ℕ) (f : ℕ → ℝ) (hj : j < 256) :
    (if (k ≤ i ∧ i - k < 1) ∧ (0 ≤ j ∧ j - 0 < 256) then f (j - 0) else 0) = if i = k then f j else 0 := by
  by_cases h : i = k
  · subst h; simp [hj]
  · rw [if_neg h, if_neg]
    omega

/-- The taps from the last down. -/
theorem sum_pt (i j : ℕ) : ∑ q ∈ range 31, A.pt (30 - q) (30 + i) j = A.dU i j := by
  unfold dU
  rw [← Finset.sum_range_reflect]
  refine Finset.sum_congr rfl fun q hq => ?_
  have := Finset.mem_range.1 hq
  rw [show 30 - (31 - 1 - q) = q by omega]

theorem sum_dw (i j : ℕ) (hi : i < 31) : ∑ q ∈ range 31, (if i = 30 - q then A.dwv (30 - q) j else 0) = A.dwv i j := by
  rw [Finset.sum_eq_single (30 - i)]
  · have : 30 - (30 - i) = i := by omega
    simp [this]
  · intro q hq hne
    rw [if_neg]
    have := Finset.mem_range.1 hq
    omega
  · intro h
    exact absurd (Finset.mem_range.2 (by omega)) h

end Args

end Cert.Spec

end
-- ==== Proof.Finite.lean ====
/- What the precondition says: every entry of every argument is a real number. -/
module

public import proofs.«01_k».proof.Pre_finite
public import proofs.«01_k».proof.Proof.Gen.Pre_finite
public import proofs.«01_k».proof.Proof.Goal

@[expose] public section

set_option maxRecDepth 16384

noncomputable section

namespace Cert.Spec

open Idealize.ShloMosaic Cert.Calc Idealize.ShloMosaic.StableHlo

theorem bits_inf : Ideal.ofBits .f32 0x7F800000#32 = (⊤ : EReal) := by simp [Ideal.ofBits, Ideal.ieee]

/-- An extended real whose larger sign is below the top is a real number. -/
theorem real_of_abs_lt (a : EReal) (h : max a (-a) < ⊤) : a = ((a.toReal : ℝ) : EReal) := by
  have h1 : a < ⊤ := (le_max_left _ _).trans_lt h
  have h2 : -a < ⊤ := (le_max_right _ _).trans_lt h
  refine (EReal.coe_toReal h1.ne ?_).symm
  rintro rfl
  simp at h2

theorem real_of_ones {s : Shape} {x : FVec Ideal s .f32} (hb : T0.BroadcastsInDim s (![] : Fin 0 → Fin s.rank))
    (h : cmpf .olt (Host.absf x) (broadcastInDim s ![] hb (constant (F := Ideal) T0 .f32 0x7F800000#32)) = fun _ => 1#1) (i : s.Idx) :
    x i = (((x i : EReal).toReal : ℝ) : EReal) := by
  have h1 : Ideal.cmp .olt (max (x i) (-(x i)) : EReal) (Ideal.ofBits .f32 0x7F800000#32) = 1#1 := congrFun h i
  refine real_of_abs_lt _ ?_
  rw [bits_inf] at h1
  by_contra hc
  simp [Ideal.cmp, hc] at h1

open Classical in
/-- A vector's numbers. -/
def num1 {n : ℕ} (x : (T1 n).Idx → EReal) (i : ℕ) : ℝ :=
  if h : ∃ k : (T1 n).Idx, (k 0).val = i then (x h.choose).toReal else 0

open Classical in
/-- A matrix's numbers. -/
def num2 {n m : ℕ} (x : (T2 n m).Idx → EReal) (i j : ℕ) : ℝ :=
  if h : ∃ k : (T2 n m).Idx, (k 0).val = i ∧ (k 1).val = j then (x h.choose).toReal else 0

open Classical in
/-- The numbers of a matrix under a unit axis. -/
def num3 {n m : ℕ} (x : (⟨3, ![1, n, m]⟩ : Shape).Idx → EReal) (i j : ℕ) : ℝ :=
  if h : ∃ k : (⟨3, ![1, n, m]⟩ : Shape).Idx, (k 1).val = i ∧ (k 2).val = j then (x h.choose).toReal else 0

theorem num1_holds {n : ℕ} {x : (T1 n).Idx → EReal} (h : ∀ i, x i = ((x i).toReal : ℝ)) : M1 x (num1 x) := fun i => by
  have e : ∃ k : (T1 n).Idx, (k 0).val = (i 0).val := ⟨i, rfl⟩
  have hk : e.choose = i := by
    funext a
    match a with
    | 0 => exact Fin.ext e.choose_spec
  unfold num1
  rw [dif_pos e, hk]
  exact h i

theorem num2_holds {n m : ℕ} {x : (T2 n m).Idx → EReal} (h : ∀ i, x i = ((x i).toReal : ℝ)) : M2 x (num2 x) := fun i => by
  have e : ∃ k : (T2 n m).Idx, (k 0).val = (i 0).val ∧ (k 1).val = (i 1).val := ⟨i, rfl, rfl⟩
  have hk : e.choose = i := by
    funext a
    match a with
    | 0 => exact Fin.ext e.choose_spec.1
    | 1 => exact Fin.ext e.choose_spec.2
  unfold num2
  rw [dif_pos e, hk]
  exact h i

theorem num3_holds {n m : ℕ} {x : (⟨3, ![1, n, m]⟩ : Shape).Idx → EReal} (h : ∀ i, x i = ((x i).toReal : ℝ)) : M3 x (num3 x) := fun i => by
  have e : ∃ k : (⟨3, ![1, n, m]⟩ : Shape).Idx, (k 1).val = (i 1).val ∧ (k 2).val = (i 2).val := ⟨i, rfl, rfl⟩
  have hk : e.choose = i := by
    funext a
    match a with
    | 0 =>
      have h0 : (e.choose 0).val < 1 := (e.choose 0).isLt
      have h1 : (i 0).val < 1 := (i 0).isLt
      exact Fin.ext (by omega)
    | 1 => exact Fin.ext e.choose_spec.1
    | 2 => exact Fin.ext e.choose_spec.2
  unfold num3
  rw [dif_pos e, hk]
  exact h i

/-- Equal arrays hold the same numbers. -/
theorem Holds.congr {A : Args} {x0 y0 : (⟨3, ![1, 8208, 2816]⟩ : Shape).Idx → EReal} {x1 y1 : (⟨3, ![1, 8208, 1024]⟩ : Shape).Idx → EReal}
    {x2 y2 : (T2 31 256).Idx → EReal} {x3 x4 x5 y3 y4 y5 : (T1 256).Idx → EReal} {x6 y6 : (T2 256 256).Idx → EReal}
    (h : Holds A x0 x1 x2 x3 x4 x5 x6) (e0 : y0 = x0) (e1 : y1 = x1) (e2 : y2 = x2) (e3 : y3 = x3) (e4 : y4 = x4) (e5 : y5 = x5)
    (e6 : y6 = x6) : Holds A y0 y1 y2 y3 y4 y5 y6 := by
  subst e0 e1 e2 e3 e4 e5 e6
  exact h

/-- The numbers of the seven arguments. -/
def nums (x0 : (⟨3, ![1, 8208, 2816]⟩ : Shape).Idx → EReal) (x1 : (⟨3, ![1, 8208, 1024]⟩ : Shape).Idx → EReal)
    (x2 : (T2 31 256).Idx → EReal) (x3 x4 x5 : (T1 256).Idx → EReal) (x6 : (T2 256 256).Idx → EReal) : Args :=
  ⟨num3 x0, num3 x1, num2 x2, num1 x3, num1 x4, num1 x5, num2 x6⟩

theorem holds_of_finite [Cert.Pre_finite.Facts] (x0 : FVec Ideal ⟨3, ![1, 8208, 2816]⟩ .f32) (x1 : FVec Ideal ⟨3, ![1, 8208, 1024]⟩ .f32)
    (x2 : FVec Ideal (T2 31 256) .f32) (x3 x4 x5 : FVec Ideal (T1 256) .f32) (x6 : FVec Ideal (T2 256 256) .f32)
    (h0 : (Cert.Pre_finite.fn (F := Ideal) x0 x1 x2 x3 x4 x5 x6).1 = fun _ => 1#1)
    (h1 : (Cert.Pre_finite.fn (F := Ideal) x0 x1 x2 x3 x4 x5 x6).2.1 = fun _ => 1#1)
    (h2 : (Cert.Pre_finite.fn (F := Ideal) x0 x1 x2 x3 x4 x5 x6).2.2.1 = fun _ => 1#1)
    (h3 : (Cert.Pre_finite.fn (F := Ideal) x0 x1 x2 x3 x4 x5 x6).2.2.2.1 = fun _ => 1#1)
    (h4 : (Cert.Pre_finite.fn (F := Ideal) x0 x1 x2 x3 x4 x5 x6).2.2.2.2.1 = fun _ => 1#1)
    (h5 : (Cert.Pre_finite.fn (F := Ideal) x0 x1 x2 x3 x4 x5 x6).2.2.2.2.2.1 = fun _ => 1#1)
    (h6 : (Cert.Pre_finite.fn (F := Ideal) x0 x1 x2 x3 x4 x5 x6).2.2.2.2.2.2 = fun _ => 1#1) :
    Holds (nums x0 x1 x2 x3 x4 x5 x6) x0 x1 x2 x3 x4 x5 x6 :=
  ⟨num3_holds (real_of_ones _ h0), num3_holds (real_of_ones _ h1), num2_holds (real_of_ones _ h2), num1_holds (real_of_ones _ h3),
    num1_holds (real_of_ones _ h4), num1_holds (real_of_ones _ h5), num2_holds (real_of_ones _ h6)⟩

end Cert.Spec
-- ==== Proof.Eq10.lean ====
/- The call in front of the mixers: the kernel's four arrays are the reference's. -/
module

public import proofs.«01_k».proof.Proof.In10
public import proofs.«01_k».proof.Proof.Finite
public import proofs.«01_k».proof.Defs
public import proofs.«01_k».proof.Proof.Gen.Pre_finite_in
public import proofs.«01_k».proof.Proof.Gen.Kernel10Ideal.Frame

@[expose] public section

set_option maxRecDepth 16384

noncomputable section

namespace Cert.Spec10

open Idealize.ShloMosaic Idealize.ShloMosaic.TcCoe Idealize.SL.Sem Cert.Calc Cert.Spec
open Cert.Reference10Ideal.Term (In Nums)

/-- The numbers of the six arguments. -/
def nums (X : In) : Nums := ⟨num2 X.a0, num2 X.a1, num2 X.a2, num1 X.a3, num1 X.a4, num2 X.a5⟩

theorem holds_of_finite (X : In)
    (h0 : (Cert.Pre_finite_in.fn (F := Ideal) X.a0 X.a1 X.a2 X.a3 X.a4 X.a5).1 = fun _ => 1#1)
    (h1 : (Cert.Pre_finite_in.fn (F := Ideal) X.a0 X.a1 X.a2 X.a3 X.a4 X.a5).2.1 = fun _ => 1#1)
    (h2 : (Cert.Pre_finite_in.fn (F := Ideal) X.a0 X.a1 X.a2 X.a3 X.a4 X.a5).2.2.1 = fun _ => 1#1)
    (h3 : (Cert.Pre_finite_in.fn (F := Ideal) X.a0 X.a1 X.a2 X.a3 X.a4 X.a5).2.2.2.1 = fun _ => 1#1)
    (h4 : (Cert.Pre_finite_in.fn (F := Ideal) X.a0 X.a1 X.a2 X.a3 X.a4 X.a5).2.2.2.2.1 = fun _ => 1#1)
    (h5 : (Cert.Pre_finite_in.fn (F := Ideal) X.a0 X.a1 X.a2 X.a3 X.a4 X.a5).2.2.2.2.2 = fun _ => 1#1) :
    Cert.Reference10Ideal.Term.Holds (nums X) X :=
  ⟨num2_holds (real_of_ones _ h0), num2_holds (real_of_ones _ h1),
    num2_holds (real_of_ones (x := extf .f32 X.a2 Cert.Pre_finite_in.Gen.bitsLt_bf16_f32) _ h2),
    num1_holds (real_of_ones _ h3), num1_holds (real_of_ones _ h4), num2_holds (real_of_ones _ h5)⟩

theorem value : Cert.algebraic_Kernel10Ideal_Reference10Ideal_pre_finite_in := fun m ρ m' ρ' hpre harg => by
  have H : ∀ c, Cert.Reference10Ideal.Term.Holds (nums (Cert.Kernel10Ideal.Ln.inp m c)) (Cert.Kernel10Ideal.Ln.inp m c) := fun c =>
    holds_of_finite _ (hpre c).1 (hpre c).2.1 (hpre c).2.2.1 (hpre c).2.2.2.1 (hpre c).2.2.2.2.1 (hpre c).2.2.2.2.2
  have L : ∀ c, Cert.Reference10Ideal.Term.inp m' c = Cert.Kernel10Ideal.Ln.inp m c := fun c => by
    obtain ⟨a0, a1, a2, a3, a4, a5⟩ := harg c
    exact In.mk.injEq .. |>.mpr ⟨a0, a1, a2, a3, a4, a5⟩
  refine ⟨fun c => (Cert.Kernel10Ideal.Gen.dats m 0 c).arrAt 6 Cert.Kernel10Ideal.cfg0.N,
    fun c => (Cert.Kernel10Ideal.Gen.dats m 0 c).arrAt 7 Cert.Kernel10Ideal.cfg0.N,
    fun c => (Cert.Kernel10Ideal.Gen.dats m 0 c).arrAt 8 Cert.Kernel10Ideal.cfg0.N,
    fun c => (Cert.Kernel10Ideal.Gen.dats m 0 c).arrAt 9 Cert.Kernel10Ideal.cfg0.N, Cert.Kernel10Ideal.Value.run_blocks (F := Ideal) m ρ, ?_⟩
  refine (θ_run Cert.Reference10Ideal.defs _ _).mono (fun r h c => ?_) (Cert.Reference10Ideal.Term.run m' ρ')
  obtain ⟨e0, e1, e2, e3, ha⟩ := h c
  rw [L c] at e0 e1 e2 e3
  exact ⟨e0.trans (M2.ext (Cert.Reference10Ideal.Term.sR0 (H c)) (Cert.Kernel10Ideal.Ln.f6 (H c))),
    e1.trans (M2.ext (Cert.Reference10Ideal.Term.sR1 (H c)) (Cert.Kernel10Ideal.Ln.f7 (H c))),
    e2.trans (M2.ext (Cert.Reference10Ideal.Term.sR2 (H c)) (Cert.Kernel10Ideal.Ln.f8 (H c))),
    e3.trans (M2.ext (Cert.Reference10Ideal.Term.sR3 (H c)) (Cert.Kernel10Ideal.Ln.f9 (H c))), ha⟩

theorem frame : Cert.quiescent_Reference10Ideal := fun m ρ _ =>
  (θ_run Cert.Reference10Ideal.defs _ _).mono
    (fun r h => ⟨fun c => (h c).2.2.2.2, sem_eq_zero_of_no_sems (by decide) r.2⟩) (Cert.Reference10Ideal.Value.run (F := Ideal) m ρ)

end Cert.Spec10

end
-- ==== Proof.Loss11.lean ====
/- The last normalisation, the squared error and their gradients, over the real numbers. -/
module

public import proofs.«01_k».proof.Proof.Ln10
public import proofs.«01_k».proof.Proof.Dense

@[expose] public section

noncomputable section

namespace Cert.Spec11

open Idealize.ShloMosaic Cert.Calc Cert.Spec10 Finset

theorem bits_inv : Ideal.ofBits .f32 0x3A800000#32 = ((1 / 1024 : ℝ) : EReal) := by
  rw [bits_normal _ false 117 0 (by decide) (by decide) (by decide) (by decide) (by decide)]
  norm_num

theorem sge_small (n : ℕ) (hn : n < 10000) : BitVec.ofBool ((256#32).sle (BitVec.ofNat 32 n)) = 1#1 ↔ 256 ≤ n := by
  have h1 : (BitVec.ofNat 32 n).toInt = n := by
    have e : (BitVec.ofNat 32 n).toNat = n := by rw [BitVec.toNat_ofNat]; exact Nat.mod_eq_of_lt (by omega)
    rw [BitVec.toInt_eq_toNat_of_lt (by rw [e]; omega), e]
  have h2 : (256#32).toInt = 256 := by decide
  rw [BitVec.sle, h1, h2]
  by_cases h : 256 ≤ n
  · simp [h]
  · simp [h]

/-- The rows behind the meta tokens. -/
theorem mask (a b : ℕ) (ha : a < 11) (hb : b < 768) :
    Scalar.cmpi .sge (IntOp.addi (BitVec.ofNat 32 b) (Scalar.muli (BitVec.ofNat 32 a) 768#32)) 256#32 = 1#1 ↔ 256 ≤ a * 768 + b := by
  show BitVec.ofBool ((256#32).sle (BitVec.ofNat 32 b + BitVec.ofNat 32 a * 768#32)) = 1#1 ↔ _
  rw [show (768#32) = BitVec.ofNat 32 768 from rfl, ← BitVec.ofNat_mul, ← BitVec.ofNat_add, sge_small _ (by omega), Nat.add_comm]

section Res
variable (r t : ℕ → ℕ → ℝ) (g b : ℕ → ℝ)

/-- The target behind rows of zeros. -/
def tt (i j : ℕ) : ℝ := if i < 256 then 0 else t (i - 256) j
/-- The error, nothing on the rows in front. -/
def er (i j : ℕ) : ℝ := if 256 ≤ i then xh (r i) j * g j + b j - tt t i j else 0
/-- The gradient at the normalised rows under their scale and shift. -/
def dy (i j : ℕ) : ℝ := er r t g b i j * (1 / 1024)
def q0 (i j : ℕ) : ℝ := lnb (r i) (fun j => dy r t g b i j * g j) j
def q1 (j : ℕ) : ℝ := ∑ i ∈ range 8448, dy r t g b i j * xh (r i) j
def q2 (j : ℕ) : ℝ := ∑ i ∈ range 8448, dy r t g b i j
def q3 (j : ℕ) : ℝ := ∑ i ∈ range 8448, er r t g b i j * er r t g b i j

theorem er_back (i j : ℕ) : er r t g b (256 + i) j = xh (r (256 + i)) j * g j + b j - t i j := by
  unfold er tt
  rw [if_pos (by omega), if_neg (by omega), Nat.add_sub_cancel_left]

theorem er_front (i j : ℕ) (h : i < 256) : er r t g b i j = 0 := by
  unfold er
  rw [if_neg (by omega)]

theorem q3_eq (j : ℕ) : q3 r t g b j = ∑ i ∈ range 8192, er r t g b (256 + i) j * er r t g b (256 + i) j := by
  unfold q3
  rw [show 8448 = 256 + 8192 by rfl, sum_range_add, Finset.sum_eq_zero fun i hi => ?_, zero_add]
  rw [er_front _ _ _ _ _ _ (Finset.mem_range.1 hi), zero_mul]

end Res

end Cert.Spec11
-- ==== Proof.Pay11.lean ====
/- What the stored values of the last call's body are, as numbers, from the numbers of what they are made of. -/
module

public import proofs.«01_k».proof.Proof.Loss11
public import proofs.«01_k».proof.Proof.Gen.Kernel11Ideal.Skeleton
public import Idealize.ShloMosaic.Lib.Pointwise

@[expose] public section

set_option maxRecDepth 16384

noncomputable section

namespace Cert.Kernel11Ideal.Gen

open Idealize.ShloMosaic Cert.Calc Cert.Spec10 Cert.Spec11 Finset

/-- A row sum over 1024. -/
theorem mean_of {x : FVec Ideal S768x1024 .f32} {f : ℕ → ℕ → ℝ} (h : M2 x f) : M2 (divf (F := Ideal) (φ := .f32)
    (shapeCast S768x1 (multiReduction (F := Ideal) .add [1] S768 x 0x00000000#32 reduces_S768x1024_S768 (.inl rfl) rfl) shapeCasts_S768_S768x1)
    (broadcast S768x1 (Scalar.ofBits (F := Ideal) .f32 0x44800000#32))) (fun i _ => mean (f i)) :=
  M2.congr (M2.divf (φ := .f32) (M1.toCol (M2.sum1 (φ := .f32) h _ _ _) _) (M2.bcst bits_1024) (fun _ _ => by norm_num)) fun _ _ _ _ => rfl

/-- A column sum. -/
theorem colsum_of {x : FVec Ideal S768x1024 .f32} {f : ℕ → ℕ → ℝ} (h : M2 x f) : M2 (
    shapeCast S1x1024 (multiReduction (F := Ideal) .add [0] S1024 x 0x00000000#32 reduces_S768x1024_S1024 (.inl rfl) rfl) shapeCasts_S1024_S1x1024)
    (fun _ j => ∑ i ∈ range 768, f i j) :=
  M1.toRow (M2.sum0 (φ := .f32) h _ _ _) _

theorem over {x : FVec Ideal S768x1 .f32} {f : ℕ → ℝ} (h : M2 x fun i _ => f i) : M2 (broadcastTo S768x1024 x broadcasts_S768x1_S768x1024) (fun i _ => f i) :=
  M2.bacross h _ (by decide)

theorem under {x : FVec Ideal S1x1024 .f32} {f : ℕ → ℝ} (h : M2 x fun _ j => f j) : M2 (broadcastTo S768x1024 (shapeCast S1x1024 x shapeCasts_S1x1024_S1x1024) broadcasts_S1x1024_S768x1024) (fun _ j => f j) :=
  M2.bdown (M2.cast h _) _ (by decide)

variable {f e d : ℕ → ℕ → ℝ} {g b a : ℕ → ℝ}

theorem p2 : M2 (k0_pay2 (F := Ideal)) (fun _ _ => 0) := M2.bcst bits_zero
theorem p3 : M2 (k0_pay3 (F := Ideal)) (fun _ _ => 0) := M2.bcst bits_zero
theorem p4 : M2 (k0_pay4 (F := Ideal)) (fun _ _ => 0) := M2.bcst bits_zero

theorem p5 {v : Vec Ideal S768x1024 .f32} (h : M2 v f) : M2 (k0_pay5 (F := Ideal) v) (fun i j => xc (f i) j) :=
  M2.subf (φ := .f32) h (over (mean_of h))

theorem p6 {v : Vec Ideal S768x1024 .f32} (h : M2 v f) : M2 (k0_pay6 (F := Ideal) v) (fun i _ => rs (f i)) :=
  M2.rsqrt (φ := .f32) (f := fun i _ => vr (f i)) (M2.addf (φ := .f32) (mean_of (M2.mulf (φ := .f32) (p5 h) (p5 h))) (M2.bcst bits_eps)) fun i _ => vr_pos (f i)

theorem p7 {v : Vec Ideal S768x1024 .f32} (h : M2 v f) : M2 (k0_pay7 (F := Ideal) v) (fun i j => xh (f i) j) := M2.mulf (φ := .f32) (p5 h) (over (p6 h))

theorem p8 {v v34 : Vec Ideal S768x1024 .f32} {v20 v24 : Vec Ideal S1x1024 .f32} (h : M2 v f) (hg : M2 v20 fun _ j => g j) (hb : M2 v24 fun _ j => b j) (ht : M2 v34 d) :
    M2 (k0_pay8 (F := Ideal) v v20 v24 v34) (fun i j => xh (f i) j * g j + b j - d i j) :=
  M2.subf (φ := .f32) (M2.addf (φ := .f32) (M2.mulf (φ := .f32) (p7 h) (under hg)) (under hb)) (M2.cast ht _)

theorem p11 (i : grid0.Coords) {v36 : FVec Ideal S768x1024 .f32} (h : M2 v36 e) :
    M2 (k0_pay11 (F := Ideal) v36 (k0_pay9 i) k0_pay10) (fun x j => if 256 ≤ (i 0).val * 768 + x then e x j else 0) := fun x => by
  have hx : k0_pay11 (F := Ideal) v36 (k0_pay9 i) k0_pay10 x = if 256 ≤ (i 0).val * 768 + (x 0).val then v36 x else 0 := by
    pointwise [k0_pay11, k0_pay9, k0_pay10]
    exact if_congr (mask (i 0).val (x 0).val (i 0).isLt (x 0).isLt) rfl rfl
  rw [hx]
  by_cases hc : 256 ≤ (i 0).val * 768 + (x 0).val
  · simp only [if_pos hc]; exact h x
  · simp only [if_neg hc]; exact EReal.coe_zero.symm

section Err
variable {v36 v39 : FVec Ideal S768x1024 .f32} {v38 : IVec S768x1024 1} (he : M2 (k0_pay11 (F := Ideal) v36 v38 v39) e)
include he

theorem p12 {v : Vec Ideal S1x1024 .f32} (h : M2 v fun _ j => a j) : M2 (k0_pay12 (F := Ideal) v36 v38 v39 v) (fun _ j => a j + ∑ i ∈ range 768, e i j * e i j) :=
  M2.addf (φ := .f32) (M2.cast h _) (colsum_of (M2.mulf (φ := .f32) he he))

theorem p13 : M2 (k0_pay13 (F := Ideal) v36 v38 v39) (fun i j => e i j * (1 / 1024)) := M2.mulf (φ := .f32) he (M2.bcst bits_inv)

theorem p14 {v17 : FVec Ideal S768x1 .f32} {v19 : FVec Ideal S768x1024 .f32} {v50 : Vec Ideal S1x1024 .f32} (h17 : M2 v17 fun i _ => rs (f i))
    (h19 : M2 v19 fun i j => xh (f i) j) (hg : M2 v50 fun _ j => g j) :
    M2 (k0_pay14 (F := Ideal) v17 v19 v36 v38 v39 v50) (fun i j => lnb (f i) (fun j => e i j * (1 / 1024) * g j) j) := by
  have h53 := M2.mulf (φ := .f32) (p13 he) (under hg)
  exact M2.mulf (φ := .f32) (over h17) (M2.subf (φ := .f32) (M2.subf (φ := .f32) h53 (over (mean_of h53)))
    (M2.mulf (φ := .f32) h19 (over (mean_of (M2.mulf (φ := .f32) h53 h19)))))

theorem p15 {v19 : FVec Ideal S768x1024 .f32} {v : Vec Ideal S1x1024 .f32} (h19 : M2 v19 fun i j => xh (f i) j) (h : M2 v fun _ j => a j) :
    M2 (k0_pay15 (F := Ideal) v19 v36 v38 v39 v) (fun _ j => a j + ∑ i ∈ range 768, e i j * (1 / 1024) * xh (f i) j) :=
  M2.addf (φ := .f32) (M2.cast h _) (colsum_of (M2.mulf (φ := .f32) (p13 he) h19))

end Err

theorem p1 {v49 : FVec Ideal S768x1024 .f32} {v : Vec Ideal S1x1024 .f32} (hd : M2 v49 d) (h : M2 v fun _ j => a j) :
    M2 (k0_pay1 (F := Ideal) v49 v) (fun _ j => a j + ∑ i ∈ range 768, d i j) := M2.addf (φ := .f32) (M2.cast h _) (colsum_of hd)

end Cert.Kernel11Ideal.Gen
-- ==== Proof.Ref11.lean ====
/- The reference's four results of the last call, one operation at a time, as the numbers they are. -/
module

public import proofs.«01_k».proof.Proof.Loss11
public import proofs.«01_k».proof.Proof.Gen.Reference11Ideal.Run

@[expose] public section

set_option maxRecDepth 16384

noncomputable section

namespace Cert.Reference11Ideal.Term

open Cert.Reference11Ideal Cert.Reference11Ideal.Gen Idealize.ShloMosaic Idealize.ShloMosaic.TcCoe Idealize.SL.Sem Cert.Calc Cert.Spec10 Cert.Spec11 Finset

/-- The four arguments. -/
structure In where
  a0 : FVec Ideal S8448x1024 .f32
  a1 : FVec Ideal S8192x1024 .f32
  a2 : FVec Ideal S1024 .f32
  a3 : FVec Ideal S1024 .f32

/-- The arguments' numbers. -/
structure Nums where
  r : ℕ → ℕ → ℝ
  t : ℕ → ℕ → ℝ
  g : ℕ → ℝ
  b : ℕ → ℝ

structure Holds (A : Nums) (X : In) : Prop where
  h0 : M2 X.a0 A.r
  h1 : M2 X.a1 A.t
  h2 : M1 X.a2 A.g
  h3 : M1 X.a3 A.b

def cst (b : BitVec 32) : FVec Ideal S_ .f32 := constant S_ .f32 b
def one (x : FVec Ideal S8448x1024 .f32) : FVec Ideal S8448 .f32 := Host.reduceAdd x (cst 0x00000000#32) reducesTo_S8448x1024_S8448_d1 h_S_
def unit (x : FVec Ideal S8448x1 .f32) : FVec Ideal S8448x1024 .f32 :=
  broadcastInDim S8448x1024 ![0] bcast_S8448_S8448x1024_0 (Host.reduceAdd x (cst 0x00000000#32) reducesTo_S8448x1_S8448_d1 h_S_)
def sum0 (x : FVec Ideal S8448x1024 .f32) : FVec Ideal S1x1024 .f32 :=
  shapeCast S1x1024 (Host.reduceAdd x (cst 0x00000000#32) reducesTo_S8448x1024_S1024_d0 h_S_) shapeCasts_S1024_S1x1024
def sum00 (x : FVec Ideal S8448x1024 .f32) : FVec Ideal S1x1024 .f32 :=
  shapeCast S1x1024 (Host.reduceAdd (sum0 x) (cst 0x00000000#32) reducesTo_S1x1024_S1024_d0 h_S_) shapeCasts_S1024_S1x1024
def colw (x : FVec Ideal S8448 .f32) : FVec Ideal S8448x1 .f32 := broadcastInDim S8448x1 ![0] bcast_S8448_S8448x1_0 x
def colc (x : FVec Ideal S8448 .f32) : FVec Ideal S8448x1 .f32 := shapeCast S8448x1 x shapeCasts_S8448_S8448x1
def sp1 (b : BitVec 32) : FVec Ideal S8448x1 .f32 := broadcastInDim S8448x1 ![] bcast_S_S8448x1 (cst b)
def sp (b : BitVec 32) : FVec Ideal S8448x1024 .f32 := broadcastInDim S8448x1024 ![] bcast_S_S8448x1024 (cst b)
def over (x : FVec Ideal S8448x1 .f32) : FVec Ideal S8448x1024 .f32 := broadcastInDim S8448x1024 ![0, 1] bcast_S8448x1_S8448x1024_0_1 x
def under (x : FVec Ideal S1024 .f32) : FVec Ideal S8448x1024 .f32 :=
  broadcastInDim S8448x1024 ![0, 1] bcast_S1x1024_S8448x1024_0_1 (broadcastInDim S1x1024 ![1] bcast_S1024_S1x1024_1 x)

variable (X : In)

def t3 : FVec Ideal S8448x1 .f32 := Host.divf (colw (one X.a0)) (sp1 0x44800000#32)
def t5 : FVec Ideal S8448x1024 .f32 := subf X.a0 (over (t3 X))
def t8 : FVec Ideal S8448x1024 .f32 := mulf (sp 0x40000000#32) (t5 X)
def t16 : FVec Ideal S8448x1 .f32 := addf (Host.divf (colw (one (mulf (t5 X) (t5 X)))) (sp1 0x44800000#32)) (sp1 0x3727C5AC#32)
def t17 : FVec Ideal S8448x1 .f32 := Host.rsqrt (t16 X)
def t20 : FVec Ideal S8448x1 .f32 := mulf (sp1 0xBF000000#32) (Host.divf (t17 X) (t16 X))
def t22 : FVec Ideal S8448x1024 .f32 := mulf (t5 X) (over (t17 X))
def t30 : FVec Ideal S8192x1024 .f32 := subf (extractStridedSlice S8192x1024 ![256, 0] (addf (mulf (t22 X) (under X.a2)) (under X.a3)) slices_S8448x1024_S8192x1024_256_0) X.a1
def t33 : FVec Ideal S8192x1024 .f32 := mulf (broadcastInDim S8192x1024 ![] bcast_S_S8192x1024 (cst 0x40000000#32)) (t30 X)
def t42 : FVec Ideal S8192 .f32 := Host.divf (broadcastInDim S8192 ![] bcast_S_S8192 (mulf (cst 0x3F000000#32) (cst 0x3F800000#32))) (broadcastInDim S8192 ![] bcast_S_S8192 (cst 0x44800000#32))
def t44 : FVec Ideal S8192x1024 .f32 := mulf (broadcastInDim S8192x1024 ![0] bcast_S8192_S8192x1024_0 t42) (t33 X)
def t45 : FVec Ideal S8448x1024 .f32 := pad S8448x1024 ![256, 0] ![0, 0] ![0, 0] (t44 X) (cst 0x00000000#32) pads_S8192x1024_S8448x1024_25600_000 h_S_
def t53 : FVec Ideal S8448x1024 .f32 := mulf (t45 X) (under X.a2)
def t59 : FVec Ideal S8448x1024 .f32 := mulf (t53 X) (over (t17 X))
def t65 : FVec Ideal S8448x1 .f32 := Host.divf (mulf (colc (one (mulf (t5 X) (t53 X)))) (t20 X)) (sp1 0x44800000#32)
def t68 : FVec Ideal S8448x1024 .f32 := mulf (unit (t65 X)) (t8 X)
def t75 : FVec Ideal S8448x1 .f32 := Host.divf (addf (colc (one (Host.negf (t59 X)))) (colc (one (Host.negf (t68 X))))) (sp1 0x44800000#32)
def R0 : FVec Ideal S8448x1024 .f32 := addf (addf (t59 X) (t68 X)) (unit (t75 X))
def R1 : FVec Ideal S1x1024 .f32 := sum00 (mulf (t22 X) (t45 X))
def R2 : FVec Ideal S1x1024 .f32 := sum00 (t45 X)
def R3 : FVec Ideal S1x1024 .f32 := broadcastInDim S1x1024 ![1] bcast_S1024_S1x1024_1 (Host.reduceAdd (mulf (t30 X) (t30 X)) (cst 0x00000000#32) reducesTo_S8192x1024_S1024_d0 h_S_)

theorem h_cst {b : BitVec 32} {r : ℝ} (h : Ideal.ofBits .f32 b = (r : EReal)) : M0 (cst b) r := M0.const h

section Parts
variable {f : ℕ → ℕ → ℝ}
theorem h_one {x : FVec Ideal S8448x1024 .f32} (h : M2 x f) : M1 (one x) (fun i => ∑ j ∈ range 1024, f i j) := M2.hsum1 (φ := .f32) h (h_cst bits_zero) _ (by decide) _
theorem h_unit {x : FVec Ideal S8448x1 .f32} (h : M2 x f) : M2 (unit x) (fun i _ => f i 0) :=
  M2.congr (M1.col (M2.hsum1 (φ := .f32) h (h_cst bits_zero) _ (by decide) _) _ (by decide)) fun i j _ _ => by simp
theorem h_sum0 {x : FVec Ideal S8448x1024 .f32} (h : M2 x f) : M2 (sum0 x) (fun _ j => ∑ i ∈ range 8448, f i j) := M1.toRow (M2.hsum0 (φ := .f32) h (h_cst bits_zero) _ (by decide) _) _
theorem h_sum00 {x : FVec Ideal S8448x1024 .f32} (h : M2 x f) : M2 (sum00 x) (fun _ j => ∑ i ∈ range 8448, f i j) :=
  M2.congr (M1.toRow (M2.hsum0 (φ := .f32) (h_sum0 h) (h_cst bits_zero) _ (by decide) _) _) fun i j _ _ => by simp
theorem h_colw {x : FVec Ideal S8448 .f32} {f : ℕ → ℝ} (h : M1 x f) : M2 (colw x) (fun i _ => f i) := M1.col h _ (by decide)
theorem h_colc {x : FVec Ideal S8448 .f32} {f : ℕ → ℝ} (h : M1 x f) : M2 (colc x) (fun i _ => f i) := M1.toCol h _
theorem h_sp1 {b : BitVec 32} {r : ℝ} (h : Ideal.ofBits .f32 b = (r : EReal)) : M2 (sp1 b) (fun _ _ => r) := M2.splat (h_cst h) _
theorem h_sp {b : BitVec 32} {r : ℝ} (h : Ideal.ofBits .f32 b = (r : EReal)) : M2 (sp b) (fun _ _ => r) := M2.splat (h_cst h) _
theorem h_over {x : FVec Ideal S8448x1 .f32} {f : ℕ → ℝ} (h : M2 x fun i _ => f i) : M2 (over x) (fun i _ => f i) := M2.across h _ (by decide)
theorem h_under {x : FVec Ideal S1024 .f32} {f : ℕ → ℝ} (h : M1 x f) : M2 (under x) (fun _ j => f j) := M2.down (M1.row h _ (by decide)) _ (by decide)
end Parts

theorem d1 {n : ℕ} {x y : FVec Ideal (T1 n) .f32} {f g : ℕ → ℝ} (h : M1 x f) (h' : M1 y g) (hg : ∀ i, g i ≠ 0) : M1 (Host.divf x y) (fun i => f i / g i) := fun i => by
  show Ideal.div (x i) (y i) = _
  rw [h i, h' i, div_coe _ _ (hg _)]

theorem m0 {x y : FVec Ideal T0 .f32} {a b : ℝ} (h : M0 x a) (h' : M0 y b) : M0 (mulf x y) (a * b) := fun i => by
  show (x i * y i : EReal) = _
  rw [h i, h' i, EReal.coe_mul]

theorem s42 : M1 t42 (fun _ => 1 / 2 * 1 / 1024) :=
  d1 (M1.splat (m0 (h_cst bits_half) (h_cst bits_one)) _) (M1.splat (h_cst bits_1024) _) fun _ => by norm_num

variable {X} {A : Nums} (H : Holds A X)
include H

theorem s3 : M2 (t3 X) (fun i _ => mean (A.r i)) := M2.congr (M2.hdivf (φ := .f32) (h_colw (h_one H.h0)) (h_sp1 bits_1024) fun _ _ => by norm_num) fun _ _ _ _ => rfl
theorem s5 : M2 (t5 X) (fun i j => xc (A.r i) j) := M2.subf (φ := .f32) H.h0 (h_over (s3 H))
theorem s8 : M2 (t8 X) (fun i j => 2 * xc (A.r i) j) := M2.mulf (φ := .f32) (h_sp bits_two) (s5 H)
theorem s16 : M2 (t16 X) (fun i _ => vr (A.r i)) := M2.congr (M2.addf (φ := .f32) (M2.hdivf (φ := .f32) (h_colw (h_one (M2.mulf (φ := .f32) (s5 H) (s5 H)))) (h_sp1 bits_1024) fun _ _ => by norm_num) (h_sp1 bits_eps)) fun _ _ _ _ => rfl
theorem s17 : M2 (t17 X) (fun i _ => rs (A.r i)) := M2.hrsqrt (φ := .f32) (s16 H) fun _ _ => vr_pos _
theorem s20 : M2 (t20 X) (fun i _ => -1 / 2 * (rs (A.r i) / vr (A.r i))) := M2.mulf (φ := .f32) (h_sp1 bits_neg_half) (M2.hdivf (φ := .f32) (s17 H) (s16 H) fun _ _ => (vr_pos _).ne')
theorem s22 : M2 (t22 X) (fun i j => xh (A.r i) j) := M2.mulf (φ := .f32) (s5 H) (h_over (s17 H))
theorem s30 : M2 (t30 X) (fun i j => er A.r A.t A.g A.b (256 + i) j) :=
  M2.congr (M2.subf (φ := .f32) (M2.slice (M2.addf (φ := .f32) (M2.mulf (φ := .f32) (s22 H) (h_under H.h2)) (h_under H.h3)) 256 0 _) H.h1) fun i j _ _ => by
    rw [er_back, Nat.zero_add]
theorem s33 : M2 (t33 X) (fun i j => 2 * er A.r A.t A.g A.b (256 + i) j) := M2.mulf (φ := .f32) (M2.splat (h_cst bits_two) _) (s30 H)
theorem s44 : M2 (t44 X) (fun i j => 1 / 2 * 1 / 1024 * (2 * er A.r A.t A.g A.b (256 + i) j)) := M2.mulf (φ := .f32) (M1.col s42 _ (by decide)) (s33 H)
theorem s45 : M2 (t45 X) (fun i j => dy A.r A.t A.g A.b i j) := M2.congr (M2.pad (s44 H) (h_cst bits_zero) _ _) fun i j hi hj => by
  unfold dy
  by_cases h : 256 ≤ i
  · rw [if_pos ⟨⟨h, by omega⟩, Nat.zero_le _, by omega⟩, Nat.sub_zero, Nat.add_sub_cancel' h]
    ring
  · rw [if_neg fun hc => h hc.1.1, er_front _ _ _ _ _ _ (by omega), zero_mul]
theorem s53 : M2 (t53 X) (fun i j => dy A.r A.t A.g A.b i j * A.g j) := M2.mulf (φ := .f32) (s45 H) (h_under H.h2)
theorem s59 : M2 (t59 X) (fun i j => dy A.r A.t A.g A.b i j * A.g j * rs (A.r i)) := M2.mulf (φ := .f32) (s53 H) (h_over (s17 H))
theorem s65 : M2 (t65 X) (fun i _ => qv (A.r i) (fun j => dy A.r A.t A.g A.b i j * A.g j)) :=
  M2.congr (M2.hdivf (φ := .f32) (M2.mulf (φ := .f32) (h_colc (h_one (M2.mulf (φ := .f32) (s5 H) (s53 H)))) (s20 H)) (h_sp1 bits_1024) fun _ _ => by norm_num) fun _ _ _ _ => rfl
theorem s68 : M2 (t68 X) (fun i j => qv (A.r i) (fun j => dy A.r A.t A.g A.b i j * A.g j) * (2 * xc (A.r i) j)) := M2.mulf (φ := .f32) (h_unit (s65 H)) (s8 H)
theorem s75 : M2 (t75 X) (fun i _ => ((∑ j ∈ range 1024, -(dy A.r A.t A.g A.b i j * A.g j * rs (A.r i))) + ∑ j ∈ range 1024, -(qv (A.r i) (fun j => dy A.r A.t A.g A.b i j * A.g j) * (2 * xc (A.r i) j))) / 1024) :=
  M2.hdivf (φ := .f32) (M2.addf (φ := .f32) (h_colc (h_one (M2.hnegf (φ := .f32) (s59 H)))) (h_colc (h_one (M2.hnegf (φ := .f32) (s68 H))))) (h_sp1 bits_1024) fun _ _ => by norm_num
theorem sR0 : M2 (R0 X) (fun i j => q0 A.r A.t A.g A.b i j) :=
  M2.congr (M2.addf (φ := .f32) (M2.addf (φ := .f32) (s59 H) (s68 H)) (h_unit (s75 H))) fun i j _ _ => lnb_eq (A.r i) (fun j => dy A.r A.t A.g A.b i j * A.g j) j
theorem sR1 : M2 (R1 X) (fun _ j => q1 A.r A.t A.g A.b j) :=
  M2.congr (h_sum00 (M2.mulf (φ := .f32) (s22 H) (s45 H))) fun i j _ _ => Finset.sum_congr rfl fun _ _ => mul_comm _ _
theorem sR2 : M2 (R2 X) (fun _ j => q2 A.r A.t A.g A.b j) := h_sum00 (s45 H)
theorem sR3 : M2 (R3 X) (fun _ j => q3 A.r A.t A.g A.b j) :=
  M2.congr (M1.row (M2.hsum0 (φ := .f32) (M2.mulf (φ := .f32) (s30 H) (s30 H)) (h_cst bits_zero) _ (by decide) _) _ (by decide)) fun _ j _ _ => (q3_eq _ _ _ _ j).symm

omit H
variable (m : (ℓ : Loc nD τ sig) → Buf (Elt Ideal) ℓ)

/-- The arguments in memory. -/
def inp (c : Dev nD) : In := ⟨m ((c.tc : Thread nD τ).loc main_arg0), m ((c.tc : Thread nD τ).loc main_arg1), m ((c.tc : Thread nD τ).loc main_arg2),
  m ((c.tc : Thread nD τ).loc main_arg3)⟩

theorem run (ρ : Dev nD → PrngReg) :
    θ_run defs (onTc (τ := τ) (main (F := Ideal))) ⟨m, fun _ => 0, ρ⟩ fun r => ∀ c : Dev nD,
      r.2.mem ((c.tc : Thread nD τ).loc main_v78) = R0 (inp m c) ∧ r.2.mem ((c.tc : Thread nD τ).loc main_v79) = R1 (inp m c)
      ∧ r.2.mem ((c.tc : Thread nD τ).loc main_v80) = R2 (inp m c) ∧ r.2.mem ((c.tc : Thread nD τ).loc main_v109) = R3 (inp m c)
      ∧ r.2.mem ((c.tc : Thread nD τ).loc main_arg0) = m ((c.tc : Thread nD τ).loc main_arg0) ∧ r.2.mem ((c.tc : Thread nD τ).loc main_arg1) = m ((c.tc : Thread nD τ).loc main_arg1)
      ∧ r.2.mem ((c.tc : Thread nD τ).loc main_arg2) = m ((c.tc : Thread nD τ).loc main_arg2) ∧ r.2.mem ((c.tc : Thread nD τ).loc main_arg3) = m ((c.tc : Thread nD τ).loc main_arg3) :=
  (θ_run defs _ _).mono (fun _ h c => ⟨(h c).1.trans (by unfold Value.res_main_v78; rfl), (h c).2.1.trans (by unfold Value.res_main_v79; rfl), (h c).2.2.1.trans (by rfl),
    (h c).2.2.2.1.trans (by unfold Value.res_main_v109; rfl), (h c).2.2.2.2⟩)
    (Value.run m ρ)

end Cert.Reference11Ideal.Term
-- ==== Proof.In11.lean ====
/- The last call: the numbers of a point's blocks, what a point stores, the sums over the points, and the four arrays after the last one. -/
module

public import proofs.«01_k».proof.Proof.Gen.Kernel11Ideal.Value
public import proofs.«01_k».proof.Proof.Pay11
public import proofs.«01_k».proof.Proof.Ref11
public import Idealize.ShloMosaic.Lib.StableHlo.RunRead

@[expose] public section

set_option maxRecDepth 16384

noncomputable section

namespace Cert.Kernel11Ideal.Ln

open Cert.Kernel11Ideal Cert.Kernel11Ideal.Gen Idealize.ShloMosaic Idealize.ShloMosaic.StableHlo Idealize.ShloMosaic.TcCoe Idealize.SL.Sem
open Idealize.ShloMosaic.Pipeline (Dat)
open Cert.Calc Cert.Spec10 Cert.Spec11 Finset
open Cert.Reference11Ideal.Term (In Nums Holds)

theorem idx : ∀ t : Fin cfg0.N, win0_0.index t = ![t.val, 0] ∧ win0_1.index t = ![t.val, 0] ∧ win0_2.index t = ![0, 0] ∧ win0_3.index t = ![0, 0]
    ∧ win0_4.index t = ![t.val, 0] ∧ win0_5.index t = ![0, 0] ∧ win0_6.index t = ![0, 0] ∧ win0_7.index t = ![0, 0] ∧ t.val ≤ 10 :=
  (by decide +kernel : ∀ t : Fin grid0.N, _)

theorem coord : ∀ t : Fin cfg0.N, (grid0.coords t 0 : ℕ) = t.val :=
  (by decide +kernel : ∀ t : Fin grid0.N, _)

variable {m : (ℓ : Loc nD τ sig) → Buf (Elt Ideal) ℓ} {c : Dev nD}

variable (m c) in
/-- The arguments in memory. -/
def inp : In := ⟨m ((c : Thread nD τ).loc main_arg0), m ((c : Thread nD τ).loc main_arg1), m ((c : Thread nD τ).loc main_arg2),
  m ((c : Thread nD τ).loc main_arg3)⟩

variable {A : Nums} (H : Holds A (inp m c))
include H

theorem hv1 : M2 (n := 8448) (m := 1024) (V m c main_v1) (tt A.t) := by
  unfold V
  after_reads_simp
  have z : M2 (n := 256) (m := 1024) (upto hostOps0 (fun b => m (c, b)) 2 (Proc.tc.devRef main_v0)) (fun _ _ => 0) := by
    after_reads_simp
    exact M2.splat (M0.const bits_zero) bcast_S_S256x1024
  have w : M2 (n := 8192) (m := 1024) (upto hostOps0 (fun b => m (c, b)) 2 (Proc.tc.devRef main_arg1)) A.t := by
    after_reads_simp
    exact H.h1
  exact M2.congr (M2.concat z w _) fun _ _ _ _ => rfl

theorem hv2 : M2 (n := 1) (m := 1024) (V m c main_v2) (fun _ j => A.g j) := by
  unfold V
  after_reads_simp
  exact M1.toRow H.h2 _

theorem hv3 : M2 (n := 1) (m := 1024) (V m c main_v3) (fun _ j => A.b j) := by
  unfold V
  after_reads_simp
  exact M1.toRow H.h3 _

theorem b0 (t : Fin cfg0.N) : M2 (n := 768) (m := 1024) (iblk m c 0 t) (fun i => A.r (t.val * 768 + i)) := fun i => by
  refine (H.h0 (((cfg0.win 0).blk t).view.emb i)).trans ?_
  blk_simp [idx t]

theorem b1 (t : Fin cfg0.N) : M2 (n := 768) (m := 1024) (iblk m c 1 t) (fun i j => tt A.t (t.val * 768 + i) j) := fun i => by
  refine (hv1 H (((cfg0.win 1).blk t).view.emb i)).trans ?_
  blk_simp [idx t]

theorem b2 (t : Fin cfg0.N) : M2 (n := 1) (m := 1024) (iblk m c 2 t) (fun _ j => A.g j) := fun i => by
  refine (hv2 H (((cfg0.win 2).blk t).view.emb i)).trans ?_
  blk_simp [idx t]

theorem b3 (t : Fin cfg0.N) : M2 (n := 1) (m := 1024) (iblk m c 3 t) (fun _ j => A.b j) := fun i => by
  refine (hv3 H (((cfg0.win 3).blk t).view.emb i)).trans ?_
  blk_simp [idx t]

/-- The error of a block's rows. -/
theorem e0 (t : Fin cfg0.N) : M2 (n := 768) (m := 1024) (k0_pay11 (F := Ideal) (k0_pay8 (iblk m c 0 t) (iblk m c 2 t) (iblk m c 3 t) (iblk m c 1 t)) (k0_pay9 (grid0.coords t)) k0_pay10)
    (fun i j => er A.r A.t A.g A.b (t.val * 768 + i) j) :=
  M2.congr (p11 (grid0.coords t) (p8 (b0 H t) (b2 H t) (b3 H t) (b1 H t))) fun i j _ _ => by
    rw [coord t]; rfl

theorem out4 (t : Fin cfg0.N) : M2 (n := 768) (m := 1024) (outsAt0 m c t.val t.isLt).1 (fun i j => q0 A.r A.t A.g A.b (t.val * 768 + i) j) := by
  by_cases h : t.val % 11 = 0
  · rw [outsAt0_A m c t h]; frame_out
    exact p14 (e0 H t) (p6 (b0 H t)) (p7 (b0 H t)) (b2 H t)
  · rw [outsAt0_B m c t h]; frame_out
    exact p14 (e0 H t) (p6 (b0 H t)) (p7 (b0 H t)) (b2 H t)

omit H in
/-- One block more of a sum over the rows. -/
theorem more (f : ℕ → ℝ) (p : ℕ) : (∑ i ∈ range (p * 768), f i) + (∑ i ∈ range 768, f (p * 768 + i)) = ∑ i ∈ range ((p + 1) * 768), f i := by
  rw [show (p + 1) * 768 = p * 768 + 768 by ring, sum_range_add]

omit H in
theorem first (f : ℕ → ℝ) : (0 : ℝ) + (∑ i ∈ range 768, f (0 * 768 + i)) = ∑ i ∈ range ((0 + 1) * 768), f i :=
  (congrArg (· + _) (by simp)).trans (more f 0)

/-- The sums after a point: over the rows of the blocks so far. -/
theorem sums (n : ℕ) (hn : n < cfg0.N) : M2 (n := 1) (m := 1024) (outsAt0 m c n hn).2.1 (fun _ j => ∑ i ∈ range ((n + 1) * 768), dy A.r A.t A.g A.b i j * xh (A.r i) j)
    ∧ M2 (n := 1) (m := 1024) (outsAt0 m c n hn).2.2.1 (fun _ j => ∑ i ∈ range ((n + 1) * 768), dy A.r A.t A.g A.b i j)
    ∧ M2 (n := 1) (m := 1024) (outsAt0 m c n hn).2.2.2 (fun _ j => ∑ i ∈ range ((n + 1) * 768), er A.r A.t A.g A.b i j * er A.r A.t A.g A.b i j) := by
  induction n with
  | zero =>
    refine ⟨?_, ?_, ?_⟩
    · rw [outsAt0_A m c ⟨0, hn⟩ rfl]; frame_out
      exact M2.congr (p15 (e0 H ⟨0, hn⟩) (p7 (b0 H ⟨0, hn⟩)) p2) fun _ j _ _ => first (fun i => dy A.r A.t A.g A.b i j * xh (A.r i) j)
    · rw [outsAt0_A m c ⟨0, hn⟩ rfl]; frame_out
      exact M2.congr (p1 (p13 (e0 H ⟨0, hn⟩)) p3) fun _ j _ _ => first (fun i => dy A.r A.t A.g A.b i j)
    · rw [outsAt0_A m c ⟨0, hn⟩ rfl]; frame_out
      exact M2.congr (p12 (e0 H ⟨0, hn⟩) p4) fun _ j _ _ => first (fun i => er A.r A.t A.g A.b i j * er A.r A.t A.g A.b i j)
  | succ n ih =>
    have hN : n + 1 < 11 := lt_of_lt_of_eq hn N_0
    have h : ¬ (n + 1) % 11 = 0 := by omega
    obtain ⟨i0, i1, i2⟩ := ih (Nat.lt_of_succ_lt hn)
    refine ⟨?_, ?_, ?_⟩
    · rw [outsAt0_B m c ⟨n + 1, hn⟩ h]; frame_out
      exact M2.congr (p15 (e0 H ⟨n + 1, hn⟩) (p7 (b0 H ⟨n + 1, hn⟩)) i0) fun _ j _ _ => more (fun i => dy A.r A.t A.g A.b i j * xh (A.r i) j) (n + 1)
    · rw [outsAt0_B m c ⟨n + 1, hn⟩ h]; frame_out
      exact M2.congr (p1 (p13 (e0 H ⟨n + 1, hn⟩)) i1) fun _ j _ _ => more (fun i => dy A.r A.t A.g A.b i j) (n + 1)
    · rw [outsAt0_B m c ⟨n + 1, hn⟩ h]; frame_out
      exact M2.congr (p12 (e0 H ⟨n + 1, hn⟩) i2) fun _ j _ _ => more (fun i => er A.r A.t A.g A.b i j * er A.r A.t A.g A.b i j) (n + 1)

theorem f4 : M2 (n := 8448) (m := 1024) ((dats m 0 c).arrAt 4 cfg0.N) (q0 A.r A.t A.g A.b) := fun i => by
  have e : (dats m 0 c).arrAt 4 cfg0.N = fun i : (T2 8448 1024).Idx => ((q0 A.r A.t A.g A.b (i 0).val (i 1).val : ℝ) : EReal) := by
    refine (dats m 0 c).arrAt_eq_of_covers 4 _ (by decide +kernel) fun t hf y => ?_
    blk_simp
    rw [after0_4]
    refine (out4 H t _).trans ?_
    blk_simp [idx t]
  exact congrFun e i

theorem f5 : M2 (n := 1) (m := 1024) ((dats m 0 c).arrAt 5 cfg0.N) (fun _ j => q1 A.r A.t A.g A.b j) := fun i => by
  have e : (dats m 0 c).arrAt 5 cfg0.N = fun i : (T2 1 1024).Idx => ((q1 A.r A.t A.g A.b (i 1).val : ℝ) : EReal) := by
    refine (dats m 0 c).arrAt_eq_of_covers 5 _ (by decide +kernel) fun t hf y => ?_
    have hl := (flush0_5 t).1 hf
    have hc := (idx t).2.2.2.2.2.2.2.2
    blk_simp
    rw [after0_5]
    refine ((sums H t.val t.isLt).1 _).trans ?_
    rw [show (t.val + 1) * 768 = 8448 by omega]
    blk_simp [idx t, q1]
  exact congrFun e i

theorem f6 : M2 (n := 1) (m := 1024) ((dats m 0 c).arrAt 6 cfg0.N) (fun _ j => q2 A.r A.t A.g A.b j) := fun i => by
  have e : (dats m 0 c).arrAt 6 cfg0.N = fun i : (T2 1 1024).Idx => ((q2 A.r A.t A.g A.b (i 1).val : ℝ) : EReal) := by
    refine (dats m 0 c).arrAt_eq_of_covers 6 _ (by decide +kernel) fun t hf y => ?_
    have hl := (flush0_6 t).1 hf
    have hc := (idx t).2.2.2.2.2.2.2.2
    blk_simp
    rw [after0_6]
    refine ((sums H t.val t.isLt).2.1 _).trans ?_
    rw [show (t.val + 1) * 768 = 8448 by omega]
    blk_simp [idx t, q2]
  exact congrFun e i

theorem f7 : M2 (n := 1) (m := 1024) ((dats m 0 c).arrAt 7 cfg0.N) (fun _ j => q3 A.r A.t A.g A.b j) := fun i => by
  have e : (dats m 0 c).arrAt 7 cfg0.N = fun i : (T2 1 1024).Idx => ((q3 A.r A.t A.g A.b (i 1).val : ℝ) : EReal) := by
    refine (dats m 0 c).arrAt_eq_of_covers 7 _ (by decide +kernel) fun t hf y => ?_
    have hl := (flush0_7 t).1 hf
    have hc := (idx t).2.2.2.2.2.2.2.2
    blk_simp
    rw [after0_7]
    refine ((sums H t.val t.isLt).2.2 _).trans ?_
    rw [show (t.val + 1) * 768 = 8448 by omega]
    blk_simp [idx t, q3]
  exact congrFun e i

end Cert.Kernel11Ideal.Ln

end
-- ==== Proof.Eq11.lean ====
/- The last call: the kernel's four arrays are the reference's. -/
module

public import proofs.«01_k».proof.Proof.In11
public import proofs.«01_k».proof.Proof.Finite
public import proofs.«01_k».proof.Defs
public import proofs.«01_k».proof.Proof.Gen.Pre_finite_loss
public import proofs.«01_k».proof.Proof.Gen.Kernel11Ideal.Frame

@[expose] public section

set_option maxRecDepth 16384

noncomputable section

namespace Cert.Spec11

open Idealize.ShloMosaic Idealize.ShloMosaic.TcCoe Idealize.SL.Sem Cert.Calc Cert.Spec
open Cert.Reference11Ideal.Term (In Nums)

/-- The numbers of the four arguments. -/
def nums (X : In) : Nums := ⟨num2 X.a0, num2 X.a1, num1 X.a2, num1 X.a3⟩

theorem holds_of_finite (X : In)
    (h0 : (Cert.Pre_finite_loss.fn (F := Ideal) X.a0 X.a1 X.a2 X.a3).1 = fun _ => 1#1)
    (h1 : (Cert.Pre_finite_loss.fn (F := Ideal) X.a0 X.a1 X.a2 X.a3).2.1 = fun _ => 1#1)
    (h2 : (Cert.Pre_finite_loss.fn (F := Ideal) X.a0 X.a1 X.a2 X.a3).2.2.1 = fun _ => 1#1)
    (h3 : (Cert.Pre_finite_loss.fn (F := Ideal) X.a0 X.a1 X.a2 X.a3).2.2.2 = fun _ => 1#1) :
    Cert.Reference11Ideal.Term.Holds (nums X) X :=
  ⟨num2_holds (real_of_ones _ h0), num2_holds (real_of_ones _ h1), num1_holds (real_of_ones _ h2), num1_holds (real_of_ones _ h3)⟩

theorem value : Cert.algebraic_Kernel11Ideal_Reference11Ideal_pre_finite_loss := fun m ρ m' ρ' hpre harg => by
  have H : ∀ c, Cert.Reference11Ideal.Term.Holds (nums (Cert.Kernel11Ideal.Ln.inp m c)) (Cert.Kernel11Ideal.Ln.inp m c) := fun c =>
    holds_of_finite _ (hpre c).1 (hpre c).2.1 (hpre c).2.2.1 (hpre c).2.2.2
  have L : ∀ c, Cert.Reference11Ideal.Term.inp m' c = Cert.Kernel11Ideal.Ln.inp m c := fun c => by
    obtain ⟨a0, a1, a2, a3⟩ := harg c
    exact In.mk.injEq .. |>.mpr ⟨a0, a1, a2, a3⟩
  refine ⟨fun c => (Cert.Kernel11Ideal.Gen.dats m 0 c).arrAt 4 Cert.Kernel11Ideal.cfg0.N,
    fun c => (Cert.Kernel11Ideal.Gen.dats m 0 c).arrAt 5 Cert.Kernel11Ideal.cfg0.N,
    fun c => (Cert.Kernel11Ideal.Gen.dats m 0 c).arrAt 6 Cert.Kernel11Ideal.cfg0.N,
    fun c => (Cert.Kernel11Ideal.Gen.dats m 0 c).arrAt 7 Cert.Kernel11Ideal.cfg0.N, Cert.Kernel11Ideal.Value.run_blocks (F := Ideal) m ρ, ?_⟩
  refine (θ_run Cert.Reference11Ideal.defs _ _).mono (fun r h c => ?_) (Cert.Reference11Ideal.Term.run m' ρ')
  obtain ⟨e0, e1, e2, e3, ha⟩ := h c
  rw [L c] at e0 e1 e2 e3
  exact ⟨e0.trans (M2.ext (Cert.Reference11Ideal.Term.sR0 (H c)) (Cert.Kernel11Ideal.Ln.f4 (H c))),
    e1.trans (M2.ext (Cert.Reference11Ideal.Term.sR1 (H c)) (Cert.Kernel11Ideal.Ln.f5 (H c))),
    e2.trans (M2.ext (Cert.Reference11Ideal.Term.sR2 (H c)) (Cert.Kernel11Ideal.Ln.f6 (H c))),
    e3.trans (M2.ext (Cert.Reference11Ideal.Term.sR3 (H c)) (Cert.Kernel11Ideal.Ln.f7 (H c))), ha⟩

theorem frame : Cert.quiescent_Reference11Ideal := fun m ρ _ =>
  (θ_run Cert.Reference11Ideal.defs _ _).mono
    (fun r h => ⟨fun c => (h c).2.2.2.2, sem_eq_zero_of_no_sems (by decide) r.2⟩) (Cert.Reference11Ideal.Value.run (F := Ideal) m ρ)

end Cert.Spec11

end
-- ==== Proof.Track.lean ====
/- The run of the convolution branch's backward kernel: what each grid point leaves in its output blocks and in the
   carried halo rows (`St`), point by point, the body's triple at every point, and the run of the whole program with
   each output array named by what the points wrote back. -/
module

public import proofs.«01_k».proof.Proof.Gen.KernelIdeal.Frame.RunB
public import Idealize.ShloMosaic.Lib.Claim

@[expose] public section

set_option maxRecDepth 16384

noncomputable section

namespace Cert.KernelIdeal.Track

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What a grid point leaves behind: its seven output blocks and the rows handed on to the next point. -/
structure St (F : FTy → Type) where
  o10 : Vec F S768x256 .bf16
  o11 : Vec F S768x256 .bf16
  o12 : Vec F S32x256 .f32
  o13 : Vec F S1x256 .f32
  o14 : Vec F S1x256 .f32
  o15 : Vec F S1x256 .f32
  o16 : Vec F S256x256 .f32
  sc : Vec F S800x256 .f32

/-- The body's run at the first point. -/
def rA (c : Dev nD) (t : Fin cfg0.N) (h : t.val % 11 = 0) :=
  kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) scM0_1 (Memref.isWhole_whole _) ((hcond0_0 t).mpr h) (iblk m c 0 t) (iblk m c 1 t) (iblk m c 2 t) (iblk m c 3 t) (iblk m c 4 t) (iblk m c 5 t) (iblk m c 6 t) (iblk m c 7 t) (iblk m c 8 t) (iblk m c 9 t)

/-- The body's run at a later point, from what the point before left. -/
def rB (c : Dev nD) (t : Fin cfg0.N) (h : ¬t.val % 11 = 0) (p : St F) :=
  kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) scM0_1 (Memref.isWhole_whole _) (fun h' => h ((hcond0_0 t).mp h')) (iblk m c 0 t) (iblk m c 1 t) (iblk m c 2 t) (iblk m c 3 t) (iblk m c 4 t) (iblk m c 5 t) (iblk m c 6 t) (iblk m c 7 t) (iblk m c 8 t) (iblk m c 9 t) p.o12 p.o13 p.o14 p.o15 p.o16 p.sc

theorem covA_o10 (c : Dev nD) (t : Fin cfg0.N) (h : t.val % 11 = 0) (y : S768x256.Idx) :
    ∃ pc ∈ (rA m c t h).1, y ∈ pc.1.set :=
  View.cover_of_tiledL (rA m c t h).1 S768x256.size (by sl_kernel_rfl) y

def eA_o10 (c : Dev nD) (t : Fin cfg0.N) (h : t.val % 11 = 0) : Vec F S768x256 .bf16 :=
  VO0_10.read (Elt F) (VO0_10.writes (Elt F) VO0_10.junk (rA m c t h).1)

theorem covA_o11 (c : Dev nD) (t : Fin cfg0.N) (h : t.val % 11 = 0) (y : S768x256.Idx) :
    ∃ pc ∈ (rA m c t h).2.1, y ∈ pc.1.set :=
  View.cover_of_tiledL (rA m c t h).2.1 S768x256.size (by sl_kernel_rfl) y

def eA_o11 (c : Dev nD) (t : Fin cfg0.N) (h : t.val % 11 = 0) : Vec F S768x256 .bf16 :=
  VO0_11.read (Elt F) (VO0_11.writes (Elt F) VO0_11.junk (rA m c t h).2.1)

theorem covA_o12 (c : Dev nD) (t : Fin cfg0.N) (h : t.val % 11 = 0) (y : S32x256.Idx) :
    ∃ pc ∈ (rA m c t h).2.2.1, y ∈ pc.1.set :=
  View.cover_of_tiledBy (rA m c t h).2.2.1 ![1, 256] (by sl_kernel_rfl) y

def eA_o12 (c : Dev nD) (t : Fin cfg0.N) (h : t.val % 11 = 0) : Vec F S32x256 .f32 :=
  VO0_12.read (Elt F) (VO0_12.writes (Elt F) VO0_12.junk (rA m c t h).2.2.1)

theorem covA_o13 (c : Dev nD) (t : Fin cfg0.N) (h : t.val % 11 = 0) (y : S1x256.Idx) :
    ∃ pc ∈ (rA m c t h).2.2.2.1, y ∈ pc.1.set :=
  View.cover_of_tiledL (rA m c t h).2.2.2.1 S1x256.size (by sl_kernel_rfl) y

def eA_o13 (c : Dev nD) (t : Fin cfg0.N) (h : t.val % 11 = 0) : Vec F S1x256 .f32 :=
  VO0_13.read (Elt F) (VO0_13.writes (Elt F) VO0_13.junk (rA m c t h).2.2.2.1)

theorem covA_o14 (c : Dev nD) (t : Fin cfg0.N) (h : t.val % 11 = 0) (y : S1x256.Idx) :
    ∃ pc ∈ (rA m c t h).2.2.2.2.1, y ∈ pc.1.set :=
  View.cover_of_tiledL (rA m c t h).2.2.2.2.1 S1x256.size (by sl_kernel_rfl) y

def eA_o14 (c : Dev nD) (t : Fin cfg0.N) (h : t.val % 11 = 0) : Vec F S1x256 .f32 :=
  VO0_14.read (Elt F) (VO0_14.writes (Elt F) VO0_14.junk (rA m c t h).2.2.2.2.1)

theorem covA_o15 (c : Dev nD) (t : Fin cfg0.N) (h : t.val % 11 = 0) (y : S1x256.Idx) :
    ∃ pc ∈ (rA m c t h).2.2.2.2.2.1, y ∈ pc.1.set :=
  View.cover_of_tiledL (rA m c t h).2.2.2.2.2.1 S1x256.size (by sl_kernel_rfl) y

def eA_o15 (c : Dev nD) (t : Fin cfg0.N) (h : t.val % 11 = 0) : Vec F S1x256 .f32 :=
  VO0_15.read (Elt F) (VO0_15.writes (Elt F) VO0_15.junk (rA m c t h).2.2.2.2.2.1)

theorem covA_o16 (c : Dev nD) (t : Fin cfg0.N) (h : t.val % 11 = 0) (y : S256x256.Idx) :
    ∃ pc ∈ (rA m c t h).2.2.2.2.2.2.1, y ∈ pc.1.set :=
  View.cover_of_tiledL (rA m c t h).2.2.2.2.2.2.1 S256x256.size (by sl_kernel_rfl) y

def eA_o16 (c : Dev nD) (t : Fin cfg0.N) (h : t.val % 11 = 0) : Vec F S256x256 .f32 :=
  VO0_16.read (Elt F) (VO0_16.writes (Elt F) VO0_16.junk (rA m c t h).2.2.2.2.2.2.1)

theorem covA_sc (c : Dev nD) (t : Fin cfg0.N) (h : t.val % 11 = 0) (y : S800x256.Idx) :
    ∃ pc ∈ (rA m c t h).2.2.2.2.2.2.2.1, y ∈ pc.1.set :=
  View.cover_of_tiledBy (rA m c t h).2.2.2.2.2.2.2.1 ![32, 256] (by sl_kernel_rfl) y

def eA_sc (c : Dev nD) (t : Fin cfg0.N) (h : t.val % 11 = 0) : Vec F S800x256 .f32 :=
  VS0_1.read (Elt F) (VS0_1.writes (Elt F) VS0_1.junk (rA m c t h).2.2.2.2.2.2.2.1)

/-- What case A leaves. -/
def stA (c : Dev nD) (t : Fin cfg0.N) (h : t.val % 11 = 0) : St F :=
  ⟨eA_o10 m c t h, eA_o11 m c t h, eA_o12 m c t h, eA_o13 m c t h, eA_o14 m c t h, eA_o15 m c t h, eA_o16 m c t h, eA_sc m c t h⟩

theorem covB_o10 (c : Dev nD) (t : Fin cfg0.N) (h : ¬t.val % 11 = 0) (p : St F) (y : S768x256.Idx) :
    ∃ pc ∈ (rB m c t h p).1, y ∈ pc.1.set :=
  View.cover_of_tiledL (rB m c t h p).1 S768x256.size (by sl_kernel_rfl) y

def eB_o10 (c : Dev nD) (t : Fin cfg0.N) (h : ¬t.val % 11 = 0) (p : St F) : Vec F S768x256 .bf16 :=
  VO0_10.read (Elt F) (VO0_10.writes (Elt F) VO0_10.junk (rB m c t h p).1)

theorem covB_o11 (c : Dev nD) (t : Fin cfg0.N) (h : ¬t.val % 11 = 0) (p : St F) (y : S768x256.Idx) :
    ∃ pc ∈ (rB m c t h p).2.1, y ∈ pc.1.set :=
  View.cover_of_tiledL (rB m c t h p).2.1 S768x256.size (by sl_kernel_rfl) y

def eB_o11 (c : Dev nD) (t : Fin cfg0.N) (h : ¬t.val % 11 = 0) (p : St F) : Vec F S768x256 .bf16 :=
  VO0_11.read (Elt F) (VO0_11.writes (Elt F) VO0_11.junk (rB m c t h p).2.1)

def eB_o12 (c : Dev nD) (t : Fin cfg0.N) (h : ¬t.val % 11 = 0) (p : St F) : Vec F S32x256 .f32 :=
  (ms0_12 t).view.read (Elt F) ((ms0_12 t).view.writes (Elt F) ((hs0_12 t).unread p.o12) (rB m c t h p).2.2.1)

theorem covB_o13 (c : Dev nD) (t : Fin cfg0.N) (h : ¬t.val % 11 = 0) (p : St F) (y : S1x256.Idx) :
    ∃ pc ∈ (rB m c t h p).2.2.2.1, y ∈ pc.1.set :=
  View.cover_of_tiledL (rB m c t h p).2.2.2.1 S1x256.size (by sl_kernel_rfl) y

def eB_o13 (c : Dev nD) (t : Fin cfg0.N) (h : ¬t.val % 11 = 0) (p : St F) : Vec F S1x256 .f32 :=
  VO0_13.read (Elt F) (VO0_13.writes (Elt F) VO0_13.junk (rB m c t h p).2.2.2.1)

theorem covB_o14 (c : Dev nD) (t : Fin cfg0.N) (h : ¬t.val % 11 = 0) (p : St F) (y : S1x256.Idx) :
    ∃ pc ∈ (rB m c t h p).2.2.2.2.1, y ∈ pc.1.set :=
  View.cover_of_tiledL (rB m c t h p).2.2.2.2.1 S1x256.size (by sl_kernel_rfl) y

def eB_o14 (c : Dev nD) (t : Fin cfg0.N) (h : ¬t.val % 11 = 0) (p : St F) : Vec F S1x256 .f32 :=
  VO0_14.read (Elt F) (VO0_14.writes (Elt F) VO0_14.junk (rB m c t h p).2.2.2.2.1)

theorem covB_o15 (c : Dev nD) (t : Fin cfg0.N) (h : ¬t.val % 11 = 0) (p : St F) (y : S1x256.Idx) :
    ∃ pc ∈ (rB m c t h p).2.2.2.2.2.1, y ∈ pc.1.set :=
  View.cover_of_tiledL (rB m c t h p).2.2.2.2.2.1 S1x256.size (by sl_kernel_rfl) y

def eB_o15 (c : Dev nD) (t : Fin cfg0.N) (h : ¬t.val % 11 = 0) (p : St F) : Vec F S1x256 .f32 :=
  VO0_15.read (Elt F) (VO0_15.writes (Elt F) VO0_15.junk (rB m c t h p).2.2.2.2.2.1)

theorem covB_o16 (c : Dev nD) (t : Fin cfg0.N) (h : ¬t.val % 11 = 0) (p : St F) (y : S256x256.Idx) :
    ∃ pc ∈ (rB m c t h p).2.2.2.2.2.2.1, y ∈ pc.1.set :=
  View.cover_of_tiledL (rB m c t h p).2.2.2.2.2.2.1 S256x256.size (by sl_kernel_rfl) y

def eB_o16 (c : Dev nD) (t : Fin cfg0.N) (h : ¬t.val % 11 = 0) (p : St F) : Vec F S256x256 .f32 :=
  VO0_16.read (Elt F) (VO0_16.writes (Elt F) VO0_16.junk (rB m c t h p).2.2.2.2.2.2.1)

theorem covB_sc (c : Dev nD) (t : Fin cfg0.N) (h : ¬t.val % 11 = 0) (p : St F) (y : S800x256.Idx) :
    ∃ pc ∈ (rB m c t h p).2.2.2.2.2.2.2.1, y ∈ pc.1.set :=
  View.cover_of_tiledBy (rB m c t h p).2.2.2.2.2.2.2.1 ![32, 256] (by sl_kernel_rfl) y

def eB_sc (c : Dev nD) (t : Fin cfg0.N) (h : ¬t.val % 11 = 0) (p : St F) : Vec F S800x256 .f32 :=
  VS0_1.read (Elt F) (VS0_1.writes (Elt F) VS0_1.junk (rB m c t h p).2.2.2.2.2.2.2.1)

/-- What case B leaves. -/
def stB (c : Dev nD) (t : Fin cfg0.N) (h : ¬t.val % 11 = 0) (p : St F) : St F :=
  ⟨eB_o10 m c t h p, eB_o11 m c t h p, eB_o12 m c t h p, eB_o13 m c t h p, eB_o14 m c t h p, eB_o15 m c t h p, eB_o16 m c t h p, eB_sc m c t h p⟩

/-- What point `n` leaves: the first point starts over, a later point goes on from the one before. -/
def st (c : Dev nD) : (n : ℕ) → n < cfg0.N → St F
  | 0, hn => stA m c ⟨0, hn⟩ (Nat.zero_mod _)
  | n + 1, hn => if h : (n + 1) % 11 = 0 then stA m c ⟨n + 1, hn⟩ h
      else stB m c ⟨n + 1, hn⟩ h (st c n (Nat.lt_of_succ_lt hn))

/-- What the point before `t` leaves. -/
abbrev prev (c : Dev nD) (t : Fin cfg0.N) : St F := st m c (t.val - 1) (Nat.lt_of_le_of_lt (Nat.sub_le _ _) t.isLt)

theorem st_A (c : Dev nD) (t : Fin cfg0.N) (h : t.val % 11 = 0) : st m c t.val t.isLt = stA m c t h := by
  obtain ⟨n, hn⟩ := t
  cases n with
  | zero => rfl
  | succ n => exact dif_pos h

theorem st_B (c : Dev nD) (t : Fin cfg0.N) (h : ¬t.val % 11 = 0) : st m c t.val t.isLt = stB m c t h (prev m c t) := by
  obtain ⟨n, hn⟩ := t
  cases n with
  | zero => exact absurd (Nat.zero_mod 11) h
  | succ n => exact dif_neg h

/-- The invariant between points: the carried halo rows at what the point before left, the rest at anything. -/
def PhiS (c : Dev nD) : (n : ℕ) → n ≤ cfg0.N → sProp 𝕄
  | 0, _ => Pipeline.ΦA spec0 c
  | n + 1, hn => iprop(iprop((∃ d, owns (c : Thread nD τ) scM0_0 fullShare d) ∗ owns (c : Thread nD τ) scM0_1 fullShare ((st m c n hn).sc)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop((∃ d, owns (c : Thread nD τ) scM0_0 fullShare d) ∗ owns (c : Thread nD τ) scM0_1 fullShare ((st m c n hn).sc)) ∗ (∃ r, prngReg c r)) := rfl

theorem PhiS_pos (c : Dev nD) (n : ℕ) (h : n ≤ cfg0.N) (hz : n ≠ 0) :
    PhiS m c n h = iprop(iprop((∃ d, owns (c : Thread nD τ) scM0_0 fullShare d) ∗ owns (c : Thread nD τ) scM0_1 fullShare ((st m c (n - 1) (by omega)).sc)) ∗ (∃ r, prngReg c r)) := by
  cases n with
  | zero => exact absurd rfl hz
  | succ n => rfl

/-- The pipeline's proof data. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => (st m c t.val t.isLt).o10
    | ⟨11, _⟩ => (st m c t.val t.isLt).o11
    | ⟨12, _⟩ => (st m c t.val t.isLt).o12
    | ⟨13, _⟩ => (st m c t.val t.isLt).o13
    | ⟨14, _⟩ => (st m c t.val t.isLt).o14
    | ⟨15, _⟩ => (st m c t.val t.isLt).o15
    | ⟨16, _⟩ => (st m c t.val t.isLt).o16
    | ⟨_ + 17, h⟩ => absurd h (Nat.not_lt.2 (Nat.le_add_left _ _))
  Φ t := PhiS m c t.val (Nat.le_of_lt_succ t.isLt)
  q w := Pipeline.shareOf spec0 w
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = (st m c t.val t.isLt).o10 := by dsimp only [dats]
theorem after0_11 (c : Dev nD) (t : Fin cfg0.N) : (dats m 0 c).after 11 t = (st m c t.val t.isLt).o11 := by dsimp only [dats]
theorem after0_12 (c : Dev nD) (t : Fin cfg0.N) : (dats m 0 c).after 12 t = (st m c t.val t.isLt).o12 := by dsimp only [dats]
theorem after0_13 (c : Dev nD) (t : Fin cfg0.N) : (dats m 0 c).after 13 t = (st m c t.val t.isLt).o13 := by dsimp only [dats]
theorem after0_14 (c : Dev nD) (t : Fin cfg0.N) : (dats m 0 c).after 14 t = (st m c t.val t.isLt).o14 := by dsimp only [dats]
theorem after0_15 (c : Dev nD) (t : Fin cfg0.N) : (dats m 0 c).after 15 t = (st m c t.val t.isLt).o15 := by dsimp only [dats]
theorem after0_16 (c : Dev nD) (t : Fin cfg0.N) : (dats m 0 c).after 16 t = (st m c t.val t.isLt).o16 := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_12_B (c : Dev nD) (t : Fin cfg0.N) (h0 : ¬t.val % 11 = 0) (d) :
    (dats m 0 c).before 12 t d = (prev m c t).o12 := by
  have hN : t.val < 11 := lt_of_lt_of_eq t.isLt (show cfg0.N = 11 from N_0)
  rw [Dat.before_out_kept _ 12 rfl t (by omega) (Bool.eq_false_iff.mpr fun h => by have := (flush0_12 _).mp h; dsimp only at this; omega)
    (fun _ => rfl) (fun _ _ => rfl)]
  dsimp only [dats]
theorem before0_13_B (c : Dev nD) (t : Fin cfg0.N) (h0 : ¬t.val % 11 = 0) (d) :
    (dats m 0 c).before 13 t d = (prev m c t).o13 := by
  have hN : t.val < 11 := lt_of_lt_of_eq t.isLt (show cfg0.N = 11 from N_0)
  rw [Dat.before_out_kept _ 13 rfl t (by omega) (Bool.eq_false_iff.mpr fun h => by have := (flush0_13 _).mp h; dsimp only at this; omega)
    (fun _ => rfl) (fun _ _ => rfl)]
  dsimp only [dats]
theorem before0_14_B (c : Dev nD) (t : Fin cfg0.N) (h0 : ¬t.val % 11 = 0) (d) :
    (dats m 0 c).before 14 t d = (prev m c t).o14 := by
  have hN : t.val < 11 := lt_of_lt_of_eq t.isLt (show cfg0.N = 11 from N_0)
  rw [Dat.before_out_kept _ 14 rfl t (by omega) (Bool.eq_false_iff.mpr fun h => by have := (flush0_14 _).mp h; dsimp only at this; omega)
    (fun _ => rfl) (fun _ _ => rfl)]
  dsimp only [dats]
theorem before0_15_B (c : Dev nD) (t : Fin cfg0.N) (h0 : ¬t.val % 11 = 0) (d) :
    (dats m 0 c).before 15 t d = (prev m c t).o15 := by
  have hN : t.val < 11 := lt_of_lt_of_eq t.isLt (show cfg0.N = 11 from N_0)
  rw [Dat.before_out_kept _ 15 rfl t (by omega) (Bool.eq_false_iff.mpr fun h => by have := (flush0_15 _).mp h; dsimp only at this; omega)
    (fun _ => rfl) (fun _ _ => rfl)]
  dsimp only [dats]
theorem before0_16_B (c : Dev nD) (t : Fin cfg0.N) (h0 : ¬t.val % 11 = 0) (d) :
    (dats m 0 c).before 16 t d = (prev m c t).o16 := by
  have hN : t.val < 11 := lt_of_lt_of_eq t.isLt (show cfg0.N = 11 from N_0)
  rw [Dat.before_out_kept _ 16 rfl t (by omega) (Bool.eq_false_iff.mpr fun h => by have := (flush0_16 _).mp h; dsimp only at this; omega)
    (fun _ => rfl) (fun _ _ => rfl)]
  dsimp only [dats]

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d)))

def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t)
    ∗ owns (c : Thread nD τ) (ms0_15 t) fullShare ((dats m 0 c).after 15 t)
    ∗ owns (c : Thread nD τ) (ms0_16 t) fullShare ((dats m 0 c).after 16 t))

set_option maxHeartbeats 2000000 in
/-- The body at any point, from what the point before left to what this point leaves. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9]
  rw [show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16]
  rw [show (dats m 0 c).Φ t.succ = PhiS m c (t.val + 1) t.isLt from rfl, PhiS_succ]
  have hN : t.val < 11 := lt_of_lt_of_eq t.isLt (show cfg0.N = 11 from N_0)
  by_cases h0 : t.val % 11 = 0
  · have hz : t.val = 0 := by omega
    rw [PhiS_castSucc m c t, PhiS_zero m c _ _ hz, PhiA0_eq, st_A m c t h0]
    unfold stA; dsimp only
    unfold eA_o10 eA_o11 eA_o12 eA_o13 eA_o14 eA_o15 eA_o16 eA_sc
    iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩⟩
    iapply ((rA m c t h0).2.2.2.2.2.2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexists _; iexact H10
    isplitl [H11]; · iexists _; iexact H11
    isplitl [H12]; · iexists _; iexact H12
    isplitl [H13]; · iexists _; iexact H13
    isplitl [H14]; · iexists _; iexact H14
    isplitl [H15]; · iexists _; iexact H15
    isplitl [H16]; · iexists _; iexact H16
    isplitl [HS0]; · iexact HS0
    isplitl [HS1]; · iexact HS1
    iintro ⟨H0, H1, H2, H3, H4, H5, H6, H7, H8, H9, ⟨%e10, H10⟩, ⟨%e11, H11⟩, ⟨%e12, H12⟩, ⟨%e13, H13⟩, ⟨%e14, H14⟩, ⟨%e15, H15⟩, ⟨%e16, H16⟩, ⟨%fT0, HS0⟩, ⟨%es1, HS1⟩⟩
    isplitl [HS0 HS1 Hg]
    · isplitl [HS0 HS1]
      · isplitl [HS0]
        · iexists _; unfold owns; iexists _; isplitr
          swap; · iexact HS0
          ipureintro; rfl
        unfold owns; iexists _; isplitr
        swap; · iexact HS1
        ipureintro; exact View.read_writes_of_cover _ _ _ _ _ (covA_sc m c t h0)
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]
    · unfold owns; iexists _; isplitr
      swap; · iexact H10
      ipureintro; exact View.read_writes_of_cover _ _ _ _ _ (covA_o10 m c t h0)
    isplitl [H11]
    · unfold owns; iexists _; isplitr
      swap; · iexact H11
      ipureintro; exact View.read_writes_of_cover _ _ _ _ _ (covA_o11 m c t h0)
    isplitl [H12]
    · unfold owns; iexists _; isplitr
      swap; · iexact H12
      ipureintro; exact View.read_writes_of_cover _ _ _ _ _ (covA_o12 m c t h0)
    isplitl [H13]
    · unfold owns; iexists _; isplitr
      swap; · iexact H13
      ipureintro; exact View.read_writes_of_cover _ _ _ _ _ (covA_o13 m c t h0)
    isplitl [H14]
    · unfold owns; iexists _; isplitr
      swap; · iexact H14
      ipureintro; exact View.read_writes_of_cover _ _ _ _ _ (covA_o14 m c t h0)
    isplitl [H15]
    · unfold owns; iexists _; isplitr
      swap; · iexact H15
      ipureintro; exact View.read_writes_of_cover _ _ _ _ _ (covA_o15 m c t h0)
    unfold owns; iexists _; isplitr
    swap; · iexact H16
    ipureintro; exact View.read_writes_of_cover _ _ _ _ _ (covA_o16 m c t h0)
  · have hz : t.val ≠ 0 := by omega
    rw [PhiS_castSucc m c t, PhiS_pos m c _ _ hz, st_B m c t h0]
    simp only [before0_12_B m c t h0, before0_13_B m c t h0, before0_14_B m c t h0, before0_15_B m c t h0, before0_16_B m c t h0]
    unfold stB; dsimp only
    unfold eB_o10 eB_o11 eB_o12 eB_o13 eB_o14 eB_o15 eB_o16 eB_sc
    iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩⟩
    iapply ((rB m c t h0 (prev m c t)).2.2.2.2.2.2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexists _; iexact H10
    isplitl [H11]; · iexists _; iexact H11
    isplitl [H12]; · iexact H12
    isplitl [H13]; · iexact H13
    isplitl [H14]; · iexact H14
    isplitl [H15]; · iexact H15
    isplitl [H16]; · iexact H16
    isplitl [HS0]; · iexact HS0
    isplitl [HS1]; · iexact HS1
    iintro ⟨H0, H1, H2, H3, H4, H5, H6, H7, H8, H9, ⟨%e10, H10⟩, ⟨%e11, H11⟩, H12, ⟨%e13, H13⟩, ⟨%e14, H14⟩, ⟨%e15, H15⟩, ⟨%e16, H16⟩, ⟨%fT0, HS0⟩, ⟨%es1, HS1⟩⟩
    isplitl [HS0 HS1 Hg]
    · isplitl [HS0 HS1]
      · isplitl [HS0]
        · iexists _; unfold owns; iexists _; isplitr
          swap; · iexact HS0
          ipureintro; rfl
        unfold owns; iexists _; isplitr
        swap; · iexact HS1
        ipureintro; exact View.read_writes_of_cover _ _ _ _ _ (covB_sc m c t h0 (prev m c t))
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]
    · unfold owns; iexists _; isplitr
      swap; · iexact H10
      ipureintro; exact View.read_writes_of_cover _ _ _ _ _ (covB_o10 m c t h0 (prev m c t))
    isplitl [H11]
    · unfold owns; iexists _; isplitr
      swap; · iexact H11
      ipureintro; exact View.read_writes_of_cover _ _ _ _ _ (covB_o11 m c t h0 (prev m c t))
    isplitl [H12]
    · unfold owns; iexists _; isplitr
      swap; · iexact H12
      ipureintro; rfl
    isplitl [H13]
    · unfold owns; iexists _; isplitr
      swap; · iexact H13
      ipureintro; exact View.read_writes_of_cover _ _ _ _ _ (covB_o13 m c t h0 (prev m c t))
    isplitl [H14]
    · unfold owns; iexists _; isplitr
      swap; · iexact H14
      ipureintro; exact View.read_writes_of_cover _ _ _ _ _ (covB_o14 m c t h0 (prev m c t))
    isplitl [H15]
    · unfold owns; iexists _; isplitr
      swap; · iexact H15
      ipureintro; exact View.read_writes_of_cover _ _ _ _ _ (covB_o15 m c t h0 (prev m c t))
    unfold owns; iexists _; isplitr
    swap; · iexact H16
    ipureintro; exact View.read_writes_of_cover _ _ _ _ _ (covB_o16 m c t h0 (prev m c t))

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1⟩, Hg⟩
  isplitl [HS0 HS1]
  · isplitl [HS0]
    · iexact HS0
    iexists _; iexact HS1
  iexact Hg

theorem hout (c : Dev nD) : (dats m 0 c).Φ (Fin.last cfg0.N) ⊢ Pipeline.ΦA spec0 c :=
  Phi_out m c _ (by rw [Fin.val_last]; have : cfg0.N = 11 := N_0; omega)

set_option backward.isDefEq.respectTransparency.types false in
/-- Every fair run ends, with the pipeline's arrays as the proof data say and every counter at zero. -/
theorem run_quiet : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

/-- The run with each output array named, the arguments unchanged and the counters at zero. -/
theorem run_blocks : θ_run defs (onTc (τ := τ) (main (F := F))) ⟨m, fun _ => 0, ρ⟩ fun r => (∀ c : Dev nD,
      (∀ w : Fin 17, 10 ≤ w.val → r.2.mem ((c : Thread nD τ).loc (Pipeline.arrRef spec0 w)) = (dats m 0 c).arrAt w cfg0.N)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)) ∧ r.2.sem = fun _ => 0 :=
  (θ_run defs _ _).mono (fun r h => ⟨fun c => ⟨fun w _ => (h.1 c).1 w,
    ((h.1 c).2 main_arg0 (Pipeline.mem_restRefs_of main_arg0 (by decide) (by decide))).trans (V_main_arg0 m c),
    ((h.1 c).2 main_arg1 (Pipeline.mem_restRefs_of main_arg1 (by decide) (by decide))).trans (V_main_arg1 m c),
    ((h.1 c).2 main_arg2 (Pipeline.mem_restRefs_of main_arg2 (by decide) (by decide))).trans (V_main_arg2 m c),
    ((h.1 c).2 main_arg3 (Pipeline.mem_restRefs_of main_arg3 (by decide) (by decide))).trans (V_main_arg3 m c),
    ((h.1 c).2 main_arg4 (Pipeline.mem_restRefs_of main_arg4 (by decide) (by decide))).trans (V_main_arg4 m c),
    ((h.1 c).2 main_arg5 (Pipeline.mem_restRefs_of main_arg5 (by decide) (by decide))).trans (V_main_arg5 m c),
    ((h.1 c).2 main_arg6 (Pipeline.mem_restRefs_of main_arg6 (by decide) (by decide))).trans (V_main_arg6 m c)⟩, h.2⟩)
    (run_quiet m ρ)

end Cert.KernelIdeal.Track

end
-- ==== Proof.Tile.lean ====
/- One tile of the convolution branch's backward pass: what the kernel's body leaves at a grid point, as numbers, and how
   reads and writes of whole rows act on the numbers of a buffer. -/
module

public import proofs.«01_k».proof.Proof.Goal
public import Idealize.ShloMosaic.Lib.VecWindow
public import Idealize.ShloMosaic.Lib.WritesUnit

@[expose] public section

set_option maxRecDepth 16384

noncomputable section

open Idealize.ShloMosaic

namespace Cert.Calc

section Mem
variable {sig : RefSig} {κ : Kind} {sp : Space} {N M n o : ℕ}

theorem M2.ofEq {n m : ℕ} {x y : (T2 n m).Idx → EReal} {f : ℕ → ℕ → ℝ} (h : M2 x f) (e : y = x) : M2 y f := e ▸ h

/-- A load of whole rows. -/
theorem M2.ld {v : View sig κ sp (T2 N M) .f32} {X : v.ty.Contents (Elt Ideal)} {F : ℕ → ℕ → ℝ}
    (h : M2 (v.read (Elt Ideal) X) F) (inb : ∀ a, (![o, 0] : Fin 2 → ℕ) a + (T2 n M).size a ≤ (T2 N M).size a) :
    M2 (n := n) (m := M) (v.readAt (Elt Ideal) (Rect.unit (s := T2 N M) ![o, 0] (T2 n M).size inb).toLoadRect X) (fun i j => F (o + i) j) := by
  intro i
  refine (h ((Rect.unit (s := T2 N M) ![o, 0] (T2 n M).size inb).toLoadRect.idx i)).trans ?_
  have e0 : (((Rect.unit (s := T2 N M) ![o, 0] (T2 n M).size inb).toLoadRect.idx i) 0).val = o + (i 0).val := by
    show o + 1 * (i 0).val = _
    rw [Nat.one_mul]
  have e1 : (((Rect.unit (s := T2 N M) ![o, 0] (T2 n M).size inb).toLoadRect.idx i) 1).val = (i 1).val := by
    show 0 + 1 * (i 1).val = _
    omega
  rw [e0, e1]

/-- The same of a buffer at its own contents. -/
theorem M2.ldu {v : Memref sig κ sp (T2 N M) .f32} (hw : v.IsWhole) {x : (T2 N M).Idx → EReal} {F : ℕ → ℕ → ℝ}
    (h : M2 x F) (inb : ∀ a, (![o, 0] : Fin 2 → ℕ) a + (T2 n M).size a ≤ (T2 N M).size a) :
    M2 (n := n) (m := M) (v.view.readAt (Elt Ideal) (Rect.unit (s := T2 N M) ![o, 0] (T2 n M).size inb).toLoadRect (hw.unread x))
      (fun i j => F (o + i) j) :=
  M2.ld (h.ofEq (hw.read_unread (Val := Elt Ideal) x)) inb

/-- The same, of sixteen-bit elements. -/
theorem M2.ldu' {v : Memref sig κ sp (T2 N M) .bf16} (hw : v.IsWhole) {x : (T2 N M).Idx → EReal} {F : ℕ → ℕ → ℝ}
    (h : M2 x F) (inb : ∀ a, (![o, 0] : Fin 2 → ℕ) a + (T2 n M).size a ≤ (T2 N M).size a) :
    M2 (n := n) (m := M) (v.view.readAt (Elt Ideal) (Rect.unit (s := T2 N M) ![o, 0] (T2 n M).size inb).toLoadRect (hw.unread x))
      (fun i j => F (o + i) j) := by
  have h : M2 (v.view.read (Elt Ideal) (hw.unread x)) F := h.ofEq (hw.read_unread (Val := Elt Ideal) x)
  intro i
  refine (h ((Rect.unit (s := T2 N M) ![o, 0] (T2 n M).size inb).toLoadRect.idx i)).trans ?_
  have e0 : (((Rect.unit (s := T2 N M) ![o, 0] (T2 n M).size inb).toLoadRect.idx i) 0).val = o + (i 0).val := by
    show o + 1 * (i 0).val = _
    rw [Nat.one_mul]
  have e1 : (((Rect.unit (s := T2 N M) ![o, 0] (T2 n M).size inb).toLoadRect.idx i) 1).val = (i 1).val := by
    show 0 + 1 * (i 1).val = _
    omega
  rw [e0, e1]

/-- A load of a whole buffer at its own contents. -/
theorem M2.ldz {v : Memref sig κ sp (T2 N M) .f32} (hw : v.IsWhole) {x : (T2 N M).Idx → EReal} {F : ℕ → ℕ → ℝ}
    (h : M2 x F) (inb : ∀ a, (![0, 0] : Fin 2 → ℕ) a + (T2 n M).size a ≤ (T2 N M).size a) :
    M2 (n := n) (m := M) (v.view.readAt (Elt Ideal) (Rect.unit (s := T2 N M) ![0, 0] (T2 n M).size inb).toLoadRect (hw.unread x)) F :=
  (M2.ldu hw h inb).congr fun i j _ _ => by rw [Nat.zero_add]

/-- The same, of sixteen-bit elements. -/
theorem M2.ldz' {v : Memref sig κ sp (T2 N M) .bf16} (hw : v.IsWhole) {x : (T2 N M).Idx → EReal} {F : ℕ → ℕ → ℝ}
    (h : M2 x F) (inb : ∀ a, (![0, 0] : Fin 2 → ℕ) a + (T2 n M).size a ≤ (T2 N M).size a) :
    M2 (n := n) (m := M) (v.view.readAt (Elt Ideal) (Rect.unit (s := T2 N M) ![0, 0] (T2 n M).size inb).toLoadRect (hw.unread x)) F :=
  (M2.ldu' hw h inb).congr fun i j _ _ => by rw [Nat.zero_add]

/-- Rows just written. -/
theorem M2.put0 {v : View sig κ sp (T2 N M) .f32} {f : v.ty.Contents (Elt Ideal)}
    {L : List (View.Piece (Elt Ideal) (T2 N M) .f32)} {w : (T2 n M).Idx → EReal} {W : ℕ → ℕ → ℝ} (hw : M2 w W)
    (inb : ∀ a, (![o, 0] : Fin 2 → ℕ) a + (T2 n M).size a ≤ (T2 N M).size a) (i : (T2 N M).Idx)
    (hi : o ≤ (i 0).val ∧ (i 0).val < o + n) :
    v.read (Elt Ideal) (v.writes (Elt Ideal) f (⟨Rect.unit (s := T2 N M) ![o, 0] (T2 n M).size inb, w⟩ :: L)) i
      = ((W ((i 0).val - o) (i 1).val : ℝ) : EReal) := by
  have hx : (i 0).val - o < n := by omega
  have hj : (i 1).val < M := (i 1).isLt
  refine (View.read_writes_cons_rows_of_mem v f inb w L i (o := o)
    (Fin.cons (⟨(i 0).val - o, hx⟩ : Fin n) (Fin.cons (⟨(i 1).val, hj⟩ : Fin M) fun a => a.elim0) : (T2 n M).Idx) rfl ?_ rfl).trans ?_
  · show (i 0).val = o + ((i 0).val - o)
    omega
  · exact hw _

/-- Rows written over a buffer known elsewhere. -/
theorem M2.put {v : View sig κ sp (T2 N M) .f32} {f : v.ty.Contents (Elt Ideal)}
    {L : List (View.Piece (Elt Ideal) (T2 N M) .f32)} {w : (T2 n M).Idx → EReal} {W F : ℕ → ℕ → ℝ} (hw : M2 w W)
    (inb : ∀ a, (![o, 0] : Fin 2 → ℕ) a + (T2 n M).size a ≤ (T2 N M).size a)
    (h : ∀ i : (T2 N M).Idx, ((i 0).val < o ∨ o + n ≤ (i 0).val) →
      v.read (Elt Ideal) (v.writes (Elt Ideal) f L) i = ((F (i 0).val (i 1).val : ℝ) : EReal)) :
    M2 (v.read (Elt Ideal) (v.writes (Elt Ideal) f (⟨Rect.unit (s := T2 N M) ![o, 0] (T2 n M).size inb, w⟩ :: L)))
      (fun i j => if o ≤ i ∧ i < o + n then W (i - o) j else F i j) := by
  intro i
  by_cases hi : o ≤ (i 0).val ∧ (i 0).val < o + n
  · exact (M2.put0 hw inb i hi).trans (congrArg _ (if_pos hi).symm)
  · have hi' : (i 0).val < o ∨ o + n ≤ (i 0).val := by omega
    exact (View.read_writes_cons_rows_of_not_mem v f inb w L i (o := o) (W := n) rfl rfl hi').trans
      ((h i hi').trans (congrArg _ (if_neg hi).symm))

/-- A buffer written whole. -/
theorem M2.putw {v : View sig κ sp (T2 N M) .f32} {f : v.ty.Contents (Elt Ideal)}
    {L : List (View.Piece (Elt Ideal) (T2 N M) .f32)} {w : (T2 N M).Idx → EReal} {W : ℕ → ℕ → ℝ} (hw : M2 w W)
    (inb : ∀ a, (![0, 0] : Fin 2 → ℕ) a + (T2 N M).size a ≤ (T2 N M).size a) :
    M2 (v.read (Elt Ideal) (v.writes (Elt Ideal) f (⟨Rect.unit (s := T2 N M) ![0, 0] (T2 N M).size inb, w⟩ :: L))) W :=
  hw.ofEq (View.read_writes_full v f inb w L)

/-- The same, of sixteen-bit elements. -/
theorem M2.putw' {v : View sig κ sp (T2 N M) .bf16} {f : v.ty.Contents (Elt Ideal)}
    {L : List (View.Piece (Elt Ideal) (T2 N M) .bf16)} {w : (T2 N M).Idx → EReal} {W : ℕ → ℕ → ℝ} (hw : M2 w W)
    (inb : ∀ a, (![0, 0] : Fin 2 → ℕ) a + (T2 N M).size a ≤ (T2 N M).size a) :
    M2 (v.read (Elt Ideal) (v.writes (Elt Ideal) f (⟨Rect.unit (s := T2 N M) ![0, 0] (T2 N M).size inb, w⟩ :: L))) W :=
  hw.ofEq (View.read_writes_full v f inb w L)

/-- One more row written over the rows before it. -/
theorem M2.row {v : View sig κ sp (T2 N M) .f32} {f : v.ty.Contents (Elt Ideal)}
    {L : List (View.Piece (Elt Ideal) (T2 N M) .f32)} {w : (T2 1 M).Idx → EReal} {W O : ℕ → ℕ → ℝ}
    (h : M2 (v.read (Elt Ideal) (v.writes (Elt Ideal) f L)) (fun i j => if i < o then W i j else O i j))
    (hw : M2 w (fun _ j => W o j))
    (inb : ∀ a, (![o, 0] : Fin 2 → ℕ) a + (T2 1 M).size a ≤ (T2 N M).size a) :
    M2 (v.read (Elt Ideal) (v.writes (Elt Ideal) f (⟨Rect.unit (s := T2 N M) ![o, 0] (T2 1 M).size inb, w⟩ :: L)))
      (fun i j => if i < o + 1 then W i j else O i j) :=
  (M2.put (F := fun i j => if i < o then W i j else O i j) hw inb fun i _ => h i).congr fun i j _ _ => by
    by_cases h1 : i = o
    · subst h1; simp
    · by_cases h2 : i < o
      · rw [if_neg (by omega), if_pos h2, if_pos (by omega)]
      · rw [if_neg (by omega), if_neg h2, if_neg (by omega)]

/-- A load of rows just written. -/
theorem M2.ldc {v : View sig κ sp (T2 N M) .f32} {n' o' : ℕ}
    {L : List (View.Piece (Elt Ideal) (T2 N M) .f32)} {w : (T2 n M).Idx → EReal} {W : ℕ → ℕ → ℝ} (hw : M2 w W)
    (inb : ∀ a, (![o, 0] : Fin 2 → ℕ) a + (T2 n M).size a ≤ (T2 N M).size a)
    (inb' : ∀ a, (![o', 0] : Fin 2 → ℕ) a + (T2 n' M).size a ≤ (T2 N M).size a) (h : o ≤ o') (h' : o' + n' ≤ o + n) :
    M2 (n := n') (m := M) (v.readCov (⟨Rect.unit (s := T2 N M) ![o, 0] (T2 n M).size inb, w⟩ :: L)
      (Rect.unit (s := T2 N M) ![o', 0] (T2 n' M).size inb').toLoadRect) (fun i j => W (o' + i - o) j) := by
  intro i
  have e0 : (((Rect.unit (s := T2 N M) ![o', 0] (T2 n' M).size inb').toLoadRect.idx i) 0).val = o' + (i 0).val := by
    show o' + 1 * (i 0).val = _
    rw [Nat.one_mul]
  have e1 : (((Rect.unit (s := T2 N M) ![o', 0] (T2 n' M).size inb').toLoadRect.idx i) 1).val = (i 1).val := by
    show 0 + 1 * (i 1).val = _
    omega
  have hi : (i 0).val < n' := (i 0).isLt
  refine (M2.put0 (f := v.junk) (L := L) hw inb ((Rect.unit (s := T2 N M) ![o', 0] (T2 n' M).size inb').toLoadRect.idx i)
    (by rw [e0]; omega)).trans ?_
  rw [e0, e1]

/-- A load of rows of a buffer known whole from its pieces. -/
theorem M2.ldr {v : View sig κ sp (T2 N M) .f32} {L : List (View.Piece (Elt Ideal) (T2 N M) .f32)} {F : ℕ → ℕ → ℝ}
    (h : ∀ f, M2 (v.read (Elt Ideal) (v.writes (Elt Ideal) f L)) F)
    (inb : ∀ a, (![o, 0] : Fin 2 → ℕ) a + (T2 n M).size a ≤ (T2 N M).size a) :
    M2 (n := n) (m := M) (v.readCov L (Rect.unit (s := T2 N M) ![o, 0] (T2 n M).size inb).toLoadRect) (fun i j => F (o + i) j) :=
  M2.ld (h v.junk) inb

end Mem

end Cert.Calc

namespace Cert.Spec

open Cert.Calc Finset

/-- A tile's arguments as numbers: which tile, the value rows, the gate rows, the 32 rows of both before the tile, the
    cotangent's rows, the convolution's rows, the taps, the pointwise weight, the scale and the shift. -/
structure Blk where
  p : ℕ
  A0 : ℕ → ℕ → ℝ
  G0 : ℕ → ℕ → ℝ
  AH : ℕ → ℕ → ℝ
  GH : ℕ → ℕ → ℝ
  D0 : ℕ → ℕ → ℝ
  Y0 : ℕ → ℕ → ℝ
  W : ℕ → ℕ → ℝ
  PW : ℕ → ℕ → ℝ
  g : ℕ → ℝ
  b : ℕ → ℝ

/-- What the point before left in the revisited results and in the scratch rows. -/
structure Old where
  O12 : ℕ → ℕ → ℝ
  O13 : ℕ → ℕ → ℝ
  O14 : ℕ → ℕ → ℝ
  O15 : ℕ → ℕ → ℝ
  O16 : ℕ → ℕ → ℝ
  S : ℕ → ℕ → ℝ

/-- At the first point: nothing. -/
def Old.zero : Old := ⟨fun _ _ => 0, fun _ _ => 0, fun _ _ => 0, fun _ _ => 0, fun _ _ => 0, fun _ _ => 0⟩

namespace Blk
variable (B : Blk) (O : Old)

/-- The gate. -/
def gate (i j : ℕ) : ℝ := sg (B.G0 i j)
/-- The gated rows under the 32 before them. -/
def E (e j : ℕ) : ℝ := if e < 32 then (if 0 < B.p then B.AH e j * sg (B.GH e j) else 0) else B.A0 (e - 32) j * sg (B.G0 (e - 32) j)
def act (i j : ℕ) : ℝ := Spec.act B.g B.b (B.Y0 i) j
def dn (i j : ℕ) : ℝ := Spec.dn B.g B.b B.PW (B.Y0 i) (B.D0 i) j
/-- The gradient at the tile's convolution rows. -/
def DL (i j : ℕ) : ℝ := Spec.dy B.g B.b B.PW (B.Y0 i) (B.D0 i) j
/-- The same over the 32 rows after the tile. -/
def X (S : ℕ → ℕ → ℝ) (e j : ℕ) : ℝ := if e < 768 then B.DL e j else S e j
/-- The gradient at the gated rows, its first `n` taps. -/
def duN (S : ℕ → ℕ → ℝ) (n i j : ℕ) : ℝ := ∑ k ∈ range n, B.W k j * B.X S (30 - k + i) j
def du (S : ℕ → ℕ → ℝ) (i j : ℕ) : ℝ := B.duN S 31 i j
def dz (S : ℕ → ℕ → ℝ) (i j : ℕ) : ℝ := if 240 ≤ i + B.p * 768 then B.du S i j else 0
def out0 (S : ℕ → ℕ → ℝ) (i j : ℕ) : ℝ := B.dz S i j * B.gate i j
def out1 (S : ℕ → ℕ → ℝ) (i j : ℕ) : ℝ := B.dz S i j * B.A0 i j * B.gate i j * (1 - B.gate i j)
def tap (k j : ℕ) : ℝ := ∑ t ∈ range 768, B.DL t j * B.E (k + 2 + t) j
def nt (k j : ℕ) : ℝ := O.O12 k j + B.tap k j
def n12 (k j : ℕ) : ℝ := if k < 31 then B.nt O k j else O.O12 k j
def n13 (i j : ℕ) : ℝ := O.O13 i j + ∑ t ∈ range 768, B.DL t j
def n14 (i j : ℕ) : ℝ := O.O14 i j + ∑ t ∈ range 768, B.dn t j * xh (B.Y0 t) j
def n15 (i j : ℕ) : ℝ := O.O15 i j + ∑ t ∈ range 768, B.dn t j
def n16 (i j : ℕ) : ℝ := O.O16 i j + ∑ t ∈ range 768, B.act t i * B.D0 t j
def scr (e j : ℕ) : ℝ := if e < 768 then B.DL e j else B.DL (e - 768) j

theorem duN_succ (S : ℕ → ℕ → ℝ) (n i j : ℕ) : B.duN S (n + 1) i j = B.duN S n i j + B.W n j * B.X S (30 - n + i) j :=
  Finset.sum_range_succ _ _

theorem duN_one (S : ℕ → ℕ → ℝ) (i j : ℕ) : B.duN S 1 i j = B.W 0 j * B.X S (30 + i) j := by
  unfold duN
  rw [Finset.sum_range_one]

theorem duN_2 (S : ℕ → ℕ → ℝ) (n i j : ℕ) : B.duN S (n + 2) i j
    = B.duN S n i j + B.W n j * B.X S (30 - n + i) j + B.W (n + 1) j * B.X S (30 - (n + 1) + i) j := by
  rw [duN_succ, duN_succ]

theorem duN_3 (S : ℕ → ℕ → ℝ) (n i j : ℕ) : B.duN S (n + 3) i j
    = B.duN S n i j + B.W n j * B.X S (30 - n + i) j + B.W (n + 1) j * B.X S (30 - (n + 1) + i) j
      + B.W (n + 2) j * B.X S (30 - (n + 2) + i) j := by
  rw [duN_succ, duN_2]

theorem E_eq (i j : ℕ) (h : i < 800) :
    (if 32 ≤ i ∧ i < 32 + 768 then B.A0 (i - 32) j * sg (B.G0 (i - 32) j)
      else if 0 < B.p then B.AH i j * sg (B.GH i j) else 0) = B.E i j := by
  unfold E
  by_cases h' : i < 32
  · rw [if_pos h', if_neg (by omega)]
  · rw [if_neg h', if_pos (by omega)]

theorem X_eq (S : ℕ → ℕ → ℝ) (i j : ℕ) :
    (if 0 ≤ i ∧ i < 0 + 768 then B.DL (i - 0) j else S i j) = B.X S i j := by
  unfold X
  by_cases h' : i < 768
  · rw [if_pos h', if_pos (by omega)]; rfl
  · rw [if_neg h', if_neg (by omega)]

theorem X_lo (S : ℕ → ℕ → ℝ) (i j : ℕ) (h : i < 768) : B.DL (i - 0) j = B.X S i j := (if_pos h).symm

theorem scr_eq (F : ℕ → ℕ → ℝ) (hF : ∀ i j, i < 768 → F i j = B.DL i j) (G : ℕ → ℕ → ℝ)
    (hG : ∀ i j, i < 32 → G i j = B.DL i j) (i j : ℕ) (h : i < 800) :
    (if 768 ≤ i ∧ i < 768 + 32 then G (i - 768) j else F i j) = B.scr i j := by
  unfold scr
  by_cases h' : i < 768
  · rw [if_pos h', if_neg (by omega), hF _ _ h']
  · rw [if_neg h', if_pos (by omega), hG _ _ (by omega)]

theorem duN_zero (S : ℕ → ℕ → ℝ) (i j : ℕ) : B.duN S 0 i j = 0 := rfl

end Blk

end Cert.Spec

end
-- ==== Proof.Pay.lean ====
/- What the stored values of the convolution branch's backward body are, as numbers, from the numbers of what they are made of. -/
module

public import proofs.«01_k».proof.Proof.Spec
public import proofs.«01_k».proof.Proof.Gen.KernelIdeal.Skeleton

@[expose] public section

set_option maxRecDepth 16384

noncomputable section

namespace Cert.KernelIdeal.Gen

open Idealize.ShloMosaic Cert.Calc Cert.Spec Finset

theorem sge_small (n : ℕ) (hn : n < 10000) :
    BitVec.ofBool ((240#32).sle (BitVec.ofNat 32 n)) = 1#1 ↔ 240 ≤ n := by
  have h1 : (BitVec.ofNat 32 n).toInt = n := by
    have e : (BitVec.ofNat 32 n).toNat = n := by rw [BitVec.toNat_ofNat]; exact Nat.mod_eq_of_lt (by omega)
    rw [BitVec.toInt_eq_toNat_of_lt (by rw [e]; omega), e]
  have h2 : (240#32).toInt = 240 := by decide
  rw [BitVec.sle, h1, h2]
  by_cases h : 240 ≤ n
  · have : (240 : ℤ) ≤ n := by exact_mod_cast h
    simp [h, this]
  · have : ¬ (240 : ℤ) ≤ n := by exact_mod_cast h
    simp [h, this]

theorem sgt_small (p : ℕ) (hp : p ≤ 10) : BitVec.ofBool ((0#32).slt (BitVec.ofNat 32 p)) = 1#1 ↔ 0 < p := by
  interval_cases p <;> decide

theorem p_k0_pay2 {v0 : BitVec 32} {v562 : FVec Ideal S768x256 .f32} {f562 : ℕ → ℕ → ℝ} {p : ℕ}
    (hv0 : v0 = BitVec.ofNat 32 p ∧ p ≤ 10) (h562 : M2 v562 f562) :
    M2 (k0_pay2 (F := Ideal) v0 v562) (fun i j => if 240 ≤ i + p * 768 then f562 i j else 0) := fun i => by
  obtain ⟨rfl, hp⟩ := hv0
  have e : k0_pay2 (F := Ideal) (BitVec.ofNat 32 p) v562 i
      = if (broadcastTo S768x256 (shapeCast S768x1 (cmpi .sge (addi (iota .tc S768x1 32 [0] iota_S768x1_d0_w32)
            (broadcast S768x1 (Scalar.muli (BitVec.ofNat 32 p) 768#32))) (broadcast S768x1 240#32)) shapeCasts_S768x1_S768x1)
            broadcasts_S768x1_S768x256 i) = 1#1 then v562 i else Ideal.ofBits .f32 0x00000000#32 := rfl
  have r : (i 0).val < 768 := (i 0).isLt
  have q : cmpi .sge (addi (iota .tc S768x1 32 [0] iota_S768x1_d0_w32) (broadcast S768x1 (Scalar.muli (BitVec.ofNat 32 p) 768#32)))
      (broadcast S768x1 240#32) (ix2 (i 0) 0)
      = BitVec.ofBool ((240#32).sle (BitVec.ofNat 32 (i 0).val + BitVec.ofNat 32 p * 768#32)) := by
    show BitVec.ofBool ((240#32).sle (iota .tc S768x1 32 [0] iota_S768x1_d0_w32 (ix2 (i 0) 0) + BitVec.ofNat 32 p * 768#32)) = _
    rw [iota_single_apply]
    rfl
  rw [e, broadcastTo_apply _ broadcasts_S768x1_S768x256 i (ix2 (i 0) 0) (fun a => by fin_cases a <;> rfl),
    shapeCast_apply _ shapeCasts_S768x1_S768x1 (ix2 (i 0) 0) (ix2 (i 0) 0) rfl, q,
    show (768#32) = BitVec.ofNat 32 768 from rfl, ← BitVec.ofNat_mul, ← BitVec.ofNat_add]
  simp only [sge_small ((i 0).val + p * 768) (by omega)]
  by_cases h : 240 ≤ (i 0).val + p * 768
  · rw [if_pos h, if_pos h]; exact h562 i
  · rw [if_neg h, if_neg h]; exact bits_zero

theorem p_k0_pay13 {i : grid0.Coords} {v16 v18 : Vec Ideal S32x256 .f32} {f16 f18 : ℕ → ℕ → ℝ} {p : ℕ}
    (hi : (i 0).val = 10 - p ∧ p ≤ 10) (h16 : M2 v16 f16) (h18 : M2 v18 f18) :
    M2 (k0_pay13 (F := Ideal) i v16 v18) (fun i j => if 0 < p then f16 i j * sg (f18 i j) else 0) := by
  obtain ⟨hi, hp⟩ := hi
  have h27 := (M2.mulf (φ := .f32) (M2.cast h16 shapeCasts_S32x256_S32x256) (M2.congr (g := fun i j => sg (f18 i j)) (M2.addf (φ := .f32) (M2.mulf (φ := .f32) (M2.bcst bits_half)
    (M2.tanh (φ := .f32) (M2.mulf (φ := .f32) (M2.bcst bits_half) (M2.cast h18 shapeCasts_S32x256_S32x256)))) (M2.bcst bits_half)) fun i j _ _ => sg_tanh _))
  have e0 : Scalar.cmpi .sgt (Scalar.subi 10#32 (BitVec.ofNat 32 (i 0).val)) 0#32
      = BitVec.ofBool ((0#32).slt (10#32 - BitVec.ofNat 32 (i 0).val)) := rfl
  have e1 : 10#32 - BitVec.ofNat 32 (i 0).val = BitVec.ofNat 32 p := by
    rw [hi]; interval_cases p <;> decide
  rw [e1] at e0
  have c := sgt_small p hp
  rw [← e0] at c
  by_cases h : 0 < p
  · have e : k0_pay13 (F := Ideal) i v16 v18 = shapeCast S32x256 _ shapeCasts_S32x256_S32x256 := rfl
    rw [e]
    refine M2.cast ?_ _
    rw [Scalar.select]
    refine (if_pos (show _ = (1 : BitVec 1) from c.2 h)).symm ▸ ?_
    simp only [if_pos h]
    exact h27
  · have e : k0_pay13 (F := Ideal) i v16 v18 = shapeCast S32x256 _ shapeCasts_S32x256_S32x256 := rfl
    rw [e]
    refine M2.cast ?_ _
    rw [Scalar.select]
    refine (if_neg (show ¬ _ = (1 : BitVec 1) from fun q => h (c.1 q))).symm ▸ ?_
    simp only [if_neg h]
    exact M2.bcst bits_zero

theorem p_k0_pay1 {v563 : Vec Ideal S32x256 .f32} {f563 : ℕ → ℕ → ℝ} (h563 : M2 v563 f563) :
    M2 (k0_pay1 (F := Ideal) v563) (fun i j => f563 i j) := (M2.cast h563 _)

theorem p_k0_pay3 {v0 : BitVec 32} {v14 : FVec Ideal S768x256 .f32} {v562 : FVec Ideal S768x256 .f32} {f14 : ℕ → ℕ → ℝ} {f562 : ℕ → ℕ → ℝ} {p : ℕ} (hv0 : v0 = BitVec.ofNat 32 p ∧ p ≤ 10) (h14 : M2 v14 f14) (h562 : M2 v562 f562) :
    M2 (k0_pay3 (F := Ideal) v0 v14 v562) (fun i j => (if 240 ≤ i + p * 768 then f562 i j else 0) * (f14 i j)) := (M2.truncf (M2.mulf (p_k0_pay2 hv0 h562) h14) bitsLt_bf16_f32)

theorem p_k0_pay4 {v0 : BitVec 32} {v5 : FVec Ideal S768x256 .f32} {v14 : FVec Ideal S768x256 .f32} {v562 : FVec Ideal S768x256 .f32} {f5 : ℕ → ℕ → ℝ} {f14 : ℕ → ℕ → ℝ} {f562 : ℕ → ℕ → ℝ} {p : ℕ} (hv0 : v0 = BitVec.ofNat 32 p ∧ p ≤ 10) (h5 : M2 v5 f5) (h14 : M2 v14 f14) (h562 : M2 v562 f562) :
    M2 (k0_pay4 (F := Ideal) v0 v5 v14 v562) (fun i j => (((if 240 ≤ i + p * 768 then f562 i j else 0) * (f5 i j)) * (f14 i j)) * (1 - (f14 i j))) := (M2.truncf (M2.mulf (M2.mulf (M2.mulf (p_k0_pay2 hv0 h562) h5) h14) (M2.subf (M2.bcst bits_one) h14)) bitsLt_bf16_f32)

theorem p_k0_pay5 :
    M2 (k0_pay5 (F := Ideal)) (fun i j => 0) := (M2.bcst bits_zero)

theorem p_k0_pay6 :
    M2 (k0_pay6 (F := Ideal)) (fun i j => 0) := (M2.bcst bits_zero)

theorem p_k0_pay7 :
    M2 (k0_pay7 (F := Ideal)) (fun i j => 0) := (M2.bcst bits_zero)

theorem p_k0_pay8 :
    M2 (k0_pay8 (F := Ideal)) (fun i j => 0) := (M2.bcst bits_zero)

theorem p_k0_pay9 :
    M2 (k0_pay9 (F := Ideal)) (fun i j => 0) := (M2.bcst bits_zero)

theorem p_k0_pay10 :
    M2 (k0_pay10 (F := Ideal)) (fun i j => 0) := (M2.cast (M2.bcst bits_zero) _)

theorem p_k0_pay11 {v4 : Vec Ideal S768x256 .f32} {f4 : ℕ → ℕ → ℝ} (h4 : M2 v4 f4) :
    M2 (k0_pay11 (F := Ideal) v4) (fun i j => f4 i j) := (M2.cast h4 _)

theorem p_k0_pay12 {v6 : Vec Ideal S768x256 .f32} {f6 : ℕ → ℕ → ℝ} (h6 : M2 v6 f6) :
    M2 (k0_pay12 (F := Ideal) v6) (fun i j => sg (f6 i j)) := (M2.congr (M2.addf (M2.mulf (M2.bcst bits_half) (M2.tanh (M2.mulf (M2.bcst bits_half) (M2.cast h6 _)))) (M2.bcst bits_half)) fun i j _ _ => sg_tanh _)

theorem p_k0_pay14 {v4 : Vec Ideal S768x256 .f32} {v6 : Vec Ideal S768x256 .f32} {f4 : ℕ → ℕ → ℝ} {f6 : ℕ → ℕ → ℝ} (h4 : M2 v4 f4) (h6 : M2 v6 f6) :
    M2 (k0_pay14 (F := Ideal) v4 v6) (fun i j => ((f4 i j)) * (sg ((f6 i j)))) := (M2.mulf (p_k0_pay11 h4) (p_k0_pay12 h6))

theorem p_k0_pay15 {v33 : FVec Ideal S768x256 .f32} {f33 : ℕ → ℕ → ℝ} (h33 : M2 v33 f33) :
    M2 (k0_pay15 (F := Ideal) v33) (fun i j => f33 i j) := (M2.cast h33 _)

theorem p_k0_pay16 {v37 : Vec Ideal S768x256 .f32} {f37 : ℕ → ℕ → ℝ} (h37 : M2 v37 f37) :
    M2 (k0_pay16 (F := Ideal) v37) (fun i j => xc (f37 i) j) := (M2.congr (M2.subf (M2.cast h37 _) (M2.bacross (M2.divf (M1.toCol (M2.sum1 (acc := 0x00000000#32) (M2.cast h37 _) _ (.inl rfl) rfl) _) (M2.bcst bits_256) (fun _ _ => by norm_num)) _ (by decide))) fun i j _ _ => rfl)

theorem p_k0_pay17 {v37 : Vec Ideal S768x256 .f32} {f37 : ℕ → ℕ → ℝ} (h37 : M2 v37 f37) :
    M2 (k0_pay17 (F := Ideal) v37) (fun i j => rs (f37 i)) := (M2.congr (M2.rsqrt (M2.addf (M2.divf (M1.toCol (M2.sum1 (acc := 0x00000000#32) (M2.mulf (p_k0_pay16 h37) (p_k0_pay16 h37)) _ (.inl rfl) rfl) _) (M2.bcst bits_256) (fun _ _ => by norm_num)) (M2.bcst bits_eps)) (fun i _ => vr_pos (f37 i))) fun i j _ _ => rfl)

theorem p_k0_pay18 {v37 : Vec Ideal S768x256 .f32} {f37 : ℕ → ℕ → ℝ} (h37 : M2 v37 f37) :
    M2 (k0_pay18 (F := Ideal) v37) (fun i j => xh (f37 i) j) := (M2.congr (M2.mulf (p_k0_pay16 h37) (M2.bacross (p_k0_pay17 h37) _ (by decide))) fun i j _ _ => rfl)

theorem p_k0_pay19 {v55 : Vec Ideal S1x256 .f32} {f55 : ℕ → ℕ → ℝ} (h55 : M2 v55 f55) :
    M2 (k0_pay19 (F := Ideal) v55) (fun i j => f55 i j) := (M2.cast h55 _)

theorem p_k0_pay20 {v37 : Vec Ideal S768x256 .f32} {v55 : Vec Ideal S1x256 .f32} {v59 : Vec Ideal S1x256 .f32} {f37 : ℕ → ℕ → ℝ} {f55 : ℕ → ℕ → ℝ} {f59 : ℕ → ℕ → ℝ} (h37 : M2 v37 f37) (h55 : M2 v55 f55) (h59 : M2 v59 f59) :
    M2 (k0_pay20 (F := Ideal) v37 v55 v59) (fun i j => ((xh ((fun c => f37 i c)) j) * ((f55 0 j))) + (f59 0 j)) := (M2.addf (M2.mulf (p_k0_pay18 h37) (M2.bdown (p_k0_pay19 h55) broadcasts_S1x256_S768x256 (by decide))) (M2.bdown (M2.cast h59 _) broadcasts_S1x256_S768x256 (by decide)))

theorem p_k0_pay21 {v37 : Vec Ideal S768x256 .f32} {v55 : Vec Ideal S1x256 .f32} {v59 : Vec Ideal S1x256 .f32} {f37 : ℕ → ℕ → ℝ} {f55 : ℕ → ℕ → ℝ} {f59 : ℕ → ℕ → ℝ} (h37 : M2 v37 f37) (h55 : M2 v55 f55) (h59 : M2 v59 f59) :
    M2 (k0_pay21 (F := Ideal) v37 v55 v59) (fun i j => sg (xh (f37 i) j * f55 0 j + f59 0 j)) := (M2.congr (M2.addf (M2.mulf (M2.bcst bits_half) (M2.tanh (M2.mulf (M2.bcst bits_half) (p_k0_pay20 h37 h55 h59)))) (M2.bcst bits_half)) fun i j _ _ => sg_tanh _)

theorem p_k0_pay22 {v37 : Vec Ideal S768x256 .f32} {v55 : Vec Ideal S1x256 .f32} {v59 : Vec Ideal S1x256 .f32} {f37 : ℕ → ℕ → ℝ} {f55 : ℕ → ℕ → ℝ} {f59 : ℕ → ℕ → ℝ} (h37 : M2 v37 f37) (h55 : M2 v55 f55) (h59 : M2 v59 f59) :
    M2 (k0_pay22 (F := Ideal) v37 v55 v59) (fun i j => (((xh ((fun c => (f37 i c))) j) * (((f55 0 j)))) + ((f59 0 j))) * (sg (xh ((fun c => f37 i c)) j * (f55 0 j) + (f59 0 j)))) := (M2.truncf (M2.mulf (p_k0_pay20 h37 h55 h59) (p_k0_pay21 h37 h55 h59)) bitsLt_bf16_f32)

theorem p_k0_pay23 {v72 : Vec Ideal S768x256 .f32} {f72 : ℕ → ℕ → ℝ} (h72 : M2 v72 f72) :
    M2 (k0_pay23 (F := Ideal) v72) (fun i j => f72 i j) := (M2.truncf (M2.cast h72 _) bitsLt_bf16_f32)

theorem p_k0_pay24 {v71 : FVec Ideal S768x256 .bf16} {v74 : FVec Ideal S768x256 .bf16} {v75 : Vec Ideal S256x256 .f32} {f71 : ℕ → ℕ → ℝ} {f74 : ℕ → ℕ → ℝ} {f75 : ℕ → ℕ → ℝ} (h71 : M2 v71 f71) (h74 : M2 v74 f74) (h75 : M2 v75 f75) :
    M2 (k0_pay24 (F := Ideal) v71 v74 v75) (fun i j => (f75 i j) + (∑ t1 ∈ range 768, (f71 t1 i) * (f74 t1 j))) := (M2.addf (M2.cast h75 _) (M2.body (M2.dotTN h71 h74 _ rfl (fun _ _ => ⟨rfl, rfl⟩) (fun _ _ => ⟨rfl, rfl⟩))))

theorem p_k0_pay25 {v62 : FVec Ideal S768x256 .f32} {v69 : FVec Ideal S768x256 .f32} {v74 : FVec Ideal S768x256 .bf16} {v80 : Vec Ideal S256x256 .bf16} {f62 : ℕ → ℕ → ℝ} {f69 : ℕ → ℕ → ℝ} {f74 : ℕ → ℕ → ℝ} {f80 : ℕ → ℕ → ℝ} (h62 : M2 v62 f62) (h69 : M2 v69 f69) (h74 : M2 v74 f74) (h80 : M2 v80 f80) :
    M2 (k0_pay25 (F := Ideal) v62 v69 v74 v80) (fun i j => (∑ t2 ∈ range 256, (f74 i t2) * (f80 j t2)) * ((f69 i j) * (1 + ((f62 i j) * (1 - (f69 i j)))))) := (M2.mulf (M2.body (M2.dotNT h74 (M2.cast h80 _) _ rfl (fun _ _ => ⟨rfl, rfl⟩) (fun _ _ => ⟨rfl, rfl⟩))) (M2.mulf h69 (M2.addf (M2.bcst bits_one) (M2.mulf h62 (M2.subf (M2.bcst bits_one) h69)))))

theorem p_k0_pay26 {v54 : FVec Ideal S768x256 .f32} {v62 : FVec Ideal S768x256 .f32} {v69 : FVec Ideal S768x256 .f32} {v74 : FVec Ideal S768x256 .bf16} {v80 : Vec Ideal S256x256 .bf16} {v90 : Vec Ideal S1x256 .f32} {f54 : ℕ → ℕ → ℝ} {f62 : ℕ → ℕ → ℝ} {f69 : ℕ → ℕ → ℝ} {f74 : ℕ → ℕ → ℝ} {f80 : ℕ → ℕ → ℝ} {f90 : ℕ → ℕ → ℝ} (h54 : M2 v54 f54) (h62 : M2 v62 f62) (h69 : M2 v69 f69) (h74 : M2 v74 f74) (h80 : M2 v80 f80) (h90 : M2 v90 f90) :
    M2 (k0_pay26 (F := Ideal) v54 v62 v69 v74 v80 v90) (fun i j => (f90 i j) + (∑ t3 ∈ range 768, (((∑ t4 ∈ range 256, ((f74 t3 t4)) * ((f80 j t4))) * (((f69 t3 j)) * (1 + (((f62 t3 j)) * (1 - ((f69 t3 j))))))) * (f54 t3 j)))) := (M2.addf (M2.cast h90 _) (M1.toRow (M2.sum0 (acc := 0x00000000#32) (M2.mulf (p_k0_pay25 h62 h69 h74 h80) h54) _ (.inl rfl) rfl) _))

theorem p_k0_pay27 {v62 : FVec Ideal S768x256 .f32} {v69 : FVec Ideal S768x256 .f32} {v74 : FVec Ideal S768x256 .bf16} {v80 : Vec Ideal S256x256 .bf16} {v97 : Vec Ideal S1x256 .f32} {f62 : ℕ → ℕ → ℝ} {f69 : ℕ → ℕ → ℝ} {f74 : ℕ → ℕ → ℝ} {f80 : ℕ → ℕ → ℝ} {f97 : ℕ → ℕ → ℝ} (h62 : M2 v62 f62) (h69 : M2 v69 f69) (h74 : M2 v74 f74) (h80 : M2 v80 f80) (h97 : M2 v97 f97) :
    M2 (k0_pay27 (F := Ideal) v62 v69 v74 v80 v97) (fun i j => (f97 i j) + (∑ t5 ∈ range 768, ((∑ t6 ∈ range 256, ((f74 t5 t6)) * ((f80 j t6))) * (((f69 t5 j)) * (1 + (((f62 t5 j)) * (1 - ((f69 t5 j))))))))) := (M2.addf (M2.cast h97 _) (M1.toRow (M2.sum0 (acc := 0x00000000#32) (p_k0_pay25 h62 h69 h74 h80) _ (.inl rfl) rfl) _))

theorem p_k0_pay28 {v56 : FVec Ideal S1x256 .f32} {v62 : FVec Ideal S768x256 .f32} {v69 : FVec Ideal S768x256 .f32} {v74 : FVec Ideal S768x256 .bf16} {v80 : Vec Ideal S256x256 .bf16} {f56 : ℕ → ℕ → ℝ} {f62 : ℕ → ℕ → ℝ} {f69 : ℕ → ℕ → ℝ} {f74 : ℕ → ℕ → ℝ} {f80 : ℕ → ℕ → ℝ} (h56 : M2 v56 f56) (h62 : M2 v62 f62) (h69 : M2 v69 f69) (h74 : M2 v74 f74) (h80 : M2 v80 f80) :
    M2 (k0_pay28 (F := Ideal) v56 v62 v69 v74 v80) (fun i j => ((∑ t7 ∈ range 256, ((f74 i t7)) * ((f80 j t7))) * (((f69 i j)) * (1 + (((f62 i j)) * (1 - ((f69 i j))))))) * (f56 0 j)) := (M2.mulf (p_k0_pay25 h62 h69 h74 h80) (M2.bdown h56 broadcasts_S1x256_S768x256 (by decide)))

theorem p_k0_pay29 {v56 : FVec Ideal S1x256 .f32} {v62 : FVec Ideal S768x256 .f32} {v69 : FVec Ideal S768x256 .f32} {v74 : FVec Ideal S768x256 .bf16} {v80 : Vec Ideal S256x256 .bf16} {f56 : ℕ → ℕ → ℝ} {f62 : ℕ → ℕ → ℝ} {f69 : ℕ → ℕ → ℝ} {f74 : ℕ → ℕ → ℝ} {f80 : ℕ → ℕ → ℝ} (h56 : M2 v56 f56) (h62 : M2 v62 f62) (h69 : M2 v69 f69) (h74 : M2 v74 f74) (h80 : M2 v80 f80) :
    M2 (k0_pay29 (F := Ideal) v56 v62 v69 v74 v80) (fun i j => (∑ t8 ∈ range 256, (((∑ t9 ∈ range 256, (((f74 i t9))) * (((f80 t8 t9)))) * ((((f69 i t8))) * (1 + ((((f62 i t8))) * (1 - (((f69 i t8)))))))) * ((f56 0 t8)))) / 256) := (M2.divf (M1.toCol (M2.sum1 (acc := 0x00000000#32) (p_k0_pay28 h56 h62 h69 h74 h80) _ (.inl rfl) rfl) _) (M2.bcst bits_256) (fun _ _ => by norm_num))

theorem p_k0_pay30 {v54 : FVec Ideal S768x256 .f32} {v56 : FVec Ideal S1x256 .f32} {v62 : FVec Ideal S768x256 .f32} {v69 : FVec Ideal S768x256 .f32} {v74 : FVec Ideal S768x256 .bf16} {v80 : Vec Ideal S256x256 .bf16} {f54 : ℕ → ℕ → ℝ} {f56 : ℕ → ℕ → ℝ} {f62 : ℕ → ℕ → ℝ} {f69 : ℕ → ℕ → ℝ} {f74 : ℕ → ℕ → ℝ} {f80 : ℕ → ℕ → ℝ} (h54 : M2 v54 f54) (h56 : M2 v56 f56) (h62 : M2 v62 f62) (h69 : M2 v69 f69) (h74 : M2 v74 f74) (h80 : M2 v80 f80) :
    M1 (k0_pay30 (F := Ideal) v54 v56 v62 v69 v74 v80) (fun i => ∑ t10 ∈ range 256, ((((∑ t11 ∈ range 256, (((f74 i t11))) * (((f80 t10 t11)))) * ((((f69 i t10))) * (1 + ((((f62 i t10))) * (1 - (((f69 i t10)))))))) * ((f56 0 t10))) * (f54 i t10))) := (M2.sum1 (acc := 0x00000000#32) (M2.mulf (p_k0_pay28 h56 h62 h69 h74 h80) h54) _ (.inl rfl) rfl)

theorem p_k0_pay31 {v52 : FVec Ideal S768x1 .f32} {v54 : FVec Ideal S768x256 .f32} {v104 : FVec Ideal S768x256 .f32} {v108 : FVec Ideal S768x1 .f32} {v110 : FVec Ideal S768 .f32} {f52 : ℕ → ℕ → ℝ} {f54 : ℕ → ℕ → ℝ} {f104 : ℕ → ℕ → ℝ} {f108 : ℕ → ℕ → ℝ} {f110 : ℕ → ℝ} (h52 : M2 v52 f52) (h54 : M2 v54 f54) (h104 : M2 v104 f104) (h108 : M2 v108 f108) (h110 : M1 v110 f110) :
    M2 (k0_pay31 (F := Ideal) v52 v54 v104 v108 v110) (fun i j => (f52 i 0) * (((f104 i j) - (f108 i 0)) - ((f54 i j) * ((f110 i) / 256)))) := (M2.mulf (M2.bacross h52 _ (by decide)) (M2.subf (M2.subf h104 (M2.bacross h108 _ (by decide))) (M2.mulf h54 (M2.bacross (M2.divf (M1.toCol h110 _) (M2.bcst bits_256) (fun _ _ => by norm_num)) _ (by decide)))))

theorem p_k0_pay32 {v52 : FVec Ideal S768x1 .f32} {v54 : FVec Ideal S768x256 .f32} {v104 : FVec Ideal S768x256 .f32} {v108 : FVec Ideal S768x1 .f32} {v110 : FVec Ideal S768 .f32} {v121 : Vec Ideal S1x256 .f32} {f52 : ℕ → ℕ → ℝ} {f54 : ℕ → ℕ → ℝ} {f104 : ℕ → ℕ → ℝ} {f108 : ℕ → ℕ → ℝ} {f110 : ℕ → ℝ} {f121 : ℕ → ℕ → ℝ} (h52 : M2 v52 f52) (h54 : M2 v54 f54) (h104 : M2 v104 f104) (h108 : M2 v108 f108) (h110 : M1 v110 f110) (h121 : M2 v121 f121) :
    M2 (k0_pay32 (F := Ideal) v52 v54 v104 v108 v110 v121) (fun i j => (f121 i j) + (∑ t12 ∈ range 768, (((f52 t12 0)) * ((((f104 t12 j)) - ((f108 t12 0))) - (((f54 t12 j)) * (((f110 t12)) / 256)))))) := (M2.addf (M2.cast h121 _) (M1.toRow (M2.sum0 (acc := 0x00000000#32) (p_k0_pay31 h52 h54 h104 h108 h110) _ (.inl rfl) rfl) _))

theorem p_k0_pay33 {v52 : FVec Ideal S768x1 .f32} {v54 : FVec Ideal S768x256 .f32} {v104 : FVec Ideal S768x256 .f32} {v108 : FVec Ideal S768x1 .f32} {v110 : FVec Ideal S768 .f32} {f52 : ℕ → ℕ → ℝ} {f54 : ℕ → ℕ → ℝ} {f104 : ℕ → ℕ → ℝ} {f108 : ℕ → ℕ → ℝ} {f110 : ℕ → ℝ} (h52 : M2 v52 f52) (h54 : M2 v54 f54) (h104 : M2 v104 f104) (h108 : M2 v108 f108) (h110 : M1 v110 f110) :
    M2 (k0_pay33 (F := Ideal) v52 v54 v104 v108 v110) (fun i j => ((f52 i 0)) * ((((f104 i j)) - ((f108 i 0))) - (((f54 i j)) * (((f110 i)) / 256)))) := (M2.cast (p_k0_pay31 h52 h54 h104 h108 h110) _)

theorem p_k0_pay34 {v52 : FVec Ideal S768x1 .f32} {v54 : FVec Ideal S768x256 .f32} {v104 : FVec Ideal S768x256 .f32} {v108 : FVec Ideal S768x1 .f32} {v110 : FVec Ideal S768 .f32} {v130 : Vec Ideal S1x256 .f32} {v132 : Vec Ideal S768x256 .f32} {f52 : ℕ → ℕ → ℝ} {f54 : ℕ → ℕ → ℝ} {f104 : ℕ → ℕ → ℝ} {f108 : ℕ → ℕ → ℝ} {f110 : ℕ → ℝ} {f130 : ℕ → ℕ → ℝ} {f132 : ℕ → ℕ → ℝ} (h52 : M2 v52 f52) (h54 : M2 v54 f54) (h104 : M2 v104 f104) (h108 : M2 v108 f108) (h110 : M1 v110 f110) (h130 : M2 v130 f130) (h132 : M2 v132 f132) :
    M2 (k0_pay34 (F := Ideal) v52 v54 v104 v108 v110 v130 v132) (fun i j => (f130 i j) + (∑ t13 ∈ range 768, ((((f52 t13 0)) * ((((f104 t13 j)) - ((f108 t13 0))) - (((f54 t13 j)) * (((f110 t13)) / 256)))) * (f132 t13 j)))) := (M2.addf (M2.cast h130 _) (M1.toRow (M2.sum0 (acc := 0x00000000#32) (M2.mulf (p_k0_pay31 h52 h54 h104 h108 h110) h132) _ (.inl rfl) rfl) _))

theorem p_k0_pay35 {v138 : Vec Ideal S1x256 .f32} {v140 : Vec Ideal S768x256 .f32} {f138 : ℕ → ℕ → ℝ} {f140 : ℕ → ℕ → ℝ} (h138 : M2 v138 f138) (h140 : M2 v140 f140) :
    M2 (k0_pay35 (F := Ideal) v138 v140) (fun i j => (f138 0 j) * (f140 i j)) := (M2.mulf (M2.bdown (M2.cast h138 _) broadcasts_S1x256_S768x256 (by decide)) h140)

theorem p_k0_pay36 {v143 : Vec Ideal S1x256 .f32} {f143 : ℕ → ℕ → ℝ} (h143 : M2 v143 f143) :
    M2 (k0_pay36 (F := Ideal) v143) (fun i j => f143 i j) := (M2.cast h143 _)

theorem p_k0_pay37 {v120 : FVec Ideal S768x256 .f32} {v144 : FVec Ideal S1x256 .f32} {v145 : Vec Ideal S768x256 .f32} {f120 : ℕ → ℕ → ℝ} {f144 : ℕ → ℕ → ℝ} {f145 : ℕ → ℕ → ℝ} (h120 : M2 v120 f120) (h144 : M2 v144 f144) (h145 : M2 v145 f145) :
    M2 (k0_pay37 (F := Ideal) v120 v144 v145) (fun i j => (f144 i j) + (∑ t14 ∈ range 768, ((f120 t14 j) * (f145 t14 j)))) := (M2.addf h144 (M1.toRow (M2.sum0 (acc := 0x00000000#32) (M2.mulf h120 h145) _ (.inl rfl) rfl) _))

theorem p_k0_pay38 {v120 : FVec Ideal S768x256 .f32} {v157 : Vec Ideal S1x256 .f32} {v159 : Vec Ideal S768x256 .f32} {f120 : ℕ → ℕ → ℝ} {f157 : ℕ → ℕ → ℝ} {f159 : ℕ → ℕ → ℝ} (h120 : M2 v120 f120) (h157 : M2 v157 f157) (h159 : M2 v159 f159) :
    M2 (k0_pay38 (F := Ideal) v120 v157 v159) (fun i j => (f157 i j) + (∑ t15 ∈ range 768, ((f120 t15 j) * (f159 t15 j)))) := (M2.addf (M2.cast h157 _) (M1.toRow (M2.sum0 (acc := 0x00000000#32) (M2.mulf h120 h159) _ (.inl rfl) rfl) _))

theorem p_k0_pay39 {v142 : FVec Ideal S768x256 .f32} {v151 : Vec Ideal S1x256 .f32} {v153 : Vec Ideal S768x256 .f32} {v165 : Vec Ideal S1x256 .f32} {v167 : Vec Ideal S768x256 .f32} {f142 : ℕ → ℕ → ℝ} {f151 : ℕ → ℕ → ℝ} {f153 : ℕ → ℕ → ℝ} {f165 : ℕ → ℕ → ℝ} {f167 : ℕ → ℕ → ℝ} (h142 : M2 v142 f142) (h151 : M2 v151 f151) (h153 : M2 v153 f153) (h165 : M2 v165 f165) (h167 : M2 v167 f167) :
    M2 (k0_pay39 (F := Ideal) v142 v151 v153 v165 v167) (fun i j => ((f142 i j) + ((f151 0 j) * (f153 i j))) + ((f165 0 j) * (f167 i j))) := (M2.addf (M2.addf h142 (M2.mulf (M2.bdown (M2.cast h151 _) broadcasts_S1x256_S768x256 (by decide)) h153)) (M2.mulf (M2.bdown (M2.cast h165 _) broadcasts_S1x256_S768x256 (by decide)) h167))

theorem p_k0_pay40 {v120 : FVec Ideal S768x256 .f32} {v171 : Vec Ideal S1x256 .f32} {v173 : Vec Ideal S768x256 .f32} {f120 : ℕ → ℕ → ℝ} {f171 : ℕ → ℕ → ℝ} {f173 : ℕ → ℕ → ℝ} (h120 : M2 v120 f120) (h171 : M2 v171 f171) (h173 : M2 v173 f173) :
    M2 (k0_pay40 (F := Ideal) v120 v171 v173) (fun i j => (f171 i j) + (∑ t16 ∈ range 768, ((f120 t16 j) * (f173 t16 j)))) := (M2.addf (M2.cast h171 _) (M1.toRow (M2.sum0 (acc := 0x00000000#32) (M2.mulf h120 h173) _ (.inl rfl) rfl) _))

theorem p_k0_pay41 {v120 : FVec Ideal S768x256 .f32} {v185 : Vec Ideal S1x256 .f32} {v187 : Vec Ideal S768x256 .f32} {f120 : ℕ → ℕ → ℝ} {f185 : ℕ → ℕ → ℝ} {f187 : ℕ → ℕ → ℝ} (h120 : M2 v120 f120) (h185 : M2 v185 f185) (h187 : M2 v187 f187) :
    M2 (k0_pay41 (F := Ideal) v120 v185 v187) (fun i j => (f185 i j) + (∑ t17 ∈ range 768, ((f120 t17 j) * (f187 t17 j)))) := (M2.addf (M2.cast h185 _) (M1.toRow (M2.sum0 (acc := 0x00000000#32) (M2.mulf h120 h187) _ (.inl rfl) rfl) _))

theorem p_k0_pay42 {v170 : FVec Ideal S768x256 .f32} {v179 : Vec Ideal S1x256 .f32} {v181 : Vec Ideal S768x256 .f32} {v193 : Vec Ideal S1x256 .f32} {v195 : Vec Ideal S768x256 .f32} {f170 : ℕ → ℕ → ℝ} {f179 : ℕ → ℕ → ℝ} {f181 : ℕ → ℕ → ℝ} {f193 : ℕ → ℕ → ℝ} {f195 : ℕ → ℕ → ℝ} (h170 : M2 v170 f170) (h179 : M2 v179 f179) (h181 : M2 v181 f181) (h193 : M2 v193 f193) (h195 : M2 v195 f195) :
    M2 (k0_pay42 (F := Ideal) v170 v179 v181 v193 v195) (fun i j => ((f170 i j) + ((f179 0 j) * (f181 i j))) + ((f193 0 j) * (f195 i j))) := (M2.addf (M2.addf h170 (M2.mulf (M2.bdown (M2.cast h179 _) broadcasts_S1x256_S768x256 (by decide)) h181)) (M2.mulf (M2.bdown (M2.cast h193 _) broadcasts_S1x256_S768x256 (by decide)) h195))

theorem p_k0_pay43 {v120 : FVec Ideal S768x256 .f32} {v199 : Vec Ideal S1x256 .f32} {v201 : Vec Ideal S768x256 .f32} {f120 : ℕ → ℕ → ℝ} {f199 : ℕ → ℕ → ℝ} {f201 : ℕ → ℕ → ℝ} (h120 : M2 v120 f120) (h199 : M2 v199 f199) (h201 : M2 v201 f201) :
    M2 (k0_pay43 (F := Ideal) v120 v199 v201) (fun i j => (f199 i j) + (∑ t18 ∈ range 768, ((f120 t18 j) * (f201 t18 j)))) := (M2.addf (M2.cast h199 _) (M1.toRow (M2.sum0 (acc := 0x00000000#32) (M2.mulf h120 h201) _ (.inl rfl) rfl) _))

theorem p_k0_pay44 {v207 : Vec Ideal S1x256 .f32} {f207 : ℕ → ℕ → ℝ} (h207 : M2 v207 f207) :
    M2 (k0_pay44 (F := Ideal) v207) (fun i j => f207 i j) := (M2.cast h207 _)

theorem p_k0_pay45 {v120 : FVec Ideal S768x256 .f32} {v213 : Vec Ideal S1x256 .f32} {v215 : Vec Ideal S768x256 .f32} {f120 : ℕ → ℕ → ℝ} {f213 : ℕ → ℕ → ℝ} {f215 : ℕ → ℕ → ℝ} (h120 : M2 v120 f120) (h213 : M2 v213 f213) (h215 : M2 v215 f215) :
    M2 (k0_pay45 (F := Ideal) v120 v213 v215) (fun i j => (f213 i j) + (∑ t19 ∈ range 768, ((f120 t19 j) * (f215 t19 j)))) := (M2.addf (M2.cast h213 _) (M1.toRow (M2.sum0 (acc := 0x00000000#32) (M2.mulf h120 h215) _ (.inl rfl) rfl) _))

theorem p_k0_pay46 {v120 : FVec Ideal S768x256 .f32} {v227 : Vec Ideal S1x256 .f32} {v229 : Vec Ideal S768x256 .f32} {f120 : ℕ → ℕ → ℝ} {f227 : ℕ → ℕ → ℝ} {f229 : ℕ → ℕ → ℝ} (h120 : M2 v120 f120) (h227 : M2 v227 f227) (h229 : M2 v229 f229) :
    M2 (k0_pay46 (F := Ideal) v120 v227 v229) (fun i j => (f227 i j) + (∑ t20 ∈ range 768, ((f120 t20 j) * (f229 t20 j)))) := (M2.addf (M2.cast h227 _) (M1.toRow (M2.sum0 (acc := 0x00000000#32) (M2.mulf h120 h229) _ (.inl rfl) rfl) _))

theorem p_k0_pay47 {v198 : FVec Ideal S768x256 .f32} {v208 : FVec Ideal S1x256 .f32} {v209 : Vec Ideal S768x256 .f32} {v221 : Vec Ideal S1x256 .f32} {v223 : Vec Ideal S768x256 .f32} {v235 : Vec Ideal S1x256 .f32} {v237 : Vec Ideal S768x256 .f32} {f198 : ℕ → ℕ → ℝ} {f208 : ℕ → ℕ → ℝ} {f209 : ℕ → ℕ → ℝ} {f221 : ℕ → ℕ → ℝ} {f223 : ℕ → ℕ → ℝ} {f235 : ℕ → ℕ → ℝ} {f237 : ℕ → ℕ → ℝ} (h198 : M2 v198 f198) (h208 : M2 v208 f208) (h209 : M2 v209 f209) (h221 : M2 v221 f221) (h223 : M2 v223 f223) (h235 : M2 v235 f235) (h237 : M2 v237 f237) :
    M2 (k0_pay47 (F := Ideal) v198 v208 v209 v221 v223 v235 v237) (fun i j => (((f198 i j) + ((f208 0 j) * (f209 i j))) + ((f221 0 j) * (f223 i j))) + ((f235 0 j) * (f237 i j))) := (M2.addf (M2.addf (M2.addf h198 (M2.mulf (M2.bdown h208 broadcasts_S1x256_S768x256 (by decide)) h209)) (M2.mulf (M2.bdown (M2.cast h221 _) broadcasts_S1x256_S768x256 (by decide)) h223)) (M2.mulf (M2.bdown (M2.cast h235 _) broadcasts_S1x256_S768x256 (by decide)) h237))

theorem p_k0_pay48 {v241 : Vec Ideal S1x256 .f32} {f241 : ℕ → ℕ → ℝ} (h241 : M2 v241 f241) :
    M2 (k0_pay48 (F := Ideal) v241) (fun i j => f241 i j) := (M2.cast h241 _)

theorem p_k0_pay49 {v120 : FVec Ideal S768x256 .f32} {v242 : FVec Ideal S1x256 .f32} {v243 : Vec Ideal S768x256 .f32} {f120 : ℕ → ℕ → ℝ} {f242 : ℕ → ℕ → ℝ} {f243 : ℕ → ℕ → ℝ} (h120 : M2 v120 f120) (h242 : M2 v242 f242) (h243 : M2 v243 f243) :
    M2 (k0_pay49 (F := Ideal) v120 v242 v243) (fun i j => (f242 i j) + (∑ t21 ∈ range 768, ((f120 t21 j) * (f243 t21 j)))) := (M2.addf h242 (M1.toRow (M2.sum0 (acc := 0x00000000#32) (M2.mulf h120 h243) _ (.inl rfl) rfl) _))

theorem p_k0_pay50 {v120 : FVec Ideal S768x256 .f32} {v255 : Vec Ideal S1x256 .f32} {v257 : Vec Ideal S768x256 .f32} {f120 : ℕ → ℕ → ℝ} {f255 : ℕ → ℕ → ℝ} {f257 : ℕ → ℕ → ℝ} (h120 : M2 v120 f120) (h255 : M2 v255 f255) (h257 : M2 v257 f257) :
    M2 (k0_pay50 (F := Ideal) v120 v255 v257) (fun i j => (f255 i j) + (∑ t22 ∈ range 768, ((f120 t22 j) * (f257 t22 j)))) := (M2.addf (M2.cast h255 _) (M1.toRow (M2.sum0 (acc := 0x00000000#32) (M2.mulf h120 h257) _ (.inl rfl) rfl) _))

theorem p_k0_pay51 {v240 : FVec Ideal S768x256 .f32} {v249 : Vec Ideal S1x256 .f32} {v251 : Vec Ideal S768x256 .f32} {v263 : Vec Ideal S1x256 .f32} {v265 : Vec Ideal S768x256 .f32} {f240 : ℕ → ℕ → ℝ} {f249 : ℕ → ℕ → ℝ} {f251 : ℕ → ℕ → ℝ} {f263 : ℕ → ℕ → ℝ} {f265 : ℕ → ℕ → ℝ} (h240 : M2 v240 f240) (h249 : M2 v249 f249) (h251 : M2 v251 f251) (h263 : M2 v263 f263) (h265 : M2 v265 f265) :
    M2 (k0_pay51 (F := Ideal) v240 v249 v251 v263 v265) (fun i j => ((f240 i j) + ((f249 0 j) * (f251 i j))) + ((f263 0 j) * (f265 i j))) := (M2.addf (M2.addf h240 (M2.mulf (M2.bdown (M2.cast h249 _) broadcasts_S1x256_S768x256 (by decide)) h251)) (M2.mulf (M2.bdown (M2.cast h263 _) broadcasts_S1x256_S768x256 (by decide)) h265))

theorem p_k0_pay52 {v120 : FVec Ideal S768x256 .f32} {v269 : Vec Ideal S1x256 .f32} {v271 : Vec Ideal S768x256 .f32} {f120 : ℕ → ℕ → ℝ} {f269 : ℕ → ℕ → ℝ} {f271 : ℕ → ℕ → ℝ} (h120 : M2 v120 f120) (h269 : M2 v269 f269) (h271 : M2 v271 f271) :
    M2 (k0_pay52 (F := Ideal) v120 v269 v271) (fun i j => (f269 i j) + (∑ t23 ∈ range 768, ((f120 t23 j) * (f271 t23 j)))) := (M2.addf (M2.cast h269 _) (M1.toRow (M2.sum0 (acc := 0x00000000#32) (M2.mulf h120 h271) _ (.inl rfl) rfl) _))

theorem p_k0_pay53 {v120 : FVec Ideal S768x256 .f32} {v283 : Vec Ideal S1x256 .f32} {v285 : Vec Ideal S768x256 .f32} {f120 : ℕ → ℕ → ℝ} {f283 : ℕ → ℕ → ℝ} {f285 : ℕ → ℕ → ℝ} (h120 : M2 v120 f120) (h283 : M2 v283 f283) (h285 : M2 v285 f285) :
    M2 (k0_pay53 (F := Ideal) v120 v283 v285) (fun i j => (f283 i j) + (∑ t24 ∈ range 768, ((f120 t24 j) * (f285 t24 j)))) := (M2.addf (M2.cast h283 _) (M1.toRow (M2.sum0 (acc := 0x00000000#32) (M2.mulf h120 h285) _ (.inl rfl) rfl) _))

theorem p_k0_pay54 {v268 : FVec Ideal S768x256 .f32} {v277 : Vec Ideal S1x256 .f32} {v279 : Vec Ideal S768x256 .f32} {v291 : Vec Ideal S1x256 .f32} {v293 : Vec Ideal S768x256 .f32} {f268 : ℕ → ℕ → ℝ} {f277 : ℕ → ℕ → ℝ} {f279 : ℕ → ℕ → ℝ} {f291 : ℕ → ℕ → ℝ} {f293 : ℕ → ℕ → ℝ} (h268 : M2 v268 f268) (h277 : M2 v277 f277) (h279 : M2 v279 f279) (h291 : M2 v291 f291) (h293 : M2 v293 f293) :
    M2 (k0_pay54 (F := Ideal) v268 v277 v279 v291 v293) (fun i j => ((f268 i j) + ((f277 0 j) * (f279 i j))) + ((f291 0 j) * (f293 i j))) := (M2.addf (M2.addf h268 (M2.mulf (M2.bdown (M2.cast h277 _) broadcasts_S1x256_S768x256 (by decide)) h279)) (M2.mulf (M2.bdown (M2.cast h291 _) broadcasts_S1x256_S768x256 (by decide)) h293))

theorem p_k0_pay55 {v120 : FVec Ideal S768x256 .f32} {v297 : Vec Ideal S1x256 .f32} {v299 : Vec Ideal S768x256 .f32} {f120 : ℕ → ℕ → ℝ} {f297 : ℕ → ℕ → ℝ} {f299 : ℕ → ℕ → ℝ} (h120 : M2 v120 f120) (h297 : M2 v297 f297) (h299 : M2 v299 f299) :
    M2 (k0_pay55 (F := Ideal) v120 v297 v299) (fun i j => (f297 i j) + (∑ t25 ∈ range 768, ((f120 t25 j) * (f299 t25 j)))) := (M2.addf (M2.cast h297 _) (M1.toRow (M2.sum0 (acc := 0x00000000#32) (M2.mulf h120 h299) _ (.inl rfl) rfl) _))

theorem p_k0_pay56 {v305 : Vec Ideal S1x256 .f32} {f305 : ℕ → ℕ → ℝ} (h305 : M2 v305 f305) :
    M2 (k0_pay56 (F := Ideal) v305) (fun i j => f305 i j) := (M2.cast h305 _)

theorem p_k0_pay57 {v120 : FVec Ideal S768x256 .f32} {v311 : Vec Ideal S1x256 .f32} {v313 : Vec Ideal S768x256 .f32} {f120 : ℕ → ℕ → ℝ} {f311 : ℕ → ℕ → ℝ} {f313 : ℕ → ℕ → ℝ} (h120 : M2 v120 f120) (h311 : M2 v311 f311) (h313 : M2 v313 f313) :
    M2 (k0_pay57 (F := Ideal) v120 v311 v313) (fun i j => (f311 i j) + (∑ t26 ∈ range 768, ((f120 t26 j) * (f313 t26 j)))) := (M2.addf (M2.cast h311 _) (M1.toRow (M2.sum0 (acc := 0x00000000#32) (M2.mulf h120 h313) _ (.inl rfl) rfl) _))

theorem p_k0_pay58 {v120 : FVec Ideal S768x256 .f32} {v325 : Vec Ideal S1x256 .f32} {v327 : Vec Ideal S768x256 .f32} {f120 : ℕ → ℕ → ℝ} {f325 : ℕ → ℕ → ℝ} {f327 : ℕ → ℕ → ℝ} (h120 : M2 v120 f120) (h325 : M2 v325 f325) (h327 : M2 v327 f327) :
    M2 (k0_pay58 (F := Ideal) v120 v325 v327) (fun i j => (f325 i j) + (∑ t27 ∈ range 768, ((f120 t27 j) * (f327 t27 j)))) := (M2.addf (M2.cast h325 _) (M1.toRow (M2.sum0 (acc := 0x00000000#32) (M2.mulf h120 h327) _ (.inl rfl) rfl) _))

theorem p_k0_pay59 {v296 : FVec Ideal S768x256 .f32} {v306 : FVec Ideal S1x256 .f32} {v307 : Vec Ideal S768x256 .f32} {v319 : Vec Ideal S1x256 .f32} {v321 : Vec Ideal S768x256 .f32} {v333 : Vec Ideal S1x256 .f32} {v335 : Vec Ideal S768x256 .f32} {f296 : ℕ → ℕ → ℝ} {f306 : ℕ → ℕ → ℝ} {f307 : ℕ → ℕ → ℝ} {f319 : ℕ → ℕ → ℝ} {f321 : ℕ → ℕ → ℝ} {f333 : ℕ → ℕ → ℝ} {f335 : ℕ → ℕ → ℝ} (h296 : M2 v296 f296) (h306 : M2 v306 f306) (h307 : M2 v307 f307) (h319 : M2 v319 f319) (h321 : M2 v321 f321) (h333 : M2 v333 f333) (h335 : M2 v335 f335) :
    M2 (k0_pay59 (F := Ideal) v296 v306 v307 v319 v321 v333 v335) (fun i j => (((f296 i j) + ((f306 0 j) * (f307 i j))) + ((f319 0 j) * (f321 i j))) + ((f333 0 j) * (f335 i j))) := (M2.addf (M2.addf (M2.addf h296 (M2.mulf (M2.bdown h306 broadcasts_S1x256_S768x256 (by decide)) h307)) (M2.mulf (M2.bdown (M2.cast h319 _) broadcasts_S1x256_S768x256 (by decide)) h321)) (M2.mulf (M2.bdown (M2.cast h333 _) broadcasts_S1x256_S768x256 (by decide)) h335))

theorem p_k0_pay60 {v120 : FVec Ideal S768x256 .f32} {v339 : Vec Ideal S1x256 .f32} {v341 : Vec Ideal S768x256 .f32} {f120 : ℕ → ℕ → ℝ} {f339 : ℕ → ℕ → ℝ} {f341 : ℕ → ℕ → ℝ} (h120 : M2 v120 f120) (h339 : M2 v339 f339) (h341 : M2 v341 f341) :
    M2 (k0_pay60 (F := Ideal) v120 v339 v341) (fun i j => (f339 i j) + (∑ t28 ∈ range 768, ((f120 t28 j) * (f341 t28 j)))) := (M2.addf (M2.cast h339 _) (M1.toRow (M2.sum0 (acc := 0x00000000#32) (M2.mulf h120 h341) _ (.inl rfl) rfl) _))

theorem p_k0_pay61 {v120 : FVec Ideal S768x256 .f32} {v353 : Vec Ideal S1x256 .f32} {v355 : Vec Ideal S768x256 .f32} {f120 : ℕ → ℕ → ℝ} {f353 : ℕ → ℕ → ℝ} {f355 : ℕ → ℕ → ℝ} (h120 : M2 v120 f120) (h353 : M2 v353 f353) (h355 : M2 v355 f355) :
    M2 (k0_pay61 (F := Ideal) v120 v353 v355) (fun i j => (f353 i j) + (∑ t29 ∈ range 768, ((f120 t29 j) * (f355 t29 j)))) := (M2.addf (M2.cast h353 _) (M1.toRow (M2.sum0 (acc := 0x00000000#32) (M2.mulf h120 h355) _ (.inl rfl) rfl) _))

theorem p_k0_pay62 {v338 : FVec Ideal S768x256 .f32} {v347 : Vec Ideal S1x256 .f32} {v349 : Vec Ideal S768x256 .f32} {v361 : Vec Ideal S1x256 .f32} {v363 : Vec Ideal S768x256 .f32} {f338 : ℕ → ℕ → ℝ} {f347 : ℕ → ℕ → ℝ} {f349 : ℕ → ℕ → ℝ} {f361 : ℕ → ℕ → ℝ} {f363 : ℕ → ℕ → ℝ} (h338 : M2 v338 f338) (h347 : M2 v347 f347) (h349 : M2 v349 f349) (h361 : M2 v361 f361) (h363 : M2 v363 f363) :
    M2 (k0_pay62 (F := Ideal) v338 v347 v349 v361 v363) (fun i j => ((f338 i j) + ((f347 0 j) * (f349 i j))) + ((f361 0 j) * (f363 i j))) := (M2.addf (M2.addf h338 (M2.mulf (M2.bdown (M2.cast h347 _) broadcasts_S1x256_S768x256 (by decide)) h349)) (M2.mulf (M2.bdown (M2.cast h361 _) broadcasts_S1x256_S768x256 (by decide)) h363))

theorem p_k0_pay63 {v367 : Vec Ideal S1x256 .f32} {f367 : ℕ → ℕ → ℝ} (h367 : M2 v367 f367) :
    M2 (k0_pay63 (F := Ideal) v367) (fun i j => f367 i j) := (M2.cast h367 _)

theorem p_k0_pay64 {v120 : FVec Ideal S768x256 .f32} {v369 : Vec Ideal S768x256 .f32} {f120 : ℕ → ℕ → ℝ} {f369 : ℕ → ℕ → ℝ} (h120 : M2 v120 f120) (h369 : M2 v369 f369) :
    M1 (k0_pay64 (F := Ideal) v120 v369) (fun i => ∑ t30 ∈ range 768, ((f120 t30 i) * (f369 t30 i))) := (M2.sum0 (acc := 0x00000000#32) (M2.mulf h120 h369) _ (.inl rfl) rfl)

theorem p_k0_pay65 {v368 : FVec Ideal S1x256 .f32} {v371 : FVec Ideal S256 .f32} {f368 : ℕ → ℕ → ℝ} {f371 : ℕ → ℝ} (h368 : M2 v368 f368) (h371 : M1 v371 f371) :
    M2 (k0_pay65 (F := Ideal) v368 v371) (fun i j => (f368 i j) + (f371 j)) := (M2.addf h368 (M1.toRow h371 _))

theorem p_k0_pay66 {v120 : FVec Ideal S768x256 .f32} {v381 : Vec Ideal S1x256 .f32} {v383 : Vec Ideal S768x256 .f32} {f120 : ℕ → ℕ → ℝ} {f381 : ℕ → ℕ → ℝ} {f383 : ℕ → ℕ → ℝ} (h120 : M2 v120 f120) (h381 : M2 v381 f381) (h383 : M2 v383 f383) :
    M2 (k0_pay66 (F := Ideal) v120 v381 v383) (fun i j => (f381 i j) + (∑ t31 ∈ range 768, ((f120 t31 j) * (f383 t31 j)))) := (M2.addf (M2.cast h381 _) (M1.toRow (M2.sum0 (acc := 0x00000000#32) (M2.mulf h120 h383) _ (.inl rfl) rfl) _))

theorem p_k0_pay67 {v366 : FVec Ideal S768x256 .f32} {v375 : Vec Ideal S1x256 .f32} {v377 : Vec Ideal S768x256 .f32} {v389 : Vec Ideal S1x256 .f32} {v391 : Vec Ideal S768x256 .f32} {f366 : ℕ → ℕ → ℝ} {f375 : ℕ → ℕ → ℝ} {f377 : ℕ → ℕ → ℝ} {f389 : ℕ → ℕ → ℝ} {f391 : ℕ → ℕ → ℝ} (h366 : M2 v366 f366) (h375 : M2 v375 f375) (h377 : M2 v377 f377) (h389 : M2 v389 f389) (h391 : M2 v391 f391) :
    M2 (k0_pay67 (F := Ideal) v366 v375 v377 v389 v391) (fun i j => ((f366 i j) + ((f375 0 j) * (f377 i j))) + ((f389 0 j) * (f391 i j))) := (M2.addf (M2.addf h366 (M2.mulf (M2.bdown (M2.cast h375 _) broadcasts_S1x256_S768x256 (by decide)) h377)) (M2.mulf (M2.bdown (M2.cast h389 _) broadcasts_S1x256_S768x256 (by decide)) h391))

theorem p_k0_pay68 {v120 : FVec Ideal S768x256 .f32} {v395 : Vec Ideal S1x256 .f32} {v397 : Vec Ideal S768x256 .f32} {f120 : ℕ → ℕ → ℝ} {f395 : ℕ → ℕ → ℝ} {f397 : ℕ → ℕ → ℝ} (h120 : M2 v120 f120) (h395 : M2 v395 f395) (h397 : M2 v397 f397) :
    M2 (k0_pay68 (F := Ideal) v120 v395 v397) (fun i j => (f395 i j) + (∑ t32 ∈ range 768, ((f120 t32 j) * (f397 t32 j)))) := (M2.addf (M2.cast h395 _) (M1.toRow (M2.sum0 (acc := 0x00000000#32) (M2.mulf h120 h397) _ (.inl rfl) rfl) _))

theorem p_k0_pay69 {v120 : FVec Ideal S768x256 .f32} {v409 : Vec Ideal S1x256 .f32} {v411 : Vec Ideal S768x256 .f32} {f120 : ℕ → ℕ → ℝ} {f409 : ℕ → ℕ → ℝ} {f411 : ℕ → ℕ → ℝ} (h120 : M2 v120 f120) (h409 : M2 v409 f409) (h411 : M2 v411 f411) :
    M2 (k0_pay69 (F := Ideal) v120 v409 v411) (fun i j => (f409 i j) + (∑ t33 ∈ range 768, ((f120 t33 j) * (f411 t33 j)))) := (M2.addf (M2.cast h409 _) (M1.toRow (M2.sum0 (acc := 0x00000000#32) (M2.mulf h120 h411) _ (.inl rfl) rfl) _))

theorem p_k0_pay70 {v120 : FVec Ideal S768x256 .f32} {v423 : Vec Ideal S1x256 .f32} {v425 : Vec Ideal S768x256 .f32} {f120 : ℕ → ℕ → ℝ} {f423 : ℕ → ℕ → ℝ} {f425 : ℕ → ℕ → ℝ} (h120 : M2 v120 f120) (h423 : M2 v423 f423) (h425 : M2 v425 f425) :
    M2 (k0_pay70 (F := Ideal) v120 v423 v425) (fun i j => (f423 i j) + (∑ t34 ∈ range 768, ((f120 t34 j) * (f425 t34 j)))) := (M2.addf (M2.cast h423 _) (M1.toRow (M2.sum0 (acc := 0x00000000#32) (M2.mulf h120 h425) _ (.inl rfl) rfl) _))

theorem p_k0_pay71 {v394 : FVec Ideal S768x256 .f32} {v403 : Vec Ideal S1x256 .f32} {v405 : Vec Ideal S768x256 .f32} {v417 : Vec Ideal S1x256 .f32} {v419 : Vec Ideal S768x256 .f32} {v431 : Vec Ideal S1x256 .f32} {v433 : Vec Ideal S768x256 .f32} {f394 : ℕ → ℕ → ℝ} {f403 : ℕ → ℕ → ℝ} {f405 : ℕ → ℕ → ℝ} {f417 : ℕ → ℕ → ℝ} {f419 : ℕ → ℕ → ℝ} {f431 : ℕ → ℕ → ℝ} {f433 : ℕ → ℕ → ℝ} (h394 : M2 v394 f394) (h403 : M2 v403 f403) (h405 : M2 v405 f405) (h417 : M2 v417 f417) (h419 : M2 v419 f419) (h431 : M2 v431 f431) (h433 : M2 v433 f433) :
    M2 (k0_pay71 (F := Ideal) v394 v403 v405 v417 v419 v431 v433) (fun i j => (((f394 i j) + ((f403 0 j) * (f405 i j))) + ((f417 0 j) * (f419 i j))) + ((f431 0 j) * (f433 i j))) := (M2.addf (M2.addf (M2.addf h394 (M2.mulf (M2.bdown (M2.cast h403 _) broadcasts_S1x256_S768x256 (by decide)) h405)) (M2.mulf (M2.bdown (M2.cast h417 _) broadcasts_S1x256_S768x256 (by decide)) h419)) (M2.mulf (M2.bdown (M2.cast h431 _) broadcasts_S1x256_S768x256 (by decide)) h433))

theorem p_k0_pay72 {v120 : FVec Ideal S768x256 .f32} {v437 : Vec Ideal S1x256 .f32} {v439 : Vec Ideal S768x256 .f32} {f120 : ℕ → ℕ → ℝ} {f437 : ℕ → ℕ → ℝ} {f439 : ℕ → ℕ → ℝ} (h120 : M2 v120 f120) (h437 : M2 v437 f437) (h439 : M2 v439 f439) :
    M2 (k0_pay72 (F := Ideal) v120 v437 v439) (fun i j => (f437 i j) + (∑ t35 ∈ range 768, ((f120 t35 j) * (f439 t35 j)))) := (M2.addf (M2.cast h437 _) (M1.toRow (M2.sum0 (acc := 0x00000000#32) (M2.mulf h120 h439) _ (.inl rfl) rfl) _))

theorem p_k0_pay73 {v120 : FVec Ideal S768x256 .f32} {v451 : Vec Ideal S1x256 .f32} {v453 : Vec Ideal S768x256 .f32} {f120 : ℕ → ℕ → ℝ} {f451 : ℕ → ℕ → ℝ} {f453 : ℕ → ℕ → ℝ} (h120 : M2 v120 f120) (h451 : M2 v451 f451) (h453 : M2 v453 f453) :
    M2 (k0_pay73 (F := Ideal) v120 v451 v453) (fun i j => (f451 i j) + (∑ t36 ∈ range 768, ((f120 t36 j) * (f453 t36 j)))) := (M2.addf (M2.cast h451 _) (M1.toRow (M2.sum0 (acc := 0x00000000#32) (M2.mulf h120 h453) _ (.inl rfl) rfl) _))

theorem p_k0_pay74 {v436 : FVec Ideal S768x256 .f32} {v445 : Vec Ideal S1x256 .f32} {v447 : Vec Ideal S768x256 .f32} {v459 : Vec Ideal S1x256 .f32} {v461 : Vec Ideal S768x256 .f32} {f436 : ℕ → ℕ → ℝ} {f445 : ℕ → ℕ → ℝ} {f447 : ℕ → ℕ → ℝ} {f459 : ℕ → ℕ → ℝ} {f461 : ℕ → ℕ → ℝ} (h436 : M2 v436 f436) (h445 : M2 v445 f445) (h447 : M2 v447 f447) (h459 : M2 v459 f459) (h461 : M2 v461 f461) :
    M2 (k0_pay74 (F := Ideal) v436 v445 v447 v459 v461) (fun i j => ((f436 i j) + ((f445 0 j) * (f447 i j))) + ((f459 0 j) * (f461 i j))) := (M2.addf (M2.addf h436 (M2.mulf (M2.bdown (M2.cast h445 _) broadcasts_S1x256_S768x256 (by decide)) h447)) (M2.mulf (M2.bdown (M2.cast h459 _) broadcasts_S1x256_S768x256 (by decide)) h461))

theorem p_k0_pay75 {v465 : Vec Ideal S1x256 .f32} {f465 : ℕ → ℕ → ℝ} (h465 : M2 v465 f465) :
    M2 (k0_pay75 (F := Ideal) v465) (fun i j => f465 i j) := (M2.cast h465 _)

theorem p_k0_pay76 {v120 : FVec Ideal S768x256 .f32} {v467 : Vec Ideal S768x256 .f32} {f120 : ℕ → ℕ → ℝ} {f467 : ℕ → ℕ → ℝ} (h120 : M2 v120 f120) (h467 : M2 v467 f467) :
    M2 (k0_pay76 (F := Ideal) v120 v467) (fun i j => (f120 i j) * (f467 i j)) := (M2.mulf h120 h467)

theorem p_k0_pay77 {v466 : FVec Ideal S1x256 .f32} {v468 : FVec Ideal S768x256 .f32} {f466 : ℕ → ℕ → ℝ} {f468 : ℕ → ℕ → ℝ} (h466 : M2 v466 f466) (h468 : M2 v468 f468) :
    M2 (k0_pay77 (F := Ideal) v466 v468) (fun i j => (f466 i j) + (∑ t37 ∈ range 768, (f468 t37 j))) := (M2.addf h466 (M1.toRow (M2.sum0 (acc := 0x00000000#32) h468 _ (.inl rfl) rfl) _))

theorem p_k0_pay78 {v120 : FVec Ideal S768x256 .f32} {v479 : Vec Ideal S1x256 .f32} {v481 : Vec Ideal S768x256 .f32} {f120 : ℕ → ℕ → ℝ} {f479 : ℕ → ℕ → ℝ} {f481 : ℕ → ℕ → ℝ} (h120 : M2 v120 f120) (h479 : M2 v479 f479) (h481 : M2 v481 f481) :
    M2 (k0_pay78 (F := Ideal) v120 v479 v481) (fun i j => (f479 i j) + (∑ t38 ∈ range 768, ((f120 t38 j) * (f481 t38 j)))) := (M2.addf (M2.cast h479 _) (M1.toRow (M2.sum0 (acc := 0x00000000#32) (M2.mulf h120 h481) _ (.inl rfl) rfl) _))

theorem p_k0_pay79 {v464 : FVec Ideal S768x256 .f32} {v473 : Vec Ideal S1x256 .f32} {v475 : Vec Ideal S768x256 .f32} {v487 : Vec Ideal S1x256 .f32} {v489 : Vec Ideal S768x256 .f32} {f464 : ℕ → ℕ → ℝ} {f473 : ℕ → ℕ → ℝ} {f475 : ℕ → ℕ → ℝ} {f487 : ℕ → ℕ → ℝ} {f489 : ℕ → ℕ → ℝ} (h464 : M2 v464 f464) (h473 : M2 v473 f473) (h475 : M2 v475 f475) (h487 : M2 v487 f487) (h489 : M2 v489 f489) :
    M2 (k0_pay79 (F := Ideal) v464 v473 v475 v487 v489) (fun i j => ((f464 i j) + ((f473 0 j) * (f475 i j))) + ((f487 0 j) * (f489 i j))) := (M2.addf (M2.addf h464 (M2.mulf (M2.bdown (M2.cast h473 _) broadcasts_S1x256_S768x256 (by decide)) h475)) (M2.mulf (M2.bdown (M2.cast h487 _) broadcasts_S1x256_S768x256 (by decide)) h489))

theorem p_k0_pay80 {v120 : FVec Ideal S768x256 .f32} {v493 : Vec Ideal S1x256 .f32} {v495 : Vec Ideal S768x256 .f32} {f120 : ℕ → ℕ → ℝ} {f493 : ℕ → ℕ → ℝ} {f495 : ℕ → ℕ → ℝ} (h120 : M2 v120 f120) (h493 : M2 v493 f493) (h495 : M2 v495 f495) :
    M2 (k0_pay80 (F := Ideal) v120 v493 v495) (fun i j => (f493 i j) + (∑ t39 ∈ range 768, ((f120 t39 j) * (f495 t39 j)))) := (M2.addf (M2.cast h493 _) (M1.toRow (M2.sum0 (acc := 0x00000000#32) (M2.mulf h120 h495) _ (.inl rfl) rfl) _))

theorem p_k0_pay81 {v120 : FVec Ideal S768x256 .f32} {v507 : Vec Ideal S1x256 .f32} {v509 : Vec Ideal S768x256 .f32} {f120 : ℕ → ℕ → ℝ} {f507 : ℕ → ℕ → ℝ} {f509 : ℕ → ℕ → ℝ} (h120 : M2 v120 f120) (h507 : M2 v507 f507) (h509 : M2 v509 f509) :
    M2 (k0_pay81 (F := Ideal) v120 v507 v509) (fun i j => (f507 i j) + (∑ t40 ∈ range 768, ((f120 t40 j) * (f509 t40 j)))) := (M2.addf (M2.cast h507 _) (M1.toRow (M2.sum0 (acc := 0x00000000#32) (M2.mulf h120 h509) _ (.inl rfl) rfl) _))

theorem p_k0_pay82 {v492 : FVec Ideal S768x256 .f32} {v501 : Vec Ideal S1x256 .f32} {v503 : Vec Ideal S768x256 .f32} {v515 : Vec Ideal S1x256 .f32} {v517 : Vec Ideal S768x256 .f32} {f492 : ℕ → ℕ → ℝ} {f501 : ℕ → ℕ → ℝ} {f503 : ℕ → ℕ → ℝ} {f515 : ℕ → ℕ → ℝ} {f517 : ℕ → ℕ → ℝ} (h492 : M2 v492 f492) (h501 : M2 v501 f501) (h503 : M2 v503 f503) (h515 : M2 v515 f515) (h517 : M2 v517 f517) :
    M2 (k0_pay82 (F := Ideal) v492 v501 v503 v515 v517) (fun i j => ((f492 i j) + ((f501 0 j) * (f503 i j))) + ((f515 0 j) * (f517 i j))) := (M2.addf (M2.addf h492 (M2.mulf (M2.bdown (M2.cast h501 _) broadcasts_S1x256_S768x256 (by decide)) h503)) (M2.mulf (M2.bdown (M2.cast h515 _) broadcasts_S1x256_S768x256 (by decide)) h517))

theorem p_k0_pay83 {v120 : FVec Ideal S768x256 .f32} {v521 : Vec Ideal S1x256 .f32} {v523 : Vec Ideal S768x256 .f32} {f120 : ℕ → ℕ → ℝ} {f521 : ℕ → ℕ → ℝ} {f523 : ℕ → ℕ → ℝ} (h120 : M2 v120 f120) (h521 : M2 v521 f521) (h523 : M2 v523 f523) :
    M2 (k0_pay83 (F := Ideal) v120 v521 v523) (fun i j => (f521 i j) + (∑ t41 ∈ range 768, ((f120 t41 j) * (f523 t41 j)))) := (M2.addf (M2.cast h521 _) (M1.toRow (M2.sum0 (acc := 0x00000000#32) (M2.mulf h120 h523) _ (.inl rfl) rfl) _))

theorem p_k0_pay84 {v529 : Vec Ideal S1x256 .f32} {f529 : ℕ → ℕ → ℝ} (h529 : M2 v529 f529) :
    M2 (k0_pay84 (F := Ideal) v529) (fun i j => f529 0 j) := (M2.bdown (M2.cast h529 _) broadcasts_S1x256_S768x256 (by decide))

theorem p_k0_pay85 {v120 : FVec Ideal S768x256 .f32} {v535 : Vec Ideal S1x256 .f32} {v537 : Vec Ideal S768x256 .f32} {f120 : ℕ → ℕ → ℝ} {f535 : ℕ → ℕ → ℝ} {f537 : ℕ → ℕ → ℝ} (h120 : M2 v120 f120) (h535 : M2 v535 f535) (h537 : M2 v537 f537) :
    M2 (k0_pay85 (F := Ideal) v120 v535 v537) (fun i j => (f535 i j) + (∑ t42 ∈ range 768, ((f120 t42 j) * (f537 t42 j)))) := (M2.addf (M2.cast h535 _) (M1.toRow (M2.sum0 (acc := 0x00000000#32) (M2.mulf h120 h537) _ (.inl rfl) rfl) _))

theorem p_k0_pay86 {v120 : FVec Ideal S768x256 .f32} {v549 : Vec Ideal S1x256 .f32} {v551 : Vec Ideal S768x256 .f32} {f120 : ℕ → ℕ → ℝ} {f549 : ℕ → ℕ → ℝ} {f551 : ℕ → ℕ → ℝ} (h120 : M2 v120 f120) (h549 : M2 v549 f549) (h551 : M2 v551 f551) :
    M2 (k0_pay86 (F := Ideal) v120 v549 v551) (fun i j => (f549 i j) + (∑ t43 ∈ range 768, ((f120 t43 j) * (f551 t43 j)))) := (M2.addf (M2.cast h549 _) (M1.toRow (M2.sum0 (acc := 0x00000000#32) (M2.mulf h120 h551) _ (.inl rfl) rfl) _))

theorem p_k0_pay87 {v520 : FVec Ideal S768x256 .f32} {v531 : Vec Ideal S768x256 .f32} {v532 : FVec Ideal S768x256 .f32} {v543 : Vec Ideal S1x256 .f32} {v545 : Vec Ideal S768x256 .f32} {v557 : Vec Ideal S1x256 .f32} {v559 : Vec Ideal S768x256 .f32} {f520 : ℕ → ℕ → ℝ} {f531 : ℕ → ℕ → ℝ} {f532 : ℕ → ℕ → ℝ} {f543 : ℕ → ℕ → ℝ} {f545 : ℕ → ℕ → ℝ} {f557 : ℕ → ℕ → ℝ} {f559 : ℕ → ℕ → ℝ} (h520 : M2 v520 f520) (h531 : M2 v531 f531) (h532 : M2 v532 f532) (h543 : M2 v543 f543) (h545 : M2 v545 f545) (h557 : M2 v557 f557) (h559 : M2 v559 f559) :
    M2 (k0_pay87 (F := Ideal) v520 v531 v532 v543 v545 v557 v559) (fun i j => (((f520 i j) + ((f532 i j) * (f531 i j))) + ((f543 0 j) * (f545 i j))) + ((f557 0 j) * (f559 i j))) := (M2.addf (M2.addf (M2.addf h520 (M2.mulf h532 h531)) (M2.mulf (M2.bdown (M2.cast h543 _) broadcasts_S1x256_S768x256 (by decide)) h545)) (M2.mulf (M2.bdown (M2.cast h557 _) broadcasts_S1x256_S768x256 (by decide)) h559))

end Cert.KernelIdeal.Gen

end
-- ==== Proof.Hyp.lean ====
/- What the body's arguments at a grid point hold. -/
module

public import proofs.«01_k».proof.Proof.Tile
public import proofs.«01_k».proof.Proof.Pay
public import proofs.«01_k».proof.Proof.Track

@[expose] public section

set_option maxRecDepth 16384

noncomputable section

namespace Cert.KernelIdeal.Gen

open Cert.KernelIdeal Idealize.ShloMosaic Cert.Calc Cert.Spec Finset

/-- The ten argument blocks hold a tile's numbers, and the point is that tile's. -/
structure HB (B : Blk) (i : grid0.Coords) (x0 x1 : Vec Ideal S768x256 .f32) (x2 x3 : Vec Ideal S32x256 .f32)
    (x4 x5 : Vec Ideal S768x256 .f32) (x6 : Vec Ideal S32x256 .f32) (x7 x8 : Vec Ideal S1x256 .f32)
    (x9 : Vec Ideal S256x256 .bf16) : Prop where
  hp : (i 0).val = 10 - B.p ∧ B.p ≤ 10
  h0 : M2 (n := 768) (m := 256) x0 B.A0
  h1 : M2 (n := 768) (m := 256) x1 B.G0
  h2 : M2 (n := 32) (m := 256) x2 B.AH
  h3 : M2 (n := 32) (m := 256) x3 B.GH
  h4 : M2 (n := 768) (m := 256) x4 B.D0
  h5 : M2 (n := 768) (m := 256) x5 B.Y0
  h6 : M2 (n := 32) (m := 256) x6 B.W
  h7 : M2 (n := 1) (m := 256) x7 (fun _ j => B.g j)
  h8 : M2 (n := 1) (m := 256) x8 (fun _ j => B.b j)
  h9 : M2 (n := 256) (m := 256) x9 B.PW

/-- What the point before left. -/
structure HO (O : Old) (x12 : Vec Ideal S32x256 .f32) (x13 x14 x15 : Vec Ideal S1x256 .f32)
    (x16 : Vec Ideal S256x256 .f32) (xs : Vec Ideal S800x256 .f32) : Prop where
  h12 : M2 (n := 32) (m := 256) x12 O.O12
  h13 : M2 (n := 1) (m := 256) x13 O.O13
  h14 : M2 (n := 1) (m := 256) x14 O.O14
  h15 : M2 (n := 1) (m := 256) x15 O.O15
  h16 : M2 (n := 256) (m := 256) x16 O.O16
  hs : M2 (n := 800) (m := 256) xs O.S

theorem v0_eq {i : grid0.Coords} {p : ℕ} (h : (i 0).val = 10 - p ∧ p ≤ 10) :
    Scalar.subi 10#32 (BitVec.ofNat 32 (i 0).val) = BitVec.ofNat 32 p ∧ p ≤ 10 := by
  obtain ⟨h, hp⟩ := h
  refine ⟨?_, hp⟩
  rw [h]
  interval_cases p <;> rfl

end Cert.KernelIdeal.Gen

end
-- ==== Proof.Host.lean ====
/- What the host operations leave for the kernel: the padded rows, the gated values' depthwise sums, the padded taps. -/
module

public import proofs.«01_k».proof.Proof.Hyp
public import proofs.«01_k».proof.Proof.Goal
public import Idealize.ShloMosaic.Lib.StableHlo.RunRead

@[expose] public section

set_option maxRecDepth 16384

noncomputable section

namespace Cert.Spec.Args

open Cert.Calc Finset

variable (A : Args)

/-- The projected rows and the cotangent with 240 zero rows in front. -/
def zp (i j : ℕ) : ℝ := if 240 ≤ i then A.z (i - 240) j else 0
def cp (i j : ℕ) : ℝ := if 240 ≤ i then A.ct (i - 240) j else 0
def wp (i j : ℕ) : ℝ := if i < 31 then A.w i j else 0

/-- The gated values of the padded rows, with 30 more zero rows in front, and their depthwise sums. -/
def gp (i j : ℕ) : ℝ := A.zp i (256 + j) * sg (A.zp i (512 + j))
def gq (i j : ℕ) : ℝ := if i < 30 then 0 else A.gp (i - 30) j
def yp (i j : ℕ) : ℝ := (∑ k ∈ range 31, A.gq (k + i) j * A.w k j) + A.bd j

/-- Below the zero rows the depthwise sums are the plain ones. -/
theorem yp_eq (i j : ℕ) (h : 240 ≤ i) : A.yp i j = A.y (i - 240) j := by
  unfold yp
  show _ = (∑ k ∈ range 31, Spec.up A.a A.gt (k + (i - 240)) j * A.w k j) + A.bd j
  congr 1
  refine Finset.sum_congr rfl fun k hk => ?_
  congr 1
  unfold gq gp zp Spec.up
  rw [if_neg (by omega)]
  by_cases h1 : 240 ≤ k + i - 30
  · rw [if_pos h1, if_pos h1, if_neg (by omega), show k + i - 30 - 240 = k + (i - 240) - 30 by omega]
    rfl
  · rw [if_neg h1, if_neg h1, if_pos (by omega), zero_mul]

end Cert.Spec.Args

namespace Cert.KernelIdeal.Gen

open Cert.KernelIdeal Idealize.ShloMosaic Cert.Calc Cert.Spec Finset TcCoe StableHlo

variable {m : (ℓ : Loc nD τ sig) → Buf (Elt Ideal) ℓ} {c : Dev nD} {A : Args}
variable (H : Holds A (m (c, Proc.devRef .tc main_arg0)) (m (c, Proc.devRef .tc main_arg1)) (m (c, Proc.devRef .tc main_arg2))
  (m (c, Proc.devRef .tc main_arg3)) (m (c, Proc.devRef .tc main_arg4)) (m (c, Proc.devRef .tc main_arg5)) (m (c, Proc.devRef .tc main_arg6)))

theorem tap_step {n : ℕ} {x : (T2 8448 256).Idx → EReal} {q : (T2 8478 256).Idx → EReal} {w : (T2 31 256).Idx → EReal} {f p g : ℕ → ℕ → ℝ}
    (h : M2 x (fun i j => f i j)) (hq : M2 q p) (hw : M2 w g) (hs : (T2 8478 256).Slices ![n, 0] (T2 8448 256))
    (hs' : (T2 31 256).Slices ![n, 0] (T2 1 256)) (hb : (T2 1 256).BroadcastsInDim (T2 8448 256) ![0, 1])
    (hf : f = fun i j => ∑ k ∈ range n, p (k + i) j * g k j) :
    M2 (addf (F := Ideal) (φ := .f32) x (mulf (F := Ideal) (φ := .f32) (extractStridedSlice (T2 8448 256) ![n, 0] q hs)
        (broadcastInDim (T2 8448 256) ![0, 1] hb (extractStridedSlice (T2 1 256) ![n, 0] w hs'))))
      (fun i j => ∑ k ∈ range (n + 1), p (k + i) j * g k j) :=
  M2.congr (M2.addf h (M2.mulf (M2.slice hq n 0 hs) (M2.down (M2.slice hw n 0 hs') hb (by decide)))) fun i j _ _ => by
    subst hf
    show _ = _
    rw [Finset.sum_range_succ, Nat.zero_add]
    rfl

include H

set_option maxHeartbeats 2000000 in
theorem h_v1 : M2 (n := 8448) (m := 2816) (V m c main_v1) (fun i j => A.zp i j) := by
  unfold V
  after_reads_simp
  refine M2.congr (M2.pad (lo := 240) (lo' := 0) (hi := 0) (hi' := 0) (M3.drop H.h0 _) M0.sitofp pads_S8208x2816_S8448x2816_24000_000 h_S_) fun i j hi hj => ?_
  unfold Args.zp
  by_cases h : 240 ≤ i
  · have : i - 240 < 8208 := by omega
    simp [h, this, hj]
  · simp [h]

set_option maxHeartbeats 2000000 in
theorem h_v3 : M2 (n := 8448) (m := 1024) (V m c main_v3) (fun i j => A.cp i j) := by
  unfold V
  after_reads_simp
  refine M2.congr (M2.pad (lo := 240) (lo' := 0) (hi := 0) (hi' := 0) (M3.drop H.h1 _) M0.sitofp pads_S8208x1024_S8448x1024_24000_000 h_S_) fun i j hi hj => ?_
  unfold Args.cp
  by_cases h : 240 ≤ i
  · have : i - 240 < 8208 := by omega
    simp [h, this, hj]
  · simp [h]

set_option maxHeartbeats 2000000 in
theorem h_v12 : M2 (n := 8448) (m := 256) (upto [hostOps0, hostOps0_1, hostOps0_2, hostOps0_3, hostOps0_4, hostOps0_5, hostOps0_6].flatten (fun b => m (c, b)) 21 (Proc.devRef .tc main_v12)) (fun i j => A.gp i j) := by
  after_reads_simp
  have hz := M2.congr (g := fun i j => A.zp i j) (M2.pad (lo := 240) (lo' := 0) (hi := 0) (hi' := 0) (n' := 8448) (m' := 2816) (M3.drop H.h0 shapeCasts_S1x8208x2816_S8208x2816) M0.sitofp pads_S8208x2816_S8448x2816_24000_000 h_S_) fun i j hi hj => by
    unfold Args.zp
    by_cases h : 240 ≤ i
    · have : i - 240 < 8208 := by omega
      simp [h, this, hj]
    · simp [h]
  refine M2.congr (M2.mulf (M2.slice hz 0 256 _) (M2.hdivf (M2.splat (M0.const bits_one) _) (M2.addf (M2.splat (M0.const bits_one) _) (M2.hexp (M2.hnegf (M2.slice hz 0 512 _)))) (fun _ _ => (one_add_exp_pos _).ne'))) fun i j hi hj => ?_
  unfold Args.gp
  rw [Nat.zero_add]
  rfl

set_option maxHeartbeats 2000000 in
theorem h_v14 (hc : Shape.Concatenates [T2 30 256, T2 8448 256] (T2 8478 256) 0) :
    M2 (concatenate (T2 8478 256) 0 [⟨T2 30 256, upto [hostOps0, hostOps0_1, hostOps0_2, hostOps0_3, hostOps0_4, hostOps0_5, hostOps0_6].flatten (fun b => m (c, b)) 21 (Proc.devRef .tc main_v13)⟩, ⟨T2 8448 256, upto [hostOps0, hostOps0_1, hostOps0_2, hostOps0_3, hostOps0_4, hostOps0_5, hostOps0_6].flatten (fun b => m (c, b)) 21 (Proc.devRef .tc main_v12)⟩] hc) (fun i j => A.gq i j) := by
  have h13 : M2 (n := 30) (m := 256) (upto [hostOps0, hostOps0_1, hostOps0_2, hostOps0_3, hostOps0_4, hostOps0_5, hostOps0_6].flatten (fun b => m (c, b)) 21 (Proc.devRef .tc main_v13)) (fun i j => 0) := by
    after_reads_simp
    exact M2.splat (M0.const bits_zero) _
  exact M2.concat h13 (h_v12 H) hc

set_option maxHeartbeats 2000000 in
theorem h_v173 : M2 (n := 8448) (m := 256) (V m c main_v173) (fun i j => A.yp i j) := by
  unfold V
  after_reads_simp
  exact M2.addf (tap_step (n := 30) (tap_step (n := 29) (tap_step (n := 28) (tap_step (n := 27) (tap_step (n := 26) (tap_step (n := 25) (tap_step (n := 24) (tap_step (n := 23) (tap_step (n := 22) (tap_step (n := 21) (tap_step (n := 20) (tap_step (n := 19) (tap_step (n := 18) (tap_step (n := 17) (tap_step (n := 16) (tap_step (n := 15) (tap_step (n := 14) (tap_step (n := 13) (tap_step (n := 12) (tap_step (n := 11) (tap_step (n := 10) (tap_step (n := 9) (tap_step (n := 8) (tap_step (n := 7) (tap_step (n := 6) (tap_step (n := 5) (tap_step (n := 4) (tap_step (n := 3) (tap_step (n := 2) (tap_step (n := 1) (tap_step (n := 0) (M2.splat (M0.const bits_zero) _) (h_v14 H _) H.h2 _ _ _ (by funext i j; exact (Finset.sum_range_zero _).symm)) (h_v14 H _) H.h2 _ _ _ rfl) (h_v14 H _) H.h2 _ _ _ rfl) (h_v14 H _) H.h2 _ _ _ rfl) (h_v14 H _) H.h2 _ _ _ rfl) (h_v14 H _) H.h2 _ _ _ rfl) (h_v14 H _) H.h2 _ _ _ rfl) (h_v14 H _) H.h2 _ _ _ rfl) (h_v14 H _) H.h2 _ _ _ rfl) (h_v14 H _) H.h2 _ _ _ rfl) (h_v14 H _) H.h2 _ _ _ rfl) (h_v14 H _) H.h2 _ _ _ rfl) (h_v14 H _) H.h2 _ _ _ rfl) (h_v14 H _) H.h2 _ _ _ rfl) (h_v14 H _) H.h2 _ _ _ rfl) (h_v14 H _) H.h2 _ _ _ rfl) (h_v14 H _) H.h2 _ _ _ rfl) (h_v14 H _) H.h2 _ _ _ rfl) (h_v14 H _) H.h2 _ _ _ rfl) (h_v14 H _) H.h2 _ _ _ rfl) (h_v14 H _) H.h2 _ _ _ rfl) (h_v14 H _) H.h2 _ _ _ rfl) (h_v14 H _) H.h2 _ _ _ rfl) (h_v14 H _) H.h2 _ _ _ rfl) (h_v14 H _) H.h2 _ _ _ rfl) (h_v14 H _) H.h2 _ _ _ rfl) (h_v14 H _) H.h2 _ _ _ rfl) (h_v14 H _) H.h2 _ _ _ rfl) (h_v14 H _) H.h2 _ _ _ rfl) (h_v14 H _) H.h2 _ _ _ rfl) (h_v14 H _) H.h2 _ _ _ rfl) (M2.down (M1.row H.h3 _ (by decide)) _ (by decide))

set_option maxHeartbeats 2000000 in
theorem h_v174 : M2 (n := 32) (m := 256) (V m c main_v174) (fun i j => A.wp i j) := by
  unfold V
  after_reads_simp
  refine M2.congr (M2.pad (lo := 0) (lo' := 0) (hi := 1) (hi' := 0) H.h2 M0.sitofp pads_S31x256_S32x256_010_000 h_S_) fun i j hi hj => ?_
  unfold Args.wp
  by_cases h : i < 31
  · simp [h, hj]
  · simp [h]

set_option maxHeartbeats 2000000 in
theorem h_v175 : M2 (n := 1) (m := 256) (V m c main_v175) (fun _ j => A.g j) := by
  unfold V
  after_reads_simp
  exact M1.toRow H.h4 _

set_option maxHeartbeats 2000000 in
theorem h_v176 : M2 (n := 1) (m := 256) (V m c main_v176) (fun _ j => A.b j) := by
  unfold V
  after_reads_simp
  exact M1.toRow H.h5 _

set_option maxHeartbeats 2000000 in
theorem h_v177 : M2 (n := 256) (m := 256) (V m c main_v177) (fun i j => A.pw i j) := by
  unfold V
  after_reads_simp
  exact M2.truncf H.h6 _

end Cert.KernelIdeal.Gen

end
-- ==== Proof.Sums.lean ====
/- The kernel's reversed row tiles against the whole rows: what is left after each tile, and what is left at the end. -/
module

public import proofs.«01_k».proof.Proof.Host

@[expose] public section

set_option maxRecDepth 16384

noncomputable section

namespace Cert.Spec.Args

open Cert.Calc Finset

variable (A : Args)

/-- Tile `p` of the padded rows. -/
def blk (p : ℕ) : Blk where
  p := p
  A0 i j := A.zp (p * 768 + i) (256 + j)
  G0 i j := A.zp (p * 768 + i) (512 + j)
  AH i j := A.zp ((p * 24 - 1) * 32 + i) (256 + j)
  GH i j := A.zp ((p * 24 - 1) * 32 + i) (512 + j)
  D0 i j := A.cp (p * 768 + i) (256 + j)
  Y0 i j := A.yp (p * 768 + i) j
  W := A.wp
  PW := A.pw
  g := A.g
  b := A.b

/-- The rows' gradients and activations, over the padded rows. -/
def np (i j : ℕ) : ℝ := Spec.dn A.g A.b A.pw (A.yp i) (fun j => A.cp i (256 + j)) j
def dp (i j : ℕ) : ℝ := if i < 8448 then Spec.dy A.g A.b A.pw (A.yp i) (fun j => A.cp i (256 + j)) j else 0
def ap (i j : ℕ) : ℝ := Spec.act A.g A.b (A.yp i) j

/-- What is left once the tiles from `p` on are done. -/
def left (p : ℕ) : Old where
  O12 k j := if k < 31 then ∑ r ∈ Ico (p * 768) 8448, A.dp r j * A.gq (k + r) j else 0
  O13 _ j := ∑ r ∈ Ico (p * 768) 8448, A.dp r j
  O14 _ j := ∑ r ∈ Ico (p * 768) 8448, A.np r j * xh (A.yp r) j
  O15 _ j := ∑ r ∈ Ico (p * 768) 8448, A.np r j
  O16 i j := ∑ r ∈ Ico (p * 768) 8448, A.ap r i * A.cp r (256 + j)
  S e j := if e < 768 then A.dp (p * 768 + e) j else A.dp (p * 768 + (e - 768)) j

theorem sum_tile (f : ℕ → ℝ) (p : ℕ) (h : p ≤ 10) :
    (∑ r ∈ Ico ((p + 1) * 768) 8448, f r) + ∑ t ∈ range 768, f (p * 768 + t) = ∑ r ∈ Ico (p * 768) 8448, f r := by
  rw [← Finset.sum_Ico_consecutive f (show p * 768 ≤ (p + 1) * 768 by omega) (show (p + 1) * 768 ≤ 8448 by omega), add_comm]
  congr 1
  rw [Finset.sum_Ico_eq_sum_range]
  congr 2
  omega

theorem sum_last (f : ℕ → ℝ) : ∑ t ∈ range 768, f (10 * 768 + t) = ∑ r ∈ Ico (10 * 768) 8448, f r := by
  rw [← sum_tile f 10 le_rfl]
  simp

theorem sum_rows (f : ℕ → ℝ) (h : ∀ r, r < 240 → f r = 0) :
    ∑ r ∈ Ico (0 * 768) 8448, f r = ∑ i ∈ range 8208, f (240 + i) := by
  rw [← Finset.sum_Ico_consecutive f (show 0 * 768 ≤ 240 by omega) (show 240 ≤ 8448 by omega),
    Finset.sum_eq_zero (fun r hr => h r (Finset.mem_Ico.1 hr).2), zero_add, Finset.sum_Ico_eq_sum_range]

theorem DL_eq (p i j : ℕ) (hp : p ≤ 10) (hi : i < 768) : (A.blk p).DL i j = A.dp (p * 768 + i) j := by
  unfold dp
  rw [if_pos (by omega)]
  rfl

theorem E_eq (p i k j : ℕ) : (A.blk p).E (k + 2 + i) j = A.gq (k + (p * 768 + i)) j := by
  unfold Blk.E gq gp blk
  dsimp only
  by_cases h : k + 2 + i < 32
  · rw [if_pos h]
    by_cases hp : 0 < p
    · rw [if_pos hp, if_neg (by omega), show (p * 24 - 1) * 32 + (k + 2 + i) = k + (p * 768 + i) - 30 by omega]
    · rw [if_neg hp, if_pos (by omega)]
  · rw [if_neg h, if_neg (by omega), show p * 768 + (k + 2 + i - 32) = k + (p * 768 + i) - 30 by omega]

theorem tap_eq (p k j : ℕ) (hp : p ≤ 10) :
    (A.blk p).tap k j = ∑ t ∈ range 768, A.dp (p * 768 + t) j * A.gq (k + (p * 768 + t)) j :=
  Finset.sum_congr rfl fun t ht => by rw [A.DL_eq p t j hp (Finset.mem_range.1 ht), E_eq]

/-- A later tile's step. -/
theorem step12 (p k j : ℕ) (hp : p ≤ 9) : (A.blk p).n12 (A.left (p + 1)) k j = (A.left p).O12 k j := by
  unfold Blk.n12 Blk.nt left
  dsimp only
  by_cases h : k < 31
  · rw [if_pos h, if_pos h, if_pos h, tap_eq A p k j (by omega)]
    exact sum_tile (fun r => A.dp r j * A.gq (k + r) j) p (by omega)
  · rw [if_neg h, if_neg h, if_neg h]

theorem step13 (p i j : ℕ) (hp : p ≤ 9) : (A.blk p).n13 (A.left (p + 1)) i j = (A.left p).O13 i j := by
  unfold Blk.n13 left
  dsimp only
  rw [Finset.sum_congr rfl fun t ht => A.DL_eq p t j (by omega) (Finset.mem_range.1 ht)]
  exact sum_tile (fun r => A.dp r j) p (by omega)

theorem step14 (p i j : ℕ) (hp : p ≤ 9) : (A.blk p).n14 (A.left (p + 1)) i j = (A.left p).O14 i j :=
  sum_tile (fun r => A.np r j * xh (A.yp r) j) p (by omega)

theorem step15 (p i j : ℕ) (hp : p ≤ 9) : (A.blk p).n15 (A.left (p + 1)) i j = (A.left p).O15 i j :=
  sum_tile (fun r => A.np r j) p (by omega)

theorem step16 (p i j : ℕ) (hp : p ≤ 9) : (A.blk p).n16 (A.left (p + 1)) i j = (A.left p).O16 i j :=
  sum_tile (fun r => A.ap r i * A.cp r (256 + j)) p (by omega)

/-- The first step, the last tile. -/
theorem first12 (k j : ℕ) : (A.blk 10).n12 Old.zero k j = (A.left 10).O12 k j := by
  unfold Blk.n12 Blk.nt left Old.zero
  dsimp only
  by_cases h : k < 31
  · rw [if_pos h, if_pos h, tap_eq A 10 k j le_rfl, zero_add]
    exact sum_last (fun r => A.dp r j * A.gq (k + r) j)
  · rw [if_neg h, if_neg h]

theorem first13 (i j : ℕ) : (A.blk 10).n13 Old.zero i j = (A.left 10).O13 i j := by
  unfold Blk.n13 left Old.zero
  dsimp only
  rw [Finset.sum_congr rfl fun t ht => A.DL_eq 10 t j le_rfl (Finset.mem_range.1 ht), zero_add]
  exact sum_last (fun r => A.dp r j)

theorem first14 (i j : ℕ) : (A.blk 10).n14 Old.zero i j = (A.left 10).O14 i j :=
  (zero_add _).trans (sum_last (fun r => A.np r j * xh (A.yp r) j))

theorem first15 (i j : ℕ) : (A.blk 10).n15 Old.zero i j = (A.left 10).O15 i j :=
  (zero_add _).trans (sum_last (fun r => A.np r j))

theorem first16 (i j : ℕ) : (A.blk 10).n16 Old.zero i j = (A.left 10).O16 i j :=
  (zero_add _).trans (sum_last (fun r => A.ap r i * A.cp r (256 + j)))

theorem scr_left (p e j : ℕ) (hp : p ≤ 10) (he : e < 800) : (A.blk p).scr e j = (A.left p).S e j := by
  unfold Blk.scr left
  dsimp only
  by_cases h : e < 768
  · rw [if_pos h, if_pos h, A.DL_eq p e j hp h]
  · rw [if_neg h, if_neg h, A.DL_eq p _ j hp (by omega)]

/-! ## The rows below the zero rows -/

theorem cp_lo (r j : ℕ) (h : r < 240) : A.cp r j = 0 := if_neg (by omega)

theorem cp_hi (i j : ℕ) : A.cp (240 + i) (256 + j) = A.d i j := by
  unfold cp
  rw [if_pos (by omega), show 240 + i - 240 = i by omega]
  rfl

theorem yp_hi (i : ℕ) : A.yp (240 + i) = A.y i := by
  funext j
  rw [A.yp_eq _ j (by omega), show 240 + i - 240 = i by omega]

theorem np_lo (r j : ℕ) (h : r < 240) : A.np r j = 0 := Spec.dn_zero _ _ _ _ _ (fun _ _ => A.cp_lo _ _ h) j

theorem dp_lo (r j : ℕ) (h : r < 240) : A.dp r j = 0 := by
  unfold dp
  rw [if_pos (by omega)]
  exact Spec.dy_zero _ _ _ _ _ (fun _ _ => A.cp_lo _ _ h) j

theorem np_hi (i j : ℕ) : A.np (240 + i) j = A.dn i j := by
  unfold np dn
  rw [yp_hi, funext (fun j => A.cp_hi i j)]

theorem dp_hi (i j : ℕ) : A.dp (240 + i) j = A.D i j := by
  unfold dp D
  by_cases h : i < 8208
  · rw [if_pos h, if_pos (by omega), yp_hi, funext (fun j => A.cp_hi i j)]
  · rw [if_neg h, if_neg (by omega)]

theorem gq_hi (k i j : ℕ) : A.gq (k + (240 + i)) j = A.up (k + i) j := by
  unfold gq gp zp up Spec.up
  rw [if_neg (by omega)]
  by_cases h1 : k + i < 30
  · rw [if_pos h1, if_neg (by omega), zero_mul]
  · rw [if_neg h1, if_pos (by omega), if_pos (by omega), show k + (240 + i) - 30 - 240 = k + i - 30 by omega]
    rfl

/-- After the last point. -/
theorem end12 (i j : ℕ) : (A.left 0).O12 i j = A.r2 i j := by
  unfold left r2 dwv
  dsimp only
  by_cases h : i < 31
  · rw [if_pos h, if_pos h, sum_rows (fun r => A.dp r j * A.gq (i + r) j) (fun r hr => by rw [A.dp_lo r j hr, zero_mul])]
    refine Finset.sum_congr rfl fun r _ => ?_
    rw [dp_hi, gq_hi, mul_comm]
  · rw [if_neg h, if_neg h]

theorem end13 (i j : ℕ) : (A.left 0).O13 i j = A.r3 j :=
  (sum_rows _ fun r hr => A.dp_lo r j hr).trans (Finset.sum_congr rfl fun r _ => A.dp_hi r j)

theorem end14 (i j : ℕ) : (A.left 0).O14 i j = A.r4 j :=
  (sum_rows (fun r => A.np r j * xh (A.yp r) j) fun r hr => by rw [A.np_lo r j hr, zero_mul]).trans
    (Finset.sum_congr rfl fun r _ => by rw [np_hi, yp_hi])

theorem end15 (i j : ℕ) : (A.left 0).O15 i j = A.r5 j :=
  (sum_rows _ fun r hr => A.np_lo r j hr).trans (Finset.sum_congr rfl fun r _ => A.np_hi r j)

theorem end16 (i j : ℕ) : (A.left 0).O16 i j = A.r6 i j :=
  (sum_rows (fun r => A.ap r i * A.cp r (256 + j)) fun r hr => by rw [A.cp_lo r _ hr, mul_zero]).trans
    (Finset.sum_congr rfl fun r _ => by rw [cp_hi]; unfold ap act; rw [yp_hi])

/-! ## The rows' own results -/

theorem X_eq (p e j : ℕ) (hp : p ≤ 10) (he : e < 800) (S : ℕ → ℕ → ℝ) (hS : ∀ e, 768 ≤ e → e < 800 → S e j = A.dp ((p + 1) * 768 + (e - 768)) j) :
    (A.blk p).X S e j = A.dp (p * 768 + e) j := by
  unfold Blk.X
  by_cases h : e < 768
  · rw [if_pos h, A.DL_eq p e j hp h]
  · rw [if_neg h, hS e (by omega) he]
    congr 1
    omega

theorem du_eq (p i j : ℕ) (hp : p ≤ 10) (hi : i < 768) (h : 240 ≤ p * 768 + i) (S : ℕ → ℕ → ℝ)
    (hS : ∀ e, 768 ≤ e → e < 800 → S e j = A.dp ((p + 1) * 768 + (e - 768)) j) :
    (A.blk p).du S i j = A.dU (p * 768 + i - 240) j := by
  unfold Blk.du Blk.duN dU
  refine Finset.sum_congr rfl fun k hk => ?_
  have hk := Finset.mem_range.1 hk
  rw [A.X_eq p (30 - k + i) j hp (by omega) S hS]
  unfold pt
  rw [if_pos (by omega), ← dp_hi, show 240 + (30 + (p * 768 + i - 240) - k) = p * 768 + (30 - k + i) by omega, mul_comm]
  congr 1
  exact if_pos hk

theorem left_S (p j : ℕ) : ∀ e, 768 ≤ e → e < 800 → (A.left (p + 1)).S e j = A.dp ((p + 1) * 768 + (e - 768)) j :=
  fun e h _ => if_neg (by omega)

theorem zero_S (j : ℕ) : ∀ e, 768 ≤ e → e < 800 → Old.zero.S e j = A.dp ((10 + 1) * 768 + (e - 768)) j :=
  fun e h _ => (if_neg (by omega)).symm

theorem zp_hi (i j : ℕ) (h : 240 ≤ i) : A.zp i j = A.z (i - 240) j := if_pos h

theorem out0_eq (p i j : ℕ) (hp : p ≤ 10) (hi : i < 768) (S : ℕ → ℕ → ℝ)
    (hS : ∀ e, 768 ≤ e → e < 800 → S e j = A.dp ((p + 1) * 768 + (e - 768)) j) :
    (A.blk p).out0 S i j = A.r0 (p * 768 + i) j := by
  unfold Blk.out0 Blk.dz r0
  by_cases h : 240 ≤ p * 768 + i
  · rw [if_pos h, if_pos (show 240 ≤ i + (A.blk p).p * 768 by show 240 ≤ i + p * 768; omega), A.du_eq p i j hp hi h S hS]
    unfold Blk.gate blk
    dsimp only
    rw [A.zp_hi _ _ h]
    rfl
  · rw [if_neg h, if_neg (show ¬240 ≤ i + (A.blk p).p * 768 by show ¬240 ≤ i + p * 768; omega), zero_mul]

theorem out1_eq (p i j : ℕ) (hp : p ≤ 10) (hi : i < 768) (S : ℕ → ℕ → ℝ)
    (hS : ∀ e, 768 ≤ e → e < 800 → S e j = A.dp ((p + 1) * 768 + (e - 768)) j) :
    (A.blk p).out1 S i j = A.r1 (p * 768 + i) j := by
  unfold Blk.out1 Blk.dz r1
  by_cases h : 240 ≤ p * 768 + i
  · rw [if_pos h, if_pos (show 240 ≤ i + (A.blk p).p * 768 by show 240 ≤ i + p * 768; omega), A.du_eq p i j hp hi h S hS]
    unfold Blk.gate blk
    dsimp only
    rw [A.zp_hi _ _ h, A.zp_hi _ _ h]
    rfl
  · rw [if_neg h, if_neg (show ¬240 ≤ i + (A.blk p).p * 768 by show ¬240 ≤ i + p * 768; omega)]
    ring

end Cert.Spec.Args

end
-- ==== Proof.Block.lean ====
/- The kernel's argument blocks at each grid point. -/
module

public import proofs.«01_k».proof.Proof.Sums
public import Idealize.ShloMosaic.Lib.Pipeline.ValueKit

@[expose] public section

set_option maxRecDepth 16384

noncomputable section

namespace Cert.KernelIdeal.Gen

open Cert.KernelIdeal Idealize.ShloMosaic Cert.Calc Cert.Spec Finset TcCoe StableHlo

/-- Where the blocks of each point lie: the row tiles from the last down. -/
theorem idx : ∀ t : Fin cfg0.N, win0_0.index t = ![10 - t.val, 1] ∧ win0_1.index t = ![10 - t.val, 2]
    ∧ win0_2.index t = ![(10 - t.val) * 24 - 1, 1] ∧ win0_3.index t = ![(10 - t.val) * 24 - 1, 2]
    ∧ win0_4.index t = ![10 - t.val, 1] ∧ win0_5.index t = ![10 - t.val, 0] ∧ win0_6.index t = ![0, 0]
    ∧ win0_7.index t = ![0, 0] ∧ win0_8.index t = ![0, 0] ∧ win0_9.index t = ![0, 0]
    ∧ win0_10.index t = ![10 - t.val, 0] ∧ win0_11.index t = ![10 - t.val, 0] ∧ win0_12.index t = ![0, 0]
    ∧ win0_13.index t = ![0, 0] ∧ win0_14.index t = ![0, 0] ∧ win0_15.index t = ![0, 0] ∧ win0_16.index t = ![0, 0]
    ∧ (grid0.coords t 0).val = t.val ∧ t.val ≤ 10 :=
  (by decide +kernel : ∀ t : Fin grid0.N, _)

theorem coord (t : Fin cfg0.N) : (grid0.coords t 0).val = t.val ∧ t.val ≤ 10 :=
  (idx t).2.2.2.2.2.2.2.2.2.2.2.2.2.2.2.2.2

variable {m : (ℓ : Loc nD τ sig) → Buf (Elt Ideal) ℓ} {c : Dev nD} {A : Args}
variable (H : Holds A (m (c, Proc.devRef .tc main_arg0)) (m (c, Proc.devRef .tc main_arg1)) (m (c, Proc.devRef .tc main_arg2))
  (m (c, Proc.devRef .tc main_arg3)) (m (c, Proc.devRef .tc main_arg4)) (m (c, Proc.devRef .tc main_arg5)) (m (c, Proc.devRef .tc main_arg6)))
include H

theorem b0 (t : Fin cfg0.N) : M2 (n := 768) (m := 256) (iblk m c 0 t) (A.blk (10 - t.val)).A0 := fun i => by
  refine (h_v1 H (((cfg0.win 0).blk t).view.emb i)).trans ?_
  blk_simp [idx t]
  rfl

theorem b1 (t : Fin cfg0.N) : M2 (n := 768) (m := 256) (iblk m c 1 t) (A.blk (10 - t.val)).G0 := fun i => by
  refine (h_v1 H (((cfg0.win 1).blk t).view.emb i)).trans ?_
  blk_simp [idx t]
  rfl

theorem b2 (t : Fin cfg0.N) : M2 (n := 32) (m := 256) (iblk m c 2 t) (A.blk (10 - t.val)).AH := fun i => by
  refine (h_v1 H (((cfg0.win 2).blk t).view.emb i)).trans ?_
  blk_simp [idx t]
  rfl

theorem b3 (t : Fin cfg0.N) : M2 (n := 32) (m := 256) (iblk m c 3 t) (A.blk (10 - t.val)).GH := fun i => by
  refine (h_v1 H (((cfg0.win 3).blk t).view.emb i)).trans ?_
  blk_simp [idx t]
  rfl

theorem b4 (t : Fin cfg0.N) : M2 (n := 768) (m := 256) (iblk m c 4 t) (A.blk (10 - t.val)).D0 := fun i => by
  refine (h_v3 H (((cfg0.win 4).blk t).view.emb i)).trans ?_
  blk_simp [idx t]
  rfl

theorem b5 (t : Fin cfg0.N) : M2 (n := 768) (m := 256) (iblk m c 5 t) (A.blk (10 - t.val)).Y0 := fun i => by
  refine (h_v173 H (((cfg0.win 5).blk t).view.emb i)).trans ?_
  blk_simp [idx t]
  rfl

theorem b6 (t : Fin cfg0.N) : M2 (n := 32) (m := 256) (iblk m c 6 t) (A.blk (10 - t.val)).W := fun i => by
  refine (h_v174 H (((cfg0.win 6).blk t).view.emb i)).trans ?_
  blk_simp [idx t]
  rfl

theorem b9 (t : Fin cfg0.N) : M2 (n := 256) (m := 256) (iblk m c 9 t) (A.blk (10 - t.val)).PW := fun i => by
  refine (h_v177 H (((cfg0.win 9).blk t).view.emb i)).trans ?_
  blk_simp [idx t]
  rfl

theorem b7 (t : Fin cfg0.N) : M2 (n := 1) (m := 256) (iblk m c 7 t) (fun _ j => (A.blk (10 - t.val)).g j) := fun i => by
  refine (h_v175 H (((cfg0.win 7).blk t).view.emb i)).trans ?_
  blk_simp [idx t]
  rfl

theorem b8 (t : Fin cfg0.N) : M2 (n := 1) (m := 256) (iblk m c 8 t) (fun _ j => (A.blk (10 - t.val)).b j) := fun i => by
  refine (h_v176 H (((cfg0.win 8).blk t).view.emb i)).trans ?_
  blk_simp [idx t]
  rfl

theorem hb (t : Fin cfg0.N) : HB (A.blk (10 - t.val)) (grid0.coords t) (iblk m c 0 t) (iblk m c 1 t) (iblk m c 2 t)
    (iblk m c 3 t) (iblk m c 4 t) (iblk m c 5 t) (iblk m c 6 t) (iblk m c 7 t) (iblk m c 8 t) (iblk m c 9 t) where
  hp := by
    have h := coord t
    show (grid0.coords t 0).val = 10 - (10 - t.val) ∧ 10 - t.val ≤ 10
    omega
  h0 := b0 H t
  h1 := b1 H t
  h2 := b2 H t
  h3 := b3 H t
  h4 := b4 H t
  h5 := b5 H t
  h6 := b6 H t
  h7 := b7 H t
  h8 := b8 H t
  h9 := b9 H t

end Cert.KernelIdeal.Gen

end
-- ==== Proof.WordsA.lean ====
/- What the convolution branch's backward body leaves at the first point, as numbers. -/
module

public import proofs.«01_k».proof.Proof.Hyp

@[expose] public section

set_option maxRecDepth 16384
set_option maxHeartbeats 1000000

noncomputable section

namespace Cert.KernelIdeal.Gen

open Cert.KernelIdeal Idealize.ShloMosaic Cert.Calc Cert.Spec Finset

section Words

variable {B : Blk} {c : Dev nD} {i : grid0.Coords}
variable {arg1 : Memref sig .tc .vmem S768x256 .f32} {harg1 : arg1.IsWhole}
variable {arg2 : Memref sig .tc .vmem S768x256 .f32} {harg2 : arg2.IsWhole}
variable {arg3 : Memref sig .tc .vmem S32x256 .f32} {harg3 : arg3.IsWhole}
variable {arg4 : Memref sig .tc .vmem S32x256 .f32} {harg4 : arg4.IsWhole}
variable {arg5 : Memref sig .tc .vmem S768x256 .f32} {harg5 : arg5.IsWhole}
variable {arg6 : Memref sig .tc .vmem S768x256 .f32} {harg6 : arg6.IsWhole}
variable {arg7 : Memref sig .tc .vmem S32x256 .f32} {harg7 : arg7.IsWhole}
variable {arg8 : Memref sig .tc .vmem S1x256 .f32} {harg8 : arg8.IsWhole}
variable {arg9 : Memref sig .tc .vmem S1x256 .f32} {harg9 : arg9.IsWhole}
variable {arg10 : Memref sig .tc .vmem S256x256 .bf16} {harg10 : arg10.IsWhole}
variable {arg11 : Memref sig .tc .vmem S768x256 .bf16} {harg11 : arg11.IsWhole}
variable {arg12 : Memref sig .tc .vmem S768x256 .bf16} {harg12 : arg12.IsWhole}
variable {arg13 : Memref sig .tc .vmem S32x256 .f32} {harg13 : arg13.IsWhole}
variable {arg14 : Memref sig .tc .vmem S1x256 .f32} {harg14 : arg14.IsWhole}
variable {arg15 : Memref sig .tc .vmem S1x256 .f32} {harg15 : arg15.IsWhole}
variable {arg16 : Memref sig .tc .vmem S1x256 .f32} {harg16 : arg16.IsWhole}
variable {arg17 : Memref sig .tc .vmem S256x256 .f32} {harg17 : arg17.IsWhole}
variable {arg18 : Memref sig .tc .vmem S800x256 .f32} {harg18 : arg18.IsWhole}
variable {arg19 : Memref sig .tc .vmem S800x256 .f32} {harg19 : arg19.IsWhole}
variable {x0 : Vec Ideal S768x256 .f32} {x1 : Vec Ideal S768x256 .f32} {x2 : Vec Ideal S32x256 .f32} {x3 : Vec Ideal S32x256 .f32} {x4 : Vec Ideal S768x256 .f32} {x5 : Vec Ideal S768x256 .f32} {x6 : Vec Ideal S32x256 .f32} {x7 : Vec Ideal S1x256 .f32} {x8 : Vec Ideal S1x256 .f32} {x9 : Vec Ideal S256x256 .bf16}
  (H : HB B i x0 x1 x2 x3 x4 x5 x6 x7 x8 x9)
include H

theorem kA_H12_1 :
    ∀ (v : View sig .tc .vmem S32x256 .f32) f, M2 (v.read (Elt Ideal) (v.writes (Elt Ideal) f (kernelRun0_A.sl.H12_1 (F := Ideal) ))) (fun i j => if i < 0 then B.nt Old.zero i j else Old.zero.O12 i j) := fun v f => M2.congr (M2.putw p_k0_pay5 _) fun i j _ _ => (if_neg (Nat.not_lt_zero i)).symm

theorem kA_r_3 :
    (M2 (n := 768) (m := 1) (kernelRun0_A.sl.r_3 (F := Ideal) c arg6 harg6 x5) (fun i j => rs (B.Y0 i))) := M2.congr (p_k0_pay17 (M2.ldz (n := 768) _ H.h5 _)) fun i j _ _ => rfl

theorem kA_r_4 :
    (M2 (n := 768) (m := 256) (kernelRun0_A.sl.r_4 (F := Ideal) c arg6 harg6 x5) (fun i j => xh (B.Y0 i) j)) := M2.congr (p_k0_pay18 (M2.ldz (n := 768) _ H.h5 _)) fun i j _ _ => rfl

theorem kA_r_5 :
    (M2 (n := 1) (m := 256) (kernelRun0_A.sl.r_5 (F := Ideal) c arg8 harg8 x7) (fun i j => B.g j)) := M2.congr (p_k0_pay19 (M2.ldz (n := 1) _ H.h7 _)) fun i j _ _ => rfl

theorem kA_r_6 :
    (M2 (n := 768) (m := 256) (kernelRun0_A.sl.r_6 (F := Ideal) c arg6 harg6 arg8 harg8 arg9 harg9 x5 x7 x8) (fun i j => nn B.g B.b (B.Y0 i) j)) := M2.congr (p_k0_pay20 (M2.ldz (n := 768) _ H.h5 _) (M2.ldz (n := 1) _ H.h7 _) (M2.ldz (n := 1) _ H.h8 _)) fun i j _ _ => rfl

theorem kA_r_7 :
    (M2 (n := 768) (m := 256) (kernelRun0_A.sl.r_7 (F := Ideal) c arg6 harg6 arg8 harg8 arg9 harg9 x5 x7 x8) (fun i j => sn B.g B.b (B.Y0 i) j)) := M2.congr (p_k0_pay21 (M2.ldz (n := 768) _ H.h5 _) (M2.ldz (n := 1) _ H.h7 _) (M2.ldz (n := 1) _ H.h8 _)) fun i j _ _ => rfl

theorem kA_r_9 :
    (M2 (n := 768) (m := 256) (kernelRun0_A.sl.r_9 (F := Ideal) c arg5 harg5 x4) (fun i j => B.D0 i j)) := M2.congr (p_k0_pay23 (M2.ldz (n := 768) _ H.h4 _)) fun i j _ _ => rfl

theorem kA_r_10 :
    (M2 (n := 768) (m := 256) (kernelRun0_A.sl.r_10 (F := Ideal) c arg5 harg5 arg6 harg6 arg8 harg8 arg9 harg9 arg10 harg10 x4 x5 x7 x8 x9) (fun i j => B.dn i j * B.g j)) := M2.congr (p_k0_pay28 (kA_r_5 H) (kA_r_6 H) (kA_r_7 H) (kA_r_9 H) (M2.ldz' (n := 256) _ H.h9 _)) fun i j _ _ => rfl

theorem kA_r_11 :
    (M2 (n := 768) (m := 1) (kernelRun0_A.sl.r_11 (F := Ideal) c arg5 harg5 arg6 harg6 arg8 harg8 arg9 harg9 arg10 harg10 x4 x5 x7 x8 x9) (fun i j => mean (fun q => B.dn i q * B.g q))) := M2.congr (p_k0_pay29 (kA_r_5 H) (kA_r_6 H) (kA_r_7 H) (kA_r_9 H) (M2.ldz' (n := 256) _ H.h9 _)) fun i j _ _ => rfl

theorem kA_r_12 :
    M1 (n := 768) (kernelRun0_A.sl.r_12 (F := Ideal) c arg5 harg5 arg6 harg6 arg8 harg8 arg9 harg9 arg10 harg10 x4 x5 x7 x8 x9) (fun i => ∑ q ∈ range 256, B.dn i q * B.g q * xh (B.Y0 i) q) := (p_k0_pay30 (kA_r_4 H) (kA_r_5 H) (kA_r_6 H) (kA_r_7 H) (kA_r_9 H) (M2.ldz' (n := 256) _ H.h9 _))

theorem kA_r_13 :
    (M2 (n := 768) (m := 256) (kernelRun0_A.sl.r_13 (F := Ideal) c arg5 harg5 arg6 harg6 arg8 harg8 arg9 harg9 arg10 harg10 x4 x5 x7 x8 x9) (fun i j => B.DL i j)) := M2.congr (p_k0_pay31 (kA_r_3 H) (kA_r_4 H) (kA_r_10 H) (kA_r_11 H) (kA_r_12 H)) fun i j _ _ => rfl

theorem kA_v130 :
    (M2 (n := 1) (m := 256) (kernelRun0_A.sl.v130 (F := Ideal) c arg13) (fun i j => Old.zero.O12 i j)) := M2.ldc (o := 0) (o' := 0) (n := 32) (n' := 1) p_k0_pay5 _ _ (by omega) (by omega)

theorem kA_r_2 :
    (M2 (n := 768) (m := 256) (kernelRun0_A.sl.r_2 (F := Ideal) c arg1 harg1 arg2 harg2 x0 x1) (fun i j => B.A0 i j * sg (B.G0 i j))) := M2.congr (p_k0_pay14 (M2.ldz (n := 768) _ H.h0 _) (M2.ldz (n := 768) _ H.h1 _)) fun i j _ _ => rfl

theorem kA_HS0_2 :
    ∀ f, M2 (arg18.view.read (Elt Ideal) (arg18.view.writes (Elt Ideal) f (kernelRun0_A.sl.HS0_2 (F := Ideal) c i arg1 harg1 arg2 harg2 arg3 harg3 arg4 harg4 x0 x1 x2 x3))) B.E := fun f =>
  M2.congr (M2.put (o := 32) (n := 768) (F := fun i j => if 0 < B.p then B.AH i j * sg (B.GH i j) else 0) (p_k0_pay15 (kA_r_2 H)) _
    fun i hi => (M2.put0 (o := 0) (n := 32) (p_k0_pay13 H.hp (M2.ldz (n := 32) _ H.h2 _) (M2.ldz (n := 32) _ H.h3 _)) _ i (by have h : (i 0).val < 800 := (i 0).isLt; omega)).trans rfl)
    fun i j hi _ => B.E_eq i j hi

theorem kA_v132 :
    (M2 (n := 768) (m := 256) (kernelRun0_A.sl.v132 (F := Ideal) c i arg1 harg1 arg2 harg2 arg3 harg3 arg4 harg4 arg18 x0 x1 x2 x3) (fun i j => B.E (2 + i) j)) := M2.ldr (o := 2) (n := 768) (kA_HS0_2 H) _

theorem kA_H12_2 :
    ∀ (v : View sig .tc .vmem S32x256 .f32) f, M2 (v.read (Elt Ideal) (v.writes (Elt Ideal) f (kernelRun0_A.sl.H12_2 (F := Ideal) c i arg1 harg1 arg2 harg2 arg3 harg3 arg4 harg4 arg5 harg5 arg6 harg6 arg8 harg8 arg9 harg9 arg10 harg10 arg13 arg18 x0 x1 x2 x3 x4 x5 x7 x8 x9))) (fun i j => if i < 1 then B.nt Old.zero i j else Old.zero.O12 i j) := fun v f => M2.row (o := 0) (kA_H12_1 H v f) (M2.congr (g := fun _ j => B.nt Old.zero 0 j) (p_k0_pay34 (kA_r_3 H) (kA_r_4 H) (kA_r_10 H) (kA_r_11 H) (kA_r_12 H) (kA_v130 H) (kA_v132 H)) fun i j hi _ => by obtain rfl : i = 0 := (by omega); rfl) _

theorem kA_v143 :
    (M2 (n := 1) (m := 256) (kernelRun0_A.sl.v143 (F := Ideal) c i arg1 harg1 arg2 harg2 arg3 harg3 arg4 harg4 arg5 harg5 arg6 harg6 arg8 harg8 arg9 harg9 arg10 harg10 arg13 arg18 x0 x1 x2 x3 x4 x5 x7 x8 x9) (fun i j => Old.zero.O12 (1 + i) j)) := M2.congr (M2.ldr (o := 1) (n := 1) (kA_H12_2 H _) _) fun i j _ _ => if_neg (by omega)

theorem kA_r_15 :
    (M2 (n := 1) (m := 256) (kernelRun0_A.sl.r_15 (F := Ideal) c i arg1 harg1 arg2 harg2 arg3 harg3 arg4 harg4 arg5 harg5 arg6 harg6 arg8 harg8 arg9 harg9 arg10 harg10 arg13 arg18 x0 x1 x2 x3 x4 x5 x7 x8 x9) (fun i j => Old.zero.O12 (1 + i) j)) := M2.congr (p_k0_pay36 (kA_v143 H)) fun i j _ _ => rfl

theorem kA_v145 :
    (M2 (n := 768) (m := 256) (kernelRun0_A.sl.v145 (F := Ideal) c i arg1 harg1 arg2 harg2 arg3 harg3 arg4 harg4 arg18 x0 x1 x2 x3) (fun i j => B.E (3 + i) j)) := M2.ldr (o := 3) (n := 768) (kA_HS0_2 H) _

theorem kA_H12_3 :
    ∀ (v : View sig .tc .vmem S32x256 .f32) f, M2 (v.read (Elt Ideal) (v.writes (Elt Ideal) f (kernelRun0_A.sl.H12_3 (F := Ideal) c i arg1 harg1 arg2 harg2 arg3 harg3 arg4 harg4 arg5 harg5 arg6 harg6 arg8 harg8 arg9 harg9 arg10 harg10 arg13 arg18 x0 x1 x2 x3 x4 x5 x7 x8 x9))) (fun i j => if i < 2 then B.nt Old.zero i j else Old.zero.O12 i j) := fun v f => M2.row (o := 1) (kA_H12_2 H v f) (M2.congr (g := fun _ j => B.nt Old.zero 1 j) (p_k0_pay37 (kA_r_13 H) (kA_r_15 H) (kA_v145 H)) fun i j hi _ => by obtain rfl : i = 0 := (by omega); rfl) _

theorem kA_v157 :
    (M2 (n := 1) (m := 256) (kernelRun0_A.sl.v157 (F := Ideal) c i arg1 harg1 arg2 harg2 arg3 harg3 arg4 harg4 arg5 harg5 arg6 harg6 arg8 harg8 arg9 harg9 arg10 harg10 arg13 arg18 x0 x1 x2 x3 x4 x5 x7 x8 x9) (fun i j => Old.zero.O12 (2 + i) j)) := M2.congr (M2.ldr (o := 2) (n := 1) (kA_H12_3 H _) _) fun i j _ _ => if_neg (by omega)

theorem kA_v159 :
    (M2 (n := 768) (m := 256) (kernelRun0_A.sl.v159 (F := Ideal) c i arg1 harg1 arg2 harg2 arg3 harg3 arg4 harg4 arg18 x0 x1 x2 x3) (fun i j => B.E (4 + i) j)) := M2.ldr (o := 4) (n := 768) (kA_HS0_2 H) _

theorem kA_H12_4 :
    ∀ (v : View sig .tc .vmem S32x256 .f32) f, M2 (v.read (Elt Ideal) (v.writes (Elt Ideal) f (kernelRun0_A.sl.H12_4 (F := Ideal) c i arg1 harg1 arg2 harg2 arg3 harg3 arg4 harg4 arg5 harg5 arg6 harg6 arg8 harg8 arg9 harg9 arg10 harg10 arg13 arg18 x0 x1 x2 x3 x4 x5 x7 x8 x9))) (fun i j => if i < 3 then B.nt Old.zero i j else Old.zero.O12 i j) := fun v f => M2.row (o := 2) (kA_H12_3 H v f) (M2.congr (g := fun _ j => B.nt Old.zero 2 j) (p_k0_pay38 (kA_r_13 H) (kA_v157 H) (kA_v159 H)) fun i j hi _ => by obtain rfl : i = 0 := (by omega); rfl) _

theorem kA_v171 :
    (M2 (n := 1) (m := 256) (kernelRun0_A.sl.v171 (F := Ideal) c i arg1 harg1 arg2 harg2 arg3 harg3 arg4 harg4 arg5 harg5 arg6 harg6 arg8 harg8 arg9 harg9 arg10 harg10 arg13 arg18 x0 x1 x2 x3 x4 x5 x7 x8 x9) (fun i j => Old.zero.O12 (3 + i) j)) := M2.congr (M2.ldr (o := 3) (n := 1) (kA_H12_4 H _) _) fun i j _ _ => if_neg (by omega)

theorem kA_v173 :
    (M2 (n := 768) (m := 256) (kernelRun0_A.sl.v173 (F := Ideal) c i arg1 harg1 arg2 harg2 arg3 harg3 arg4 harg4 arg18 x0 x1 x2 x3) (fun i j => B.E (5 + i) j)) := M2.ldr (o := 5) (n := 768) (kA_HS0_2 H) _

theorem kA_r_17 :
    (M2 (n := 1) (m := 256) (kernelRun0_A.sl.r_17 (F := Ideal) c i arg1 harg1 arg2 harg2 arg3 harg3 arg4 harg4 arg5 harg5 arg6 harg6 arg8 harg8 arg9 harg9 arg10 harg10 arg13 arg18 x0 x1 x2 x3 x4 x5 x7 x8 x9) (fun i j => B.nt Old.zero 3 j)) := (M2.congr (g := fun _ j => B.nt Old.zero 3 j) (p_k0_pay40 (kA_r_13 H) (kA_v171 H) (kA_v173 H)) fun i j hi _ => by obtain rfl : i = 0 := (by omega); rfl)

theorem kA_H12_5 :
    ∀ (v : View sig .tc .vmem S32x256 .f32) f, M2 (v.read (Elt Ideal) (v.writes (Elt Ideal) f (kernelRun0_A.sl.H12_5 (F := Ideal) c i arg1 harg1 arg2 harg2 arg3 harg3 arg4 harg4 arg5 harg5 arg6 harg6 arg8 harg8 arg9 harg9 arg10 harg10 arg13 arg18 x0 x1 x2 x3 x4 x5 x7 x8 x9))) (fun i j => if i < 4 then B.nt Old.zero i j else Old.zero.O12 i j) := fun v f => M2.row (o := 3) (kA_H12_4 H v f) (M2.congr (kA_r_17 H) fun i j _ _ => rfl) _

theorem kA_v185 :
    (M2 (n := 1) (m := 256) (kernelRun0_A.sl.v185 (F := Ideal) c i arg1 harg1 arg2 harg2 arg3 harg3 arg4 harg4 arg5 harg5 arg6 harg6 arg8 harg8 arg9 harg9 arg10 harg10 arg13 arg18 x0 x1 x2 x3 x4 x5 x7 x8 x9) (fun i j => Old.zero.O12 (4 + i) j)) := M2.congr (M2.ldr (o := 4) (n := 1) (kA_H12_5 H _) _) fun i j _ _ => if_neg (by omega)

theorem kA_v187 :
    (M2 (n := 768) (m := 256) (kernelRun0_A.sl.v187 (F := Ideal) c i arg1 harg1 arg2 harg2 arg3 harg3 arg4 harg4 arg18 x0 x1 x2 x3) (fun i j => B.E (6 + i) j)) := M2.ldr (o := 6) (n := 768) (kA_HS0_2 H) _

theorem kA_H12_6 :
    ∀ (v : View sig .tc .vmem S32x256 .f32) f, M2 (v.read (Elt Ideal) (v.writes (Elt Ideal) f (kernelRun0_A.sl.H12_6 (F := Ideal) c i arg1 harg1 arg2 harg2 arg3 harg3 arg4 harg4 arg5 harg5 arg6 harg6 arg8 harg8 arg9 harg9 arg10 harg10 arg13 arg18 x0 x1 x2 x3 x4 x5 x7 x8 x9))) (fun i j => if i < 5 then B.nt Old.zero i j else Old.zero.O12 i j) := fun v f => M2.row (o := 4) (kA_H12_5 H v f) (M2.congr (g := fun _ j => B.nt Old.zero 4 j) (p_k0_pay41 (kA_r_13 H) (kA_v185 H) (kA_v187 H)) fun i j hi _ => by obtain rfl : i = 0 := (by omega); rfl) _

theorem kA_v199 :
    (M2 (n := 1) (m := 256) (kernelRun0_A.sl.v199 (F := Ideal) c i arg1 harg1 arg2 harg2 arg3 harg3 arg4 harg4 arg5 harg5 arg6 harg6 arg8 harg8 arg9 harg9 arg10 harg10 arg13 arg18 x0 x1 x2 x3 x4 x5 x7 x8 x9) (fun i j => Old.zero.O12 (5 + i) j)) := M2.congr (M2.ldr (o := 5) (n := 1) (kA_H12_6 H _) _) fun i j _ _ => if_neg (by omega)

theorem kA_v201 :
    (M2 (n := 768) (m := 256) (kernelRun0_A.sl.v201 (F := Ideal) c i arg1 harg1 arg2 harg2 arg3 harg3 arg4 harg4 arg18 x0 x1 x2 x3) (fun i j => B.E (7 + i) j)) := M2.ldr (o := 7) (n := 768) (kA_HS0_2 H) _

theorem kA_H12_7 :
    ∀ (v : View sig .tc .vmem S32x256 .f32) f, M2 (v.read (Elt Ideal) (v.writes (Elt Ideal) f (kernelRun0_A.sl.H12_7 (F := Ideal) c i arg1 harg1 arg2 harg2 arg3 harg3 arg4 harg4 arg5 harg5 arg6 harg6 arg8 harg8 arg9 harg9 arg10 harg10 arg13 arg18 x0 x1 x2 x3 x4 x5 x7 x8 x9))) (fun i j => if i < 6 then B.nt Old.zero i j else Old.zero.O12 i j) := fun v f => M2.row (o := 5) (kA_H12_6 H v f) (M2.congr (g := fun _ j => B.nt Old.zero 5 j) (p_k0_pay43 (kA_r_13 H) (kA_v199 H) (kA_v201 H)) fun i j hi _ => by obtain rfl : i = 0 := (by omega); rfl) _

theorem kA_v213 :
    (M2 (n := 1) (m := 256) (kernelRun0_A.sl.v213 (F := Ideal) c i arg1 harg1 arg2 harg2 arg3 harg3 arg4 harg4 arg5 harg5 arg6 harg6 arg8 harg8 arg9 harg9 arg10 harg10 arg13 arg18 x0 x1 x2 x3 x4 x5 x7 x8 x9) (fun i j => Old.zero.O12 (6 + i) j)) := M2.congr (M2.ldr (o := 6) (n := 1) (kA_H12_7 H _) _) fun i j _ _ => if_neg (by omega)

theorem kA_v215 :
    (M2 (n := 768) (m := 256) (kernelRun0_A.sl.v215 (F := Ideal) c i arg1 harg1 arg2 harg2 arg3 harg3 arg4 harg4 arg18 x0 x1 x2 x3) (fun i j => B.E (8 + i) j)) := M2.ldr (o := 8) (n := 768) (kA_HS0_2 H) _

theorem kA_H12_8 :
    ∀ (v : View sig .tc .vmem S32x256 .f32) f, M2 (v.read (Elt Ideal) (v.writes (Elt Ideal) f (kernelRun0_A.sl.H12_8 (F := Ideal) c i arg1 harg1 arg2 harg2 arg3 harg3 arg4 harg4 arg5 harg5 arg6 harg6 arg8 harg8 arg9 harg9 arg10 harg10 arg13 arg18 x0 x1 x2 x3 x4 x5 x7 x8 x9))) (fun i j => if i < 7 then B.nt Old.zero i j else Old.zero.O12 i j) := fun v f => M2.row (o := 6) (kA_H12_7 H v f) (M2.congr (g := fun _ j => B.nt Old.zero 6 j) (p_k0_pay45 (kA_r_13 H) (kA_v213 H) (kA_v215 H)) fun i j hi _ => by obtain rfl : i = 0 := (by omega); rfl) _

theorem kA_v227 :
    (M2 (n := 1) (m := 256) (kernelRun0_A.sl.v227 (F := Ideal) c i arg1 harg1 arg2 harg2 arg3 harg3 arg4 harg4 arg5 harg5 arg6 harg6 arg8 harg8 arg9 harg9 arg10 harg10 arg13 arg18 x0 x1 x2 x3 x4 x5 x7 x8 x9) (fun i j => Old.zero.O12 (7 + i) j)) := M2.congr (M2.ldr (o := 7) (n := 1) (kA_H12_8 H _) _) fun i j _ _ => if_neg (by omega)

theorem kA_v229 :
    (M2 (n := 768) (m := 256) (kernelRun0_A.sl.v229 (F := Ideal) c i arg1 harg1 arg2 harg2 arg3 harg3 arg4 harg4 arg18 x0 x1 x2 x3) (fun i j => B.E (9 + i) j)) := M2.ldr (o := 9) (n := 768) (kA_HS0_2 H) _

theorem kA_H12_9 :
    ∀ (v : View sig .tc .vmem S32x256 .f32) f, M2 (v.read (Elt Ideal) (v.writes (Elt Ideal) f (kernelRun0_A.sl.H12_9 (F := Ideal) c i arg1 harg1 arg2 harg2 arg3 harg3 arg4 harg4 arg5 harg5 arg6 harg6 arg8 harg8 arg9 harg9 arg10 harg10 arg13 arg18 x0 x1 x2 x3 x4 x5 x7 x8 x9))) (fun i j => if i < 8 then B.nt Old.zero i j else Old.zero.O12 i j) := fun v f => M2.row (o := 7) (kA_H12_8 H v f) (M2.congr (g := fun _ j => B.nt Old.zero 7 j) (p_k0_pay46 (kA_r_13 H) (kA_v227 H) (kA_v229 H)) fun i j hi _ => by obtain rfl : i = 0 := (by omega); rfl) _

theorem kA_v241 :
    (M2 (n := 1) (m := 256) (kernelRun0_A.sl.v241 (F := Ideal) c i arg1 harg1 arg2 harg2 arg3 harg3 arg4 harg4 arg5 harg5 arg6 harg6 arg8 harg8 arg9 harg9 arg10 harg10 arg13 arg18 x0 x1 x2 x3 x4 x5 x7 x8 x9) (fun i j => Old.zero.O12 (8 + i) j)) := M2.congr (M2.ldr (o := 8) (n := 1) (kA_H12_9 H _) _) fun i j _ _ => if_neg (by omega)

theorem kA_r_21 :
    (M2 (n := 1) (m := 256) (kernelRun0_A.sl.r_21 (F := Ideal) c i arg1 harg1 arg2 harg2 arg3 harg3 arg4 harg4 arg5 harg5 arg6 harg6 arg8 harg8 arg9 harg9 arg10 harg10 arg13 arg18 x0 x1 x2 x3 x4 x5 x7 x8 x9) (fun i j => Old.zero.O12 (8 + i) j)) := M2.congr (p_k0_pay48 (kA_v241 H)) fun i j _ _ => rfl

theorem kA_v243 :
    (M2 (n := 768) (m := 256) (kernelRun0_A.sl.v243 (F := Ideal) c i arg1 harg1 arg2 harg2 arg3 harg3 arg4 harg4 arg18 x0 x1 x2 x3) (fun i j => B.E (10 + i) j)) := M2.ldr (o := 10) (n := 768) (kA_HS0_2 H) _

theorem kA_H12_10 :
    ∀ (v : View sig .tc .vmem S32x256 .f32) f, M2 (v.read (Elt Ideal) (v.writes (Elt Ideal) f (kernelRun0_A.sl.H12_10 (F := Ideal) c i arg1 harg1 arg2 harg2 arg3 harg3 arg4 harg4 arg5 harg5 arg6 harg6 arg8 harg8 arg9 harg9 arg10 harg10 arg13 arg18 x0 x1 x2 x3 x4 x5 x7 x8 x9))) (fun i j => if i < 9 then B.nt Old.zero i j else Old.zero.O12 i j) := fun v f => M2.row (o := 8) (kA_H12_9 H v f) (M2.congr (g := fun _ j => B.nt Old.zero 8 j) (p_k0_pay49 (kA_r_13 H) (kA_r_21 H) (kA_v243 H)) fun i j hi _ => by obtain rfl : i = 0 := (by omega); rfl) _

theorem kA_v255 :
    (M2 (n := 1) (m := 256) (kernelRun0_A.sl.v255 (F := Ideal) c i arg1 harg1 arg2 harg2 arg3 harg3 arg4 harg4 arg5 harg5 arg6 harg6 arg8 harg8 arg9 harg9 arg10 harg10 arg13 arg18 x0 x1 x2 x3 x4 x5 x7 x8 x9) (fun i j => Old.zero.O12 (9 + i) j)) := M2.congr (M2.ldr (o := 9) (n := 1) (kA_H12_10 H _) _) fun i j _ _ => if_neg (by omega)

theorem kA_v257 :
    (M2 (n := 768) (m := 256) (kernelRun0_A.sl.v257 (F := Ideal) c i arg1 harg1 arg2 harg2 arg3 harg3 arg4 harg4 arg18 x0 x1 x2 x3) (fun i j => B.E (11 + i) j)) := M2.ldr (o := 11) (n := 768) (kA_HS0_2 H) _

theorem kA_H12_11 :
    ∀ (v : View sig .tc .vmem S32x256 .f32) f, M2 (v.read (Elt Ideal) (v.writes (Elt Ideal) f (kernelRun0_A.sl.H12_11 (F := Ideal) c i arg1 harg1 arg2 harg2 arg3 harg3 arg4 harg4 arg5 harg5 arg6 harg6 arg8 harg8 arg9 harg9 arg10 harg10 arg13 arg18 x0 x1 x2 x3 x4 x5 x7 x8 x9))) (fun i j => if i < 10 then B.nt Old.zero i j else Old.zero.O12 i j) := fun v f => M2.row (o := 9) (kA_H12_10 H v f) (M2.congr (g := fun _ j => B.nt Old.zero 9 j) (p_k0_pay50 (kA_r_13 H) (kA_v255 H) (kA_v257 H)) fun i j hi _ => by obtain rfl : i = 0 := (by omega); rfl) _

theorem kA_v269 :
    (M2 (n := 1) (m := 256) (kernelRun0_A.sl.v269 (F := Ideal) c i arg1 harg1 arg2 harg2 arg3 harg3 arg4 harg4 arg5 harg5 arg6 harg6 arg8 harg8 arg9 harg9 arg10 harg10 arg13 arg18 x0 x1 x2 x3 x4 x5 x7 x8 x9) (fun i j => Old.zero.O12 (10 + i) j)) := M2.congr (M2.ldr (o := 10) (n := 1) (kA_H12_11 H _) _) fun i j _ _ => if_neg (by omega)

theorem kA_v271 :
    (M2 (n := 768) (m := 256) (kernelRun0_A.sl.v271 (F := Ideal) c i arg1 harg1 arg2 harg2 arg3 harg3 arg4 harg4 arg18 x0 x1 x2 x3) (fun i j => B.E (12 + i) j)) := M2.ldr (o := 12) (n := 768) (kA_HS0_2 H) _

theorem kA_r_23 :
    (M2 (n := 1) (m := 256) (kernelRun0_A.sl.r_23 (F := Ideal) c i arg1 harg1 arg2 harg2 arg3 harg3 arg4 harg4 arg5 harg5 arg6 harg6 arg8 harg8 arg9 harg9 arg10 harg10 arg13 arg18 x0 x1 x2 x3 x4 x5 x7 x8 x9) (fun i j => B.nt Old.zero 10 j)) := (M2.congr (g := fun _ j => B.nt Old.zero 10 j) (p_k0_pay52 (kA_r_13 H) (kA_v269 H) (kA_v271 H)) fun i j hi _ => by obtain rfl : i = 0 := (by omega); rfl)

theorem kA_H12_12 :
    ∀ (v : View sig .tc .vmem S32x256 .f32) f, M2 (v.read (Elt Ideal) (v.writes (Elt Ideal) f (kernelRun0_A.sl.H12_12 (F := Ideal) c i arg1 harg1 arg2 harg2 arg3 harg3 arg4 harg4 arg5 harg5 arg6 harg6 arg8 harg8 arg9 harg9 arg10 harg10 arg13 arg18 x0 x1 x2 x3 x4 x5 x7 x8 x9))) (fun i j => if i < 11 then B.nt Old.zero i j else Old.zero.O12 i j) := fun v f => M2.row (o := 10) (kA_H12_11 H v f) (M2.congr (kA_r_23 H) fun i j _ _ => rfl) _

theorem kA_v283 :
    (M2 (n := 1) (m := 256) (kernelRun0_A.sl.v283 (F := Ideal) c i arg1 harg1 arg2 harg2 arg3 harg3 arg4 harg4 arg5 harg5 arg6 harg6 arg8 harg8 arg9 harg9 arg10 harg10 arg13 arg18 x0 x1 x2 x3 x4 x5 x7 x8 x9) (fun i j => Old.zero.O12 (11 + i) j)) := M2.congr (M2.ldr (o := 11) (n := 1) (kA_H12_12 H _) _) fun i j _ _ => if_neg (by omega)

theorem kA_v285 :
    (M2 (n := 768) (m := 256) (kernelRun0_A.sl.v285 (F := Ideal) c i arg1 harg1 arg2 harg2 arg3 harg3 arg4 harg4 arg18 x0 x1 x2 x3) (fun i j => B.E (13 + i) j)) := M2.ldr (o := 13) (n := 768) (kA_HS0_2 H) _

theorem kA_H12_13 :
    ∀ (v : View sig .tc .vmem S32x256 .f32) f, M2 (v.read (Elt Ideal) (v.writes (Elt Ideal) f (kernelRun0_A.sl.H12_13 (F := Ideal) c i arg1 harg1 arg2 harg2 arg3 harg3 arg4 harg4 arg5 harg5 arg6 harg6 arg8 harg8 arg9 harg9 arg10 harg10 arg13 arg18 x0 x1 x2 x3 x4 x5 x7 x8 x9))) (fun i j => if i < 12 then B.nt Old.zero i j else Old.zero.O12 i j) := fun v f => M2.row (o := 11) (kA_H12_12 H v f) (M2.congr (g := fun _ j => B.nt Old.zero 11 j) (p_k0_pay53 (kA_r_13 H) (kA_v283 H) (kA_v285 H)) fun i j hi _ => by obtain rfl : i = 0 := (by omega); rfl) _

theorem kA_v297 :
    (M2 (n := 1) (m := 256) (kernelRun0_A.sl.v297 (F := Ideal) c i arg1 harg1 arg2 harg2 arg3 harg3 arg4 harg4 arg5 harg5 arg6 harg6 arg8 harg8 arg9 harg9 arg10 harg10 arg13 arg18 x0 x1 x2 x3 x4 x5 x7 x8 x9) (fun i j => Old.zero.O12 (12 + i) j)) := M2.congr (M2.ldr (o := 12) (n := 1) (kA_H12_13 H _) _) fun i j _ _ => if_neg (by omega)

theorem kA_v299 :
    (M2 (n := 768) (m := 256) (kernelRun0_A.sl.v299 (F := Ideal) c i arg1 harg1 arg2 harg2 arg3 harg3 arg4 harg4 arg18 x0 x1 x2 x3) (fun i j => B.E (14 + i) j)) := M2.ldr (o := 14) (n := 768) (kA_HS0_2 H) _

theorem kA_H12_14 :
    ∀ (v : View sig .tc .vmem S32x256 .f32) f, M2 (v.read (Elt Ideal) (v.writes (Elt Ideal) f (kernelRun0_A.sl.H12_14 (F := Ideal) c i arg1 harg1 arg2 harg2 arg3 harg3 arg4 harg4 arg5 harg5 arg6 harg6 arg8 harg8 arg9 harg9 arg10 harg10 arg13 arg18 x0 x1 x2 x3 x4 x5 x7 x8 x9))) (fun i j => if i < 13 then B.nt Old.zero i j else Old.zero.O12 i j) := fun v f => M2.row (o := 12) (kA_H12_13 H v f) (M2.congr (g := fun _ j => B.nt Old.zero 12 j) (p_k0_pay55 (kA_r_13 H) (kA_v297 H) (kA_v299 H)) fun i j hi _ => by obtain rfl : i = 0 := (by omega); rfl) _

theorem kA_v311 :
    (M2 (n := 1) (m := 256) (kernelRun0_A.sl.v311 (F := Ideal) c i arg1 harg1 arg2 harg2 arg3 harg3 arg4 harg4 arg5 harg5 arg6 harg6 arg8 harg8 arg9 harg9 arg10 harg10 arg13 arg18 x0 x1 x2 x3 x4 x5 x7 x8 x9) (fun i j => Old.zero.O12 (13 + i) j)) := M2.congr (M2.ldr (o := 13) (n := 1) (kA_H12_14 H _) _) fun i j _ _ => if_neg (by omega)

theorem kA_v313 :
    (M2 (n := 768) (m := 256) (kernelRun0_A.sl.v313 (F := Ideal) c i arg1 harg1 arg2 harg2 arg3 harg3 arg4 harg4 arg18 x0 x1 x2 x3) (fun i j => B.E (15 + i) j)) := M2.ldr (o := 15) (n := 768) (kA_HS0_2 H) _

theorem kA_H12_15 :
    ∀ (v : View sig .tc .vmem S32x256 .f32) f, M2 (v.read (Elt Ideal) (v.writes (Elt Ideal) f (kernelRun0_A.sl.H12_15 (F := Ideal) c i arg1 harg1 arg2 harg2 arg3 harg3 arg4 harg4 arg5 harg5 arg6 harg6 arg8 harg8 arg9 harg9 arg10 harg10 arg13 arg18 x0 x1 x2 x3 x4 x5 x7 x8 x9))) (fun i j => if i < 14 then B.nt Old.zero i j else Old.zero.O12 i j) := fun v f => M2.row (o := 13) (kA_H12_14 H v f) (M2.congr (g := fun _ j => B.nt Old.zero 13 j) (p_k0_pay57 (kA_r_13 H) (kA_v311 H) (kA_v313 H)) fun i j hi _ => by obtain rfl : i = 0 := (by omega); rfl) _

theorem kA_v325 :
    (M2 (n := 1) (m := 256) (kernelRun0_A.sl.v325 (F := Ideal) c i arg1 harg1 arg2 harg2 arg3 harg3 arg4 harg4 arg5 harg5 arg6 harg6 arg8 harg8 arg9 harg9 arg10 harg10 arg13 arg18 x0 x1 x2 x3 x4 x5 x7 x8 x9) (fun i j => Old.zero.O12 (14 + i) j)) := M2.congr (M2.ldr (o := 14) (n := 1) (kA_H12_15 H _) _) fun i j _ _ => if_neg (by omega)

theorem kA_v327 :
    (M2 (n := 768) (m := 256) (kernelRun0_A.sl.v327 (F := Ideal) c i arg1 harg1 arg2 harg2 arg3 harg3 arg4 harg4 arg18 x0 x1 x2 x3) (fun i j => B.E (16 + i) j)) := M2.ldr (o := 16) (n := 768) (kA_HS0_2 H) _

theorem kA_H12_16 :
    ∀ (v : View sig .tc .vmem S32x256 .f32) f, M2 (v.read (Elt Ideal) (v.writes (Elt Ideal) f (kernelRun0_A.sl.H12_16 (F := Ideal) c i arg1 harg1 arg2 harg2 arg3 harg3 arg4 harg4 arg5 harg5 arg6 harg6 arg8 harg8 arg9 harg9 arg10 harg10 arg13 arg18 x0 x1 x2 x3 x4 x5 x7 x8 x9))) (fun i j => if i < 15 then B.nt Old.zero i j else Old.zero.O12 i j) := fun v f => M2.row (o := 14) (kA_H12_15 H v f) (M2.congr (g := fun _ j => B.nt Old.zero 14 j) (p_k0_pay58 (kA_r_13 H) (kA_v325 H) (kA_v327 H)) fun i j hi _ => by obtain rfl : i = 0 := (by omega); rfl) _

theorem kA_v339 :
    (M2 (n := 1) (m := 256) (kernelRun0_A.sl.v339 (F := Ideal) c i arg1 harg1 arg2 harg2 arg3 harg3 arg4 harg4 arg5 harg5 arg6 harg6 arg8 harg8 arg9 harg9 arg10 harg10 arg13 arg18 x0 x1 x2 x3 x4 x5 x7 x8 x9) (fun i j => Old.zero.O12 (15 + i) j)) := M2.congr (M2.ldr (o := 15) (n := 1) (kA_H12_16 H _) _) fun i j _ _ => if_neg (by omega)

theorem kA_v341 :
    (M2 (n := 768) (m := 256) (kernelRun0_A.sl.v341 (F := Ideal) c i arg1 harg1 arg2 harg2 arg3 harg3 arg4 harg4 arg18 x0 x1 x2 x3) (fun i j => B.E (17 + i) j)) := M2.ldr (o := 17) (n := 768) (kA_HS0_2 H) _

theorem kA_H12_17 :
    ∀ (v : View sig .tc .vmem S32x256 .f32) f, M2 (v.read (Elt Ideal) (v.writes (Elt Ideal) f (kernelRun0_A.sl.H12_17 (F := Ideal) c i arg1 harg1 arg2 harg2 arg3 harg3 arg4 harg4 arg5 harg5 arg6 harg6 arg8 harg8 arg9 harg9 arg10 harg10 arg13 arg18 x0 x1 x2 x3 x4 x5 x7 x8 x9))) (fun i j => if i < 16 then B.nt Old.zero i j else Old.zero.O12 i j) := fun v f => M2.row (o := 15) (kA_H12_16 H v f) (M2.congr (g := fun _ j => B.nt Old.zero 15 j) (p_k0_pay60 (kA_r_13 H) (kA_v339 H) (kA_v341 H)) fun i j hi _ => by obtain rfl : i = 0 := (by omega); rfl) _

theorem kA_v353 :
    (M2 (n := 1) (m := 256) (kernelRun0_A.sl.v353 (F := Ideal) c i arg1 harg1 arg2 harg2 arg3 harg3 arg4 harg4 arg5 harg5 arg6 harg6 arg8 harg8 arg9 harg9 arg10 harg10 arg13 arg18 x0 x1 x2 x3 x4 x5 x7 x8 x9) (fun i j => Old.zero.O12 (16 + i) j)) := M2.congr (M2.ldr (o := 16) (n := 1) (kA_H12_17 H _) _) fun i j _ _ => if_neg (by omega)

theorem kA_v355 :
    (M2 (n := 768) (m := 256) (kernelRun0_A.sl.v355 (F := Ideal) c i arg1 harg1 arg2 harg2 arg3 harg3 arg4 harg4 arg18 x0 x1 x2 x3) (fun i j => B.E (18 + i) j)) := M2.ldr (o := 18) (n := 768) (kA_HS0_2 H) _

theorem kA_H12_18 :
    ∀ (v : View sig .tc .vmem S32x256 .f32) f, M2 (v.read (Elt Ideal) (v.writes (Elt Ideal) f (kernelRun0_A.sl.H12_18 (F := Ideal) c i arg1 harg1 arg2 harg2 arg3 harg3 arg4 harg4 arg5 harg5 arg6 harg6 arg8 harg8 arg9 harg9 arg10 harg10 arg13 arg18 x0 x1 x2 x3 x4 x5 x7 x8 x9))) (fun i j => if i < 17 then B.nt Old.zero i j else Old.zero.O12 i j) := fun v f => M2.row (o := 16) (kA_H12_17 H v f) (M2.congr (g := fun _ j => B.nt Old.zero 16 j) (p_k0_pay61 (kA_r_13 H) (kA_v353 H) (kA_v355 H)) fun i j hi _ => by obtain rfl : i = 0 := (by omega); rfl) _

theorem kA_v367 :
    (M2 (n := 1) (m := 256) (kernelRun0_A.sl.v367 (F := Ideal) c i arg1 harg1 arg2 harg2 arg3 harg3 arg4 harg4 arg5 harg5 arg6 harg6 arg8 harg8 arg9 harg9 arg10 harg10 arg13 arg18 x0 x1 x2 x3 x4 x5 x7 x8 x9) (fun i j => Old.zero.O12 (17 + i) j)) := M2.congr (M2.ldr (o := 17) (n := 1) (kA_H12_18 H _) _) fun i j _ _ => if_neg (by omega)

theorem kA_r_28 :
    (M2 (n := 1) (m := 256) (kernelRun0_A.sl.r_28 (F := Ideal) c i arg1 harg1 arg2 harg2 arg3 harg3 arg4 harg4 arg5 harg5 arg6 harg6 arg8 harg8 arg9 harg9 arg10 harg10 arg13 arg18 x0 x1 x2 x3 x4 x5 x7 x8 x9) (fun i j => Old.zero.O12 (17 + i) j)) := M2.congr (p_k0_pay63 (kA_v367 H)) fun i j _ _ => rfl

theorem kA_v369 :
    (M2 (n := 768) (m := 256) (kernelRun0_A.sl.v369 (F := Ideal) c i arg1 harg1 arg2 harg2 arg3 harg3 arg4 harg4 arg18 x0 x1 x2 x3) (fun i j => B.E (19 + i) j)) := M2.ldr (o := 19) (n := 768) (kA_HS0_2 H) _

theorem kA_r_29 :
    M1 (n := 256) (kernelRun0_A.sl.r_29 (F := Ideal) c i arg1 harg1 arg2 harg2 arg3 harg3 arg4 harg4 arg5 harg5 arg6 harg6 arg8 harg8 arg9 harg9 arg10 harg10 arg18 x0 x1 x2 x3 x4 x5 x7 x8 x9) (fun j => B.tap 17 j) := (p_k0_pay64 (kA_r_13 H) (kA_v369 H))

theorem kA_H12_19 :
    ∀ (v : View sig .tc .vmem S32x256 .f32) f, M2 (v.read (Elt Ideal) (v.writes (Elt Ideal) f (kernelRun0_A.sl.H12_19 (F := Ideal) c i arg1 harg1 arg2 harg2 arg3 harg3 arg4 harg4 arg5 harg5 arg6 harg6 arg8 harg8 arg9 harg9 arg10 harg10 arg13 arg18 x0 x1 x2 x3 x4 x5 x7 x8 x9))) (fun i j => if i < 18 then B.nt Old.zero i j else Old.zero.O12 i j) := fun v f => M2.row (o := 17) (kA_H12_18 H v f) (M2.congr (g := fun _ j => B.nt Old.zero 17 j) (p_k0_pay65 (kA_r_28 H) (kA_r_29 H)) fun i j hi _ => by obtain rfl : i = 0 := (by omega); rfl) _

theorem kA_v381 :
    (M2 (n := 1) (m := 256) (kernelRun0_A.sl.v381 (F := Ideal) c i arg1 harg1 arg2 harg2 arg3 harg3 arg4 harg4 arg5 harg5 arg6 harg6 arg8 harg8 arg9 harg9 arg10 harg10 arg13 arg18 x0 x1 x2 x3 x4 x5 x7 x8 x9) (fun i j => Old.zero.O12 (18 + i) j)) := M2.congr (M2.ldr (o := 18) (n := 1) (kA_H12_19 H _) _) fun i j _ _ => if_neg (by omega)

theorem kA_v383 :
    (M2 (n := 768) (m := 256) (kernelRun0_A.sl.v383 (F := Ideal) c i arg1 harg1 arg2 harg2 arg3 harg3 arg4 harg4 arg18 x0 x1 x2 x3) (fun i j => B.E (20 + i) j)) := M2.ldr (o := 20) (n := 768) (kA_HS0_2 H) _

theorem kA_H12_20 :
    ∀ (v : View sig .tc .vmem S32x256 .f32) f, M2 (v.read (Elt Ideal) (v.writes (Elt Ideal) f (kernelRun0_A.sl.H12_20 (F := Ideal) c i arg1 harg1 arg2 harg2 arg3 harg3 arg4 harg4 arg5 harg5 arg6 harg6 arg8 harg8 arg9 harg9 arg10 harg10 arg13 arg18 x0 x1 x2 x3 x4 x5 x7 x8 x9))) (fun i j => if i < 19 then B.nt Old.zero i j else Old.zero.O12 i j) := fun v f => M2.row (o := 18) (kA_H12_19 H v f) (M2.congr (g := fun _ j => B.nt Old.zero 18 j) (p_k0_pay66 (kA_r_13 H) (kA_v381 H) (kA_v383 H)) fun i j hi _ => by obtain rfl : i = 0 := (by omega); rfl) _

theorem kA_v395 :
    (M2 (n := 1) (m := 256) (kernelRun0_A.sl.v395 (F := Ideal) c i arg1 harg1 arg2 harg2 arg3 harg3 arg4 harg4 arg5 harg5 arg6 harg6 arg8 harg8 arg9 harg9 arg10 harg10 arg13 arg18 x0 x1 x2 x3 x4 x5 x7 x8 x9) (fun i j => Old.zero.O12 (19 + i) j)) := M2.congr (M2.ldr (o := 19) (n := 1) (kA_H12_20 H _) _) fun i j _ _ => if_neg (by omega)

theorem kA_v397 :
    (M2 (n := 768) (m := 256) (kernelRun0_A.sl.v397 (F := Ideal) c i arg1 harg1 arg2 harg2 arg3 harg3 arg4 harg4 arg18 x0 x1 x2 x3) (fun i j => B.E (21 + i) j)) := M2.ldr (o := 21) (n := 768) (kA_HS0_2 H) _

theorem kA_H12_21 :
    ∀ (v : View sig .tc .vmem S32x256 .f32) f, M2 (v.read (Elt Ideal) (v.writes (Elt Ideal) f (kernelRun0_A.sl.H12_21 (F := Ideal) c i arg1 harg1 arg2 harg2 arg3 harg3 arg4 harg4 arg5 harg5 arg6 harg6 arg8 harg8 arg9 harg9 arg10 harg10 arg13 arg18 x0 x1 x2 x3 x4 x5 x7 x8 x9))) (fun i j => if i < 20 then B.nt Old.zero i j else Old.zero.O12 i j) := fun v f => M2.row (o := 19) (kA_H12_20 H v f) (M2.congr (g := fun _ j => B.nt Old.zero 19 j) (p_k0_pay68 (kA_r_13 H) (kA_v395 H) (kA_v397 H)) fun i j hi _ => by obtain rfl : i = 0 := (by omega); rfl) _

theorem kA_v409 :
    (M2 (n := 1) (m := 256) (kernelRun0_A.sl.v409 (F := Ideal) c i arg1 harg1 arg2 harg2 arg3 harg3 arg4 harg4 arg5 harg5 arg6 harg6 arg8 harg8 arg9 harg9 arg10 harg10 arg13 arg18 x0 x1 x2 x3 x4 x5 x7 x8 x9) (fun i j => Old.zero.O12 (20 + i) j)) := M2.congr (M2.ldr (o := 20) (n := 1) (kA_H12_21 H _) _) fun i j _ _ => if_neg (by omega)

theorem kA_v411 :
    (M2 (n := 768) (m := 256) (kernelRun0_A.sl.v411 (F := Ideal) c i arg1 harg1 arg2 harg2 arg3 harg3 arg4 harg4 arg18 x0 x1 x2 x3) (fun i j => B.E (22 + i) j)) := M2.ldr (o := 22) (n := 768) (kA_HS0_2 H) _

theorem kA_H12_22 :
    ∀ (v : View sig .tc .vmem S32x256 .f32) f, M2 (v.read (Elt Ideal) (v.writes (Elt Ideal) f (kernelRun0_A.sl.H12_22 (F := Ideal) c i arg1 harg1 arg2 harg2 arg3 harg3 arg4 harg4 arg5 harg5 arg6 harg6 arg8 harg8 arg9 harg9 arg10 harg10 arg13 arg18 x0 x1 x2 x3 x4 x5 x7 x8 x9))) (fun i j => if i < 21 then B.nt Old.zero i j else Old.zero.O12 i j) := fun v f => M2.row (o := 20) (kA_H12_21 H v f) (M2.congr (g := fun _ j => B.nt Old.zero 20 j) (p_k0_pay69 (kA_r_13 H) (kA_v409 H) (kA_v411 H)) fun i j hi _ => by obtain rfl : i = 0 := (by omega); rfl) _

theorem kA_v423 :
    (M2 (n := 1) (m := 256) (kernelRun0_A.sl.v423 (F := Ideal) c i arg1 harg1 arg2 harg2 arg3 harg3 arg4 harg4 arg5 harg5 arg6 harg6 arg8 harg8 arg9 harg9 arg10 harg10 arg13 arg18 x0 x1 x2 x3 x4 x5 x7 x8 x9) (fun i j => Old.zero.O12 (21 + i) j)) := M2.congr (M2.ldr (o := 21) (n := 1) (kA_H12_22 H _) _) fun i j _ _ => if_neg (by omega)

theorem kA_v425 :
    (M2 (n := 768) (m := 256) (kernelRun0_A.sl.v425 (F := Ideal) c i arg1 harg1 arg2 harg2 arg3 harg3 arg4 harg4 arg18 x0 x1 x2 x3) (fun i j => B.E (23 + i) j)) := M2.ldr (o := 23) (n := 768) (kA_HS0_2 H) _

theorem kA_H12_23 :
    ∀ (v : View sig .tc .vmem S32x256 .f32) f, M2 (v.read (Elt Ideal) (v.writes (Elt Ideal) f (kernelRun0_A.sl.H12_23 (F := Ideal) c i arg1 harg1 arg2 harg2 arg3 harg3 arg4 harg4 arg5 harg5 arg6 harg6 arg8 harg8 arg9 harg9 arg10 harg10 arg13 arg18 x0 x1 x2 x3 x4 x5 x7 x8 x9))) (fun i j => if i < 22 then B.nt Old.zero i j else Old.zero.O12 i j) := fun v f => M2.row (o := 21) (kA_H12_22 H v f) (M2.congr (g := fun _ j => B.nt Old.zero 21 j) (p_k0_pay70 (kA_r_13 H) (kA_v423 H) (kA_v425 H)) fun i j hi _ => by obtain rfl : i = 0 := (by omega); rfl) _

theorem kA_v437 :
    (M2 (n := 1) (m := 256) (kernelRun0_A.sl.v437 (F := Ideal) c i arg1 harg1 arg2 harg2 arg3 harg3 arg4 harg4 arg5 harg5 arg6 harg6 arg8 harg8 arg9 harg9 arg10 harg10 arg13 arg18 x0 x1 x2 x3 x4 x5 x7 x8 x9) (fun i j => Old.zero.O12 (22 + i) j)) := M2.congr (M2.ldr (o := 22) (n := 1) (kA_H12_23 H _) _) fun i j _ _ => if_neg (by omega)

theorem kA_v439 :
    (M2 (n := 768) (m := 256) (kernelRun0_A.sl.v439 (F := Ideal) c i arg1 harg1 arg2 harg2 arg3 harg3 arg4 harg4 arg18 x0 x1 x2 x3) (fun i j => B.E (24 + i) j)) := M2.ldr (o := 24) (n := 768) (kA_HS0_2 H) _

theorem kA_H12_24 :
    ∀ (v : View sig .tc .vmem S32x256 .f32) f, M2 (v.read (Elt Ideal) (v.writes (Elt Ideal) f (kernelRun0_A.sl.H12_24 (F := Ideal) c i arg1 harg1 arg2 harg2 arg3 harg3 arg4 harg4 arg5 harg5 arg6 harg6 arg8 harg8 arg9 harg9 arg10 harg10 arg13 arg18 x0 x1 x2 x3 x4 x5 x7 x8 x9))) (fun i j => if i < 23 then B.nt Old.zero i j else Old.zero.O12 i j) := fun v f => M2.row (o := 22) (kA_H12_23 H v f) (M2.congr (g := fun _ j => B.nt Old.zero 22 j) (p_k0_pay72 (kA_r_13 H) (kA_v437 H) (kA_v439 H)) fun i j hi _ => by obtain rfl : i = 0 := (by omega); rfl) _

theorem kA_v451 :
    (M2 (n := 1) (m := 256) (kernelRun0_A.sl.v451 (F := Ideal) c i arg1 harg1 arg2 harg2 arg3 harg3 arg4 harg4 arg5 harg5 arg6 harg6 arg8 harg8 arg9 harg9 arg10 harg10 arg13 arg18 x0 x1 x2 x3 x4 x5 x7 x8 x9) (fun i j => Old.zero.O12 (23 + i) j)) := M2.congr (M2.ldr (o := 23) (n := 1) (kA_H12_24 H _) _) fun i j _ _ => if_neg (by omega)

theorem kA_v453 :
    (M2 (n := 768) (m := 256) (kernelRun0_A.sl.v453 (F := Ideal) c i arg1 harg1 arg2 harg2 arg3 harg3 arg4 harg4 arg18 x0 x1 x2 x3) (fun i j => B.E (25 + i) j)) := M2.ldr (o := 25) (n := 768) (kA_HS0_2 H) _

theorem kA_H12_25 :
    ∀ (v : View sig .tc .vmem S32x256 .f32) f, M2 (v.read (Elt Ideal) (v.writes (Elt Ideal) f (kernelRun0_A.sl.H12_25 (F := Ideal) c i arg1 harg1 arg2 harg2 arg3 harg3 arg4 harg4 arg5 harg5 arg6 harg6 arg8 harg8 arg9 harg9 arg10 harg10 arg13 arg18 x0 x1 x2 x3 x4 x5 x7 x8 x9))) (fun i j => if i < 24 then B.nt Old.zero i j else Old.zero.O12 i j) := fun v f => M2.row (o := 23) (kA_H12_24 H v f) (M2.congr (g := fun _ j => B.nt Old.zero 23 j) (p_k0_pay73 (kA_r_13 H) (kA_v451 H) (kA_v453 H)) fun i j hi _ => by obtain rfl : i = 0 := (by omega); rfl) _

theorem kA_v465 :
    (M2 (n := 1) (m := 256) (kernelRun0_A.sl.v465 (F := Ideal) c i arg1 harg1 arg2 harg2 arg3 harg3 arg4 harg4 arg5 harg5 arg6 harg6 arg8 harg8 arg9 harg9 arg10 harg10 arg13 arg18 x0 x1 x2 x3 x4 x5 x7 x8 x9) (fun i j => Old.zero.O12 (24 + i) j)) := M2.congr (M2.ldr (o := 24) (n := 1) (kA_H12_25 H _) _) fun i j _ _ => if_neg (by omega)

theorem kA_r_33 :
    (M2 (n := 1) (m := 256) (kernelRun0_A.sl.r_33 (F := Ideal) c i arg1 harg1 arg2 harg2 arg3 harg3 arg4 harg4 arg5 harg5 arg6 harg6 arg8 harg8 arg9 harg9 arg10 harg10 arg13 arg18 x0 x1 x2 x3 x4 x5 x7 x8 x9) (fun i j => Old.zero.O12 (24 + i) j)) := M2.congr (p_k0_pay75 (kA_v465 H)) fun i j _ _ => rfl

theorem kA_v467 :
    (M2 (n := 768) (m := 256) (kernelRun0_A.sl.v467 (F := Ideal) c i arg1 harg1 arg2 harg2 arg3 harg3 arg4 harg4 arg18 x0 x1 x2 x3) (fun i j => B.E (26 + i) j)) := M2.ldr (o := 26) (n := 768) (kA_HS0_2 H) _

theorem kA_r_34 :
    (M2 (n := 768) (m := 256) (kernelRun0_A.sl.r_34 (F := Ideal) c i arg1 harg1 arg2 harg2 arg3 harg3 arg4 harg4 arg5 harg5 arg6 harg6 arg8 harg8 arg9 harg9 arg10 harg10 arg18 x0 x1 x2 x3 x4 x5 x7 x8 x9) (fun i j => B.DL i j * B.E (26 + i) j)) := M2.congr (p_k0_pay76 (kA_r_13 H) (kA_v467 H)) fun i j _ _ => rfl

theorem kA_H12_26 :
    ∀ (v : View sig .tc .vmem S32x256 .f32) f, M2 (v.read (Elt Ideal) (v.writes (Elt Ideal) f (kernelRun0_A.sl.H12_26 (F := Ideal) c i arg1 harg1 arg2 harg2 arg3 harg3 arg4 harg4 arg5 harg5 arg6 harg6 arg8 harg8 arg9 harg9 arg10 harg10 arg13 arg18 x0 x1 x2 x3 x4 x5 x7 x8 x9))) (fun i j => if i < 25 then B.nt Old.zero i j else Old.zero.O12 i j) := fun v f => M2.row (o := 24) (kA_H12_25 H v f) (M2.congr (g := fun _ j => B.nt Old.zero 24 j) (p_k0_pay77 (kA_r_33 H) (kA_r_34 H)) fun i j hi _ => by obtain rfl : i = 0 := (by omega); rfl) _

theorem kA_v479 :
    (M2 (n := 1) (m := 256) (kernelRun0_A.sl.v479 (F := Ideal) c i arg1 harg1 arg2 harg2 arg3 harg3 arg4 harg4 arg5 harg5 arg6 harg6 arg8 harg8 arg9 harg9 arg10 harg10 arg13 arg18 x0 x1 x2 x3 x4 x5 x7 x8 x9) (fun i j => Old.zero.O12 (25 + i) j)) := M2.congr (M2.ldr (o := 25) (n := 1) (kA_H12_26 H _) _) fun i j _ _ => if_neg (by omega)

theorem kA_v481 :
    (M2 (n := 768) (m := 256) (kernelRun0_A.sl.v481 (F := Ideal) c i arg1 harg1 arg2 harg2 arg3 harg3 arg4 harg4 arg18 x0 x1 x2 x3) (fun i j => B.E (27 + i) j)) := M2.ldr (o := 27) (n := 768) (kA_HS0_2 H) _

theorem kA_H12_27 :
    ∀ (v : View sig .tc .vmem S32x256 .f32) f, M2 (v.read (Elt Ideal) (v.writes (Elt Ideal) f (kernelRun0_A.sl.H12_27 (F := Ideal) c i arg1 harg1 arg2 harg2 arg3 harg3 arg4 harg4 arg5 harg5 arg6 harg6 arg8 harg8 arg9 harg9 arg10 harg10 arg13 arg18 x0 x1 x2 x3 x4 x5 x7 x8 x9))) (fun i j => if i < 26 then B.nt Old.zero i j else Old.zero.O12 i j) := fun v f => M2.row (o := 25) (kA_H12_26 H v f) (M2.congr (g := fun _ j => B.nt Old.zero 25 j) (p_k0_pay78 (kA_r_13 H) (kA_v479 H) (kA_v481 H)) fun i j hi _ => by obtain rfl : i = 0 := (by omega); rfl) _

theorem kA_v493 :
    (M2 (n := 1) (m := 256) (kernelRun0_A.sl.v493 (F := Ideal) c i arg1 harg1 arg2 harg2 arg3 harg3 arg4 harg4 arg5 harg5 arg6 harg6 arg8 harg8 arg9 harg9 arg10 harg10 arg13 arg18 x0 x1 x2 x3 x4 x5 x7 x8 x9) (fun i j => Old.zero.O12 (26 + i) j)) := M2.congr (M2.ldr (o := 26) (n := 1) (kA_H12_27 H _) _) fun i j _ _ => if_neg (by omega)

theorem kA_v495 :
    (M2 (n := 768) (m := 256) (kernelRun0_A.sl.v495 (F := Ideal) c i arg1 harg1 arg2 harg2 arg3 harg3 arg4 harg4 arg18 x0 x1 x2 x3) (fun i j => B.E (28 + i) j)) := M2.ldr (o := 28) (n := 768) (kA_HS0_2 H) _

theorem kA_H12_28 :
    ∀ (v : View sig .tc .vmem S32x256 .f32) f, M2 (v.read (Elt Ideal) (v.writes (Elt Ideal) f (kernelRun0_A.sl.H12_28 (F := Ideal) c i arg1 harg1 arg2 harg2 arg3 harg3 arg4 harg4 arg5 harg5 arg6 harg6 arg8 harg8 arg9 harg9 arg10 harg10 arg13 arg18 x0 x1 x2 x3 x4 x5 x7 x8 x9))) (fun i j => if i < 27 then B.nt Old.zero i j else Old.zero.O12 i j) := fun v f => M2.row (o := 26) (kA_H12_27 H v f) (M2.congr (g := fun _ j => B.nt Old.zero 26 j) (p_k0_pay80 (kA_r_13 H) (kA_v493 H) (kA_v495 H)) fun i j hi _ => by obtain rfl : i = 0 := (by omega); rfl) _

theorem kA_v507 :
    (M2 (n := 1) (m := 256) (kernelRun0_A.sl.v507 (F := Ideal) c i arg1 harg1 arg2 harg2 arg3 harg3 arg4 harg4 arg5 harg5 arg6 harg6 arg8 harg8 arg9 harg9 arg10 harg10 arg13 arg18 x0 x1 x2 x3 x4 x5 x7 x8 x9) (fun i j => Old.zero.O12 (27 + i) j)) := M2.congr (M2.ldr (o := 27) (n := 1) (kA_H12_28 H _) _) fun i j _ _ => if_neg (by omega)

theorem kA_v509 :
    (M2 (n := 768) (m := 256) (kernelRun0_A.sl.v509 (F := Ideal) c i arg1 harg1 arg2 harg2 arg3 harg3 arg4 harg4 arg18 x0 x1 x2 x3) (fun i j => B.E (29 + i) j)) := M2.ldr (o := 29) (n := 768) (kA_HS0_2 H) _

theorem kA_H12_29 :
    ∀ (v : View sig .tc .vmem S32x256 .f32) f, M2 (v.read (Elt Ideal) (v.writes (Elt Ideal) f (kernelRun0_A.sl.H12_29 (F := Ideal) c i arg1 harg1 arg2 harg2 arg3 harg3 arg4 harg4 arg5 harg5 arg6 harg6 arg8 harg8 arg9 harg9 arg10 harg10 arg13 arg18 x0 x1 x2 x3 x4 x5 x7 x8 x9))) (fun i j => if i < 28 then B.nt Old.zero i j else Old.zero.O12 i j) := fun v f => M2.row (o := 27) (kA_H12_28 H v f) (M2.congr (g := fun _ j => B.nt Old.zero 27 j) (p_k0_pay81 (kA_r_13 H) (kA_v507 H) (kA_v509 H)) fun i j hi _ => by obtain rfl : i = 0 := (by omega); rfl) _

theorem kA_v521 :
    (M2 (n := 1) (m := 256) (kernelRun0_A.sl.v521 (F := Ideal) c i arg1 harg1 arg2 harg2 arg3 harg3 arg4 harg4 arg5 harg5 arg6 harg6 arg8 harg8 arg9 harg9 arg10 harg10 arg13 arg18 x0 x1 x2 x3 x4 x5 x7 x8 x9) (fun i j => Old.zero.O12 (28 + i) j)) := M2.congr (M2.ldr (o := 28) (n := 1) (kA_H12_29 H _) _) fun i j _ _ => if_neg (by omega)

theorem kA_v523 :
    (M2 (n := 768) (m := 256) (kernelRun0_A.sl.v523 (F := Ideal) c i arg1 harg1 arg2 harg2 arg3 harg3 arg4 harg4 arg18 x0 x1 x2 x3) (fun i j => B.E (30 + i) j)) := M2.ldr (o := 30) (n := 768) (kA_HS0_2 H) _

theorem kA_H12_30 :
    ∀ (v : View sig .tc .vmem S32x256 .f32) f, M2 (v.read (Elt Ideal) (v.writes (Elt Ideal) f (kernelRun0_A.sl.H12_30 (F := Ideal) c i arg1 harg1 arg2 harg2 arg3 harg3 arg4 harg4 arg5 harg5 arg6 harg6 arg8 harg8 arg9 harg9 arg10 harg10 arg13 arg18 x0 x1 x2 x3 x4 x5 x7 x8 x9))) (fun i j => if i < 29 then B.nt Old.zero i j else Old.zero.O12 i j) := fun v f => M2.row (o := 28) (kA_H12_29 H v f) (M2.congr (g := fun _ j => B.nt Old.zero 28 j) (p_k0_pay83 (kA_r_13 H) (kA_v521 H) (kA_v523 H)) fun i j hi _ => by obtain rfl : i = 0 := (by omega); rfl) _

theorem kA_v535 :
    (M2 (n := 1) (m := 256) (kernelRun0_A.sl.v535 (F := Ideal) c i arg1 harg1 arg2 harg2 arg3 harg3 arg4 harg4 arg5 harg5 arg6 harg6 arg8 harg8 arg9 harg9 arg10 harg10 arg13 arg18 x0 x1 x2 x3 x4 x5 x7 x8 x9) (fun i j => Old.zero.O12 (29 + i) j)) := M2.congr (M2.ldr (o := 29) (n := 1) (kA_H12_30 H _) _) fun i j _ _ => if_neg (by omega)

theorem kA_v537 :
    (M2 (n := 768) (m := 256) (kernelRun0_A.sl.v537 (F := Ideal) c i arg1 harg1 arg2 harg2 arg3 harg3 arg4 harg4 arg18 x0 x1 x2 x3) (fun i j => B.E (31 + i) j)) := M2.ldr (o := 31) (n := 768) (kA_HS0_2 H) _

theorem kA_H12_31 :
    ∀ (v : View sig .tc .vmem S32x256 .f32) f, M2 (v.read (Elt Ideal) (v.writes (Elt Ideal) f (kernelRun0_A.sl.H12_31 (F := Ideal) c i arg1 harg1 arg2 harg2 arg3 harg3 arg4 harg4 arg5 harg5 arg6 harg6 arg8 harg8 arg9 harg9 arg10 harg10 arg13 arg18 x0 x1 x2 x3 x4 x5 x7 x8 x9))) (fun i j => if i < 30 then B.nt Old.zero i j else Old.zero.O12 i j) := fun v f => M2.row (o := 29) (kA_H12_30 H v f) (M2.congr (g := fun _ j => B.nt Old.zero 29 j) (p_k0_pay85 (kA_r_13 H) (kA_v535 H) (kA_v537 H)) fun i j hi _ => by obtain rfl : i = 0 := (by omega); rfl) _

theorem kA_HS1_2 :
    ∀ f, M2 (arg19.view.read (Elt Ideal) (arg19.view.writes (Elt Ideal) f (kernelRun0_A.sl.HS1_2 (F := Ideal) c arg5 harg5 arg6 harg6 arg8 harg8 arg9 harg9 arg10 harg10 x4 x5 x7 x8 x9))) (B.X Old.zero.S) := fun f =>
  M2.congr (M2.put (o := 0) (n := 768) (F := Old.zero.S) (M2.congr (p_k0_pay33 (kA_r_3 H) (kA_r_4 H) (kA_r_10 H) (kA_r_11 H) (kA_r_12 H)) fun i j _ _ => rfl : M2 _ B.DL) _
    fun i hi => (M2.put0 (o := 768) (n := 32) p_k0_pay10 _ i (by have h : (i 0).val < 800 := (i 0).isLt; omega)).trans rfl)
    fun i j _ _ => B.X_eq Old.zero.S i j

theorem kA_r :
    (M2 (n := 768) (m := 256) (kernelRun0_A.sl.r (F := Ideal) c arg1 harg1 x0) (fun i j => B.A0 i j)) := M2.congr (p_k0_pay11 (M2.ldz (n := 768) _ H.h0 _)) fun i j _ _ => rfl

theorem kA_r_1 :
    (M2 (n := 768) (m := 256) (kernelRun0_A.sl.r_1 (F := Ideal) c arg2 harg2 x1) (fun i j => B.gate i j)) := M2.congr (p_k0_pay12 (M2.ldz (n := 768) _ H.h1 _)) fun i j _ _ => rfl

theorem kA_v140 :
    (M2 (n := 768) (m := 256) (kernelRun0_A.sl.v140 (F := Ideal) c arg5 harg5 arg6 harg6 arg8 harg8 arg9 harg9 arg10 harg10 arg19 x4 x5 x7 x8 x9) (fun i j => B.X Old.zero.S (30 + i) j)) := M2.ldr (o := 30) (n := 768) (kA_HS1_2 H) _

theorem kA_r_14 :
    (M2 (n := 768) (m := 256) (kernelRun0_A.sl.r_14 (F := Ideal) c arg5 harg5 arg6 harg6 arg7 harg7 arg8 harg8 arg9 harg9 arg10 harg10 arg19 x4 x5 x6 x7 x8 x9) (fun i j => B.duN Old.zero.S 1 i j)) := M2.congr (p_k0_pay35 (M2.ldz (n := 1) _ H.h6 _) (kA_v140 H)) fun i j _ _ => (B.duN_one Old.zero.S i j).symm

theorem kA_v153 :
    (M2 (n := 768) (m := 256) (kernelRun0_A.sl.v153 (F := Ideal) c arg5 harg5 arg6 harg6 arg8 harg8 arg9 harg9 arg10 harg10 arg19 x4 x5 x7 x8 x9) (fun i j => B.X Old.zero.S (29 + i) j)) := M2.ldr (o := 29) (n := 768) (kA_HS1_2 H) _

theorem kA_v167 :
    (M2 (n := 768) (m := 256) (kernelRun0_A.sl.v167 (F := Ideal) c arg5 harg5 arg6 harg6 arg8 harg8 arg9 harg9 arg10 harg10 arg19 x4 x5 x7 x8 x9) (fun i j => B.X Old.zero.S (28 + i) j)) := M2.ldr (o := 28) (n := 768) (kA_HS1_2 H) _

theorem kA_r_16 :
    (M2 (n := 768) (m := 256) (kernelRun0_A.sl.r_16 (F := Ideal) c arg5 harg5 arg6 harg6 arg7 harg7 arg8 harg8 arg9 harg9 arg10 harg10 arg19 x4 x5 x6 x7 x8 x9) (fun i j => B.duN Old.zero.S 3 i j)) := M2.congr (p_k0_pay39 (kA_r_14 H) (M2.ldu (o := 1) (n := 1) _ H.h6 _) (kA_v153 H) (M2.ldu (o := 2) (n := 1) _ H.h6 _) (kA_v167 H)) fun i j _ _ => (B.duN_2 Old.zero.S 1 i j).symm

theorem kA_v181 :
    (M2 (n := 768) (m := 256) (kernelRun0_A.sl.v181 (F := Ideal) c arg5 harg5 arg6 harg6 arg8 harg8 arg9 harg9 arg10 harg10 arg19 x4 x5 x7 x8 x9) (fun i j => B.X Old.zero.S (27 + i) j)) := M2.ldr (o := 27) (n := 768) (kA_HS1_2 H) _

theorem kA_v195 :
    (M2 (n := 768) (m := 256) (kernelRun0_A.sl.v195 (F := Ideal) c arg5 harg5 arg6 harg6 arg8 harg8 arg9 harg9 arg10 harg10 arg19 x4 x5 x7 x8 x9) (fun i j => B.X Old.zero.S (26 + i) j)) := M2.ldr (o := 26) (n := 768) (kA_HS1_2 H) _

theorem kA_r_18 :
    (M2 (n := 768) (m := 256) (kernelRun0_A.sl.r_18 (F := Ideal) c arg5 harg5 arg6 harg6 arg7 harg7 arg8 harg8 arg9 harg9 arg10 harg10 arg19 x4 x5 x6 x7 x8 x9) (fun i j => B.duN Old.zero.S 5 i j)) := M2.congr (p_k0_pay42 (kA_r_16 H) (M2.ldu (o := 3) (n := 1) _ H.h6 _) (kA_v181 H) (M2.ldu (o := 4) (n := 1) _ H.h6 _) (kA_v195 H)) fun i j _ _ => (B.duN_2 Old.zero.S 3 i j).symm

theorem kA_r_19 :
    (M2 (n := 1) (m := 256) (kernelRun0_A.sl.r_19 (F := Ideal) c arg7 harg7 x6) (fun i j => B.W (5 + i) j)) := M2.congr (p_k0_pay44 (M2.ldu (o := 5) (n := 1) _ H.h6 _)) fun i j _ _ => rfl

theorem kA_v209 :
    (M2 (n := 768) (m := 256) (kernelRun0_A.sl.v209 (F := Ideal) c arg5 harg5 arg6 harg6 arg8 harg8 arg9 harg9 arg10 harg10 arg19 x4 x5 x7 x8 x9) (fun i j => B.X Old.zero.S (25 + i) j)) := M2.ldr (o := 25) (n := 768) (kA_HS1_2 H) _

theorem kA_v223 :
    (M2 (n := 768) (m := 256) (kernelRun0_A.sl.v223 (F := Ideal) c arg5 harg5 arg6 harg6 arg8 harg8 arg9 harg9 arg10 harg10 arg19 x4 x5 x7 x8 x9) (fun i j => B.X Old.zero.S (24 + i) j)) := M2.ldr (o := 24) (n := 768) (kA_HS1_2 H) _

theorem kA_v237 :
    (M2 (n := 768) (m := 256) (kernelRun0_A.sl.v237 (F := Ideal) c arg5 harg5 arg6 harg6 arg8 harg8 arg9 harg9 arg10 harg10 arg19 x4 x5 x7 x8 x9) (fun i j => B.X Old.zero.S (23 + i) j)) := M2.ldr (o := 23) (n := 768) (kA_HS1_2 H) _

theorem kA_r_20 :
    (M2 (n := 768) (m := 256) (kernelRun0_A.sl.r_20 (F := Ideal) c arg5 harg5 arg6 harg6 arg7 harg7 arg8 harg8 arg9 harg9 arg10 harg10 arg19 x4 x5 x6 x7 x8 x9) (fun i j => B.duN Old.zero.S 8 i j)) := M2.congr (p_k0_pay47 (kA_r_18 H) (kA_r_19 H) (kA_v209 H) (M2.ldu (o := 6) (n := 1) _ H.h6 _) (kA_v223 H) (M2.ldu (o := 7) (n := 1) _ H.h6 _) (kA_v237 H)) fun i j _ _ => (B.duN_3 Old.zero.S 5 i j).symm

theorem kA_v251 :
    (M2 (n := 768) (m := 256) (kernelRun0_A.sl.v251 (F := Ideal) c arg5 harg5 arg6 harg6 arg8 harg8 arg9 harg9 arg10 harg10 arg19 x4 x5 x7 x8 x9) (fun i j => B.X Old.zero.S (22 + i) j)) := M2.ldr (o := 22) (n := 768) (kA_HS1_2 H) _

theorem kA_v265 :
    (M2 (n := 768) (m := 256) (kernelRun0_A.sl.v265 (F := Ideal) c arg5 harg5 arg6 harg6 arg8 harg8 arg9 harg9 arg10 harg10 arg19 x4 x5 x7 x8 x9) (fun i j => B.X Old.zero.S (21 + i) j)) := M2.ldr (o := 21) (n := 768) (kA_HS1_2 H) _

theorem kA_r_22 :
    (M2 (n := 768) (m := 256) (kernelRun0_A.sl.r_22 (F := Ideal) c arg5 harg5 arg6 harg6 arg7 harg7 arg8 harg8 arg9 harg9 arg10 harg10 arg19 x4 x5 x6 x7 x8 x9) (fun i j => B.duN Old.zero.S 10 i j)) := M2.congr (p_k0_pay51 (kA_r_20 H) (M2.ldu (o := 8) (n := 1) _ H.h6 _) (kA_v251 H) (M2.ldu (o := 9) (n := 1) _ H.h6 _) (kA_v265 H)) fun i j _ _ => (B.duN_2 Old.zero.S 8 i j).symm

theorem kA_v279 :
    (M2 (n := 768) (m := 256) (kernelRun0_A.sl.v279 (F := Ideal) c arg5 harg5 arg6 harg6 arg8 harg8 arg9 harg9 arg10 harg10 arg19 x4 x5 x7 x8 x9) (fun i j => B.X Old.zero.S (20 + i) j)) := M2.ldr (o := 20) (n := 768) (kA_HS1_2 H) _

theorem kA_v293 :
    (M2 (n := 768) (m := 256) (kernelRun0_A.sl.v293 (F := Ideal) c arg5 harg5 arg6 harg6 arg8 harg8 arg9 harg9 arg10 harg10 arg19 x4 x5 x7 x8 x9) (fun i j => B.X Old.zero.S (19 + i) j)) := M2.ldr (o := 19) (n := 768) (kA_HS1_2 H) _

theorem kA_r_24 :
    (M2 (n := 768) (m := 256) (kernelRun0_A.sl.r_24 (F := Ideal) c arg5 harg5 arg6 harg6 arg7 harg7 arg8 harg8 arg9 harg9 arg10 harg10 arg19 x4 x5 x6 x7 x8 x9) (fun i j => B.duN Old.zero.S 12 i j)) := M2.congr (p_k0_pay54 (kA_r_22 H) (M2.ldu (o := 10) (n := 1) _ H.h6 _) (kA_v279 H) (M2.ldu (o := 11) (n := 1) _ H.h6 _) (kA_v293 H)) fun i j _ _ => (B.duN_2 Old.zero.S 10 i j).symm

theorem kA_r_25 :
    (M2 (n := 1) (m := 256) (kernelRun0_A.sl.r_25 (F := Ideal) c arg7 harg7 x6) (fun i j => B.W (12 + i) j)) := M2.congr (p_k0_pay56 (M2.ldu (o := 12) (n := 1) _ H.h6 _)) fun i j _ _ => rfl

theorem kA_v307 :
    (M2 (n := 768) (m := 256) (kernelRun0_A.sl.v307 (F := Ideal) c arg5 harg5 arg6 harg6 arg8 harg8 arg9 harg9 arg10 harg10 arg19 x4 x5 x7 x8 x9) (fun i j => B.X Old.zero.S (18 + i) j)) := M2.ldr (o := 18) (n := 768) (kA_HS1_2 H) _

theorem kA_v321 :
    (M2 (n := 768) (m := 256) (kernelRun0_A.sl.v321 (F := Ideal) c arg5 harg5 arg6 harg6 arg8 harg8 arg9 harg9 arg10 harg10 arg19 x4 x5 x7 x8 x9) (fun i j => B.X Old.zero.S (17 + i) j)) := M2.ldr (o := 17) (n := 768) (kA_HS1_2 H) _

theorem kA_v335 :
    (M2 (n := 768) (m := 256) (kernelRun0_A.sl.v335 (F := Ideal) c arg5 harg5 arg6 harg6 arg8 harg8 arg9 harg9 arg10 harg10 arg19 x4 x5 x7 x8 x9) (fun i j => B.X Old.zero.S (16 + i) j)) := M2.ldr (o := 16) (n := 768) (kA_HS1_2 H) _

theorem kA_r_26 :
    (M2 (n := 768) (m := 256) (kernelRun0_A.sl.r_26 (F := Ideal) c arg5 harg5 arg6 harg6 arg7 harg7 arg8 harg8 arg9 harg9 arg10 harg10 arg19 x4 x5 x6 x7 x8 x9) (fun i j => B.duN Old.zero.S 15 i j)) := M2.congr (p_k0_pay59 (kA_r_24 H) (kA_r_25 H) (kA_v307 H) (M2.ldu (o := 13) (n := 1) _ H.h6 _) (kA_v321 H) (M2.ldu (o := 14) (n := 1) _ H.h6 _) (kA_v335 H)) fun i j _ _ => (B.duN_3 Old.zero.S 12 i j).symm

theorem kA_v349 :
    (M2 (n := 768) (m := 256) (kernelRun0_A.sl.v349 (F := Ideal) c arg5 harg5 arg6 harg6 arg8 harg8 arg9 harg9 arg10 harg10 arg19 x4 x5 x7 x8 x9) (fun i j => B.X Old.zero.S (15 + i) j)) := M2.ldr (o := 15) (n := 768) (kA_HS1_2 H) _

theorem kA_v363 :
    (M2 (n := 768) (m := 256) (kernelRun0_A.sl.v363 (F := Ideal) c arg5 harg5 arg6 harg6 arg8 harg8 arg9 harg9 arg10 harg10 arg19 x4 x5 x7 x8 x9) (fun i j => B.X Old.zero.S (14 + i) j)) := M2.ldr (o := 14) (n := 768) (kA_HS1_2 H) _

theorem kA_r_27 :
    (M2 (n := 768) (m := 256) (kernelRun0_A.sl.r_27 (F := Ideal) c arg5 harg5 arg6 harg6 arg7 harg7 arg8 harg8 arg9 harg9 arg10 harg10 arg19 x4 x5 x6 x7 x8 x9) (fun i j => B.duN Old.zero.S 17 i j)) := M2.congr (p_k0_pay62 (kA_r_26 H) (M2.ldu (o := 15) (n := 1) _ H.h6 _) (kA_v349 H) (M2.ldu (o := 16) (n := 1) _ H.h6 _) (kA_v363 H)) fun i j _ _ => (B.duN_2 Old.zero.S 15 i j).symm

theorem kA_v377 :
    (M2 (n := 768) (m := 256) (kernelRun0_A.sl.v377 (F := Ideal) c arg5 harg5 arg6 harg6 arg8 harg8 arg9 harg9 arg10 harg10 arg19 x4 x5 x7 x8 x9) (fun i j => B.X Old.zero.S (13 + i) j)) := M2.ldr (o := 13) (n := 768) (kA_HS1_2 H) _

theorem kA_v391 :
    (M2 (n := 768) (m := 256) (kernelRun0_A.sl.v391 (F := Ideal) c arg5 harg5 arg6 harg6 arg8 harg8 arg9 harg9 arg10 harg10 arg19 x4 x5 x7 x8 x9) (fun i j => B.X Old.zero.S (12 + i) j)) := M2.ldr (o := 12) (n := 768) (kA_HS1_2 H) _

theorem kA_r_30 :
    (M2 (n := 768) (m := 256) (kernelRun0_A.sl.r_30 (F := Ideal) c arg5 harg5 arg6 harg6 arg7 harg7 arg8 harg8 arg9 harg9 arg10 harg10 arg19 x4 x5 x6 x7 x8 x9) (fun i j => B.duN Old.zero.S 19 i j)) := M2.congr (p_k0_pay67 (kA_r_27 H) (M2.ldu (o := 17) (n := 1) _ H.h6 _) (kA_v377 H) (M2.ldu (o := 18) (n := 1) _ H.h6 _) (kA_v391 H)) fun i j _ _ => (B.duN_2 Old.zero.S 17 i j).symm

theorem kA_v405 :
    (M2 (n := 768) (m := 256) (kernelRun0_A.sl.v405 (F := Ideal) c arg5 harg5 arg6 harg6 arg8 harg8 arg9 harg9 arg10 harg10 arg19 x4 x5 x7 x8 x9) (fun i j => B.X Old.zero.S (11 + i) j)) := M2.ldr (o := 11) (n := 768) (kA_HS1_2 H) _

theorem kA_v419 :
    (M2 (n := 768) (m := 256) (kernelRun0_A.sl.v419 (F := Ideal) c arg5 harg5 arg6 harg6 arg8 harg8 arg9 harg9 arg10 harg10 arg19 x4 x5 x7 x8 x9) (fun i j => B.X Old.zero.S (10 + i) j)) := M2.ldr (o := 10) (n := 768) (kA_HS1_2 H) _

theorem kA_v433 :
    (M2 (n := 768) (m := 256) (kernelRun0_A.sl.v433 (F := Ideal) c arg5 harg5 arg6 harg6 arg8 harg8 arg9 harg9 arg10 harg10 arg19 x4 x5 x7 x8 x9) (fun i j => B.X Old.zero.S (9 + i) j)) := M2.ldr (o := 9) (n := 768) (kA_HS1_2 H) _

theorem kA_r_31 :
    (M2 (n := 768) (m := 256) (kernelRun0_A.sl.r_31 (F := Ideal) c arg5 harg5 arg6 harg6 arg7 harg7 arg8 harg8 arg9 harg9 arg10 harg10 arg19 x4 x5 x6 x7 x8 x9) (fun i j => B.duN Old.zero.S 22 i j)) := M2.congr (p_k0_pay71 (kA_r_30 H) (M2.ldu (o := 19) (n := 1) _ H.h6 _) (kA_v405 H) (M2.ldu (o := 20) (n := 1) _ H.h6 _) (kA_v419 H) (M2.ldu (o := 21) (n := 1) _ H.h6 _) (kA_v433 H)) fun i j _ _ => (B.duN_3 Old.zero.S 19 i j).symm

theorem kA_v447 :
    (M2 (n := 768) (m := 256) (kernelRun0_A.sl.v447 (F := Ideal) c arg5 harg5 arg6 harg6 arg8 harg8 arg9 harg9 arg10 harg10 arg19 x4 x5 x7 x8 x9) (fun i j => B.X Old.zero.S (8 + i) j)) := M2.ldr (o := 8) (n := 768) (kA_HS1_2 H) _

theorem kA_v461 :
    (M2 (n := 768) (m := 256) (kernelRun0_A.sl.v461 (F := Ideal) c arg5 harg5 arg6 harg6 arg8 harg8 arg9 harg9 arg10 harg10 arg19 x4 x5 x7 x8 x9) (fun i j => B.X Old.zero.S (7 + i) j)) := M2.ldr (o := 7) (n := 768) (kA_HS1_2 H) _

theorem kA_r_32 :
    (M2 (n := 768) (m := 256) (kernelRun0_A.sl.r_32 (F := Ideal) c arg5 harg5 arg6 harg6 arg7 harg7 arg8 harg8 arg9 harg9 arg10 harg10 arg19 x4 x5 x6 x7 x8 x9) (fun i j => B.duN Old.zero.S 24 i j)) := M2.congr (p_k0_pay74 (kA_r_31 H) (M2.ldu (o := 22) (n := 1) _ H.h6 _) (kA_v447 H) (M2.ldu (o := 23) (n := 1) _ H.h6 _) (kA_v461 H)) fun i j _ _ => (B.duN_2 Old.zero.S 22 i j).symm

theorem kA_v475 :
    (M2 (n := 768) (m := 256) (kernelRun0_A.sl.v475 (F := Ideal) c arg5 harg5 arg6 harg6 arg8 harg8 arg9 harg9 arg10 harg10 arg19 x4 x5 x7 x8 x9) (fun i j => B.X Old.zero.S (6 + i) j)) := M2.ldr (o := 6) (n := 768) (kA_HS1_2 H) _

theorem kA_v489 :
    (M2 (n := 768) (m := 256) (kernelRun0_A.sl.v489 (F := Ideal) c arg5 harg5 arg6 harg6 arg8 harg8 arg9 harg9 arg10 harg10 arg19 x4 x5 x7 x8 x9) (fun i j => B.X Old.zero.S (5 + i) j)) := M2.ldr (o := 5) (n := 768) (kA_HS1_2 H) _

theorem kA_r_35 :
    (M2 (n := 768) (m := 256) (kernelRun0_A.sl.r_35 (F := Ideal) c arg5 harg5 arg6 harg6 arg7 harg7 arg8 harg8 arg9 harg9 arg10 harg10 arg19 x4 x5 x6 x7 x8 x9) (fun i j => B.duN Old.zero.S 26 i j)) := M2.congr (p_k0_pay79 (kA_r_32 H) (M2.ldu (o := 24) (n := 1) _ H.h6 _) (kA_v475 H) (M2.ldu (o := 25) (n := 1) _ H.h6 _) (kA_v489 H)) fun i j _ _ => (B.duN_2 Old.zero.S 24 i j).symm

theorem kA_v503 :
    (M2 (n := 768) (m := 256) (kernelRun0_A.sl.v503 (F := Ideal) c arg5 harg5 arg6 harg6 arg8 harg8 arg9 harg9 arg10 harg10 arg19 x4 x5 x7 x8 x9) (fun i j => B.X Old.zero.S (4 + i) j)) := M2.ldr (o := 4) (n := 768) (kA_HS1_2 H) _

theorem kA_v517 :
    (M2 (n := 768) (m := 256) (kernelRun0_A.sl.v517 (F := Ideal) c arg5 harg5 arg6 harg6 arg8 harg8 arg9 harg9 arg10 harg10 arg19 x4 x5 x7 x8 x9) (fun i j => B.X Old.zero.S (3 + i) j)) := M2.ldr (o := 3) (n := 768) (kA_HS1_2 H) _

theorem kA_r_36 :
    (M2 (n := 768) (m := 256) (kernelRun0_A.sl.r_36 (F := Ideal) c arg5 harg5 arg6 harg6 arg7 harg7 arg8 harg8 arg9 harg9 arg10 harg10 arg19 x4 x5 x6 x7 x8 x9) (fun i j => B.duN Old.zero.S 28 i j)) := M2.congr (p_k0_pay82 (kA_r_35 H) (M2.ldu (o := 26) (n := 1) _ H.h6 _) (kA_v503 H) (M2.ldu (o := 27) (n := 1) _ H.h6 _) (kA_v517 H)) fun i j _ _ => (B.duN_2 Old.zero.S 26 i j).symm

theorem kA_r_37 :
    (M2 (n := 768) (m := 256) (kernelRun0_A.sl.r_37 (F := Ideal) c arg7 harg7 x6) (fun i j => B.W 28 j)) := M2.congr (p_k0_pay84 (M2.ldu (o := 28) (n := 1) _ H.h6 _)) fun i j _ _ => rfl

theorem kA_v531 :
    (M2 (n := 768) (m := 256) (kernelRun0_A.sl.v531 (F := Ideal) c arg5 harg5 arg6 harg6 arg8 harg8 arg9 harg9 arg10 harg10 arg19 x4 x5 x7 x8 x9) (fun i j => B.X Old.zero.S (2 + i) j)) := M2.ldr (o := 2) (n := 768) (kA_HS1_2 H) _

theorem kA_v545 :
    (M2 (n := 768) (m := 256) (kernelRun0_A.sl.v545 (F := Ideal) c arg5 harg5 arg6 harg6 arg8 harg8 arg9 harg9 arg10 harg10 arg19 x4 x5 x7 x8 x9) (fun i j => B.X Old.zero.S (1 + i) j)) := M2.ldr (o := 1) (n := 768) (kA_HS1_2 H) _

theorem kA_v559 :
    (M2 (n := 768) (m := 256) (kernelRun0_A.sl.v559 (F := Ideal) c arg5 harg5 arg6 harg6 arg8 harg8 arg9 harg9 arg10 harg10 arg19 x4 x5 x7 x8 x9) (fun i j => B.X Old.zero.S (0 + i) j)) := M2.ldr (o := 0) (n := 768) (kA_HS1_2 H) _

theorem kA_r_38 :
    (M2 (n := 768) (m := 256) (kernelRun0_A.sl.r_38 (F := Ideal) c arg5 harg5 arg6 harg6 arg7 harg7 arg8 harg8 arg9 harg9 arg10 harg10 arg19 x4 x5 x6 x7 x8 x9) (fun i j => B.duN Old.zero.S 31 i j)) := M2.congr (p_k0_pay87 (kA_r_36 H) (kA_v531 H) (kA_r_37 H) (M2.ldu (o := 29) (n := 1) _ H.h6 _) (kA_v545 H) (M2.ldu (o := 30) (n := 1) _ H.h6 _) (kA_v559 H)) fun i j _ _ => (B.duN_3 Old.zero.S 28 i j).symm

theorem kA_r_8 :
    (M2 (n := 768) (m := 256) (kernelRun0_A.sl.r_8 (F := Ideal) c arg6 harg6 arg8 harg8 arg9 harg9 x5 x7 x8) (fun i j => B.act i j)) := M2.congr (p_k0_pay22 (M2.ldz (n := 768) _ H.h5 _) (M2.ldz (n := 1) _ H.h7 _) (M2.ldz (n := 1) _ H.h8 _)) fun i j _ _ => rfl

theorem kA_v0 : (kernelRun0_A.sl.v0 i) = BitVec.ofNat 32 B.p ∧ B.p ≤ 10 := v0_eq H.hp

theorem kA_v121 :
    (M2 (n := 1) (m := 256) (kernelRun0_A.sl.v121 (F := Ideal) c arg14) (fun i j => Old.zero.O13 i j)) := M2.ldc (o := 0) (o' := 0) (n := 1) (n' := 1) p_k0_pay6 _ _ (by omega) (by omega)

theorem kA_v549 :
    (M2 (n := 1) (m := 256) (kernelRun0_A.sl.v549 (F := Ideal) c i arg1 harg1 arg2 harg2 arg3 harg3 arg4 harg4 arg5 harg5 arg6 harg6 arg8 harg8 arg9 harg9 arg10 harg10 arg13 arg18 x0 x1 x2 x3 x4 x5 x7 x8 x9) (fun i j => Old.zero.O12 (30 + i) j)) := M2.congr (M2.ldr (o := 30) (n := 1) (kA_H12_31 H _) _) fun i j _ _ => if_neg (by omega)

theorem kA_v551 :
    (M2 (n := 768) (m := 256) (kernelRun0_A.sl.v551 (F := Ideal) c i arg1 harg1 arg2 harg2 arg3 harg3 arg4 harg4 arg18 x0 x1 x2 x3) (fun i j => B.E (32 + i) j)) := M2.ldr (o := 32) (n := 768) (kA_HS0_2 H) _

theorem kA_v563 :
    (M2 (n := 32) (m := 256) (kernelRun0_A.sl.v563 (F := Ideal) c arg5 harg5 arg6 harg6 arg8 harg8 arg9 harg9 arg10 harg10 arg19 x4 x5 x7 x8 x9) (fun i j => B.X Old.zero.S (0 + i) j)) := M2.ldr (o := 0) (n := 32) (kA_HS1_2 H) _

theorem kA_v564 :
    (M2 (n := 32) (m := 256) (kernelRun0_A.sl.v564 (F := Ideal) c arg5 harg5 arg6 harg6 arg8 harg8 arg9 harg9 arg10 harg10 arg19 x4 x5 x7 x8 x9) (fun i j => B.X Old.zero.S (768 + i) j)) := M2.ldr (o := 768) (n := 32) (kA_HS1_2 H) _

theorem kA_v75 :
    (M2 (n := 256) (m := 256) (kernelRun0_A.sl.v75 (F := Ideal) c arg17) (fun i j => Old.zero.O16 i j)) := M2.ldc (o := 0) (o' := 0) (n := 256) (n' := 256) p_k0_pay9 _ _ (by omega) (by omega)

theorem kA_v90 :
    (M2 (n := 1) (m := 256) (kernelRun0_A.sl.v90 (F := Ideal) c arg15) (fun i j => Old.zero.O14 i j)) := M2.ldc (o := 0) (o' := 0) (n := 1) (n' := 1) p_k0_pay7 _ _ (by omega) (by omega)

theorem kA_v97 :
    (M2 (n := 1) (m := 256) (kernelRun0_A.sl.v97 (F := Ideal) c arg16) (fun i j => Old.zero.O15 i j)) := M2.ldc (o := 0) (o' := 0) (n := 1) (n' := 1) p_k0_pay8 _ _ (by omega) (by omega)

end Words

section Point

open Cert.KernelIdeal.Track

variable {B : Blk} {m : (ℓ : Loc nD τ sig) → Buf (Elt Ideal) ℓ} {c : Dev nD} {t : Fin cfg0.N}
  (h : t.val % 11 = 0)
  (H : HB B (grid0.coords t) (iblk m c 0 t) (iblk m c 1 t) (iblk m c 2 t) (iblk m c 3 t) (iblk m c 4 t) (iblk m c 5 t) (iblk m c 6 t) (iblk m c 7 t) (iblk m c 8 t) (iblk m c 9 t))
include H

theorem kA_o10 : M2 (n := 768) (m := 256) (eA_o10 m c t h) (B.out0 Old.zero.S) :=
  M2.congr (M2.putw' (p_k0_pay3 (kA_v0 H) (kA_r_1 H) (kA_r_38 H)) _) fun i j _ _ => rfl

theorem kA_o11 : M2 (n := 768) (m := 256) (eA_o11 m c t h) (B.out1 Old.zero.S) :=
  M2.congr (M2.putw' (p_k0_pay4 (kA_v0 H) (kA_r H) (kA_r_1 H) (kA_r_38 H)) _) fun i j _ _ => rfl

theorem kA_o12 : M2 (n := 32) (m := 256) (eA_o12 m c t h) (B.n12 Old.zero) :=
  M2.congr (M2.row (o := 30) (W := B.nt Old.zero) (O := Old.zero.O12) (kA_H12_31 H _ _) (M2.congr (g := fun _ j => B.nt Old.zero 30 j) (p_k0_pay86 (kA_r_13 H) (kA_v549 H) (kA_v551 H)) fun i j hi _ => by obtain rfl : i = 0 := (by omega); rfl) _) fun i j _ _ => rfl

theorem kA_o13 : M2 (n := 1) (m := 256) (eA_o13 m c t h) (B.n13 Old.zero) :=
  M2.congr (M2.putw (p_k0_pay32 (kA_r_3 H) (kA_r_4 H) (kA_r_10 H) (kA_r_11 H) (kA_r_12 H) (kA_v121 H)) _) fun i j _ _ => rfl

theorem kA_o14 : M2 (n := 1) (m := 256) (eA_o14 m c t h) (B.n14 Old.zero) :=
  M2.congr (M2.putw (p_k0_pay26 (kA_r_4 H) (kA_r_6 H) (kA_r_7 H) (kA_r_9 H) (M2.ldz' (n := 256) _ H.h9 _) (kA_v90 H)) _) fun i j _ _ => rfl

theorem kA_o15 : M2 (n := 1) (m := 256) (eA_o15 m c t h) (B.n15 Old.zero) :=
  M2.congr (M2.putw (p_k0_pay27 (kA_r_6 H) (kA_r_7 H) (kA_r_9 H) (M2.ldz' (n := 256) _ H.h9 _) (kA_v97 H)) _) fun i j _ _ => rfl

theorem kA_o16 : M2 (n := 256) (m := 256) (eA_o16 m c t h) (B.n16 Old.zero) :=
  M2.congr (M2.putw (p_k0_pay24 (kA_r_8 H) (kA_r_9 H) (kA_v75 H)) _) fun i j _ _ => rfl

theorem kA_osc : M2 (n := 800) (m := 256) (eA_sc m c t h) (B.scr) :=
  M2.congr (M2.put (o := 768) (n := 32) (F := B.X Old.zero.S) (p_k0_pay1 (kA_v563 H)) _
    (fun i _ => kA_HS1_2 H _ i))
    fun i j hi _ => B.scr_eq _ (fun i j h => if_pos h) (fun i j => B.X Old.zero.S (0 + i) j) (fun i j h => by rw [Nat.zero_add]; exact if_pos (by omega)) i j hi

end Point

end Cert.KernelIdeal.Gen

end
-- ==== Proof.WordsB.lean ====
/- What the convolution branch's backward body leaves at a later point, as numbers. -/
module

public import proofs.«01_k».proof.Proof.Hyp

@[expose] public section

set_option maxRecDepth 16384
set_option maxHeartbeats 1000000

noncomputable section

namespace Cert.KernelIdeal.Gen

open Cert.KernelIdeal Idealize.ShloMosaic Cert.Calc Cert.Spec Finset

section Words

variable {B : Blk} {O : Old} {c : Dev nD} {i : grid0.Coords}
variable {arg1 : Memref sig .tc .vmem S768x256 .f32} {harg1 : arg1.IsWhole}
variable {arg2 : Memref sig .tc .vmem S768x256 .f32} {harg2 : arg2.IsWhole}
variable {arg3 : Memref sig .tc .vmem S32x256 .f32} {harg3 : arg3.IsWhole}
variable {arg4 : Memref sig .tc .vmem S32x256 .f32} {harg4 : arg4.IsWhole}
variable {arg5 : Memref sig .tc .vmem S768x256 .f32} {harg5 : arg5.IsWhole}
variable {arg6 : Memref sig .tc .vmem S768x256 .f32} {harg6 : arg6.IsWhole}
variable {arg7 : Memref sig .tc .vmem S32x256 .f32} {harg7 : arg7.IsWhole}
variable {arg8 : Memref sig .tc .vmem S1x256 .f32} {harg8 : arg8.IsWhole}
variable {arg9 : Memref sig .tc .vmem S1x256 .f32} {harg9 : arg9.IsWhole}
variable {arg10 : Memref sig .tc .vmem S256x256 .bf16} {harg10 : arg10.IsWhole}
variable {arg11 : Memref sig .tc .vmem S768x256 .bf16} {harg11 : arg11.IsWhole}
variable {arg12 : Memref sig .tc .vmem S768x256 .bf16} {harg12 : arg12.IsWhole}
variable {arg13 : Memref sig .tc .vmem S32x256 .f32} {harg13 : arg13.IsWhole}
variable {arg14 : Memref sig .tc .vmem S1x256 .f32} {harg14 : arg14.IsWhole}
variable {arg15 : Memref sig .tc .vmem S1x256 .f32} {harg15 : arg15.IsWhole}
variable {arg16 : Memref sig .tc .vmem S1x256 .f32} {harg16 : arg16.IsWhole}
variable {arg17 : Memref sig .tc .vmem S256x256 .f32} {harg17 : arg17.IsWhole}
variable {arg18 : Memref sig .tc .vmem S800x256 .f32} {harg18 : arg18.IsWhole}
variable {arg19 : Memref sig .tc .vmem S800x256 .f32} {harg19 : arg19.IsWhole}
variable {x0 : Vec Ideal S768x256 .f32} {x1 : Vec Ideal S768x256 .f32} {x2 : Vec Ideal S32x256 .f32} {x3 : Vec Ideal S32x256 .f32} {x4 : Vec Ideal S768x256 .f32} {x5 : Vec Ideal S768x256 .f32} {x6 : Vec Ideal S32x256 .f32} {x7 : Vec Ideal S1x256 .f32} {x8 : Vec Ideal S1x256 .f32} {x9 : Vec Ideal S256x256 .bf16}
variable {xo12 : Vec Ideal S32x256 .f32} {xo13 xo14 xo15 : Vec Ideal S1x256 .f32} {xo16 : Vec Ideal S256x256 .f32} {xs1 : Vec Ideal S800x256 .f32}
  (H : HB B i x0 x1 x2 x3 x4 x5 x6 x7 x8 x9) (K : HO O xo12 xo13 xo14 xo15 xo16 xs1)
include H K

theorem kB_r_2 :
    (M2 (n := 768) (m := 256) (kernelRun0_B.sl.r_2 (F := Ideal) c arg1 harg1 arg2 harg2 x0 x1) (fun i j => B.A0 i j * sg (B.G0 i j))) := M2.congr (p_k0_pay14 (M2.ldz (n := 768) _ H.h0 _) (M2.ldz (n := 768) _ H.h1 _)) fun i j _ _ => rfl

theorem kB_HS0_2 :
    ∀ f, M2 (arg18.view.read (Elt Ideal) (arg18.view.writes (Elt Ideal) f (kernelRun0_B.sl.HS0_2 (F := Ideal) c i arg1 harg1 arg2 harg2 arg3 harg3 arg4 harg4 x0 x1 x2 x3))) B.E := fun f =>
  M2.congr (M2.put (o := 32) (n := 768) (F := fun i j => if 0 < B.p then B.AH i j * sg (B.GH i j) else 0) (p_k0_pay15 (kB_r_2 H K)) _
    fun i hi => (M2.put0 (o := 0) (n := 32) (p_k0_pay13 H.hp (M2.ldz (n := 32) _ H.h2 _) (M2.ldz (n := 32) _ H.h3 _)) _ i (by have h : (i 0).val < 800 := (i 0).isLt; omega)).trans rfl)
    fun i j hi _ => B.E_eq i j hi

theorem kB_r_3 :
    (M2 (n := 768) (m := 1) (kernelRun0_B.sl.r_3 (F := Ideal) c arg6 harg6 x5) (fun i j => rs (B.Y0 i))) := M2.congr (p_k0_pay17 (M2.ldz (n := 768) _ H.h5 _)) fun i j _ _ => rfl

theorem kB_r_4 :
    (M2 (n := 768) (m := 256) (kernelRun0_B.sl.r_4 (F := Ideal) c arg6 harg6 x5) (fun i j => xh (B.Y0 i) j)) := M2.congr (p_k0_pay18 (M2.ldz (n := 768) _ H.h5 _)) fun i j _ _ => rfl

theorem kB_r_5 :
    (M2 (n := 1) (m := 256) (kernelRun0_B.sl.r_5 (F := Ideal) c arg8 harg8 x7) (fun i j => B.g j)) := M2.congr (p_k0_pay19 (M2.ldz (n := 1) _ H.h7 _)) fun i j _ _ => rfl

theorem kB_r_6 :
    (M2 (n := 768) (m := 256) (kernelRun0_B.sl.r_6 (F := Ideal) c arg6 harg6 arg8 harg8 arg9 harg9 x5 x7 x8) (fun i j => nn B.g B.b (B.Y0 i) j)) := M2.congr (p_k0_pay20 (M2.ldz (n := 768) _ H.h5 _) (M2.ldz (n := 1) _ H.h7 _) (M2.ldz (n := 1) _ H.h8 _)) fun i j _ _ => rfl

theorem kB_r_7 :
    (M2 (n := 768) (m := 256) (kernelRun0_B.sl.r_7 (F := Ideal) c arg6 harg6 arg8 harg8 arg9 harg9 x5 x7 x8) (fun i j => sn B.g B.b (B.Y0 i) j)) := M2.congr (p_k0_pay21 (M2.ldz (n := 768) _ H.h5 _) (M2.ldz (n := 1) _ H.h7 _) (M2.ldz (n := 1) _ H.h8 _)) fun i j _ _ => rfl

theorem kB_r_9 :
    (M2 (n := 768) (m := 256) (kernelRun0_B.sl.r_9 (F := Ideal) c arg5 harg5 x4) (fun i j => B.D0 i j)) := M2.congr (p_k0_pay23 (M2.ldz (n := 768) _ H.h4 _)) fun i j _ _ => rfl

theorem kB_r_10 :
    (M2 (n := 768) (m := 256) (kernelRun0_B.sl.r_10 (F := Ideal) c arg5 harg5 arg6 harg6 arg8 harg8 arg9 harg9 arg10 harg10 x4 x5 x7 x8 x9) (fun i j => B.dn i j * B.g j)) := M2.congr (p_k0_pay28 (kB_r_5 H K) (kB_r_6 H K) (kB_r_7 H K) (kB_r_9 H K) (M2.ldz' (n := 256) _ H.h9 _)) fun i j _ _ => rfl

theorem kB_r_11 :
    (M2 (n := 768) (m := 1) (kernelRun0_B.sl.r_11 (F := Ideal) c arg5 harg5 arg6 harg6 arg8 harg8 arg9 harg9 arg10 harg10 x4 x5 x7 x8 x9) (fun i j => mean (fun q => B.dn i q * B.g q))) := M2.congr (p_k0_pay29 (kB_r_5 H K) (kB_r_6 H K) (kB_r_7 H K) (kB_r_9 H K) (M2.ldz' (n := 256) _ H.h9 _)) fun i j _ _ => rfl

theorem kB_r_12 :
    M1 (n := 768) (kernelRun0_B.sl.r_12 (F := Ideal) c arg5 harg5 arg6 harg6 arg8 harg8 arg9 harg9 arg10 harg10 x4 x5 x7 x8 x9) (fun i => ∑ q ∈ range 256, B.dn i q * B.g q * xh (B.Y0 i) q) := (p_k0_pay30 (kB_r_4 H K) (kB_r_5 H K) (kB_r_6 H K) (kB_r_7 H K) (kB_r_9 H K) (M2.ldz' (n := 256) _ H.h9 _))

theorem kB_HS1_1 :
    M2 (arg19.view.read (Elt Ideal) (arg19.view.writes (Elt Ideal) (harg19.unread xs1) (kernelRun0_B.sl.HS1_1 (F := Ideal) c arg5 harg5 arg6 harg6 arg8 harg8 arg9 harg9 arg10 harg10 x4 x5 x7 x8 x9))) (B.X O.S) := M2.congr (M2.put (o := 0) (n := 768) (F := O.S) (M2.congr (p_k0_pay33 (kB_r_3 H K) (kB_r_4 H K) (kB_r_10 H K) (kB_r_11 H K) (kB_r_12 H K)) fun i j _ _ => rfl : M2 _ B.DL) _
    fun i _ => (congrFun (harg19.read_unread (Val := Elt Ideal) xs1) i).trans (K.hs i)) fun i j _ _ => B.X_eq O.S i j

theorem kB_r :
    (M2 (n := 768) (m := 256) (kernelRun0_B.sl.r (F := Ideal) c arg1 harg1 x0) (fun i j => B.A0 i j)) := M2.congr (p_k0_pay11 (M2.ldz (n := 768) _ H.h0 _)) fun i j _ _ => rfl

theorem kB_r_1 :
    (M2 (n := 768) (m := 256) (kernelRun0_B.sl.r_1 (F := Ideal) c arg2 harg2 x1) (fun i j => B.gate i j)) := M2.congr (p_k0_pay12 (M2.ldz (n := 768) _ H.h1 _)) fun i j _ _ => rfl

theorem kB_r_13 :
    (M2 (n := 768) (m := 256) (kernelRun0_B.sl.r_13 (F := Ideal) c arg5 harg5 arg6 harg6 arg8 harg8 arg9 harg9 arg10 harg10 x4 x5 x7 x8 x9) (fun i j => B.DL i j)) := M2.congr (p_k0_pay31 (kB_r_3 H K) (kB_r_4 H K) (kB_r_10 H K) (kB_r_11 H K) (kB_r_12 H K)) fun i j _ _ => rfl

theorem kB_v140 :
    (M2 (n := 768) (m := 256) (kernelRun0_B.sl.v140 (F := Ideal) c arg5 harg5 arg6 harg6 arg8 harg8 arg9 harg9 arg10 harg10 arg19 harg19 x4 x5 x7 x8 x9 xs1) (fun i j => B.X O.S (30 + i) j)) := M2.ld (o := 30) (n := 768) (kB_HS1_1 H K) _

theorem kB_r_14 :
    (M2 (n := 768) (m := 256) (kernelRun0_B.sl.r_14 (F := Ideal) c arg5 harg5 arg6 harg6 arg7 harg7 arg8 harg8 arg9 harg9 arg10 harg10 arg19 harg19 x4 x5 x6 x7 x8 x9 xs1) (fun i j => B.duN O.S 1 i j)) := M2.congr (p_k0_pay35 (M2.ldz (n := 1) _ H.h6 _) (kB_v140 H K)) fun i j _ _ => (B.duN_one O.S i j).symm

theorem kB_v143 :
    (M2 (n := 1) (m := 256) (kernelRun0_B.sl.v143 (F := Ideal) c arg13 harg13 xo12) (fun i j => O.O12 (1 + i) j)) := (M2.ldu (o := 1) (n := 1) _ K.h12 _)

theorem kB_r_15 :
    (M2 (n := 1) (m := 256) (kernelRun0_B.sl.r_15 (F := Ideal) c arg13 harg13 xo12) (fun i j => O.O12 (1 + i) j)) := M2.congr (p_k0_pay36 (kB_v143 H K)) fun i j _ _ => rfl

theorem kB_v153 :
    (M2 (n := 768) (m := 256) (kernelRun0_B.sl.v153 (F := Ideal) c arg5 harg5 arg6 harg6 arg8 harg8 arg9 harg9 arg10 harg10 arg19 harg19 x4 x5 x7 x8 x9 xs1) (fun i j => B.X O.S (29 + i) j)) := M2.ld (o := 29) (n := 768) (kB_HS1_1 H K) _

theorem kB_v167 :
    (M2 (n := 768) (m := 256) (kernelRun0_B.sl.v167 (F := Ideal) c arg5 harg5 arg6 harg6 arg8 harg8 arg9 harg9 arg10 harg10 arg19 harg19 x4 x5 x7 x8 x9 xs1) (fun i j => B.X O.S (28 + i) j)) := M2.ld (o := 28) (n := 768) (kB_HS1_1 H K) _

theorem kB_r_16 :
    (M2 (n := 768) (m := 256) (kernelRun0_B.sl.r_16 (F := Ideal) c arg5 harg5 arg6 harg6 arg7 harg7 arg8 harg8 arg9 harg9 arg10 harg10 arg19 harg19 x4 x5 x6 x7 x8 x9 xs1) (fun i j => B.duN O.S 3 i j)) := M2.congr (p_k0_pay39 (kB_r_14 H K) (M2.ldu (o := 1) (n := 1) _ H.h6 _) (kB_v153 H K) (M2.ldu (o := 2) (n := 1) _ H.h6 _) (kB_v167 H K)) fun i j _ _ => (B.duN_2 O.S 1 i j).symm

theorem kB_v171 :
    (M2 (n := 1) (m := 256) (kernelRun0_B.sl.v171 (F := Ideal) c arg13 harg13 xo12) (fun i j => O.O12 (3 + i) j)) := (M2.ldu (o := 3) (n := 1) _ K.h12 _)

theorem kB_v173 :
    (M2 (n := 768) (m := 256) (kernelRun0_B.sl.v173 (F := Ideal) c i arg1 harg1 arg2 harg2 arg3 harg3 arg4 harg4 arg18 x0 x1 x2 x3) (fun i j => B.E (5 + i) j)) := M2.ldr (o := 5) (n := 768) (kB_HS0_2 H K) _

theorem kB_r_17 :
    (M2 (n := 1) (m := 256) (kernelRun0_B.sl.r_17 (F := Ideal) c i arg1 harg1 arg2 harg2 arg3 harg3 arg4 harg4 arg5 harg5 arg6 harg6 arg8 harg8 arg9 harg9 arg10 harg10 arg13 harg13 arg18 x0 x1 x2 x3 x4 x5 x7 x8 x9 xo12) (fun i j => B.nt O 3 j)) := (M2.congr (g := fun _ j => B.nt O 3 j) (p_k0_pay40 (kB_r_13 H K) (kB_v171 H K) (kB_v173 H K)) fun i j hi _ => by obtain rfl : i = 0 := (by omega); rfl)

theorem kB_v181 :
    (M2 (n := 768) (m := 256) (kernelRun0_B.sl.v181 (F := Ideal) c arg5 harg5 arg6 harg6 arg8 harg8 arg9 harg9 arg10 harg10 arg19 harg19 x4 x5 x7 x8 x9 xs1) (fun i j => B.X O.S (27 + i) j)) := M2.ld (o := 27) (n := 768) (kB_HS1_1 H K) _

theorem kB_v195 :
    (M2 (n := 768) (m := 256) (kernelRun0_B.sl.v195 (F := Ideal) c arg5 harg5 arg6 harg6 arg8 harg8 arg9 harg9 arg10 harg10 arg19 harg19 x4 x5 x7 x8 x9 xs1) (fun i j => B.X O.S (26 + i) j)) := M2.ld (o := 26) (n := 768) (kB_HS1_1 H K) _

theorem kB_r_18 :
    (M2 (n := 768) (m := 256) (kernelRun0_B.sl.r_18 (F := Ideal) c arg5 harg5 arg6 harg6 arg7 harg7 arg8 harg8 arg9 harg9 arg10 harg10 arg19 harg19 x4 x5 x6 x7 x8 x9 xs1) (fun i j => B.duN O.S 5 i j)) := M2.congr (p_k0_pay42 (kB_r_16 H K) (M2.ldu (o := 3) (n := 1) _ H.h6 _) (kB_v181 H K) (M2.ldu (o := 4) (n := 1) _ H.h6 _) (kB_v195 H K)) fun i j _ _ => (B.duN_2 O.S 3 i j).symm

theorem kB_r_19 :
    (M2 (n := 1) (m := 256) (kernelRun0_B.sl.r_19 (F := Ideal) c arg7 harg7 x6) (fun i j => B.W (5 + i) j)) := M2.congr (p_k0_pay44 (M2.ldu (o := 5) (n := 1) _ H.h6 _)) fun i j _ _ => rfl

theorem kB_v209 :
    (M2 (n := 768) (m := 256) (kernelRun0_B.sl.v209 (F := Ideal) c arg5 harg5 arg6 harg6 arg8 harg8 arg9 harg9 arg10 harg10 arg19 harg19 x4 x5 x7 x8 x9 xs1) (fun i j => B.X O.S (25 + i) j)) := M2.ld (o := 25) (n := 768) (kB_HS1_1 H K) _

theorem kB_v223 :
    (M2 (n := 768) (m := 256) (kernelRun0_B.sl.v223 (F := Ideal) c arg5 harg5 arg6 harg6 arg8 harg8 arg9 harg9 arg10 harg10 arg19 harg19 x4 x5 x7 x8 x9 xs1) (fun i j => B.X O.S (24 + i) j)) := M2.ld (o := 24) (n := 768) (kB_HS1_1 H K) _

theorem kB_v237 :
    (M2 (n := 768) (m := 256) (kernelRun0_B.sl.v237 (F := Ideal) c arg5 harg5 arg6 harg6 arg8 harg8 arg9 harg9 arg10 harg10 arg19 harg19 x4 x5 x7 x8 x9 xs1) (fun i j => B.X O.S (23 + i) j)) := M2.ld (o := 23) (n := 768) (kB_HS1_1 H K) _

theorem kB_r_20 :
    (M2 (n := 768) (m := 256) (kernelRun0_B.sl.r_20 (F := Ideal) c arg5 harg5 arg6 harg6 arg7 harg7 arg8 harg8 arg9 harg9 arg10 harg10 arg19 harg19 x4 x5 x6 x7 x8 x9 xs1) (fun i j => B.duN O.S 8 i j)) := M2.congr (p_k0_pay47 (kB_r_18 H K) (kB_r_19 H K) (kB_v209 H K) (M2.ldu (o := 6) (n := 1) _ H.h6 _) (kB_v223 H K) (M2.ldu (o := 7) (n := 1) _ H.h6 _) (kB_v237 H K)) fun i j _ _ => (B.duN_3 O.S 5 i j).symm

theorem kB_v241 :
    (M2 (n := 1) (m := 256) (kernelRun0_B.sl.v241 (F := Ideal) c arg13 harg13 xo12) (fun i j => O.O12 (8 + i) j)) := (M2.ldu (o := 8) (n := 1) _ K.h12 _)

theorem kB_r_21 :
    (M2 (n := 1) (m := 256) (kernelRun0_B.sl.r_21 (F := Ideal) c arg13 harg13 xo12) (fun i j => O.O12 (8 + i) j)) := M2.congr (p_k0_pay48 (kB_v241 H K)) fun i j _ _ => rfl

theorem kB_v251 :
    (M2 (n := 768) (m := 256) (kernelRun0_B.sl.v251 (F := Ideal) c arg5 harg5 arg6 harg6 arg8 harg8 arg9 harg9 arg10 harg10 arg19 harg19 x4 x5 x7 x8 x9 xs1) (fun i j => B.X O.S (22 + i) j)) := M2.ld (o := 22) (n := 768) (kB_HS1_1 H K) _

theorem kB_v265 :
    (M2 (n := 768) (m := 256) (kernelRun0_B.sl.v265 (F := Ideal) c arg5 harg5 arg6 harg6 arg8 harg8 arg9 harg9 arg10 harg10 arg19 harg19 x4 x5 x7 x8 x9 xs1) (fun i j => B.X O.S (21 + i) j)) := M2.ld (o := 21) (n := 768) (kB_HS1_1 H K) _

theorem kB_r_22 :
    (M2 (n := 768) (m := 256) (kernelRun0_B.sl.r_22 (F := Ideal) c arg5 harg5 arg6 harg6 arg7 harg7 arg8 harg8 arg9 harg9 arg10 harg10 arg19 harg19 x4 x5 x6 x7 x8 x9 xs1) (fun i j => B.duN O.S 10 i j)) := M2.congr (p_k0_pay51 (kB_r_20 H K) (M2.ldu (o := 8) (n := 1) _ H.h6 _) (kB_v251 H K) (M2.ldu (o := 9) (n := 1) _ H.h6 _) (kB_v265 H K)) fun i j _ _ => (B.duN_2 O.S 8 i j).symm

theorem kB_v269 :
    (M2 (n := 1) (m := 256) (kernelRun0_B.sl.v269 (F := Ideal) c arg13 harg13 xo12) (fun i j => O.O12 (10 + i) j)) := (M2.ldu (o := 10) (n := 1) _ K.h12 _)

theorem kB_v271 :
    (M2 (n := 768) (m := 256) (kernelRun0_B.sl.v271 (F := Ideal) c i arg1 harg1 arg2 harg2 arg3 harg3 arg4 harg4 arg18 x0 x1 x2 x3) (fun i j => B.E (12 + i) j)) := M2.ldr (o := 12) (n := 768) (kB_HS0_2 H K) _

theorem kB_r_23 :
    (M2 (n := 1) (m := 256) (kernelRun0_B.sl.r_23 (F := Ideal) c i arg1 harg1 arg2 harg2 arg3 harg3 arg4 harg4 arg5 harg5 arg6 harg6 arg8 harg8 arg9 harg9 arg10 harg10 arg13 harg13 arg18 x0 x1 x2 x3 x4 x5 x7 x8 x9 xo12) (fun i j => B.nt O 10 j)) := (M2.congr (g := fun _ j => B.nt O 10 j) (p_k0_pay52 (kB_r_13 H K) (kB_v269 H K) (kB_v271 H K)) fun i j hi _ => by obtain rfl : i = 0 := (by omega); rfl)

theorem kB_v279 :
    (M2 (n := 768) (m := 256) (kernelRun0_B.sl.v279 (F := Ideal) c arg5 harg5 arg6 harg6 arg8 harg8 arg9 harg9 arg10 harg10 arg19 harg19 x4 x5 x7 x8 x9 xs1) (fun i j => B.X O.S (20 + i) j)) := M2.ld (o := 20) (n := 768) (kB_HS1_1 H K) _

theorem kB_v293 :
    (M2 (n := 768) (m := 256) (kernelRun0_B.sl.v293 (F := Ideal) c arg5 harg5 arg6 harg6 arg8 harg8 arg9 harg9 arg10 harg10 arg19 harg19 x4 x5 x7 x8 x9 xs1) (fun i j => B.X O.S (19 + i) j)) := M2.ld (o := 19) (n := 768) (kB_HS1_1 H K) _

theorem kB_r_24 :
    (M2 (n := 768) (m := 256) (kernelRun0_B.sl.r_24 (F := Ideal) c arg5 harg5 arg6 harg6 arg7 harg7 arg8 harg8 arg9 harg9 arg10 harg10 arg19 harg19 x4 x5 x6 x7 x8 x9 xs1) (fun i j => B.duN O.S 12 i j)) := M2.congr (p_k0_pay54 (kB_r_22 H K) (M2.ldu (o := 10) (n := 1) _ H.h6 _) (kB_v279 H K) (M2.ldu (o := 11) (n := 1) _ H.h6 _) (kB_v293 H K)) fun i j _ _ => (B.duN_2 O.S 10 i j).symm

theorem kB_r_25 :
    (M2 (n := 1) (m := 256) (kernelRun0_B.sl.r_25 (F := Ideal) c arg7 harg7 x6) (fun i j => B.W (12 + i) j)) := M2.congr (p_k0_pay56 (M2.ldu (o := 12) (n := 1) _ H.h6 _)) fun i j _ _ => rfl

theorem kB_v307 :
    (M2 (n := 768) (m := 256) (kernelRun0_B.sl.v307 (F := Ideal) c arg5 harg5 arg6 harg6 arg8 harg8 arg9 harg9 arg10 harg10 arg19 harg19 x4 x5 x7 x8 x9 xs1) (fun i j => B.X O.S (18 + i) j)) := M2.ld (o := 18) (n := 768) (kB_HS1_1 H K) _

theorem kB_v321 :
    (M2 (n := 768) (m := 256) (kernelRun0_B.sl.v321 (F := Ideal) c arg5 harg5 arg6 harg6 arg8 harg8 arg9 harg9 arg10 harg10 arg19 harg19 x4 x5 x7 x8 x9 xs1) (fun i j => B.X O.S (17 + i) j)) := M2.ld (o := 17) (n := 768) (kB_HS1_1 H K) _

theorem kB_v335 :
    (M2 (n := 768) (m := 256) (kernelRun0_B.sl.v335 (F := Ideal) c arg5 harg5 arg6 harg6 arg8 harg8 arg9 harg9 arg10 harg10 arg19 harg19 x4 x5 x7 x8 x9 xs1) (fun i j => B.X O.S (16 + i) j)) := M2.ld (o := 16) (n := 768) (kB_HS1_1 H K) _

theorem kB_r_26 :
    (M2 (n := 768) (m := 256) (kernelRun0_B.sl.r_26 (F := Ideal) c arg5 harg5 arg6 harg6 arg7 harg7 arg8 harg8 arg9 harg9 arg10 harg10 arg19 harg19 x4 x5 x6 x7 x8 x9 xs1) (fun i j => B.duN O.S 15 i j)) := M2.congr (p_k0_pay59 (kB_r_24 H K) (kB_r_25 H K) (kB_v307 H K) (M2.ldu (o := 13) (n := 1) _ H.h6 _) (kB_v321 H K) (M2.ldu (o := 14) (n := 1) _ H.h6 _) (kB_v335 H K)) fun i j _ _ => (B.duN_3 O.S 12 i j).symm

theorem kB_v349 :
    (M2 (n := 768) (m := 256) (kernelRun0_B.sl.v349 (F := Ideal) c arg5 harg5 arg6 harg6 arg8 harg8 arg9 harg9 arg10 harg10 arg19 harg19 x4 x5 x7 x8 x9 xs1) (fun i j => B.X O.S (15 + i) j)) := M2.ld (o := 15) (n := 768) (kB_HS1_1 H K) _

theorem kB_v363 :
    (M2 (n := 768) (m := 256) (kernelRun0_B.sl.v363 (F := Ideal) c arg5 harg5 arg6 harg6 arg8 harg8 arg9 harg9 arg10 harg10 arg19 harg19 x4 x5 x7 x8 x9 xs1) (fun i j => B.X O.S (14 + i) j)) := M2.ld (o := 14) (n := 768) (kB_HS1_1 H K) _

theorem kB_r_27 :
    (M2 (n := 768) (m := 256) (kernelRun0_B.sl.r_27 (F := Ideal) c arg5 harg5 arg6 harg6 arg7 harg7 arg8 harg8 arg9 harg9 arg10 harg10 arg19 harg19 x4 x5 x6 x7 x8 x9 xs1) (fun i j => B.duN O.S 17 i j)) := M2.congr (p_k0_pay62 (kB_r_26 H K) (M2.ldu (o := 15) (n := 1) _ H.h6 _) (kB_v349 H K) (M2.ldu (o := 16) (n := 1) _ H.h6 _) (kB_v363 H K)) fun i j _ _ => (B.duN_2 O.S 15 i j).symm

theorem kB_v367 :
    (M2 (n := 1) (m := 256) (kernelRun0_B.sl.v367 (F := Ideal) c arg13 harg13 xo12) (fun i j => O.O12 (17 + i) j)) := (M2.ldu (o := 17) (n := 1) _ K.h12 _)

theorem kB_r_28 :
    (M2 (n := 1) (m := 256) (kernelRun0_B.sl.r_28 (F := Ideal) c arg13 harg13 xo12) (fun i j => O.O12 (17 + i) j)) := M2.congr (p_k0_pay63 (kB_v367 H K)) fun i j _ _ => rfl

theorem kB_v369 :
    (M2 (n := 768) (m := 256) (kernelRun0_B.sl.v369 (F := Ideal) c i arg1 harg1 arg2 harg2 arg3 harg3 arg4 harg4 arg18 x0 x1 x2 x3) (fun i j => B.E (19 + i) j)) := M2.ldr (o := 19) (n := 768) (kB_HS0_2 H K) _

theorem kB_r_29 :
    M1 (n := 256) (kernelRun0_B.sl.r_29 (F := Ideal) c i arg1 harg1 arg2 harg2 arg3 harg3 arg4 harg4 arg5 harg5 arg6 harg6 arg8 harg8 arg9 harg9 arg10 harg10 arg18 x0 x1 x2 x3 x4 x5 x7 x8 x9) (fun j => B.tap 17 j) := (p_k0_pay64 (kB_r_13 H K) (kB_v369 H K))

theorem kB_v377 :
    (M2 (n := 768) (m := 256) (kernelRun0_B.sl.v377 (F := Ideal) c arg5 harg5 arg6 harg6 arg8 harg8 arg9 harg9 arg10 harg10 arg19 harg19 x4 x5 x7 x8 x9 xs1) (fun i j => B.X O.S (13 + i) j)) := M2.ld (o := 13) (n := 768) (kB_HS1_1 H K) _

theorem kB_v391 :
    (M2 (n := 768) (m := 256) (kernelRun0_B.sl.v391 (F := Ideal) c arg5 harg5 arg6 harg6 arg8 harg8 arg9 harg9 arg10 harg10 arg19 harg19 x4 x5 x7 x8 x9 xs1) (fun i j => B.X O.S (12 + i) j)) := M2.ld (o := 12) (n := 768) (kB_HS1_1 H K) _

theorem kB_r_30 :
    (M2 (n := 768) (m := 256) (kernelRun0_B.sl.r_30 (F := Ideal) c arg5 harg5 arg6 harg6 arg7 harg7 arg8 harg8 arg9 harg9 arg10 harg10 arg19 harg19 x4 x5 x6 x7 x8 x9 xs1) (fun i j => B.duN O.S 19 i j)) := M2.congr (p_k0_pay67 (kB_r_27 H K) (M2.ldu (o := 17) (n := 1) _ H.h6 _) (kB_v377 H K) (M2.ldu (o := 18) (n := 1) _ H.h6 _) (kB_v391 H K)) fun i j _ _ => (B.duN_2 O.S 17 i j).symm

theorem kB_v405 :
    (M2 (n := 768) (m := 256) (kernelRun0_B.sl.v405 (F := Ideal) c arg5 harg5 arg6 harg6 arg8 harg8 arg9 harg9 arg10 harg10 arg19 harg19 x4 x5 x7 x8 x9 xs1) (fun i j => B.X O.S (11 + i) j)) := M2.ld (o := 11) (n := 768) (kB_HS1_1 H K) _

theorem kB_v419 :
    (M2 (n := 768) (m := 256) (kernelRun0_B.sl.v419 (F := Ideal) c arg5 harg5 arg6 harg6 arg8 harg8 arg9 harg9 arg10 harg10 arg19 harg19 x4 x5 x7 x8 x9 xs1) (fun i j => B.X O.S (10 + i) j)) := M2.ld (o := 10) (n := 768) (kB_HS1_1 H K) _

theorem kB_v433 :
    (M2 (n := 768) (m := 256) (kernelRun0_B.sl.v433 (F := Ideal) c arg5 harg5 arg6 harg6 arg8 harg8 arg9 harg9 arg10 harg10 arg19 harg19 x4 x5 x7 x8 x9 xs1) (fun i j => B.X O.S (9 + i) j)) := M2.ld (o := 9) (n := 768) (kB_HS1_1 H K) _

theorem kB_r_31 :
    (M2 (n := 768) (m := 256) (kernelRun0_B.sl.r_31 (F := Ideal) c arg5 harg5 arg6 harg6 arg7 harg7 arg8 harg8 arg9 harg9 arg10 harg10 arg19 harg19 x4 x5 x6 x7 x8 x9 xs1) (fun i j => B.duN O.S 22 i j)) := M2.congr (p_k0_pay71 (kB_r_30 H K) (M2.ldu (o := 19) (n := 1) _ H.h6 _) (kB_v405 H K) (M2.ldu (o := 20) (n := 1) _ H.h6 _) (kB_v419 H K) (M2.ldu (o := 21) (n := 1) _ H.h6 _) (kB_v433 H K)) fun i j _ _ => (B.duN_3 O.S 19 i j).symm

theorem kB_v447 :
    (M2 (n := 768) (m := 256) (kernelRun0_B.sl.v447 (F := Ideal) c arg5 harg5 arg6 harg6 arg8 harg8 arg9 harg9 arg10 harg10 arg19 harg19 x4 x5 x7 x8 x9 xs1) (fun i j => B.X O.S (8 + i) j)) := M2.ld (o := 8) (n := 768) (kB_HS1_1 H K) _

theorem kB_v461 :
    (M2 (n := 768) (m := 256) (kernelRun0_B.sl.v461 (F := Ideal) c arg5 harg5 arg6 harg6 arg8 harg8 arg9 harg9 arg10 harg10 arg19 harg19 x4 x5 x7 x8 x9 xs1) (fun i j => B.X O.S (7 + i) j)) := M2.ld (o := 7) (n := 768) (kB_HS1_1 H K) _

theorem kB_r_32 :
    (M2 (n := 768) (m := 256) (kernelRun0_B.sl.r_32 (F := Ideal) c arg5 harg5 arg6 harg6 arg7 harg7 arg8 harg8 arg9 harg9 arg10 harg10 arg19 harg19 x4 x5 x6 x7 x8 x9 xs1) (fun i j => B.duN O.S 24 i j)) := M2.congr (p_k0_pay74 (kB_r_31 H K) (M2.ldu (o := 22) (n := 1) _ H.h6 _) (kB_v447 H K) (M2.ldu (o := 23) (n := 1) _ H.h6 _) (kB_v461 H K)) fun i j _ _ => (B.duN_2 O.S 22 i j).symm

theorem kB_v465 :
    (M2 (n := 1) (m := 256) (kernelRun0_B.sl.v465 (F := Ideal) c arg13 harg13 xo12) (fun i j => O.O12 (24 + i) j)) := (M2.ldu (o := 24) (n := 1) _ K.h12 _)

theorem kB_r_33 :
    (M2 (n := 1) (m := 256) (kernelRun0_B.sl.r_33 (F := Ideal) c arg13 harg13 xo12) (fun i j => O.O12 (24 + i) j)) := M2.congr (p_k0_pay75 (kB_v465 H K)) fun i j _ _ => rfl

theorem kB_v467 :
    (M2 (n := 768) (m := 256) (kernelRun0_B.sl.v467 (F := Ideal) c i arg1 harg1 arg2 harg2 arg3 harg3 arg4 harg4 arg18 x0 x1 x2 x3) (fun i j => B.E (26 + i) j)) := M2.ldr (o := 26) (n := 768) (kB_HS0_2 H K) _

theorem kB_r_34 :
    (M2 (n := 768) (m := 256) (kernelRun0_B.sl.r_34 (F := Ideal) c i arg1 harg1 arg2 harg2 arg3 harg3 arg4 harg4 arg5 harg5 arg6 harg6 arg8 harg8 arg9 harg9 arg10 harg10 arg18 x0 x1 x2 x3 x4 x5 x7 x8 x9) (fun i j => B.DL i j * B.E (26 + i) j)) := M2.congr (p_k0_pay76 (kB_r_13 H K) (kB_v467 H K)) fun i j _ _ => rfl

theorem kB_v475 :
    (M2 (n := 768) (m := 256) (kernelRun0_B.sl.v475 (F := Ideal) c arg5 harg5 arg6 harg6 arg8 harg8 arg9 harg9 arg10 harg10 arg19 harg19 x4 x5 x7 x8 x9 xs1) (fun i j => B.X O.S (6 + i) j)) := M2.ld (o := 6) (n := 768) (kB_HS1_1 H K) _

theorem kB_v489 :
    (M2 (n := 768) (m := 256) (kernelRun0_B.sl.v489 (F := Ideal) c arg5 harg5 arg6 harg6 arg8 harg8 arg9 harg9 arg10 harg10 arg19 harg19 x4 x5 x7 x8 x9 xs1) (fun i j => B.X O.S (5 + i) j)) := M2.ld (o := 5) (n := 768) (kB_HS1_1 H K) _

theorem kB_r_35 :
    (M2 (n := 768) (m := 256) (kernelRun0_B.sl.r_35 (F := Ideal) c arg5 harg5 arg6 harg6 arg7 harg7 arg8 harg8 arg9 harg9 arg10 harg10 arg19 harg19 x4 x5 x6 x7 x8 x9 xs1) (fun i j => B.duN O.S 26 i j)) := M2.congr (p_k0_pay79 (kB_r_32 H K) (M2.ldu (o := 24) (n := 1) _ H.h6 _) (kB_v475 H K) (M2.ldu (o := 25) (n := 1) _ H.h6 _) (kB_v489 H K)) fun i j _ _ => (B.duN_2 O.S 24 i j).symm

theorem kB_v503 :
    (M2 (n := 768) (m := 256) (kernelRun0_B.sl.v503 (F := Ideal) c arg5 harg5 arg6 harg6 arg8 harg8 arg9 harg9 arg10 harg10 arg19 harg19 x4 x5 x7 x8 x9 xs1) (fun i j => B.X O.S (4 + i) j)) := M2.ld (o := 4) (n := 768) (kB_HS1_1 H K) _

theorem kB_v517 :
    (M2 (n := 768) (m := 256) (kernelRun0_B.sl.v517 (F := Ideal) c arg5 harg5 arg6 harg6 arg8 harg8 arg9 harg9 arg10 harg10 arg19 harg19 x4 x5 x7 x8 x9 xs1) (fun i j => B.X O.S (3 + i) j)) := M2.ld (o := 3) (n := 768) (kB_HS1_1 H K) _

theorem kB_r_36 :
    (M2 (n := 768) (m := 256) (kernelRun0_B.sl.r_36 (F := Ideal) c arg5 harg5 arg6 harg6 arg7 harg7 arg8 harg8 arg9 harg9 arg10 harg10 arg19 harg19 x4 x5 x6 x7 x8 x9 xs1) (fun i j => B.duN O.S 28 i j)) := M2.congr (p_k0_pay82 (kB_r_35 H K) (M2.ldu (o := 26) (n := 1) _ H.h6 _) (kB_v503 H K) (M2.ldu (o := 27) (n := 1) _ H.h6 _) (kB_v517 H K)) fun i j _ _ => (B.duN_2 O.S 26 i j).symm

theorem kB_r_37 :
    (M2 (n := 768) (m := 256) (kernelRun0_B.sl.r_37 (F := Ideal) c arg7 harg7 x6) (fun i j => B.W 28 j)) := M2.congr (p_k0_pay84 (M2.ldu (o := 28) (n := 1) _ H.h6 _)) fun i j _ _ => rfl

theorem kB_v531 :
    (M2 (n := 768) (m := 256) (kernelRun0_B.sl.v531 (F := Ideal) c arg5 harg5 arg6 harg6 arg8 harg8 arg9 harg9 arg10 harg10 arg19 harg19 x4 x5 x7 x8 x9 xs1) (fun i j => B.X O.S (2 + i) j)) := M2.ld (o := 2) (n := 768) (kB_HS1_1 H K) _

theorem kB_v545 :
    (M2 (n := 768) (m := 256) (kernelRun0_B.sl.v545 (F := Ideal) c arg5 harg5 arg6 harg6 arg8 harg8 arg9 harg9 arg10 harg10 arg19 harg19 x4 x5 x7 x8 x9 xs1) (fun i j => B.X O.S (1 + i) j)) := M2.ld (o := 1) (n := 768) (kB_HS1_1 H K) _

theorem kB_v559 :
    (M2 (n := 768) (m := 256) (kernelRun0_B.sl.v559 (F := Ideal) c arg5 harg5 arg6 harg6 arg8 harg8 arg9 harg9 arg10 harg10 arg19 x4 x5 x7 x8 x9) (fun i j => B.X O.S (0 + i) j)) := M2.congr (M2.ldc (o := 0) (o' := 0) (n := 768) (n' := 768) (M2.congr (p_k0_pay33 (kB_r_3 H K) (kB_r_4 H K) (kB_r_10 H K) (kB_r_11 H K) (kB_r_12 H K)) fun i j _ _ => rfl : M2 _ B.DL) _ _ (by omega) (by omega)) fun i j hi _ => B.X_lo O.S (0 + i) j (by omega)

theorem kB_r_38 :
    (M2 (n := 768) (m := 256) (kernelRun0_B.sl.r_38 (F := Ideal) c arg5 harg5 arg6 harg6 arg7 harg7 arg8 harg8 arg9 harg9 arg10 harg10 arg19 harg19 x4 x5 x6 x7 x8 x9 xs1) (fun i j => B.duN O.S 31 i j)) := M2.congr (p_k0_pay87 (kB_r_36 H K) (kB_v531 H K) (kB_r_37 H K) (M2.ldu (o := 29) (n := 1) _ H.h6 _) (kB_v545 H K) (M2.ldu (o := 30) (n := 1) _ H.h6 _) (kB_v559 H K)) fun i j _ _ => (B.duN_3 O.S 28 i j).symm

theorem kB_r_8 :
    (M2 (n := 768) (m := 256) (kernelRun0_B.sl.r_8 (F := Ideal) c arg6 harg6 arg8 harg8 arg9 harg9 x5 x7 x8) (fun i j => B.act i j)) := M2.congr (p_k0_pay22 (M2.ldz (n := 768) _ H.h5 _) (M2.ldz (n := 1) _ H.h7 _) (M2.ldz (n := 1) _ H.h8 _)) fun i j _ _ => rfl

theorem kB_v0 : (kernelRun0_B.sl.v0 i) = BitVec.ofNat 32 B.p ∧ B.p ≤ 10 := v0_eq H.hp

theorem kB_v132 :
    (M2 (n := 768) (m := 256) (kernelRun0_B.sl.v132 (F := Ideal) c i arg1 harg1 arg2 harg2 arg3 harg3 arg4 harg4 arg18 x0 x1 x2 x3) (fun i j => B.E (2 + i) j)) := M2.ldr (o := 2) (n := 768) (kB_HS0_2 H K) _

theorem kB_v145 :
    (M2 (n := 768) (m := 256) (kernelRun0_B.sl.v145 (F := Ideal) c i arg1 harg1 arg2 harg2 arg3 harg3 arg4 harg4 arg18 x0 x1 x2 x3) (fun i j => B.E (3 + i) j)) := M2.ldr (o := 3) (n := 768) (kB_HS0_2 H K) _

theorem kB_v157 :
    (M2 (n := 1) (m := 256) (kernelRun0_B.sl.v157 (F := Ideal) c arg13 harg13 xo12) (fun i j => O.O12 (2 + i) j)) := (M2.ldu (o := 2) (n := 1) _ K.h12 _)

theorem kB_v159 :
    (M2 (n := 768) (m := 256) (kernelRun0_B.sl.v159 (F := Ideal) c i arg1 harg1 arg2 harg2 arg3 harg3 arg4 harg4 arg18 x0 x1 x2 x3) (fun i j => B.E (4 + i) j)) := M2.ldr (o := 4) (n := 768) (kB_HS0_2 H K) _

theorem kB_v185 :
    (M2 (n := 1) (m := 256) (kernelRun0_B.sl.v185 (F := Ideal) c arg13 harg13 xo12) (fun i j => O.O12 (4 + i) j)) := (M2.ldu (o := 4) (n := 1) _ K.h12 _)

theorem kB_v187 :
    (M2 (n := 768) (m := 256) (kernelRun0_B.sl.v187 (F := Ideal) c i arg1 harg1 arg2 harg2 arg3 harg3 arg4 harg4 arg18 x0 x1 x2 x3) (fun i j => B.E (6 + i) j)) := M2.ldr (o := 6) (n := 768) (kB_HS0_2 H K) _

theorem kB_v199 :
    (M2 (n := 1) (m := 256) (kernelRun0_B.sl.v199 (F := Ideal) c arg13 harg13 xo12) (fun i j => O.O12 (5 + i) j)) := (M2.ldu (o := 5) (n := 1) _ K.h12 _)

theorem kB_v201 :
    (M2 (n := 768) (m := 256) (kernelRun0_B.sl.v201 (F := Ideal) c i arg1 harg1 arg2 harg2 arg3 harg3 arg4 harg4 arg18 x0 x1 x2 x3) (fun i j => B.E (7 + i) j)) := M2.ldr (o := 7) (n := 768) (kB_HS0_2 H K) _

theorem kB_v213 :
    (M2 (n := 1) (m := 256) (kernelRun0_B.sl.v213 (F := Ideal) c arg13 harg13 xo12) (fun i j => O.O12 (6 + i) j)) := (M2.ldu (o := 6) (n := 1) _ K.h12 _)

theorem kB_v215 :
    (M2 (n := 768) (m := 256) (kernelRun0_B.sl.v215 (F := Ideal) c i arg1 harg1 arg2 harg2 arg3 harg3 arg4 harg4 arg18 x0 x1 x2 x3) (fun i j => B.E (8 + i) j)) := M2.ldr (o := 8) (n := 768) (kB_HS0_2 H K) _

theorem kB_v227 :
    (M2 (n := 1) (m := 256) (kernelRun0_B.sl.v227 (F := Ideal) c arg13 harg13 xo12) (fun i j => O.O12 (7 + i) j)) := (M2.ldu (o := 7) (n := 1) _ K.h12 _)

theorem kB_v229 :
    (M2 (n := 768) (m := 256) (kernelRun0_B.sl.v229 (F := Ideal) c i arg1 harg1 arg2 harg2 arg3 harg3 arg4 harg4 arg18 x0 x1 x2 x3) (fun i j => B.E (9 + i) j)) := M2.ldr (o := 9) (n := 768) (kB_HS0_2 H K) _

theorem kB_v243 :
    (M2 (n := 768) (m := 256) (kernelRun0_B.sl.v243 (F := Ideal) c i arg1 harg1 arg2 harg2 arg3 harg3 arg4 harg4 arg18 x0 x1 x2 x3) (fun i j => B.E (10 + i) j)) := M2.ldr (o := 10) (n := 768) (kB_HS0_2 H K) _

theorem kB_v255 :
    (M2 (n := 1) (m := 256) (kernelRun0_B.sl.v255 (F := Ideal) c arg13 harg13 xo12) (fun i j => O.O12 (9 + i) j)) := (M2.ldu (o := 9) (n := 1) _ K.h12 _)

theorem kB_v257 :
    (M2 (n := 768) (m := 256) (kernelRun0_B.sl.v257 (F := Ideal) c i arg1 harg1 arg2 harg2 arg3 harg3 arg4 harg4 arg18 x0 x1 x2 x3) (fun i j => B.E (11 + i) j)) := M2.ldr (o := 11) (n := 768) (kB_HS0_2 H K) _

theorem kB_v283 :
    (M2 (n := 1) (m := 256) (kernelRun0_B.sl.v283 (F := Ideal) c arg13 harg13 xo12) (fun i j => O.O12 (11 + i) j)) := (M2.ldu (o := 11) (n := 1) _ K.h12 _)

theorem kB_v285 :
    (M2 (n := 768) (m := 256) (kernelRun0_B.sl.v285 (F := Ideal) c i arg1 harg1 arg2 harg2 arg3 harg3 arg4 harg4 arg18 x0 x1 x2 x3) (fun i j => B.E (13 + i) j)) := M2.ldr (o := 13) (n := 768) (kB_HS0_2 H K) _

theorem kB_v297 :
    (M2 (n := 1) (m := 256) (kernelRun0_B.sl.v297 (F := Ideal) c arg13 harg13 xo12) (fun i j => O.O12 (12 + i) j)) := (M2.ldu (o := 12) (n := 1) _ K.h12 _)

theorem kB_v299 :
    (M2 (n := 768) (m := 256) (kernelRun0_B.sl.v299 (F := Ideal) c i arg1 harg1 arg2 harg2 arg3 harg3 arg4 harg4 arg18 x0 x1 x2 x3) (fun i j => B.E (14 + i) j)) := M2.ldr (o := 14) (n := 768) (kB_HS0_2 H K) _

theorem kB_v311 :
    (M2 (n := 1) (m := 256) (kernelRun0_B.sl.v311 (F := Ideal) c arg13 harg13 xo12) (fun i j => O.O12 (13 + i) j)) := (M2.ldu (o := 13) (n := 1) _ K.h12 _)

theorem kB_v313 :
    (M2 (n := 768) (m := 256) (kernelRun0_B.sl.v313 (F := Ideal) c i arg1 harg1 arg2 harg2 arg3 harg3 arg4 harg4 arg18 x0 x1 x2 x3) (fun i j => B.E (15 + i) j)) := M2.ldr (o := 15) (n := 768) (kB_HS0_2 H K) _

theorem kB_v325 :
    (M2 (n := 1) (m := 256) (kernelRun0_B.sl.v325 (F := Ideal) c arg13 harg13 xo12) (fun i j => O.O12 (14 + i) j)) := (M2.ldu (o := 14) (n := 1) _ K.h12 _)

theorem kB_v327 :
    (M2 (n := 768) (m := 256) (kernelRun0_B.sl.v327 (F := Ideal) c i arg1 harg1 arg2 harg2 arg3 harg3 arg4 harg4 arg18 x0 x1 x2 x3) (fun i j => B.E (16 + i) j)) := M2.ldr (o := 16) (n := 768) (kB_HS0_2 H K) _

theorem kB_v339 :
    (M2 (n := 1) (m := 256) (kernelRun0_B.sl.v339 (F := Ideal) c arg13 harg13 xo12) (fun i j => O.O12 (15 + i) j)) := (M2.ldu (o := 15) (n := 1) _ K.h12 _)

theorem kB_v341 :
    (M2 (n := 768) (m := 256) (kernelRun0_B.sl.v341 (F := Ideal) c i arg1 harg1 arg2 harg2 arg3 harg3 arg4 harg4 arg18 x0 x1 x2 x3) (fun i j => B.E (17 + i) j)) := M2.ldr (o := 17) (n := 768) (kB_HS0_2 H K) _

theorem kB_v353 :
    (M2 (n := 1) (m := 256) (kernelRun0_B.sl.v353 (F := Ideal) c arg13 harg13 xo12) (fun i j => O.O12 (16 + i) j)) := (M2.ldu (o := 16) (n := 1) _ K.h12 _)

theorem kB_v355 :
    (M2 (n := 768) (m := 256) (kernelRun0_B.sl.v355 (F := Ideal) c i arg1 harg1 arg2 harg2 arg3 harg3 arg4 harg4 arg18 x0 x1 x2 x3) (fun i j => B.E (18 + i) j)) := M2.ldr (o := 18) (n := 768) (kB_HS0_2 H K) _

theorem kB_v381 :
    (M2 (n := 1) (m := 256) (kernelRun0_B.sl.v381 (F := Ideal) c arg13 harg13 xo12) (fun i j => O.O12 (18 + i) j)) := (M2.ldu (o := 18) (n := 1) _ K.h12 _)

theorem kB_v383 :
    (M2 (n := 768) (m := 256) (kernelRun0_B.sl.v383 (F := Ideal) c i arg1 harg1 arg2 harg2 arg3 harg3 arg4 harg4 arg18 x0 x1 x2 x3) (fun i j => B.E (20 + i) j)) := M2.ldr (o := 20) (n := 768) (kB_HS0_2 H K) _

theorem kB_v395 :
    (M2 (n := 1) (m := 256) (kernelRun0_B.sl.v395 (F := Ideal) c arg13 harg13 xo12) (fun i j => O.O12 (19 + i) j)) := (M2.ldu (o := 19) (n := 1) _ K.h12 _)

theorem kB_v397 :
    (M2 (n := 768) (m := 256) (kernelRun0_B.sl.v397 (F := Ideal) c i arg1 harg1 arg2 harg2 arg3 harg3 arg4 harg4 arg18 x0 x1 x2 x3) (fun i j => B.E (21 + i) j)) := M2.ldr (o := 21) (n := 768) (kB_HS0_2 H K) _

theorem kB_v409 :
    (M2 (n := 1) (m := 256) (kernelRun0_B.sl.v409 (F := Ideal) c arg13 harg13 xo12) (fun i j => O.O12 (20 + i) j)) := (M2.ldu (o := 20) (n := 1) _ K.h12 _)

theorem kB_v411 :
    (M2 (n := 768) (m := 256) (kernelRun0_B.sl.v411 (F := Ideal) c i arg1 harg1 arg2 harg2 arg3 harg3 arg4 harg4 arg18 x0 x1 x2 x3) (fun i j => B.E (22 + i) j)) := M2.ldr (o := 22) (n := 768) (kB_HS0_2 H K) _

theorem kB_v423 :
    (M2 (n := 1) (m := 256) (kernelRun0_B.sl.v423 (F := Ideal) c arg13 harg13 xo12) (fun i j => O.O12 (21 + i) j)) := (M2.ldu (o := 21) (n := 1) _ K.h12 _)

theorem kB_v425 :
    (M2 (n := 768) (m := 256) (kernelRun0_B.sl.v425 (F := Ideal) c i arg1 harg1 arg2 harg2 arg3 harg3 arg4 harg4 arg18 x0 x1 x2 x3) (fun i j => B.E (23 + i) j)) := M2.ldr (o := 23) (n := 768) (kB_HS0_2 H K) _

theorem kB_v437 :
    (M2 (n := 1) (m := 256) (kernelRun0_B.sl.v437 (F := Ideal) c arg13 harg13 xo12) (fun i j => O.O12 (22 + i) j)) := (M2.ldu (o := 22) (n := 1) _ K.h12 _)

theorem kB_v439 :
    (M2 (n := 768) (m := 256) (kernelRun0_B.sl.v439 (F := Ideal) c i arg1 harg1 arg2 harg2 arg3 harg3 arg4 harg4 arg18 x0 x1 x2 x3) (fun i j => B.E (24 + i) j)) := M2.ldr (o := 24) (n := 768) (kB_HS0_2 H K) _

theorem kB_v451 :
    (M2 (n := 1) (m := 256) (kernelRun0_B.sl.v451 (F := Ideal) c arg13 harg13 xo12) (fun i j => O.O12 (23 + i) j)) := (M2.ldu (o := 23) (n := 1) _ K.h12 _)

theorem kB_v453 :
    (M2 (n := 768) (m := 256) (kernelRun0_B.sl.v453 (F := Ideal) c i arg1 harg1 arg2 harg2 arg3 harg3 arg4 harg4 arg18 x0 x1 x2 x3) (fun i j => B.E (25 + i) j)) := M2.ldr (o := 25) (n := 768) (kB_HS0_2 H K) _

theorem kB_v479 :
    (M2 (n := 1) (m := 256) (kernelRun0_B.sl.v479 (F := Ideal) c arg13 harg13 xo12) (fun i j => O.O12 (25 + i) j)) := (M2.ldu (o := 25) (n := 1) _ K.h12 _)

theorem kB_v481 :
    (M2 (n := 768) (m := 256) (kernelRun0_B.sl.v481 (F := Ideal) c i arg1 harg1 arg2 harg2 arg3 harg3 arg4 harg4 arg18 x0 x1 x2 x3) (fun i j => B.E (27 + i) j)) := M2.ldr (o := 27) (n := 768) (kB_HS0_2 H K) _

theorem kB_v493 :
    (M2 (n := 1) (m := 256) (kernelRun0_B.sl.v493 (F := Ideal) c arg13 harg13 xo12) (fun i j => O.O12 (26 + i) j)) := (M2.ldu (o := 26) (n := 1) _ K.h12 _)

theorem kB_v495 :
    (M2 (n := 768) (m := 256) (kernelRun0_B.sl.v495 (F := Ideal) c i arg1 harg1 arg2 harg2 arg3 harg3 arg4 harg4 arg18 x0 x1 x2 x3) (fun i j => B.E (28 + i) j)) := M2.ldr (o := 28) (n := 768) (kB_HS0_2 H K) _

theorem kB_v507 :
    (M2 (n := 1) (m := 256) (kernelRun0_B.sl.v507 (F := Ideal) c arg13 harg13 xo12) (fun i j => O.O12 (27 + i) j)) := (M2.ldu (o := 27) (n := 1) _ K.h12 _)

theorem kB_v509 :
    (M2 (n := 768) (m := 256) (kernelRun0_B.sl.v509 (F := Ideal) c i arg1 harg1 arg2 harg2 arg3 harg3 arg4 harg4 arg18 x0 x1 x2 x3) (fun i j => B.E (29 + i) j)) := M2.ldr (o := 29) (n := 768) (kB_HS0_2 H K) _

theorem kB_v521 :
    (M2 (n := 1) (m := 256) (kernelRun0_B.sl.v521 (F := Ideal) c arg13 harg13 xo12) (fun i j => O.O12 (28 + i) j)) := (M2.ldu (o := 28) (n := 1) _ K.h12 _)

theorem kB_v523 :
    (M2 (n := 768) (m := 256) (kernelRun0_B.sl.v523 (F := Ideal) c i arg1 harg1 arg2 harg2 arg3 harg3 arg4 harg4 arg18 x0 x1 x2 x3) (fun i j => B.E (30 + i) j)) := M2.ldr (o := 30) (n := 768) (kB_HS0_2 H K) _

theorem kB_v535 :
    (M2 (n := 1) (m := 256) (kernelRun0_B.sl.v535 (F := Ideal) c arg13 harg13 xo12) (fun i j => O.O12 (29 + i) j)) := (M2.ldu (o := 29) (n := 1) _ K.h12 _)

theorem kB_v537 :
    (M2 (n := 768) (m := 256) (kernelRun0_B.sl.v537 (F := Ideal) c i arg1 harg1 arg2 harg2 arg3 harg3 arg4 harg4 arg18 x0 x1 x2 x3) (fun i j => B.E (31 + i) j)) := M2.ldr (o := 31) (n := 768) (kB_HS0_2 H K) _

theorem kB_v549 :
    (M2 (n := 1) (m := 256) (kernelRun0_B.sl.v549 (F := Ideal) c arg13 harg13 xo12) (fun i j => O.O12 (30 + i) j)) := (M2.ldu (o := 30) (n := 1) _ K.h12 _)

theorem kB_v551 :
    (M2 (n := 768) (m := 256) (kernelRun0_B.sl.v551 (F := Ideal) c i arg1 harg1 arg2 harg2 arg3 harg3 arg4 harg4 arg18 x0 x1 x2 x3) (fun i j => B.E (32 + i) j)) := M2.ldr (o := 32) (n := 768) (kB_HS0_2 H K) _

theorem kB_v563 :
    (M2 (n := 32) (m := 256) (kernelRun0_B.sl.v563 (F := Ideal) c arg5 harg5 arg6 harg6 arg8 harg8 arg9 harg9 arg10 harg10 arg19 x4 x5 x7 x8 x9) (fun i j => B.X O.S (0 + i) j)) := M2.congr (M2.ldc (o := 0) (o' := 0) (n := 768) (n' := 32) (M2.congr (p_k0_pay33 (kB_r_3 H K) (kB_r_4 H K) (kB_r_10 H K) (kB_r_11 H K) (kB_r_12 H K)) fun i j _ _ => rfl : M2 _ B.DL) _ _ (by omega) (by omega)) fun i j hi _ => B.X_lo O.S (0 + i) j (by omega)

end Words

section Point

open Cert.KernelIdeal.Track

variable {B : Blk} {O : Old} {p : St Ideal} {m : (ℓ : Loc nD τ sig) → Buf (Elt Ideal) ℓ} {c : Dev nD} {t : Fin cfg0.N}
  (h : ¬t.val % 11 = 0)
  (H : HB B (grid0.coords t) (iblk m c 0 t) (iblk m c 1 t) (iblk m c 2 t) (iblk m c 3 t) (iblk m c 4 t) (iblk m c 5 t) (iblk m c 6 t) (iblk m c 7 t) (iblk m c 8 t) (iblk m c 9 t))
  (K : HO O p.o12 p.o13 p.o14 p.o15 p.o16 p.sc)
include H K

theorem kB_o10 : M2 (n := 768) (m := 256) (eB_o10 m c t h p) (B.out0 O.S) :=
  M2.congr (M2.putw' (p_k0_pay3 (kB_v0 H K) (kB_r_1 H K) (kB_r_38 H K)) _) fun i j _ _ => rfl

theorem kB_o11 : M2 (n := 768) (m := 256) (eB_o11 m c t h p) (B.out1 O.S) :=
  M2.congr (M2.putw' (p_k0_pay4 (kB_v0 H K) (kB_r H K) (kB_r_1 H K) (kB_r_38 H K)) _) fun i j _ _ => rfl

theorem kB_o12 : M2 (n := 32) (m := 256) (eB_o12 m c t h p) (B.n12 O) :=
  M2.congr (M2.row (o := 30) (W := B.nt O) (O := O.O12) (M2.row (o := 29) (W := B.nt O) (O := O.O12) (M2.row (o := 28) (W := B.nt O) (O := O.O12) (M2.row (o := 27) (W := B.nt O) (O := O.O12) (M2.row (o := 26) (W := B.nt O) (O := O.O12) (M2.row (o := 25) (W := B.nt O) (O := O.O12) (M2.row (o := 24) (W := B.nt O) (O := O.O12) (M2.row (o := 23) (W := B.nt O) (O := O.O12) (M2.row (o := 22) (W := B.nt O) (O := O.O12) (M2.row (o := 21) (W := B.nt O) (O := O.O12) (M2.row (o := 20) (W := B.nt O) (O := O.O12) (M2.row (o := 19) (W := B.nt O) (O := O.O12) (M2.row (o := 18) (W := B.nt O) (O := O.O12) (M2.row (o := 17) (W := B.nt O) (O := O.O12) (M2.row (o := 16) (W := B.nt O) (O := O.O12) (M2.row (o := 15) (W := B.nt O) (O := O.O12) (M2.row (o := 14) (W := B.nt O) (O := O.O12) (M2.row (o := 13) (W := B.nt O) (O := O.O12) (M2.row (o := 12) (W := B.nt O) (O := O.O12) (M2.row (o := 11) (W := B.nt O) (O := O.O12) (M2.row (o := 10) (W := B.nt O) (O := O.O12) (M2.row (o := 9) (W := B.nt O) (O := O.O12) (M2.row (o := 8) (W := B.nt O) (O := O.O12) (M2.row (o := 7) (W := B.nt O) (O := O.O12) (M2.row (o := 6) (W := B.nt O) (O := O.O12) (M2.row (o := 5) (W := B.nt O) (O := O.O12) (M2.row (o := 4) (W := B.nt O) (O := O.O12) (M2.row (o := 3) (W := B.nt O) (O := O.O12) (M2.row (o := 2) (W := B.nt O) (O := O.O12) (M2.row (o := 1) (W := B.nt O) (O := O.O12) (M2.row (o := 0) (W := B.nt O) (O := O.O12) (M2.congr (K.h12.ofEq (Memref.IsWhole.read_unread (Val := Elt Ideal) _ _)) fun i j _ _ => (if_neg (Nat.not_lt_zero i)).symm)
    (M2.congr (g := fun _ j => B.nt O 0 j) (p_k0_pay34 (kB_r_3 H K) (kB_r_4 H K) (kB_r_10 H K) (kB_r_11 H K) (kB_r_12 H K) (M2.ldu (o := 0) (n := 1) _ K.h12 _) (kB_v132 H K)) fun i j hi _ => by obtain rfl : i = 0 := (by omega); rfl) _)
    (M2.congr (g := fun _ j => B.nt O 1 j) (p_k0_pay37 (kB_r_13 H K) (kB_r_15 H K) (kB_v145 H K)) fun i j hi _ => by obtain rfl : i = 0 := (by omega); rfl) _)
    (M2.congr (g := fun _ j => B.nt O 2 j) (p_k0_pay38 (kB_r_13 H K) (kB_v157 H K) (kB_v159 H K)) fun i j hi _ => by obtain rfl : i = 0 := (by omega); rfl) _)
    (M2.congr (kB_r_17 H K) fun i j _ _ => rfl) _)
    (M2.congr (g := fun _ j => B.nt O 4 j) (p_k0_pay41 (kB_r_13 H K) (kB_v185 H K) (kB_v187 H K)) fun i j hi _ => by obtain rfl : i = 0 := (by omega); rfl) _)
    (M2.congr (g := fun _ j => B.nt O 5 j) (p_k0_pay43 (kB_r_13 H K) (kB_v199 H K) (kB_v201 H K)) fun i j hi _ => by obtain rfl : i = 0 := (by omega); rfl) _)
    (M2.congr (g := fun _ j => B.nt O 6 j) (p_k0_pay45 (kB_r_13 H K) (kB_v213 H K) (kB_v215 H K)) fun i j hi _ => by obtain rfl : i = 0 := (by omega); rfl) _)
    (M2.congr (g := fun _ j => B.nt O 7 j) (p_k0_pay46 (kB_r_13 H K) (kB_v227 H K) (kB_v229 H K)) fun i j hi _ => by obtain rfl : i = 0 := (by omega); rfl) _)
    (M2.congr (g := fun _ j => B.nt O 8 j) (p_k0_pay49 (kB_r_13 H K) (kB_r_21 H K) (kB_v243 H K)) fun i j hi _ => by obtain rfl : i = 0 := (by omega); rfl) _)
    (M2.congr (g := fun _ j => B.nt O 9 j) (p_k0_pay50 (kB_r_13 H K) (kB_v255 H K) (kB_v257 H K)) fun i j hi _ => by obtain rfl : i = 0 := (by omega); rfl) _)
    (M2.congr (kB_r_23 H K) fun i j _ _ => rfl) _)
    (M2.congr (g := fun _ j => B.nt O 11 j) (p_k0_pay53 (kB_r_13 H K) (kB_v283 H K) (kB_v285 H K)) fun i j hi _ => by obtain rfl : i = 0 := (by omega); rfl) _)
    (M2.congr (g := fun _ j => B.nt O 12 j) (p_k0_pay55 (kB_r_13 H K) (kB_v297 H K) (kB_v299 H K)) fun i j hi _ => by obtain rfl : i = 0 := (by omega); rfl) _)
    (M2.congr (g := fun _ j => B.nt O 13 j) (p_k0_pay57 (kB_r_13 H K) (kB_v311 H K) (kB_v313 H K)) fun i j hi _ => by obtain rfl : i = 0 := (by omega); rfl) _)
    (M2.congr (g := fun _ j => B.nt O 14 j) (p_k0_pay58 (kB_r_13 H K) (kB_v325 H K) (kB_v327 H K)) fun i j hi _ => by obtain rfl : i = 0 := (by omega); rfl) _)
    (M2.congr (g := fun _ j => B.nt O 15 j) (p_k0_pay60 (kB_r_13 H K) (kB_v339 H K) (kB_v341 H K)) fun i j hi _ => by obtain rfl : i = 0 := (by omega); rfl) _)
    (M2.congr (g := fun _ j => B.nt O 16 j) (p_k0_pay61 (kB_r_13 H K) (kB_v353 H K) (kB_v355 H K)) fun i j hi _ => by obtain rfl : i = 0 := (by omega); rfl) _)
    (M2.congr (g := fun _ j => B.nt O 17 j) (p_k0_pay65 (kB_r_28 H K) (kB_r_29 H K)) fun i j hi _ => by obtain rfl : i = 0 := (by omega); rfl) _)
    (M2.congr (g := fun _ j => B.nt O 18 j) (p_k0_pay66 (kB_r_13 H K) (kB_v381 H K) (kB_v383 H K)) fun i j hi _ => by obtain rfl : i = 0 := (by omega); rfl) _)
    (M2.congr (g := fun _ j => B.nt O 19 j) (p_k0_pay68 (kB_r_13 H K) (kB_v395 H K) (kB_v397 H K)) fun i j hi _ => by obtain rfl : i = 0 := (by omega); rfl) _)
    (M2.congr (g := fun _ j => B.nt O 20 j) (p_k0_pay69 (kB_r_13 H K) (kB_v409 H K) (kB_v411 H K)) fun i j hi _ => by obtain rfl : i = 0 := (by omega); rfl) _)
    (M2.congr (g := fun _ j => B.nt O 21 j) (p_k0_pay70 (kB_r_13 H K) (kB_v423 H K) (kB_v425 H K)) fun i j hi _ => by obtain rfl : i = 0 := (by omega); rfl) _)
    (M2.congr (g := fun _ j => B.nt O 22 j) (p_k0_pay72 (kB_r_13 H K) (kB_v437 H K) (kB_v439 H K)) fun i j hi _ => by obtain rfl : i = 0 := (by omega); rfl) _)
    (M2.congr (g := fun _ j => B.nt O 23 j) (p_k0_pay73 (kB_r_13 H K) (kB_v451 H K) (kB_v453 H K)) fun i j hi _ => by obtain rfl : i = 0 := (by omega); rfl) _)
    (M2.congr (g := fun _ j => B.nt O 24 j) (p_k0_pay77 (kB_r_33 H K) (kB_r_34 H K)) fun i j hi _ => by obtain rfl : i = 0 := (by omega); rfl) _)
    (M2.congr (g := fun _ j => B.nt O 25 j) (p_k0_pay78 (kB_r_13 H K) (kB_v479 H K) (kB_v481 H K)) fun i j hi _ => by obtain rfl : i = 0 := (by omega); rfl) _)
    (M2.congr (g := fun _ j => B.nt O 26 j) (p_k0_pay80 (kB_r_13 H K) (kB_v493 H K) (kB_v495 H K)) fun i j hi _ => by obtain rfl : i = 0 := (by omega); rfl) _)
    (M2.congr (g := fun _ j => B.nt O 27 j) (p_k0_pay81 (kB_r_13 H K) (kB_v507 H K) (kB_v509 H K)) fun i j hi _ => by obtain rfl : i = 0 := (by omega); rfl) _)
    (M2.congr (g := fun _ j => B.nt O 28 j) (p_k0_pay83 (kB_r_13 H K) (kB_v521 H K) (kB_v523 H K)) fun i j hi _ => by obtain rfl : i = 0 := (by omega); rfl) _)
    (M2.congr (g := fun _ j => B.nt O 29 j) (p_k0_pay85 (kB_r_13 H K) (kB_v535 H K) (kB_v537 H K)) fun i j hi _ => by obtain rfl : i = 0 := (by omega); rfl) _)
    (M2.congr (g := fun _ j => B.nt O 30 j) (p_k0_pay86 (kB_r_13 H K) (kB_v549 H K) (kB_v551 H K)) fun i j hi _ => by obtain rfl : i = 0 := (by omega); rfl) _) fun i j _ _ => rfl

theorem kB_o13 : M2 (n := 1) (m := 256) (eB_o13 m c t h p) (B.n13 O) :=
  M2.congr (M2.putw (p_k0_pay32 (kB_r_3 H K) (kB_r_4 H K) (kB_r_10 H K) (kB_r_11 H K) (kB_r_12 H K) (M2.ldz (n := 1) _ K.h13 _)) _) fun i j _ _ => rfl

theorem kB_o14 : M2 (n := 1) (m := 256) (eB_o14 m c t h p) (B.n14 O) :=
  M2.congr (M2.putw (p_k0_pay26 (kB_r_4 H K) (kB_r_6 H K) (kB_r_7 H K) (kB_r_9 H K) (M2.ldz' (n := 256) _ H.h9 _) (M2.ldz (n := 1) _ K.h14 _)) _) fun i j _ _ => rfl

theorem kB_o15 : M2 (n := 1) (m := 256) (eB_o15 m c t h p) (B.n15 O) :=
  M2.congr (M2.putw (p_k0_pay27 (kB_r_6 H K) (kB_r_7 H K) (kB_r_9 H K) (M2.ldz' (n := 256) _ H.h9 _) (M2.ldz (n := 1) _ K.h15 _)) _) fun i j _ _ => rfl

theorem kB_o16 : M2 (n := 256) (m := 256) (eB_o16 m c t h p) (B.n16 O) :=
  M2.congr (M2.putw (p_k0_pay24 (kB_r_8 H K) (kB_r_9 H K) (M2.ldz (n := 256) _ K.h16 _)) _) fun i j _ _ => rfl

theorem kB_osc : M2 (n := 800) (m := 256) (eB_sc m c t h p) (B.scr) :=
  M2.congr (M2.put (o := 768) (n := 32) (F := B.DL) (p_k0_pay1 (kB_v563 H K)) _
    (fun i hi => (M2.put0 (o := 0) (n := 768) (M2.congr (p_k0_pay33 (kB_r_3 H K) (kB_r_4 H K) (kB_r_10 H K) (kB_r_11 H K) (kB_r_12 H K)) fun i j _ _ => rfl : M2 _ B.DL) _ i (by have h : (i 0).val < 800 := (i 0).isLt; omega)).trans rfl))
    fun i j hi _ => B.scr_eq _ (fun _ _ _ => rfl) (fun i j => B.X O.S (0 + i) j) (fun i j h => by rw [Nat.zero_add]; exact if_pos (by omega)) i j hi

end Point

end Cert.KernelIdeal.Gen

end
-- ==== Proof.Final.lean ====
/- The kernel's seven results after its last point. -/
module

public import proofs.«01_k».proof.Proof.Block
public import proofs.«01_k».proof.Proof.WordsA
public import proofs.«01_k».proof.Proof.WordsB

@[expose] public section

set_option maxRecDepth 16384

noncomputable section

namespace Cert.KernelIdeal.Gen

open Cert.KernelIdeal Idealize.ShloMosaic Cert.Calc Cert.Spec Finset TcCoe StableHlo Cert.KernelIdeal.Track

variable {m : (ℓ : Loc nD τ sig) → Buf (Elt Ideal) ℓ} {c : Dev nD} {A : Args}
variable (H : Holds A (m (c, Proc.devRef .tc main_arg0)) (m (c, Proc.devRef .tc main_arg1)) (m (c, Proc.devRef .tc main_arg2))
  (m (c, Proc.devRef .tc main_arg3)) (m (c, Proc.devRef .tc main_arg4)) (m (c, Proc.devRef .tc main_arg5)) (m (c, Proc.devRef .tc main_arg6)))
include H

/-- What the point of tile `p` leaves: the sums over the tiles from `p` on, and the tile's own rows. -/
structure Inv (A : Args) (p : ℕ) (o10 o11 : Vec Ideal S768x256 .bf16) (o12 : Vec Ideal S32x256 .f32) (o13 o14 o15 : Vec Ideal S1x256 .f32)
    (o16 : Vec Ideal S256x256 .f32) (sc : Vec Ideal S800x256 .f32) : Prop where
  carry : HO (A.left p) o12 o13 o14 o15 o16 sc
  r0 : M2 (n := 768) (m := 256) o10 (fun i j => A.r0 (p * 768 + i) j)
  r1 : M2 (n := 768) (m := 256) o11 (fun i j => A.r1 (p * 768 + i) j)

theorem inv_first (t : Fin cfg0.N) (h : t.val % 11 = 0) (h0 : t.val = 0) : Inv A (10 - t.val)
    (eA_o10 m c t h) (eA_o11 m c t h) (eA_o12 m c t h) (eA_o13 m c t h) (eA_o14 m c t h) (eA_o15 m c t h) (eA_o16 m c t h) (eA_sc m c t h) := by
  have B := hb H t
  have e : 10 - t.val = 10 := by omega
  rw [e] at B ⊢
  exact {
    carry := {
      h12 := M2.congr (kA_o12 h B) fun i j _ _ => A.first12 i j
      h13 := M2.congr (kA_o13 h B) fun i j _ _ => A.first13 i j
      h14 := M2.congr (kA_o14 h B) fun i j _ _ => A.first14 i j
      h15 := M2.congr (kA_o15 h B) fun i j _ _ => A.first15 i j
      h16 := M2.congr (kA_o16 h B) fun i j _ _ => A.first16 i j
      hs := M2.congr (kA_osc h B) fun i j hi _ => A.scr_left 10 i j le_rfl hi }
    r0 := M2.congr (kA_o10 h B) fun i j hi _ => A.out0_eq 10 i j le_rfl hi _ (A.zero_S j)
    r1 := M2.congr (kA_o11 h B) fun i j hi _ => A.out1_eq 10 i j le_rfl hi _ (A.zero_S j) }

theorem inv_later (t : Fin cfg0.N) (h : ¬t.val % 11 = 0) {p : ℕ} (hp : p ≤ 9) (ht : 10 - t.val = p) (s : St Ideal) (K : Inv A (p + 1) s.o10 s.o11 s.o12 s.o13 s.o14 s.o15 s.o16 s.sc) :
    Inv A p (eB_o10 m c t h s) (eB_o11 m c t h s) (eB_o12 m c t h s) (eB_o13 m c t h s) (eB_o14 m c t h s) (eB_o15 m c t h s) (eB_o16 m c t h s) (eB_sc m c t h s) := by
  have B := hb H t
  rw [ht] at B
  exact {
    carry := {
      h12 := M2.congr (kB_o12 h B K.carry) fun i j _ _ => A.step12 p i j hp
      h13 := M2.congr (kB_o13 h B K.carry) fun i j _ _ => A.step13 p i j hp
      h14 := M2.congr (kB_o14 h B K.carry) fun i j _ _ => A.step14 p i j hp
      h15 := M2.congr (kB_o15 h B K.carry) fun i j _ _ => A.step15 p i j hp
      h16 := M2.congr (kB_o16 h B K.carry) fun i j _ _ => A.step16 p i j hp
      hs := M2.congr (kB_osc h B K.carry) fun i j hi _ => A.scr_left p i j (by omega) hi }
    r0 := M2.congr (kB_o10 h B K.carry) fun i j hi _ => A.out0_eq p i j (by omega) hi _ (A.left_S p j)
    r1 := M2.congr (kB_o11 h B K.carry) fun i j hi _ => A.out1_eq p i j (by omega) hi _ (A.left_S p j) }

theorem inv : ∀ (n : ℕ) (hn : n < cfg0.N), Inv A (10 - n) (st m c n hn).o10 (st m c n hn).o11 (st m c n hn).o12 (st m c n hn).o13 (st m c n hn).o14 (st m c n hn).o15 (st m c n hn).o16 (st m c n hn).sc
  | 0, hn => by
    rw [st_A m c ⟨0, hn⟩ (Nat.zero_mod _)]
    dsimp only [stA]
    exact inv_first H ⟨0, hn⟩ _ rfl
  | n + 1, hn => by
    have hc := (coord ⟨n + 1, hn⟩).2
    have hc : n + 1 ≤ 10 := hc
    have h : ¬(n + 1) % 11 = 0 := by omega
    rw [st_B m c ⟨n + 1, hn⟩ h]
    dsimp only [stB]
    refine inv_later H ⟨n + 1, hn⟩ h (p := 10 - (n + 1)) (by omega) rfl _ ?_
    have := inv n (Nat.lt_of_succ_lt hn)
    rwa [show 10 - n = 10 - (n + 1) + 1 by omega] at this

theorem f10 : M2 (n := 8448) (m := 256) ((dats m 0 c).arrAt 10 cfg0.N) A.r0 := fun i => by
  have e : (dats m 0 c).arrAt 10 cfg0.N = fun i : (T2 8448 256).Idx => ((A.r0 (i 0).val (i 1).val : ℝ) : EReal) := by
    refine (dats m 0 c).arrAt_eq_of_covers 10 _ (by decide +kernel) fun t hf y => ?_
    blk_simp
    rw [after0_10]
    refine ((inv H t.val t.isLt).r0 _).trans ?_
    blk_simp [idx t]
  exact congrFun e i

theorem f11 : M2 (n := 8448) (m := 256) ((dats m 0 c).arrAt 11 cfg0.N) A.r1 := fun i => by
  have e : (dats m 0 c).arrAt 11 cfg0.N = fun i : (T2 8448 256).Idx => ((A.r1 (i 0).val (i 1).val : ℝ) : EReal) := by
    refine (dats m 0 c).arrAt_eq_of_covers 11 _ (by decide +kernel) fun t hf y => ?_
    blk_simp
    rw [after0_11]
    refine ((inv H t.val t.isLt).r1 _).trans ?_
    blk_simp [idx t]
  exact congrFun e i

theorem f12 : M2 (n := 32) (m := 256) ((dats m 0 c).arrAt 12 cfg0.N) A.r2 := fun i => by
  have e : (dats m 0 c).arrAt 12 cfg0.N = fun i : (T2 32 256).Idx => ((A.r2 (i 0).val (i 1).val : ℝ) : EReal) := by
    refine (dats m 0 c).arrAt_eq_of_covers 12 _ (by decide +kernel) fun t hf y => ?_
    have hl := (flush0_12 t).1 hf
    have hc := (coord t).2
    blk_simp
    rw [after0_12]
    have K := inv H t.val t.isLt
    rw [show 10 - t.val = 0 by omega] at K
    refine (K.carry.h12 _).trans ?_
    blk_simp [idx t, A.end12]
  exact congrFun e i

theorem f13 : M2 (n := 1) (m := 256) ((dats m 0 c).arrAt 13 cfg0.N) (fun _ j => A.r3 j) := fun i => by
  have e : (dats m 0 c).arrAt 13 cfg0.N = fun i : (T2 1 256).Idx => (((fun _ j => A.r3 j) (i 0).val (i 1).val : ℝ) : EReal) := by
    refine (dats m 0 c).arrAt_eq_of_covers 13 _ (by decide +kernel) fun t hf y => ?_
    have hl := (flush0_13 t).1 hf
    have hc := (coord t).2
    blk_simp
    rw [after0_13]
    have K := inv H t.val t.isLt
    rw [show 10 - t.val = 0 by omega] at K
    refine (K.carry.h13 _).trans ?_
    blk_simp [idx t, A.end13]
  exact congrFun e i

theorem f14 : M2 (n := 1) (m := 256) ((dats m 0 c).arrAt 14 cfg0.N) (fun _ j => A.r4 j) := fun i => by
  have e : (dats m 0 c).arrAt 14 cfg0.N = fun i : (T2 1 256).Idx => (((fun _ j => A.r4 j) (i 0).val (i 1).val : ℝ) : EReal) := by
    refine (dats m 0 c).arrAt_eq_of_covers 14 _ (by decide +kernel) fun t hf y => ?_
    have hl := (flush0_14 t).1 hf
    have hc := (coord t).2
    blk_simp
    rw [after0_14]
    have K := inv H t.val t.isLt
    rw [show 10 - t.val = 0 by omega] at K
    refine (K.carry.h14 _).trans ?_
    blk_simp [idx t, A.end14]
  exact congrFun e i

theorem f15 : M2 (n := 1) (m := 256) ((dats m 0 c).arrAt 15 cfg0.N) (fun _ j => A.r5 j) := fun i => by
  have e : (dats m 0 c).arrAt 15 cfg0.N = fun i : (T2 1 256).Idx => (((fun _ j => A.r5 j) (i 0).val (i 1).val : ℝ) : EReal) := by
    refine (dats m 0 c).arrAt_eq_of_covers 15 _ (by decide +kernel) fun t hf y => ?_
    have hl := (flush0_15 t).1 hf
    have hc := (coord t).2
    blk_simp
    rw [after0_15]
    have K := inv H t.val t.isLt
    rw [show 10 - t.val = 0 by omega] at K
    refine (K.carry.h15 _).trans ?_
    blk_simp [idx t, A.end15]
  exact congrFun e i

theorem f16 : M2 (n := 256) (m := 256) ((dats m 0 c).arrAt 16 cfg0.N) A.r6 := fun i => by
  have e : (dats m 0 c).arrAt 16 cfg0.N = fun i : (T2 256 256).Idx => ((A.r6 (i 0).val (i 1).val : ℝ) : EReal) := by
    refine (dats m 0 c).arrAt_eq_of_covers 16 _ (by decide +kernel) fun t hf y => ?_
    have hl := (flush0_16 t).1 hf
    have hc := (coord t).2
    blk_simp
    rw [after0_16]
    have K := inv H t.val t.isLt
    rw [show 10 - t.val = 0 by omega] at K
    refine (K.carry.h16 _).trans ?_
    blk_simp [idx t, A.end16]
  exact congrFun e i

end Cert.KernelIdeal.Gen

end
-- ==== Proof.Ref.lean ====
/- The reference's results, one operation at a time, as the numbers of the gradient they are. -/
module

public import proofs.«01_k».proof.Proof.Goal
public import proofs.«01_k».proof.Proof.Gen.ReferenceIdeal.Read

@[expose] public section

set_option maxRecDepth 16384

noncomputable section

namespace Cert.ReferenceIdeal.Read

open Idealize.ShloMosaic Cert.Calc Cert.Spec Finset

variable {A : Args} {x0 : (⟨S1x8208x2816, .f32⟩ : BufTy).Contents (Elt Ideal)} {x1 : (⟨S1x8208x1024, .f32⟩ : BufTy).Contents (Elt Ideal)}
  {x2 : (⟨S31x256, .f32⟩ : BufTy).Contents (Elt Ideal)} {x3 x4 x5 : (⟨S256, .f32⟩ : BufTy).Contents (Elt Ideal)}
  {x6 : (⟨S256x256, .f32⟩ : BufTy).Contents (Elt Ideal)} (H : Holds A x0 x1 x2 x3 x4 x5 x6)
include H

theorem s_v0 : M3 (val_main_v0 (F := Ideal) x0) (fun i j => A.z (0 + i) (256 + j)) := M3.slice H.h0 0 256 _

theorem s_v1 : M2 (val_main_v1 (F := Ideal) x0) (fun i j => A.a i j) := (M2.congr (M3.drop (s_v0 H) _) fun i j hi hj => by show A.z (0 + i) (256 + j) = _; rw [Nat.zero_add]; rfl)

theorem s_v2 : M3 (val_main_v2 (F := Ideal) x0) (fun i j => A.z (0 + i) (512 + j)) := M3.slice H.h0 0 512 _

theorem s_v3 : M2 (val_main_v3 (F := Ideal) x0) (fun i j => A.gt i j) := (M2.congr (M3.drop (s_v2 H) _) fun i j hi hj => by show A.z (0 + i) (512 + j) = _; rw [Nat.zero_add]; rfl)

theorem s_v4 : M2 (val_main_v4 (F := Ideal) x0) (fun i j => -(A.gt i j)) := M2.hnegf (s_v3 H)

theorem s_v5 : M2 (val_main_v5 (F := Ideal) x0) (fun i j => Real.exp (-(A.gt i j))) := M2.hexp (s_v4 H)

theorem s_cst : M0 (val_main_cst (F := Ideal)) (1) := M0.const bits_one

theorem s_v6 : M2 (val_main_v6 (F := Ideal)) (fun i j => 1) := M2.splat (s_cst H) _

theorem s_v7 : M2 (val_main_v7 (F := Ideal) x0) (fun i j => 1 + (Real.exp (-(A.gt i j)))) := M2.addf (s_v6 H) (s_v5 H)

theorem s_cst_0 : M0 (val_main_cst_0 (F := Ideal)) (1) := M0.const bits_one

theorem s_v8 : M2 (val_main_v8 (F := Ideal)) (fun i j => 1) := M2.splat (s_cst_0 H) _

theorem s_v9 : M2 (val_main_v9 (F := Ideal) x0) (fun i j => sg (A.gt i j)) := (M2.congr (M2.hdivf (s_v8 H) (s_v7 H) (fun _ _ => (one_add_exp_pos _).ne')) fun i j hi hj => rfl)

theorem s_cst_1 : M0 (val_main_cst_1 (F := Ideal)) (1) := M0.const bits_one

theorem s_v10 : M2 (val_main_v10 (F := Ideal)) (fun i j => 1) := M2.splat (s_cst_1 H) _

theorem s_v11 : M2 (val_main_v11 (F := Ideal) x0) (fun i j => 1 - (sg (A.gt i j))) := M2.subf (s_v10 H) (s_v9 H)

theorem s_v12 : M2 (val_main_v12 (F := Ideal) x0) (fun i j => (sg (A.gt i j)) * (1 - (sg (A.gt i j)))) := M2.mulf (s_v9 H) (s_v11 H)

theorem s_v13 : M2 (val_main_v13 (F := Ideal) x0) (fun i j => Spec.u A.a A.gt i j) := (M2.congr (M2.mulf (s_v1 H) (s_v9 H)) fun i j hi hj => rfl)

theorem s_cst_2 : M0 (val_main_cst_2 (F := Ideal)) (0) := M0.const bits_zero

theorem s_v14 : M2 (val_main_v14 (F := Ideal)) (fun i j => 0) := M2.splat (s_cst_2 H) _

theorem s_v15 : M2 (val_main_v15 (F := Ideal) x0) (fun i j => A.up i j) := (M2.congr (M2.concat (s_v14 H) (s_v13 H) _) fun i j hi hj => rfl)

theorem s_cst_3 : M0 (val_main_cst_3 (F := Ideal)) (0) := M0.const bits_zero

theorem s_v17 : M2 (val_main_v17 (F := Ideal) x0) (fun i j => A.up (0 + i) j) := (M2.congr (M2.slice (s_v15 H) 0 0 _) fun i j hi hj => congrArg _ (Nat.zero_add j))

theorem s_v18 : M2 (val_main_v18 (F := Ideal) x2) (fun i j => A.w 0 j) := (M2.congr (M2.slice H.h2 0 0 _) fun i j hi hj => by rw [show i = 0 by omega]; exact congrArg _ (Nat.zero_add j))

theorem s_v19 : M2 (val_main_v19 (F := Ideal) x2) (fun i j => A.w 0 j) := M2.down (s_v18 H) _ (by decide)

theorem s_v20 : M2 (val_main_v20 (F := Ideal) x0 x2) (fun i j => (A.up (0 + i) j) * (A.w 0 j)) := M2.mulf (s_v17 H) (s_v19 H)

theorem s_cst_4 : M0 (val_main_cst_4 (F := Ideal)) (0) := M0.const bits_zero

theorem s_v21 : M2 (val_main_v21 (F := Ideal)) (fun i j => 0) := M2.splat (s_cst_4 H) _

theorem s_v22 : M2 (val_main_v22 (F := Ideal) x0 x2) (fun i j => ∑ k ∈ range 1, A.up (k + i) j * A.w k j) := (M2.congr (M2.addf (s_v21 H) (s_v20 H)) fun i j hi hj => by rw [Finset.sum_range_one, zero_add])

theorem s_v23 : M2 (val_main_v23 (F := Ideal) x0) (fun i j => A.up (1 + i) j) := (M2.congr (M2.slice (s_v15 H) 1 0 _) fun i j hi hj => congrArg _ (Nat.zero_add j))

theorem s_v24 : M2 (val_main_v24 (F := Ideal) x2) (fun i j => A.w 1 j) := (M2.congr (M2.slice H.h2 1 0 _) fun i j hi hj => by rw [show i = 0 by omega]; exact congrArg _ (Nat.zero_add j))

theorem s_v25 : M2 (val_main_v25 (F := Ideal) x2) (fun i j => A.w 1 j) := M2.down (s_v24 H) _ (by decide)

theorem s_v26 : M2 (val_main_v26 (F := Ideal) x0 x2) (fun i j => (A.up (1 + i) j) * (A.w 1 j)) := M2.mulf (s_v23 H) (s_v25 H)

theorem s_v27 : M2 (val_main_v27 (F := Ideal) x0 x2) (fun i j => ∑ k ∈ range 2, A.up (k + i) j * A.w k j) := (M2.congr (M2.addf (s_v22 H) (s_v26 H)) fun i j hi hj => (Finset.sum_range_succ _ _).symm)

theorem s_v28 : M2 (val_main_v28 (F := Ideal) x0) (fun i j => A.up (2 + i) j) := (M2.congr (M2.slice (s_v15 H) 2 0 _) fun i j hi hj => congrArg _ (Nat.zero_add j))

theorem s_v29 : M2 (val_main_v29 (F := Ideal) x2) (fun i j => A.w 2 j) := (M2.congr (M2.slice H.h2 2 0 _) fun i j hi hj => by rw [show i = 0 by omega]; exact congrArg _ (Nat.zero_add j))

theorem s_v30 : M2 (val_main_v30 (F := Ideal) x2) (fun i j => A.w 2 j) := M2.down (s_v29 H) _ (by decide)

theorem s_v31 : M2 (val_main_v31 (F := Ideal) x0 x2) (fun i j => (A.up (2 + i) j) * (A.w 2 j)) := M2.mulf (s_v28 H) (s_v30 H)

theorem s_v32 : M2 (val_main_v32 (F := Ideal) x0 x2) (fun i j => ∑ k ∈ range 3, A.up (k + i) j * A.w k j) := (M2.congr (M2.addf (s_v27 H) (s_v31 H)) fun i j hi hj => (Finset.sum_range_succ _ _).symm)

theorem s_v33 : M2 (val_main_v33 (F := Ideal) x0) (fun i j => A.up (3 + i) j) := (M2.congr (M2.slice (s_v15 H) 3 0 _) fun i j hi hj => congrArg _ (Nat.zero_add j))

theorem s_v34 : M2 (val_main_v34 (F := Ideal) x2) (fun i j => A.w 3 j) := (M2.congr (M2.slice H.h2 3 0 _) fun i j hi hj => by rw [show i = 0 by omega]; exact congrArg _ (Nat.zero_add j))

theorem s_v35 : M2 (val_main_v35 (F := Ideal) x2) (fun i j => A.w 3 j) := M2.down (s_v34 H) _ (by decide)

theorem s_v36 : M2 (val_main_v36 (F := Ideal) x0 x2) (fun i j => (A.up (3 + i) j) * (A.w 3 j)) := M2.mulf (s_v33 H) (s_v35 H)

theorem s_v37 : M2 (val_main_v37 (F := Ideal) x0 x2) (fun i j => ∑ k ∈ range 4, A.up (k + i) j * A.w k j) := (M2.congr (M2.addf (s_v32 H) (s_v36 H)) fun i j hi hj => (Finset.sum_range_succ _ _).symm)

theorem s_v38 : M2 (val_main_v38 (F := Ideal) x0) (fun i j => A.up (4 + i) j) := (M2.congr (M2.slice (s_v15 H) 4 0 _) fun i j hi hj => congrArg _ (Nat.zero_add j))

theorem s_v39 : M2 (val_main_v39 (F := Ideal) x2) (fun i j => A.w 4 j) := (M2.congr (M2.slice H.h2 4 0 _) fun i j hi hj => by rw [show i = 0 by omega]; exact congrArg _ (Nat.zero_add j))

theorem s_v40 : M2 (val_main_v40 (F := Ideal) x2) (fun i j => A.w 4 j) := M2.down (s_v39 H) _ (by decide)

theorem s_v41 : M2 (val_main_v41 (F := Ideal) x0 x2) (fun i j => (A.up (4 + i) j) * (A.w 4 j)) := M2.mulf (s_v38 H) (s_v40 H)

theorem s_v42 : M2 (val_main_v42 (F := Ideal) x0 x2) (fun i j => ∑ k ∈ range 5, A.up (k + i) j * A.w k j) := (M2.congr (M2.addf (s_v37 H) (s_v41 H)) fun i j hi hj => (Finset.sum_range_succ _ _).symm)

theorem s_v43 : M2 (val_main_v43 (F := Ideal) x0) (fun i j => A.up (5 + i) j) := (M2.congr (M2.slice (s_v15 H) 5 0 _) fun i j hi hj => congrArg _ (Nat.zero_add j))

theorem s_v44 : M2 (val_main_v44 (F := Ideal) x2) (fun i j => A.w 5 j) := (M2.congr (M2.slice H.h2 5 0 _) fun i j hi hj => by rw [show i = 0 by omega]; exact congrArg _ (Nat.zero_add j))

theorem s_v45 : M2 (val_main_v45 (F := Ideal) x2) (fun i j => A.w 5 j) := M2.down (s_v44 H) _ (by decide)

theorem s_v46 : M2 (val_main_v46 (F := Ideal) x0 x2) (fun i j => (A.up (5 + i) j) * (A.w 5 j)) := M2.mulf (s_v43 H) (s_v45 H)

theorem s_v47 : M2 (val_main_v47 (F := Ideal) x0 x2) (fun i j => ∑ k ∈ range 6, A.up (k + i) j * A.w k j) := (M2.congr (M2.addf (s_v42 H) (s_v46 H)) fun i j hi hj => (Finset.sum_range_succ _ _).symm)

theorem s_v48 : M2 (val_main_v48 (F := Ideal) x0) (fun i j => A.up (6 + i) j) := (M2.congr (M2.slice (s_v15 H) 6 0 _) fun i j hi hj => congrArg _ (Nat.zero_add j))

theorem s_v49 : M2 (val_main_v49 (F := Ideal) x2) (fun i j => A.w 6 j) := (M2.congr (M2.slice H.h2 6 0 _) fun i j hi hj => by rw [show i = 0 by omega]; exact congrArg _ (Nat.zero_add j))

theorem s_v50 : M2 (val_main_v50 (F := Ideal) x2) (fun i j => A.w 6 j) := M2.down (s_v49 H) _ (by decide)

theorem s_v51 : M2 (val_main_v51 (F := Ideal) x0 x2) (fun i j => (A.up (6 + i) j) * (A.w 6 j)) := M2.mulf (s_v48 H) (s_v50 H)

theorem s_v52 : M2 (val_main_v52 (F := Ideal) x0 x2) (fun i j => ∑ k ∈ range 7, A.up (k + i) j * A.w k j) := (M2.congr (M2.addf (s_v47 H) (s_v51 H)) fun i j hi hj => (Finset.sum_range_succ _ _).symm)

theorem s_v53 : M2 (val_main_v53 (F := Ideal) x0) (fun i j => A.up (7 + i) j) := (M2.congr (M2.slice (s_v15 H) 7 0 _) fun i j hi hj => congrArg _ (Nat.zero_add j))

theorem s_v54 : M2 (val_main_v54 (F := Ideal) x2) (fun i j => A.w 7 j) := (M2.congr (M2.slice H.h2 7 0 _) fun i j hi hj => by rw [show i = 0 by omega]; exact congrArg _ (Nat.zero_add j))

theorem s_v55 : M2 (val_main_v55 (F := Ideal) x2) (fun i j => A.w 7 j) := M2.down (s_v54 H) _ (by decide)

theorem s_v56 : M2 (val_main_v56 (F := Ideal) x0 x2) (fun i j => (A.up (7 + i) j) * (A.w 7 j)) := M2.mulf (s_v53 H) (s_v55 H)

theorem s_v57 : M2 (val_main_v57 (F := Ideal) x0 x2) (fun i j => ∑ k ∈ range 8, A.up (k + i) j * A.w k j) := (M2.congr (M2.addf (s_v52 H) (s_v56 H)) fun i j hi hj => (Finset.sum_range_succ _ _).symm)

theorem s_v58 : M2 (val_main_v58 (F := Ideal) x0) (fun i j => A.up (8 + i) j) := (M2.congr (M2.slice (s_v15 H) 8 0 _) fun i j hi hj => congrArg _ (Nat.zero_add j))

theorem s_v59 : M2 (val_main_v59 (F := Ideal) x2) (fun i j => A.w 8 j) := (M2.congr (M2.slice H.h2 8 0 _) fun i j hi hj => by rw [show i = 0 by omega]; exact congrArg _ (Nat.zero_add j))

theorem s_v60 : M2 (val_main_v60 (F := Ideal) x2) (fun i j => A.w 8 j) := M2.down (s_v59 H) _ (by decide)

theorem s_v61 : M2 (val_main_v61 (F := Ideal) x0 x2) (fun i j => (A.up (8 + i) j) * (A.w 8 j)) := M2.mulf (s_v58 H) (s_v60 H)

theorem s_v62 : M2 (val_main_v62 (F := Ideal) x0 x2) (fun i j => ∑ k ∈ range 9, A.up (k + i) j * A.w k j) := (M2.congr (M2.addf (s_v57 H) (s_v61 H)) fun i j hi hj => (Finset.sum_range_succ _ _).symm)

theorem s_v63 : M2 (val_main_v63 (F := Ideal) x0) (fun i j => A.up (9 + i) j) := (M2.congr (M2.slice (s_v15 H) 9 0 _) fun i j hi hj => congrArg _ (Nat.zero_add j))

theorem s_v64 : M2 (val_main_v64 (F := Ideal) x2) (fun i j => A.w 9 j) := (M2.congr (M2.slice H.h2 9 0 _) fun i j hi hj => by rw [show i = 0 by omega]; exact congrArg _ (Nat.zero_add j))

theorem s_v65 : M2 (val_main_v65 (F := Ideal) x2) (fun i j => A.w 9 j) := M2.down (s_v64 H) _ (by decide)

theorem s_v66 : M2 (val_main_v66 (F := Ideal) x0 x2) (fun i j => (A.up (9 + i) j) * (A.w 9 j)) := M2.mulf (s_v63 H) (s_v65 H)

theorem s_v67 : M2 (val_main_v67 (F := Ideal) x0 x2) (fun i j => ∑ k ∈ range 10, A.up (k + i) j * A.w k j) := (M2.congr (M2.addf (s_v62 H) (s_v66 H)) fun i j hi hj => (Finset.sum_range_succ _ _).symm)

theorem s_v68 : M2 (val_main_v68 (F := Ideal) x0) (fun i j => A.up (10 + i) j) := (M2.congr (M2.slice (s_v15 H) 10 0 _) fun i j hi hj => congrArg _ (Nat.zero_add j))

theorem s_v69 : M2 (val_main_v69 (F := Ideal) x2) (fun i j => A.w 10 j) := (M2.congr (M2.slice H.h2 10 0 _) fun i j hi hj => by rw [show i = 0 by omega]; exact congrArg _ (Nat.zero_add j))

theorem s_v70 : M2 (val_main_v70 (F := Ideal) x2) (fun i j => A.w 10 j) := M2.down (s_v69 H) _ (by decide)

theorem s_v71 : M2 (val_main_v71 (F := Ideal) x0 x2) (fun i j => (A.up (10 + i) j) * (A.w 10 j)) := M2.mulf (s_v68 H) (s_v70 H)

theorem s_v72 : M2 (val_main_v72 (F := Ideal) x0 x2) (fun i j => ∑ k ∈ range 11, A.up (k + i) j * A.w k j) := (M2.congr (M2.addf (s_v67 H) (s_v71 H)) fun i j hi hj => (Finset.sum_range_succ _ _).symm)

theorem s_v73 : M2 (val_main_v73 (F := Ideal) x0) (fun i j => A.up (11 + i) j) := (M2.congr (M2.slice (s_v15 H) 11 0 _) fun i j hi hj => congrArg _ (Nat.zero_add j))

theorem s_v74 : M2 (val_main_v74 (F := Ideal) x2) (fun i j => A.w 11 j) := (M2.congr (M2.slice H.h2 11 0 _) fun i j hi hj => by rw [show i = 0 by omega]; exact congrArg _ (Nat.zero_add j))

theorem s_v75 : M2 (val_main_v75 (F := Ideal) x2) (fun i j => A.w 11 j) := M2.down (s_v74 H) _ (by decide)

theorem s_v76 : M2 (val_main_v76 (F := Ideal) x0 x2) (fun i j => (A.up (11 + i) j) * (A.w 11 j)) := M2.mulf (s_v73 H) (s_v75 H)

theorem s_v77 : M2 (val_main_v77 (F := Ideal) x0 x2) (fun i j => ∑ k ∈ range 12, A.up (k + i) j * A.w k j) := (M2.congr (M2.addf (s_v72 H) (s_v76 H)) fun i j hi hj => (Finset.sum_range_succ _ _).symm)

theorem s_v78 : M2 (val_main_v78 (F := Ideal) x0) (fun i j => A.up (12 + i) j) := (M2.congr (M2.slice (s_v15 H) 12 0 _) fun i j hi hj => congrArg _ (Nat.zero_add j))

theorem s_v79 : M2 (val_main_v79 (F := Ideal) x2) (fun i j => A.w 12 j) := (M2.congr (M2.slice H.h2 12 0 _) fun i j hi hj => by rw [show i = 0 by omega]; exact congrArg _ (Nat.zero_add j))

theorem s_v80 : M2 (val_main_v80 (F := Ideal) x2) (fun i j => A.w 12 j) := M2.down (s_v79 H) _ (by decide)

theorem s_v81 : M2 (val_main_v81 (F := Ideal) x0 x2) (fun i j => (A.up (12 + i) j) * (A.w 12 j)) := M2.mulf (s_v78 H) (s_v80 H)

theorem s_v82 : M2 (val_main_v82 (F := Ideal) x0 x2) (fun i j => ∑ k ∈ range 13, A.up (k + i) j * A.w k j) := (M2.congr (M2.addf (s_v77 H) (s_v81 H)) fun i j hi hj => (Finset.sum_range_succ _ _).symm)

theorem s_v83 : M2 (val_main_v83 (F := Ideal) x0) (fun i j => A.up (13 + i) j) := (M2.congr (M2.slice (s_v15 H) 13 0 _) fun i j hi hj => congrArg _ (Nat.zero_add j))

theorem s_v84 : M2 (val_main_v84 (F := Ideal) x2) (fun i j => A.w 13 j) := (M2.congr (M2.slice H.h2 13 0 _) fun i j hi hj => by rw [show i = 0 by omega]; exact congrArg _ (Nat.zero_add j))

theorem s_v85 : M2 (val_main_v85 (F := Ideal) x2) (fun i j => A.w 13 j) := M2.down (s_v84 H) _ (by decide)

theorem s_v86 : M2 (val_main_v86 (F := Ideal) x0 x2) (fun i j => (A.up (13 + i) j) * (A.w 13 j)) := M2.mulf (s_v83 H) (s_v85 H)

theorem s_v87 : M2 (val_main_v87 (F := Ideal) x0 x2) (fun i j => ∑ k ∈ range 14, A.up (k + i) j * A.w k j) := (M2.congr (M2.addf (s_v82 H) (s_v86 H)) fun i j hi hj => (Finset.sum_range_succ _ _).symm)

theorem s_v88 : M2 (val_main_v88 (F := Ideal) x0) (fun i j => A.up (14 + i) j) := (M2.congr (M2.slice (s_v15 H) 14 0 _) fun i j hi hj => congrArg _ (Nat.zero_add j))

theorem s_v89 : M2 (val_main_v89 (F := Ideal) x2) (fun i j => A.w 14 j) := (M2.congr (M2.slice H.h2 14 0 _) fun i j hi hj => by rw [show i = 0 by omega]; exact congrArg _ (Nat.zero_add j))

theorem s_v90 : M2 (val_main_v90 (F := Ideal) x2) (fun i j => A.w 14 j) := M2.down (s_v89 H) _ (by decide)

theorem s_v91 : M2 (val_main_v91 (F := Ideal) x0 x2) (fun i j => (A.up (14 + i) j) * (A.w 14 j)) := M2.mulf (s_v88 H) (s_v90 H)

theorem s_v92 : M2 (val_main_v92 (F := Ideal) x0 x2) (fun i j => ∑ k ∈ range 15, A.up (k + i) j * A.w k j) := (M2.congr (M2.addf (s_v87 H) (s_v91 H)) fun i j hi hj => (Finset.sum_range_succ _ _).symm)

theorem s_v93 : M2 (val_main_v93 (F := Ideal) x0) (fun i j => A.up (15 + i) j) := (M2.congr (M2.slice (s_v15 H) 15 0 _) fun i j hi hj => congrArg _ (Nat.zero_add j))

theorem s_v94 : M2 (val_main_v94 (F := Ideal) x2) (fun i j => A.w 15 j) := (M2.congr (M2.slice H.h2 15 0 _) fun i j hi hj => by rw [show i = 0 by omega]; exact congrArg _ (Nat.zero_add j))

theorem s_v95 : M2 (val_main_v95 (F := Ideal) x2) (fun i j => A.w 15 j) := M2.down (s_v94 H) _ (by decide)

theorem s_v96 : M2 (val_main_v96 (F := Ideal) x0 x2) (fun i j => (A.up (15 + i) j) * (A.w 15 j)) := M2.mulf (s_v93 H) (s_v95 H)

theorem s_v97 : M2 (val_main_v97 (F := Ideal) x0 x2) (fun i j => ∑ k ∈ range 16, A.up (k + i) j * A.w k j) := (M2.congr (M2.addf (s_v92 H) (s_v96 H)) fun i j hi hj => (Finset.sum_range_succ _ _).symm)

theorem s_v98 : M2 (val_main_v98 (F := Ideal) x0) (fun i j => A.up (16 + i) j) := (M2.congr (M2.slice (s_v15 H) 16 0 _) fun i j hi hj => congrArg _ (Nat.zero_add j))

theorem s_v99 : M2 (val_main_v99 (F := Ideal) x2) (fun i j => A.w 16 j) := (M2.congr (M2.slice H.h2 16 0 _) fun i j hi hj => by rw [show i = 0 by omega]; exact congrArg _ (Nat.zero_add j))

theorem s_v100 : M2 (val_main_v100 (F := Ideal) x2) (fun i j => A.w 16 j) := M2.down (s_v99 H) _ (by decide)

theorem s_v101 : M2 (val_main_v101 (F := Ideal) x0 x2) (fun i j => (A.up (16 + i) j) * (A.w 16 j)) := M2.mulf (s_v98 H) (s_v100 H)

theorem s_v102 : M2 (val_main_v102 (F := Ideal) x0 x2) (fun i j => ∑ k ∈ range 17, A.up (k + i) j * A.w k j) := (M2.congr (M2.addf (s_v97 H) (s_v101 H)) fun i j hi hj => (Finset.sum_range_succ _ _).symm)

theorem s_v103 : M2 (val_main_v103 (F := Ideal) x0) (fun i j => A.up (17 + i) j) := (M2.congr (M2.slice (s_v15 H) 17 0 _) fun i j hi hj => congrArg _ (Nat.zero_add j))

theorem s_v104 : M2 (val_main_v104 (F := Ideal) x2) (fun i j => A.w 17 j) := (M2.congr (M2.slice H.h2 17 0 _) fun i j hi hj => by rw [show i = 0 by omega]; exact congrArg _ (Nat.zero_add j))

theorem s_v105 : M2 (val_main_v105 (F := Ideal) x2) (fun i j => A.w 17 j) := M2.down (s_v104 H) _ (by decide)

theorem s_v106 : M2 (val_main_v106 (F := Ideal) x0 x2) (fun i j => (A.up (17 + i) j) * (A.w 17 j)) := M2.mulf (s_v103 H) (s_v105 H)

theorem s_v107 : M2 (val_main_v107 (F := Ideal) x0 x2) (fun i j => ∑ k ∈ range 18, A.up (k + i) j * A.w k j) := (M2.congr (M2.addf (s_v102 H) (s_v106 H)) fun i j hi hj => (Finset.sum_range_succ _ _).symm)

theorem s_v108 : M2 (val_main_v108 (F := Ideal) x0) (fun i j => A.up (18 + i) j) := (M2.congr (M2.slice (s_v15 H) 18 0 _) fun i j hi hj => congrArg _ (Nat.zero_add j))

theorem s_v109 : M2 (val_main_v109 (F := Ideal) x2) (fun i j => A.w 18 j) := (M2.congr (M2.slice H.h2 18 0 _) fun i j hi hj => by rw [show i = 0 by omega]; exact congrArg _ (Nat.zero_add j))

theorem s_v110 : M2 (val_main_v110 (F := Ideal) x2) (fun i j => A.w 18 j) := M2.down (s_v109 H) _ (by decide)

theorem s_v111 : M2 (val_main_v111 (F := Ideal) x0 x2) (fun i j => (A.up (18 + i) j) * (A.w 18 j)) := M2.mulf (s_v108 H) (s_v110 H)

theorem s_v112 : M2 (val_main_v112 (F := Ideal) x0 x2) (fun i j => ∑ k ∈ range 19, A.up (k + i) j * A.w k j) := (M2.congr (M2.addf (s_v107 H) (s_v111 H)) fun i j hi hj => (Finset.sum_range_succ _ _).symm)

theorem s_v113 : M2 (val_main_v113 (F := Ideal) x0) (fun i j => A.up (19 + i) j) := (M2.congr (M2.slice (s_v15 H) 19 0 _) fun i j hi hj => congrArg _ (Nat.zero_add j))

theorem s_v114 : M2 (val_main_v114 (F := Ideal) x2) (fun i j => A.w 19 j) := (M2.congr (M2.slice H.h2 19 0 _) fun i j hi hj => by rw [show i = 0 by omega]; exact congrArg _ (Nat.zero_add j))

theorem s_v115 : M2 (val_main_v115 (F := Ideal) x2) (fun i j => A.w 19 j) := M2.down (s_v114 H) _ (by decide)

theorem s_v116 : M2 (val_main_v116 (F := Ideal) x0 x2) (fun i j => (A.up (19 + i) j) * (A.w 19 j)) := M2.mulf (s_v113 H) (s_v115 H)

theorem s_v117 : M2 (val_main_v117 (F := Ideal) x0 x2) (fun i j => ∑ k ∈ range 20, A.up (k + i) j * A.w k j) := (M2.congr (M2.addf (s_v112 H) (s_v116 H)) fun i j hi hj => (Finset.sum_range_succ _ _).symm)

theorem s_v118 : M2 (val_main_v118 (F := Ideal) x0) (fun i j => A.up (20 + i) j) := (M2.congr (M2.slice (s_v15 H) 20 0 _) fun i j hi hj => congrArg _ (Nat.zero_add j))

theorem s_v119 : M2 (val_main_v119 (F := Ideal) x2) (fun i j => A.w 20 j) := (M2.congr (M2.slice H.h2 20 0 _) fun i j hi hj => by rw [show i = 0 by omega]; exact congrArg _ (Nat.zero_add j))

theorem s_v120 : M2 (val_main_v120 (F := Ideal) x2) (fun i j => A.w 20 j) := M2.down (s_v119 H) _ (by decide)

theorem s_v121 : M2 (val_main_v121 (F := Ideal) x0 x2) (fun i j => (A.up (20 + i) j) * (A.w 20 j)) := M2.mulf (s_v118 H) (s_v120 H)

theorem s_v122 : M2 (val_main_v122 (F := Ideal) x0 x2) (fun i j => ∑ k ∈ range 21, A.up (k + i) j * A.w k j) := (M2.congr (M2.addf (s_v117 H) (s_v121 H)) fun i j hi hj => (Finset.sum_range_succ _ _).symm)

theorem s_v123 : M2 (val_main_v123 (F := Ideal) x0) (fun i j => A.up (21 + i) j) := (M2.congr (M2.slice (s_v15 H) 21 0 _) fun i j hi hj => congrArg _ (Nat.zero_add j))

theorem s_v124 : M2 (val_main_v124 (F := Ideal) x2) (fun i j => A.w 21 j) := (M2.congr (M2.slice H.h2 21 0 _) fun i j hi hj => by rw [show i = 0 by omega]; exact congrArg _ (Nat.zero_add j))

theorem s_v125 : M2 (val_main_v125 (F := Ideal) x2) (fun i j => A.w 21 j) := M2.down (s_v124 H) _ (by decide)

theorem s_v126 : M2 (val_main_v126 (F := Ideal) x0 x2) (fun i j => (A.up (21 + i) j) * (A.w 21 j)) := M2.mulf (s_v123 H) (s_v125 H)

theorem s_v127 : M2 (val_main_v127 (F := Ideal) x0 x2) (fun i j => ∑ k ∈ range 22, A.up (k + i) j * A.w k j) := (M2.congr (M2.addf (s_v122 H) (s_v126 H)) fun i j hi hj => (Finset.sum_range_succ _ _).symm)

theorem s_v128 : M2 (val_main_v128 (F := Ideal) x0) (fun i j => A.up (22 + i) j) := (M2.congr (M2.slice (s_v15 H) 22 0 _) fun i j hi hj => congrArg _ (Nat.zero_add j))

theorem s_v129 : M2 (val_main_v129 (F := Ideal) x2) (fun i j => A.w 22 j) := (M2.congr (M2.slice H.h2 22 0 _) fun i j hi hj => by rw [show i = 0 by omega]; exact congrArg _ (Nat.zero_add j))

theorem s_v130 : M2 (val_main_v130 (F := Ideal) x2) (fun i j => A.w 22 j) := M2.down (s_v129 H) _ (by decide)

theorem s_v131 : M2 (val_main_v131 (F := Ideal) x0 x2) (fun i j => (A.up (22 + i) j) * (A.w 22 j)) := M2.mulf (s_v128 H) (s_v130 H)

theorem s_v132 : M2 (val_main_v132 (F := Ideal) x0 x2) (fun i j => ∑ k ∈ range 23, A.up (k + i) j * A.w k j) := (M2.congr (M2.addf (s_v127 H) (s_v131 H)) fun i j hi hj => (Finset.sum_range_succ _ _).symm)

theorem s_v133 : M2 (val_main_v133 (F := Ideal) x0) (fun i j => A.up (23 + i) j) := (M2.congr (M2.slice (s_v15 H) 23 0 _) fun i j hi hj => congrArg _ (Nat.zero_add j))

theorem s_v134 : M2 (val_main_v134 (F := Ideal) x2) (fun i j => A.w 23 j) := (M2.congr (M2.slice H.h2 23 0 _) fun i j hi hj => by rw [show i = 0 by omega]; exact congrArg _ (Nat.zero_add j))

theorem s_v135 : M2 (val_main_v135 (F := Ideal) x2) (fun i j => A.w 23 j) := M2.down (s_v134 H) _ (by decide)

theorem s_v136 : M2 (val_main_v136 (F := Ideal) x0 x2) (fun i j => (A.up (23 + i) j) * (A.w 23 j)) := M2.mulf (s_v133 H) (s_v135 H)

theorem s_v137 : M2 (val_main_v137 (F := Ideal) x0 x2) (fun i j => ∑ k ∈ range 24, A.up (k + i) j * A.w k j) := (M2.congr (M2.addf (s_v132 H) (s_v136 H)) fun i j hi hj => (Finset.sum_range_succ _ _).symm)

theorem s_v138 : M2 (val_main_v138 (F := Ideal) x0) (fun i j => A.up (24 + i) j) := (M2.congr (M2.slice (s_v15 H) 24 0 _) fun i j hi hj => congrArg _ (Nat.zero_add j))

theorem s_v139 : M2 (val_main_v139 (F := Ideal) x2) (fun i j => A.w 24 j) := (M2.congr (M2.slice H.h2 24 0 _) fun i j hi hj => by rw [show i = 0 by omega]; exact congrArg _ (Nat.zero_add j))

theorem s_v140 : M2 (val_main_v140 (F := Ideal) x2) (fun i j => A.w 24 j) := M2.down (s_v139 H) _ (by decide)

theorem s_v141 : M2 (val_main_v141 (F := Ideal) x0 x2) (fun i j => (A.up (24 + i) j) * (A.w 24 j)) := M2.mulf (s_v138 H) (s_v140 H)

theorem s_v142 : M2 (val_main_v142 (F := Ideal) x0 x2) (fun i j => ∑ k ∈ range 25, A.up (k + i) j * A.w k j) := (M2.congr (M2.addf (s_v137 H) (s_v141 H)) fun i j hi hj => (Finset.sum_range_succ _ _).symm)

theorem s_v143 : M2 (val_main_v143 (F := Ideal) x0) (fun i j => A.up (25 + i) j) := (M2.congr (M2.slice (s_v15 H) 25 0 _) fun i j hi hj => congrArg _ (Nat.zero_add j))

theorem s_v144 : M2 (val_main_v144 (F := Ideal) x2) (fun i j => A.w 25 j) := (M2.congr (M2.slice H.h2 25 0 _) fun i j hi hj => by rw [show i = 0 by omega]; exact congrArg _ (Nat.zero_add j))

theorem s_v145 : M2 (val_main_v145 (F := Ideal) x2) (fun i j => A.w 25 j) := M2.down (s_v144 H) _ (by decide)

theorem s_v146 : M2 (val_main_v146 (F := Ideal) x0 x2) (fun i j => (A.up (25 + i) j) * (A.w 25 j)) := M2.mulf (s_v143 H) (s_v145 H)

theorem s_v147 : M2 (val_main_v147 (F := Ideal) x0 x2) (fun i j => ∑ k ∈ range 26, A.up (k + i) j * A.w k j) := (M2.congr (M2.addf (s_v142 H) (s_v146 H)) fun i j hi hj => (Finset.sum_range_succ _ _).symm)

theorem s_v148 : M2 (val_main_v148 (F := Ideal) x0) (fun i j => A.up (26 + i) j) := (M2.congr (M2.slice (s_v15 H) 26 0 _) fun i j hi hj => congrArg _ (Nat.zero_add j))

theorem s_v149 : M2 (val_main_v149 (F := Ideal) x2) (fun i j => A.w 26 j) := (M2.congr (M2.slice H.h2 26 0 _) fun i j hi hj => by rw [show i = 0 by omega]; exact congrArg _ (Nat.zero_add j))

theorem s_v150 : M2 (val_main_v150 (F := Ideal) x2) (fun i j => A.w 26 j) := M2.down (s_v149 H) _ (by decide)

theorem s_v151 : M2 (val_main_v151 (F := Ideal) x0 x2) (fun i j => (A.up (26 + i) j) * (A.w 26 j)) := M2.mulf (s_v148 H) (s_v150 H)

theorem s_v152 : M2 (val_main_v152 (F := Ideal) x0 x2) (fun i j => ∑ k ∈ range 27, A.up (k + i) j * A.w k j) := (M2.congr (M2.addf (s_v147 H) (s_v151 H)) fun i j hi hj => (Finset.sum_range_succ _ _).symm)

theorem s_v153 : M2 (val_main_v153 (F := Ideal) x0) (fun i j => A.up (27 + i) j) := (M2.congr (M2.slice (s_v15 H) 27 0 _) fun i j hi hj => congrArg _ (Nat.zero_add j))

theorem s_v154 : M2 (val_main_v154 (F := Ideal) x2) (fun i j => A.w 27 j) := (M2.congr (M2.slice H.h2 27 0 _) fun i j hi hj => by rw [show i = 0 by omega]; exact congrArg _ (Nat.zero_add j))

theorem s_v155 : M2 (val_main_v155 (F := Ideal) x2) (fun i j => A.w 27 j) := M2.down (s_v154 H) _ (by decide)

theorem s_v156 : M2 (val_main_v156 (F := Ideal) x0 x2) (fun i j => (A.up (27 + i) j) * (A.w 27 j)) := M2.mulf (s_v153 H) (s_v155 H)

theorem s_v157 : M2 (val_main_v157 (F := Ideal) x0 x2) (fun i j => ∑ k ∈ range 28, A.up (k + i) j * A.w k j) := (M2.congr (M2.addf (s_v152 H) (s_v156 H)) fun i j hi hj => (Finset.sum_range_succ _ _).symm)

theorem s_v158 : M2 (val_main_v158 (F := Ideal) x0) (fun i j => A.up (28 + i) j) := (M2.congr (M2.slice (s_v15 H) 28 0 _) fun i j hi hj => congrArg _ (Nat.zero_add j))

theorem s_v159 : M2 (val_main_v159 (F := Ideal) x2) (fun i j => A.w 28 j) := (M2.congr (M2.slice H.h2 28 0 _) fun i j hi hj => by rw [show i = 0 by omega]; exact congrArg _ (Nat.zero_add j))

theorem s_v160 : M2 (val_main_v160 (F := Ideal) x2) (fun i j => A.w 28 j) := M2.down (s_v159 H) _ (by decide)

theorem s_v161 : M2 (val_main_v161 (F := Ideal) x0 x2) (fun i j => (A.up (28 + i) j) * (A.w 28 j)) := M2.mulf (s_v158 H) (s_v160 H)

theorem s_v162 : M2 (val_main_v162 (F := Ideal) x0 x2) (fun i j => ∑ k ∈ range 29, A.up (k + i) j * A.w k j) := (M2.congr (M2.addf (s_v157 H) (s_v161 H)) fun i j hi hj => (Finset.sum_range_succ _ _).symm)

theorem s_v163 : M2 (val_main_v163 (F := Ideal) x0) (fun i j => A.up (29 + i) j) := (M2.congr (M2.slice (s_v15 H) 29 0 _) fun i j hi hj => congrArg _ (Nat.zero_add j))

theorem s_v164 : M2 (val_main_v164 (F := Ideal) x2) (fun i j => A.w 29 j) := (M2.congr (M2.slice H.h2 29 0 _) fun i j hi hj => by rw [show i = 0 by omega]; exact congrArg _ (Nat.zero_add j))

theorem s_v165 : M2 (val_main_v165 (F := Ideal) x2) (fun i j => A.w 29 j) := M2.down (s_v164 H) _ (by decide)

theorem s_v166 : M2 (val_main_v166 (F := Ideal) x0 x2) (fun i j => (A.up (29 + i) j) * (A.w 29 j)) := M2.mulf (s_v163 H) (s_v165 H)

theorem s_v167 : M2 (val_main_v167 (F := Ideal) x0 x2) (fun i j => ∑ k ∈ range 30, A.up (k + i) j * A.w k j) := (M2.congr (M2.addf (s_v162 H) (s_v166 H)) fun i j hi hj => (Finset.sum_range_succ _ _).symm)

theorem s_v168 : M2 (val_main_v168 (F := Ideal) x0) (fun i j => A.up (30 + i) j) := (M2.congr (M2.slice (s_v15 H) 30 0 _) fun i j hi hj => congrArg _ (Nat.zero_add j))

theorem s_v169 : M2 (val_main_v169 (F := Ideal) x2) (fun i j => A.w 30 j) := (M2.congr (M2.slice H.h2 30 0 _) fun i j hi hj => by rw [show i = 0 by omega]; exact congrArg _ (Nat.zero_add j))

theorem s_v170 : M2 (val_main_v170 (F := Ideal) x2) (fun i j => A.w 30 j) := M2.down (s_v169 H) _ (by decide)

theorem s_v171 : M2 (val_main_v171 (F := Ideal) x0 x2) (fun i j => (A.up (30 + i) j) * (A.w 30 j)) := M2.mulf (s_v168 H) (s_v170 H)

theorem s_v172 : M2 (val_main_v172 (F := Ideal) x0 x2) (fun i j => ∑ k ∈ range 31, A.up (k + i) j * A.w k j) := (M2.congr (M2.addf (s_v167 H) (s_v171 H)) fun i j hi hj => (Finset.sum_range_succ _ _).symm)

theorem s_v173 : M2 (val_main_v173 (F := Ideal) x3) (fun i j => A.bd j) := M1.row H.h3 _ (by decide)

theorem s_v174 : M2 (val_main_v174 (F := Ideal) x3) (fun i j => A.bd j) := M2.down (s_v173 H) _ (by decide)

theorem s_v175 : M2 (val_main_v175 (F := Ideal) x0 x2 x3) (fun i j => A.y i j) := (M2.congr (M2.addf (s_v172 H) (s_v174 H)) fun i j hi hj => rfl)

theorem s_cst_5 : M0 (val_main_cst_5 (F := Ideal)) (0) := M0.const bits_zero

theorem s_v176 : M1 (val_main_v176 (F := Ideal) x0 x2 x3) (fun c => ∑ j ∈ range 256, (A.y c j)) := M2.hsum1 (s_v175 H) (s_cst_5 H) _ (by decide) _

theorem s_v177 : M2 (val_main_v177 (F := Ideal) x0 x2 x3) (fun i j => ∑ j ∈ range 256, (A.y i j)) := M1.col (s_v176 H) _ (by decide)

theorem s_cst_6 : M0 (val_main_cst_6 (F := Ideal)) (256) := M0.const bits_256

theorem s_v178 : M2 (val_main_v178 (F := Ideal)) (fun i j => 256) := M2.splat (s_cst_6 H) _

theorem s_v179 : M2 (val_main_v179 (F := Ideal) x0 x2 x3) (fun i j => mean (A.y i)) := (M2.congr (M2.hdivf (s_v177 H) (s_v178 H) (fun _ _ => by norm_num)) fun i j hi hj => rfl)

theorem s_v180 : M2 (val_main_v180 (F := Ideal) x0 x2 x3) (fun i j => mean (A.y i)) := M2.across (s_v179 H) _ (by decide)

theorem s_v181 : M2 (val_main_v181 (F := Ideal) x0 x2 x3) (fun i j => xc (A.y i) j) := (M2.congr (M2.subf (s_v175 H) (s_v180 H)) fun i j hi hj => rfl)

theorem s_v182 : M2 (val_main_v182 (F := Ideal) x0 x2 x3) (fun i j => (xc (A.y i) j) * (xc (A.y i) j)) := M2.mulf (s_v181 H) (s_v181 H)

theorem s_cst_7 : M0 (val_main_cst_7 (F := Ideal)) (2) := M0.const bits_two

theorem s_v183 : M2 (val_main_v183 (F := Ideal)) (fun i j => 2) := M2.splat (s_cst_7 H) _

theorem s_v184 : M2 (val_main_v184 (F := Ideal) x0 x2 x3) (fun i j => 2 * (xc (A.y i) j)) := M2.mulf (s_v183 H) (s_v181 H)

theorem s_cst_8 : M0 (val_main_cst_8 (F := Ideal)) (0) := M0.const bits_zero

theorem s_v185 : M1 (val_main_v185 (F := Ideal) x0 x2 x3) (fun c => ∑ j ∈ range 256, ((xc (A.y c) j) * (xc (A.y c) j))) := M2.hsum1 (s_v182 H) (s_cst_8 H) _ (by decide) _

theorem s_v186 : M2 (val_main_v186 (F := Ideal) x0 x2 x3) (fun i j => ∑ j ∈ range 256, ((xc (A.y i) j) * (xc (A.y i) j))) := M1.col (s_v185 H) _ (by decide)

theorem s_cst_9 : M0 (val_main_cst_9 (F := Ideal)) (256) := M0.const bits_256

theorem s_v187 : M2 (val_main_v187 (F := Ideal)) (fun i j => 256) := M2.splat (s_cst_9 H) _

theorem s_v188 : M2 (val_main_v188 (F := Ideal) x0 x2 x3) (fun i j => (∑ j ∈ range 256, ((xc (A.y i) j) * (xc (A.y i) j))) / 256) := M2.hdivf (s_v186 H) (s_v187 H) (fun _ _ => by norm_num)

theorem s_v189 : M2 (val_main_v189 (F := Ideal) x0 x2 x3) (fun i j => mean (A.y i)) := M2.across (s_v179 H) _ (by decide)

theorem s_v190 : M2 (val_main_v190 (F := Ideal) x0 x2 x3) (fun i j => xc (A.y i) j) := (M2.congr (M2.subf (s_v175 H) (s_v189 H)) fun i j hi hj => rfl)

theorem s_cst_10 : M0 (val_main_cst_10 (F := Ideal)) (eps) := M0.const bits_eps

theorem s_v191 : M2 (val_main_v191 (F := Ideal)) (fun i j => eps) := M2.splat (s_cst_10 H) _

theorem s_v192 : M2 (val_main_v192 (F := Ideal) x0 x2 x3) (fun i j => vr (A.y i)) := (M2.congr (M2.addf (s_v188 H) (s_v191 H)) fun i j hi hj => rfl)

theorem s_v193 : M2 (val_main_v193 (F := Ideal) x0 x2 x3) (fun i j => rs (A.y i)) := (M2.congr (M2.hrsqrt (s_v192 H) (fun _ _ => vr_pos _)) fun i j hi hj => rfl)

theorem s_v194 : M2 (val_main_v194 (F := Ideal) x0 x2 x3) (fun i j => (rs (A.y i)) / (vr (A.y i))) := M2.hdivf (s_v193 H) (s_v192 H) (fun _ _ => (vr_pos _).ne')

theorem s_cst_11 : M0 (val_main_cst_11 (F := Ideal)) ((-1 / 2)) := M0.const bits_neg_half

theorem s_v195 : M2 (val_main_v195 (F := Ideal)) (fun i j => (-1 / 2)) := M2.splat (s_cst_11 H) _

theorem s_v196 : M2 (val_main_v196 (F := Ideal) x0 x2 x3) (fun i j => ((-1 / 2)) * ((rs (A.y i)) / (vr (A.y i)))) := M2.mulf (s_v195 H) (s_v194 H)

theorem s_v197 : M2 (val_main_v197 (F := Ideal) x0 x2 x3) (fun i j => rs (A.y i)) := M2.across (s_v193 H) _ (by decide)

theorem s_v198 : M2 (val_main_v198 (F := Ideal) x0 x2 x3) (fun i j => xh (A.y i) j) := (M2.congr (M2.mulf (s_v190 H) (s_v197 H)) fun i j hi hj => rfl)

theorem s_v199 : M2 (val_main_v199 (F := Ideal) x4) (fun i j => A.g j) := M1.row H.h4 _ (by decide)

theorem s_v200 : M2 (val_main_v200 (F := Ideal) x4) (fun i j => A.g j) := M2.down (s_v199 H) _ (by decide)

theorem s_v201 : M2 (val_main_v201 (F := Ideal) x0 x2 x3 x4) (fun i j => (xh (A.y i) j) * (A.g j)) := M2.mulf (s_v198 H) (s_v200 H)

theorem s_v202 : M2 (val_main_v202 (F := Ideal) x5) (fun i j => A.b j) := M1.row H.h5 _ (by decide)

theorem s_v203 : M2 (val_main_v203 (F := Ideal) x5) (fun i j => A.b j) := M2.down (s_v202 H) _ (by decide)

theorem s_v204 : M2 (val_main_v204 (F := Ideal) x0 x2 x3 x4 x5) (fun i j => nn A.g A.b (A.y i) j) := (M2.congr (M2.addf (s_v201 H) (s_v203 H)) fun i j hi hj => rfl)

theorem s_call0_v0 : M2 (val_main_call0_v0 (F := Ideal) x0 x2 x3 x4 x5) (fun i j => -(nn A.g A.b (A.y i) j)) := M2.hnegf (s_v204 H)

theorem s_call0_v1 : M2 (val_main_call0_v1 (F := Ideal) x0 x2 x3 x4 x5) (fun i j => Real.exp (-(nn A.g A.b (A.y i) j))) := M2.hexp (s_call0_v0 H)

theorem s_call0_cst : M0 (val_main_call0_cst (F := Ideal)) (1) := M0.const bits_one

theorem s_call0_v2 : M2 (val_main_call0_v2 (F := Ideal)) (fun i j => 1) := M2.splat (s_call0_cst H) _

theorem s_call0_v3 : M2 (val_main_call0_v3 (F := Ideal) x0 x2 x3 x4 x5) (fun i j => 1 + (Real.exp (-(nn A.g A.b (A.y i) j)))) := M2.addf (s_call0_v2 H) (s_call0_v1 H)

theorem s_call0_cst_0 : M0 (val_main_call0_cst_0 (F := Ideal)) (1) := M0.const bits_one

theorem s_call0_v4 : M2 (val_main_call0_v4 (F := Ideal)) (fun i j => 1) := M2.splat (s_call0_cst_0 H) _

theorem s_v205_2 : M2 (val_main_v205_2 (F := Ideal) x0 x2 x3 x4 x5) (fun i j => sn A.g A.b (A.y i) j) := (M2.congr (M2.hdivf (s_call0_v4 H) (s_call0_v3 H) (fun _ _ => (one_add_exp_pos _).ne')) fun i j hi hj => rfl)

theorem s_call0_cst_1 : M0 (val_main_call0_cst_1 (F := Ideal)) (1) := M0.const bits_one

theorem s_call0_v6 : M2 (val_main_call0_v6 (F := Ideal)) (fun i j => 1) := M2.splat (s_call0_cst_1 H) _

theorem s_call0_v7 : M2 (val_main_call0_v7 (F := Ideal) x0 x2 x3 x4 x5) (fun i j => 1 - (sn A.g A.b (A.y i) j)) := M2.subf (s_call0_v6 H) (s_v205_2 H)

theorem s_v205_1 : M2 (val_main_v205_1 (F := Ideal) x0 x2 x3 x4 x5) (fun i j => (sn A.g A.b (A.y i) j) * (1 - (sn A.g A.b (A.y i) j))) := M2.mulf (s_v205_2 H) (s_call0_v7 H)

theorem s_v205_0 : M2 (val_main_v205_0 (F := Ideal) x0 x2 x3 x4 x5) (fun i j => A.act i j) := (M2.congr (M2.mulf (s_v204 H) (s_v205_2 H)) fun i j hi hj => rfl)

theorem s_v207 : M3 (val_main_v207 (F := Ideal) x1) (fun i j => A.ct (0 + i) (256 + j)) := M3.slice H.h1 0 256 _

theorem s_v208 : M2 (val_main_v208 (F := Ideal) x1) (fun i j => A.d i j) := (M2.congr (M3.drop (s_v207 H) _) fun i j hi hj => by show A.ct (0 + i) (256 + j) = _; rw [Nat.zero_add]; rfl)

theorem s_v209 : M2 (val_main_v209 (F := Ideal) x0 x1 x2 x3 x4 x5) (fun i j => ∑ t ∈ range 8208, (A.d t i) * (A.act t j)) := M2.host (M2.dotTN (s_v208 H) (s_v205_0 H) _ rfl (fun _ _ => ⟨rfl, rfl⟩) (fun _ _ => ⟨rfl, rfl⟩))

theorem s_v210 : M2 (val_main_v210 (F := Ideal) x0 x1 x2 x3 x4 x5) (fun i j => A.r6 i j) := (M2.congr (M2.transpose (s_v209 H) _) fun i j hi hj => Finset.sum_congr rfl fun _ _ => mul_comm _ _)

theorem s_v211 : M2 (val_main_v211 (F := Ideal) x1 x6) (fun i j => dac A.pw (A.d i) j) := (M2.congr (M2.host (M2.dotNT (s_v208 H) H.h6 _ rfl (fun _ _ => ⟨rfl, rfl⟩) (fun _ _ => ⟨rfl, rfl⟩))) fun i j hi hj => rfl)

theorem s_call1_v0 : M2 (val_main_call1_v0 (F := Ideal) x0 x1 x2 x3 x4 x5 x6) (fun i j => (nn A.g A.b (A.y i) j) * (dac A.pw (A.d i) j)) := M2.mulf (s_v204 H) (s_v211 H)

theorem s_call1_v1 : M2 (val_main_call1_v1 (F := Ideal) x0 x1 x2 x3 x4 x5 x6) (fun i j => (dac A.pw (A.d i) j) * (sn A.g A.b (A.y i) j)) := M2.mulf (s_v211 H) (s_v205_2 H)

theorem s_call1_v2 : M2 (val_main_call1_v2 (F := Ideal) x0 x1 x2 x3 x4 x5 x6) (fun i j => ((nn A.g A.b (A.y i) j) * (dac A.pw (A.d i) j)) * ((sn A.g A.b (A.y i) j) * (1 - (sn A.g A.b (A.y i) j)))) := M2.mulf (s_call1_v0 H) (s_v205_1 H)

theorem s_v212 : M2 (val_main_v212 (F := Ideal) x0 x1 x2 x3 x4 x5 x6) (fun i j => A.dn i j) := (M2.congr (M2.addf (s_call1_v1 H) (s_call1_v2 H)) fun i j hi hj => by unfold Args.dn dn; ring)

theorem s_cst_12 : M0 (val_main_cst_12 (F := Ideal)) (0) := M0.const bits_zero

theorem s_v213 : M1 (val_main_v213 (F := Ideal) x0 x1 x2 x3 x4 x5 x6) (fun c => ∑ i ∈ range 8208, (A.dn i c)) := M2.hsum0 (s_v212 H) (s_cst_12 H) _ (by decide) _

theorem s_v214 : M2 (val_main_v214 (F := Ideal) x0 x1 x2 x3 x4 x5 x6) (fun i j => ∑ i ∈ range 8208, (A.dn i j)) := M1.toRow (s_v213 H) _

theorem s_cst_13 : M0 (val_main_cst_13 (F := Ideal)) (0) := M0.const bits_zero

theorem s_v215 : M1 (val_main_v215 (F := Ideal) x0 x1 x2 x3 x4 x5 x6) (fun c => A.r5 c) := (M1.congr (M2.hsum0 (s_v214 H) (s_cst_13 H) _ (by decide) _) fun j hj => by rw [Finset.sum_range_one]; rfl)

theorem s_v216 : M2 (val_main_v216 (F := Ideal) x0 x1 x2 x3 x4 x5 x6) (fun i j => (xh (A.y i) j) * (A.dn i j)) := M2.mulf (s_v198 H) (s_v212 H)

theorem s_cst_14 : M0 (val_main_cst_14 (F := Ideal)) (0) := M0.const bits_zero

theorem s_v217 : M1 (val_main_v217 (F := Ideal) x0 x1 x2 x3 x4 x5 x6) (fun c => ∑ i ∈ range 8208, ((xh (A.y i) c) * (A.dn i c))) := M2.hsum0 (s_v216 H) (s_cst_14 H) _ (by decide) _

theorem s_v218 : M2 (val_main_v218 (F := Ideal) x0 x1 x2 x3 x4 x5 x6) (fun i j => ∑ i ∈ range 8208, ((xh (A.y i) j) * (A.dn i j))) := M1.toRow (s_v217 H) _

theorem s_v219 : M2 (val_main_v219 (F := Ideal) x4) (fun i j => A.g j) := M2.down (s_v199 H) _ (by decide)

theorem s_v220 : M2 (val_main_v220 (F := Ideal) x0 x1 x2 x3 x4 x5 x6) (fun i j => (A.dn i j) * (A.g j)) := M2.mulf (s_v212 H) (s_v219 H)

theorem s_cst_15 : M0 (val_main_cst_15 (F := Ideal)) (0) := M0.const bits_zero

theorem s_v221 : M1 (val_main_v221 (F := Ideal) x0 x1 x2 x3 x4 x5 x6) (fun c => A.r4 c) := (M1.congr (M2.hsum0 (s_v218 H) (s_cst_15 H) _ (by decide) _) fun j hj => by rw [Finset.sum_range_one]; exact Finset.sum_congr rfl fun _ _ => mul_comm _ _)

theorem s_v222 : M2 (val_main_v222 (F := Ideal) x0 x1 x2 x3 x4 x5 x6) (fun i j => (xc (A.y i) j) * ((A.dn i j) * (A.g j))) := M2.mulf (s_v190 H) (s_v220 H)

theorem s_cst_16 : M0 (val_main_cst_16 (F := Ideal)) (0) := M0.const bits_zero

theorem s_v223 : M1 (val_main_v223 (F := Ideal) x0 x1 x2 x3 x4 x5 x6) (fun c => ∑ j ∈ range 256, ((xc (A.y c) j) * ((A.dn c j) * (A.g j)))) := M2.hsum1 (s_v222 H) (s_cst_16 H) _ (by decide) _

theorem s_v224 : M2 (val_main_v224 (F := Ideal) x0 x1 x2 x3 x4 x5 x6) (fun i j => ∑ j ∈ range 256, ((xc (A.y i) j) * ((A.dn i j) * (A.g j)))) := M1.toCol (s_v223 H) _

theorem s_v225 : M2 (val_main_v225 (F := Ideal) x0 x2 x3) (fun i j => rs (A.y i)) := M2.across (s_v193 H) _ (by decide)

theorem s_v226 : M2 (val_main_v226 (F := Ideal) x0 x1 x2 x3 x4 x5 x6) (fun i j => ((A.dn i j) * (A.g j)) * (rs (A.y i))) := M2.mulf (s_v220 H) (s_v225 H)

theorem s_v227 : M2 (val_main_v227 (F := Ideal) x0 x1 x2 x3 x4 x5 x6) (fun i j => (∑ j ∈ range 256, ((xc (A.y i) j) * ((A.dn i j) * (A.g j)))) * (((-1 / 2)) * ((rs (A.y i)) / (vr (A.y i))))) := M2.mulf (s_v224 H) (s_v196 H)

theorem s_v228 : M2 (val_main_v228 (F := Ideal) x0 x1 x2 x3 x4 x5 x6) (fun i j => -(((A.dn i j) * (A.g j)) * (rs (A.y i)))) := M2.hnegf (s_v226 H)

theorem s_cst_17 : M0 (val_main_cst_17 (F := Ideal)) (0) := M0.const bits_zero

theorem s_v229 : M1 (val_main_v229 (F := Ideal) x0 x1 x2 x3 x4 x5 x6) (fun c => ∑ j ∈ range 256, (-(((A.dn c j) * (A.g j)) * (rs (A.y c))))) := M2.hsum1 (s_v228 H) (s_cst_17 H) _ (by decide) _

theorem s_v230 : M2 (val_main_v230 (F := Ideal) x0 x1 x2 x3 x4 x5 x6) (fun i j => ∑ j ∈ range 256, (-(((A.dn i j) * (A.g j)) * (rs (A.y i))))) := M1.toCol (s_v229 H) _

theorem s_cst_18 : M0 (val_main_cst_18 (F := Ideal)) (256) := M0.const bits_256

theorem s_v231 : M2 (val_main_v231 (F := Ideal)) (fun i j => 256) := M2.splat (s_cst_18 H) _

theorem s_v232 : M2 (val_main_v232 (F := Ideal) x0 x1 x2 x3 x4 x5 x6) (fun i j => ((∑ j ∈ range 256, ((xc (A.y i) j) * ((A.dn i j) * (A.g j)))) * (((-1 / 2)) * ((rs (A.y i)) / (vr (A.y i))))) / 256) := M2.hdivf (s_v227 H) (s_v231 H) (fun _ _ => by norm_num)

theorem s_cst_19 : M0 (val_main_cst_19 (F := Ideal)) (0) := M0.const bits_zero

theorem s_v233 : M1 (val_main_v233 (F := Ideal) x0 x1 x2 x3 x4 x5 x6) (fun c => qv (A.y c) (fun j => A.dn c j * A.g j)) := (M1.congr (M2.hsum1 (s_v232 H) (s_cst_19 H) _ (by decide) _) fun i hi => by rw [Finset.sum_range_one]; rfl)

theorem s_v234 : M2 (val_main_v234 (F := Ideal) x0 x1 x2 x3 x4 x5 x6) (fun i j => qv (A.y i) (fun j => A.dn i j * A.g j)) := M1.col (s_v233 H) _ (by decide)

theorem s_v235 : M2 (val_main_v235 (F := Ideal) x0 x1 x2 x3 x4 x5 x6) (fun i j => (qv (A.y i) (fun j => A.dn i j * A.g j)) * (2 * (xc (A.y i) j))) := M2.mulf (s_v234 H) (s_v184 H)

theorem s_v236 : M2 (val_main_v236 (F := Ideal) x0 x1 x2 x3 x4 x5 x6) (fun i j => -((qv (A.y i) (fun j => A.dn i j * A.g j)) * (2 * (xc (A.y i) j)))) := M2.hnegf (s_v235 H)

theorem s_cst_20 : M0 (val_main_cst_20 (F := Ideal)) (0) := M0.const bits_zero

theorem s_v237 : M1 (val_main_v237 (F := Ideal) x0 x1 x2 x3 x4 x5 x6) (fun c => ∑ j ∈ range 256, (-((qv (A.y c) (fun j => A.dn c j * A.g j)) * (2 * (xc (A.y c) j))))) := M2.hsum1 (s_v236 H) (s_cst_20 H) _ (by decide) _

theorem s_v238 : M2 (val_main_v238 (F := Ideal) x0 x1 x2 x3 x4 x5 x6) (fun i j => ∑ j ∈ range 256, (-((qv (A.y i) (fun j => A.dn i j * A.g j)) * (2 * (xc (A.y i) j))))) := M1.toCol (s_v237 H) _

theorem s_v239 : M2 (val_main_v239 (F := Ideal) x0 x1 x2 x3 x4 x5 x6) (fun i j => (((A.dn i j) * (A.g j)) * (rs (A.y i))) + ((qv (A.y i) (fun j => A.dn i j * A.g j)) * (2 * (xc (A.y i) j)))) := M2.addf (s_v226 H) (s_v235 H)

theorem s_v240 : M2 (val_main_v240 (F := Ideal) x0 x1 x2 x3 x4 x5 x6) (fun i j => (∑ j ∈ range 256, (-(((A.dn i j) * (A.g j)) * (rs (A.y i))))) + (∑ j ∈ range 256, (-((qv (A.y i) (fun j => A.dn i j * A.g j)) * (2 * (xc (A.y i) j)))))) := M2.addf (s_v230 H) (s_v238 H)

theorem s_cst_21 : M0 (val_main_cst_21 (F := Ideal)) (256) := M0.const bits_256

theorem s_v241 : M2 (val_main_v241 (F := Ideal)) (fun i j => 256) := M2.splat (s_cst_21 H) _

theorem s_v242 : M2 (val_main_v242 (F := Ideal) x0 x1 x2 x3 x4 x5 x6) (fun i j => ((∑ j ∈ range 256, (-(((A.dn i j) * (A.g j)) * (rs (A.y i))))) + (∑ j ∈ range 256, (-((qv (A.y i) (fun j => A.dn i j * A.g j)) * (2 * (xc (A.y i) j)))))) / 256) := M2.hdivf (s_v240 H) (s_v241 H) (fun _ _ => by norm_num)

theorem s_cst_22 : M0 (val_main_cst_22 (F := Ideal)) (0) := M0.const bits_zero

theorem s_v243 : M1 (val_main_v243 (F := Ideal) x0 x1 x2 x3 x4 x5 x6) (fun c => ((∑ j ∈ range 256, -((A.dn c j * A.g j) * rs (A.y c))) + ∑ j ∈ range 256, -(qv (A.y c) (fun j => A.dn c j * A.g j) * (2 * xc (A.y c) j))) / 256) := (M1.congr (M2.hsum1 (s_v242 H) (s_cst_22 H) _ (by decide) _) fun i hi => by rw [Finset.sum_range_one])

theorem s_v244 : M2 (val_main_v244 (F := Ideal) x0 x1 x2 x3 x4 x5 x6) (fun i j => ((∑ j ∈ range 256, -((A.dn i j * A.g j) * rs (A.y i))) + ∑ j ∈ range 256, -(qv (A.y i) (fun j => A.dn i j * A.g j) * (2 * xc (A.y i) j))) / 256) := M1.col (s_v243 H) _ (by decide)

theorem s_v245 : M2 (val_main_v245 (F := Ideal) x0 x1 x2 x3 x4 x5 x6) (fun i j => A.D i j) := (M2.congr (M2.addf (s_v239 H) (s_v244 H)) fun i j hi hj => by unfold Args.D; rw [if_pos hi]; exact lnb_eq (A.y i) (fun j => A.dn i j * A.g j) j)

theorem s_cst_23 : M0 (val_main_cst_23 (F := Ideal)) (0) := M0.const bits_zero

theorem s_v246 : M1 (val_main_v246 (F := Ideal) x0 x1 x2 x3 x4 x5 x6) (fun c => ∑ i ∈ range 8208, (A.D i c)) := M2.hsum0 (s_v245 H) (s_cst_23 H) _ (by decide) _

theorem s_v247 : M2 (val_main_v247 (F := Ideal) x0 x1 x2 x3 x4 x5 x6) (fun i j => ∑ i ∈ range 8208, (A.D i j)) := M1.toRow (s_v246 H) _

theorem s_cst_24 : M0 (val_main_cst_24 (F := Ideal)) (0) := M0.const bits_zero

theorem s_v248 : M1 (val_main_v248 (F := Ideal) x0 x1 x2 x3 x4 x5 x6) (fun c => A.r3 c) := (M1.congr (M2.hsum0 (s_v247 H) (s_cst_24 H) _ (by decide) _) fun j hj => by rw [Finset.sum_range_one]; rfl)

theorem s_v249 : M2 (val_main_v249 (F := Ideal) x0 x1 x2 x3 x4 x5 x6) (fun i j => (A.up (30 + i) j) * (A.D i j)) := M2.mulf (s_v168 H) (s_v245 H)

theorem s_cst_25 : M0 (val_main_cst_25 (F := Ideal)) (0) := M0.const bits_zero

theorem s_v250 : M1 (val_main_v250 (F := Ideal) x0 x1 x2 x3 x4 x5 x6) (fun c => A.dwv 30 c) := (M1.congr (M2.hsum0 (s_v249 H) (s_cst_25 H) _ (by decide) _) fun j hj => rfl)

theorem s_v251 : M2 (val_main_v251 (F := Ideal) x0 x1 x2 x3 x4 x5 x6) (fun i j => A.dwv 30 j) := M1.toRow (s_v250 H) _

theorem s_v252 : M2 (val_main_v252 (F := Ideal) x2) (fun i j => A.w 30 j) := M2.down (s_v169 H) _ (by decide)

theorem s_v253 : M2 (val_main_v253 (F := Ideal) x0 x1 x2 x3 x4 x5 x6) (fun i j => (A.D i j) * (A.w 30 j)) := M2.mulf (s_v245 H) (s_v252 H)

theorem s_cst_26 : M0 (val_main_cst_26 (F := Ideal)) (0) := M0.const bits_zero

theorem s_v254 : M2 (val_main_v254 (F := Ideal) x0 x1 x2 x3 x4 x5 x6) (fun i j => ∑ q ∈ range 1, (if i = 30 - q then A.dwv (30 - q) j else 0)) := (M2.congr (M2.pad (s_v251 H) (s_cst_26 H) _ _) fun i j hi hj => by rw [Finset.sum_range_one]; exact Args.pad_dw 30 i j (A.dwv 30) hj)

theorem s_cst_27 : M0 (val_main_cst_27 (F := Ideal)) (0) := M0.const bits_zero

theorem s_v255 : M2 (val_main_v255 (F := Ideal) x0 x1 x2 x3 x4 x5 x6) (fun i j => ∑ q ∈ range 1, A.pt (30 - q) i j) := (M2.congr (M2.pad (s_v253 H) (s_cst_27 H) _ _) fun i j hi hj => by rw [Finset.sum_range_one]; exact A.pad_pt 30 i j hj)

theorem s_v256 : M2 (val_main_v256 (F := Ideal) x0 x1 x2 x3 x4 x5 x6) (fun i j => (A.up (29 + i) j) * (A.D i j)) := M2.mulf (s_v163 H) (s_v245 H)

theorem s_cst_28 : M0 (val_main_cst_28 (F := Ideal)) (0) := M0.const bits_zero

theorem s_v257 : M1 (val_main_v257 (F := Ideal) x0 x1 x2 x3 x4 x5 x6) (fun c => A.dwv 29 c) := (M1.congr (M2.hsum0 (s_v256 H) (s_cst_28 H) _ (by decide) _) fun j hj => rfl)

theorem s_v258 : M2 (val_main_v258 (F := Ideal) x0 x1 x2 x3 x4 x5 x6) (fun i j => A.dwv 29 j) := M1.toRow (s_v257 H) _

theorem s_v259 : M2 (val_main_v259 (F := Ideal) x2) (fun i j => A.w 29 j) := M2.down (s_v164 H) _ (by decide)

theorem s_v260 : M2 (val_main_v260 (F := Ideal) x0 x1 x2 x3 x4 x5 x6) (fun i j => (A.D i j) * (A.w 29 j)) := M2.mulf (s_v245 H) (s_v259 H)

theorem s_cst_29 : M0 (val_main_cst_29 (F := Ideal)) (0) := M0.const bits_zero

theorem s_v261 : M2 (val_main_v261 (F := Ideal) x0 x1 x2 x3 x4 x5 x6) (fun i j => if i = 29 then A.dwv 29 j else 0) := (M2.congr (M2.pad (s_v258 H) (s_cst_29 H) _ _) fun i j hi hj => Args.pad_dw 29 i j (A.dwv 29) hj)

theorem s_v262 : M2 (val_main_v262 (F := Ideal) x0 x1 x2 x3 x4 x5 x6) (fun i j => ∑ q ∈ range 2, (if i = 30 - q then A.dwv (30 - q) j else 0)) := (M2.congr (M2.addf (s_v254 H) (s_v261 H)) fun i j hi hj => (Finset.sum_range_succ _ _).symm)

theorem s_cst_30 : M0 (val_main_cst_30 (F := Ideal)) (0) := M0.const bits_zero

theorem s_v263 : M2 (val_main_v263 (F := Ideal) x0 x1 x2 x3 x4 x5 x6) (fun i j => A.pt 29 i j) := (M2.congr (M2.pad (s_v260 H) (s_cst_30 H) _ _) fun i j hi hj => A.pad_pt 29 i j hj)

theorem s_v264 : M2 (val_main_v264 (F := Ideal) x0 x1 x2 x3 x4 x5 x6) (fun i j => ∑ q ∈ range 2, A.pt (30 - q) i j) := (M2.congr (M2.addf (s_v255 H) (s_v263 H)) fun i j hi hj => (Finset.sum_range_succ _ _).symm)

theorem s_v265 : M2 (val_main_v265 (F := Ideal) x0 x1 x2 x3 x4 x5 x6) (fun i j => (A.up (28 + i) j) * (A.D i j)) := M2.mulf (s_v158 H) (s_v245 H)

theorem s_cst_31 : M0 (val_main_cst_31 (F := Ideal)) (0) := M0.const bits_zero

theorem s_v266 : M1 (val_main_v266 (F := Ideal) x0 x1 x2 x3 x4 x5 x6) (fun c => A.dwv 28 c) := (M1.congr (M2.hsum0 (s_v265 H) (s_cst_31 H) _ (by decide) _) fun j hj => rfl)

theorem s_v267 : M2 (val_main_v267 (F := Ideal) x0 x1 x2 x3 x4 x5 x6) (fun i j => A.dwv 28 j) := M1.toRow (s_v266 H) _

theorem s_v268 : M2 (val_main_v268 (F := Ideal) x2) (fun i j => A.w 28 j) := M2.down (s_v159 H) _ (by decide)

theorem s_v269 : M2 (val_main_v269 (F := Ideal) x0 x1 x2 x3 x4 x5 x6) (fun i j => (A.D i j) * (A.w 28 j)) := M2.mulf (s_v245 H) (s_v268 H)

theorem s_cst_32 : M0 (val_main_cst_32 (F := Ideal)) (0) := M0.const bits_zero

theorem s_v270 : M2 (val_main_v270 (F := Ideal) x0 x1 x2 x3 x4 x5 x6) (fun i j => if i = 28 then A.dwv 28 j else 0) := (M2.congr (M2.pad (s_v267 H) (s_cst_32 H) _ _) fun i j hi hj => Args.pad_dw 28 i j (A.dwv 28) hj)

theorem s_v271 : M2 (val_main_v271 (F := Ideal) x0 x1 x2 x3 x4 x5 x6) (fun i j => ∑ q ∈ range 3, (if i = 30 - q then A.dwv (30 - q) j else 0)) := (M2.congr (M2.addf (s_v262 H) (s_v270 H)) fun i j hi hj => (Finset.sum_range_succ _ _).symm)

theorem s_cst_33 : M0 (val_main_cst_33 (F := Ideal)) (0) := M0.const bits_zero

theorem s_v272 : M2 (val_main_v272 (F := Ideal) x0 x1 x2 x3 x4 x5 x6) (fun i j => A.pt 28 i j) := (M2.congr (M2.pad (s_v269 H) (s_cst_33 H) _ _) fun i j hi hj => A.pad_pt 28 i j hj)

theorem s_v273 : M2 (val_main_v273 (F := Ideal) x0 x1 x2 x3 x4 x5 x6) (fun i j => ∑ q ∈ range 3, A.pt (30 - q) i j) := (M2.congr (M2.addf (s_v264 H) (s_v272 H)) fun i j hi hj => (Finset.sum_range_succ _ _).symm)

theorem s_v274 : M2 (val_main_v274 (F := Ideal) x0 x1 x2 x3 x4 x5 x6) (fun i j => (A.up (27 + i) j) * (A.D i j)) := M2.mulf (s_v153 H) (s_v245 H)

theorem s_cst_34 : M0 (val_main_cst_34 (F := Ideal)) (0) := M0.const bits_zero

theorem s_v275 : M1 (val_main_v275 (F := Ideal) x0 x1 x2 x3 x4 x5 x6) (fun c => A.dwv 27 c) := (M1.congr (M2.hsum0 (s_v274 H) (s_cst_34 H) _ (by decide) _) fun j hj => rfl)

theorem s_v276 : M2 (val_main_v276 (F := Ideal) x0 x1 x2 x3 x4 x5 x6) (fun i j => A.dwv 27 j) := M1.toRow (s_v275 H) _

theorem s_v277 : M2 (val_main_v277 (F := Ideal) x2) (fun i j => A.w 27 j) := M2.down (s_v154 H) _ (by decide)

theorem s_v278 : M2 (val_main_v278 (F := Ideal) x0 x1 x2 x3 x4 x5 x6) (fun i j => (A.D i j) * (A.w 27 j)) := M2.mulf (s_v245 H) (s_v277 H)

theorem s_cst_35 : M0 (val_main_cst_35 (F := Ideal)) (0) := M0.const bits_zero

theorem s_v279 : M2 (val_main_v279 (F := Ideal) x0 x1 x2 x3 x4 x5 x6) (fun i j => if i = 27 then A.dwv 27 j else 0) := (M2.congr (M2.pad (s_v276 H) (s_cst_35 H) _ _) fun i j hi hj => Args.pad_dw 27 i j (A.dwv 27) hj)

theorem s_v280 : M2 (val_main_v280 (F := Ideal) x0 x1 x2 x3 x4 x5 x6) (fun i j => ∑ q ∈ range 4, (if i = 30 - q then A.dwv (30 - q) j else 0)) := (M2.congr (M2.addf (s_v271 H) (s_v279 H)) fun i j hi hj => (Finset.sum_range_succ _ _).symm)

theorem s_cst_36 : M0 (val_main_cst_36 (F := Ideal)) (0) := M0.const bits_zero

theorem s_v281 : M2 (val_main_v281 (F := Ideal) x0 x1 x2 x3 x4 x5 x6) (fun i j => A.pt 27 i j) := (M2.congr (M2.pad (s_v278 H) (s_cst_36 H) _ _) fun i j hi hj => A.pad_pt 27 i j hj)

theorem s_v282 : M2 (val_main_v282 (F := Ideal) x0 x1 x2 x3 x4 x5 x6) (fun i j => ∑ q ∈ range 4, A.pt (30 - q) i j) := (M2.congr (M2.addf (s_v273 H) (s_v281 H)) fun i j hi hj => (Finset.sum_range_succ _ _).symm)

theorem s_v283 : M2 (val_main_v283 (F := Ideal) x0 x1 x2 x3 x4 x5 x6) (fun i j => (A.up (26 + i) j) * (A.D i j)) := M2.mulf (s_v148 H) (s_v245 H)

theorem s_cst_37 : M0 (val_main_cst_37 (F := Ideal)) (0) := M0.const bits_zero

theorem s_v284 : M1 (val_main_v284 (F := Ideal) x0 x1 x2 x3 x4 x5 x6) (fun c => A.dwv 26 c) := (M1.congr (M2.hsum0 (s_v283 H) (s_cst_37 H) _ (by decide) _) fun j hj => rfl)

theorem s_v285 : M2 (val_main_v285 (F := Ideal) x0 x1 x2 x3 x4 x5 x6) (fun i j => A.dwv 26 j) := M1.toRow (s_v284 H) _

theorem s_v286 : M2 (val_main_v286 (F := Ideal) x2) (fun i j => A.w 26 j) := M2.down (s_v149 H) _ (by decide)

theorem s_v287 : M2 (val_main_v287 (F := Ideal) x0 x1 x2 x3 x4 x5 x6) (fun i j => (A.D i j) * (A.w 26 j)) := M2.mulf (s_v245 H) (s_v286 H)

theorem s_cst_38 : M0 (val_main_cst_38 (F := Ideal)) (0) := M0.const bits_zero

theorem s_v288 : M2 (val_main_v288 (F := Ideal) x0 x1 x2 x3 x4 x5 x6) (fun i j => if i = 26 then A.dwv 26 j else 0) := (M2.congr (M2.pad (s_v285 H) (s_cst_38 H) _ _) fun i j hi hj => Args.pad_dw 26 i j (A.dwv 26) hj)

theorem s_v289 : M2 (val_main_v289 (F := Ideal) x0 x1 x2 x3 x4 x5 x6) (fun i j => ∑ q ∈ range 5, (if i = 30 - q then A.dwv (30 - q) j else 0)) := (M2.congr (M2.addf (s_v280 H) (s_v288 H)) fun i j hi hj => (Finset.sum_range_succ _ _).symm)

theorem s_cst_39 : M0 (val_main_cst_39 (F := Ideal)) (0) := M0.const bits_zero

theorem s_v290 : M2 (val_main_v290 (F := Ideal) x0 x1 x2 x3 x4 x5 x6) (fun i j => A.pt 26 i j) := (M2.congr (M2.pad (s_v287 H) (s_cst_39 H) _ _) fun i j hi hj => A.pad_pt 26 i j hj)

theorem s_v291 : M2 (val_main_v291 (F := Ideal) x0 x1 x2 x3 x4 x5 x6) (fun i j => ∑ q ∈ range 5, A.pt (30 - q) i j) := (M2.congr (M2.addf (s_v282 H) (s_v290 H)) fun i j hi hj => (Finset.sum_range_succ _ _).symm)

theorem s_v292 : M2 (val_main_v292 (F := Ideal) x0 x1 x2 x3 x4 x5 x6) (fun i j => (A.up (25 + i) j) * (A.D i j)) := M2.mulf (s_v143 H) (s_v245 H)

theorem s_cst_40 : M0 (val_main_cst_40 (F := Ideal)) (0) := M0.const bits_zero

theorem s_v293 : M1 (val_main_v293 (F := Ideal) x0 x1 x2 x3 x4 x5 x6) (fun c => A.dwv 25 c) := (M1.congr (M2.hsum0 (s_v292 H) (s_cst_40 H) _ (by decide) _) fun j hj => rfl)

theorem s_v294 : M2 (val_main_v294 (F := Ideal) x0 x1 x2 x3 x4 x5 x6) (fun i j => A.dwv 25 j) := M1.toRow (s_v293 H) _

theorem s_v295 : M2 (val_main_v295 (F := Ideal) x2) (fun i j => A.w 25 j) := M2.down (s_v144 H) _ (by decide)

theorem s_v296 : M2 (val_main_v296 (F := Ideal) x0 x1 x2 x3 x4 x5 x6) (fun i j => (A.D i j) * (A.w 25 j)) := M2.mulf (s_v245 H) (s_v295 H)

theorem s_cst_41 : M0 (val_main_cst_41 (F := Ideal)) (0) := M0.const bits_zero

theorem s_v297 : M2 (val_main_v297 (F := Ideal) x0 x1 x2 x3 x4 x5 x6) (fun i j => if i = 25 then A.dwv 25 j else 0) := (M2.congr (M2.pad (s_v294 H) (s_cst_41 H) _ _) fun i j hi hj => Args.pad_dw 25 i j (A.dwv 25) hj)

theorem s_v298 : M2 (val_main_v298 (F := Ideal) x0 x1 x2 x3 x4 x5 x6) (fun i j => ∑ q ∈ range 6, (if i = 30 - q then A.dwv (30 - q) j else 0)) := (M2.congr (M2.addf (s_v289 H) (s_v297 H)) fun i j hi hj => (Finset.sum_range_succ _ _).symm)

theorem s_cst_42 : M0 (val_main_cst_42 (F := Ideal)) (0) := M0.const bits_zero

theorem s_v299 : M2 (val_main_v299 (F := Ideal) x0 x1 x2 x3 x4 x5 x6) (fun i j => A.pt 25 i j) := (M2.congr (M2.pad (s_v296 H) (s_cst_42 H) _ _) fun i j hi hj => A.pad_pt 25 i j hj)

theorem s_v300 : M2 (val_main_v300 (F := Ideal) x0 x1 x2 x3 x4 x5 x6) (fun i j => ∑ q ∈ range 6, A.pt (30 - q) i j) := (M2.congr (M2.addf (s_v291 H) (s_v299 H)) fun i j hi hj => (Finset.sum_range_succ _ _).symm)

theorem s_v301 : M2 (val_main_v301 (F := Ideal) x0 x1 x2 x3 x4 x5 x6) (fun i j => (A.up (24 + i) j) * (A.D i j)) := M2.mulf (s_v138 H) (s_v245 H)

theorem s_cst_43 : M0 (val_main_cst_43 (F := Ideal)) (0) := M0.const bits_zero

theorem s_v302 : M1 (val_main_v302 (F := Ideal) x0 x1 x2 x3 x4 x5 x6) (fun c => A.dwv 24 c) := (M1.congr (M2.hsum0 (s_v301 H) (s_cst_43 H) _ (by decide) _) fun j hj => rfl)

theorem s_v303 : M2 (val_main_v303 (F := Ideal) x0 x1 x2 x3 x4 x5 x6) (fun i j => A.dwv 24 j) := M1.toRow (s_v302 H) _

theorem s_v304 : M2 (val_main_v304 (F := Ideal) x2) (fun i j => A.w 24 j) := M2.down (s_v139 H) _ (by decide)

theorem s_v305 : M2 (val_main_v305 (F := Ideal) x0 x1 x2 x3 x4 x5 x6) (fun i j => (A.D i j) * (A.w 24 j)) := M2.mulf (s_v245 H) (s_v304 H)

theorem s_cst_44 : M0 (val_main_cst_44 (F := Ideal)) (0) := M0.const bits_zero

theorem s_v306 : M2 (val_main_v306 (F := Ideal) x0 x1 x2 x3 x4 x5 x6) (fun i j => if i = 24 then A.dwv 24 j else 0) := (M2.congr (M2.pad (s_v303 H) (s_cst_44 H) _ _) fun i j hi hj => Args.pad_dw 24 i j (A.dwv 24) hj)

theorem s_v307 : M2 (val_main_v307 (F := Ideal) x0 x1 x2 x3 x4 x5 x6) (fun i j => ∑ q ∈ range 7, (if i = 30 - q then A.dwv (30 - q) j else 0)) := (M2.congr (M2.addf (s_v298 H) (s_v306 H)) fun i j hi hj => (Finset.sum_range_succ _ _).symm)

theorem s_cst_45 : M0 (val_main_cst_45 (F := Ideal)) (0) := M0.const bits_zero

theorem s_v308 : M2 (val_main_v308 (F := Ideal) x0 x1 x2 x3 x4 x5 x6) (fun i j => A.pt 24 i j) := (M2.congr (M2.pad (s_v305 H) (s_cst_45 H) _ _) fun i j hi hj => A.pad_pt 24 i j hj)

theorem s_v309 : M2 (val_main_v309 (F := Ideal) x0 x1 x2 x3 x4 x5 x6) (fun i j => ∑ q ∈ range 7, A.pt (30 - q) i j) := (M2.congr (M2.addf (s_v300 H) (s_v308 H)) fun i j hi hj => (Finset.sum_range_succ _ _).symm)

theorem s_v310 : M2 (val_main_v310 (F := Ideal) x0 x1 x2 x3 x4 x5 x6) (fun i j => (A.up (23 + i) j) * (A.D i j)) := M2.mulf (s_v133 H) (s_v245 H)

theorem s_cst_46 : M0 (val_main_cst_46 (F := Ideal)) (0) := M0.const bits_zero

theorem s_v311 : M1 (val_main_v311 (F := Ideal) x0 x1 x2 x3 x4 x5 x6) (fun c => A.dwv 23 c) := (M1.congr (M2.hsum0 (s_v310 H) (s_cst_46 H) _ (by decide) _) fun j hj => rfl)

theorem s_v312 : M2 (val_main_v312 (F := Ideal) x0 x1 x2 x3 x4 x5 x6) (fun i j => A.dwv 23 j) := M1.toRow (s_v311 H) _

theorem s_v313 : M2 (val_main_v313 (F := Ideal) x2) (fun i j => A.w 23 j) := M2.down (s_v134 H) _ (by decide)

theorem s_v314 : M2 (val_main_v314 (F := Ideal) x0 x1 x2 x3 x4 x5 x6) (fun i j => (A.D i j) * (A.w 23 j)) := M2.mulf (s_v245 H) (s_v313 H)

theorem s_cst_47 : M0 (val_main_cst_47 (F := Ideal)) (0) := M0.const bits_zero

theorem s_v315 : M2 (val_main_v315 (F := Ideal) x0 x1 x2 x3 x4 x5 x6) (fun i j => if i = 23 then A.dwv 23 j else 0) := (M2.congr (M2.pad (s_v312 H) (s_cst_47 H) _ _) fun i j hi hj => Args.pad_dw 23 i j (A.dwv 23) hj)

theorem s_v316 : M2 (val_main_v316 (F := Ideal) x0 x1 x2 x3 x4 x5 x6) (fun i j => ∑ q ∈ range 8, (if i = 30 - q then A.dwv (30 - q) j else 0)) := (M2.congr (M2.addf (s_v307 H) (s_v315 H)) fun i j hi hj => (Finset.sum_range_succ _ _).symm)

theorem s_cst_48 : M0 (val_main_cst_48 (F := Ideal)) (0) := M0.const bits_zero

theorem s_v317 : M2 (val_main_v317 (F := Ideal) x0 x1 x2 x3 x4 x5 x6) (fun i j => A.pt 23 i j) := (M2.congr (M2.pad (s_v314 H) (s_cst_48 H) _ _) fun i j hi hj => A.pad_pt 23 i j hj)

theorem s_v318 : M2 (val_main_v318 (F := Ideal) x0 x1 x2 x3 x4 x5 x6) (fun i j => ∑ q ∈ range 8, A.pt (30 - q) i j) := (M2.congr (M2.addf (s_v309 H) (s_v317 H)) fun i j hi hj => (Finset.sum_range_succ _ _).symm)

theorem s_v319 : M2 (val_main_v319 (F := Ideal) x0 x1 x2 x3 x4 x5 x6) (fun i j => (A.up (22 + i) j) * (A.D i j)) := M2.mulf (s_v128 H) (s_v245 H)

theorem s_cst_49 : M0 (val_main_cst_49 (F := Ideal)) (0) := M0.const bits_zero

theorem s_v320 : M1 (val_main_v320 (F := Ideal) x0 x1 x2 x3 x4 x5 x6) (fun c => A.dwv 22 c) := (M1.congr (M2.hsum0 (s_v319 H) (s_cst_49 H) _ (by decide) _) fun j hj => rfl)

theorem s_v321 : M2 (val_main_v321 (F := Ideal) x0 x1 x2 x3 x4 x5 x6) (fun i j => A.dwv 22 j) := M1.toRow (s_v320 H) _

theorem s_v322 : M2 (val_main_v322 (F := Ideal) x2) (fun i j => A.w 22 j) := M2.down (s_v129 H) _ (by decide)

theorem s_v323 : M2 (val_main_v323 (F := Ideal) x0 x1 x2 x3 x4 x5 x6) (fun i j => (A.D i j) * (A.w 22 j)) := M2.mulf (s_v245 H) (s_v322 H)

theorem s_cst_50 : M0 (val_main_cst_50 (F := Ideal)) (0) := M0.const bits_zero

theorem s_v324 : M2 (val_main_v324 (F := Ideal) x0 x1 x2 x3 x4 x5 x6) (fun i j => if i = 22 then A.dwv 22 j else 0) := (M2.congr (M2.pad (s_v321 H) (s_cst_50 H) _ _) fun i j hi hj => Args.pad_dw 22 i j (A.dwv 22) hj)

theorem s_v325 : M2 (val_main_v325 (F := Ideal) x0 x1 x2 x3 x4 x5 x6) (fun i j => ∑ q ∈ range 9, (if i = 30 - q then A.dwv (30 - q) j else 0)) := (M2.congr (M2.addf (s_v316 H) (s_v324 H)) fun i j hi hj => (Finset.sum_range_succ _ _).symm)

theorem s_cst_51 : M0 (val_main_cst_51 (F := Ideal)) (0) := M0.const bits_zero

theorem s_v326 : M2 (val_main_v326 (F := Ideal) x0 x1 x2 x3 x4 x5 x6) (fun i j => A.pt 22 i j) := (M2.congr (M2.pad (s_v323 H) (s_cst_51 H) _ _) fun i j hi hj => A.pad_pt 22 i j hj)

theorem s_v327 : M2 (val_main_v327 (F := Ideal) x0 x1 x2 x3 x4 x5 x6) (fun i j => ∑ q ∈ range 9, A.pt (30 - q) i j) := (M2.congr (M2.addf (s_v318 H) (s_v326 H)) fun i j hi hj => (Finset.sum_range_succ _ _).symm)

theorem s_v328 : M2 (val_main_v328 (F := Ideal) x0 x1 x2 x3 x4 x5 x6) (fun i j => (A.up (21 + i) j) * (A.D i j)) := M2.mulf (s_v123 H) (s_v245 H)

theorem s_cst_52 : M0 (val_main_cst_52 (F := Ideal)) (0) := M0.const bits_zero

theorem s_v329 : M1 (val_main_v329 (F := Ideal) x0 x1 x2 x3 x4 x5 x6) (fun c => A.dwv 21 c) := (M1.congr (M2.hsum0 (s_v328 H) (s_cst_52 H) _ (by decide) _) fun j hj => rfl)

theorem s_v330 : M2 (val_main_v330 (F := Ideal) x0 x1 x2 x3 x4 x5 x6) (fun i j => A.dwv 21 j) := M1.toRow (s_v329 H) _

theorem s_v331 : M2 (val_main_v331 (F := Ideal) x2) (fun i j => A.w 21 j) := M2.down (s_v124 H) _ (by decide)

theorem s_v332 : M2 (val_main_v332 (F := Ideal) x0 x1 x2 x3 x4 x5 x6) (fun i j => (A.D i j) * (A.w 21 j)) := M2.mulf (s_v245 H) (s_v331 H)

theorem s_cst_53 : M0 (val_main_cst_53 (F := Ideal)) (0) := M0.const bits_zero

theorem s_v333 : M2 (val_main_v333 (F := Ideal) x0 x1 x2 x3 x4 x5 x6) (fun i j => if i = 21 then A.dwv 21 j else 0) := (M2.congr (M2.pad (s_v330 H) (s_cst_53 H) _ _) fun i j hi hj => Args.pad_dw 21 i j (A.dwv 21) hj)

theorem s_v334 : M2 (val_main_v334 (F := Ideal) x0 x1 x2 x3 x4 x5 x6) (fun i j => ∑ q ∈ range 10, (if i = 30 - q then A.dwv (30 - q) j else 0)) := (M2.congr (M2.addf (s_v325 H) (s_v333 H)) fun i j hi hj => (Finset.sum_range_succ _ _).symm)

theorem s_cst_54 : M0 (val_main_cst_54 (F := Ideal)) (0) := M0.const bits_zero

theorem s_v335 : M2 (val_main_v335 (F := Ideal) x0 x1 x2 x3 x4 x5 x6) (fun i j => A.pt 21 i j) := (M2.congr (M2.pad (s_v332 H) (s_cst_54 H) _ _) fun i j hi hj => A.pad_pt 21 i j hj)

theorem s_v336 : M2 (val_main_v336 (F := Ideal) x0 x1 x2 x3 x4 x5 x6) (fun i j => ∑ q ∈ range 10, A.pt (30 - q) i j) := (M2.congr (M2.addf (s_v327 H) (s_v335 H)) fun i j hi hj => (Finset.sum_range_succ _ _).symm)

theorem s_v337 : M2 (val_main_v337 (F := Ideal) x0 x1 x2 x3 x4 x5 x6) (fun i j => (A.up (20 + i) j) * (A.D i j)) := M2.mulf (s_v118 H) (s_v245 H)

theorem s_cst_55 : M0 (val_main_cst_55 (F := Ideal)) (0) := M0.const bits_zero

theorem s_v338 : M1 (val_main_v338 (F := Ideal) x0 x1 x2 x3 x4 x5 x6) (fun c => A.dwv 20 c) := (M1.congr (M2.hsum0 (s_v337 H) (s_cst_55 H) _ (by decide) _) fun j hj => rfl)

theorem s_v339 : M2 (val_main_v339 (F := Ideal) x0 x1 x2 x3 x4 x5 x6) (fun i j => A.dwv 20 j) := M1.toRow (s_v338 H) _

theorem s_v340 : M2 (val_main_v340 (F := Ideal) x2) (fun i j => A.w 20 j) := M2.down (s_v119 H) _ (by decide)

theorem s_v341 : M2 (val_main_v341 (F := Ideal) x0 x1 x2 x3 x4 x5 x6) (fun i j => (A.D i j) * (A.w 20 j)) := M2.mulf (s_v245 H) (s_v340 H)

theorem s_cst_56 : M0 (val_main_cst_56 (F := Ideal)) (0) := M0.const bits_zero

theorem s_v342 : M2 (val_main_v342 (F := Ideal) x0 x1 x2 x3 x4 x5 x6) (fun i j => if i = 20 then A.dwv 20 j else 0) := (M2.congr (M2.pad (s_v339 H) (s_cst_56 H) _ _) fun i j hi hj => Args.pad_dw 20 i j (A.dwv 20) hj)

theorem s_v343 : M2 (val_main_v343 (F := Ideal) x0 x1 x2 x3 x4 x5 x6) (fun i j => ∑ q ∈ range 11, (if i = 30 - q then A.dwv (30 - q) j else 0)) := (M2.congr (M2.addf (s_v334 H) (s_v342 H)) fun i j hi hj => (Finset.sum_range_succ _ _).symm)

theorem s_cst_57 : M0 (val_main_cst_57 (F := Ideal)) (0) := M0.const bits_zero

theorem s_v344 : M2 (val_main_v344 (F := Ideal) x0 x1 x2 x3 x4 x5 x6) (fun i j => A.pt 20 i j) := (M2.congr (M2.pad (s_v341 H) (s_cst_57 H) _ _) fun i j hi hj => A.pad_pt 20 i j hj)

theorem s_v345 : M2 (val_main_v345 (F := Ideal) x0 x1 x2 x3 x4 x5 x6) (fun i j => ∑ q ∈ range 11, A.pt (30 - q) i j) := (M2.congr (M2.addf (s_v336 H) (s_v344 H)) fun i j hi hj => (Finset.sum_range_succ _ _).symm)

theorem s_v346 : M2 (val_main_v346 (F := Ideal) x0 x1 x2 x3 x4 x5 x6) (fun i j => (A.up (19 + i) j) * (A.D i j)) := M2.mulf (s_v113 H) (s_v245 H)

theorem s_cst_58 : M0 (val_main_cst_58 (F := Ideal)) (0) := M0.const bits_zero

theorem s_v347 : M1 (val_main_v347 (F := Ideal) x0 x1 x2 x3 x4 x5 x6) (fun c => A.dwv 19 c) := (M1.congr (M2.hsum0 (s_v346 H) (s_cst_58 H) _ (by decide) _) fun j hj => rfl)

theorem s_v348 : M2 (val_main_v348 (F := Ideal) x0 x1 x2 x3 x4 x5 x6) (fun i j => A.dwv 19 j) := M1.toRow (s_v347 H) _

theorem s_v349 : M2 (val_main_v349 (F := Ideal) x2) (fun i j => A.w 19 j) := M2.down (s_v114 H) _ (by decide)

theorem s_v350 : M2 (val_main_v350 (F := Ideal) x0 x1 x2 x3 x4 x5 x6) (fun i j => (A.D i j) * (A.w 19 j)) := M2.mulf (s_v245 H) (s_v349 H)

theorem s_cst_59 : M0 (val_main_cst_59 (F := Ideal)) (0) := M0.const bits_zero

theorem s_v351 : M2 (val_main_v351 (F := Ideal) x0 x1 x2 x3 x4 x5 x6) (fun i j => if i = 19 then A.dwv 19 j else 0) := (M2.congr (M2.pad (s_v348 H) (s_cst_59 H) _ _) fun i j hi hj => Args.pad_dw 19 i j (A.dwv 19) hj)

theorem s_v352 : M2 (val_main_v352 (F := Ideal) x0 x1 x2 x3 x4 x5 x6) (fun i j => ∑ q ∈ range 12, (if i = 30 - q then A.dwv (30 - q) j else 0)) := (M2.congr (M2.addf (s_v343 H) (s_v351 H)) fun i j hi hj => (Finset.sum_range_succ _ _).symm)

theorem s_cst_60 : M0 (val_main_cst_60 (F := Ideal)) (0) := M0.const bits_zero

theorem s_v353 : M2 (val_main_v353 (F := Ideal) x0 x1 x2 x3 x4 x5 x6) (fun i j => A.pt 19 i j) := (M2.congr (M2.pad (s_v350 H) (s_cst_60 H) _ _) fun i j hi hj => A.pad_pt 19 i j hj)

theorem s_v354 : M2 (val_main_v354 (F := Ideal) x0 x1 x2 x3 x4 x5 x6) (fun i j => ∑ q ∈ range 12, A.pt (30 - q) i j) := (M2.congr (M2.addf (s_v345 H) (s_v353 H)) fun i j hi hj => (Finset.sum_range_succ _ _).symm)

theorem s_v355 : M2 (val_main_v355 (F := Ideal) x0 x1 x2 x3 x4 x5 x6) (fun i j => (A.up (18 + i) j) * (A.D i j)) := M2.mulf (s_v108 H) (s_v245 H)

theorem s_cst_61 : M0 (val_main_cst_61 (F := Ideal)) (0) := M0.const bits_zero

theorem s_v356 : M1 (val_main_v356 (F := Ideal) x0 x1 x2 x3 x4 x5 x6) (fun c => A.dwv 18 c) := (M1.congr (M2.hsum0 (s_v355 H) (s_cst_61 H) _ (by decide) _) fun j hj => rfl)

theorem s_v357 : M2 (val_main_v357 (F := Ideal) x0 x1 x2 x3 x4 x5 x6) (fun i j => A.dwv 18 j) := M1.toRow (s_v356 H) _

theorem s_v358 : M2 (val_main_v358 (F := Ideal) x2) (fun i j => A.w 18 j) := M2.down (s_v109 H) _ (by decide)

theorem s_v359 : M2 (val_main_v359 (F := Ideal) x0 x1 x2 x3 x4 x5 x6) (fun i j => (A.D i j) * (A.w 18 j)) := M2.mulf (s_v245 H) (s_v358 H)

theorem s_cst_62 : M0 (val_main_cst_62 (F := Ideal)) (0) := M0.const bits_zero

theorem s_v360 : M2 (val_main_v360 (F := Ideal) x0 x1 x2 x3 x4 x5 x6) (fun i j => if i = 18 then A.dwv 18 j else 0) := (M2.congr (M2.pad (s_v357 H) (s_cst_62 H) _ _) fun i j hi hj => Args.pad_dw 18 i j (A.dwv 18) hj)

theorem s_v361 : M2 (val_main_v361 (F := Ideal) x0 x1 x2 x3 x4 x5 x6) (fun i j => ∑ q ∈ range 13, (if i = 30 - q then A.dwv (30 - q) j else 0)) := (M2.congr (M2.addf (s_v352 H) (s_v360 H)) fun i j hi hj => (Finset.sum_range_succ _ _).symm)

theorem s_cst_63 : M0 (val_main_cst_63 (F := Ideal)) (0) := M0.const bits_zero

theorem s_v362 : M2 (val_main_v362 (F := Ideal) x0 x1 x2 x3 x4 x5 x6) (fun i j => A.pt 18 i j) := (M2.congr (M2.pad (s_v359 H) (s_cst_63 H) _ _) fun i j hi hj => A.pad_pt 18 i j hj)

theorem s_v363 : M2 (val_main_v363 (F := Ideal) x0 x1 x2 x3 x4 x5 x6) (fun i j => ∑ q ∈ range 13, A.pt (30 - q) i j) := (M2.congr (M2.addf (s_v354 H) (s_v362 H)) fun i j hi hj => (Finset.sum_range_succ _ _).symm)

theorem s_v364 : M2 (val_main_v364 (F := Ideal) x0 x1 x2 x3 x4 x5 x6) (fun i j => (A.up (17 + i) j) * (A.D i j)) := M2.mulf (s_v103 H) (s_v245 H)

theorem s_cst_64 : M0 (val_main_cst_64 (F := Ideal)) (0) := M0.const bits_zero

theorem s_v365 : M1 (val_main_v365 (F := Ideal) x0 x1 x2 x3 x4 x5 x6) (fun c => A.dwv 17 c) := (M1.congr (M2.hsum0 (s_v364 H) (s_cst_64 H) _ (by decide) _) fun j hj => rfl)

theorem s_v366 : M2 (val_main_v366 (F := Ideal) x0 x1 x2 x3 x4 x5 x6) (fun i j => A.dwv 17 j) := M1.toRow (s_v365 H) _

theorem s_v367 : M2 (val_main_v367 (F := Ideal) x2) (fun i j => A.w 17 j) := M2.down (s_v104 H) _ (by decide)

theorem s_v368 : M2 (val_main_v368 (F := Ideal) x0 x1 x2 x3 x4 x5 x6) (fun i j => (A.D i j) * (A.w 17 j)) := M2.mulf (s_v245 H) (s_v367 H)

theorem s_cst_65 : M0 (val_main_cst_65 (F := Ideal)) (0) := M0.const bits_zero

theorem s_v369 : M2 (val_main_v369 (F := Ideal) x0 x1 x2 x3 x4 x5 x6) (fun i j => if i = 17 then A.dwv 17 j else 0) := (M2.congr (M2.pad (s_v366 H) (s_cst_65 H) _ _) fun i j hi hj => Args.pad_dw 17 i j (A.dwv 17) hj)

theorem s_v370 : M2 (val_main_v370 (F := Ideal) x0 x1 x2 x3 x4 x5 x6) (fun i j => ∑ q ∈ range 14, (if i = 30 - q then A.dwv (30 - q) j else 0)) := (M2.congr (M2.addf (s_v361 H) (s_v369 H)) fun i j hi hj => (Finset.sum_range_succ _ _).symm)

theorem s_cst_66 : M0 (val_main_cst_66 (F := Ideal)) (0) := M0.const bits_zero

theorem s_v371 : M2 (val_main_v371 (F := Ideal) x0 x1 x2 x3 x4 x5 x6) (fun i j => A.pt 17 i j) := (M2.congr (M2.pad (s_v368 H) (s_cst_66 H) _ _) fun i j hi hj => A.pad_pt 17 i j hj)

theorem s_v372 : M2 (val_main_v372 (F := Ideal) x0 x1 x2 x3 x4 x5 x6) (fun i j => ∑ q ∈ range 14, A.pt (30 - q) i j) := (M2.congr (M2.addf (s_v363 H) (s_v371 H)) fun i j hi hj => (Finset.sum_range_succ _ _).symm)

theorem s_v373 : M2 (val_main_v373 (F := Ideal) x0 x1 x2 x3 x4 x5 x6) (fun i j => (A.up (16 + i) j) * (A.D i j)) := M2.mulf (s_v98 H) (s_v245 H)

theorem s_cst_67 : M0 (val_main_cst_67 (F := Ideal)) (0) := M0.const bits_zero

theorem s_v374 : M1 (val_main_v374 (F := Ideal) x0 x1 x2 x3 x4 x5 x6) (fun c => A.dwv 16 c) := (M1.congr (M2.hsum0 (s_v373 H) (s_cst_67 H) _ (by decide) _) fun j hj => rfl)

theorem s_v375 : M2 (val_main_v375 (F := Ideal) x0 x1 x2 x3 x4 x5 x6) (fun i j => A.dwv 16 j) := M1.toRow (s_v374 H) _

theorem s_v376 : M2 (val_main_v376 (F := Ideal) x2) (fun i j => A.w 16 j) := M2.down (s_v99 H) _ (by decide)

theorem s_v377 : M2 (val_main_v377 (F := Ideal) x0 x1 x2 x3 x4 x5 x6) (fun i j => (A.D i j) * (A.w 16 j)) := M2.mulf (s_v245 H) (s_v376 H)

theorem s_cst_68 : M0 (val_main_cst_68 (F := Ideal)) (0) := M0.const bits_zero

theorem s_v378 : M2 (val_main_v378 (F := Ideal) x0 x1 x2 x3 x4 x5 x6) (fun i j => if i = 16 then A.dwv 16 j else 0) := (M2.congr (M2.pad (s_v375 H) (s_cst_68 H) _ _) fun i j hi hj => Args.pad_dw 16 i j (A.dwv 16) hj)

theorem s_v379 : M2 (val_main_v379 (F := Ideal) x0 x1 x2 x3 x4 x5 x6) (fun i j => ∑ q ∈ range 15, (if i = 30 - q then A.dwv (30 - q) j else 0)) := (M2.congr (M2.addf (s_v370 H) (s_v378 H)) fun i j hi hj => (Finset.sum_range_succ _ _).symm)

theorem s_cst_69 : M0 (val_main_cst_69 (F := Ideal)) (0) := M0.const bits_zero

theorem s_v380 : M2 (val_main_v380 (F := Ideal) x0 x1 x2 x3 x4 x5 x6) (fun i j => A.pt 16 i j) := (M2.congr (M2.pad (s_v377 H) (s_cst_69 H) _ _) fun i j hi hj => A.pad_pt 16 i j hj)

theorem s_v381 : M2 (val_main_v381 (F := Ideal) x0 x1 x2 x3 x4 x5 x6) (fun i j => ∑ q ∈ range 15, A.pt (30 - q) i j) := (M2.congr (M2.addf (s_v372 H) (s_v380 H)) fun i j hi hj => (Finset.sum_range_succ _ _).symm)

theorem s_v382 : M2 (val_main_v382 (F := Ideal) x0 x1 x2 x3 x4 x5 x6) (fun i j => (A.up (15 + i) j) * (A.D i j)) := M2.mulf (s_v93 H) (s_v245 H)

theorem s_cst_70 : M0 (val_main_cst_70 (F := Ideal)) (0) := M0.const bits_zero

theorem s_v383 : M1 (val_main_v383 (F := Ideal) x0 x1 x2 x3 x4 x5 x6) (fun c => A.dwv 15 c) := (M1.congr (M2.hsum0 (s_v382 H) (s_cst_70 H) _ (by decide) _) fun j hj => rfl)

theorem s_v384 : M2 (val_main_v384 (F := Ideal) x0 x1 x2 x3 x4 x5 x6) (fun i j => A.dwv 15 j) := M1.toRow (s_v383 H) _

theorem s_v385 : M2 (val_main_v385 (F := Ideal) x2) (fun i j => A.w 15 j) := M2.down (s_v94 H) _ (by decide)

theorem s_v386 : M2 (val_main_v386 (F := Ideal) x0 x1 x2 x3 x4 x5 x6) (fun i j => (A.D i j) * (A.w 15 j)) := M2.mulf (s_v245 H) (s_v385 H)

theorem s_cst_71 : M0 (val_main_cst_71 (F := Ideal)) (0) := M0.const bits_zero

theorem s_v387 : M2 (val_main_v387 (F := Ideal) x0 x1 x2 x3 x4 x5 x6) (fun i j => if i = 15 then A.dwv 15 j else 0) := (M2.congr (M2.pad (s_v384 H) (s_cst_71 H) _ _) fun i j hi hj => Args.pad_dw 15 i j (A.dwv 15) hj)

theorem s_v388 : M2 (val_main_v388 (F := Ideal) x0 x1 x2 x3 x4 x5 x6) (fun i j => ∑ q ∈ range 16, (if i = 30 - q then A.dwv (30 - q) j else 0)) := (M2.congr (M2.addf (s_v379 H) (s_v387 H)) fun i j hi hj => (Finset.sum_range_succ _ _).symm)

theorem s_cst_72 : M0 (val_main_cst_72 (F := Ideal)) (0) := M0.const bits_zero

theorem s_v389 : M2 (val_main_v389 (F := Ideal) x0 x1 x2 x3 x4 x5 x6) (fun i j => A.pt 15 i j) := (M2.congr (M2.pad (s_v386 H) (s_cst_72 H) _ _) fun i j hi hj => A.pad_pt 15 i j hj)

theorem s_v390 : M2 (val_main_v390 (F := Ideal) x0 x1 x2 x3 x4 x5 x6) (fun i j => ∑ q ∈ range 16, A.pt (30 - q) i j) := (M2.congr (M2.addf (s_v381 H) (s_v389 H)) fun i j hi hj => (Finset.sum_range_succ _ _).symm)

theorem s_v391 : M2 (val_main_v391 (F := Ideal) x0 x1 x2 x3 x4 x5 x6) (fun i j => (A.up (14 + i) j) * (A.D i j)) := M2.mulf (s_v88 H) (s_v245 H)

theorem s_cst_73 : M0 (val_main_cst_73 (F := Ideal)) (0) := M0.const bits_zero

theorem s_v392 : M1 (val_main_v392 (F := Ideal) x0 x1 x2 x3 x4 x5 x6) (fun c => A.dwv 14 c) := (M1.congr (M2.hsum0 (s_v391 H) (s_cst_73 H) _ (by decide) _) fun j hj => rfl)

theorem s_v393 : M2 (val_main_v393 (F := Ideal) x0 x1 x2 x3 x4 x5 x6) (fun i j => A.dwv 14 j) := M1.toRow (s_v392 H) _

theorem s_v394 : M2 (val_main_v394 (F := Ideal) x2) (fun i j => A.w 14 j) := M2.down (s_v89 H) _ (by decide)

theorem s_v395 : M2 (val_main_v395 (F := Ideal) x0 x1 x2 x3 x4 x5 x6) (fun i j => (A.D i j) * (A.w 14 j)) := M2.mulf (s_v245 H) (s_v394 H)

theorem s_cst_74 : M0 (val_main_cst_74 (F := Ideal)) (0) := M0.const bits_zero

theorem s_v396 : M2 (val_main_v396 (F := Ideal) x0 x1 x2 x3 x4 x5 x6) (fun i j => if i = 14 then A.dwv 14 j else 0) := (M2.congr (M2.pad (s_v393 H) (s_cst_74 H) _ _) fun i j hi hj => Args.pad_dw 14 i j (A.dwv 14) hj)

theorem s_v397 : M2 (val_main_v397 (F := Ideal) x0 x1 x2 x3 x4 x5 x6) (fun i j => ∑ q ∈ range 17, (if i = 30 - q then A.dwv (30 - q) j else 0)) := (M2.congr (M2.addf (s_v388 H) (s_v396 H)) fun i j hi hj => (Finset.sum_range_succ _ _).symm)

theorem s_cst_75 : M0 (val_main_cst_75 (F := Ideal)) (0) := M0.const bits_zero

theorem s_v398 : M2 (val_main_v398 (F := Ideal) x0 x1 x2 x3 x4 x5 x6) (fun i j => A.pt 14 i j) := (M2.congr (M2.pad (s_v395 H) (s_cst_75 H) _ _) fun i j hi hj => A.pad_pt 14 i j hj)

theorem s_v399 : M2 (val_main_v399 (F := Ideal) x0 x1 x2 x3 x4 x5 x6) (fun i j => ∑ q ∈ range 17, A.pt (30 - q) i j) := (M2.congr (M2.addf (s_v390 H) (s_v398 H)) fun i j hi hj => (Finset.sum_range_succ _ _).symm)

theorem s_v400 : M2 (val_main_v400 (F := Ideal) x0 x1 x2 x3 x4 x5 x6) (fun i j => (A.up (13 + i) j) * (A.D i j)) := M2.mulf (s_v83 H) (s_v245 H)

theorem s_cst_76 : M0 (val_main_cst_76 (F := Ideal)) (0) := M0.const bits_zero

theorem s_v401 : M1 (val_main_v401 (F := Ideal) x0 x1 x2 x3 x4 x5 x6) (fun c => A.dwv 13 c) := (M1.congr (M2.hsum0 (s_v400 H) (s_cst_76 H) _ (by decide) _) fun j hj => rfl)

theorem s_v402 : M2 (val_main_v402 (F := Ideal) x0 x1 x2 x3 x4 x5 x6) (fun i j => A.dwv 13 j) := M1.toRow (s_v401 H) _

theorem s_v403 : M2 (val_main_v403 (F := Ideal) x2) (fun i j => A.w 13 j) := M2.down (s_v84 H) _ (by decide)

theorem s_v404 : M2 (val_main_v404 (F := Ideal) x0 x1 x2 x3 x4 x5 x6) (fun i j => (A.D i j) * (A.w 13 j)) := M2.mulf (s_v245 H) (s_v403 H)

theorem s_cst_77 : M0 (val_main_cst_77 (F := Ideal)) (0) := M0.const bits_zero

theorem s_v405 : M2 (val_main_v405 (F := Ideal) x0 x1 x2 x3 x4 x5 x6) (fun i j => if i = 13 then A.dwv 13 j else 0) := (M2.congr (M2.pad (s_v402 H) (s_cst_77 H) _ _) fun i j hi hj => Args.pad_dw 13 i j (A.dwv 13) hj)

theorem s_v406 : M2 (val_main_v406 (F := Ideal) x0 x1 x2 x3 x4 x5 x6) (fun i j => ∑ q ∈ range 18, (if i = 30 - q then A.dwv (30 - q) j else 0)) := (M2.congr (M2.addf (s_v397 H) (s_v405 H)) fun i j hi hj => (Finset.sum_range_succ _ _).symm)

theorem s_cst_78 : M0 (val_main_cst_78 (F := Ideal)) (0) := M0.const bits_zero

theorem s_v407 : M2 (val_main_v407 (F := Ideal) x0 x1 x2 x3 x4 x5 x6) (fun i j => A.pt 13 i j) := (M2.congr (M2.pad (s_v404 H) (s_cst_78 H) _ _) fun i j hi hj => A.pad_pt 13 i j hj)

theorem s_v408 : M2 (val_main_v408 (F := Ideal) x0 x1 x2 x3 x4 x5 x6) (fun i j => ∑ q ∈ range 18, A.pt (30 - q) i j) := (M2.congr (M2.addf (s_v399 H) (s_v407 H)) fun i j hi hj => (Finset.sum_range_succ _ _).symm)

theorem s_v409 : M2 (val_main_v409 (F := Ideal) x0 x1 x2 x3 x4 x5 x6) (fun i j => (A.up (12 + i) j) * (A.D i j)) := M2.mulf (s_v78 H) (s_v245 H)

theorem s_cst_79 : M0 (val_main_cst_79 (F := Ideal)) (0) := M0.const bits_zero

theorem s_v410 : M1 (val_main_v410 (F := Ideal) x0 x1 x2 x3 x4 x5 x6) (fun c => A.dwv 12 c) := (M1.congr (M2.hsum0 (s_v409 H) (s_cst_79 H) _ (by decide) _) fun j hj => rfl)

theorem s_v411 : M2 (val_main_v411 (F := Ideal) x0 x1 x2 x3 x4 x5 x6) (fun i j => A.dwv 12 j) := M1.toRow (s_v410 H) _

theorem s_v412 : M2 (val_main_v412 (F := Ideal) x2) (fun i j => A.w 12 j) := M2.down (s_v79 H) _ (by decide)

theorem s_v413 : M2 (val_main_v413 (F := Ideal) x0 x1 x2 x3 x4 x5 x6) (fun i j => (A.D i j) * (A.w 12 j)) := M2.mulf (s_v245 H) (s_v412 H)

theorem s_cst_80 : M0 (val_main_cst_80 (F := Ideal)) (0) := M0.const bits_zero

theorem s_v414 : M2 (val_main_v414 (F := Ideal) x0 x1 x2 x3 x4 x5 x6) (fun i j => if i = 12 then A.dwv 12 j else 0) := (M2.congr (M2.pad (s_v411 H) (s_cst_80 H) _ _) fun i j hi hj => Args.pad_dw 12 i j (A.dwv 12) hj)

theorem s_v415 : M2 (val_main_v415 (F := Ideal) x0 x1 x2 x3 x4 x5 x6) (fun i j => ∑ q ∈ range 19, (if i = 30 - q then A.dwv (30 - q) j else 0)) := (M2.congr (M2.addf (s_v406 H) (s_v414 H)) fun i j hi hj => (Finset.sum_range_succ _ _).symm)

theorem s_cst_81 : M0 (val_main_cst_81 (F := Ideal)) (0) := M0.const bits_zero

theorem s_v416 : M2 (val_main_v416 (F := Ideal) x0 x1 x2 x3 x4 x5 x6) (fun i j => A.pt 12 i j) := (M2.congr (M2.pad (s_v413 H) (s_cst_81 H) _ _) fun i j hi hj => A.pad_pt 12 i j hj)

theorem s_v417 : M2 (val_main_v417 (F := Ideal) x0 x1 x2 x3 x4 x5 x6) (fun i j => ∑ q ∈ range 19, A.pt (30 - q) i j) := (M2.congr (M2.addf (s_v408 H) (s_v416 H)) fun i j hi hj => (Finset.sum_range_succ _ _).symm)

theorem s_v418 : M2 (val_main_v418 (F := Ideal) x0 x1 x2 x3 x4 x5 x6) (fun i j => (A.up (11 + i) j) * (A.D i j)) := M2.mulf (s_v73 H) (s_v245 H)

theorem s_cst_82 : M0 (val_main_cst_82 (F := Ideal)) (0) := M0.const bits_zero

theorem s_v419 : M1 (val_main_v419 (F := Ideal) x0 x1 x2 x3 x4 x5 x6) (fun c => A.dwv 11 c) := (M1.congr (M2.hsum0 (s_v418 H) (s_cst_82 H) _ (by decide) _) fun j hj => rfl)

theorem s_v420 : M2 (val_main_v420 (F := Ideal) x0 x1 x2 x3 x4 x5 x6) (fun i j => A.dwv 11 j) := M1.toRow (s_v419 H) _

theorem s_v421 : M2 (val_main_v421 (F := Ideal) x2) (fun i j => A.w 11 j) := M2.down (s_v74 H) _ (by decide)

theorem s_v422 : M2 (val_main_v422 (F := Ideal) x0 x1 x2 x3 x4 x5 x6) (fun i j => (A.D i j) * (A.w 11 j)) := M2.mulf (s_v245 H) (s_v421 H)

theorem s_cst_83 : M0 (val_main_cst_83 (F := Ideal)) (0) := M0.const bits_zero

theorem s_v423 : M2 (val_main_v423 (F := Ideal) x0 x1 x2 x3 x4 x5 x6) (fun i j => if i = 11 then A.dwv 11 j else 0) := (M2.congr (M2.pad (s_v420 H) (s_cst_83 H) _ _) fun i j hi hj => Args.pad_dw 11 i j (A.dwv 11) hj)

theorem s_v424 : M2 (val_main_v424 (F := Ideal) x0 x1 x2 x3 x4 x5 x6) (fun i j => ∑ q ∈ range 20, (if i = 30 - q then A.dwv (30 - q) j else 0)) := (M2.congr (M2.addf (s_v415 H) (s_v423 H)) fun i j hi hj => (Finset.sum_range_succ _ _).symm)

theorem s_cst_84 : M0 (val_main_cst_84 (F := Ideal)) (0) := M0.const bits_zero

theorem s_v425 : M2 (val_main_v425 (F := Ideal) x0 x1 x2 x3 x4 x5 x6) (fun i j => A.pt 11 i j) := (M2.congr (M2.pad (s_v422 H) (s_cst_84 H) _ _) fun i j hi hj => A.pad_pt 11 i j hj)

theorem s_v426 : M2 (val_main_v426 (F := Ideal) x0 x1 x2 x3 x4 x5 x6) (fun i j => ∑ q ∈ range 20, A.pt (30 - q) i j) := (M2.congr (M2.addf (s_v417 H) (s_v425 H)) fun i j hi hj => (Finset.sum_range_succ _ _).symm)

theorem s_v427 : M2 (val_main_v427 (F := Ideal) x0 x1 x2 x3 x4 x5 x6) (fun i j => (A.up (10 + i) j) * (A.D i j)) := M2.mulf (s_v68 H) (s_v245 H)

theorem s_cst_85 : M0 (val_main_cst_85 (F := Ideal)) (0) := M0.const bits_zero

theorem s_v428 : M1 (val_main_v428 (F := Ideal) x0 x1 x2 x3 x4 x5 x6) (fun c => A.dwv 10 c) := (M1.congr (M2.hsum0 (s_v427 H) (s_cst_85 H) _ (by decide) _) fun j hj => rfl)

theorem s_v429 : M2 (val_main_v429 (F := Ideal) x0 x1 x2 x3 x4 x5 x6) (fun i j => A.dwv 10 j) := M1.toRow (s_v428 H) _

theorem s_v430 : M2 (val_main_v430 (F := Ideal) x2) (fun i j => A.w 10 j) := M2.down (s_v69 H) _ (by decide)

theorem s_v431 : M2 (val_main_v431 (F := Ideal) x0 x1 x2 x3 x4 x5 x6) (fun i j => (A.D i j) * (A.w 10 j)) := M2.mulf (s_v245 H) (s_v430 H)

theorem s_cst_86 : M0 (val_main_cst_86 (F := Ideal)) (0) := M0.const bits_zero

theorem s_v432 : M2 (val_main_v432 (F := Ideal) x0 x1 x2 x3 x4 x5 x6) (fun i j => if i = 10 then A.dwv 10 j else 0) := (M2.congr (M2.pad (s_v429 H) (s_cst_86 H) _ _) fun i j hi hj => Args.pad_dw 10 i j (A.dwv 10) hj)

theorem s_v433 : M2 (val_main_v433 (F := Ideal) x0 x1 x2 x3 x4 x5 x6) (fun i j => ∑ q ∈ range 21, (if i = 30 - q then A.dwv (30 - q) j else 0)) := (M2.congr (M2.addf (s_v424 H) (s_v432 H)) fun i j hi hj => (Finset.sum_range_succ _ _).symm)

theorem s_cst_87 : M0 (val_main_cst_87 (F := Ideal)) (0) := M0.const bits_zero

theorem s_v434 : M2 (val_main_v434 (F := Ideal) x0 x1 x2 x3 x4 x5 x6) (fun i j => A.pt 10 i j) := (M2.congr (M2.pad (s_v431 H) (s_cst_87 H) _ _) fun i j hi hj => A.pad_pt 10 i j hj)

theorem s_v435 : M2 (val_main_v435 (F := Ideal) x0 x1 x2 x3 x4 x5 x6) (fun i j => ∑ q ∈ range 21, A.pt (30 - q) i j) := (M2.congr (M2.addf (s_v426 H) (s_v434 H)) fun i j hi hj => (Finset.sum_range_succ _ _).symm)

theorem s_v436 : M2 (val_main_v436 (F := Ideal) x0 x1 x2 x3 x4 x5 x6) (fun i j => (A.up (9 + i) j) * (A.D i j)) := M2.mulf (s_v63 H) (s_v245 H)

theorem s_cst_88 : M0 (val_main_cst_88 (F := Ideal)) (0) := M0.const bits_zero

theorem s_v437 : M1 (val_main_v437 (F := Ideal) x0 x1 x2 x3 x4 x5 x6) (fun c => A.dwv 9 c) := (M1.congr (M2.hsum0 (s_v436 H) (s_cst_88 H) _ (by decide) _) fun j hj => rfl)

theorem s_v438 : M2 (val_main_v438 (F := Ideal) x0 x1 x2 x3 x4 x5 x6) (fun i j => A.dwv 9 j) := M1.toRow (s_v437 H) _

theorem s_v439 : M2 (val_main_v439 (F := Ideal) x2) (fun i j => A.w 9 j) := M2.down (s_v64 H) _ (by decide)

theorem s_v440 : M2 (val_main_v440 (F := Ideal) x0 x1 x2 x3 x4 x5 x6) (fun i j => (A.D i j) * (A.w 9 j)) := M2.mulf (s_v245 H) (s_v439 H)

theorem s_cst_89 : M0 (val_main_cst_89 (F := Ideal)) (0) := M0.const bits_zero

theorem s_v441 : M2 (val_main_v441 (F := Ideal) x0 x1 x2 x3 x4 x5 x6) (fun i j => if i = 9 then A.dwv 9 j else 0) := (M2.congr (M2.pad (s_v438 H) (s_cst_89 H) _ _) fun i j hi hj => Args.pad_dw 9 i j (A.dwv 9) hj)

theorem s_v442 : M2 (val_main_v442 (F := Ideal) x0 x1 x2 x3 x4 x5 x6) (fun i j => ∑ q ∈ range 22, (if i = 30 - q then A.dwv (30 - q) j else 0)) := (M2.congr (M2.addf (s_v433 H) (s_v441 H)) fun i j hi hj => (Finset.sum_range_succ _ _).symm)

theorem s_cst_90 : M0 (val_main_cst_90 (F := Ideal)) (0) := M0.const bits_zero

theorem s_v443 : M2 (val_main_v443 (F := Ideal) x0 x1 x2 x3 x4 x5 x6) (fun i j => A.pt 9 i j) := (M2.congr (M2.pad (s_v440 H) (s_cst_90 H) _ _) fun i j hi hj => A.pad_pt 9 i j hj)

theorem s_v444 : M2 (val_main_v444 (F := Ideal) x0 x1 x2 x3 x4 x5 x6) (fun i j => ∑ q ∈ range 22, A.pt (30 - q) i j) := (M2.congr (M2.addf (s_v435 H) (s_v443 H)) fun i j hi hj => (Finset.sum_range_succ _ _).symm)

theorem s_v445 : M2 (val_main_v445 (F := Ideal) x0 x1 x2 x3 x4 x5 x6) (fun i j => (A.up (8 + i) j) * (A.D i j)) := M2.mulf (s_v58 H) (s_v245 H)

theorem s_cst_91 : M0 (val_main_cst_91 (F := Ideal)) (0) := M0.const bits_zero

theorem s_v446 : M1 (val_main_v446 (F := Ideal) x0 x1 x2 x3 x4 x5 x6) (fun c => A.dwv 8 c) := (M1.congr (M2.hsum0 (s_v445 H) (s_cst_91 H) _ (by decide) _) fun j hj => rfl)

theorem s_v447 : M2 (val_main_v447 (F := Ideal) x0 x1 x2 x3 x4 x5 x6) (fun i j => A.dwv 8 j) := M1.toRow (s_v446 H) _

theorem s_v448 : M2 (val_main_v448 (F := Ideal) x2) (fun i j => A.w 8 j) := M2.down (s_v59 H) _ (by decide)

theorem s_v449 : M2 (val_main_v449 (F := Ideal) x0 x1 x2 x3 x4 x5 x6) (fun i j => (A.D i j) * (A.w 8 j)) := M2.mulf (s_v245 H) (s_v448 H)

theorem s_cst_92 : M0 (val_main_cst_92 (F := Ideal)) (0) := M0.const bits_zero

theorem s_v450 : M2 (val_main_v450 (F := Ideal) x0 x1 x2 x3 x4 x5 x6) (fun i j => if i = 8 then A.dwv 8 j else 0) := (M2.congr (M2.pad (s_v447 H) (s_cst_92 H) _ _) fun i j hi hj => Args.pad_dw 8 i j (A.dwv 8) hj)

theorem s_v451 : M2 (val_main_v451 (F := Ideal) x0 x1 x2 x3 x4 x5 x6) (fun i j => ∑ q ∈ range 23, (if i = 30 - q then A.dwv (30 - q) j else 0)) := (M2.congr (M2.addf (s_v442 H) (s_v450 H)) fun i j hi hj => (Finset.sum_range_succ _ _).symm)

theorem s_cst_93 : M0 (val_main_cst_93 (F := Ideal)) (0) := M0.const bits_zero

theorem s_v452 : M2 (val_main_v452 (F := Ideal) x0 x1 x2 x3 x4 x5 x6) (fun i j => A.pt 8 i j) := (M2.congr (M2.pad (s_v449 H) (s_cst_93 H) _ _) fun i j hi hj => A.pad_pt 8 i j hj)

theorem s_v453 : M2 (val_main_v453 (F := Ideal) x0 x1 x2 x3 x4 x5 x6) (fun i j => ∑ q ∈ range 23, A.pt (30 - q) i j) := (M2.congr (M2.addf (s_v444 H) (s_v452 H)) fun i j hi hj => (Finset.sum_range_succ _ _).symm)

theorem s_v454 : M2 (val_main_v454 (F := Ideal) x0 x1 x2 x3 x4 x5 x6) (fun i j => (A.up (7 + i) j) * (A.D i j)) := M2.mulf (s_v53 H) (s_v245 H)

theorem s_cst_94 : M0 (val_main_cst_94 (F := Ideal)) (0) := M0.const bits_zero

theorem s_v455 : M1 (val_main_v455 (F := Ideal) x0 x1 x2 x3 x4 x5 x6) (fun c => A.dwv 7 c) := (M1.congr (M2.hsum0 (s_v454 H) (s_cst_94 H) _ (by decide) _) fun j hj => rfl)

theorem s_v456 : M2 (val_main_v456 (F := Ideal) x0 x1 x2 x3 x4 x5 x6) (fun i j => A.dwv 7 j) := M1.toRow (s_v455 H) _

theorem s_v457 : M2 (val_main_v457 (F := Ideal) x2) (fun i j => A.w 7 j) := M2.down (s_v54 H) _ (by decide)

theorem s_v458 : M2 (val_main_v458 (F := Ideal) x0 x1 x2 x3 x4 x5 x6) (fun i j => (A.D i j) * (A.w 7 j)) := M2.mulf (s_v245 H) (s_v457 H)

theorem s_cst_95 : M0 (val_main_cst_95 (F := Ideal)) (0) := M0.const bits_zero

theorem s_v459 : M2 (val_main_v459 (F := Ideal) x0 x1 x2 x3 x4 x5 x6) (fun i j => if i = 7 then A.dwv 7 j else 0) := (M2.congr (M2.pad (s_v456 H) (s_cst_95 H) _ _) fun i j hi hj => Args.pad_dw 7 i j (A.dwv 7) hj)

theorem s_v460 : M2 (val_main_v460 (F := Ideal) x0 x1 x2 x3 x4 x5 x6) (fun i j => ∑ q ∈ range 24, (if i = 30 - q then A.dwv (30 - q) j else 0)) := (M2.congr (M2.addf (s_v451 H) (s_v459 H)) fun i j hi hj => (Finset.sum_range_succ _ _).symm)

theorem s_cst_96 : M0 (val_main_cst_96 (F := Ideal)) (0) := M0.const bits_zero

theorem s_v461 : M2 (val_main_v461 (F := Ideal) x0 x1 x2 x3 x4 x5 x6) (fun i j => A.pt 7 i j) := (M2.congr (M2.pad (s_v458 H) (s_cst_96 H) _ _) fun i j hi hj => A.pad_pt 7 i j hj)

theorem s_v462 : M2 (val_main_v462 (F := Ideal) x0 x1 x2 x3 x4 x5 x6) (fun i j => ∑ q ∈ range 24, A.pt (30 - q) i j) := (M2.congr (M2.addf (s_v453 H) (s_v461 H)) fun i j hi hj => (Finset.sum_range_succ _ _).symm)

theorem s_v463 : M2 (val_main_v463 (F := Ideal) x0 x1 x2 x3 x4 x5 x6) (fun i j => (A.up (6 + i) j) * (A.D i j)) := M2.mulf (s_v48 H) (s_v245 H)

theorem s_cst_97 : M0 (val_main_cst_97 (F := Ideal)) (0) := M0.const bits_zero

theorem s_v464 : M1 (val_main_v464 (F := Ideal) x0 x1 x2 x3 x4 x5 x6) (fun c => A.dwv 6 c) := (M1.congr (M2.hsum0 (s_v463 H) (s_cst_97 H) _ (by decide) _) fun j hj => rfl)

theorem s_v465 : M2 (val_main_v465 (F := Ideal) x0 x1 x2 x3 x4 x5 x6) (fun i j => A.dwv 6 j) := M1.toRow (s_v464 H) _

theorem s_v466 : M2 (val_main_v466 (F := Ideal) x2) (fun i j => A.w 6 j) := M2.down (s_v49 H) _ (by decide)

theorem s_v467 : M2 (val_main_v467 (F := Ideal) x0 x1 x2 x3 x4 x5 x6) (fun i j => (A.D i j) * (A.w 6 j)) := M2.mulf (s_v245 H) (s_v466 H)

theorem s_cst_98 : M0 (val_main_cst_98 (F := Ideal)) (0) := M0.const bits_zero

theorem s_v468 : M2 (val_main_v468 (F := Ideal) x0 x1 x2 x3 x4 x5 x6) (fun i j => if i = 6 then A.dwv 6 j else 0) := (M2.congr (M2.pad (s_v465 H) (s_cst_98 H) _ _) fun i j hi hj => Args.pad_dw 6 i j (A.dwv 6) hj)

theorem s_v469 : M2 (val_main_v469 (F := Ideal) x0 x1 x2 x3 x4 x5 x6) (fun i j => ∑ q ∈ range 25, (if i = 30 - q then A.dwv (30 - q) j else 0)) := (M2.congr (M2.addf (s_v460 H) (s_v468 H)) fun i j hi hj => (Finset.sum_range_succ _ _).symm)

theorem s_cst_99 : M0 (val_main_cst_99 (F := Ideal)) (0) := M0.const bits_zero

theorem s_v470 : M2 (val_main_v470 (F := Ideal) x0 x1 x2 x3 x4 x5 x6) (fun i j => A.pt 6 i j) := (M2.congr (M2.pad (s_v467 H) (s_cst_99 H) _ _) fun i j hi hj => A.pad_pt 6 i j hj)

theorem s_v471 : M2 (val_main_v471 (F := Ideal) x0 x1 x2 x3 x4 x5 x6) (fun i j => ∑ q ∈ range 25, A.pt (30 - q) i j) := (M2.congr (M2.addf (s_v462 H) (s_v470 H)) fun i j hi hj => (Finset.sum_range_succ _ _).symm)

theorem s_v472 : M2 (val_main_v472 (F := Ideal) x0 x1 x2 x3 x4 x5 x6) (fun i j => (A.up (5 + i) j) * (A.D i j)) := M2.mulf (s_v43 H) (s_v245 H)

theorem s_cst_100 : M0 (val_main_cst_100 (F := Ideal)) (0) := M0.const bits_zero

theorem s_v473 : M1 (val_main_v473 (F := Ideal) x0 x1 x2 x3 x4 x5 x6) (fun c => A.dwv 5 c) := (M1.congr (M2.hsum0 (s_v472 H) (s_cst_100 H) _ (by decide) _) fun j hj => rfl)

theorem s_v474 : M2 (val_main_v474 (F := Ideal) x0 x1 x2 x3 x4 x5 x6) (fun i j => A.dwv 5 j) := M1.toRow (s_v473 H) _

theorem s_v475 : M2 (val_main_v475 (F := Ideal) x2) (fun i j => A.w 5 j) := M2.down (s_v44 H) _ (by decide)

theorem s_v476 : M2 (val_main_v476 (F := Ideal) x0 x1 x2 x3 x4 x5 x6) (fun i j => (A.D i j) * (A.w 5 j)) := M2.mulf (s_v245 H) (s_v475 H)

theorem s_cst_101 : M0 (val_main_cst_101 (F := Ideal)) (0) := M0.const bits_zero

theorem s_v477 : M2 (val_main_v477 (F := Ideal) x0 x1 x2 x3 x4 x5 x6) (fun i j => if i = 5 then A.dwv 5 j else 0) := (M2.congr (M2.pad (s_v474 H) (s_cst_101 H) _ _) fun i j hi hj => Args.pad_dw 5 i j (A.dwv 5) hj)

theorem s_v478 : M2 (val_main_v478 (F := Ideal) x0 x1 x2 x3 x4 x5 x6) (fun i j => ∑ q ∈ range 26, (if i = 30 - q then A.dwv (30 - q) j else 0)) := (M2.congr (M2.addf (s_v469 H) (s_v477 H)) fun i j hi hj => (Finset.sum_range_succ _ _).symm)

theorem s_cst_102 : M0 (val_main_cst_102 (F := Ideal)) (0) := M0.const bits_zero

theorem s_v479 : M2 (val_main_v479 (F := Ideal) x0 x1 x2 x3 x4 x5 x6) (fun i j => A.pt 5 i j) := (M2.congr (M2.pad (s_v476 H) (s_cst_102 H) _ _) fun i j hi hj => A.pad_pt 5 i j hj)

theorem s_v480 : M2 (val_main_v480 (F := Ideal) x0 x1 x2 x3 x4 x5 x6) (fun i j => ∑ q ∈ range 26, A.pt (30 - q) i j) := (M2.congr (M2.addf (s_v471 H) (s_v479 H)) fun i j hi hj => (Finset.sum_range_succ _ _).symm)

theorem s_v481 : M2 (val_main_v481 (F := Ideal) x0 x1 x2 x3 x4 x5 x6) (fun i j => (A.up (4 + i) j) * (A.D i j)) := M2.mulf (s_v38 H) (s_v245 H)

theorem s_cst_103 : M0 (val_main_cst_103 (F := Ideal)) (0) := M0.const bits_zero

theorem s_v482 : M1 (val_main_v482 (F := Ideal) x0 x1 x2 x3 x4 x5 x6) (fun c => A.dwv 4 c) := (M1.congr (M2.hsum0 (s_v481 H) (s_cst_103 H) _ (by decide) _) fun j hj => rfl)

theorem s_v483 : M2 (val_main_v483 (F := Ideal) x0 x1 x2 x3 x4 x5 x6) (fun i j => A.dwv 4 j) := M1.toRow (s_v482 H) _

theorem s_v484 : M2 (val_main_v484 (F := Ideal) x2) (fun i j => A.w 4 j) := M2.down (s_v39 H) _ (by decide)

theorem s_v485 : M2 (val_main_v485 (F := Ideal) x0 x1 x2 x3 x4 x5 x6) (fun i j => (A.D i j) * (A.w 4 j)) := M2.mulf (s_v245 H) (s_v484 H)

theorem s_cst_104 : M0 (val_main_cst_104 (F := Ideal)) (0) := M0.const bits_zero

theorem s_v486 : M2 (val_main_v486 (F := Ideal) x0 x1 x2 x3 x4 x5 x6) (fun i j => if i = 4 then A.dwv 4 j else 0) := (M2.congr (M2.pad (s_v483 H) (s_cst_104 H) _ _) fun i j hi hj => Args.pad_dw 4 i j (A.dwv 4) hj)

theorem s_v487 : M2 (val_main_v487 (F := Ideal) x0 x1 x2 x3 x4 x5 x6) (fun i j => ∑ q ∈ range 27, (if i = 30 - q then A.dwv (30 - q) j else 0)) := (M2.congr (M2.addf (s_v478 H) (s_v486 H)) fun i j hi hj => (Finset.sum_range_succ _ _).symm)

theorem s_cst_105 : M0 (val_main_cst_105 (F := Ideal)) (0) := M0.const bits_zero

theorem s_v488 : M2 (val_main_v488 (F := Ideal) x0 x1 x2 x3 x4 x5 x6) (fun i j => A.pt 4 i j) := (M2.congr (M2.pad (s_v485 H) (s_cst_105 H) _ _) fun i j hi hj => A.pad_pt 4 i j hj)

theorem s_v489 : M2 (val_main_v489 (F := Ideal) x0 x1 x2 x3 x4 x5 x6) (fun i j => ∑ q ∈ range 27, A.pt (30 - q) i j) := (M2.congr (M2.addf (s_v480 H) (s_v488 H)) fun i j hi hj => (Finset.sum_range_succ _ _).symm)

theorem s_v490 : M2 (val_main_v490 (F := Ideal) x0 x1 x2 x3 x4 x5 x6) (fun i j => (A.up (3 + i) j) * (A.D i j)) := M2.mulf (s_v33 H) (s_v245 H)

theorem s_cst_106 : M0 (val_main_cst_106 (F := Ideal)) (0) := M0.const bits_zero

theorem s_v491 : M1 (val_main_v491 (F := Ideal) x0 x1 x2 x3 x4 x5 x6) (fun c => A.dwv 3 c) := (M1.congr (M2.hsum0 (s_v490 H) (s_cst_106 H) _ (by decide) _) fun j hj => rfl)

theorem s_v492 : M2 (val_main_v492 (F := Ideal) x0 x1 x2 x3 x4 x5 x6) (fun i j => A.dwv 3 j) := M1.toRow (s_v491 H) _

theorem s_v493 : M2 (val_main_v493 (F := Ideal) x2) (fun i j => A.w 3 j) := M2.down (s_v34 H) _ (by decide)

theorem s_v494 : M2 (val_main_v494 (F := Ideal) x0 x1 x2 x3 x4 x5 x6) (fun i j => (A.D i j) * (A.w 3 j)) := M2.mulf (s_v245 H) (s_v493 H)

theorem s_cst_107 : M0 (val_main_cst_107 (F := Ideal)) (0) := M0.const bits_zero

theorem s_v495 : M2 (val_main_v495 (F := Ideal) x0 x1 x2 x3 x4 x5 x6) (fun i j => if i = 3 then A.dwv 3 j else 0) := (M2.congr (M2.pad (s_v492 H) (s_cst_107 H) _ _) fun i j hi hj => Args.pad_dw 3 i j (A.dwv 3) hj)

theorem s_v496 : M2 (val_main_v496 (F := Ideal) x0 x1 x2 x3 x4 x5 x6) (fun i j => ∑ q ∈ range 28, (if i = 30 - q then A.dwv (30 - q) j else 0)) := (M2.congr (M2.addf (s_v487 H) (s_v495 H)) fun i j hi hj => (Finset.sum_range_succ _ _).symm)

theorem s_cst_108 : M0 (val_main_cst_108 (F := Ideal)) (0) := M0.const bits_zero

theorem s_v497 : M2 (val_main_v497 (F := Ideal) x0 x1 x2 x3 x4 x5 x6) (fun i j => A.pt 3 i j) := (M2.congr (M2.pad (s_v494 H) (s_cst_108 H) _ _) fun i j hi hj => A.pad_pt 3 i j hj)

theorem s_v498 : M2 (val_main_v498 (F := Ideal) x0 x1 x2 x3 x4 x5 x6) (fun i j => ∑ q ∈ range 28, A.pt (30 - q) i j) := (M2.congr (M2.addf (s_v489 H) (s_v497 H)) fun i j hi hj => (Finset.sum_range_succ _ _).symm)

theorem s_v499 : M2 (val_main_v499 (F := Ideal) x0 x1 x2 x3 x4 x5 x6) (fun i j => (A.up (2 + i) j) * (A.D i j)) := M2.mulf (s_v28 H) (s_v245 H)

theorem s_cst_109 : M0 (val_main_cst_109 (F := Ideal)) (0) := M0.const bits_zero

theorem s_v500 : M1 (val_main_v500 (F := Ideal) x0 x1 x2 x3 x4 x5 x6) (fun c => A.dwv 2 c) := (M1.congr (M2.hsum0 (s_v499 H) (s_cst_109 H) _ (by decide) _) fun j hj => rfl)

theorem s_v501 : M2 (val_main_v501 (F := Ideal) x0 x1 x2 x3 x4 x5 x6) (fun i j => A.dwv 2 j) := M1.toRow (s_v500 H) _

theorem s_v502 : M2 (val_main_v502 (F := Ideal) x2) (fun i j => A.w 2 j) := M2.down (s_v29 H) _ (by decide)

theorem s_v503 : M2 (val_main_v503 (F := Ideal) x0 x1 x2 x3 x4 x5 x6) (fun i j => (A.D i j) * (A.w 2 j)) := M2.mulf (s_v245 H) (s_v502 H)

theorem s_cst_110 : M0 (val_main_cst_110 (F := Ideal)) (0) := M0.const bits_zero

theorem s_v504 : M2 (val_main_v504 (F := Ideal) x0 x1 x2 x3 x4 x5 x6) (fun i j => if i = 2 then A.dwv 2 j else 0) := (M2.congr (M2.pad (s_v501 H) (s_cst_110 H) _ _) fun i j hi hj => Args.pad_dw 2 i j (A.dwv 2) hj)

theorem s_v505 : M2 (val_main_v505 (F := Ideal) x0 x1 x2 x3 x4 x5 x6) (fun i j => ∑ q ∈ range 29, (if i = 30 - q then A.dwv (30 - q) j else 0)) := (M2.congr (M2.addf (s_v496 H) (s_v504 H)) fun i j hi hj => (Finset.sum_range_succ _ _).symm)

theorem s_cst_111 : M0 (val_main_cst_111 (F := Ideal)) (0) := M0.const bits_zero

theorem s_v506 : M2 (val_main_v506 (F := Ideal) x0 x1 x2 x3 x4 x5 x6) (fun i j => A.pt 2 i j) := (M2.congr (M2.pad (s_v503 H) (s_cst_111 H) _ _) fun i j hi hj => A.pad_pt 2 i j hj)

theorem s_v507 : M2 (val_main_v507 (F := Ideal) x0 x1 x2 x3 x4 x5 x6) (fun i j => ∑ q ∈ range 29, A.pt (30 - q) i j) := (M2.congr (M2.addf (s_v498 H) (s_v506 H)) fun i j hi hj => (Finset.sum_range_succ _ _).symm)

theorem s_v508 : M2 (val_main_v508 (F := Ideal) x0 x1 x2 x3 x4 x5 x6) (fun i j => (A.up (1 + i) j) * (A.D i j)) := M2.mulf (s_v23 H) (s_v245 H)

theorem s_cst_112 : M0 (val_main_cst_112 (F := Ideal)) (0) := M0.const bits_zero

theorem s_v509 : M1 (val_main_v509 (F := Ideal) x0 x1 x2 x3 x4 x5 x6) (fun c => A.dwv 1 c) := (M1.congr (M2.hsum0 (s_v508 H) (s_cst_112 H) _ (by decide) _) fun j hj => rfl)

theorem s_v510 : M2 (val_main_v510 (F := Ideal) x0 x1 x2 x3 x4 x5 x6) (fun i j => A.dwv 1 j) := M1.toRow (s_v509 H) _

theorem s_v511 : M2 (val_main_v511 (F := Ideal) x2) (fun i j => A.w 1 j) := M2.down (s_v24 H) _ (by decide)

theorem s_v512 : M2 (val_main_v512 (F := Ideal) x0 x1 x2 x3 x4 x5 x6) (fun i j => (A.D i j) * (A.w 1 j)) := M2.mulf (s_v245 H) (s_v511 H)

theorem s_cst_113 : M0 (val_main_cst_113 (F := Ideal)) (0) := M0.const bits_zero

theorem s_v513 : M2 (val_main_v513 (F := Ideal) x0 x1 x2 x3 x4 x5 x6) (fun i j => if i = 1 then A.dwv 1 j else 0) := (M2.congr (M2.pad (s_v510 H) (s_cst_113 H) _ _) fun i j hi hj => Args.pad_dw 1 i j (A.dwv 1) hj)

theorem s_v514 : M2 (val_main_v514 (F := Ideal) x0 x1 x2 x3 x4 x5 x6) (fun i j => ∑ q ∈ range 30, (if i = 30 - q then A.dwv (30 - q) j else 0)) := (M2.congr (M2.addf (s_v505 H) (s_v513 H)) fun i j hi hj => (Finset.sum_range_succ _ _).symm)

theorem s_cst_114 : M0 (val_main_cst_114 (F := Ideal)) (0) := M0.const bits_zero

theorem s_v515 : M2 (val_main_v515 (F := Ideal) x0 x1 x2 x3 x4 x5 x6) (fun i j => A.pt 1 i j) := (M2.congr (M2.pad (s_v512 H) (s_cst_114 H) _ _) fun i j hi hj => A.pad_pt 1 i j hj)

theorem s_v516 : M2 (val_main_v516 (F := Ideal) x0 x1 x2 x3 x4 x5 x6) (fun i j => ∑ q ∈ range 30, A.pt (30 - q) i j) := (M2.congr (M2.addf (s_v507 H) (s_v515 H)) fun i j hi hj => (Finset.sum_range_succ _ _).symm)

theorem s_v517 : M2 (val_main_v517 (F := Ideal) x0 x1 x2 x3 x4 x5 x6) (fun i j => (A.up (0 + i) j) * (A.D i j)) := M2.mulf (s_v17 H) (s_v245 H)

theorem s_cst_115 : M0 (val_main_cst_115 (F := Ideal)) (0) := M0.const bits_zero

theorem s_v518 : M1 (val_main_v518 (F := Ideal) x0 x1 x2 x3 x4 x5 x6) (fun c => A.dwv 0 c) := (M1.congr (M2.hsum0 (s_v517 H) (s_cst_115 H) _ (by decide) _) fun j hj => rfl)

theorem s_v519 : M2 (val_main_v519 (F := Ideal) x0 x1 x2 x3 x4 x5 x6) (fun i j => A.dwv 0 j) := M1.toRow (s_v518 H) _

theorem s_v520 : M2 (val_main_v520 (F := Ideal) x2) (fun i j => A.w 0 j) := M2.down (s_v18 H) _ (by decide)

theorem s_v521 : M2 (val_main_v521 (F := Ideal) x0 x1 x2 x3 x4 x5 x6) (fun i j => (A.D i j) * (A.w 0 j)) := M2.mulf (s_v245 H) (s_v520 H)

theorem s_cst_116 : M0 (val_main_cst_116 (F := Ideal)) (0) := M0.const bits_zero

theorem s_v522 : M2 (val_main_v522 (F := Ideal) x0 x1 x2 x3 x4 x5 x6) (fun i j => if i = 0 then A.dwv 0 j else 0) := (M2.congr (M2.pad (s_v519 H) (s_cst_116 H) _ _) fun i j hi hj => Args.pad_dw 0 i j (A.dwv 0) hj)

theorem s_v523 : M2 (val_main_v523 (F := Ideal) x0 x1 x2 x3 x4 x5 x6) (fun i j => ∑ q ∈ range 31, (if i = 30 - q then A.dwv (30 - q) j else 0)) := (M2.congr (M2.addf (s_v514 H) (s_v522 H)) fun i j hi hj => (Finset.sum_range_succ _ _).symm)

theorem s_cst_117 : M0 (val_main_cst_117 (F := Ideal)) (0) := M0.const bits_zero

theorem s_v524 : M2 (val_main_v524 (F := Ideal) x0 x1 x2 x3 x4 x5 x6) (fun i j => A.pt 0 i j) := (M2.congr (M2.pad (s_v521 H) (s_cst_117 H) _ _) fun i j hi hj => A.pad_pt 0 i j hj)

theorem s_v525 : M2 (val_main_v525 (F := Ideal) x0 x1 x2 x3 x4 x5 x6) (fun i j => ∑ q ∈ range 31, A.pt (30 - q) i j) := (M2.congr (M2.addf (s_v516 H) (s_v524 H)) fun i j hi hj => (Finset.sum_range_succ _ _).symm)

theorem s_v527 : M2 (val_main_v527 (F := Ideal) x0 x1 x2 x3 x4 x5 x6) (fun i j => A.dU i j) := (M2.congr (M2.slice (s_v525 H) 30 0 _) fun i j hi hj => by rw [Nat.zero_add]; exact A.sum_pt i j)

theorem s_v528 : M2 (val_main_v528 (F := Ideal) x0 x1 x2 x3 x4 x5 x6) (fun i j => (A.a i j) * (A.dU i j)) := M2.mulf (s_v1 H) (s_v527 H)

theorem s_v529 : M2 (val_main_v529 (F := Ideal) x0 x1 x2 x3 x4 x5 x6) (fun i j => (A.dU i j) * (sg (A.gt i j))) := M2.mulf (s_v527 H) (s_v9 H)

theorem s_v530 : M2 (val_main_v530 (F := Ideal) x0 x1 x2 x3 x4 x5 x6) (fun i j => ((A.a i j) * (A.dU i j)) * ((sg (A.gt i j)) * (1 - (sg (A.gt i j))))) := M2.mulf (s_v528 H) (s_v12 H)

theorem s_call2_v0 : M0 (val_main_call2_v0 (F := Ideal)) (0) := M0.sitofp

theorem s_v531 : M2 (val_main_v531 (F := Ideal) x0 x1 x2 x3 x4 x5 x6) (fun i j => if (240 ≤ i ∧ i - 240 < 8208) ∧ (0 ≤ j ∧ j - 0 < 256) then (A.dU (i - 240) (j - 0)) * (sg (A.gt (i - 240) (j - 0))) else 0) := M2.pad (s_v529 H) (s_call2_v0 H) _ _

theorem s_v532 : M2 (val_main_v532 (F := Ideal) x0 x1 x2 x3 x4 x5 x6) (fun i j => A.r0 i j) := (M2.congr (M2.truncf (s_v531 H) _) fun i j hi hj => by
      unfold Args.r0
      by_cases h : 240 ≤ i
      · have : i - 240 < 8208 := by omega
        simp [h, this, hj]
      · simp [h])

theorem s_call3_v0 : M0 (val_main_call3_v0 (F := Ideal)) (0) := M0.sitofp

theorem s_v533 : M2 (val_main_v533 (F := Ideal) x0 x1 x2 x3 x4 x5 x6) (fun i j => if (240 ≤ i ∧ i - 240 < 8208) ∧ (0 ≤ j ∧ j - 0 < 256) then ((A.a (i - 240) (j - 0)) * (A.dU (i - 240) (j - 0))) * ((sg (A.gt (i - 240) (j - 0))) * (1 - (sg (A.gt (i - 240) (j - 0))))) else 0) := M2.pad (s_v530 H) (s_call3_v0 H) _ _

theorem s_v534 : M2 (val_main_v534 (F := Ideal) x0 x1 x2 x3 x4 x5 x6) (fun i j => A.r1 i j) := (M2.congr (M2.truncf (s_v533 H) _) fun i j hi hj => by
      unfold Args.r1
      by_cases h : 240 ≤ i
      · have : i - 240 < 8208 := by omega
        simp only [h, this, hj, Nat.sub_zero, Nat.zero_le, and_self, if_true]
        ring
      · simp [h])

theorem s_call4_v0 : M0 (val_main_call4_v0 (F := Ideal)) (0) := M0.sitofp

theorem s_v535 : M2 (val_main_v535 (F := Ideal) x0 x1 x2 x3 x4 x5 x6) (fun i j => A.r2 i j) := (M2.congr (M2.pad (s_v523 H) (s_call4_v0 H) _ _) fun i j hi hj => by
      unfold Args.r2
      by_cases h : i < 31
      · simpa [h, hj] using A.sum_dw i j h
      · simp [h])

theorem s_v536 : M2 (val_main_v536 (F := Ideal) x0 x1 x2 x3 x4 x5 x6) (fun i j => A.r3 j) := M1.toRow (s_v248 H) _

theorem s_v537 : M2 (val_main_v537 (F := Ideal) x0 x1 x2 x3 x4 x5 x6) (fun i j => A.r4 j) := M1.toRow (s_v221 H) _

theorem s_v538 : M2 (val_main_v538 (F := Ideal) x0 x1 x2 x3 x4 x5 x6) (fun i j => A.r5 j) := M1.toRow (s_v215 H) _

end Cert.ReferenceIdeal.Read

end
-- ==== Proof.lean ====
module

public import proofs.«01_k».proof.Proof.Gen.Kernel2.Frame
public import proofs.«01_k».proof.Proof.Gen.Kernel2Ideal.Value
public import proofs.«01_k».proof.Proof.Mm2
public import proofs.«01_k».proof.Proof.Gen.Reference2Ideal.Run
public import proofs.«01_k».proof.Proof.Gen.Kernel3.Frame
public import proofs.«01_k».proof.Proof.Gen.Kernel3Ideal.Value
public import proofs.«01_k».proof.Proof.Mm3
public import proofs.«01_k».proof.Proof.Gen.Reference3Ideal.Run
public import proofs.«01_k».proof.Proof.Gen.Kernel4.Frame
public import proofs.«01_k».proof.Proof.Gen.Kernel4Ideal.Value
public import proofs.«01_k».proof.Proof.Mm4
public import proofs.«01_k».proof.Proof.Gen.Reference4Ideal.Run
public import proofs.«01_k».proof.Proof.Gen.Kernel5.Frame
public import proofs.«01_k».proof.Proof.Gen.Kernel5Ideal.Value
public import proofs.«01_k».proof.Proof.Mm5
public import proofs.«01_k».proof.Proof.Gen.Reference5Ideal.Run
public import proofs.«01_k».proof.Proof.Gen.Kernel6.Frame
public import proofs.«01_k».proof.Proof.Gen.Kernel6Ideal.Value
public import proofs.«01_k».proof.Proof.Dense6
public import proofs.«01_k».proof.Proof.Gen.Reference6Ideal.Run
public import proofs.«01_k».proof.Proof.Gen.Kernel7.Frame
public import proofs.«01_k».proof.Proof.Gen.Kernel7Ideal.Value
public import proofs.«01_k».proof.Proof.Dense7
public import proofs.«01_k».proof.Proof.Gen.Reference7Ideal.Run
public import proofs.«01_k».proof.Proof.Gen.Kernel8.Frame
public import proofs.«01_k».proof.Proof.Gen.Kernel8Ideal.Value
public import proofs.«01_k».proof.Proof.Dense8
public import proofs.«01_k».proof.Proof.Gen.Reference8Ideal.Run
public import proofs.«01_k».proof.Proof.Gen.Kernel9.Frame
public import proofs.«01_k».proof.Proof.Gen.Kernel9Ideal.Value
public import proofs.«01_k».proof.Proof.FfnEnd9
public import proofs.«01_k».proof.Proof.Gen.Reference9Ideal.Run
public import proofs.«01_k».proof.Proof.Gen.Kernel10.Frame
public import proofs.«01_k».proof.Proof.Gen.Kernel10Ideal.Value
public import proofs.«01_k».proof.Proof.Eq10
public import proofs.«01_k».proof.Proof.Eq11
public import proofs.«01_k».proof.Proof.Gen.Reference10Ideal.Run
public import proofs.«01_k».proof.Proof.Gen.Pre_finite_in
public import proofs.«01_k».proof.Proof.Gen.Kernel11.Frame
public import proofs.«01_k».proof.Proof.Gen.Kernel11Ideal.Value
public import proofs.«01_k».proof.Proof.Gen.Reference11Ideal.Run
public import proofs.«01_k».proof.Proof.Gen.Pre_finite_loss
public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_finite
public import proofs.«01_k».proof.Proof.Track
public import proofs.«01_k».proof.Proof.TrackBits
public import proofs.«01_k».proof.Proof.Final
public import proofs.«01_k».proof.Proof.Ref
public import proofs.«01_k».proof.Proof.Finite
public import Idealize.ShloMosaic.Adequacy
public import Idealize.ShloMosaic.Init

@[expose] public section

set_option maxRecDepth 16384

noncomputable section

namespace Cert.Proof

open Idealize.ShloMosaic Idealize.SL.Sem Cert.Spec Cert.Calc Idealize.ShloMosaic.StableHlo

/-- The kernel's run on bit patterns: its arguments unchanged, its counters back at zero. -/
theorem frame_kernel : Cert.quiescent_Kernel := fun m ρ _ =>
  (θ_run Cert.Kernel.defs _ _).mono (fun _ h => ⟨fun c => (h.1 c).2, h.2⟩) (Cert.Kernel.Track.run_blocks (F := Bits) m ρ)

/-- The same run over the reals. -/
theorem frame_ideal : Cert.quiescent_KernelIdeal := fun m ρ _ =>
  (θ_run Cert.KernelIdeal.defs _ _).mono (fun _ h => ⟨fun c => (h.1 c).2, h.2⟩) (Cert.KernelIdeal.Track.run_blocks (F := Ideal) m ρ)

/-- The reference's run: its arguments unchanged; it declares no semaphore. -/
theorem frame_reference : Cert.quiescent_ReferenceIdeal := fun m ρ _ =>
  (θ_run Cert.ReferenceIdeal.defs _ _).mono
    (fun r h => ⟨fun c => (h c).2.2.2.2.2.2.2, sem_eq_zero_of_no_sems (by decide) r.2⟩) (Cert.ReferenceIdeal.Value.run (F := Ideal) m ρ)

section Values
open Cert.KernelIdeal (cfg0)
variable {A : Args} {m : (ℓ : Loc Cert.KernelIdeal.nD Cert.KernelIdeal.τ Cert.KernelIdeal.sig) → Buf (Elt Ideal) ℓ} {c : Dev Cert.KernelIdeal.nD}
  {V : Valuation Cert.ReferenceIdeal.τ Cert.ReferenceIdeal.sig (Elt Ideal)}
  (K : Holds A (m (c, Proc.devRef .tc Cert.KernelIdeal.main_arg0)) (m (c, Proc.devRef .tc Cert.KernelIdeal.main_arg1)) (m (c, Proc.devRef .tc Cert.KernelIdeal.main_arg2)) (m (c, Proc.devRef .tc Cert.KernelIdeal.main_arg3)) (m (c, Proc.devRef .tc Cert.KernelIdeal.main_arg4)) (m (c, Proc.devRef .tc Cert.KernelIdeal.main_arg5)) (m (c, Proc.devRef .tc Cert.KernelIdeal.main_arg6)))
  (L : Holds A (V (Proc.devRef .tc Cert.ReferenceIdeal.main_arg0)) (V (Proc.devRef .tc Cert.ReferenceIdeal.main_arg1)) (V (Proc.devRef .tc Cert.ReferenceIdeal.main_arg2)) (V (Proc.devRef .tc Cert.ReferenceIdeal.main_arg3)) (V (Proc.devRef .tc Cert.ReferenceIdeal.main_arg4)) (V (Proc.devRef .tc Cert.ReferenceIdeal.main_arg5)) (V (Proc.devRef .tc Cert.ReferenceIdeal.main_arg6)))
include K L

theorem t0 : Cert.ReferenceIdeal.Read.val_main_v532 (F := Ideal) (V (Proc.devRef .tc Cert.ReferenceIdeal.main_arg0)) (V (Proc.devRef .tc Cert.ReferenceIdeal.main_arg1)) (V (Proc.devRef .tc Cert.ReferenceIdeal.main_arg2)) (V (Proc.devRef .tc Cert.ReferenceIdeal.main_arg3)) (V (Proc.devRef .tc Cert.ReferenceIdeal.main_arg4)) (V (Proc.devRef .tc Cert.ReferenceIdeal.main_arg5)) (V (Proc.devRef .tc Cert.ReferenceIdeal.main_arg6))
    = (Cert.KernelIdeal.Track.dats m 0 c).arrAt 10 cfg0.N :=
  M2.ext (Cert.ReferenceIdeal.Read.s_v532 L) (Cert.KernelIdeal.Gen.f10 K)

theorem t1 : Cert.ReferenceIdeal.Read.val_main_v534 (F := Ideal) (V (Proc.devRef .tc Cert.ReferenceIdeal.main_arg0)) (V (Proc.devRef .tc Cert.ReferenceIdeal.main_arg1)) (V (Proc.devRef .tc Cert.ReferenceIdeal.main_arg2)) (V (Proc.devRef .tc Cert.ReferenceIdeal.main_arg3)) (V (Proc.devRef .tc Cert.ReferenceIdeal.main_arg4)) (V (Proc.devRef .tc Cert.ReferenceIdeal.main_arg5)) (V (Proc.devRef .tc Cert.ReferenceIdeal.main_arg6))
    = (Cert.KernelIdeal.Track.dats m 0 c).arrAt 11 cfg0.N :=
  M2.ext (Cert.ReferenceIdeal.Read.s_v534 L) (Cert.KernelIdeal.Gen.f11 K)

theorem t2 : Cert.ReferenceIdeal.Read.val_main_v535 (F := Ideal) (V (Proc.devRef .tc Cert.ReferenceIdeal.main_arg0)) (V (Proc.devRef .tc Cert.ReferenceIdeal.main_arg1)) (V (Proc.devRef .tc Cert.ReferenceIdeal.main_arg2)) (V (Proc.devRef .tc Cert.ReferenceIdeal.main_arg3)) (V (Proc.devRef .tc Cert.ReferenceIdeal.main_arg4)) (V (Proc.devRef .tc Cert.ReferenceIdeal.main_arg5)) (V (Proc.devRef .tc Cert.ReferenceIdeal.main_arg6))
    = (Cert.KernelIdeal.Track.dats m 0 c).arrAt 12 cfg0.N :=
  M2.ext (Cert.ReferenceIdeal.Read.s_v535 L) (Cert.KernelIdeal.Gen.f12 K)

theorem t3 : Cert.ReferenceIdeal.Read.val_main_v536 (F := Ideal) (V (Proc.devRef .tc Cert.ReferenceIdeal.main_arg0)) (V (Proc.devRef .tc Cert.ReferenceIdeal.main_arg1)) (V (Proc.devRef .tc Cert.ReferenceIdeal.main_arg2)) (V (Proc.devRef .tc Cert.ReferenceIdeal.main_arg3)) (V (Proc.devRef .tc Cert.ReferenceIdeal.main_arg4)) (V (Proc.devRef .tc Cert.ReferenceIdeal.main_arg5)) (V (Proc.devRef .tc Cert.ReferenceIdeal.main_arg6))
    = (Cert.KernelIdeal.Track.dats m 0 c).arrAt 13 cfg0.N :=
  M2.ext (Cert.ReferenceIdeal.Read.s_v536 L) (Cert.KernelIdeal.Gen.f13 K)

theorem t4 : Cert.ReferenceIdeal.Read.val_main_v537 (F := Ideal) (V (Proc.devRef .tc Cert.ReferenceIdeal.main_arg0)) (V (Proc.devRef .tc Cert.ReferenceIdeal.main_arg1)) (V (Proc.devRef .tc Cert.ReferenceIdeal.main_arg2)) (V (Proc.devRef .tc Cert.ReferenceIdeal.main_arg3)) (V (Proc.devRef .tc Cert.ReferenceIdeal.main_arg4)) (V (Proc.devRef .tc Cert.ReferenceIdeal.main_arg5)) (V (Proc.devRef .tc Cert.ReferenceIdeal.main_arg6))
    = (Cert.KernelIdeal.Track.dats m 0 c).arrAt 14 cfg0.N :=
  M2.ext (Cert.ReferenceIdeal.Read.s_v537 L) (Cert.KernelIdeal.Gen.f14 K)

theorem t5 : Cert.ReferenceIdeal.Read.val_main_v538 (F := Ideal) (V (Proc.devRef .tc Cert.ReferenceIdeal.main_arg0)) (V (Proc.devRef .tc Cert.ReferenceIdeal.main_arg1)) (V (Proc.devRef .tc Cert.ReferenceIdeal.main_arg2)) (V (Proc.devRef .tc Cert.ReferenceIdeal.main_arg3)) (V (Proc.devRef .tc Cert.ReferenceIdeal.main_arg4)) (V (Proc.devRef .tc Cert.ReferenceIdeal.main_arg5)) (V (Proc.devRef .tc Cert.ReferenceIdeal.main_arg6))
    = (Cert.KernelIdeal.Track.dats m 0 c).arrAt 15 cfg0.N :=
  M2.ext (Cert.ReferenceIdeal.Read.s_v538 L) (Cert.KernelIdeal.Gen.f15 K)

theorem t6 : Cert.ReferenceIdeal.Read.val_main_v210 (F := Ideal) (V (Proc.devRef .tc Cert.ReferenceIdeal.main_arg0)) (V (Proc.devRef .tc Cert.ReferenceIdeal.main_arg1)) (V (Proc.devRef .tc Cert.ReferenceIdeal.main_arg2)) (V (Proc.devRef .tc Cert.ReferenceIdeal.main_arg3)) (V (Proc.devRef .tc Cert.ReferenceIdeal.main_arg4)) (V (Proc.devRef .tc Cert.ReferenceIdeal.main_arg5))
    = (Cert.KernelIdeal.Track.dats m 0 c).arrAt 16 cfg0.N :=
  M2.ext (Cert.ReferenceIdeal.Read.s_v210 L) (Cert.KernelIdeal.Gen.f16 K)

end Values

set_option maxHeartbeats 2000000 in
/-- The kernel's seven results are the reference's, at arguments whose entries are real numbers. -/
theorem value : Cert.algebraic_KernelIdeal_ReferenceIdeal_pre_finite := fun m ρ m' ρ' hpre harg => by
  have H : ∀ c : Dev Cert.KernelIdeal.nD, Holds (nums (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)))
      (m (c, Proc.devRef .tc Cert.KernelIdeal.main_arg0)) (m (c, Proc.devRef .tc Cert.KernelIdeal.main_arg1)) (m (c, Proc.devRef .tc Cert.KernelIdeal.main_arg2)) (m (c, Proc.devRef .tc Cert.KernelIdeal.main_arg3)) (m (c, Proc.devRef .tc Cert.KernelIdeal.main_arg4)) (m (c, Proc.devRef .tc Cert.KernelIdeal.main_arg5)) (m (c, Proc.devRef .tc Cert.KernelIdeal.main_arg6)) :=
    fun c => holds_of_finite _ _ _ _ _ _ _ (hpre c).1 (hpre c).2.1 (hpre c).2.2.1 (hpre c).2.2.2.1 (hpre c).2.2.2.2.1 (hpre c).2.2.2.2.2.1 (hpre c).2.2.2.2.2.2
  refine ⟨fun c => (Cert.KernelIdeal.Track.dats m 0 c).arrAt 10 Cert.KernelIdeal.cfg0.N,
    fun c => (Cert.KernelIdeal.Track.dats m 0 c).arrAt 11 Cert.KernelIdeal.cfg0.N,
    fun c => (Cert.KernelIdeal.Track.dats m 0 c).arrAt 12 Cert.KernelIdeal.cfg0.N,
    fun c => (Cert.KernelIdeal.Track.dats m 0 c).arrAt 13 Cert.KernelIdeal.cfg0.N,
    fun c => (Cert.KernelIdeal.Track.dats m 0 c).arrAt 14 Cert.KernelIdeal.cfg0.N,
    fun c => (Cert.KernelIdeal.Track.dats m 0 c).arrAt 15 Cert.KernelIdeal.cfg0.N,
    fun c => (Cert.KernelIdeal.Track.dats m 0 c).arrAt 16 Cert.KernelIdeal.cfg0.N, ?_, ?_⟩
  · refine (θ_run Cert.KernelIdeal.defs _ _).mono (fun r h c => ?_) (Cert.KernelIdeal.Track.run_blocks (F := Ideal) m ρ)
    obtain ⟨h, -⟩ := h
    exact ⟨(h c).1 10 (by decide), (h c).1 11 (by decide), (h c).1 12 (by decide), (h c).1 13 (by decide), (h c).1 14 (by decide),
      (h c).1 15 (by decide), (h c).1 16 (by decide), (h c).2⟩
  · refine (θ_run Cert.ReferenceIdeal.defs _ _).mono (fun r h c => ?_) (Cert.ReferenceIdeal.Value.run (F := Ideal) m' ρ')
    obtain ⟨e0, e1, e2, e3, e4, e5, e6, ha⟩ := h c
    obtain ⟨a0, a1, a2, a3, a4, a5, a6⟩ := harg c
    have K := H c
    have L : Holds _ (launchContents m' c (Proc.devRef .tc Cert.ReferenceIdeal.main_arg0)) (launchContents m' c (Proc.devRef .tc Cert.ReferenceIdeal.main_arg1)) (launchContents m' c (Proc.devRef .tc Cert.ReferenceIdeal.main_arg2)) (launchContents m' c (Proc.devRef .tc Cert.ReferenceIdeal.main_arg3)) (launchContents m' c (Proc.devRef .tc Cert.ReferenceIdeal.main_arg4)) (launchContents m' c (Proc.devRef .tc Cert.ReferenceIdeal.main_arg5)) (launchContents m' c (Proc.devRef .tc Cert.ReferenceIdeal.main_arg6)) := K.congr a0 a1 a2 a3 a4 a5 a6
    exact ⟨(e0.trans (Cert.ReferenceIdeal.Read.val_main_v532_eq (launchContents m' c))).trans (t0 (V := launchContents m' c) K L),
      (e1.trans (Cert.ReferenceIdeal.Read.val_main_v534_eq (launchContents m' c))).trans (t1 (V := launchContents m' c) K L),
      (e2.trans (Cert.ReferenceIdeal.Read.val_main_v535_eq (launchContents m' c))).trans (t2 (V := launchContents m' c) K L),
      (e3.trans (Cert.ReferenceIdeal.Read.val_main_v536_eq (launchContents m' c))).trans (t3 (V := launchContents m' c) K L),
      (e4.trans (Cert.ReferenceIdeal.Read.val_main_v537_eq (launchContents m' c))).trans (t4 (V := launchContents m' c) K L),
      (e5.trans (Cert.ReferenceIdeal.Read.val_main_v538_eq (launchContents m' c))).trans (t5 (V := launchContents m' c) K L),
      (e6.trans (Cert.ReferenceIdeal.Read.val_main_v210_eq (launchContents m' c))).trans (t6 (V := launchContents m' c) K L),
      ha⟩

/-- The weight gradient of the first product of the feed-forward network: the kernel's array is the reference's. -/
theorem value2 : Cert.algebraic_Kernel2Ideal_Reference2Ideal := fun m ρ m' ρ' _ harg => by
  refine ⟨fun c => (Cert.Kernel2Ideal.Gen.dats m 0 c).arrAt 2 Cert.Kernel2Ideal.cfg0.N, Cert.Kernel2Ideal.Value.run_blocks (F := Ideal) m ρ, ?_⟩
  refine (θ_run Cert.Reference2Ideal.defs _ _).mono (fun r h c => ⟨(h c).1.trans ?_, (h c).2⟩) (Cert.Reference2Ideal.Value.run (F := Ideal) m' ρ')
  rw [(harg c).1, (harg c).2]
  exact (Cert.Kernel2Ideal.Product.final m c).symm

theorem frame_reference2 : Cert.quiescent_Reference2Ideal := fun m ρ _ =>
  (θ_run Cert.Reference2Ideal.defs _ _).mono
    (fun r h => ⟨fun c => (h c).2, sem_eq_zero_of_no_sems (by decide) r.2⟩) (Cert.Reference2Ideal.Value.run (F := Ideal) m ρ)

/-- The weight gradient of the second product of the feed-forward network: the kernel's array is the reference's. -/
theorem value3 : Cert.algebraic_Kernel3Ideal_Reference3Ideal := fun m ρ m' ρ' _ harg => by
  refine ⟨fun c => (Cert.Kernel3Ideal.Gen.dats m 0 c).arrAt 2 Cert.Kernel3Ideal.cfg0.N, Cert.Kernel3Ideal.Value.run_blocks (F := Ideal) m ρ, ?_⟩
  refine (θ_run Cert.Reference3Ideal.defs _ _).mono (fun r h c => ⟨(h c).1.trans ?_, (h c).2⟩) (Cert.Reference3Ideal.Value.run (F := Ideal) m' ρ')
  rw [(harg c).1, (harg c).2]
  exact (Cert.Kernel3Ideal.Product.final m c).symm

theorem frame_reference3 : Cert.quiescent_Reference3Ideal := fun m ρ _ =>
  (θ_run Cert.Reference3Ideal.defs _ _).mono
    (fun r h => ⟨fun c => (h c).2, sem_eq_zero_of_no_sems (by decide) r.2⟩) (Cert.Reference3Ideal.Value.run (F := Ideal) m ρ)

/-- The weight gradient of the mixers' input product: the kernel's array is the reference's. -/
theorem value4 : Cert.algebraic_Kernel4Ideal_Reference4Ideal := fun m ρ m' ρ' _ harg => by
  refine ⟨fun c => (Cert.Kernel4Ideal.Gen.dats m 0 c).arrAt 2 Cert.Kernel4Ideal.cfg0.N, Cert.Kernel4Ideal.Value.run_blocks (F := Ideal) m ρ, ?_⟩
  refine (θ_run Cert.Reference4Ideal.defs _ _).mono (fun r h c => ⟨(h c).1.trans ?_, (h c).2⟩) (Cert.Reference4Ideal.Value.run (F := Ideal) m' ρ')
  rw [(harg c).1, (harg c).2]
  exact (Cert.Kernel4Ideal.Product.final m c).symm

theorem frame_reference4 : Cert.quiescent_Reference4Ideal := fun m ρ _ =>
  (θ_run Cert.Reference4Ideal.defs _ _).mono
    (fun r h => ⟨fun c => (h c).2, sem_eq_zero_of_no_sems (by decide) r.2⟩) (Cert.Reference4Ideal.Value.run (F := Ideal) m ρ)

/-- The weight gradient of the mixers' output product: the kernel's array is the reference's. -/
theorem value5 : Cert.algebraic_Kernel5Ideal_Reference5Ideal := fun m ρ m' ρ' _ harg => by
  refine ⟨fun c => (Cert.Kernel5Ideal.Gen.dats m 0 c).arrAt 2 Cert.Kernel5Ideal.cfg0.N, Cert.Kernel5Ideal.Value.run_blocks (F := Ideal) m ρ, ?_⟩
  refine (θ_run Cert.Reference5Ideal.defs _ _).mono (fun r h c => ⟨(h c).1.trans ?_, (h c).2⟩) (Cert.Reference5Ideal.Value.run (F := Ideal) m' ρ')
  rw [(harg c).1, (harg c).2]
  exact (Cert.Kernel5Ideal.Product.final m c).symm

theorem frame_reference5 : Cert.quiescent_Reference5Ideal := fun m ρ _ =>
  (θ_run Cert.Reference5Ideal.defs _ _).mono
    (fun r h => ⟨fun c => (h c).2, sem_eq_zero_of_no_sems (by decide) r.2⟩) (Cert.Reference5Ideal.Value.run (F := Ideal) m ρ)

/-- The mixers' input projection: the kernel's array is the reference's. -/
theorem value6 : Cert.algebraic_Kernel6Ideal_Reference6Ideal := fun m ρ m' ρ' _ harg => by
  refine ⟨fun c => (Cert.Kernel6Ideal.Gen.dats m 0 c).arrAt 4 Cert.Kernel6Ideal.cfg0.N, Cert.Kernel6Ideal.Value.run_blocks (F := Ideal) m ρ, ?_⟩
  refine (θ_run Cert.Reference6Ideal.defs _ _).mono (fun r h c => ⟨(h c).1.trans ?_, (h c).2⟩) (Cert.Reference6Ideal.Value.run (F := Ideal) m' ρ')
  rw [(harg c).1, (harg c).2.1, (harg c).2.2.1, (harg c).2.2.2]
  exact (Cert.Kernel6Ideal.Dense.final m c).symm

theorem frame_reference6 : Cert.quiescent_Reference6Ideal := fun m ρ _ =>
  (θ_run Cert.Reference6Ideal.defs _ _).mono
    (fun r h => ⟨fun c => (h c).2, sem_eq_zero_of_no_sems (by decide) r.2⟩) (Cert.Reference6Ideal.Value.run (F := Ideal) m ρ)

/-- The mixers' output projection with the residual: the kernel's array is the reference's. -/
theorem value7 : Cert.algebraic_Kernel7Ideal_Reference7Ideal := fun m ρ m' ρ' _ harg => by
  refine ⟨fun c => (Cert.Kernel7Ideal.Gen.dats m 0 c).arrAt 5 Cert.Kernel7Ideal.cfg0.N, Cert.Kernel7Ideal.Value.run_blocks (F := Ideal) m ρ, ?_⟩
  refine (θ_run Cert.Reference7Ideal.defs _ _).mono (fun r h c => ⟨(h c).1.trans ?_, (h c).2⟩) (Cert.Reference7Ideal.Value.run (F := Ideal) m' ρ')
  rw [(harg c).1, (harg c).2.1, (harg c).2.2.1, (harg c).2.2.2.1, (harg c).2.2.2.2]
  exact (Cert.Kernel7Ideal.Dense.final m c).symm

theorem frame_reference7 : Cert.quiescent_Reference7Ideal := fun m ρ _ =>
  (θ_run Cert.Reference7Ideal.defs _ _).mono
    (fun r h => ⟨fun c => (h c).2, sem_eq_zero_of_no_sems (by decide) r.2⟩) (Cert.Reference7Ideal.Value.run (F := Ideal) m ρ)

/-- The gradient at the mixers' results: the kernel's array is the reference's. -/
theorem value8 : Cert.algebraic_Kernel8Ideal_Reference8Ideal := fun m ρ m' ρ' _ harg => by
  refine ⟨fun c => (Cert.Kernel8Ideal.Gen.dats m 0 c).arrAt 2 Cert.Kernel8Ideal.cfg0.N, Cert.Kernel8Ideal.Value.run_blocks (F := Ideal) m ρ, ?_⟩
  refine (θ_run Cert.Reference8Ideal.defs _ _).mono (fun r h c => ⟨(h c).1.trans ?_, (h c).2⟩) (Cert.Reference8Ideal.Value.run (F := Ideal) m' ρ')
  rw [(harg c).1, (harg c).2]
  exact (Cert.Kernel8Ideal.Dense.final m c).symm

theorem frame_reference8 : Cert.quiescent_Reference8Ideal := fun m ρ _ =>
  (θ_run Cert.Reference8Ideal.defs _ _).mono
    (fun r h => ⟨fun c => (h c).2, sem_eq_zero_of_no_sems (by decide) r.2⟩) (Cert.Reference8Ideal.Value.run (F := Ideal) m ρ)

/-- The feed-forward network: the kernel's three arrays are the reference's. -/
theorem value9 : Cert.algebraic_Kernel9Ideal_Reference9Ideal := fun m ρ m' ρ' _ harg => by
  refine ⟨fun c => (Cert.Kernel9Ideal.Gen.dats m 0 c).arrAt 6 Cert.Kernel9Ideal.cfg0.N,
    fun c => (Cert.Kernel9Ideal.Gen.dats m 0 c).arrAt 7 Cert.Kernel9Ideal.cfg0.N,
    fun c => (Cert.Kernel9Ideal.Gen.dats m 0 c).arrAt 8 Cert.Kernel9Ideal.cfg0.N, Cert.Kernel9Ideal.Value.run_blocks (F := Ideal) m ρ, ?_⟩
  refine (θ_run Cert.Reference9Ideal.defs _ _).mono (fun r h c => ⟨(h c).1.trans ?_, (h c).2.1.trans ?_, (h c).2.2.1.trans ?_, (h c).2.2.2⟩) (Cert.Reference9Ideal.Value.run (F := Ideal) m' ρ')
  · unfold Cert.Reference9Ideal.Value.res_main_v37
    rw [(harg c).1, (harg c).2.1, (harg c).2.2.1, (harg c).2.2.2.1, (harg c).2.2.2.2]
    exact (Cert.Kernel9Ideal.Ffn.final0 m c).symm
  · rw [(harg c).1, (harg c).2.1, (harg c).2.2.1, (harg c).2.2.2.1]
    exact (Cert.Kernel9Ideal.Ffn.final1 m c).symm
  · rw [(harg c).1, (harg c).2.1, (harg c).2.2.1, (harg c).2.2.2.1]
    exact (Cert.Kernel9Ideal.Ffn.final2 m c).symm

theorem frame_reference9 : Cert.quiescent_Reference9Ideal := fun m ρ _ =>
  (θ_run Cert.Reference9Ideal.defs _ _).mono
    (fun r h => ⟨fun c => (h c).2.2.2, sem_eq_zero_of_no_sems (by decide) r.2⟩) (Cert.Reference9Ideal.Value.run (F := Ideal) m ρ)

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts, Cert.Kernel3.Gen.facts, Cert.Kernel3Ideal.Gen.facts, Cert.Reference3Ideal.Gen.facts,
  Cert.Kernel4.Gen.facts, Cert.Kernel4Ideal.Gen.facts, Cert.Reference4Ideal.Gen.facts, Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts,
  Cert.Kernel11.Gen.facts, Cert.Kernel11Ideal.Gen.facts, Cert.Reference11Ideal.Gen.facts,
  Cert.Pre_finite.Gen.facts, Cert.Pre_finite_in.Gen.facts, Cert.Pre_finite_loss.Gen.facts,
  frame_kernel, frame_ideal, fun m ρ _ => frame_ideal m ρ trivial, frame_reference, fun m ρ _ => frame_reference m ρ trivial,
  fun m ρ _ => Cert.Kernel2.Gen.frame m ρ, fun m ρ _ => Cert.Kernel2Ideal.Gen.frame m ρ, frame_reference2,
  fun m ρ _ => Cert.Kernel3.Gen.frame m ρ, fun m ρ _ => Cert.Kernel3Ideal.Gen.frame m ρ, frame_reference3,
  fun m ρ _ => Cert.Kernel4.Gen.frame m ρ, fun m ρ _ => Cert.Kernel4Ideal.Gen.frame m ρ, frame_reference4,
  fun m ρ _ => Cert.Kernel5.Gen.frame m ρ, fun m ρ _ => Cert.Kernel5Ideal.Gen.frame m ρ, frame_reference5,
  fun m ρ _ => Cert.Kernel6.Gen.frame m ρ, fun m ρ _ => Cert.Kernel6Ideal.Gen.frame m ρ, frame_reference6,
  fun m ρ _ => Cert.Kernel7.Gen.frame m ρ, fun m ρ _ => Cert.Kernel7Ideal.Gen.frame m ρ, frame_reference7,
  fun m ρ _ => Cert.Kernel8.Gen.frame m ρ, fun m ρ _ => Cert.Kernel8Ideal.Gen.frame m ρ, frame_reference8,
  fun m ρ _ => Cert.Kernel9.Gen.frame m ρ, fun m ρ _ => Cert.Kernel9Ideal.Gen.frame m ρ, frame_reference9,
  fun m ρ _ => Cert.Kernel10.Gen.frame m ρ, fun m ρ _ => Cert.Kernel10Ideal.Gen.frame m ρ, fun m ρ _ => Cert.Kernel10Ideal.Gen.frame m ρ,
  Cert.Spec10.frame, fun m ρ _ => Cert.Spec10.frame m ρ trivial,
  fun m ρ _ => Cert.Kernel11.Gen.frame m ρ, fun m ρ _ => Cert.Kernel11Ideal.Gen.frame m ρ, fun m ρ _ => Cert.Kernel11Ideal.Gen.frame m ρ,
  Cert.Spec11.frame, fun m ρ _ => Cert.Spec11.frame m ρ trivial,
  trivial, value, trivial, value2, trivial, value3, trivial, value4, trivial, value5, trivial, value6, trivial, value7, trivial, value8, trivial, value9, trivial, Cert.Spec10.value, trivial, Cert.Spec11.value⟩

end Cert.Proof

end
